-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))).2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))).2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2.2.1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2.2.1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2))).1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2))).2.1 = (fun _ => 1#1)
    ∧ (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2))).2.2 = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2))).1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2))).2.1 = (fun _ => 1#1)
    ∧ (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2))).2.2 = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite10 [hPre_finite10 : Cert.Pre_finite10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6))).1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6))).2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6))).2.2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6))).2.2.2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6))).2.2.2.2.1 = (fun _ => 1#1)
    ∧ (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6))).2.2.2.2.2 = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite10 [hPre_finite10 : Cert.Pre_finite10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6))).1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6))).2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6))).2.2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6))).2.2.2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6))).2.2.2.2.1 = (fun _ => 1#1)
    ∧ (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6))).2.2.2.2.2 = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite11 [hPre_finite11 : Cert.Pre_finite11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite11 [hPre_finite11 : Cert.Pre_finite11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2))) = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Kernel19Ideal_finite19 [hPre_finite19 : Cert.Pre_finite19.Facts] (m : (ℓ : Loc Cert.Kernel19Ideal.nD Cert.Kernel19Ideal.τ Cert.Kernel19Ideal.sig) → Buf (Elt Ideal) ℓ) : Prop :=
  ∀ c : Dev Cert.Kernel19Ideal.nD,
    (Cert.Pre_finite19.fn (F := Ideal) (m ((c.tc : Thread Cert.Kernel19Ideal.nD Cert.Kernel19Ideal.τ).loc Cert.Kernel19Ideal.main_arg0))) = (fun _ => 1#1)

def Pre_Reference19Ideal (m : (ℓ : Loc Cert.Reference19Ideal.nD Cert.Reference19Ideal.τ Cert.Reference19Ideal.sig) → Buf (Elt Ideal) ℓ) : Prop :=
  True

def Pre_Reference19Ideal_finite19 [hPre_finite19 : Cert.Pre_finite19.Facts] (m : (ℓ : Loc Cert.Reference19Ideal.nD Cert.Reference19Ideal.τ Cert.Reference19Ideal.sig) → Buf (Elt Ideal) ℓ) : Prop :=
  ∀ c : Dev Cert.Reference19Ideal.nD,
    (Cert.Pre_finite19.fn (F := Ideal) (m ((c.tc : Thread Cert.Reference19Ideal.nD Cert.Reference19Ideal.τ).loc Cert.Reference19Ideal.main_arg0))) = (fun _ => 1#1)

def Pre_Kernel20 [hPre_in_range20 : Cert.Pre_in_range20.Facts] (m : (ℓ : Loc Cert.Kernel20.nD Cert.Kernel20.τ Cert.Kernel20.sig) → Buf (Elt Bits) ℓ) : Prop :=
  ∀ c : Dev Cert.Kernel20.nD,
    (Cert.Pre_in_range20.fn (F := Bits) (m ((c.tc : Thread Cert.Kernel20.nD Cert.Kernel20.τ).loc Cert.Kernel20.main_arg0)) (m ((c.tc : Thread Cert.Kernel20.nD Cert.Kernel20.τ).loc Cert.Kernel20.main_arg1)) (m ((c.tc : Thread Cert.Kernel20.nD Cert.Kernel20.τ).loc Cert.Kernel20.main_arg2))) = (fun _ => 1#1)

def Pre_Kernel20Ideal [hPre_in_range20 : Cert.Pre_in_range20.Facts] (m : (ℓ : Loc Cert.Kernel20Ideal.nD Cert.Kernel20Ideal.τ Cert.Kernel20Ideal.sig) → Buf (Elt Ideal) ℓ) : Prop :=
  ∀ c : Dev Cert.Kernel20Ideal.nD,
    (Cert.Pre_in_range20.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2))) = (fun _ => 1#1)

def Pre_Reference20Ideal (m : (ℓ : Loc Cert.Reference20Ideal.nD Cert.Reference20Ideal.τ Cert.Reference20Ideal.sig) → Buf (Elt Ideal) ℓ) : Prop :=
  True

def Pre_Reference20Ideal_in_range20 [hPre_in_range20 : Cert.Pre_in_range20.Facts] (m : (ℓ : Loc Cert.Reference20Ideal.nD Cert.Reference20Ideal.τ Cert.Reference20Ideal.sig) → Buf (Elt Ideal) ℓ) : Prop :=
  ∀ c : Dev Cert.Reference20Ideal.nD,
    (Cert.Pre_in_range20.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2))) = (fun _ => 1#1)

def Pre_Kernel21 [hPre_in_range21 : Cert.Pre_in_range21.Facts] (m : (ℓ : Loc Cert.Kernel21.nD Cert.Kernel21.τ Cert.Kernel21.sig) → Buf (Elt Bits) ℓ) : Prop :=
  ∀ c : Dev Cert.Kernel21.nD,
    (Cert.Pre_in_range21.fn (F := Bits) (m ((c.tc : Thread Cert.Kernel21.nD Cert.Kernel21.τ).loc Cert.Kernel21.main_arg0)) (m ((c.tc : Thread Cert.Kernel21.nD Cert.Kernel21.τ).loc Cert.Kernel21.main_arg1)) (m ((c.tc : Thread Cert.Kernel21.nD Cert.Kernel21.τ).loc Cert.Kernel21.main_arg2))) = (fun _ => 1#1)

def Pre_Kernel21Ideal [hPre_in_range21 : Cert.Pre_in_range21.Facts] (m : (ℓ : Loc Cert.Kernel21Ideal.nD Cert.Kernel21Ideal.τ Cert.Kernel21Ideal.sig) → Buf (Elt Ideal) ℓ) : Prop :=
  ∀ c : Dev Cert.Kernel21Ideal.nD,
    (Cert.Pre_in_range21.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2))) = (fun _ => 1#1)

def Pre_Reference21Ideal (m : (ℓ : Loc Cert.Reference21Ideal.nD Cert.Reference21Ideal.τ Cert.Reference21Ideal.sig) → Buf (Elt Ideal) ℓ) : Prop :=
  True

def Pre_Reference21Ideal_in_range21 [hPre_in_range21 : Cert.Pre_in_range21.Facts] (m : (ℓ : Loc Cert.Reference21Ideal.nD Cert.Reference21Ideal.τ Cert.Reference21Ideal.sig) → Buf (Elt Ideal) ℓ) : Prop :=
  ∀ c : Dev Cert.Reference21Ideal.nD,
    (Cert.Pre_in_range21.fn (F := Ideal) (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1)) (m ((c.tc : Thread Cert.Reference21Ideal.nD Cert.Reference21Ideal.τ).loc Cert.Reference21Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Kernel10Ideal_pre_finite10 [hKernel10Ideal : Cert.Kernel10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite10 m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Reference10Ideal_pre_finite10 [hReference10Ideal : Cert.Reference10Ideal.Facts] [hPre_finite10 : Cert.Pre_finite10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite10 m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Kernel11Ideal_pre_finite11 [hKernel11Ideal : Cert.Kernel11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite11 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Reference11Ideal_pre_finite11 [hReference11Ideal : Cert.Reference11Ideal.Facts] [hPre_finite11 : Cert.Pre_finite11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite11 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0))
      ∧ r.2.sem = fun _ => 0)

def quiescent_Kernel19Ideal_pre_finite19 [hKernel19Ideal : Cert.Kernel19Ideal.Facts] [hPre_finite19 : Cert.Pre_finite19.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal_finite19 m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0))
      ∧ r.2.sem = fun _ => 0)

def quiescent_Reference19Ideal_pre_finite19 [hReference19Ideal : Cert.Reference19Ideal.Facts] [hPre_finite19 : Cert.Pre_finite19.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal_finite19 m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0))
      ∧ r.2.sem = fun _ => 0)

def quiescent_Kernel20 [hKernel20 : Cert.Kernel20.Facts] [hPre_in_range20 : Cert.Pre_in_range20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] [hPre_in_range20 : Cert.Pre_in_range20.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Reference20Ideal_pre_in_range20 [hReference20Ideal : Cert.Reference20Ideal.Facts] [hPre_in_range20 : Cert.Pre_in_range20.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal_in_range20 m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] [hPre_in_range21 : Cert.Pre_in_range21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] [hPre_in_range21 : Cert.Pre_in_range21.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Reference21Ideal_pre_in_range21 [hReference21Ideal : Cert.Reference21Ideal.Facts] [hPre_in_range21 : Cert.Pre_in_range21.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal_in_range21 m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)) (v4 : (c : Dev Cert.KernelIdeal.nD) → Buf (Elt Ideal) ((c.tc : Thread Cert.KernelIdeal.nD Cert.KernelIdeal.τ).loc Cert.KernelIdeal.main_v6_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_v6_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_v94) = v2 c
          ∧ r.2.mem ((c.tc : Thread Cert.ReferenceIdeal.nD Cert.ReferenceIdeal.τ).loc Cert.ReferenceIdeal.main_v95) = v3 c
          ∧ r.2.mem ((c.tc : Thread Cert.ReferenceIdeal.nD Cert.ReferenceIdeal.τ).loc Cert.ReferenceIdeal.main_v96) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  IdealRules.named_const.Statement Cert.Kernel2Ideal.κ "mask" .f32 0xF149F2CA#32 ⊥

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v30_0)) (v1 : (c : Dev Cert.Kernel2Ideal.nD) → Buf (Elt Ideal) ((c.tc : Thread Cert.Kernel2Ideal.nD Cert.Kernel2Ideal.τ).loc Cert.Kernel2Ideal.main_v30_1)) (v2 : (c : Dev Cert.Kernel2Ideal.nD) → Buf (Elt Ideal) ((c.tc : Thread Cert.Kernel2Ideal.nD Cert.Kernel2Ideal.τ).loc Cert.Kernel2Ideal.main_v30_2)) (v3 : (c : Dev Cert.Kernel2Ideal.nD) → Buf (Elt Ideal) ((c.tc : Thread Cert.Kernel2Ideal.nD Cert.Kernel2Ideal.τ).loc Cert.Kernel2Ideal.main_v30_3)) (v4 : (c : Dev Cert.Kernel2Ideal.nD) → Buf (Elt Ideal) ((c.tc : Thread Cert.Kernel2Ideal.nD Cert.Kernel2Ideal.τ).loc Cert.Kernel2Ideal.main_v30_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v30_0) = v0 c
          ∧ r.2.mem ((c.tc : Thread Cert.Kernel2Ideal.nD Cert.Kernel2Ideal.τ).loc Cert.Kernel2Ideal.main_v30_1) = v1 c
          ∧ r.2.mem ((c.tc : Thread Cert.Kernel2Ideal.nD Cert.Kernel2Ideal.τ).loc Cert.Kernel2Ideal.main_v30_2) = v2 c
          ∧ r.2.mem ((c.tc : Thread Cert.Kernel2Ideal.nD Cert.Kernel2Ideal.τ).loc Cert.Kernel2Ideal.main_v30_3) = v3 c
          ∧ r.2.mem ((c.tc : Thread Cert.Kernel2Ideal.nD Cert.Kernel2Ideal.τ).loc Cert.Kernel2Ideal.main_v30_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v193) = v0 c
          ∧ r.2.mem ((c.tc : Thread Cert.Reference2Ideal.nD Cert.Reference2Ideal.τ).loc Cert.Reference2Ideal.main_v194) = v1 c
          ∧ r.2.mem ((c.tc : Thread Cert.Reference2Ideal.nD Cert.Reference2Ideal.τ).loc Cert.Reference2Ideal.main_v195) = v2 c
          ∧ r.2.mem ((c.tc : Thread Cert.Reference2Ideal.nD Cert.Reference2Ideal.τ).loc Cert.Reference2Ideal.main_v189) = v3 c
          ∧ r.2.mem ((c.tc : Thread Cert.Reference2Ideal.nD Cert.Reference2Ideal.τ).loc Cert.Reference2Ideal.main_v192) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)) (v2 : (c : Dev Cert.Kernel3Ideal.nD) → Buf (Elt Ideal) ((c.tc : Thread Cert.Kernel3Ideal.nD Cert.Kernel3Ideal.τ).loc Cert.Kernel3Ideal.main_v4_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_v4_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_v26) = v1 c
          ∧ r.2.mem ((c.tc : Thread Cert.Reference3Ideal.nD Cert.Reference3Ideal.τ).loc Cert.Reference3Ideal.main_v23) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v10_0)) (v1 : (c : Dev Cert.Kernel4Ideal.nD) → Buf (Elt Ideal) ((c.tc : Thread Cert.Kernel4Ideal.nD Cert.Kernel4Ideal.τ).loc Cert.Kernel4Ideal.main_v10_1)) (v2 : (c : Dev Cert.Kernel4Ideal.nD) → Buf (Elt Ideal) ((c.tc : Thread Cert.Kernel4Ideal.nD Cert.Kernel4Ideal.τ).loc Cert.Kernel4Ideal.main_v10_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10_0) = v0 c
          ∧ r.2.mem ((c.tc : Thread Cert.Kernel4Ideal.nD Cert.Kernel4Ideal.τ).loc Cert.Kernel4Ideal.main_v10_1) = v1 c
          ∧ r.2.mem ((c.tc : Thread Cert.Kernel4Ideal.nD Cert.Kernel4Ideal.τ).loc Cert.Kernel4Ideal.main_v10_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v44) = v0 c
          ∧ r.2.mem ((c.tc : Thread Cert.Reference4Ideal.nD Cert.Reference4Ideal.τ).loc Cert.Reference4Ideal.main_v45) = v1 c
          ∧ r.2.mem ((c.tc : Thread Cert.Reference4Ideal.nD Cert.Reference4Ideal.τ).loc Cert.Reference4Ideal.main_v26) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v22_0)) (v1 : (c : Dev Cert.Kernel5Ideal.nD) → Buf (Elt Ideal) ((c.tc : Thread Cert.Kernel5Ideal.nD Cert.Kernel5Ideal.τ).loc Cert.Kernel5Ideal.main_v22_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v22_0) = v0 c
          ∧ r.2.mem ((c.tc : Thread Cert.Kernel5Ideal.nD Cert.Kernel5Ideal.τ).loc Cert.Kernel5Ideal.main_v22_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_v14) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  IdealRules.named_const.Statement Cert.Kernel6Ideal.κ "mask" .f32 0xF149F2CA#32 ⊥

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v30)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v30) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v80) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v12) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v4_0)) (v1 : (c : Dev Cert.Kernel8Ideal.nD) → Buf (Elt Ideal) ((c.tc : Thread Cert.Kernel8Ideal.nD Cert.Kernel8Ideal.τ).loc Cert.Kernel8Ideal.main_v4_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4_0) = v0 c
          ∧ r.2.mem ((c.tc : Thread Cert.Kernel8Ideal.nD Cert.Kernel8Ideal.τ).loc Cert.Kernel8Ideal.main_v4_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_v16) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v9_0)) (v1 : (c : Dev Cert.Kernel9Ideal.nD) → Buf (Elt Ideal) ((c.tc : Thread Cert.Kernel9Ideal.nD Cert.Kernel9Ideal.τ).loc Cert.Kernel9Ideal.main_v9_1)) (v2 : (c : Dev Cert.Kernel9Ideal.nD) → Buf (Elt Ideal) ((c.tc : Thread Cert.Kernel9Ideal.nD Cert.Kernel9Ideal.τ).loc Cert.Kernel9Ideal.main_v9_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v9_0) = v0 c
          ∧ r.2.mem ((c.tc : Thread Cert.Kernel9Ideal.nD Cert.Kernel9Ideal.τ).loc Cert.Kernel9Ideal.main_v9_1) = v1 c
          ∧ r.2.mem ((c.tc : Thread Cert.Kernel9Ideal.nD Cert.Kernel9Ideal.τ).loc Cert.Kernel9Ideal.main_v9_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_v5) = v1 c
          ∧ r.2.mem ((c.tc : Thread Cert.Reference9Ideal.nD Cert.Reference9Ideal.τ).loc Cert.Reference9Ideal.main_v7) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal_pre_finite10 [hKernel10Ideal : Cert.Kernel10Ideal.Facts] [hReference10Ideal : Cert.Reference10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite10 m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v10_0)) (v1 : (c : Dev Cert.Kernel10Ideal.nD) → Buf (Elt Ideal) ((c.tc : Thread Cert.Kernel10Ideal.nD Cert.Kernel10Ideal.τ).loc Cert.Kernel10Ideal.main_v10_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v10_0) = v0 c
          ∧ r.2.mem ((c.tc : Thread Cert.Kernel10Ideal.nD Cert.Kernel10Ideal.τ).loc Cert.Kernel10Ideal.main_v10_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v44) = v0 c
          ∧ r.2.mem ((c.tc : Thread Cert.Reference10Ideal.nD Cert.Reference10Ideal.τ).loc Cert.Reference10Ideal.main_v26) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def preserves_Kernel11_Kernel11Ideal : Prop :=
  True

def algebraic_Kernel11Ideal_Reference11Ideal_pre_finite11 [hKernel11Ideal : Cert.Kernel11Ideal.Facts] [hReference11Ideal : Cert.Reference11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite11 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v6_0)) (v1 : (c : Dev Cert.Kernel11Ideal.nD) → Buf (Elt Ideal) ((c.tc : Thread Cert.Kernel11Ideal.nD Cert.Kernel11Ideal.τ).loc Cert.Kernel11Ideal.main_v6_1)) (v2 : (c : Dev Cert.Kernel11Ideal.nD) → Buf (Elt Ideal) ((c.tc : Thread Cert.Kernel11Ideal.nD Cert.Kernel11Ideal.τ).loc Cert.Kernel11Ideal.main_v6_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v6_0) = v0 c
          ∧ r.2.mem ((c.tc : Thread Cert.Kernel11Ideal.nD Cert.Kernel11Ideal.τ).loc Cert.Kernel11Ideal.main_v6_1) = v1 c
          ∧ r.2.mem ((c.tc : Thread Cert.Kernel11Ideal.nD Cert.Kernel11Ideal.τ).loc Cert.Kernel11Ideal.main_v6_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v19) = v0 c
          ∧ r.2.mem ((c.tc : Thread Cert.Reference11Ideal.nD Cert.Reference11Ideal.τ).loc Cert.Reference11Ideal.main_v36) = v1 c
          ∧ r.2.mem ((c.tc : Thread Cert.Reference11Ideal.nD Cert.Reference11Ideal.τ).loc Cert.Reference11Ideal.main_v38) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v2_0)) (v1 : (c : Dev Cert.Kernel12Ideal.nD) → Buf (Elt Ideal) ((c.tc : Thread Cert.Kernel12Ideal.nD Cert.Kernel12Ideal.τ).loc Cert.Kernel12Ideal.main_v2_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2_0) = v0 c
          ∧ r.2.mem ((c.tc : Thread Cert.Kernel12Ideal.nD Cert.Kernel12Ideal.τ).loc Cert.Kernel12Ideal.main_v2_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_v14) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v1) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v0) = v0 c
          ∧ r.2.mem ((c.tc : Thread Cert.Reference17Ideal.nD Cert.Reference17Ideal.τ).loc Cert.Reference17Ideal.main_v24) = v1 c
          ∧ r.2.mem ((c.tc : Thread Cert.Reference17Ideal.nD Cert.Reference17Ideal.τ).loc Cert.Reference17Ideal.main_v5) = v2 c
          ∧ r.2.mem ((c.tc : Thread Cert.Reference17Ideal.nD Cert.Reference17Ideal.τ).loc Cert.Reference17Ideal.main_v11) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v7) = v0 c
          ∧ r.2.mem ((c.tc : Thread Cert.Reference18Ideal.nD Cert.Reference18Ideal.τ).loc Cert.Reference18Ideal.main_v31) = v1 c
          ∧ r.2.mem ((c.tc : Thread Cert.Reference18Ideal.nD Cert.Reference18Ideal.τ).loc Cert.Reference18Ideal.main_v12) = v2 c
          ∧ r.2.mem ((c.tc : Thread Cert.Reference18Ideal.nD Cert.Reference18Ideal.τ).loc Cert.Reference18Ideal.main_v18) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5))

def preserves_Kernel19_Kernel19Ideal : Prop :=
  True

def algebraic_Kernel19Ideal_Reference19Ideal_pre_finite19 [hKernel19Ideal : Cert.Kernel19Ideal.Facts] [hReference19Ideal : Cert.Reference19Ideal.Facts] [hPre_finite19 : Cert.Pre_finite19.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal_finite19 m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)) →
    ∃ (v0 : (c : Dev Cert.Kernel19Ideal.nD) → Buf (Elt Ideal) ((c.tc : Thread Cert.Kernel19Ideal.nD Cert.Kernel19Ideal.τ).loc Cert.Kernel19Ideal.main_v1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v19) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0))

def preserves_Kernel20_Kernel20Ideal : Prop :=
  True

def algebraic_Kernel20Ideal_Reference20Ideal [hKernel20Ideal : Cert.Kernel20Ideal.Facts] [hReference20Ideal : Cert.Reference20Ideal.Facts] [hPre_in_range20 : Cert.Pre_in_range20.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v8) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] [hPre_in_range21 : Cert.Pre_in_range21.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v20) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hPre_finite : Cert.Pre_finite.Facts) (hPre_finite2 : Cert.Pre_finite2.Facts) (hPre_finite3 : Cert.Pre_finite3.Facts) (hPre_finite4 : Cert.Pre_finite4.Facts) (hPre_finite5 : Cert.Pre_finite5.Facts) (hPre_finite6 : Cert.Pre_finite6.Facts) (hPre_finite9 : Cert.Pre_finite9.Facts) (hPre_finite10 : Cert.Pre_finite10.Facts) (hPre_finite11 : Cert.Pre_finite11.Facts) (hPre_finite19 : Cert.Pre_finite19.Facts) (hPre_in_range20 : Cert.Pre_in_range20.Facts) (hPre_in_range21 : Cert.Pre_in_range21.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Kernel10Ideal_pre_finite10 (hKernel10Ideal := hKernel10Ideal) (hPre_finite10 := hPre_finite10)
    ∧ quiescent_Reference10Ideal (hReference10Ideal := hReference10Ideal)
    ∧ quiescent_Reference10Ideal_pre_finite10 (hReference10Ideal := hReference10Ideal) (hPre_finite10 := hPre_finite10)
    ∧ quiescent_Kernel11 (hKernel11 := hKernel11)
    ∧ quiescent_Kernel11Ideal (hKernel11Ideal := hKernel11Ideal)
    ∧ quiescent_Kernel11Ideal_pre_finite11 (hKernel11Ideal := hKernel11Ideal) (hPre_finite11 := hPre_finite11)
    ∧ quiescent_Reference11Ideal (hReference11Ideal := hReference11Ideal)
    ∧ quiescent_Reference11Ideal_pre_finite11 (hReference11Ideal := hReference11Ideal) (hPre_finite11 := hPre_finite11)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Kernel19Ideal_pre_finite19 (hKernel19Ideal := hKernel19Ideal) (hPre_finite19 := hPre_finite19)
    ∧ quiescent_Reference19Ideal (hReference19Ideal := hReference19Ideal)
    ∧ quiescent_Reference19Ideal_pre_finite19 (hReference19Ideal := hReference19Ideal) (hPre_finite19 := hPre_finite19)
    ∧ quiescent_Kernel20 (hKernel20 := hKernel20) (hPre_in_range20 := hPre_in_range20)
    ∧ quiescent_Kernel20Ideal (hKernel20Ideal := hKernel20Ideal) (hPre_in_range20 := hPre_in_range20)
    ∧ quiescent_Reference20Ideal (hReference20Ideal := hReference20Ideal)
    ∧ quiescent_Reference20Ideal_pre_in_range20 (hReference20Ideal := hReference20Ideal) (hPre_in_range20 := hPre_in_range20)
    ∧ quiescent_Kernel21 (hKernel21 := hKernel21) (hPre_in_range21 := hPre_in_range21)
    ∧ quiescent_Kernel21Ideal (hKernel21Ideal := hKernel21Ideal) (hPre_in_range21 := hPre_in_range21)
    ∧ quiescent_Reference21Ideal (hReference21Ideal := hReference21Ideal)
    ∧ quiescent_Reference21Ideal_pre_in_range21 (hReference21Ideal := hReference21Ideal) (hPre_in_range21 := hPre_in_range21)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel10_Kernel10Ideal
    ∧ algebraic_Kernel10Ideal_Reference10Ideal_pre_finite10 (hKernel10Ideal := hKernel10Ideal) (hReference10Ideal := hReference10Ideal) (hPre_finite10 := hPre_finite10)
    ∧ preserves_Kernel11_Kernel11Ideal
    ∧ algebraic_Kernel11Ideal_Reference11Ideal_pre_finite11 (hKernel11Ideal := hKernel11Ideal) (hReference11Ideal := hReference11Ideal) (hPre_finite11 := hPre_finite11)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal_pre_finite19 (hKernel19Ideal := hKernel19Ideal) (hReference19Ideal := hReference19Ideal) (hPre_finite19 := hPre_finite19)
    ∧ preserves_Kernel20_Kernel20Ideal
    ∧ algebraic_Kernel20Ideal_Reference20Ideal (hKernel20Ideal := hKernel20Ideal) (hReference20Ideal := hReference20Ideal) (hPre_in_range20 := hPre_in_range20)
    ∧ preserves_Kernel21_Kernel21Ideal
    ∧ algebraic_Kernel21Ideal_Reference21Ideal (hKernel21Ideal := hKernel21Ideal) (hReference21Ideal := hReference21Ideal) (hPre_in_range21 := hPre_in_range21)
-- ==== Pre_finite.lean ====
abbrev S2x2048x3584 : Shape := ⟨3, ![2, 2048, 3584]⟩
abbrev S1x64 : Shape := ⟨2, ![1, 64]⟩
abbrev S2x2048x512 : Shape := ⟨3, ![2, 2048, 512]⟩
abbrev S2x2560x512 : Shape := ⟨3, ![2, 2560, 512]⟩
abbrev S_ : Shape := ⟨0, ![]⟩

class Facts : Prop where
  bcast_S_S2x2048x3584 : S_.BroadcastsInDim S2x2048x3584 (![] : Fin 0 → Fin S2x2048x3584.rank)
  bcast_S_S1x64 : S_.BroadcastsInDim S1x64 (![] : Fin 0 → Fin S1x64.rank)
  bcast_S_S2x2048x512 : S_.BroadcastsInDim S2x2048x512 (![] : Fin 0 → Fin S2x2048x512.rank)
  bcast_S_S2x2560x512 : S_.BroadcastsInDim S2x2560x512 (![] : Fin 0 → Fin S2x2560x512.rank)

variable [Facts]

def fn {F : FTy → Type} [FloatOps F] (main_arg0 : FVec F S2x2048x3584 .f32) (main_arg1 : FVec F S1x64 .f32) (main_arg2 : FVec F S1x64 .f32) (main_arg3 : FVec F S2x2048x512 .f32) (main_arg4 : FVec F S2x2560x512 .f32) (main_arg5 : FVec F S2x2560x512 .f32) : IVec S2x2048x3584 1 × IVec S1x64 1 × IVec S1x64 1 × IVec S2x2048x512 1 × IVec S2x2560x512 1 :=
  let main_v0 : FVec F S2x2048x3584 .f32 := Host.absf main_arg0
  let main_cst : FVec F S_ .f32 := constant S_ .f32 0x7F800000#32
  let main_v1 : FVec F S2x2048x3584 .f32 := broadcastInDim S2x2048x3584 ![] bcast_S_S2x2048x3584 main_cst
  let main_v2 : IVec S2x2048x3584 1 := cmpf .olt main_v0 main_v1
  let main_v3 : FVec F S1x64 .f32 := Host.absf main_arg1
  let main_cst_0 : FVec F S_ .f32 := constant S_ .f32 0x7F800000#32
  let main_v4 : FVec F S1x64 .f32 := broadcastInDim S1x64 ![] bcast_S_S1x64 main_cst_0
  let main_v5 : IVec S1x64 1 := cmpf .olt main_v3 main_v4
  let main_v6 : FVec F S1x64 .f32 := Host.absf main_arg2
  let main_cst_1 : FVec F S_ .f32 := constant S_ .f32 0x7F800000#32
  let main_v7 : FVec F S1x64 .f32 := broadcastInDim S1x64 ![] bcast_S_S1x64 main_cst_1
  let main_v8 : IVec S1x64 1 := cmpf .olt main_v6 main_v7
  let main_v9 : FVec F S2x2048x512 .f32 := Host.absf main_arg3
  let main_cst_2 : FVec F S_ .f32 := constant S_ .f32 0x7F800000#32
  let main_v10 : FVec F S2x2048x512 .f32 := broadcastInDim S2x2048x512 ![] bcast_S_S2x2048x512 main_cst_2
  let main_v11 : IVec S2x2048x512 1 := cmpf .olt main_v9 main_v10
  let main_v12 : FVec F S2x2560x512 .f32 := Host.absf main_arg4
  let main_cst_3 : FVec F S_ .f32 := constant S_ .f32 0x7F800000#32
  let main_v13 : FVec F S2x2560x512 .f32 := broadcastInDim S2x2560x512 ![] bcast_S_S2x2560x512 main_cst_3
  let main_v14 : IVec S2x2560x512 1 := cmpf .olt main_v12 main_v13
  (main_v2, main_v5, main_v8, main_v11, main_v14)
-- ==== Pre_finite10.lean ====
abbrev S4096x2816 : Shape := ⟨2, ![4096, 2816]⟩
abbrev S1024x2816 : Shape := ⟨2, ![1024, 2816]⟩
abbrev S4096x1024 : Shape := ⟨2, ![4096, 1024]⟩
abbrev S1x1024 : Shape := ⟨2, ![1, 1024]⟩
abbrev S_ : Shape := ⟨0, ![]⟩

class Facts : Prop where
  bcast_S_S4096x2816 : S_.BroadcastsInDim S4096x2816 (![] : Fin 0 → Fin S4096x2816.rank)
  bcast_S_S1024x2816 : S_.BroadcastsInDim S1024x2816 (![] : Fin 0 → Fin S1024x2816.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x2816 .f32) (main_arg1 : FVec F S4096x2816 .f32) (main_arg2 : FVec F S1024x2816 .f32) (main_arg3 : FVec F S1024x2816 .f32) (main_arg4 : FVec F S4096x1024 .f32) (main_arg5 : FVec F S1x1024 .f32) (main_arg6 : FVec F S4096x1024 .f32) : IVec S4096x2816 1 × IVec S4096x2816 1 × IVec S1024x2816 1 × IVec S1024x2816 1 × IVec S4096x1024 1 × IVec S1x1024 1 :=
  let main_v0 : FVec F S4096x2816 .f32 := Host.absf main_arg0
  let main_cst : FVec F S_ .f32 := constant S_ .f32 0x7F800000#32
  let main_v1 : FVec F S4096x2816 .f32 := broadcastInDim S4096x2816 ![] bcast_S_S4096x2816 main_cst
  let main_v2 : IVec S4096x2816 1 := cmpf .olt main_v0 main_v1
  let main_v3 : FVec F S4096x2816 .f32 := Host.absf main_arg1
  let main_cst_0 : FVec F S_ .f32 := constant S_ .f32 0x7F800000#32
  let main_v4 : FVec F S4096x2816 .f32 := broadcastInDim S4096x2816 ![] bcast_S_S4096x2816 main_cst_0
  let main_v5 : IVec S4096x2816 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  (main_v2, main_v5, main_v8, main_v11, main_v14, main_v17)
-- ==== Pre_finite11.lean ====
abbrev S2x2048x3584 : Shape := ⟨3, ![2, 2048, 3584]⟩
abbrev S1x64 : Shape := ⟨2, ![1, 64]⟩
abbrev S_ : Shape := ⟨0, ![]⟩

class Facts : Prop where
  bcast_S_S2x2048x3584 : S_.BroadcastsInDim S2x2048x3584 (![] : Fin 0 → Fin S2x2048x3584.rank)

variable [Facts]

def fn {F : FTy → Type} [FloatOps F] (main_arg0 : FVec F S2x2048x3584 .f32) (main_arg1 : FVec F S1x64 .f32) (main_arg2 : FVec F S1x64 .f32) : IVec S2x2048x3584 1 :=
  let main_v0 : FVec F S2x2048x3584 .f32 := Host.absf main_arg0
  let main_cst : FVec F S_ .f32 := constant S_ .f32 0x7F800000#32
  let main_v1 : FVec F S2x2048x3584 .f32 := broadcastInDim S2x2048x3584 ![] bcast_S_S2x2048x3584 main_cst
  let main_v2 : IVec S2x2048x3584 1 := cmpf .olt main_v0 main_v1
  main_v2
-- ==== Pre_finite19.lean ====
abbrev S8x257 : Shape := ⟨2, ![8, 257]⟩
abbrev S_ : Shape := ⟨0, ![]⟩

class Facts : Prop where
  bcast_S_S8x257 : S_.BroadcastsInDim S8x257 (![] : Fin 0 → Fin S8x257.rank)

variable [Facts]

def fn {F : FTy → Type} [FloatOps F] (main_arg0 : FVec F S8x257 .f32) : IVec S8x257 1 :=
  let main_v0 : FVec F S8x257 .f32 := Host.absf main_arg0
  let main_cst : FVec F S_ .f32 := constant S_ .f32 0x7F800000#32
  let main_v1 : FVec F S8x257 .f32 := broadcastInDim S8x257 ![] bcast_S_S8x257 main_cst
  let main_v2 : IVec S8x257 1 := cmpf .olt main_v0 main_v1
  main_v2
-- ==== Pre_finite2.lean ====
abbrev S2x2048x512 : Shape := ⟨3, ![2, 2048, 512]⟩
abbrev S8x257 : Shape := ⟨2, ![8, 257]⟩
abbrev S2x2048x1024 : Shape := ⟨3, ![2, 2048, 1024]⟩
abbrev S_ : Shape := ⟨0, ![]⟩

class Facts : Prop where
  bcast_S_S2x2048x512 : S_.BroadcastsInDim S2x2048x512 (![] : Fin 0 → Fin S2x2048x512.rank)
  bcast_S_S8x257 : S_.BroadcastsInDim S8x257 (![] : Fin 0 → Fin S8x257.rank)
  bcast_S_S2x2048x1024 : S_.BroadcastsInDim S2x2048x1024 (![] : Fin 0 → Fin S2x2048x1024.rank)

variable [Facts]

def fn {F : FTy → Type} [FloatOps F] (main_arg0 : FVec F S2x2048x512 .f32) (main_arg1 : FVec F S2x2048x512 .f32) (main_arg2 : FVec F S2x2048x512 .f32) (main_arg3 : FVec F S8x257 .f32) (main_arg4 : FVec F S2x2048x1024 .f32) : IVec S2x2048x512 1 × IVec S2x2048x512 1 × IVec S2x2048x512 1 × IVec S8x257 1 × IVec S2x2048x1024 1 :=
  let main_v0 : FVec F S2x2048x512 .f32 := Host.absf main_arg0
  let main_cst : FVec F S_ .f32 := constant S_ .f32 0x7F800000#32
  let main_v1 : FVec F S2x2048x512 .f32 := broadcastInDim S2x2048x512 ![] bcast_S_S2x2048x512 main_cst
  let main_v2 : IVec S2x2048x512 1 := cmpf .olt main_v0 main_v1
  let main_v3 : FVec F S2x2048x512 .f32 := Host.absf main_arg1
  let main_cst_0 : FVec F S_ .f32 := constant S_ .f32 0x7F800000#32
  let main_v4 : FVec F S2x2048x512 .f32 := broadcastInDim S2x2048x512 ![] bcast_S_S2x2048x512 main_cst_0
  let main_v5 : IVec S2x2048x512 1 := cmpf .olt main_v3 main_v4
  let main_v6 : FVec F S2x2048x512 .f32 := Host.absf main_arg2
  let main_cst_1 : FVec F S_ .f32 := constant S_ .f32 0x7F800000#32
  let main_v7 : FVec F S2x2048x512 .f32 := broadcastInDim S2x2048x512 ![] bcast_S_S2x2048x512 main_cst_1
  let main_v8 : IVec S2x2048x512 1 := cmpf .olt main_v6 main_v7
  let main_v9 : FVec F S8x257 .f32 := Host.absf main_arg3
  let main_cst_2 : FVec F S_ .f32 := constant S_ .f32 0x7F800000#32
  let main_v10 : FVec F S8x257 .f32 := broadcastInDim S8x257 ![] bcast_S_S8x257 main_cst_2
  let main_v11 : IVec S8x257 1 := cmpf .olt main_v9 main_v10
  let main_v12 : FVec F S2x2048x1024 .f32 := Host.absf main_arg4
  let main_cst_3 : FVec F S_ .f32 := constant S_ .f32 0x7F800000#32
  let main_v13 : FVec F S2x2048x1024 .f32 := broadcastInDim S2x2048x1024 ![] bcast_S_S2x2048x1024 main_cst_3
  let main_v14 : IVec S2x2048x1024 1 := cmpf .olt main_v12 main_v13
  (main_v2, main_v5, main_v8, main_v11, main_v14)
-- ==== Pre_finite3.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩

class Facts : Prop where
  bcast_S_S4096x2816 : S_.BroadcastsInDim S4096x2816 (![] : Fin 0 → Fin S4096x2816.rank)
  bcast_S_S2816x1024 : S_.BroadcastsInDim S2816x1024 (![] : Fin 0 → Fin S2816x1024.rank)
  bcast_S_S4096x1024 : S_.BroadcastsInDim S4096x1024 (![] : Fin 0 → Fin S4096x1024.rank)

variable [Facts]

def fn {F : FTy → Type} [FloatOps F] (main_arg0 : FVec F S4096x2816 .f32) (main_arg1 : FVec F S2816x1024 .f32) (main_arg2 : FVec F S4096x1024 .f32) (main_arg3 : FVec F S4096x1024 .f32) : IVec S4096x2816 1 × IVec S2816x1024 1 × IVec S4096x1024 1 × IVec S4096x1024 1 :=
  let main_v0 : FVec F S4096x2816 .f32 := Host.absf main_arg0
  let main_cst : FVec F S_ .f32 := constant S_ .f32 0x7F800000#32
  let main_v1 : FVec F S4096x2816 .f32 := broadcastInDim S4096x2816 ![] bcast_S_S4096x2816 main_cst
  let main_v2 : IVec S4096x2816 1 := cmpf .olt main_v0 main_v1
  let main_v3 : FVec F S2816x1024 .f32 := Host.absf main_arg1
  let main_cst_0 : FVec F S_ .f32 := constant S_ .f32 0x7F800000#32
  let main_v4 : FVec F S2816x1024 .f32 := broadcastInDim S2816x1024 ![] bcast_S_S2816x1024 main_cst_0
  let main_v5 : IVec S2816x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  (main_v2, main_v5, main_v8, main_v11)
-- ==== Pre_finite4.lean ====
abbrev S4096x2816 : Shape := ⟨2, ![4096, 2816]⟩
abbrev S1024x2816 : Shape := ⟨2, ![1024, 2816]⟩
abbrev S4096x1024 : Shape := ⟨2, ![4096, 1024]⟩
abbrev S1x1024 : Shape := ⟨2, ![1, 1024]⟩
abbrev S_ : Shape := ⟨0, ![]⟩

class Facts : Prop where
  bcast_S_S4096x2816 : S_.BroadcastsInDim S4096x2816 (![] : Fin 0 → Fin S4096x2816.rank)
  bcast_S_S1024x2816 : S_.BroadcastsInDim S1024x2816 (![] : Fin 0 → Fin S1024x2816.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x2816 .f32) (main_arg1 : FVec F S4096x2816 .f32) (main_arg2 : FVec F S1024x2816 .f32) (main_arg3 : FVec F S1024x2816 .f32) (main_arg4 : FVec F S4096x1024 .f32) (main_arg5 : FVec F S1x1024 .f32) (main_arg6 : FVec F S4096x1024 .f32) : IVec S4096x2816 1 × IVec S4096x2816 1 × IVec S1024x2816 1 × IVec S1024x2816 1 × IVec S4096x1024 1 × IVec S1x1024 1 :=
  let main_v0 : FVec F S4096x2816 .f32 := Host.absf main_arg0
  let main_cst : FVec F S_ .f32 := constant S_ .f32 0x7F800000#32
  let main_v1 : FVec F S4096x2816 .f32 := broadcastInDim S4096x2816 ![] bcast_S_S4096x2816 main_cst
  let main_v2 : IVec S4096x2816 1 := cmpf .olt main_v0 main_v1
  let main_v3 : FVec F S4096x2816 .f32 := Host.absf main_arg1
  let main_cst_0 : FVec F S_ .f32 := constant S_ .f32 0x7F800000#32
  let main_v4 : FVec F S4096x2816 .f32 := broadcastInDim S4096x2816 ![] bcast_S_S4096x2816 main_cst_0
  let main_v5 : IVec S4096x2816 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  (main_v2, main_v5, main_v8, main_v11, main_v14, main_v17)
-- ==== Pre_finite5.lean ====
abbrev S4096x1024 : Shape := ⟨2, ![4096, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S1024x2816 .f32) (main_arg2 : FVec F S1024x2816 .f32) (main_arg3 : FVec F S2816x1024 .f32) (main_arg4 : FVec F S4096x1024 .f32) : IVec S4096x1024 1 × IVec S1024x2816 1 × IVec S1024x2816 1 × IVec S2816x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024x2816 .f32 := Host.absf main_arg1
  let main_cst_0 : FVec F S_ .f32 := constant S_ .f32 0x7F800000#32
  let main_v4 : FVec F S1024x2816 .f32 := broadcastInDim S1024x2816 ![] bcast_S_S1024x2816 main_cst_0
  let main_v5 : IVec S1024x2816 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  (main_v2, main_v5, main_v8, main_v11, main_v14)
-- ==== Pre_finite6.lean ====
abbrev S2x2048x512 : Shape := ⟨3, ![2, 2048, 512]⟩
abbrev S8x257 : Shape := ⟨2, ![8, 257]⟩
abbrev S_ : Shape := ⟨0, ![]⟩

class Facts : Prop where
  bcast_S_S2x2048x512 : S_.BroadcastsInDim S2x2048x512 (![] : Fin 0 → Fin S2x2048x512.rank)
  bcast_S_S8x257 : S_.BroadcastsInDim S8x257 (![] : Fin 0 → Fin S8x257.rank)

variable [Facts]

def fn {F : FTy → Type} [FloatOps F] (main_arg0 : FVec F S2x2048x512 .f32) (main_arg1 : FVec F S2x2048x512 .f32) (main_arg2 : FVec F S2x2048x512 .f32) (main_arg3 : FVec F S8x257 .f32) : IVec S2x2048x512 1 × IVec S2x2048x512 1 × IVec S2x2048x512 1 × IVec S8x257 1 :=
  let main_v0 : FVec F S2x2048x512 .f32 := Host.absf main_arg0
  let main_cst : FVec F S_ .f32 := constant S_ .f32 0x7F800000#32
  let main_v1 : FVec F S2x2048x512 .f32 := broadcastInDim S2x2048x512 ![] bcast_S_S2x2048x512 main_cst
  let main_v2 : IVec S2x2048x512 1 := cmpf .olt main_v0 main_v1
  let main_v3 : FVec F S2x2048x512 .f32 := Host.absf main_arg1
  let main_cst_0 : FVec F S_ .f32 := constant S_ .f32 0x7F800000#32
  let main_v4 : FVec F S2x2048x512 .f32 := broadcastInDim S2x2048x512 ![] bcast_S_S2x2048x512 main_cst_0
  let main_v5 : IVec S2x2048x512 1 := cmpf .olt main_v3 main_v4
  let main_v6 : FVec F S2x2048x512 .f32 := Host.absf main_arg2
  let main_cst_1 : FVec F S_ .f32 := constant S_ .f32 0x7F800000#32
  let main_v7 : FVec F S2x2048x512 .f32 := broadcastInDim S2x2048x512 ![] bcast_S_S2x2048x512 main_cst_1
  let main_v8 : IVec S2x2048x512 1 := cmpf .olt main_v6 main_v7
  let main_v9 : FVec F S8x257 .f32 := Host.absf main_arg3
  let main_cst_2 : FVec F S_ .f32 := constant S_ .f32 0x7F800000#32
  let main_v10 : FVec F S8x257 .f32 := broadcastInDim S8x257 ![] bcast_S_S8x257 main_cst_2
  let main_v11 : IVec S8x257 1 := cmpf .olt main_v9 main_v10
  (main_v2, main_v5, main_v8, main_v11)
-- ==== Pre_finite9.lean ====
abbrev S4096x1024 : Shape := ⟨2, ![4096, 1024]⟩
abbrev S1024x2816 : Shape := ⟨2, ![1024, 2816]⟩
abbrev S_ : Shape := ⟨0, ![]⟩

class Facts : Prop where
  bcast_S_S4096x1024 : S_.BroadcastsInDim S4096x1024 (![] : Fin 0 → Fin S4096x1024.rank)
  bcast_S_S1024x2816 : S_.BroadcastsInDim S1024x2816 (![] : Fin 0 → Fin S1024x2816.rank)

variable [Facts]

def fn {F : FTy → Type} [FloatOps F] (main_arg0 : FVec F S4096x1024 .f32) (main_arg1 : FVec F S1024x2816 .f32) (main_arg2 : FVec F S1024x2816 .f32) : IVec S4096x1024 1 × IVec S1024x2816 1 × IVec S1024x2816 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024x2816 .f32 := Host.absf main_arg1
  let main_cst_0 : FVec F S_ .f32 := constant S_ .f32 0x7F800000#32
  let main_v4 : FVec F S1024x2816 .f32 := broadcastInDim S1024x2816 ![] bcast_S_S1024x2816 main_cst_0
  let main_v5 : IVec S1024x2816 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  (main_v2, main_v5, main_v8)
-- ==== Pre_in_range20.lean ====
abbrev S4x1024x896 : Shape := ⟨3, ![4, 1024, 896]⟩
abbrev S4x512x896 : Shape := ⟨3, ![4, 512, 896]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4x1024x896 .bf16) (main_arg1 : FVec F S4x512x896 .bf16) (main_arg2 : IVec S1 32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 2#32
  let main_v2 : IVec S1 32 := broadcastInDim S1 ![] bcast_S_S1 main_c_0
  let main_v3 : IVec S1 1 := cmpi .slt main_arg2 main_v2
  let main_v4 : IVec S1 1 := andi main_v1 main_v3
  main_v4
-- ==== Pre_in_range21.lean ====
abbrev S4x512x896 : Shape := ⟨3, ![4, 512, 896]⟩
abbrev S3x512x896 : Shape := ⟨3, ![3, 512, 896]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4x512x896 .bf16) (main_arg1 : FVec F S3x512x896 .bf16) (main_arg2 : IVec S1 32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 4#32
  let main_v2 : IVec S1 32 := broadcastInDim S1 ![] bcast_S_S1 main_c_0
  let main_v3 : IVec S1 1 := cmpi .slt main_arg2 main_v2
  let main_v4 : IVec S1 1 := andi main_v1 main_v3
  main_v4
-- ==== Kernel.lean ====
abbrev S2x2048x3584 : Shape := ⟨3, ![2, 2048, 3584]⟩
abbrev S1x64 : Shape := ⟨2, ![1, 64]⟩
abbrev S2x2048x512 : Shape := ⟨3, ![2, 2048, 512]⟩
abbrev S2x2560x512 : Shape := ⟨3, ![2, 2560, 512]⟩
abbrev S1x1x1x64 : Shape := ⟨4, ![1, 1, 1, 64]⟩
abbrev S1x1x8x64 : Shape := ⟨4, ![1, 1, 8, 64]⟩
abbrev S1x512 : Shape := ⟨2, ![1, 512]⟩
abbrev S8x1x512 : Shape := ⟨3, ![8, 1, 512]⟩
abbrev S1x512x512 : Shape := ⟨3, ![1, 512, 512]⟩
abbrev S1x1x512 : Shape := ⟨3, ![1, 1, 512]⟩
abbrev S512x512 : Shape := ⟨2, ![512, 512]⟩
abbrev S512 : Shape := ⟨1, ![512]⟩

abbrev nBuf : Space → Nat
  | .hbm => 17
  | .vmem => 22
  | .smem => 0
  | _ => 0

abbrev bufTy : (tb : Table) → Fin (tcTables nBuf tb) → BufTy
  | .hbm, ⟨0, _⟩ => ⟨S2x2048x3584, .f32⟩
  | .hbm, ⟨1, _⟩ => ⟨S1x64, .f32⟩
  | .hbm, ⟨2, _⟩ => ⟨S1x64, .f32⟩
  | .hbm, ⟨3, _⟩ => ⟨S2x2048x512, .f32⟩
  | .hbm, ⟨4, _⟩ => ⟨S2x2560x512, .f32⟩
  | .hbm, ⟨5, _⟩ => ⟨S2x2560x512, .f32⟩
  | .hbm, ⟨6, _⟩ => ⟨S1x1x1x64, .f32⟩
  | .hbm, ⟨7, _⟩ => ⟨S1x1x8x64, .f32⟩
  | .hbm, ⟨8, _⟩ => ⟨S1x512, .f32⟩
  | .hbm, ⟨9, _⟩ => ⟨S1x1x1x64, .f32⟩
  | .hbm, ⟨10, _⟩ => ⟨S1x1x8x64, .f32⟩
  | .hbm, ⟨11, _⟩ => ⟨S1x512, .f32⟩
  | .hbm, ⟨12, _⟩ => ⟨S2x2048x512, .bf16⟩
  | .hbm, ⟨13, _⟩ => ⟨S2x2048x512, .bf16⟩
  | .hbm, ⟨14, _⟩ => ⟨S2x2048x512, .bf16⟩
  | .hbm, ⟨15, _⟩ => ⟨S8x1x512, .f32⟩
  | .hbm, ⟨16, _⟩ => ⟨S8x1x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512, .f32⟩
  | .local _ .vmem, ⟨11, _⟩ => ⟨S1x512, .f32⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x1x512, .f32⟩
  | .local _ .vmem, ⟨19, _⟩ => ⟨S1x1x512, .f32⟩
  | .local _ .vmem, ⟨20, _⟩ => ⟨S1x1x512, .f32⟩
  | .local _ .vmem, ⟨21, _⟩ => ⟨S1x1x512, .f32⟩
  | _, _ => ⟨S2x2048x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S2x2048x3584 : Shape := ⟨3, ![2, 2048, 3584]⟩
abbrev S1x64 : Shape := ⟨2, ![1, 64]⟩
abbrev S2x2048x512 : Shape := ⟨3, ![2, 2048, 512]⟩
abbrev S2x2560x512 : Shape := ⟨3, ![2, 2560, 512]⟩
abbrev S1x1x1x1x64 : Shape := ⟨5, ![1, 1, 1, 1, 64]⟩
abbrev S2x4x1x8x64 : Shape := ⟨5, ![2, 4, 1, 8, 64]⟩
abbrev S2x4x512x8x64 : Shape := ⟨5, ![2, 4, 512, 8, 64]⟩
abbrev S_ : Shape := ⟨0, ![]⟩
abbrev S2x4x512x8 : Shape := ⟨4, ![2, 4, 512, 8]⟩
abbrev S2x4x512x8x1 : Shape := ⟨5, ![2, 4, 512, 8, 1]⟩
abbrev S2x512x512 : Shape := ⟨3, ![2, 512, 512]⟩
abbrev S2x4x8x64 : Shape := ⟨4, ![2, 4, 8, 64]⟩
abbrev S8x1x512 : Shape := ⟨3, ![8, 1, 512]⟩

abbrev nBuf : Space → Nat
  | .hbm => 122
  | .vmem => 0
  | .smem => 0
  | _ => 0

abbrev bufTy : (tb : Table) → Fin (tcTables nBuf tb) → BufTy
  | .hbm, ⟨0, _⟩ => ⟨S2x2048x3584, .f32⟩
  | .hbm, ⟨1, _⟩ => ⟨S1x64, .f32⟩
  | .hbm, ⟨2, _⟩ => ⟨S1x64, .f32⟩
  | .hbm, ⟨3, _⟩ => ⟨S2x2048x512, .f32⟩
  | .hbm, ⟨4, _⟩ => ⟨S2x2560x512, .f32⟩
  | .hbm, ⟨5, _⟩ => ⟨S2x2560x512, .f32⟩
  | .hbm, ⟨6, _⟩ => ⟨S2x2048x512, .f32⟩
  | .hbm, ⟨7, _⟩ => ⟨S2x2048x512, .f32⟩
  | .hbm, ⟨8, _⟩ => ⟨S2x2048x512, .f32⟩
  | .hbm, ⟨9, _⟩ => ⟨S1x1x1x1x64, .f32⟩
  | .hbm, ⟨10, _⟩ => ⟨S2x4x1x8x64, .f32⟩
  | .hbm, ⟨11, _⟩ => ⟨S1x1x1x1x64, .f32⟩
  | .hbm, ⟨12, _⟩ => ⟨S2x4x1x8x64, .f32⟩
  | .hbm, ⟨13, _⟩ => ⟨S2x4x512x8x64, .f32⟩
  | .hbm, ⟨14, _⟩ => ⟨S2x4x512x8x64, .f32⟩
  | .hbm, ⟨15, _⟩ => ⟨S_, .f32⟩
  | .hbm, ⟨16, _⟩ => ⟨S2x4x512x8, .f32⟩
  | .hbm, ⟨17, _⟩ => ⟨S2x4x512x8x1, .f32⟩
  | .hbm, ⟨18, _⟩ => ⟨S_, .f32⟩
  | .hbm, ⟨19, _⟩ => ⟨S2x4x512x8x1, .f32⟩
  | .hbm, ⟨20, _⟩ => ⟨S2x4x512x8x1, .f32⟩
  | .hbm, ⟨21, _⟩ => ⟨S_, .f32⟩
  | .hbm, ⟨22, _⟩ => ⟨S2x4x512x8x1, .f32⟩
  | .hbm, ⟨23, _⟩ => ⟨S2x4x512x8x1, .f32⟩
  | .hbm, ⟨24, _⟩ => ⟨S2x4x512x8x1, .f32⟩
  | .hbm, ⟨25, _⟩ => ⟨S2x4x512x8x1, .f32⟩
  | .hbm, ⟨26, _⟩ => ⟨S_, .f32⟩
  | .hbm, ⟨27, _⟩ => ⟨S2x4x512x8x1, .f32⟩
  | .hbm, ⟨28, _⟩ => ⟨S2x4x512x8x1, .f32⟩
  | .hbm, ⟨29, _⟩ => ⟨S2x4x512x8x64, .f32⟩
  | .hbm, ⟨30, _⟩ => ⟨S2x4x512x8x64, .f32⟩
  | .hbm, ⟨31, _⟩ => ⟨S2x4x512x8x64, .f32⟩
  | .hbm, ⟨32, _⟩ => ⟨S2x4x512x8x64, .f32⟩
  | .hbm, ⟨33, _⟩ => ⟨S2x2048x512, .f32⟩
  | .hbm, ⟨34, _⟩ => ⟨S2x4x512x8x64, .f32⟩
  | .hbm, ⟨35, _⟩ => ⟨S2x4x512x8x64, .f32⟩
  | .hbm, ⟨36, _⟩ => ⟨S_, .f32⟩
  | .hbm, ⟨37, _⟩ => ⟨S2x4x512x8, .f32⟩
  | .hbm, ⟨38, _⟩ => ⟨S2x4x512x8x1, .f32⟩
  | .hbm, ⟨39, _⟩ => ⟨S_, .f32⟩
  | .hbm, ⟨40, _⟩ => ⟨S2x4x512x8x1, .f32⟩
  | .hbm, ⟨41, _⟩ => ⟨S2x4x512x8x1, .f32⟩
  | .hbm, ⟨42, _⟩ => ⟨S_, .f32⟩
  | .hbm, ⟨43, _⟩ => ⟨S2x4x512x8x1, .f32⟩
  | .hbm, ⟨44, _⟩ => ⟨S2x4x512x8x1, .f32⟩
  | .hbm, ⟨45, _⟩ => ⟨S2x4x512x8x1, .f32⟩
  | .hbm, ⟨46, _⟩ => ⟨S2x4x512x8x1, .f32⟩
  | .hbm, ⟨47, _⟩ => ⟨S_, .f32⟩
  | .hbm, ⟨48, _⟩ => ⟨S2x4x512x8x1, .f32⟩
  | .hbm, ⟨49, _⟩ => ⟨S2x4x512x8x1, .f32⟩
  | .hbm, ⟨50, _⟩ => ⟨S2x4x512x8x64, .f32⟩
  | .hbm, ⟨51, _⟩ => ⟨S2x4x512x8x64, .f32⟩
  | .hbm, ⟨52, _⟩ => ⟨S2x4x512x8x64, .f32⟩
  | .hbm, ⟨53, _⟩ => ⟨S2x4x512x8x64, .f32⟩
  | .hbm, ⟨54, _⟩ => ⟨S2x2048x512, .f32⟩
  | .hbm, ⟨55, _⟩ => ⟨S_, .f32⟩
  | .hbm, ⟨56, _⟩ => ⟨S2x512x512, .f32⟩
  | .hbm, ⟨57, _⟩ => ⟨S2x2560x512, .f32⟩
  | .hbm, ⟨58, _⟩ => ⟨S_, .f32⟩
  | .hbm, ⟨59, _⟩ => ⟨S2x512x512, .f32⟩
  | .hbm, ⟨60, _⟩ => ⟨S2x2560x512, .f32⟩
  | .hbm, ⟨61, _⟩ => ⟨S_, .f32⟩
  | .hbm, ⟨62, _⟩ => ⟨S2x512x512, .f32⟩
  | .hbm, ⟨63, _⟩ => ⟨S2x512x512, .f32⟩
  | .hbm, ⟨64, _⟩ => ⟨S2x2048x512, .f32⟩
  | .hbm, ⟨65, _⟩ => ⟨S2x512x512, .f32⟩
  | .hbm, ⟨66, _⟩ => ⟨S2x2048x512, .f32⟩
  | .hbm, ⟨67, _⟩ => ⟨S2x4x512x8x64, .f32⟩
  | .hbm, ⟨68, _⟩ => ⟨S2x4x512x8x64, .f32⟩
  | .hbm, ⟨69, _⟩ => ⟨S_, .f32⟩
  | .hbm, ⟨70, _⟩ => ⟨S2x4x8x64, .f32⟩
  | .hbm, ⟨71, _⟩ => ⟨S2x4x1x8x64, .f32⟩
  | .hbm, ⟨72, _⟩ => ⟨S2x4x512x8x64, .f32⟩
  | .hbm, ⟨73, _⟩ => ⟨S2x4x512x8x64, .f32⟩
  | .hbm, ⟨74, _⟩ => ⟨S2x4x512x8x64, .f32⟩
  | .hbm, ⟨75, _⟩ => ⟨S_, .f32⟩
  | .hbm, ⟨76, _⟩ => ⟨S2x4x512x8, .f32⟩
  | .hbm, ⟨77, _⟩ => ⟨S2x4x512x8x1, .f32⟩
  | .hbm, ⟨78, _⟩ => ⟨S2x4x512x8x64, .f32⟩
  | .hbm, ⟨79, _⟩ => ⟨S2x4x512x8x64, .f32⟩
  | .hbm, ⟨80, _⟩ => ⟨S2x4x512x8x1, .f32⟩
  | .hbm, ⟨81, _⟩ => ⟨S_, .f32⟩
  | .hbm, ⟨82, _⟩ => ⟨S2x4x512x8x1, .f32⟩
  | .hbm, ⟨83, _⟩ => ⟨S2x4x512x8x1, .f32⟩
  | .hbm, ⟨84, _⟩ => ⟨S_, .f32⟩
  | .hbm, ⟨85, _⟩ => ⟨S2x4x512x8, .f32⟩
  | .hbm, ⟨86, _⟩ => ⟨S2x4x512x8x64, .f32⟩
  | .hbm, ⟨87, _⟩ => ⟨S2x4x512x8x64, .f32⟩
  | .hbm, ⟨88, _⟩ => ⟨S2x4x512x8x64, .f32⟩
  | .hbm, ⟨89, _⟩ => ⟨S2x4x512x8x64, .f32⟩
  | .hbm, ⟨90, _⟩ => ⟨S2x4x512x8x64, .f32⟩
  | .hbm, ⟨91, _⟩ => ⟨S2x2048x512, .f32⟩
  | .hbm, ⟨92, _⟩ => ⟨S2x4x512x8x64, .f32⟩
  | .hbm, ⟨93, _⟩ => ⟨S2x4x512x8x64, .f32⟩
  | .hbm, ⟨94, _⟩ => ⟨S_, .f32⟩
  | .hbm, ⟨95, _⟩ => ⟨S2x4x8x64, .f32⟩
  | .hbm, ⟨96, _⟩ => ⟨S2x4x1x8x64, .f32⟩
  | .hbm, ⟨97, _⟩ => ⟨S2x4x512x8x64, .f32⟩
  | .hbm, ⟨98, _⟩ => ⟨S2x4x512x8x64, .f32⟩
  | .hbm, ⟨99, _⟩ => ⟨S2x4x512x8x64, .f32⟩
  | .hbm, ⟨100, _⟩ => ⟨S_, .f32⟩
  | .hbm, ⟨101, _⟩ => ⟨S2x4x512x8, .f32⟩
  | .hbm, ⟨102, _⟩ => ⟨S2x4x512x8x1, .f32⟩
  | .hbm, ⟨103, _⟩ => ⟨S2x4x512x8x64, .f32⟩
  | .hbm, ⟨104, _⟩ => ⟨S2x4x512x8x64, .f32⟩
  | .hbm, ⟨105, _⟩ => ⟨S2x4x512x8x1, .f32⟩
  | .hbm, ⟨106, _⟩ => ⟨S_, .f32⟩
  | .hbm, ⟨107, _⟩ => ⟨S2x4x512x8x1, .f32⟩
  | .hbm, ⟨108, _⟩ => ⟨S2x4x512x8x1, .f32⟩
  | .hbm, ⟨109, _⟩ => ⟨S_, .f32⟩
  | .hbm, ⟨110, _⟩ => ⟨S2x4x512x8, .f32⟩
  | .hbm, ⟨111, _⟩ => ⟨S2x4x512x8x64, .f32⟩
  | .hbm, ⟨112, _⟩ => ⟨S2x4x512x8x64, .f32⟩
  | .hbm, ⟨113, _⟩ => ⟨S2x4x512x8x64, .f32⟩
  | .hbm, ⟨114, _⟩ => ⟨S2x4x512x8x64, .f32⟩
  | .hbm, ⟨115, _⟩ => ⟨S2x4x512x8x64, .f32⟩
  | .hbm, ⟨116, _⟩ => ⟨S2x2048x512, .f32⟩
  | .hbm, ⟨117, _⟩ => ⟨S2x2048x512, .bf16⟩
  | .hbm, ⟨118, _⟩ => ⟨S2x2048x512, .bf16⟩
  | .hbm, ⟨119, _⟩ => ⟨S2x2048x512, .bf16⟩
  | .hbm, ⟨120, _⟩ => ⟨S8x1x512, .f32⟩
  | .hbm, ⟨121, _⟩ => ⟨S8x1x512, .f32⟩
  | _, _ => ⟨S2x2048x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_10 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_11 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_12 : Ref sig .tc := ⟨.hbm, 81, rfl⟩
abbrev main_v62 : Ref sig .tc := ⟨.hbm, 82, rfl⟩
abbrev main_v63 : Ref sig .tc := ⟨.hbm, 83, rfl⟩
abbrev main_cst_13 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_14 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_15 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_cst_16 : Ref sig .tc := ⟨.hbm, 106, rfl⟩
abbrev main_v83 : Ref sig .tc := ⟨.hbm, 107, rfl⟩
abbrev main_v84 : Ref sig .tc := ⟨.hbm, 108, rfl⟩
abbrev main_cst_17 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩

abbrev nD : Nat := 1
abbrev τ : Topo := Topo.v7x

variable {F : FTy → Type} [FloatOps F]
-- ==== Kernel2.lean ====
abbrev S2x2048x512 : Shape := ⟨3, ![2, 2048, 512]⟩
abbrev S8x257 : Shape := ⟨2, ![8, 257]⟩
abbrev S2x2048x1024 : Shape := ⟨3, ![2, 2048, 1024]⟩
abbrev S_ : Shape := ⟨0, ![]⟩
abbrev S2x512x512 : Shape := ⟨3, ![2, 512, 512]⟩
abbrev S2x2560x512 : Shape := ⟨3, ![2, 2560, 512]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S8x64x768 : Shape := ⟨3, ![8, 64, 768]⟩
abbrev S8x256x768 : Shape := ⟨3, ![8, 256, 768]⟩
abbrev S8x64x640 : Shape := ⟨3, ![8, 64, 640]⟩
abbrev S1x256x128 : Shape := ⟨3, ![1, 256, 128]⟩
abbrev S1x2560x128 : Shape := ⟨3, ![1, 2560, 128]⟩
abbrev S2x256x768 : Shape := ⟨3, ![2, 256, 768]⟩
abbrev S2x64x640 : Shape := ⟨3, ![2, 64, 640]⟩
abbrev S2560x128 : Shape := ⟨2, ![2560, 128]⟩
abbrev S1x768x128 : Shape := ⟨3, ![1, 768, 128]⟩
abbrev S768x128 : Shape := ⟨2, ![768, 128]⟩
abbrev S256x128 : Shape := ⟨2, ![256, 128]⟩
abbrev S1x128 : Shape := ⟨2, ![1, 128]⟩
abbrev S1x256x768 : Shape := ⟨3, ![1, 256, 768]⟩
abbrev S256x768 : Shape := ⟨2, ![256, 768]⟩
abbrev S256 : Shape := ⟨1, ![256]⟩
abbrev S256x1 : Shape := ⟨2, ![256, 1]⟩
abbrev S64x640 : Shape := ⟨2, ![64, 640]⟩
abbrev S1x64x640 : Shape := ⟨3, ![1, 64, 640]⟩

abbrev nBuf : Space → Nat
  | .hbm => 60
  | .vmem => 20
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S2x2048x512, .f32⟩
  | .hbm, ⟨3, _⟩ => ⟨S8x257, .f32⟩
  | .hbm, ⟨4, _⟩ => ⟨S2x2048x1024, .f32⟩
  | .hbm, ⟨5, _⟩ => ⟨S2x2048x512, .bf16⟩
  | .hbm, ⟨6, _⟩ => ⟨S_, .bf16⟩
  | .hbm, ⟨7, _⟩ => ⟨S2x512x512, .bf16⟩
  | .hbm, ⟨8, _⟩ => ⟨S2x2048x512, .bf16⟩
  | .hbm, ⟨9, _⟩ => ⟨S2x2560x512, .bf16⟩
  | .hbm, ⟨10, _⟩ => ⟨S2x2048x512, .bf16⟩
  | .hbm, ⟨11, _⟩ => ⟨S2x2560x512, .bf16⟩
  | .hbm, ⟨12, _⟩ => ⟨S64, .i32⟩
  | .hbm, ⟨13, _⟩ => ⟨S64x1, .i32⟩
  | .hbm, ⟨14, _⟩ => ⟨S_, .i32⟩
  | .hbm, ⟨15, _⟩ => ⟨S64x1, .i32⟩
  | .hbm, ⟨16, _⟩ => ⟨S64x1, .i32⟩
  | .hbm, ⟨17, _⟩ => ⟨S576, .i32⟩
  | .hbm, ⟨18, _⟩ => ⟨S1x576, .i32⟩
  | .hbm, ⟨19, _⟩ => ⟨S64x576, .i32⟩
  | .hbm, ⟨20, _⟩ => ⟨S64x576, .i32⟩
  | .hbm, ⟨21, _⟩ => ⟨S64x576, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S64x576, .i32⟩
  | .hbm, ⟨26, _⟩ => ⟨S64x576, .i32⟩
  | .hbm, ⟨27, _⟩ => ⟨S_, .i32⟩
  | .hbm, ⟨28, _⟩ => ⟨S64x576, .i32⟩
  | .hbm, ⟨29, _⟩ => ⟨S64x576, .i32⟩
  | .hbm, ⟨30, _⟩ => ⟨S_, .i32⟩
  | .hbm, ⟨31, _⟩ => ⟨S64x576, .i32⟩
  | .hbm, ⟨32, _⟩ => ⟨S64x576, .i32⟩
  | .hbm, ⟨33, _⟩ => ⟨S_, .i32⟩
  | .hbm, ⟨34, _⟩ => ⟨S64x576, .i32⟩
  | .hbm, ⟨35, _⟩ => ⟨S64x576, .i1⟩
  | .hbm, ⟨36, _⟩ => ⟨S_, .i32⟩
  | .hbm, ⟨37, _⟩ => ⟨S64x576, .i32⟩
  | .hbm, ⟨38, _⟩ => ⟨S64x576, .i32⟩
  | .hbm, ⟨39, _⟩ => ⟨S64x576, .i32⟩
  | .hbm, ⟨40, _⟩ => ⟨S64x576x1, .i32⟩
  | .hbm, ⟨41, _⟩ => ⟨S8x64x576, .f32⟩
  | .hbm, ⟨42, _⟩ => ⟨S_, .f32⟩
  | .hbm, ⟨43, _⟩ => ⟨S_, .f32⟩
  | .hbm, ⟨44, _⟩ => ⟨S8x64x768, .f32⟩
  | .hbm, ⟨45, _⟩ => ⟨S_, .f32⟩
  | .hbm, ⟨46, _⟩ => ⟨S_, .f32⟩
  | .hbm, ⟨47, _⟩ => ⟨S8x64x768, .f32⟩
  | .hbm, ⟨48, _⟩ => ⟨S_, .f32⟩
  | .hbm, ⟨49, _⟩ => ⟨S_, .f32⟩
  | .hbm, ⟨50, _⟩ => ⟨S8x64x768, .f32⟩
  | .hbm, ⟨51, _⟩ => ⟨S_, .f32⟩
  | .hbm, ⟨52, _⟩ => ⟨S_, .f32⟩
  | .hbm, ⟨53, _⟩ => ⟨S8x64x768, .f32⟩
  | .hbm, ⟨54, _⟩ => ⟨S8x256x768, .f32⟩
  | .hbm, ⟨55, _⟩ => ⟨S2x2048x512, .f32⟩
  | .hbm, ⟨56, _⟩ => ⟨S2x2560x512, .f32⟩
  | .hbm, ⟨57, _⟩ => ⟨S2x2560x512, .f32⟩
  | .hbm, ⟨58, _⟩ => ⟨S8x64x640, .f32⟩
  | .hbm, ⟨59, _⟩ => ⟨S8x64x640, .f32⟩
  | .local _ .vmem, ⟨0, _⟩ => ⟨S1x256x128, .bf16⟩
  | .local _ .vmem, ⟨1, _⟩ => ⟨S1x256x128, .bf16⟩
  | .local _ .vmem, ⟨2, _⟩ => ⟨S1x2560x128, .bf16⟩
  | .local _ .vmem, ⟨3, _⟩ => ⟨S1x2560x128, .bf16⟩
  | .local _ .vmem, ⟨4, _⟩ => ⟨S1x2560x128, .bf16⟩
  | .local _ .vmem, ⟨5, _⟩ => ⟨S1x2560x128, .bf16⟩
  | .local _ .vmem, ⟨6, _⟩ => ⟨S2x256x768, .f32⟩
  | .local _ .vmem, ⟨7, _⟩ => ⟨S2x256x768, .f32⟩
  | .local _ .vmem, ⟨8, _⟩ => ⟨S1x256x128, .f32⟩
  | .local _ .vmem, ⟨9, _⟩ => ⟨S1x256x128, .f32⟩
  | .local _ .vmem, ⟨10, _⟩ => ⟨S1x256x128, .f32⟩
  | .local _ .vmem, ⟨11, _⟩ => ⟨S1x256x128, .f32⟩
  | .local _ .vmem, ⟨12, _⟩ => ⟨S1x2560x128, .f32⟩
  | .local _ .vmem, ⟨13, _⟩ => ⟨S1x2560x128, .f32⟩
  | .local _ .vmem, ⟨14, _⟩ => ⟨S1x2560x128, .f32⟩
  | .local _ .vmem, ⟨15, _⟩ => ⟨S1x2560x128, .f32⟩
  | .local _ .vmem, ⟨16, _⟩ => ⟨S2x64x640, .f32⟩
  | .local _ .vmem, ⟨17, _⟩ => ⟨S2x64x640, .f32⟩
  | .local _ .vmem, ⟨18, _⟩ => ⟨S2x64x640, .f32⟩
  | .local _ .vmem, ⟨19, _⟩ => ⟨S2x64x640, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_0 : Ref sig .tc := ⟨.hbm, 22, rfl⟩
abbrev main_c_1 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v15 : Ref sig .tc := ⟨.hbm, 29, rfl⟩
abbrev main_c_2 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_call1_v0 : Ref sig .tc := ⟨.hbm, 43, rfl⟩
abbrev main_v25 : Ref sig .tc := ⟨.hbm, 44, rfl⟩
abbrev main_cst_6 : Ref sig .tc := ⟨.hbm, 45, rfl⟩
abbrev main_call2_v0 : Ref sig .tc := ⟨.hbm, 46, rfl⟩
abbrev main_v26 : Ref sig .tc := ⟨.hbm, 47, rfl⟩
abbrev main_cst_7 : Ref sig .tc := ⟨.hbm, 48, rfl⟩
abbrev main_call3_v0 : Ref sig .tc := ⟨.hbm, 49, rfl⟩
abbrev main_v27 : Ref sig .tc := ⟨.hbm, 50, rfl⟩
abbrev main_cst_8 : Ref sig .tc := ⟨.hbm, 51, rfl⟩
abbrev main_call4_v0 : Ref sig .tc := ⟨.hbm, 52, rfl⟩
abbrev main_v28 : Ref sig .tc := ⟨.hbm, 53, rfl⟩
abbrev main_v29 : Ref sig .tc := ⟨.hbm, 54, rfl⟩
abbrev main_v30_0 : Ref sig .tc := ⟨.hbm, 55, rfl⟩
abbrev main_v30_1 : Ref sig .tc := ⟨.hbm, 56, rfl⟩
abbrev main_v30_2 : Ref sig .tc := ⟨.hbm, 57, rfl⟩
abbrev main_v30_3 : Ref sig .tc := ⟨.hbm, 58, rfl⟩
abbrev main_v30_4 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![4, 2, 8], ![false, false, false]⟩

def k0_mult1 (i : grid0.Coords) : BitVec 32 :=
  let arg2 : BitVec 32 := BitVec.ofNat 32 (i 2).val
  let c256_i32 : BitVec 32 := 256#32
  let v0 : BitVec 32 := Scalar.muli arg2 c256_i32
  v0
def k0_off1 (i : grid0.Coords) : Fin 3 → Nat :=
  let c0 : Index := 0#32
  let arg2 : BitVec 32 := BitVec.ofNat 32 (i 2).val
  let c256_i32 : BitVec 32 := 256#32
  let v0 : BitVec 32 := Scalar.muli arg2 c256_i32
  let v1 : BitVec 32 := v0
  let v10 : Index := Scalar.indexCast v1
  let c0_4 : Index := 0#32
  ![0, v10.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2560x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2560x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x2560x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x2560x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S2x64x640 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S2x64x640 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]
-- ==== Kernel2Ideal.lean ====
variable {F : FTy → Type} [FloatOps F] [Named F]
def κ : String → Option EReal := fun
  | "mask" => some ⊥
  | _ => none
-- ==== Reference2Ideal.lean ====
abbrev S2x2048x512 : Shape := ⟨3, ![2, 2048, 512]⟩
abbrev S8x257 : Shape := ⟨2, ![8, 257]⟩
abbrev S2x2048x1024 : Shape := ⟨3, ![2, 2048, 1024]⟩
abbrev S_ : Shape := ⟨0, ![]⟩
abbrev S2x512x8x64 : Shape := ⟨4, ![2, 512, 8, 64]⟩
abbrev S2x2048x8x64 : Shape := ⟨4, ![2, 2048, 8, 64]⟩
abbrev S2x2560x8x64 : Shape := ⟨4, ![2, 2560, 8, 64]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S32 : Shape := ⟨1, ![32]⟩
abbrev S32x1 : Shape := ⟨2, ![32, 1]⟩
abbrev S32x576 : Shape := ⟨2, ![32, 576]⟩
abbrev S2x8x64x576 : Shape := ⟨4, ![2, 8, 64, 576]⟩
abbrev S2x32x64x8x64 : Shape := ⟨5, ![2, 32, 64, 8, 64]⟩
abbrev S2x40x64x8x64 : Shape := ⟨5, ![2, 40, 64, 8, 64]⟩
abbrev S2x32x576x8x64 : Shape := ⟨5, ![2, 32, 576, 8, 64]⟩
abbrev S2x32x8x64x576 : Shape := ⟨5, ![2, 32, 8, 64, 576]⟩
abbrev S16x2x8x64x576 : Shape := ⟨5, ![16, 2, 8, 64, 576]⟩
abbrev S32x8x64x576 : Shape := ⟨4, ![32, 8, 64, 576]⟩
abbrev S1x32x8x64x576 : Shape := ⟨5, ![1, 32, 8, 64, 576]⟩
abbrev S1x32x1x1x576 : Shape := ⟨5, ![1, 32, 1, 1, 576]⟩
abbrev S2x32x8x64 : Shape := ⟨4, ![2, 32, 8, 64]⟩
abbrev S2x32x8x64x1 : Shape := ⟨5, ![2, 32, 8, 64, 1]⟩
abbrev S2x32x8x64x64 : Shape := ⟨5, ![2, 32, 8, 64, 64]⟩
abbrev S2x32x8x576x64 : Shape := ⟨5, ![2, 32, 8, 576, 64]⟩
abbrev S8x64x64 : Shape := ⟨3, ![8, 64, 64]⟩
abbrev S1x8x64x576 : Shape := ⟨4, ![1, 8, 64, 576]⟩
abbrev S8x64x640 : Shape := ⟨3, ![8, 64, 640]⟩
abbrev S2x2560x512 : Shape := ⟨3, ![2, 2560, 512]⟩

abbrev nBuf : Space → Nat
  | .hbm => 260
  | .vmem => 0
  | .smem => 0
  | _ => 0

abbrev hbmTy0_0 (i : Nat) : BufTy := match i % 128 with
  | 0 => ⟨S2x2048x512, .f32⟩
  | 1 => ⟨S2x2048x512, .f32⟩
  | 2 => ⟨S2x2048x512, .f32⟩
  | 3 => ⟨S8x257, .f32⟩
  | 4 => ⟨S2x2048x1024, .f32⟩
  | 5 => ⟨S_, .f32⟩
  | 6 => ⟨S2x512x8x64, .f32⟩
  | 7 => ⟨S2x2048x8x64, .f32⟩
  | 8 => ⟨S2x2560x8x64, .f32⟩
  | 9 => ⟨S2x2048x8x64, .f32⟩
  | 10 => ⟨S2x2560x8x64, .f32⟩
  | 11 => ⟨S64, .i32⟩
  | 12 => ⟨S64x1, .i32⟩
  | 13 => ⟨S_, .i32⟩
  | 14 => ⟨S64x1, .i32⟩
  | 15 => ⟨S64x1, .i32⟩
  | 16 => ⟨S576, .i32⟩
  | 17 => ⟨S1x576, .i32⟩
  | 18 => ⟨S64x576, .i32⟩
  | 19 => ⟨S64x576, .i32⟩
  | 20 => ⟨S64x576, .i32⟩
  | 21 => ⟨S_, .i32⟩
  | 22 => ⟨S_, .i32⟩
  | 23 => ⟨S_, .i32⟩
  | 24 => ⟨S64x576, .i32⟩
  | 25 => ⟨S64x576, .i32⟩
  | 26 => ⟨S_, .i32⟩
  | 27 => ⟨S64x576, .i32⟩
  | 28 => ⟨S64x576, .i32⟩
  | 29 => ⟨S_, .i32⟩
  | 30 => ⟨S64x576, .i32⟩
  | 31 => ⟨S64x576, .i32⟩
  | 32 => ⟨S_, .i32⟩
  | 33 => ⟨S64x576, .i32⟩
  | 34 => ⟨S64x576, .i1⟩
  | 35 => ⟨S_, .i32⟩
  | 36 => ⟨S64x576, .i32⟩
  | 37 => ⟨S64x576, .i32⟩
  | 38 => ⟨S64x576, .i32⟩
  | 39 => ⟨S64x576x1, .i32⟩
  | 40 => ⟨S8x64x576, .f32⟩
  | 41 => ⟨S32, .i32⟩
  | 42 => ⟨S32x1, .i32⟩
  | 43 => ⟨S_, .i32⟩
  | 44 => ⟨S32x1, .i32⟩
  | 45 => ⟨S32x1, .i32⟩
  | 46 => ⟨S_, .i32⟩
  | 47 => ⟨S32x1, .i32⟩
  | 48 => ⟨S32x1, .i32⟩
  | 49 => ⟨S32x576, .i32⟩
  | 50 => ⟨S32x576, .i32⟩
  | 51 => ⟨S32x576, .i32⟩
  | 52 => ⟨S2x2048x8x64, .f32⟩
  | 53 => ⟨S2x8x64x576, .f32⟩
  | 54 => ⟨S2x32x64x8x64, .f32⟩
  | 55 => ⟨S2x40x64x8x64, .f32⟩
  | 56 => ⟨S2x32x64x8x64, .f32⟩
  | 57 => ⟨S2x32x64x8x64, .f32⟩
  | 58 => ⟨S2x32x64x8x64, .f32⟩
  | 59 => ⟨S2x32x64x8x64, .f32⟩
  | 60 => ⟨S2x32x64x8x64, .f32⟩
  | 61 => ⟨S2x32x64x8x64, .f32⟩
  | 62 => ⟨S2x32x64x8x64, .f32⟩
  | 63 => ⟨S2x32x64x8x64, .f32⟩
  | 64 => ⟨S2x32x64x8x64, .f32⟩
  | 65 => ⟨S2x32x576x8x64, .f32⟩
  | 66 => ⟨S2x32x8x64x576, .f32⟩
  | 67 => ⟨S16x2x8x64x576, .f32⟩
  | 68 => ⟨S32x8x64x576, .f32⟩
  | 69 => ⟨S_, .f32⟩
  | 70 => ⟨S2x32x8x64x576, .f32⟩
  | 71 => ⟨S2x32x8x64x576, .f32⟩
  | 72 => ⟨S1x32x8x64x576, .f32⟩
  | 73 => ⟨S2x32x8x64x576, .f32⟩
  | 74 => ⟨S2x32x8x64x576, .f32⟩
  | 75 => ⟨S_, .i32⟩
  | 76 => ⟨S32x576, .i32⟩
  | 77 => ⟨S32x576, .i1⟩
  | 78 => ⟨S1x32x1x1x576, .i1⟩
  | 79 => ⟨S_, .f32⟩
  | 80 => ⟨S_, .f32⟩
  | 81 => ⟨S2x32x8x64x576, .i1⟩
  | 82 => ⟨S2x32x8x64x576, .f32⟩
  | 83 => ⟨S2x32x8x64x576, .f32⟩
  | 84 => ⟨S_, .f32⟩
  | 85 => ⟨S2x32x8x64x576, .f32⟩
  | 86 => ⟨S_, .f32⟩
  | 87 => ⟨S2x32x8x64, .f32⟩
  | 88 => ⟨S2x32x8x64x1, .f32⟩
  | 89 => ⟨S2x32x8x64x576, .f32⟩
  | 90 => ⟨S2x32x8x64x576, .i1⟩
  | 91 => ⟨S2x32x8x64x576, .f32⟩
  | 92 => ⟨S_, .f32⟩
  | 93 => ⟨S2x32x8x64, .f32⟩
  | 94 => ⟨S_, .f32⟩
  | 95 => ⟨S2x32x8x64, .f32⟩
  | 96 => ⟨S2x32x8x64, .f32⟩
  | 97 => ⟨S_, .f32⟩
  | 98 => ⟨S2x32x8x64, .f32⟩
  | 99 => ⟨S2x32x8x64, .i1⟩
  | 100 => ⟨S_, .f32⟩
  | 101 => ⟨S2x32x8x64, .f32⟩
  | 102 => ⟨S2x32x8x64, .i1⟩
  | 103 => ⟨S_, .f32⟩
  | 104 => ⟨S2x32x8x64, .f32⟩
  | 105 => ⟨S_, .f32⟩
  | 106 => ⟨S2x32x8x64, .f32⟩
  | 107 => ⟨S_, .f32⟩
  | 108 => ⟨S2x32x8x64, .f32⟩
  | 109 => ⟨S2x32x8x64, .f32⟩
  | 110 => ⟨S2x32x8x64, .f32⟩
  | 111 => ⟨S2x32x8x64x1, .f32⟩
  | 112 => ⟨S2x32x8x64x576, .f32⟩
  | 113 => ⟨S2x32x8x64x576, .f32⟩
  | 114 => ⟨S2x32x8x64x576, .f32⟩
  | 115 => ⟨S_, .f32⟩
  | 116 => ⟨S2x32x8x64, .f32⟩
  | 117 => ⟨S2x32x8x64x1, .f32⟩
  | 118 => ⟨S2x32x8x64x576, .f32⟩
  | 119 => ⟨S2x32x8x64x576, .f32⟩
  | 120 => ⟨S2x32x8x64x1, .f32⟩
  | 121 => ⟨S_, .f32⟩
  | 122 => ⟨S2x32x8x64x1, .f32⟩
  | 123 => ⟨S2x32x8x64x1, .f32⟩
  | 124 => ⟨S2x40x64x8x64, .f32⟩
  | 125 => ⟨S2x32x64x8x64, .f32⟩
  | 126 => ⟨S2x32x64x8x64, .f32⟩
  | 127 => ⟨S2x32x64x8x64, .f32⟩
  | _ => ⟨S2x2048x512, .f32⟩

abbrev hbmTy0_1 (i : Nat) : BufTy := match i % 128 with
  | 0 => ⟨S2x32x64x8x64, .f32⟩
  | 1 => ⟨S2x32x64x8x64, .f32⟩
  | 2 => ⟨S2x32x64x8x64, .f32⟩
  | 3 => ⟨S2x32x64x8x64, .f32⟩
  | 4 => ⟨S2x32x64x8x64, .f32⟩
  | 5 => ⟨S2x32x64x8x64, .f32⟩
  | 6 => ⟨S2x32x576x8x64, .f32⟩
  | 7 => ⟨S2x32x8x64x64, .f32⟩
  | 8 => ⟨S2x32x64x8x64, .f32⟩
  | 9 => ⟨S2x2048x512, .f32⟩
  | 10 => ⟨S2x2048x512, .f32⟩
  | 11 => ⟨S2x32x64x8x64, .f32⟩
  | 12 => ⟨S2x32x8x64x64, .f32⟩
  | 13 => ⟨S2x32x8x64x576, .f32⟩
  | 14 => ⟨S2x32x8x64x576, .f32⟩
  | 15 => ⟨S2x32x576x8x64, .f32⟩
  | 16 => ⟨S2x32x64x8x64, .f32⟩
  | 17 => ⟨S2x32x64x8x64, .f32⟩
  | 18 => ⟨S2x32x64x8x64, .f32⟩
  | 19 => ⟨S2x32x64x8x64, .f32⟩
  | 20 => ⟨S2x32x64x8x64, .f32⟩
  | 21 => ⟨S2x32x64x8x64, .f32⟩
  | 22 => ⟨S2x32x64x8x64, .f32⟩
  | 23 => ⟨S2x32x64x8x64, .f32⟩
  | 24 => ⟨S2x32x64x8x64, .f32⟩
  | 25 => ⟨S_, .f32⟩
  | 26 => ⟨S2x40x64x8x64, .f32⟩
  | 27 => ⟨S_, .f32⟩
  | 28 => ⟨S2x40x64x8x64, .f32⟩
  | 29 => ⟨S2x40x64x8x64, .f32⟩
  | 30 => ⟨S_, .f32⟩
  | 31 => ⟨S2x40x64x8x64, .f32⟩
  | 32 => ⟨S2x40x64x8x64, .f32⟩
  | 33 => ⟨S_, .f32⟩
  | 34 => ⟨S2x40x64x8x64, .f32⟩
  | 35 => ⟨S2x40x64x8x64, .f32⟩
  | 36 => ⟨S_, .f32⟩
  | 37 => ⟨S2x40x64x8x64, .f32⟩
  | 38 => ⟨S2x40x64x8x64, .f32⟩
  | 39 => ⟨S_, .f32⟩
  | 40 => ⟨S2x40x64x8x64, .f32⟩
  | 41 => ⟨S2x40x64x8x64, .f32⟩
  | 42 => ⟨S_, .f32⟩
  | 43 => ⟨S2x40x64x8x64, .f32⟩
  | 44 => ⟨S2x40x64x8x64, .f32⟩
  | 45 => ⟨S_, .f32⟩
  | 46 => ⟨S2x40x64x8x64, .f32⟩
  | 47 => ⟨S2x40x64x8x64, .f32⟩
  | 48 => ⟨S_, .f32⟩
  | 49 => ⟨S2x40x64x8x64, .f32⟩
  | 50 => ⟨S2x40x64x8x64, .f32⟩
  | 51 => ⟨S2x2560x8x64, .f32⟩
  | 52 => ⟨S2x32x8x64x576, .f32⟩
  | 53 => ⟨S2x32x8x64x576, .f32⟩
  | 54 => ⟨S2x32x8x64x576, .f32⟩
  | 55 => ⟨S_, .f32⟩
  | 56 => ⟨S2x32x8x64, .f32⟩
  | 57 => ⟨S2x32x8x64x1, .f32⟩
  | 58 => ⟨S2x32x8x64x1, .f32⟩
  | 59 => ⟨S2x32x8x64x576, .f32⟩
  | 60 => ⟨S2x32x8x64x576, .f32⟩
  | 61 => ⟨S_, .f32⟩
  | 62 => ⟨S2x32x8x64, .f32⟩
  | 63 => ⟨S2x32x8x64x576, .f32⟩
  | 64 => ⟨S2x32x8x64x576, .f32⟩
  | 65 => ⟨S2x32x8x64x576, .f32⟩
  | 66 => ⟨S_, .f32⟩
  | 67 => ⟨S2x32x8x64x576, .f32⟩
  | 68 => ⟨S2x32x8x64x576, .f32⟩
  | 69 => ⟨S_, .f32⟩
  | 70 => ⟨S32x8x64x576, .f32⟩
  | 71 => ⟨S1x32x8x64x576, .f32⟩
  | 72 => ⟨S_, .f32⟩
  | 73 => ⟨S32x8x64x576, .f32⟩
  | 74 => ⟨S_, .f32⟩
  | 75 => ⟨S2x32x8x64x576, .f32⟩
  | 76 => ⟨S2x32x8x64x576, .f32⟩
  | 77 => ⟨S16x2x8x64x576, .f32⟩
  | 78 => ⟨S_, .f32⟩
  | 79 => ⟨S2x8x64x576, .f32⟩
  | 80 => ⟨S2x32x8x576x64, .f32⟩
  | 81 => ⟨S2x32x576x8x64, .f32⟩
  | 82 => ⟨S2x32x8x64x64, .f32⟩
  | 83 => ⟨S2x32x64x8x64, .f32⟩
  | 84 => ⟨S2x32x64x8x64, .f32⟩
  | 85 => ⟨S2x32x64x8x64, .f32⟩
  | 86 => ⟨S2x32x64x8x64, .f32⟩
  | 87 => ⟨S2x32x64x8x64, .f32⟩
  | 88 => ⟨S2x32x64x8x64, .f32⟩
  | 89 => ⟨S2x32x64x8x64, .f32⟩
  | 90 => ⟨S2x32x64x8x64, .f32⟩
  | 91 => ⟨S2x32x64x8x64, .f32⟩
  | 92 => ⟨S2x32x64x8x64, .f32⟩
  | 93 => ⟨S_, .f32⟩
  | 94 => ⟨S2x40x64x8x64, .f32⟩
  | 95 => ⟨S_, .f32⟩
  | 96 => ⟨S2x40x64x8x64, .f32⟩
  | 97 => ⟨S2x40x64x8x64, .f32⟩
  | 98 => ⟨S_, .f32⟩
  | 99 => ⟨S2x40x64x8x64, .f32⟩
  | 100 => ⟨S2x40x64x8x64, .f32⟩
  | 101 => ⟨S_, .f32⟩
  | 102 => ⟨S2x40x64x8x64, .f32⟩
  | 103 => ⟨S2x40x64x8x64, .f32⟩
  | 104 => ⟨S_, .f32⟩
  | 105 => ⟨S2x40x64x8x64, .f32⟩
  | 106 => ⟨S2x40x64x8x64, .f32⟩
  | 107 => ⟨S_, .f32⟩
  | 108 => ⟨S2x40x64x8x64, .f32⟩
  | 109 => ⟨S2x40x64x8x64, .f32⟩
  | 110 => ⟨S_, .f32⟩
  | 111 => ⟨S2x40x64x8x64, .f32⟩
  | 112 => ⟨S2x40x64x8x64, .f32⟩
  | 113 => ⟨S_, .f32⟩
  | 114 => ⟨S2x40x64x8x64, .f32⟩
  | 115 => ⟨S2x40x64x8x64, .f32⟩
  | 116 => ⟨S_, .f32⟩
  | 117 => ⟨S2x40x64x8x64, .f32⟩
  | 118 => ⟨S2x40x64x8x64, .f32⟩
  | 119 => ⟨S2x2560x8x64, .f32⟩
  | 120 => ⟨S2x2048x8x64, .f32⟩
  | 121 => ⟨S_, .f32⟩
  | 122 => ⟨S8x64x64, .f32⟩
  | 123 => ⟨S1x8x64x576, .f32⟩
  | 124 => ⟨S8x64x576, .f32⟩
  | 125 => ⟨S8x64x640, .f32⟩
  | 126 => ⟨S1x8x64x576, .f32⟩
  | 127 => ⟨S8x64x576, .f32⟩
  | _ => ⟨S2x2048x512, .f32⟩

abbrev hbmTy0_2 (i : Nat) : BufTy := match i % 128 with
  | 0 => ⟨S8x64x640, .f32⟩
  | 1 => ⟨S2x2048x512, .f32⟩
  | 2 => ⟨S2x2560x512, .f32⟩
  | 3 => ⟨S2x2560x512, .f32⟩
  | _ => ⟨S2x2048x512, .f32⟩

abbrev hbmTy (i : Nat) : BufTy := match i / 128 with
  | 0 => hbmTy0_0 i
  | 1 => hbmTy0_1 i
  | 2 => hbmTy0_2 i
  | _ => ⟨S2x2048x512, .f32⟩

abbrev bufTy : (tb : Table) → Fin (tcTables nBuf tb) → BufTy
  | .hbm, ⟨i, _⟩ => hbmTy i
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_0 : Ref sig .tc := ⟨.hbm, 21, rfl⟩
abbrev main_c_1 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_7 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_c_8 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_9 : Ref sig .tc := ⟨.hbm, 79, rfl⟩
abbrev main_call1_v0 : Ref sig .tc := ⟨.hbm, 80, rfl⟩
abbrev main_v58_1 : Ref sig .tc := ⟨.hbm, 81, rfl⟩
abbrev main_call1_v2 : Ref sig .tc := ⟨.hbm, 82, rfl⟩
abbrev main_v58_0 : Ref sig .tc := ⟨.hbm, 83, rfl⟩
abbrev main_call1_cst : Ref sig .tc := ⟨.hbm, 84, rfl⟩
abbrev main_v58_2 : Ref sig .tc := ⟨.hbm, 85, rfl⟩
abbrev main_cst_10 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_11 : Ref sig .tc := ⟨.hbm, 92, rfl⟩
abbrev main_v64 : Ref sig .tc := ⟨.hbm, 93, rfl⟩
abbrev main_cst_12 : Ref sig .tc := ⟨.hbm, 94, rfl⟩
abbrev main_v65 : Ref sig .tc := ⟨.hbm, 95, rfl⟩
abbrev main_v66 : Ref sig .tc := ⟨.hbm, 96, rfl⟩
abbrev main_cst_13 : Ref sig .tc := ⟨.hbm, 97, rfl⟩
abbrev main_v67 : Ref sig .tc := ⟨.hbm, 98, rfl⟩
abbrev main_v68 : Ref sig .tc := ⟨.hbm, 99, rfl⟩
abbrev main_cst_14 : Ref sig .tc := ⟨.hbm, 100, rfl⟩
abbrev main_v69 : Ref sig .tc := ⟨.hbm, 101, rfl⟩
abbrev main_v70 : Ref sig .tc := ⟨.hbm, 102, rfl⟩
abbrev main_cst_15 : Ref sig .tc := ⟨.hbm, 103, rfl⟩
abbrev main_v71 : Ref sig .tc := ⟨.hbm, 104, rfl⟩
abbrev main_cst_16 : Ref sig .tc := ⟨.hbm, 105, rfl⟩
abbrev main_v72 : Ref sig .tc := ⟨.hbm, 106, rfl⟩
abbrev main_cst_17 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_18 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_19 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_cst_20 : Ref sig .tc := ⟨.hbm, 153, rfl⟩
abbrev main_v116 : Ref sig .tc := ⟨.hbm, 154, rfl⟩
abbrev main_cst_21 : Ref sig .tc := ⟨.hbm, 155, rfl⟩
abbrev main_v117 : Ref sig .tc := ⟨.hbm, 156, rfl⟩
abbrev main_v118 : Ref sig .tc := ⟨.hbm, 157, rfl⟩
abbrev main_cst_22 : Ref sig .tc := ⟨.hbm, 158, rfl⟩
abbrev main_v119 : Ref sig .tc := ⟨.hbm, 159, rfl⟩
abbrev main_v120 : Ref sig .tc := ⟨.hbm, 160, rfl⟩
abbrev main_cst_23 : Ref sig .tc := ⟨.hbm, 161, rfl⟩
abbrev main_v121 : Ref sig .tc := ⟨.hbm, 162, rfl⟩
abbrev main_v122 : Ref sig .tc := ⟨.hbm, 163, rfl⟩
abbrev main_cst_24 : Ref sig .tc := ⟨.hbm, 164, rfl⟩
abbrev main_v123 : Ref sig .tc := ⟨.hbm, 165, rfl⟩
abbrev main_v124 : Ref sig .tc := ⟨.hbm, 166, rfl⟩
abbrev main_cst_25 : Ref sig .tc := ⟨.hbm, 167, rfl⟩
abbrev main_v125 : Ref sig .tc := ⟨.hbm, 168, rfl⟩
abbrev main_v126 : Ref sig .tc := ⟨.hbm, 169, rfl⟩
abbrev main_cst_26 : Ref sig .tc := ⟨.hbm, 170, rfl⟩
abbrev main_v127 : Ref sig .tc := ⟨.hbm, 171, rfl⟩
abbrev main_v128 : Ref sig .tc := ⟨.hbm, 172, rfl⟩
abbrev main_cst_27 : Ref sig .tc := ⟨.hbm, 173, rfl⟩
abbrev main_v129 : Ref sig .tc := ⟨.hbm, 174, rfl⟩
abbrev main_v130 : Ref sig .tc := ⟨.hbm, 175, rfl⟩
abbrev main_cst_28 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_cst_29 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_cst_30 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_call2_cst : Ref sig .tc := ⟨.hbm, 194, rfl⟩
abbrev main_call2_v0 : Ref sig .tc := ⟨.hbm, 195, rfl⟩
abbrev main_v146 : Ref sig .tc := ⟨.hbm, 196, rfl⟩
abbrev main_cst_31 : Ref sig .tc := ⟨.hbm, 197, rfl⟩
abbrev main_v147 : Ref sig .tc := ⟨.hbm, 198, rfl⟩
abbrev main_v148 : Ref sig .tc := ⟨.hbm, 199, rfl⟩
abbrev main_cst_32 : Ref sig .tc := ⟨.hbm, 200, rfl⟩
abbrev main_v149 : Ref sig .tc := ⟨.hbm, 201, rfl⟩
abbrev main_cst_33 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_cst_34 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_cst_35 : Ref sig .tc := ⟨.hbm, 221, rfl⟩
abbrev main_v167 : Ref sig .tc := ⟨.hbm, 222, rfl⟩
abbrev main_cst_36 : Ref sig .tc := ⟨.hbm, 223, rfl⟩
abbrev main_v168 : Ref sig .tc := ⟨.hbm, 224, rfl⟩
abbrev main_v169 : Ref sig .tc := ⟨.hbm, 225, rfl⟩
abbrev main_cst_37 : Ref sig .tc := ⟨.hbm, 226, rfl⟩
abbrev main_v170 : Ref sig .tc := ⟨.hbm, 227, rfl⟩
abbrev main_v171 : Ref sig .tc := ⟨.hbm, 228, rfl⟩
abbrev main_cst_38 : Ref sig .tc := ⟨.hbm, 229, rfl⟩
abbrev main_v172 : Ref sig .tc := ⟨.hbm, 230, rfl⟩
abbrev main_v173 : Ref sig .tc := ⟨.hbm, 231, rfl⟩
abbrev main_cst_39 : Ref sig .tc := ⟨.hbm, 232, rfl⟩
abbrev main_v174 : Ref sig .tc := ⟨.hbm, 233, rfl⟩
abbrev main_v175 : Ref sig .tc := ⟨.hbm, 234, rfl⟩
abbrev main_cst_40 : Ref sig .tc := ⟨.hbm, 235, rfl⟩
abbrev main_v176 : Ref sig .tc := ⟨.hbm, 236, rfl⟩
abbrev main_v177 : Ref sig .tc := ⟨.hbm, 237, rfl⟩
abbrev main_cst_41 : Ref sig .tc := ⟨.hbm, 238, rfl⟩
abbrev main_v178 : Ref sig .tc := ⟨.hbm, 239, rfl⟩
abbrev main_v179 : Ref sig .tc := ⟨.hbm, 240, rfl⟩
abbrev main_cst_42 : Ref sig .tc := ⟨.hbm, 241, rfl⟩
abbrev main_v180 : Ref sig .tc := ⟨.hbm, 242, rfl⟩
abbrev main_v181 : Ref sig .tc := ⟨.hbm, 243, rfl⟩
abbrev main_cst_43 : Ref sig .tc := ⟨.hbm, 244, rfl⟩
abbrev main_v182 : Ref sig .tc := ⟨.hbm, 245, rfl⟩
abbrev main_v183 : Ref sig .tc := ⟨.hbm, 246, rfl⟩
abbrev main_v184 : Ref sig .tc := ⟨.hbm, 247, rfl⟩
abbrev main_v185 : Ref sig .tc := ⟨.hbm, 248, rfl⟩
abbrev main_cst_44 : Ref sig .tc := ⟨.hbm, 249, rfl⟩
abbrev main_v186 : Ref sig .tc := ⟨.hbm, 250, rfl⟩
abbrev main_v187 : Ref sig .tc := ⟨.hbm, 251, rfl⟩
abbrev main_v188 : Ref sig .tc := ⟨.hbm, 252, rfl⟩
abbrev main_v189 : Ref sig .tc := ⟨.hbm, 253, rfl⟩
abbrev main_v190 : Ref sig .tc := ⟨.hbm, 254, rfl⟩
abbrev main_v191 : Ref sig .tc := ⟨.hbm, 255, rfl⟩
abbrev main_v192 : Ref sig .tc := ⟨.hbm, 256, rfl⟩
abbrev main_v193 : Ref sig .tc := ⟨.hbm, 257, rfl⟩
abbrev main_v194 : Ref sig .tc := ⟨.hbm, 258, rfl⟩
abbrev main_v195 : Ref sig .tc := ⟨.hbm, 259, rfl⟩

abbrev nD : Nat := 1
abbrev τ : Topo := Topo.v7x

variable {F : FTy → Type} [FloatOps F]
-- ==== Kernel3.lean ====
abbrev S4096x2816 : Shape := ⟨2, ![4096, 2816]⟩
abbrev S2816x1024 : Shape := ⟨2, ![2816, 1024]⟩
abbrev S4096x1024 : Shape := ⟨2, ![4096, 1024]⟩
abbrev S4x704x1024 : Shape := ⟨3, ![4, 704, 1024]⟩
abbrev S8x1x1024 : Shape := ⟨3, ![8, 1, 1024]⟩
abbrev S512x2816 : Shape := ⟨2, ![512, 2816]⟩
abbrev S512x1024 : Shape := ⟨2, ![512, 1024]⟩
abbrev S1x1x1024 : Shape := ⟨3, ![1, 1, 1024]⟩
abbrev S1x4 : Shape := ⟨2, ![1, 4]⟩
abbrev S1x1 : Shape := ⟨2, ![1, 1]⟩
abbrev S_ : Shape := ⟨0, ![]⟩
abbrev S1024 : Shape := ⟨1, ![1024]⟩
abbrev S1x1024 : Shape := ⟨2, ![1, 1024]⟩

abbrev nBuf : Space → Nat
  | .hbm => 11
  | .vmem => 13
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S4096x2816, .bf16⟩
  | .hbm, ⟨5, _⟩ => ⟨S2816x1024, .bf16⟩
  | .hbm, ⟨6, _⟩ => ⟨S4x704x1024, .bf16⟩
  | .hbm, ⟨7, _⟩ => ⟨S2816x1024, .bf16⟩
  | .hbm, ⟨8, _⟩ => ⟨S4096x1024, .f32⟩
  | .hbm, ⟨9, _⟩ => ⟨S4096x1024, .bf16⟩
  | .hbm, ⟨10, _⟩ => ⟨S8x1x1024, .f32⟩
  | .local _ .vmem, ⟨0, _⟩ => ⟨S512x2816, .bf16⟩
  | .local _ .vmem, ⟨1, _⟩ => ⟨S512x2816, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S1x1x1024, .f32⟩
  | .local _ .vmem, ⟨11, _⟩ => ⟨S1x1x1024, .f32⟩
  | .local _ .vmem, ⟨12, _⟩ => ⟨S2816x1024, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩
abbrev S4096 : Shape := ⟨1, ![4096]⟩
abbrev S8x512x1024 : Shape := ⟨3, ![8, 512, 1024]⟩
abbrev S8x1024 : Shape := ⟨2, ![8, 1024]⟩
abbrev S8x1x1024 : Shape := ⟨3, ![8, 1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S4096, .f32⟩
  | .hbm, ⟨27, _⟩ => ⟨S_, .f32⟩
  | .hbm, ⟨28, _⟩ => ⟨S4096, .f32⟩
  | .hbm, ⟨29, _⟩ => ⟨S4096, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S8x512x1024, .f32⟩
  | .hbm, ⟨35, _⟩ => ⟨S_, .f32⟩
  | .hbm, ⟨36, _⟩ => ⟨S8x1024, .f32⟩
  | .hbm, ⟨37, _⟩ => ⟨S8x1x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S4096x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_cst_5 : Ref sig .tc := ⟨.hbm, 23, rfl⟩
abbrev main_cst_6 : Ref sig .tc := ⟨.hbm, 24, rfl⟩
abbrev main_v13 : Ref sig .tc := ⟨.hbm, 25, rfl⟩
abbrev main_v14 : Ref sig .tc := ⟨.hbm, 26, rfl⟩
abbrev main_cst_7 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_8 : Ref sig .tc := ⟨.hbm, 35, rfl⟩
abbrev main_v22 : Ref sig .tc := ⟨.hbm, 36, rfl⟩
abbrev main_v23 : Ref sig .tc := ⟨.hbm, 37, rfl⟩
abbrev main_cst_9 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Kernel4.lean ====
abbrev S4096x2816 : Shape := ⟨2, ![4096, 2816]⟩
abbrev S1024x2816 : Shape := ⟨2, ![1024, 2816]⟩
abbrev S4096x1024 : Shape := ⟨2, ![4096, 1024]⟩
abbrev S1x1024 : Shape := ⟨2, ![1, 1024]⟩
abbrev S2816x1024 : Shape := ⟨2, ![2816, 1024]⟩
abbrev S4x704x1024 : Shape := ⟨3, ![4, 704, 1024]⟩
abbrev S8x1x1024 : Shape := ⟨3, ![8, 1, 1024]⟩
abbrev S512x2816 : Shape := ⟨2, ![512, 2816]⟩
abbrev S512x1024 : Shape := ⟨2, ![512, 1024]⟩
abbrev S1x1x1024 : Shape := ⟨3, ![1, 1, 1024]⟩
abbrev S2x4 : Shape := ⟨2, ![2, 4]⟩
abbrev S1x1 : Shape := ⟨2, ![1, 1]⟩
abbrev S_ : Shape := ⟨0, ![]⟩
abbrev S512 : Shape := ⟨1, ![512]⟩
abbrev S512x1 : Shape := ⟨2, ![512, 1]⟩
abbrev S1024 : Shape := ⟨1, ![1024]⟩

abbrev nBuf : Space → Nat
  | .hbm => 20
  | .vmem => 17
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S1024x2816, .f32⟩
  | .hbm, ⟨3, _⟩ => ⟨S1024x2816, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S2816x1024, .f32⟩
  | .hbm, ⟨8, _⟩ => ⟨S2816x1024, .bf16⟩
  | .hbm, ⟨9, _⟩ => ⟨S2816x1024, .f32⟩
  | .hbm, ⟨10, _⟩ => ⟨S2816x1024, .bf16⟩
  | .hbm, ⟨11, _⟩ => ⟨S4096x2816, .bf16⟩
  | .hbm, ⟨12, _⟩ => ⟨S4096x2816, .bf16⟩
  | .hbm, ⟨13, _⟩ => ⟨S4x704x1024, .bf16⟩
  | .hbm, ⟨14, _⟩ => ⟨S4x704x1024, .bf16⟩
  | .hbm, ⟨15, _⟩ => ⟨S2816x1024, .bf16⟩
  | .hbm, ⟨16, _⟩ => ⟨S2816x1024, .bf16⟩
  | .hbm, ⟨17, _⟩ => ⟨S4096x1024, .f32⟩
  | .hbm, ⟨18, _⟩ => ⟨S4096x1024, .bf16⟩
  | .hbm, ⟨19, _⟩ => ⟨S8x1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1x1024, .f32⟩
  | .local _ .vmem, ⟨14, _⟩ => ⟨S1x1x1024, .f32⟩
  | .local _ .vmem, ⟨15, _⟩ => ⟨S2816x1024, .bf16⟩
  | .local _ .vmem, ⟨16, _⟩ => ⟨S2816x1024, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S4096x2816 : Shape := ⟨2, ![4096, 2816]⟩
abbrev S1024x2816 : Shape := ⟨2, ![1024, 2816]⟩
abbrev S4096x1024 : Shape := ⟨2, ![4096, 1024]⟩
abbrev S1x1024 : Shape := ⟨2, ![1, 1024]⟩
abbrev S8x1x1024 : Shape := ⟨3, ![8, 1, 1024]⟩
abbrev S_ : Shape := ⟨0, ![]⟩
abbrev S4096 : Shape := ⟨1, ![4096]⟩
abbrev S4096x1 : Shape := ⟨2, ![4096, 1]⟩
abbrev S8x512x1024 : Shape := ⟨3, ![8, 512, 1024]⟩
abbrev S8x1024 : Shape := ⟨2, ![8, 1024]⟩

abbrev nBuf : Space → Nat
  | .hbm => 61
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S1024x2816, .f32⟩
  | .hbm, ⟨3, _⟩ => ⟨S1024x2816, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S8x1x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S8x512x1024, .f32⟩
  | .hbm, ⟨26, _⟩ => ⟨S8x512x1024, .f32⟩
  | .hbm, ⟨27, _⟩ => ⟨S8x512x1024, .f32⟩
  | .hbm, ⟨28, _⟩ => ⟨S4096x1024, .f32⟩
  | .hbm, ⟨29, _⟩ => ⟨S4096x2816, .f32⟩
  | .hbm, ⟨30, _⟩ => ⟨S4096x2816, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S8x512x1024, .f32⟩
  | .hbm, ⟨35, _⟩ => ⟨S8x512x1024, .f32⟩
  | .hbm, ⟨36, _⟩ => ⟨S_, .f32⟩
  | .hbm, ⟨37, _⟩ => ⟨S8x1024, .f32⟩
  | .hbm, ⟨38, _⟩ => ⟨S8x1x1024, .f32⟩
  | .hbm, ⟨39, _⟩ => ⟨S8x512x1024, .f32⟩
  | .hbm, ⟨40, _⟩ => ⟨S8x512x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S_, .f32⟩
  | .hbm, ⟨53, _⟩ => ⟨S4096, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== Kernel5.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S_ : Shape := ⟨0, ![]⟩
abbrev S512x1024 : Shape := ⟨2, ![512, 1024]⟩
abbrev S512x2816 : Shape := ⟨2, ![512, 2816]⟩
abbrev S1x4 : Shape := ⟨2, ![1, 4]⟩
abbrev S1x1 : Shape := ⟨2, ![1, 1]⟩
abbrev S768x1024 : Shape := ⟨2, ![768, 1024]⟩
abbrev S512x768 : Shape := ⟨2, ![512, 768]⟩
abbrev S512x512 : Shape := ⟨2, ![512, 512]⟩

abbrev nBuf : Space → Nat
  | .hbm => 42
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S_, .f32⟩
  | .hbm, ⟨19, _⟩ => ⟨S4096x2816, .f32⟩
  | .hbm, ⟨20, _⟩ => ⟨S4096x2816, .f32⟩
  | .hbm, ⟨21, _⟩ => ⟨S_, .f32⟩
  | .hbm, ⟨22, _⟩ => ⟨S4096x2816, .f32⟩
  | .hbm, ⟨23, _⟩ => ⟨S4096x2816, .f32⟩
  | .hbm, ⟨24, _⟩ => ⟨S_, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S4096x1024, .bf16⟩
  | .hbm, ⟨37, _⟩ => ⟨S2816x1024, .bf16⟩
  | .hbm, ⟨38, _⟩ => ⟨S4096x2816, .bf16⟩
  | .hbm, ⟨39, _⟩ => ⟨S4096x2816, .bf16⟩
  | .hbm, ⟨40, _⟩ => ⟨S4096x2816, .bf16⟩
  | .hbm, ⟨41, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S512x2816, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | .local _ .vmem, ⟨10, _⟩ => ⟨S2816x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22_0 : Ref sig .tc := ⟨.hbm, 40, rfl⟩
abbrev main_v22_1 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .bf16⟩
  | .hbm, ⟨36, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩

abbrev nD : Nat := 1
abbrev τ : Topo := Topo.v7x

variable {F : FTy → Type} [FloatOps F]
-- ==== Kernel6.lean ====
abbrev S2x2048x512 : Shape := ⟨3, ![2, 2048, 512]⟩
abbrev S8x257 : Shape := ⟨2, ![8, 257]⟩
abbrev S_ : Shape := ⟨0, ![]⟩
abbrev S2x512x512 : Shape := ⟨3, ![2, 512, 512]⟩
abbrev S2x2560x512 : Shape := ⟨3, ![2, 2560, 512]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S8x64x768 : Shape := ⟨3, ![8, 64, 768]⟩
abbrev S8x256x768 : Shape := ⟨3, ![8, 256, 768]⟩
abbrev S1x1024x128 : Shape := ⟨3, ![1, 1024, 128]⟩
abbrev S1x2560x128 : Shape := ⟨3, ![1, 2560, 128]⟩
abbrev S2x256x768 : Shape := ⟨3, ![2, 256, 768]⟩
abbrev S1x128 : Shape := ⟨2, ![1, 128]⟩
abbrev S1x768x128 : Shape := ⟨3, ![1, 768, 128]⟩
abbrev S768x128 : Shape := ⟨2, ![768, 128]⟩
abbrev S1x256x128 : Shape := ⟨3, ![1, 256, 128]⟩
abbrev S256x128 : Shape := ⟨2, ![256, 128]⟩
abbrev S1x256x768 : Shape := ⟨3, ![1, 256, 768]⟩
abbrev S256x768 : Shape := ⟨2, ![256, 768]⟩
abbrev S256 : Shape := ⟨1, ![256]⟩
abbrev S256x1 : Shape := ⟨2, ![256, 1]⟩

abbrev nBuf : Space → Nat
  | .hbm => 55
  | .vmem => 10
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S2x2048x512, .f32⟩
  | .hbm, ⟨3, _⟩ => ⟨S8x257, .f32⟩
  | .hbm, ⟨4, _⟩ => ⟨S2x2048x512, .bf16⟩
  | .hbm, ⟨5, _⟩ => ⟨S_, .bf16⟩
  | .hbm, ⟨6, _⟩ => ⟨S2x512x512, .bf16⟩
  | .hbm, ⟨7, _⟩ => ⟨S2x2048x512, .bf16⟩
  | .hbm, ⟨8, _⟩ => ⟨S2x2560x512, .bf16⟩
  | .hbm, ⟨9, _⟩ => ⟨S2x2048x512, .bf16⟩
  | .hbm, ⟨10, _⟩ => ⟨S2x2560x512, .bf16⟩
  | .hbm, ⟨11, _⟩ => ⟨S64, .i32⟩
  | .hbm, ⟨12, _⟩ => ⟨S64x1, .i32⟩
  | .hbm, ⟨13, _⟩ => ⟨S_, .i32⟩
  | .hbm, ⟨14, _⟩ => ⟨S64x1, .i32⟩
  | .hbm, ⟨15, _⟩ => ⟨S64x1, .i32⟩
  | .hbm, ⟨16, _⟩ => ⟨S576, .i32⟩
  | .hbm, ⟨17, _⟩ => ⟨S1x576, .i32⟩
  | .hbm, ⟨18, _⟩ => ⟨S64x576, .i32⟩
  | .hbm, ⟨19, _⟩ => ⟨S64x576, .i32⟩
  | .hbm, ⟨20, _⟩ => ⟨S64x576, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S64x576, .i32⟩
  | .hbm, ⟨25, _⟩ => ⟨S64x576, .i32⟩
  | .hbm, ⟨26, _⟩ => ⟨S_, .i32⟩
  | .hbm, ⟨27, _⟩ => ⟨S64x576, .i32⟩
  | .hbm, ⟨28, _⟩ => ⟨S64x576, .i32⟩
  | .hbm, ⟨29, _⟩ => ⟨S_, .i32⟩
  | .hbm, ⟨30, _⟩ => ⟨S64x576, .i32⟩
  | .hbm, ⟨31, _⟩ => ⟨S64x576, .i32⟩
  | .hbm, ⟨32, _⟩ => ⟨S_, .i32⟩
  | .hbm, ⟨33, _⟩ => ⟨S64x576, .i32⟩
  | .hbm, ⟨34, _⟩ => ⟨S64x576, .i1⟩
  | .hbm, ⟨35, _⟩ => ⟨S_, .i32⟩
  | .hbm, ⟨36, _⟩ => ⟨S64x576, .i32⟩
  | .hbm, ⟨37, _⟩ => ⟨S64x576, .i32⟩
  | .hbm, ⟨38, _⟩ => ⟨S64x576, .i32⟩
  | .hbm, ⟨39, _⟩ => ⟨S64x576x1, .i32⟩
  | .hbm, ⟨40, _⟩ => ⟨S8x64x576, .f32⟩
  | .hbm, ⟨41, _⟩ => ⟨S_, .f32⟩
  | .hbm, ⟨42, _⟩ => ⟨S_, .f32⟩
  | .hbm, ⟨43, _⟩ => ⟨S8x64x768, .f32⟩
  | .hbm, ⟨44, _⟩ => ⟨S_, .f32⟩
  | .hbm, ⟨45, _⟩ => ⟨S_, .f32⟩
  | .hbm, ⟨46, _⟩ => ⟨S8x64x768, .f32⟩
  | .hbm, ⟨47, _⟩ => ⟨S_, .f32⟩
  | .hbm, ⟨48, _⟩ => ⟨S_, .f32⟩
  | .hbm, ⟨49, _⟩ => ⟨S8x64x768, .f32⟩
  | .hbm, ⟨50, _⟩ => ⟨S_, .f32⟩
  | .hbm, ⟨51, _⟩ => ⟨S_, .f32⟩
  | .hbm, ⟨52, _⟩ => ⟨S8x64x768, .f32⟩
  | .hbm, ⟨53, _⟩ => ⟨S8x256x768, .f32⟩
  | .hbm, ⟨54, _⟩ => ⟨S2x2048x512, .bf16⟩
  | .local _ .vmem, ⟨0, _⟩ => ⟨S1x1024x128, .bf16⟩
  | .local _ .vmem, ⟨1, _⟩ => ⟨S1x1024x128, .bf16⟩
  | .local _ .vmem, ⟨2, _⟩ => ⟨S1x2560x128, .bf16⟩
  | .local _ .vmem, ⟨3, _⟩ => ⟨S1x2560x128, .bf16⟩
  | .local _ .vmem, ⟨4, _⟩ => ⟨S1x2560x128, .bf16⟩
  | .local _ .vmem, ⟨5, _⟩ => ⟨S1x2560x128, .bf16⟩
  | .local _ .vmem, ⟨6, _⟩ => ⟨S2x256x768, .f32⟩
  | .local _ .vmem, ⟨7, _⟩ => ⟨S2x256x768, .f32⟩
  | .local _ .vmem, ⟨8, _⟩ => ⟨S1x1024x128, .bf16⟩
  | .local _ .vmem, ⟨9, _⟩ => ⟨S1x1024x128, .bf16⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_0 : Ref sig .tc := ⟨.hbm, 21, rfl⟩
abbrev main_c_1 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_call1_v0 : Ref sig .tc := ⟨.hbm, 42, rfl⟩
abbrev main_v25 : Ref sig .tc := ⟨.hbm, 43, rfl⟩
abbrev main_cst_6 : Ref sig .tc := ⟨.hbm, 44, rfl⟩
abbrev main_call2_v0 : Ref sig .tc := ⟨.hbm, 45, rfl⟩
abbrev main_v26 : Ref sig .tc := ⟨.hbm, 46, rfl⟩
abbrev main_cst_7 : Ref sig .tc := ⟨.hbm, 47, rfl⟩
abbrev main_call3_v0 : Ref sig .tc := ⟨.hbm, 48, rfl⟩
abbrev main_v27 : Ref sig .tc := ⟨.hbm, 49, rfl⟩
abbrev main_cst_8 : Ref sig .tc := ⟨.hbm, 50, rfl⟩
abbrev main_call4_v0 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 2], ![false, false, false]⟩

def k0_mult1 (i : grid0.Coords) : BitVec 32 :=
  let arg2 : BitVec 32 := BitVec.ofNat 32 (i 2).val
  let c4_i32 : BitVec 32 := 4#32
  let v6 : BitVec 32 := Scalar.muli arg2 c4_i32
  let c0_i32 : BitVec 32 := 0#32
  let v7 : BitVec 32 := Scalar.addi v6 c0_i32
  let c256_i32 : BitVec 32 := 256#32
  let v8 : BitVec 32 := Scalar.muli v7 c256_i32
  v8
def k0_mult2 (i : grid0.Coords) : BitVec 32 :=
  let arg2 : BitVec 32 := BitVec.ofNat 32 (i 2).val
  let c4_i32_1 : BitVec 32 := 4#32
  let v10 : BitVec 32 := Scalar.muli arg2 c4_i32_1
  let c1_i32 : BitVec 32 := 1#32
  let v11 : BitVec 32 := Scalar.addi v10 c1_i32
  let c256_i32_2 : BitVec 32 := 256#32
  let v12 : BitVec 32 := Scalar.muli v11 c256_i32_2
  v12
def k0_mult3 (i : grid0.Coords) : BitVec 32 :=
  let arg2 : BitVec 32 := BitVec.ofNat 32 (i 2).val
  let c4_i32_3 : BitVec 32 := 4#32
  let v14 : BitVec 32 := Scalar.muli arg2 c4_i32_3
  let c2_i32 : BitVec 32 := 2#32
  let v15 : BitVec 32 := Scalar.addi v14 c2_i32
  let c256_i32_4 : BitVec 32 := 256#32
  let v16 : BitVec 32 := Scalar.muli v15 c256_i32_4
  v16
def k0_mult4 (i : grid0.Coords) : BitVec 32 :=
  let arg2 : BitVec 32 := BitVec.ofNat 32 (i 2).val
  let c4_i32_5 : BitVec 32 := 4#32
  let v18 : BitVec 32 := Scalar.muli arg2 c4_i32_5
  let c3_i32 : BitVec 32 := 3#32
  let v19 : BitVec 32 := Scalar.addi v18 c3_i32
  let c256_i32_6 : BitVec 32 := 256#32
  let v20 : BitVec 32 := Scalar.muli v19 c256_i32_6
  v20
def k0_off1 (i : grid0.Coords) (c0_i32 : BitVec 32) : Fin 3 → Nat :=
  let c0 : Index := 0#32
  let arg2 : BitVec 32 := BitVec.ofNat 32 (i 2).val
  let c4_i32 : BitVec 32 := 4#32
  let v6 : BitVec 32 := Scalar.muli arg2 c4_i32
  let v7 : BitVec 32 := Scalar.addi v6 c0_i32
  let c256_i32 : BitVec 32 := 256#32
  let v8 : BitVec 32 := Scalar.muli v7 c256_i32
  let v9 : BitVec 32 := v8
  let v22 : Index := Scalar.indexCast v9
  let c0_7 : Index := 0#32
  ![0, v22.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2560x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2560x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Kernel6Ideal.lean ====
variable {F : FTy → Type} [FloatOps F] [Named F]
def κ : String → Option EReal := fun
  | "mask" => some ⊥
  | _ => none
-- ==== Reference6Ideal.lean ====
abbrev S2x2048x512 : Shape := ⟨3, ![2, 2048, 512]⟩
abbrev S8x257 : Shape := ⟨2, ![8, 257]⟩
abbrev S_ : Shape := ⟨0, ![]⟩
abbrev S2x512x8x64 : Shape := ⟨4, ![2, 512, 8, 64]⟩
abbrev S2x2048x8x64 : Shape := ⟨4, ![2, 2048, 8, 64]⟩
abbrev S2x2560x8x64 : Shape := ⟨4, ![2, 2560, 8, 64]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S32 : Shape := ⟨1, ![32]⟩
abbrev S32x1 : Shape := ⟨2, ![32, 1]⟩
abbrev S32x576 : Shape := ⟨2, ![32, 576]⟩
abbrev S2x32x64x8x64 : Shape := ⟨5, ![2, 32, 64, 8, 64]⟩
abbrev S2x40x64x8x64 : Shape := ⟨5, ![2, 40, 64, 8, 64]⟩
abbrev S2x32x576x8x64 : Shape := ⟨5, ![2, 32, 576, 8, 64]⟩
abbrev S2x32x8x64x576 : Shape := ⟨5, ![2, 32, 8, 64, 576]⟩
abbrev S1x1x8x64x576 : Shape := ⟨5, ![1, 1, 8, 64, 576]⟩
abbrev S1x32x1x1x576 : Shape := ⟨5, ![1, 32, 1, 1, 576]⟩
abbrev S2x32x8x64 : Shape := ⟨4, ![2, 32, 8, 64]⟩
abbrev S2x32x8x64x1 : Shape := ⟨5, ![2, 32, 8, 64, 1]⟩
abbrev S2x32x8x64x64 : Shape := ⟨5, ![2, 32, 8, 64, 64]⟩

abbrev nBuf : Space → Nat
  | .hbm => 108
  | .vmem => 0
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S2x2048x512, .f32⟩
  | .hbm, ⟨3, _⟩ => ⟨S8x257, .f32⟩
  | .hbm, ⟨4, _⟩ => ⟨S_, .f32⟩
  | .hbm, ⟨5, _⟩ => ⟨S2x512x8x64, .f32⟩
  | .hbm, ⟨6, _⟩ => ⟨S2x2048x8x64, .f32⟩
  | .hbm, ⟨7, _⟩ => ⟨S2x2560x8x64, .f32⟩
  | .hbm, ⟨8, _⟩ => ⟨S2x2048x8x64, .f32⟩
  | .hbm, ⟨9, _⟩ => ⟨S2x2560x8x64, .f32⟩
  | .hbm, ⟨10, _⟩ => ⟨S64, .i32⟩
  | .hbm, ⟨11, _⟩ => ⟨S64x1, .i32⟩
  | .hbm, ⟨12, _⟩ => ⟨S_, .i32⟩
  | .hbm, ⟨13, _⟩ => ⟨S64x1, .i32⟩
  | .hbm, ⟨14, _⟩ => ⟨S64x1, .i32⟩
  | .hbm, ⟨15, _⟩ => ⟨S576, .i32⟩
  | .hbm, ⟨16, _⟩ => ⟨S1x576, .i32⟩
  | .hbm, ⟨17, _⟩ => ⟨S64x576, .i32⟩
  | .hbm, ⟨18, _⟩ => ⟨S64x576, .i32⟩
  | .hbm, ⟨19, _⟩ => ⟨S64x576, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S64x576, .i32⟩
  | .hbm, ⟨24, _⟩ => ⟨S64x576, .i32⟩
  | .hbm, ⟨25, _⟩ => ⟨S_, .i32⟩
  | .hbm, ⟨26, _⟩ => ⟨S64x576, .i32⟩
  | .hbm, ⟨27, _⟩ => ⟨S64x576, .i32⟩
  | .hbm, ⟨28, _⟩ => ⟨S_, .i32⟩
  | .hbm, ⟨29, _⟩ => ⟨S64x576, .i32⟩
  | .hbm, ⟨30, _⟩ => ⟨S64x576, .i32⟩
  | .hbm, ⟨31, _⟩ => ⟨S_, .i32⟩
  | .hbm, ⟨32, _⟩ => ⟨S64x576, .i32⟩
  | .hbm, ⟨33, _⟩ => ⟨S64x576, .i1⟩
  | .hbm, ⟨34, _⟩ => ⟨S_, .i32⟩
  | .hbm, ⟨35, _⟩ => ⟨S64x576, .i32⟩
  | .hbm, ⟨36, _⟩ => ⟨S64x576, .i32⟩
  | .hbm, ⟨37, _⟩ => ⟨S64x576, .i32⟩
  | .hbm, ⟨38, _⟩ => ⟨S64x576x1, .i32⟩
  | .hbm, ⟨39, _⟩ => ⟨S8x64x576, .f32⟩
  | .hbm, ⟨40, _⟩ => ⟨S32, .i32⟩
  | .hbm, ⟨41, _⟩ => ⟨S32x1, .i32⟩
  | .hbm, ⟨42, _⟩ => ⟨S_, .i32⟩
  | .hbm, ⟨43, _⟩ => ⟨S32x1, .i32⟩
  | .hbm, ⟨44, _⟩ => ⟨S32x1, .i32⟩
  | .hbm, ⟨45, _⟩ => ⟨S_, .i32⟩
  | .hbm, ⟨46, _⟩ => ⟨S32x1, .i32⟩
  | .hbm, ⟨47, _⟩ => ⟨S32x1, .i32⟩
  | .hbm, ⟨48, _⟩ => ⟨S32x576, .i32⟩
  | .hbm, ⟨49, _⟩ => ⟨S32x576, .i32⟩
  | .hbm, ⟨50, _⟩ => ⟨S32x576, .i32⟩
  | .hbm, ⟨51, _⟩ => ⟨S2x32x64x8x64, .f32⟩
  | .hbm, ⟨52, _⟩ => ⟨S2x40x64x8x64, .f32⟩
  | .hbm, ⟨53, _⟩ => ⟨S2x32x64x8x64, .f32⟩
  | .hbm, ⟨54, _⟩ => ⟨S2x32x64x8x64, .f32⟩
  | .hbm, ⟨55, _⟩ => ⟨S2x32x64x8x64, .f32⟩
  | .hbm, ⟨56, _⟩ => ⟨S2x32x64x8x64, .f32⟩
  | .hbm, ⟨57, _⟩ => ⟨S2x32x64x8x64, .f32⟩
  | .hbm, ⟨58, _⟩ => ⟨S2x32x64x8x64, .f32⟩
  | .hbm, ⟨59, _⟩ => ⟨S2x32x64x8x64, .f32⟩
  | .hbm, ⟨60, _⟩ => ⟨S2x32x64x8x64, .f32⟩
  | .hbm, ⟨61, _⟩ => ⟨S2x32x64x8x64, .f32⟩
  | .hbm, ⟨62, _⟩ => ⟨S2x32x576x8x64, .f32⟩
  | .hbm, ⟨63, _⟩ => ⟨S2x32x8x64x576, .f32⟩
  | .hbm, ⟨64, _⟩ => ⟨S_, .f32⟩
  | .hbm, ⟨65, _⟩ => ⟨S2x32x8x64x576, .f32⟩
  | .hbm, ⟨66, _⟩ => ⟨S2x32x8x64x576, .f32⟩
  | .hbm, ⟨67, _⟩ => ⟨S1x1x8x64x576, .f32⟩
  | .hbm, ⟨68, _⟩ => ⟨S2x32x8x64x576, .f32⟩
  | .hbm, ⟨69, _⟩ => ⟨S2x32x8x64x576, .f32⟩
  | .hbm, ⟨70, _⟩ => ⟨S_, .i32⟩
  | .hbm, ⟨71, _⟩ => ⟨S32x576, .i32⟩
  | .hbm, ⟨72, _⟩ => ⟨S32x576, .i1⟩
  | .hbm, ⟨73, _⟩ => ⟨S1x32x1x1x576, .i1⟩
  | .hbm, ⟨74, _⟩ => ⟨S_, .f32⟩
  | .hbm, ⟨75, _⟩ => ⟨S_, .f32⟩
  | .hbm, ⟨76, _⟩ => ⟨S2x32x8x64x576, .i1⟩
  | .hbm, ⟨77, _⟩ => ⟨S2x32x8x64x576, .f32⟩
  | .hbm, ⟨78, _⟩ => ⟨S2x32x8x64x576, .f32⟩
  | .hbm, ⟨79, _⟩ => ⟨S_, .f32⟩
  | .hbm, ⟨80, _⟩ => ⟨S2x32x8x64, .f32⟩
  | .hbm, ⟨81, _⟩ => ⟨S_, .f32⟩
  | .hbm, ⟨82, _⟩ => ⟨S2x32x8x64, .f32⟩
  | .hbm, ⟨83, _⟩ => ⟨S2x32x8x64, .f32⟩
  | .hbm, ⟨84, _⟩ => ⟨S2x32x8x64x1, .f32⟩
  | .hbm, ⟨85, _⟩ => ⟨S2x32x8x64x576, .f32⟩
  | .hbm, ⟨86, _⟩ => ⟨S2x32x8x64x576, .f32⟩
  | .hbm, ⟨87, _⟩ => ⟨S2x32x8x64x576, .f32⟩
  | .hbm, ⟨88, _⟩ => ⟨S_, .f32⟩
  | .hbm, ⟨89, _⟩ => ⟨S2x32x8x64, .f32⟩
  | .hbm, ⟨90, _⟩ => ⟨S2x32x8x64x1, .f32⟩
  | .hbm, ⟨91, _⟩ => ⟨S2x32x8x64x576, .f32⟩
  | .hbm, ⟨92, _⟩ => ⟨S2x32x8x64x576, .f32⟩
  | .hbm, ⟨93, _⟩ => ⟨S2x40x64x8x64, .f32⟩
  | .hbm, ⟨94, _⟩ => ⟨S2x32x64x8x64, .f32⟩
  | .hbm, ⟨95, _⟩ => ⟨S2x32x64x8x64, .f32⟩
  | .hbm, ⟨96, _⟩ => ⟨S2x32x64x8x64, .f32⟩
  | .hbm, ⟨97, _⟩ => ⟨S2x32x64x8x64, .f32⟩
  | .hbm, ⟨98, _⟩ => ⟨S2x32x64x8x64, .f32⟩
  | .hbm, ⟨99, _⟩ => ⟨S2x32x64x8x64, .f32⟩
  | .hbm, ⟨100, _⟩ => ⟨S2x32x64x8x64, .f32⟩
  | .hbm, ⟨101, _⟩ => ⟨S2x32x64x8x64, .f32⟩
  | .hbm, ⟨102, _⟩ => ⟨S2x32x64x8x64, .f32⟩
  | .hbm, ⟨103, _⟩ => ⟨S2x32x576x8x64, .f32⟩
  | .hbm, ⟨104, _⟩ => ⟨S2x32x8x64x64, .f32⟩
  | .hbm, ⟨105, _⟩ => ⟨S2x32x64x8x64, .f32⟩
  | .hbm, ⟨106, _⟩ => ⟨S2x2048x512, .f32⟩
  | .hbm, ⟨107, _⟩ => ⟨S2x2048x512, .bf16⟩
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_0 : Ref sig .tc := ⟨.hbm, 20, rfl⟩
abbrev main_c_1 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_7 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_8 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_9 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_v54 : Ref sig .tc := ⟨.hbm, 78, rfl⟩
abbrev main_cst_10 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_12 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩

abbrev nD : Nat := 1
abbrev τ : Topo := Topo.v7x

variable {F : FTy → Type} [FloatOps F]
-- ==== Kernel7.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel8.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S4x704x1024 : Shape := ⟨3, ![4, 704, 1024]⟩
abbrev S512x2816 : Shape := ⟨2, ![512, 2816]⟩
abbrev S512x1024 : Shape := ⟨2, ![512, 1024]⟩
abbrev S1x4 : Shape := ⟨2, ![1, 4]⟩
abbrev S1x1 : Shape := ⟨2, ![1, 1]⟩
abbrev S_ : Shape := ⟨0, ![]⟩
abbrev S512 : Shape := ⟨1, ![512]⟩
abbrev S512x1 : Shape := ⟨2, ![512, 1]⟩

abbrev nBuf : Space → Nat
  | .hbm => 10
  | .vmem => 10
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S4096x2816, .bf16⟩
  | .hbm, ⟨5, _⟩ => ⟨S2816x1024, .bf16⟩
  | .hbm, ⟨6, _⟩ => ⟨S4x704x1024, .bf16⟩
  | .hbm, ⟨7, _⟩ => ⟨S2816x1024, .bf16⟩
  | .hbm, ⟨8, _⟩ => ⟨S4096x1024, .f32⟩
  | .hbm, ⟨9, _⟩ => ⟨S4096x1024, .bf16⟩
  | .local _ .vmem, ⟨0, _⟩ => ⟨S512x2816, .bf16⟩
  | .local _ .vmem, ⟨1, _⟩ => ⟨S512x2816, .bf16⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S2816x1024, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference8Ideal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 25
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Kernel9.lean ====
abbrev S4096x1024 : Shape := ⟨2, ![4096, 1024]⟩
abbrev S1024x2816 : Shape := ⟨2, ![1024, 2816]⟩
abbrev S2816x1024 : Shape := ⟨2, ![2816, 1024]⟩
abbrev S4x704x1024 : Shape := ⟨3, ![4, 704, 1024]⟩
abbrev S4096x2816 : Shape := ⟨2, ![4096, 2816]⟩
abbrev S512x1024 : Shape := ⟨2, ![512, 1024]⟩
abbrev S512x2816 : Shape := ⟨2, ![512, 2816]⟩
abbrev S2x4 : Shape := ⟨2, ![2, 4]⟩
abbrev S1x1 : Shape := ⟨2, ![1, 1]⟩
abbrev S_ : Shape := ⟨0, ![]⟩
abbrev S768x1024 : Shape := ⟨2, ![768, 1024]⟩
abbrev S512x768 : Shape := ⟨2, ![512, 768]⟩
abbrev S512x512 : Shape := ⟨2, ![512, 512]⟩

abbrev nBuf : Space → Nat
  | .hbm => 15
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S4096x1024, .bf16⟩
  | .hbm, ⟨4, _⟩ => ⟨S2816x1024, .f32⟩
  | .hbm, ⟨5, _⟩ => ⟨S2816x1024, .bf16⟩
  | .hbm, ⟨6, _⟩ => ⟨S4x704x1024, .bf16⟩
  | .hbm, ⟨7, _⟩ => ⟨S2816x1024, .f32⟩
  | .hbm, ⟨8, _⟩ => ⟨S2816x1024, .bf16⟩
  | .hbm, ⟨9, _⟩ => ⟨S4x704x1024, .bf16⟩
  | .hbm, ⟨10, _⟩ => ⟨S2816x1024, .bf16⟩
  | .hbm, ⟨11, _⟩ => ⟨S2816x1024, .bf16⟩
  | .hbm, ⟨12, _⟩ => ⟨S4096x2816, .bf16⟩
  | .hbm, ⟨13, _⟩ => ⟨S4096x2816, .bf16⟩
  | .hbm, ⟨14, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S512x2816, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S2816x1024, .bf16⟩
  | .local _ .vmem, ⟨9, _⟩ => ⟨S2816x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev main_v9_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference9Ideal.lean ====
abbrev S4096x1024 : Shape := ⟨2, ![4096, 1024]⟩
abbrev S1024x2816 : Shape := ⟨2, ![1024, 2816]⟩
abbrev S4096x2816 : Shape := ⟨2, ![4096, 2816]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .bf16⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .bf16⟩
  | .hbm, ⟨24, _⟩ => ⟨S4096x2816, .f32⟩
  | .hbm, ⟨25, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩

abbrev nD : Nat := 1
abbrev τ : Topo := Topo.v7x

variable {F : FTy → Type} [FloatOps F]
-- ==== Kernel10.lean ====
abbrev S4096x2816 : Shape := ⟨2, ![4096, 2816]⟩
abbrev S1024x2816 : Shape := ⟨2, ![1024, 2816]⟩
abbrev S4096x1024 : Shape := ⟨2, ![4096, 1024]⟩
abbrev S1x1024 : Shape := ⟨2, ![1, 1024]⟩
abbrev S2816x1024 : Shape := ⟨2, ![2816, 1024]⟩
abbrev S4x704x1024 : Shape := ⟨3, ![4, 704, 1024]⟩
abbrev S8x1x1024 : Shape := ⟨3, ![8, 1, 1024]⟩
abbrev S512x2816 : Shape := ⟨2, ![512, 2816]⟩
abbrev S512x1024 : Shape := ⟨2, ![512, 1024]⟩
abbrev S1x1x1024 : Shape := ⟨3, ![1, 1, 1024]⟩
abbrev S2x4 : Shape := ⟨2, ![2, 4]⟩
abbrev S1x1 : Shape := ⟨2, ![1, 1]⟩
abbrev S_ : Shape := ⟨0, ![]⟩
abbrev S512 : Shape := ⟨1, ![512]⟩
abbrev S512x1 : Shape := ⟨2, ![512, 1]⟩
abbrev S1024 : Shape := ⟨1, ![1024]⟩

abbrev nBuf : Space → Nat
  | .hbm => 19
  | .vmem => 15
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S1024x2816, .f32⟩
  | .hbm, ⟨3, _⟩ => ⟨S1024x2816, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S2816x1024, .f32⟩
  | .hbm, ⟨8, _⟩ => ⟨S2816x1024, .bf16⟩
  | .hbm, ⟨9, _⟩ => ⟨S2816x1024, .f32⟩
  | .hbm, ⟨10, _⟩ => ⟨S2816x1024, .bf16⟩
  | .hbm, ⟨11, _⟩ => ⟨S4096x2816, .bf16⟩
  | .hbm, ⟨12, _⟩ => ⟨S4096x2816, .bf16⟩
  | .hbm, ⟨13, _⟩ => ⟨S4x704x1024, .bf16⟩
  | .hbm, ⟨14, _⟩ => ⟨S4x704x1024, .bf16⟩
  | .hbm, ⟨15, _⟩ => ⟨S2816x1024, .bf16⟩
  | .hbm, ⟨16, _⟩ => ⟨S2816x1024, .bf16⟩
  | .hbm, ⟨17, _⟩ => ⟨S4096x1024, .f32⟩
  | .hbm, ⟨18, _⟩ => ⟨S8x1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1x1024, .f32⟩
  | .local _ .vmem, ⟨12, _⟩ => ⟨S1x1x1024, .f32⟩
  | .local _ .vmem, ⟨13, _⟩ => ⟨S2816x1024, .bf16⟩
  | .local _ .vmem, ⟨14, _⟩ => ⟨S2816x1024, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference10Ideal.lean ====
abbrev S4096x2816 : Shape := ⟨2, ![4096, 2816]⟩
abbrev S1024x2816 : Shape := ⟨2, ![1024, 2816]⟩
abbrev S4096x1024 : Shape := ⟨2, ![4096, 1024]⟩
abbrev S1x1024 : Shape := ⟨2, ![1, 1024]⟩
abbrev S8x1x1024 : Shape := ⟨3, ![8, 1, 1024]⟩
abbrev S_ : Shape := ⟨0, ![]⟩
abbrev S4096 : Shape := ⟨1, ![4096]⟩
abbrev S4096x1 : Shape := ⟨2, ![4096, 1]⟩
abbrev S8x512x1024 : Shape := ⟨3, ![8, 512, 1024]⟩
abbrev S8x1024 : Shape := ⟨2, ![8, 1024]⟩

abbrev nBuf : Space → Nat
  | .hbm => 60
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S1024x2816, .f32⟩
  | .hbm, ⟨3, _⟩ => ⟨S1024x2816, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S8x1x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S8x512x1024, .f32⟩
  | .hbm, ⟨26, _⟩ => ⟨S8x512x1024, .f32⟩
  | .hbm, ⟨27, _⟩ => ⟨S8x512x1024, .f32⟩
  | .hbm, ⟨28, _⟩ => ⟨S4096x1024, .f32⟩
  | .hbm, ⟨29, _⟩ => ⟨S4096x2816, .f32⟩
  | .hbm, ⟨30, _⟩ => ⟨S4096x2816, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S8x512x1024, .f32⟩
  | .hbm, ⟨35, _⟩ => ⟨S8x512x1024, .f32⟩
  | .hbm, ⟨36, _⟩ => ⟨S_, .f32⟩
  | .hbm, ⟨37, _⟩ => ⟨S8x1024, .f32⟩
  | .hbm, ⟨38, _⟩ => ⟨S8x1x1024, .f32⟩
  | .hbm, ⟨39, _⟩ => ⟨S8x512x1024, .f32⟩
  | .hbm, ⟨40, _⟩ => ⟨S8x512x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S_, .f32⟩
  | .hbm, ⟨53, _⟩ => ⟨S4096, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Kernel11.lean ====
abbrev S2x2048x3584 : Shape := ⟨3, ![2, 2048, 3584]⟩
abbrev S1x64 : Shape := ⟨2, ![1, 64]⟩
abbrev S1x1x1x64 : Shape := ⟨4, ![1, 1, 1, 64]⟩
abbrev S1x1x8x64 : Shape := ⟨4, ![1, 1, 8, 64]⟩
abbrev S1x512 : Shape := ⟨2, ![1, 512]⟩
abbrev S2x2048x512 : Shape := ⟨3, ![2, 2048, 512]⟩
abbrev S2x2560x512 : Shape := ⟨3, ![2, 2560, 512]⟩
abbrev S1x512x512 : Shape := ⟨3, ![1, 512, 512]⟩
abbrev S512x512 : Shape := ⟨2, ![512, 512]⟩

abbrev nBuf : Space → Nat
  | .hbm => 12
  | .vmem => 14
  | .smem => 0
  | _ => 0

abbrev bufTy : (tb : Table) → Fin (tcTables nBuf tb) → BufTy
  | .hbm, ⟨0, _⟩ => ⟨S2x2048x3584, .f32⟩
  | .hbm, ⟨1, _⟩ => ⟨S1x64, .f32⟩
  | .hbm, ⟨2, _⟩ => ⟨S1x64, .f32⟩
  | .hbm, ⟨3, _⟩ => ⟨S1x1x1x64, .f32⟩
  | .hbm, ⟨4, _⟩ => ⟨S1x1x8x64, .f32⟩
  | .hbm, ⟨5, _⟩ => ⟨S1x512, .f32⟩
  | .hbm, ⟨6, _⟩ => ⟨S1x1x1x64, .f32⟩
  | .hbm, ⟨7, _⟩ => ⟨S1x1x8x64, .f32⟩
  | .hbm, ⟨8, _⟩ => ⟨S1x512, .f32⟩
  | .hbm, ⟨9, _⟩ => ⟨S2x2048x512, .bf16⟩
  | .hbm, ⟨10, _⟩ => ⟨S2x2560x512, .bf16⟩
  | .hbm, ⟨11, _⟩ => ⟨S2x2560x512, .bf16⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512, .f32⟩
  | .local _ .vmem, ⟨7, _⟩ => ⟨S1x512, .f32⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | _, _ => ⟨S2x2048x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 5], ![false, false]⟩

def k0_cond2 (i : grid0.Coords) : BitVec 1 :=
  let arg1 : BitVec 32 := BitVec.ofNat 32 (i 1).val
  let c0_i32_3 : BitVec 32 := 0#32
  let v14 : BitVec 1 := Scalar.cmpi .sgt arg1 c0_i32_3
  let v15 : BitVec 32 := Scalar.extui v14
  let c0_i32_4 : BitVec 32 := 0#32
  let v16 : BitVec 1 := Scalar.cmpi .ne v15 c0_i32_4
  v16

def k0_cond1 (i : grid0.Coords) : BitVec 1 :=
  let arg1 : BitVec 32 := BitVec.ofNat 32 (i 1).val
  let c0_i32 : BitVec 32 := 0#32
  let v11 : BitVec 1 := Scalar.cmpi .eq arg1 c0_i32
  let v12 : BitVec 32 := Scalar.extui v11
  let c0_i32_2 : BitVec 32 := 0#32
  let v13 : BitVec 1 := Scalar.cmpi .ne v12 c0_i32_2
  v13

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c1_i32_0 : BitVec 32 := 1#32
  let c0_i32_1 : BitVec 32 := 0#32
  ![arg0.toNat, v1.toNat, c1_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c2_i32 : BitVec 32 := 2#32
  let c0_i32_0 : BitVec 32 := 0#32
  ![arg0.toNat, v1.toNat, c2_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference11Ideal.lean ====
abbrev S2x2048x3584 : Shape := ⟨3, ![2, 2048, 3584]⟩
abbrev S1x64 : Shape := ⟨2, ![1, 64]⟩
abbrev S2x2048x512 : Shape := ⟨3, ![2, 2048, 512]⟩
abbrev S_ : Shape := ⟨0, ![]⟩
abbrev S2x512x512 : Shape := ⟨3, ![2, 512, 512]⟩
abbrev S2x2048x8x64 : Shape := ⟨4, ![2, 2048, 8, 64]⟩
abbrev S2x2048x8 : Shape := ⟨3, ![2, 2048, 8]⟩
abbrev S2x2048x8x1 : Shape := ⟨4, ![2, 2048, 8, 1]⟩
abbrev S1x1x1x64 : Shape := ⟨4, ![1, 1, 1, 64]⟩
abbrev S2x2560x512 : Shape := ⟨3, ![2, 2560, 512]⟩

abbrev nBuf : Space → Nat
  | .hbm => 49
  | .vmem => 0
  | .smem => 0
  | _ => 0

abbrev bufTy : (tb : Table) → Fin (tcTables nBuf tb) → BufTy
  | .hbm, ⟨0, _⟩ => ⟨S2x2048x3584, .f32⟩
  | .hbm, ⟨1, _⟩ => ⟨S1x64, .f32⟩
  | .hbm, ⟨2, _⟩ => ⟨S1x64, .f32⟩
  | .hbm, ⟨3, _⟩ => ⟨S2x2048x512, .f32⟩
  | .hbm, ⟨4, _⟩ => ⟨S2x2048x512, .f32⟩
  | .hbm, ⟨5, _⟩ => ⟨S2x2048x512, .f32⟩
  | .hbm, ⟨6, _⟩ => ⟨S_, .f32⟩
  | .hbm, ⟨7, _⟩ => ⟨S2x512x512, .f32⟩
  | .hbm, ⟨8, _⟩ => ⟨S2x2048x8x64, .f32⟩
  | .hbm, ⟨9, _⟩ => ⟨S2x2048x8x64, .f32⟩
  | .hbm, ⟨10, _⟩ => ⟨S_, .f32⟩
  | .hbm, ⟨11, _⟩ => ⟨S2x2048x8, .f32⟩
  | .hbm, ⟨12, _⟩ => ⟨S2x2048x8x1, .f32⟩
  | .hbm, ⟨13, _⟩ => ⟨S_, .f32⟩
  | .hbm, ⟨14, _⟩ => ⟨S2x2048x8x1, .f32⟩
  | .hbm, ⟨15, _⟩ => ⟨S2x2048x8x1, .f32⟩
  | .hbm, ⟨16, _⟩ => ⟨S_, .f32⟩
  | .hbm, ⟨17, _⟩ => ⟨S2x2048x8x1, .f32⟩
  | .hbm, ⟨18, _⟩ => ⟨S2x2048x8x1, .f32⟩
  | .hbm, ⟨19, _⟩ => ⟨S2x2048x8x1, .f32⟩
  | .hbm, ⟨20, _⟩ => ⟨S2x2048x8x64, .f32⟩
  | .hbm, ⟨21, _⟩ => ⟨S2x2048x8x64, .f32⟩
  | .hbm, ⟨22, _⟩ => ⟨S1x1x1x64, .f32⟩
  | .hbm, ⟨23, _⟩ => ⟨S2x2048x8x64, .f32⟩
  | .hbm, ⟨24, _⟩ => ⟨S2x2048x8x64, .f32⟩
  | .hbm, ⟨25, _⟩ => ⟨S2x2048x512, .f32⟩
  | .hbm, ⟨26, _⟩ => ⟨S2x2048x512, .bf16⟩
  | .hbm, ⟨27, _⟩ => ⟨S2x2048x8x64, .f32⟩
  | .hbm, ⟨28, _⟩ => ⟨S2x2048x8x64, .f32⟩
  | .hbm, ⟨29, _⟩ => ⟨S_, .f32⟩
  | .hbm, ⟨30, _⟩ => ⟨S2x2048x8, .f32⟩
  | .hbm, ⟨31, _⟩ => ⟨S2x2048x8x1, .f32⟩
  | .hbm, ⟨32, _⟩ => ⟨S_, .f32⟩
  | .hbm, ⟨33, _⟩ => ⟨S2x2048x8x1, .f32⟩
  | .hbm, ⟨34, _⟩ => ⟨S2x2048x8x1, .f32⟩
  | .hbm, ⟨35, _⟩ => ⟨S_, .f32⟩
  | .hbm, ⟨36, _⟩ => ⟨S2x2048x8x1, .f32⟩
  | .hbm, ⟨37, _⟩ => ⟨S2x2048x8x1, .f32⟩
  | .hbm, ⟨38, _⟩ => ⟨S2x2048x8x1, .f32⟩
  | .hbm, ⟨39, _⟩ => ⟨S2x2048x8x64, .f32⟩
  | .hbm, ⟨40, _⟩ => ⟨S2x2048x8x64, .f32⟩
  | .hbm, ⟨41, _⟩ => ⟨S1x1x1x64, .f32⟩
  | .hbm, ⟨42, _⟩ => ⟨S2x2048x8x64, .f32⟩
  | .hbm, ⟨43, _⟩ => ⟨S2x2048x8x64, .f32⟩
  | .hbm, ⟨44, _⟩ => ⟨S2x2048x512, .f32⟩
  | .hbm, ⟨45, _⟩ => ⟨S2x2560x512, .f32⟩
  | .hbm, ⟨46, _⟩ => ⟨S2x2560x512, .bf16⟩
  | .hbm, ⟨47, _⟩ => ⟨S2x2560x512, .f32⟩
  | .hbm, ⟨48, _⟩ => ⟨S2x2560x512, .bf16⟩
  | _, _ => ⟨S2x2048x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩

abbrev nD : Nat := 1
abbrev τ : Topo := Topo.v7x

variable {F : FTy → Type} [FloatOps F]
-- ==== Kernel12.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S4096x1024, .bf16⟩
  | .hbm, ⟨5, _⟩ => ⟨S1024x1024, .bf16⟩
  | .hbm, ⟨6, _⟩ => ⟨S4096x1024, .f32⟩
  | .hbm, ⟨7, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== Reference12Ideal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Kernel13.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x2816, .bf16⟩
  | .hbm, ⟨3, _⟩ => ⟨S4096x1024, .bf16⟩
  | .hbm, ⟨4, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference13Ideal.lean ====
abbrev S4096x2816 : Shape := ⟨2, ![4096, 2816]⟩
abbrev S4096x1024 : Shape := ⟨2, ![4096, 1024]⟩
abbrev S2816x4096 : Shape := ⟨2, ![2816, 4096]⟩
abbrev S2816x1024 : Shape := ⟨2, ![2816, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S2816x4096, .f32⟩
  | .hbm, ⟨3, _⟩ => ⟨S2816x1024, .f32⟩
  | .hbm, ⟨4, _⟩ => ⟨S2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel14.lean ====
abbrev S4096x1024 : Shape := ⟨2, ![4096, 1024]⟩
abbrev S4096x3584 : Shape := ⟨2, ![4096, 3584]⟩
abbrev S4x1024x896 : Shape := ⟨3, ![4, 1024, 896]⟩
abbrev S4096x896 : Shape := ⟨2, ![4096, 896]⟩
abbrev S1x1024x896 : Shape := ⟨3, ![1, 1024, 896]⟩
abbrev S1024x896 : Shape := ⟨2, ![1024, 896]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x3584, .f32⟩
  | .hbm, ⟨2, _⟩ => ⟨S4096x1024, .bf16⟩
  | .hbm, ⟨3, _⟩ => ⟨S4096x3584, .bf16⟩
  | .hbm, ⟨4, _⟩ => ⟨S4x1024x896, .bf16⟩
  | .local _ .vmem, ⟨0, _⟩ => ⟨S4096x1024, .bf16⟩
  | .local _ .vmem, ⟨1, _⟩ => ⟨S4096x896, .bf16⟩
  | .local _ .vmem, ⟨2, _⟩ => ⟨S4096x896, .bf16⟩
  | .local _ .vmem, ⟨3, _⟩ => ⟨S1x1024x896, .bf16⟩
  | .local _ .vmem, ⟨4, _⟩ => ⟨S1x1024x896, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, true]

abbrev stage0_1 : Fin 2 → Memref sig .tc .vmem S4096x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference14Ideal.lean ====
abbrev S4096x1024 : Shape := ⟨2, ![4096, 1024]⟩
abbrev S4096x3584 : Shape := ⟨2, ![4096, 3584]⟩
abbrev S1024x4096 : Shape := ⟨2, ![1024, 4096]⟩
abbrev S1024x3584 : Shape := ⟨2, ![1024, 3584]⟩
abbrev S1024x4x896 : Shape := ⟨3, ![1024, 4, 896]⟩
abbrev S4x1024x896 : Shape := ⟨3, ![4, 1024, 896]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x3584, .f32⟩
  | .hbm, ⟨2, _⟩ => ⟨S1024x4096, .f32⟩
  | .hbm, ⟨3, _⟩ => ⟨S1024x3584, .f32⟩
  | .hbm, ⟨4, _⟩ => ⟨S1024x3584, .bf16⟩
  | .hbm, ⟨5, _⟩ => ⟨S1024x4x896, .bf16⟩
  | .hbm, ⟨6, _⟩ => ⟨S4x1024x896, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel15.lean ====
abbrev S4096x1024 : Shape := ⟨2, ![4096, 1024]⟩
abbrev S1024x1024 : Shape := ⟨2, ![1024, 1024]⟩

abbrev nBuf : Space → Nat
  | .hbm => 5
  | .vmem => 3
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S4096x1024, .bf16⟩
  | .hbm, ⟨4, _⟩ => ⟨S1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]
-- ==== Reference15Ideal.lean ====
abbrev S4096x1024 : Shape := ⟨2, ![4096, 1024]⟩
abbrev S1024x4096 : Shape := ⟨2, ![1024, 4096]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x4096, .f32⟩
  | .hbm, ⟨3, _⟩ => ⟨S1024x1024, .f32⟩
  | .hbm, ⟨4, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel16.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .bf16⟩
  | .hbm, ⟨3, _⟩ => ⟨S1024x1024, .bf16⟩
  | .hbm, ⟨4, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference16Ideal.lean ====
abbrev S4096x1024 : Shape := ⟨2, ![4096, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .f32⟩
  | .hbm, ⟨3, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel17.lean ====
abbrev S8x1024 : Shape := ⟨2, ![8, 1024]⟩
abbrev S8x8x1024 : Shape := ⟨3, ![8, 8, 1024]⟩
abbrev S1x8x1024 : Shape := ⟨3, ![1, 8, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x1024, .f32⟩
  | .hbm, ⟨1, _⟩ => ⟨S8x8x1024, .f32⟩
  | .hbm, ⟨2, _⟩ => ⟨S8x1024, .f32⟩
  | .hbm, ⟨3, _⟩ => ⟨S8x1024, .f32⟩
  | .hbm, ⟨4, _⟩ => ⟨S8x1024, .f32⟩
  | .hbm, ⟨5, _⟩ => ⟨S8x1024, .f32⟩
  | .hbm, ⟨6, _⟩ => ⟨S8x1024, .f32⟩
  | .hbm, ⟨7, _⟩ => ⟨S8x1024, .f32⟩
  | .local _ .vmem, ⟨0, _⟩ => ⟨S8x1024, .f32⟩
  | .local _ .vmem, ⟨1, _⟩ => ⟨S8x8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Reference17Ideal.lean ====
abbrev S8x1024 : Shape := ⟨2, ![8, 1024]⟩
abbrev S8x8x1024 : Shape := ⟨3, ![8, 8, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x8x1024, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S_, .f32⟩
  | .hbm, ⟨18, _⟩ => ⟨S8x1024, .f32⟩
  | .hbm, ⟨19, _⟩ => ⟨S8x1024, .f32⟩
  | .hbm, ⟨20, _⟩ => ⟨S8x1024, .f32⟩
  | .hbm, ⟨21, _⟩ => ⟨S_, .f32⟩
  | .hbm, ⟨22, _⟩ => ⟨S8x1024, .f32⟩
  | .hbm, ⟨23, _⟩ => ⟨S8x1024, .f32⟩
  | .hbm, ⟨24, _⟩ => ⟨S_, .f32⟩
  | .hbm, ⟨25, _⟩ => ⟨S8x1024, .f32⟩
  | .hbm, ⟨26, _⟩ => ⟨S8x1024, .f32⟩
  | .hbm, ⟨27, _⟩ => ⟨S8x1024, .f32⟩
  | .hbm, ⟨28, _⟩ => ⟨S_, .f32⟩
  | .hbm, ⟨29, _⟩ => ⟨S8x1024, .f32⟩
  | .hbm, ⟨30, _⟩ => ⟨S8x1024, .f32⟩
  | .hbm, ⟨31, _⟩ => ⟨S8x1024, .f32⟩
  | .hbm, ⟨32, _⟩ => ⟨S_, .f32⟩
  | .hbm, ⟨33, _⟩ => ⟨S8x1024, .f32⟩
  | .hbm, ⟨34, _⟩ => ⟨S8x1024, .f32⟩
  | .hbm, ⟨35, _⟩ => ⟨S8x1024, .f32⟩
  | .hbm, ⟨36, _⟩ => ⟨S_, .f32⟩
  | .hbm, ⟨37, _⟩ => ⟨S8x1024, .f32⟩
  | .hbm, ⟨38, _⟩ => ⟨S8x1024, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel18.lean ====
abbrev S1x1024x896 : Shape := ⟨3, ![1, 1024, 896]⟩
abbrev S512x896 : Shape := ⟨2, ![512, 896]⟩
abbrev S1 : Shape := ⟨1, ![1]⟩
abbrev S1x512x896 : Shape := ⟨3, ![1, 512, 896]⟩

abbrev nBuf : Space → Nat
  | .hbm => 9
  | .vmem => 16
  | .smem => 1
  | _ => 0

abbrev bufTy : (tb : Table) → Fin (tcTables nBuf tb) → BufTy
  | .hbm, ⟨0, _⟩ => ⟨S1x1024x896, .f32⟩
  | .hbm, ⟨1, _⟩ => ⟨S512x896, .f32⟩
  | .hbm, ⟨2, _⟩ => ⟨S512x896, .f32⟩
  | .hbm, ⟨3, _⟩ => ⟨S1x1024x896, .f32⟩
  | .hbm, ⟨4, _⟩ => ⟨S1x1024x896, .f32⟩
  | .hbm, ⟨5, _⟩ => ⟨S1x1024x896, .f32⟩
  | .hbm, ⟨6, _⟩ => ⟨S1x1024x896, .f32⟩
  | .hbm, ⟨7, _⟩ => ⟨S1x1024x896, .f32⟩
  | .hbm, ⟨8, _⟩ => ⟨S1x1024x896, .f32⟩
  | .local _ .vmem, ⟨0, _⟩ => ⟨S1x512x896, .f32⟩
  | .local _ .vmem, ⟨1, _⟩ => ⟨S1x512x896, .f32⟩
  | .local _ .vmem, ⟨2, _⟩ => ⟨S512x896, .f32⟩
  | .local _ .vmem, ⟨3, _⟩ => ⟨S512x896, .f32⟩
  | .local _ .vmem, ⟨4, _⟩ => ⟨S1x512x896, .f32⟩
  | .local _ .vmem, ⟨5, _⟩ => ⟨S1x512x896, .f32⟩
  | .local _ .vmem, ⟨6, _⟩ => ⟨S1x512x896, .f32⟩
  | .local _ .vmem, ⟨7, _⟩ => ⟨S1x512x896, .f32⟩
  | .local _ .vmem, ⟨8, _⟩ => ⟨S1x512x896, .f32⟩
  | .local _ .vmem, ⟨9, _⟩ => ⟨S1x512x896, .f32⟩
  | .local _ .vmem, ⟨10, _⟩ => ⟨S1x512x896, .f32⟩
  | .local _ .vmem, ⟨11, _⟩ => ⟨S1x512x896, .f32⟩
  | .local _ .vmem, ⟨12, _⟩ => ⟨S1x512x896, .f32⟩
  | .local _ .vmem, ⟨13, _⟩ => ⟨S1x512x896, .f32⟩
  | .local _ .vmem, ⟨14, _⟩ => ⟨S1x512x896, .f32⟩
  | .local _ .vmem, ⟨15, _⟩ => ⟨S1x512x896, .f32⟩
  | .local _ .smem, ⟨0, _⟩ => ⟨S1, .i32⟩
  | _, _ => ⟨S1x1024x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S1x512x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x896 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S512x896 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1x512x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x896 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x896 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x896 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x896 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference18Ideal.lean ====
abbrev S1x1024x896 : Shape := ⟨3, ![1, 1024, 896]⟩
abbrev S512x896 : Shape := ⟨2, ![512, 896]⟩
abbrev S1 : Shape := ⟨1, ![1]⟩
abbrev S_ : Shape := ⟨0, ![]⟩
abbrev S1024x896 : Shape := ⟨2, ![1024, 896]⟩

abbrev nBuf : Space → Nat
  | .hbm => 49
  | .vmem => 0
  | .smem => 0
  | _ => 0

abbrev bufTy : (tb : Table) → Fin (tcTables nBuf tb) → BufTy
  | .hbm, ⟨0, _⟩ => ⟨S1x1024x896, .f32⟩
  | .hbm, ⟨1, _⟩ => ⟨S512x896, .f32⟩
  | .hbm, ⟨2, _⟩ => ⟨S512x896, .f32⟩
  | .hbm, ⟨3, _⟩ => ⟨S1x1024x896, .f32⟩
  | .hbm, ⟨4, _⟩ => ⟨S1x1024x896, .f32⟩
  | .hbm, ⟨5, _⟩ => ⟨S1, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S512x896, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S512x896, .f32⟩
  | .hbm, ⟨14, _⟩ => ⟨S1024x896, .f32⟩
  | .hbm, ⟨15, _⟩ => ⟨S1x1024x896, .f32⟩
  | .hbm, ⟨16, _⟩ => ⟨S_, .f32⟩
  | .hbm, ⟨17, _⟩ => ⟨S1x1024x896, .f32⟩
  | .hbm, ⟨18, _⟩ => ⟨S1x1024x896, .f32⟩
  | .hbm, ⟨19, _⟩ => ⟨S_, .f32⟩
  | .hbm, ⟨20, _⟩ => ⟨S1x1024x896, .f32⟩
  | .hbm, ⟨21, _⟩ => ⟨S1x1024x896, .f32⟩
  | .hbm, ⟨22, _⟩ => ⟨S1x1024x896, .f32⟩
  | .hbm, ⟨23, _⟩ => ⟨S_, .f32⟩
  | .hbm, ⟨24, _⟩ => ⟨S1x1024x896, .f32⟩
  | .hbm, ⟨25, _⟩ => ⟨S1x1024x896, .f32⟩
  | .hbm, ⟨26, _⟩ => ⟨S1x1024x896, .f32⟩
  | .hbm, ⟨27, _⟩ => ⟨S_, .f32⟩
  | .hbm, ⟨28, _⟩ => ⟨S1x1024x896, .f32⟩
  | .hbm, ⟨29, _⟩ => ⟨S1x1024x896, .f32⟩
  | .hbm, ⟨30, _⟩ => ⟨S1x1024x896, .f32⟩
  | .hbm, ⟨31, _⟩ => ⟨S_, .f32⟩
  | .hbm, ⟨32, _⟩ => ⟨S1x1024x896, .f32⟩
  | .hbm, ⟨33, _⟩ => ⟨S1x1024x896, .f32⟩
  | .hbm, ⟨34, _⟩ => ⟨S_, .f32⟩
  | .hbm, ⟨35, _⟩ => ⟨S1x1024x896, .f32⟩
  | .hbm, ⟨36, _⟩ => ⟨S1x1024x896, .f32⟩
  | .hbm, ⟨37, _⟩ => ⟨S1x1024x896, .f32⟩
  | .hbm, ⟨38, _⟩ => ⟨S_, .f32⟩
  | .hbm, ⟨39, _⟩ => ⟨S1x1024x896, .f32⟩
  | .hbm, ⟨40, _⟩ => ⟨S1x1024x896, .f32⟩
  | .hbm, ⟨41, _⟩ => ⟨S1x1024x896, .f32⟩
  | .hbm, ⟨42, _⟩ => ⟨S_, .f32⟩
  | .hbm, ⟨43, _⟩ => ⟨S1x1024x896, .f32⟩
  | .hbm, ⟨44, _⟩ => ⟨S1x1024x896, .f32⟩
  | .hbm, ⟨45, _⟩ => ⟨S1x1024x896, .f32⟩
  | .hbm, ⟨46, _⟩ => ⟨S_, .f32⟩
  | .hbm, ⟨47, _⟩ => ⟨S1x1024x896, .f32⟩
  | .hbm, ⟨48, _⟩ => ⟨S1x1024x896, .f32⟩
  | _, _ => ⟨S1x1024x896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Kernel19.lean ====
abbrev S8x257 : Shape := ⟨2, ![8, 257]⟩
abbrev S_ : Shape := ⟨0, ![]⟩
abbrev S8x384 : Shape := ⟨2, ![8, 384]⟩
abbrev S64x8x576 : Shape := ⟨3, ![64, 8, 576]⟩
abbrev S384x576 : Shape := ⟨2, ![384, 576]⟩
abbrev S8x576 : Shape := ⟨2, ![8, 576]⟩
abbrev S1x8x576 : Shape := ⟨3, ![1, 8, 576]⟩

abbrev nBuf : Space → Nat
  | .hbm => 5
  | .vmem => 2
  | .smem => 0
  | _ => 0

abbrev bufTy : (tb : Table) → Fin (tcTables nBuf tb) → BufTy
  | .hbm, ⟨0, _⟩ => ⟨S8x257, .f32⟩
  | .hbm, ⟨1, _⟩ => ⟨S_, .i32⟩
  | .hbm, ⟨2, _⟩ => ⟨S_, .f32⟩
  | .hbm, ⟨3, _⟩ => ⟨S8x384, .f32⟩
  | .hbm, ⟨4, _⟩ => ⟨S64x8x576, .f32⟩
  | .local _ .vmem, ⟨0, _⟩ => ⟨S8x384, .f32⟩
  | .local _ .vmem, ⟨1, _⟩ => ⟨S64x8x576, .f32⟩
  | _, _ => ⟨S8x257, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c64_i32 : BitVec 32 := 64#32
  let v4 : BitVec 32 := Scalar.addi c0_i32 c64_i32
  let c1_i32 : BitVec 32 := 1#32
  ⟨c0_i32, v4, c1_i32⟩
def k0_off1 (k0_t1 : Fin k0_t1_loop.trips) : Fin 3 → Nat :=
  let c0_i32 : BitVec 32 := 0#32
  let c1_i32 : BitVec 32 := 1#32
  let arg2 : BitVec 32 := Scf.iv c0_i32 c1_i32 k0_t1
  let v31 : Index := Scalar.indexCast arg2
  let c0_7 : Index := 0#32
  let c0_8 : Index := 0#32
  ![v31.toNat, 0, 0]
abbrev stage0_0 : Fin 1 → Memref sig .tc .vmem S8x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x8x576 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference19Ideal.lean ====
abbrev S8x257 : Shape := ⟨2, ![8, 257]⟩
abbrev S64 : Shape := ⟨1, ![64]⟩
abbrev S64x1 : Shape := ⟨2, ![64, 1]⟩
abbrev S_ : Shape := ⟨0, ![]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S64x8x576 : Shape := ⟨3, ![64, 8, 576]⟩

abbrev nBuf : Space → Nat
  | .hbm => 32
  | .vmem => 0
  | .smem => 0
  | _ => 0

abbrev bufTy : (tb : Table) → Fin (tcTables nBuf tb) → BufTy
  | .hbm, ⟨0, _⟩ => ⟨S8x257, .f32⟩
  | .hbm, ⟨1, _⟩ => ⟨S64, .i32⟩
  | .hbm, ⟨2, _⟩ => ⟨S64x1, .i32⟩
  | .hbm, ⟨3, _⟩ => ⟨S_, .i32⟩
  | .hbm, ⟨4, _⟩ => ⟨S64x1, .i32⟩
  | .hbm, ⟨5, _⟩ => ⟨S64x1, .i32⟩
  | .hbm, ⟨6, _⟩ => ⟨S576, .i32⟩
  | .hbm, ⟨7, _⟩ => ⟨S1x576, .i32⟩
  | .hbm, ⟨8, _⟩ => ⟨S64x576, .i32⟩
  | .hbm, ⟨9, _⟩ => ⟨S64x576, .i32⟩
  | .hbm, ⟨10, _⟩ => ⟨S64x576, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S64x576, .i32⟩
  | .hbm, ⟨15, _⟩ => ⟨S64x576, .i32⟩
  | .hbm, ⟨16, _⟩ => ⟨S_, .i32⟩
  | .hbm, ⟨17, _⟩ => ⟨S64x576, .i32⟩
  | .hbm, ⟨18, _⟩ => ⟨S64x576, .i32⟩
  | .hbm, ⟨19, _⟩ => ⟨S_, .i32⟩
  | .hbm, ⟨20, _⟩ => ⟨S64x576, .i32⟩
  | .hbm, ⟨21, _⟩ => ⟨S64x576, .i32⟩
  | .hbm, ⟨22, _⟩ => ⟨S_, .i32⟩
  | .hbm, ⟨23, _⟩ => ⟨S64x576, .i32⟩
  | .hbm, ⟨24, _⟩ => ⟨S64x576, .i1⟩
  | .hbm, ⟨25, _⟩ => ⟨S_, .i32⟩
  | .hbm, ⟨26, _⟩ => ⟨S64x576, .i32⟩
  | .hbm, ⟨27, _⟩ => ⟨S64x576, .i32⟩
  | .hbm, ⟨28, _⟩ => ⟨S64x576, .i32⟩
  | .hbm, ⟨29, _⟩ => ⟨S64x576x1, .i32⟩
  | .hbm, ⟨30, _⟩ => ⟨S8x64x576, .f32⟩
  | .hbm, ⟨31, _⟩ => ⟨S64x8x576, .f32⟩
  | _, _ => ⟨S8x257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_c_3 : Ref sig .tc := ⟨.hbm, 22, rfl⟩
abbrev main_v12 : Ref sig .tc := ⟨.hbm, 23, rfl⟩
abbrev main_v13 : Ref sig .tc := ⟨.hbm, 24, rfl⟩
abbrev main_c_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩

abbrev nD : Nat := 1
abbrev τ : Topo := Topo.v7x

variable {F : FTy → Type} [FloatOps F]
-- ==== Kernel20.lean ====
abbrev S4x1024x896 : Shape := ⟨3, ![4, 1024, 896]⟩
abbrev S4x512x896 : Shape := ⟨3, ![4, 512, 896]⟩
abbrev S1 : Shape := ⟨1, ![1]⟩
abbrev S1x512x896 : Shape := ⟨3, ![1, 512, 896]⟩
abbrev S512x896 : Shape := ⟨2, ![512, 896]⟩

abbrev nBuf : Space → Nat
  | .hbm => 3
  | .vmem => 6
  | .smem => 1
  | _ => 0

abbrev bufTy : (tb : Table) → Fin (tcTables nBuf tb) → BufTy
  | .hbm, ⟨0, _⟩ => ⟨S4x1024x896, .bf16⟩
  | .hbm, ⟨1, _⟩ => ⟨S4x512x896, .bf16⟩
  | .hbm, ⟨2, _⟩ => ⟨S4x512x896, .bf16⟩
  | .local _ .vmem, ⟨0, _⟩ => ⟨S1x512x896, .bf16⟩
  | .local _ .vmem, ⟨1, _⟩ => ⟨S1x512x896, .bf16⟩
  | .local _ .vmem, ⟨2, _⟩ => ⟨S1x512x896, .bf16⟩
  | .local _ .vmem, ⟨3, _⟩ => ⟨S1x512x896, .bf16⟩
  | .local _ .vmem, ⟨4, _⟩ => ⟨S1x512x896, .bf16⟩
  | .local _ .vmem, ⟨5, _⟩ => ⟨S1x512x896, .bf16⟩
  | .local _ .smem, ⟨0, _⟩ => ⟨S1, .i32⟩
  | _, _ => ⟨S4x1024x896, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference20Ideal.lean ====
abbrev S4x1024x896 : Shape := ⟨3, ![4, 1024, 896]⟩
abbrev S4x512x896 : Shape := ⟨3, ![4, 512, 896]⟩
abbrev S1 : Shape := ⟨1, ![1]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4x1024x896, .bf16⟩
  | .hbm, ⟨1, _⟩ => ⟨S4x512x896, .bf16⟩
  | .hbm, ⟨2, _⟩ => ⟨S1, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S4x512x896, .bf16⟩
  | .hbm, ⟨7, _⟩ => ⟨S4x512x896, .bf16⟩
  | .hbm, ⟨8, _⟩ => ⟨S4x512x896, .bf16⟩
  | .hbm, ⟨9, _⟩ => ⟨S4x512x896, .f32⟩
  | .hbm, ⟨10, _⟩ => ⟨S4x512x896, .f32⟩
  | .hbm, ⟨11, _⟩ => ⟨S4x512x896, .f32⟩
  | .hbm, ⟨12, _⟩ => ⟨S4x512x896, .bf16⟩
  | _, _ => ⟨S4x1024x896, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel21.lean ====
abbrev S4x512x896 : Shape := ⟨3, ![4, 512, 896]⟩
abbrev S3x512x896 : Shape := ⟨3, ![3, 512, 896]⟩
abbrev S1 : Shape := ⟨1, ![1]⟩
abbrev S512x896 : Shape := ⟨2, ![512, 896]⟩
abbrev S1x512x896 : Shape := ⟨3, ![1, 512, 896]⟩

abbrev nBuf : Space → Nat
  | .hbm => 3
  | .vmem => 3
  | .smem => 1
  | _ => 0

abbrev bufTy : (tb : Table) → Fin (tcTables nBuf tb) → BufTy
  | .hbm, ⟨0, _⟩ => ⟨S4x512x896, .bf16⟩
  | .hbm, ⟨1, _⟩ => ⟨S3x512x896, .bf16⟩
  | .hbm, ⟨2, _⟩ => ⟨S512x896, .f32⟩
  | .local _ .vmem, ⟨0, _⟩ => ⟨S1x512x896, .bf16⟩
  | .local _ .vmem, ⟨1, _⟩ => ⟨S3x512x896, .bf16⟩
  | .local _ .vmem, ⟨2, _⟩ => ⟨S512x896, .f32⟩
  | .local _ .smem, ⟨0, _⟩ => ⟨S1, .i32⟩
  | _, _ => ⟨S4x512x896, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512x896 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x512x896 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x896 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference21Ideal.lean ====
abbrev S4x512x896 : Shape := ⟨3, ![4, 512, 896]⟩
abbrev S3x512x896 : Shape := ⟨3, ![3, 512, 896]⟩
abbrev S1 : Shape := ⟨1, ![1]⟩
abbrev S_ : Shape := ⟨0, ![]⟩
abbrev S1x512x896 : Shape := ⟨3, ![1, 512, 896]⟩
abbrev S512x896 : Shape := ⟨2, ![512, 896]⟩

abbrev nBuf : Space → Nat
  | .hbm => 28
  | .vmem => 0
  | .smem => 0
  | _ => 0

abbrev bufTy : (tb : Table) → Fin (tcTables nBuf tb) → BufTy
  | .hbm, ⟨0, _⟩ => ⟨S4x512x896, .bf16⟩
  | .hbm, ⟨1, _⟩ => ⟨S3x512x896, .bf16⟩
  | .hbm, ⟨2, _⟩ => ⟨S1, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S1x512x896, .bf16⟩
  | .hbm, ⟨7, _⟩ => ⟨S512x896, .bf16⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S1x512x896, .bf16⟩
  | .hbm, ⟨12, _⟩ => ⟨S512x896, .bf16⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S1x512x896, .bf16⟩
  | .hbm, ⟨17, _⟩ => ⟨S512x896, .bf16⟩
  | .hbm, ⟨18, _⟩ => ⟨S1x512x896, .bf16⟩
  | .hbm, ⟨19, _⟩ => ⟨S512x896, .bf16⟩
  | .hbm, ⟨20, _⟩ => ⟨S512x896, .bf16⟩
  | .hbm, ⟨21, _⟩ => ⟨S512x896, .bf16⟩
  | .hbm, ⟨22, _⟩ => ⟨S512x896, .bf16⟩
  | .hbm, ⟨23, _⟩ => ⟨S512x896, .f32⟩
  | .hbm, ⟨24, _⟩ => ⟨S3x512x896, .f32⟩
  | .hbm, ⟨25, _⟩ => ⟨S_, .f32⟩
  | .hbm, ⟨26, _⟩ => ⟨S512x896, .f32⟩
  | .hbm, ⟨27, _⟩ => ⟨S512x896, .f32⟩
  | _, _ => ⟨S4x512x896, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Proof.Common.lean ====
/-
  Real values inside the extended reals: finite sums, the quotient and the reciprocal square root of reals, the comparison
  that says an element is finite, and sums over a row cut into heads.
-/
module

public import Idealize.ShloMosaic.PureOps.Ideal.Laws
public import Idealize.ShloMosaic.Lib.ValueIdx
public import Idealize.ShloMosaic.Lib.MatmulPlain
public import Idealize.ShloMosaic.Lib.Pipeline.Value

@[expose] public section

noncomputable section

namespace Cert.Common

open Idealize.ShloMosaic Idealize.ShloMosaic.ValueIdx
open scoped BigOperators

/-! ## Sums of reals -/

/-- A finite sum of reals read in the extended reals. -/
theorem coe_sum {ι : Type} [Fintype ι] (f : ι → ℝ) : ((∑ i, f i : ℝ) : EReal) = ∑ i, (f i : EReal) := by
  classical
  refine Finset.induction_on (motive := fun s => ((∑ i ∈ s, f i : ℝ) : EReal) = ∑ i ∈ s, (f i : EReal)) Finset.univ ?_ ?_
  · simp
  · intro a s ha ih
    rw [Finset.sum_insert ha, Finset.sum_insert ha, EReal.coe_add, ih]

/-- A sum over `n` blocks of `m` that keeps one block is the sum over that block. -/
theorem sum_block {M : Type} [AddCommMonoid M] (n m : ℕ) (f : Fin (n * m) → M) (q : Fin n) :
    (∑ k : Fin (n * m), if k.val / m = q.val then f k else 0) = ∑ d : Fin m, f (finProdFinEquiv (q, d)) := by
  rw [← Equiv.sum_comp finProdFinEquiv, Fintype.sum_prod_type]
  rw [Finset.sum_eq_single q]
  · refine Finset.sum_congr rfl fun d _ => if_pos ?_
    have hd := d.isLt
    show (d.val + m * q.val) / m = q.val
    rw [Nat.add_mul_div_left _ _ (by omega), Nat.div_eq_of_lt hd, Nat.zero_add]
  · intro a _ ha
    refine Finset.sum_eq_zero fun d _ => if_neg fun h => ha (Fin.ext ?_)
    have hd := d.isLt
    have h' : (d.val + m * a.val) / m = q.val := h
    rw [Nat.add_mul_div_left _ _ (by omega), Nat.div_eq_of_lt hd, Nat.zero_add] at h'
    exact h'
  · exact fun h => absurd (Finset.mem_univ q) h

/-! ## Operations on reals -/

theorem rsqrt_pos {v : ℝ} (h : 0 < v) : Ideal.rsqrt (v : EReal) = (((Real.sqrt v)⁻¹ : ℝ) : EReal) := by
  rw [Ideal.rsqrt_coe, if_neg (not_lt.mpr h.le), if_neg h.ne']

theorem div_real (a : ℝ) {b : ℝ} (h : b ≠ 0) : Ideal.div (a : EReal) (b : EReal) = ((a / b : ℝ) : EReal) := by
  rw [Ideal.div_coe h, ← EReal.coe_mul, mul_one_div]

theorem sub_self_coe (a : ℝ) : (a : EReal) - (a : EReal) = 0 := by
  rw [← EReal.coe_sub, sub_self, EReal.coe_zero]

/-- The 32-bit literal of `1 / 64`. -/
theorem lit_64th : Ideal.ofBits .f32 0x3C800000#32 = ((1 / 64 : ℝ) : EReal) := by
  simp [Ideal.ofBits, Ideal.ieee]; rw [← EReal.coe_mul]; norm_num
theorem lit_64 : Ideal.ofBits .f32 0x42800000#32 = ((64 : ℝ) : EReal) := by
  simp [Ideal.ofBits, Ideal.ieee]; rw [← EReal.coe_mul]; norm_num
theorem lit_neg_half : Ideal.ofBits .f32 0xBF000000#32 = ((-(1 / 2) : ℝ) : EReal) := by
  simp [Ideal.ofBits, Ideal.ieee]; rw [← EReal.coe_mul]; norm_num
theorem lit_8th : Ideal.ofBits .f32 0x3E000000#32 = ((1 / 8 : ℝ) : EReal) := by
  simp [Ideal.ofBits, Ideal.ieee]; rw [← EReal.coe_mul]; norm_num
theorem lit_ninf : Ideal.ofBits .f32 0xFF800000#32 = ⊥ := by
  simp [Ideal.ofBits, Ideal.ieee]
theorem lit_one : Ideal.ofBits .f32 0x3F800000#32 = 1 := by
  simp [Ideal.ofBits, Ideal.ieee]; rw [← EReal.coe_mul]; norm_num
theorem lit_inf : Ideal.ofBits .f32 0x7F800000#32 = ⊤ := by
  simp [Ideal.ofBits, Ideal.ieee]

/-- The small number added under the root, a positive real. -/
def eps : ℝ := (Ideal.ofBits .f32 0x358637BD#32).toReal
theorem lit_eps : Ideal.ofBits .f32 0x358637BD#32 = (eps : EReal) ∧ 0 < eps := by
  have h : Ideal.ofBits .f32 0x358637BD#32 = ((8796093 / 8796093022208 : ℝ) : EReal) := by
    simp [Ideal.ofBits, Ideal.ieee]; rw [← EReal.coe_mul]; norm_num
  unfold eps
  rw [h, EReal.toReal_coe]
  exact ⟨rfl, by norm_num⟩

/-- An element whose absolute value lies below infinity is a real. -/
theorem real_of_lt {a : EReal} (h : Ideal.cmp .olt (max a (-a)) ⊤ = 1#1) : a = ((a.toReal : ℝ) : EReal) := by
  have hlt : max a (-a) < ⊤ := by
    by_contra hn
    rw [Ideal.cmp, decide_eq_false hn] at h
    exact absurd h (by decide)
  refine (EReal.coe_toReal ?_ ?_).symm
  · intro e; rw [e] at hlt; simp at hlt
  · intro e; rw [e] at hlt; simp at hlt

/-- An array whose magnitudes compare below infinity is an array of reals. -/
theorem real_of_bound {s : Shape} (v w : FVec Ideal s .f32) (hw : ∀ i, w i = Ideal.ofBits .f32 0x7F800000#32)
    (h : cmpf .olt (Host.absf v) w = fun _ => 1#1) (i : s.Idx) : v i = (((v i).toReal : ℝ) : EReal) := by
  have h1 : Ideal.cmp .olt (max (v i) (-(v i))) (w i) = 1#1 := congrFun h i
  rw [hw, lit_inf] at h1
  exact real_of_lt h1

/-! ## An index by its coordinates -/

theorem ext1 {n : ℕ} (i : (⟨1, ![n]⟩ : Shape).Idx) (a : Fin n) (h0 : (i 0).val = a.val) : i = ix1 a :=
  funext fun k => match k with | ⟨0, _⟩ => Fin.ext h0
theorem ext2 {n m : ℕ} (i : (⟨2, ![n, m]⟩ : Shape).Idx) (a : Fin n) (b : Fin m) (h0 : (i 0).val = a.val) (h1 : (i 1).val = b.val) : i = ix2 a b :=
  funext fun k => match k with | ⟨0, _⟩ => Fin.ext h0 | ⟨1, _⟩ => Fin.ext h1
theorem ext3 {n m p : ℕ} (i : (⟨3, ![n, m, p]⟩ : Shape).Idx) (a : Fin n) (b : Fin m) (c : Fin p) (h0 : (i 0).val = a.val) (h1 : (i 1).val = b.val)
    (h2 : (i 2).val = c.val) : i = ix3 a b c :=
  funext fun k => match k with | ⟨0, _⟩ => Fin.ext h0 | ⟨1, _⟩ => Fin.ext h1 | ⟨2, _⟩ => Fin.ext h2
theorem ext4 {n m p q : ℕ} (i : (⟨4, ![n, m, p, q]⟩ : Shape).Idx) (a : Fin n) (b : Fin m) (c : Fin p) (d : Fin q) (h0 : (i 0).val = a.val)
    (h1 : (i 1).val = b.val) (h2 : (i 2).val = c.val) (h3 : (i 3).val = d.val) : i = ix4 a b c d :=
  funext fun k => match k with | ⟨0, _⟩ => Fin.ext h0 | ⟨1, _⟩ => Fin.ext h1 | ⟨2, _⟩ => Fin.ext h2 | ⟨3, _⟩ => Fin.ext h3
theorem ext5 {n m p q r : ℕ} (i : (⟨5, ![n, m, p, q, r]⟩ : Shape).Idx) (a : Fin n) (b : Fin m) (c : Fin p) (d : Fin q) (e : Fin r) (h0 : (i 0).val = a.val)
    (h1 : (i 1).val = b.val) (h2 : (i 2).val = c.val) (h3 : (i 3).val = d.val) (h4 : (i 4).val = e.val) : i = ix5 a b c d e :=
  funext fun k => match k with | ⟨0, _⟩ => Fin.ext h0 | ⟨1, _⟩ => Fin.ext h1 | ⟨2, _⟩ => Fin.ext h2 | ⟨3, _⟩ => Fin.ext h3 | ⟨4, _⟩ => Fin.ext h4

/-! ## Columns of a head -/

/-- The head of a column, and a column of that head. -/
abbrev hcol (c : Fin 512) (d : Fin 64) : Fin 512 := ⟨64 * (c.val / 64) + d.val, by have := c.isLt; have := d.isLt; omega⟩

theorem hcol_hcol (c : Fin 512) (d e : Fin 64) : hcol (hcol c d) e = hcol c e :=
  Fin.ext (by have := d.isLt; show 64 * ((64 * (c.val / 64) + d.val) / 64) + e.val = 64 * (c.val / 64) + e.val; omega)

abbrev cin (c : Fin 512) : Fin 64 := ⟨c.val % 64, Nat.mod_lt _ (by decide)⟩
theorem hcol_cin (c : Fin 512) : hcol c (cin c) = c := Fin.ext (by show 64 * (c.val / 64) + c.val % 64 = c.val; omega)

/-! ## The normalisation of 64 reals and its gradient -/

/-- The normaliser of 64 reals, and the gradient at one of them. -/
def rs (x : Fin 64 → ℝ) : ℝ := (Real.sqrt ((∑ d, x d * x d) * (1 / 64) + eps))⁻¹
def dx (x dy g : Fin 64 → ℝ) (d : Fin 64) : ℝ :=
  rs x * (dy d * g d - x d * rs x * ((∑ e, dy e * g e * (x e * rs x)) * (1 / 64)))

theorem ms_pos (x : Fin 64 → ℝ) : 0 < (∑ d, x d * x d) * (1 / 64) + eps :=
  add_pos_of_nonneg_of_pos (mul_nonneg (Finset.sum_nonneg fun d _ => mul_self_nonneg _) (by norm_num)) lit_eps.2

/-- The same gradient as the chain rule writes it: through the scaled row and, twice, through the mean square. -/
theorem dx_chain (x dy g : Fin 64 → ℝ) (d : Fin 64) :
    dy d * g d * rs x + x d * ((∑ e, x e * (dy e * g e)) * (-(1 / 2) * (rs x / ((∑ e, x e * x e) / 64 + eps))) / 64)
      + ((∑ e, x e * (dy e * g e)) * (-(1 / 2) * (rs x / ((∑ e, x e * x e) / 64 + eps))) / 64) * x d = dx x dy g d := by
  have hv := ms_pos x
  have hq : rs x / ((∑ e, x e * x e) / 64 + eps) = rs x * rs x * rs x := by
    have h2 : rs x * rs x = ((∑ e, x e * x e) / 64 + eps)⁻¹ := by
      unfold rs
      rw [← mul_inv, Real.mul_self_sqrt hv.le, mul_one_div]
    rw [div_eq_mul_inv, ← h2]; ring
  have hs : (∑ e, dy e * g e * (x e * rs x)) = (∑ e, x e * (dy e * g e)) * rs x := by
    rw [Finset.sum_mul]; exact Finset.sum_congr rfl fun e _ => by ring
  rw [hq, dx, hs]; ring

/-! ## The two gradients of a normalised array of rows of eight heads -/

/-- A row of a stretch of 512 rows. -/
abbrev row (j : Fin 4) (s : Fin 512) : Fin 2048 := ⟨512 * j.val + s.val, by have := j.isLt; have := s.isLt; omega⟩
/-- The two coordinates of a stretch. -/
abbrev hi8 (p : Fin 8) : Fin 2 := ⟨p.val / 4, by have := p.isLt; omega⟩
abbrev lo8 (p : Fin 8) : Fin 4 := ⟨p.val % 4, Nat.mod_lt _ (by decide)⟩

/-- The gradient at a row and a column, of rows `x`, cotangents `dy` and the gain `g`. -/
def dxAt (x dy : Fin 2 → Fin 2048 → Fin 512 → ℝ) (g : Fin 64 → ℝ) (b : Fin 2) (r : Fin 2048) (c : Fin 512) : ℝ :=
  dx (fun e => x b r (hcol c e)) (fun e => dy b r (hcol c e)) g (cin c)

/-- A stretch's term of the gain's gradient at a column. -/
def dgAt (x dy : Fin 2 → Fin 2048 → Fin 512 → ℝ) (p : Fin 8) (c : Fin 512) : ℝ :=
  ∑ s : Fin 512, dy (hi8 p) (row (lo8 p) s) c * (x (hi8 p) (row (lo8 p) s) c * rs fun e => x (hi8 p) (row (lo8 p) s) (hcol c e))

end Cert.Common

end

end
-- ==== Proof.QkBlock.lean ====
/-
  One block of the query and key gradients: the sums over a head taken by a product with a matrix of ones on the heads, and
  the gradient of the normalisation, element by element, as real numbers.
-/
module

public import proofs.«01_k».proof.Proof.Gen.KernelIdeal.Value
public import proofs.«01_k».proof.Proof.Common

set_option maxRecDepth 16384
set_option backward.isDefEq.respectTransparency false

@[expose] public section

noncomputable section

namespace Cert.KernelIdeal.QkBlock

open Cert.KernelIdeal Cert.KernelIdeal.Gen Cert.Common
open Idealize.ShloMosaic Idealize.ShloMosaic.ValueIdx
open Idealize.ShloMosaic.Pipeline (Dat)
open scoped BigOperators

theorem shift_val : ∀ i : Fin 512, IntOp.shrsi .vector (BitVec.ofNat 32 i.val) 6#32 = BitVec.ofNat 32 (i.val / 64) := by
  decide +kernel

theorem word_eq (a b : ℕ) (ha : a < 8) (hb : b < 8) : (BitVec.ofNat 32 a = BitVec.ofNat 32 b) ↔ a = b := by
  constructor
  · intro h
    have := congrArg BitVec.toNat h
    rw [BitVec.toNat_ofNat, BitVec.toNat_ofNat, Nat.mod_eq_of_lt (by omega), Nat.mod_eq_of_lt (by omega)] at this
    exact this
  · rintro rfl; rfl

/-- The matrix of ones on the eight heads of a row. -/
theorem heads_apply (i j : Fin 512) : (k0_pay6 (F := Ideal)) (ix2 i j) = if i.val / 64 = j.val / 64 then (1 : EReal) else 0 := by
  show Scalar.select (IntOp.cmpi .eq (IntOp.shrsi .vector (iota .tc S512x512 32 [0] iota_S512x512_d0_w32 (ix2 i j)) 6#32)
    (IntOp.shrsi .vector (iota .tc S512x512 32 [1] iota_S512x512_d1_w32 (ix2 i j)) 6#32)) (Ideal.ofBits .f32 0x3F800000#32)
    (Ideal.ofBits .f32 0x00000000#32) = _
  rw [iota_single_apply, iota_single_apply]
  show Scalar.select (IntOp.cmpi .eq (IntOp.shrsi .vector (BitVec.ofNat 32 i.val) 6#32)
    (IntOp.shrsi .vector (BitVec.ofNat 32 j.val) 6#32)) _ _ = _
  rw [shift_val, shift_val, lit_one, Ideal.ofBits_zero_f32]
  have hi := i.isLt
  have hj := j.isLt
  by_cases h : i.val / 64 = j.val / 64
  · rw [if_pos h, h]
    simp [IntOp.cmpi, Scalar.select]
  · rw [if_neg h]
    have h' : ¬ (BitVec.ofNat 32 (i.val / 64) = BitVec.ofNat 32 (j.val / 64)) := fun e =>
      h ((word_eq _ _ (by omega) (by omega)).mp e)
    simp [IntOp.cmpi, Scalar.select, beq_eq_false_iff_ne.mpr h']

/-- A row's sums over its heads, as the block takes them: the operand in two pieces, each times the matrix. -/
def headSums (z : FVec Ideal S512x512 .f32) : FVec Ideal S512x512 .f32 :=
  addf (matmul dot_S512x512_S512x512_S512x512_1_0_0_1_n_n none (truncf .bf16 z bitsLt_bf16_f32) (k0_pay6 (F := Ideal)) (constant S512x512 .f32 0x00000000#32))
    (matmul dot_S512x512_S512x512_S512x512_1_0_0_1_n_n none (truncf .bf16 (subf z (extf .f32 (truncf .bf16 z bitsLt_bf16_f32) bitsLt_bf16_f32)) bitsLt_bf16_f32) (k0_pay6 (F := Ideal)) (constant S512x512 .f32 0x00000000#32))

theorem headSums_apply (z : FVec Ideal S512x512 .f32) (Z : S512x512.Idx → ℝ) (hz : ∀ i, z i = ((Z i : ℝ) : EReal)) (r : Fin 512) (c : Fin 512) :
    headSums z (ix2 r c) = ((∑ d : Fin 64, Z (ix2 r (hcol c d)) : ℝ) : EReal) := by
  have hd : dot_S512x512_S512x512_S512x512_1_0_0_1_n_n = DotDims.plain 512 512 512 := rfl
  unfold headSums
  rw [addf_apply]
  show FloatOps.matmul _ _ _ _ _ _ + FloatOps.matmul _ _ _ _ _ _ = _
  rw [hd]
  erw [Ideal.matmul_plain_apply, Ideal.matmul_plain_apply]
  have h0 : (constant (F := Ideal) S512x512 .f32 0x00000000#32) (ix2 r c) = 0 := Ideal.ofBits_zero_f32
  rw [h0, zero_add, zero_add]
  have h1 : ∀ k : Fin 512, (truncf (F := Ideal) .bf16 (subf z (extf .f32 (truncf .bf16 z bitsLt_bf16_f32) bitsLt_bf16_f32)) bitsLt_bf16_f32) (ix2 r k)
      * (k0_pay6 (F := Ideal)) (ix2 k c) = 0 := fun k => by
    show (z (ix2 r k) - z (ix2 r k)) * _ = 0
    rw [hz, sub_self_coe, zero_mul]
  rw [Finset.sum_congr rfl fun k _ => h1 k, Finset.sum_const_zero, add_zero, coe_sum]
  have h2 : ∀ k : Fin 512, (truncf (F := Ideal) .bf16 z bitsLt_bf16_f32) (ix2 r k) * (k0_pay6 (F := Ideal)) (ix2 k c)
      = if k.val / 64 = c.val / 64 then ((Z (ix2 r k) : ℝ) : EReal) else 0 := fun k => by
    rw [heads_apply]
    show z (ix2 r k) * _ = _
    rw [hz, mul_ite, mul_one, mul_zero]
  rw [Finset.sum_congr rfl fun k _ => h2 k]
  have hc : c.val / 64 < 8 := by have := c.isLt; omega
  refine (sum_block 8 64 (fun k => ((Z (ix2 r k) : ℝ) : EReal)) ⟨c.val / 64, hc⟩).trans ?_
  refine Finset.sum_congr rfl fun d _ => ?_
  congr 2
  funext a
  match a with
  | ⟨0, _⟩ => rfl
  | ⟨1, _⟩ => exact Fin.ext (Nat.add_comm _ _)

/-- A block's normaliser: one over the root of the mean square of the head, plus the small number. -/
def rstd (x : FVec Ideal S512x512 .f32) : FVec Ideal S512x512 .f32 :=
  rsqrt (addf (mulf (headSums (mulf x x)) (broadcast S512x512 (Scalar.ofBits .f32 0x3C800000#32))) (broadcast S512x512 (Scalar.ofBits .f32 0x358637BD#32)))

/-- A block's gradient of the normalised and scaled rows. -/
def bwd (x dy : FVec Ideal S512x512 .f32) (g : FVec Ideal S1x512 .f32) : FVec Ideal S512x512 .f32 :=
  mulf (rstd x) (subf (mulf dy (broadcastTo S512x512 g broadcasts_S1x512_S512x512))
    (mulf (mulf x (rstd x)) (mulf (headSums (mulf (mulf dy (broadcastTo S512x512 g broadcasts_S1x512_S512x512)) (mulf x (rstd x))))
      (broadcast S512x512 (Scalar.ofBits .f32 0x3C800000#32)))))

theorem rstd_apply (x : FVec Ideal S512x512 .f32) (X : S512x512.Idx → ℝ) (hx : ∀ i, x i = ((X i : ℝ) : EReal)) (r c : Fin 512) :
    rstd x (ix2 r c) = ((rs fun d => X (ix2 r (hcol c d)) : ℝ) : EReal) := by
  have hs := headSums_apply (mulf x x) (fun i => X i * X i) (fun i => by rw [mulf_apply, hx, EReal.coe_mul]) r c
  show Ideal.rsqrt (headSums (mulf x x) (ix2 r c) * Ideal.ofBits .f32 0x3C800000#32 + Ideal.ofBits .f32 0x358637BD#32) = _
  rw [hs, lit_64th, lit_eps.1, ← EReal.coe_mul, ← EReal.coe_add, rsqrt_pos (ms_pos fun d => X (ix2 r (hcol c d)))]
  rfl

theorem bwd_apply (x dy : FVec Ideal S512x512 .f32) (g : FVec Ideal S1x512 .f32) (X D : S512x512.Idx → ℝ) (G : S1x512.Idx → ℝ)
    (hx : ∀ i, x i = ((X i : ℝ) : EReal)) (hd : ∀ i, dy i = ((D i : ℝ) : EReal)) (hg : ∀ i, g i = ((G i : ℝ) : EReal)) (r c : Fin 512) :
    bwd x dy g (ix2 r c) = ((dx (fun d => X (ix2 r (hcol c d))) (fun d => D (ix2 r (hcol c d))) (fun d => G (ix2 0 (hcol c d))) (cin c) : ℝ) : EReal) := by
  have hb : ∀ r c : Fin 512, broadcastTo S512x512 g broadcasts_S1x512_S512x512 (ix2 r c) = ((G (ix2 0 c) : ℝ) : EReal) := fun r c => by
    rw [broadcastTo_apply g broadcasts_S1x512_S512x512 (ix2 r c) (ix2 0 c) (fun a => match a with | ⟨0, _⟩ => rfl | ⟨1, _⟩ => rfl), hg]
  have hr := fun r c => rstd_apply x X hx r c
  have hs := headSums_apply (mulf (mulf dy (broadcastTo S512x512 g broadcasts_S1x512_S512x512)) (mulf x (rstd x)))
    (fun i => D i * G (ix2 0 (i 1)) * (X i * rs fun d => X (ix2 (i 0) (hcol (i 1) d)))) (fun i => by
      rw [eq_ix2 i, mulf_apply, mulf_apply, mulf_apply, hb, hr, hx, hd, ← EReal.coe_mul, ← EReal.coe_mul, ← EReal.coe_mul]) r c
  show rstd x (ix2 r c) * (dy (ix2 r c) * broadcastTo S512x512 g broadcasts_S1x512_S512x512 (ix2 r c)
    - x (ix2 r c) * rstd x (ix2 r c) * (headSums _ (ix2 r c) * Ideal.ofBits .f32 0x3C800000#32)) = _
  rw [hs, hb, hr, hx, hd, lit_64th, ← EReal.coe_mul, ← EReal.coe_mul, ← EReal.coe_mul, ← EReal.coe_mul, ← EReal.coe_sub, ← EReal.coe_mul]
  unfold dx
  simp only [hcol_cin]
  have e : ∀ d : Fin 64, ((ix2 r (hcol c d) : S512x512.Idx) 0) = r ∧ ((ix2 r (hcol c d) : S512x512.Idx) 1) = hcol c d := fun d => ⟨rfl, rfl⟩
  congr 5
  refine Finset.sum_congr rfl fun d _ => ?_
  rw [(e d).1, (e d).2]
  simp only [hcol_hcol]

/-- A block's term of the gain's gradient: the sum over the rows. -/
theorem gain_apply (x dy : FVec Ideal S512x512 .f32) (X D : S512x512.Idx → ℝ)
    (hx : ∀ i, x i = ((X i : ℝ) : EReal)) (hd : ∀ i, dy i = ((D i : ℝ) : EReal)) (c : Fin 512) :
    multiReduction (F := Ideal) .add [0] S512 (mulf dy (mulf x (rstd x))) 0x00000000#32 reduces_S512x512_S512 (.inl rfl) rfl (ix1 c)
      = ((∑ r : Fin 512, D (ix2 r c) * (X (ix2 r c) * rs fun d => X (ix2 r (hcol c d))) : ℝ) : EReal) := by
  rw [Ideal.multiReduction_add_single, coe_sum]
  refine Finset.sum_congr rfl fun r _ => ?_
  have e : reduces_S512x512_S512.lift (ix1 c) r = ix2 r c := by
    funext a
    match a with
    | ⟨0, _⟩ => rfl
    | ⟨1, _⟩ => rfl
  rw [e, mulf_apply, mulf_apply, rstd_apply x X hx, hx, hd, ← EReal.coe_mul, ← EReal.coe_mul]
  rfl

/-! ## The block's five results as these functions of its loads -/

theorem pay9_eq (P : Vec Ideal S1x512x512 .f32) : k0_pay9 (F := Ideal) P = rstd (shapeCast S512x512 P shapeCasts_S1x512x512_S512x512) := rfl
theorem pay12_eq (P0 P1 : Vec Ideal S1x512x512 .f32) (P2 : Vec Ideal S1x512 .f32) : k0_pay12 (F := Ideal) P0 P1 P2
    = headSums (mulf (mulf (shapeCast S512x512 P1 shapeCasts_S1x512x512_S512x512) (broadcastTo S512x512 P2 broadcasts_S1x512_S512x512))
        (mulf (shapeCast S512x512 P0 shapeCasts_S1x512x512_S512x512) (rstd (shapeCast S512x512 P0 shapeCasts_S1x512x512_S512x512)))) := rfl
theorem cast_at (P : Vec Ideal S1x512x512 .f32) (r c : Fin 512) :
    P (ix3 0 r c) = (shapeCast S512x512 P shapeCasts_S1x512x512_S512x512 : Vec Ideal S512x512 .f32) (ix2 r c) := by
  rw [shapeCast_dropUnit_apply]
  exact congrArg P (ext3 _ _ _ _ rfl rfl rfl).symm
theorem spread_at (P : Vec Ideal S1x512 .f32) (r c : Fin 512) :
    P (ix2 0 c) = (broadcastTo S512x512 P broadcasts_S1x512_S512x512 : Vec Ideal S512x512 .f32) (ix2 r c) :=
  (broadcastTo_apply P broadcasts_S1x512_S512x512 (ix2 r c) (ix2 0 c) (fun a => match a with | ⟨0, _⟩ => rfl | ⟨1, _⟩ => rfl)).symm
theorem E7_eq (P0 P1 : Vec Ideal S1x512x512 .f32) (P2 : Vec Ideal S1x512 .f32) (y : S1x512x512.Idx) :
    Value.E7 P0 P1 P2 y = bwd (shapeCast S512x512 P0 shapeCasts_S1x512x512_S512x512) (shapeCast S512x512 P1 shapeCasts_S1x512x512_S512x512) P2 (ix2 (y 1) (y 2)) := by
  obtain ⟨u, r, c, rfl⟩ : ∃ (u : Fin 1) (r c : Fin 512), y = ix3 u r c := ⟨y 0, y 1, y 2, ValueIdx.eq_ix3 y⟩
  have e0 : Value.ix7_0 (ix3 u r c) = ix2 r c := ValueIdx.eq_ix2 _
  have e1 : Value.ix7_1 (ix3 u r c) = ix3 0 r c := ValueIdx.eq_ix3 _
  have e2 : Value.ix7_2 (ix3 u r c) = ix2 0 c := ValueIdx.eq_ix2 _
  show k0_pay9 (F := Ideal) P0 (Value.ix7_0 (ix3 u r c)) * (P1 (Value.ix7_1 (ix3 u r c)) * P2 (Value.ix7_2 (ix3 u r c))
    - P0 (Value.ix7_1 (ix3 u r c)) * k0_pay9 (F := Ideal) P0 (Value.ix7_0 (ix3 u r c)) * (k0_pay12 (F := Ideal) P0 P1 P2 (Value.ix7_0 (ix3 u r c)) * Ideal.ofBits .f32 0x3C800000#32)) = _
  rw [e0, e1, e2, cast_at P0, cast_at P1, spread_at P2 r c, pay9_eq, pay12_eq]
  rfl
theorem E8_eq (P0 : Vec Ideal S1x512x512 .f32) (P1 : Vec Ideal S1x512x512 .f32) (P2 : Vec Ideal S1x512 .f32) (y : S1x512x512.Idx) :
    Value.E8 P0 P1 P2 y = bwd (shapeCast S512x512 P0 shapeCasts_S1x512x512_S512x512) (shapeCast S512x512 P1 shapeCasts_S1x512x512_S512x512) P2 (Value.ix8_0 y) := rfl
theorem E10_eq (P0 : Vec Ideal S1x512x512 .f32) (P1 : Vec Ideal S1x512x512 .f32) (y : S1x1x512.Idx) :
    Value.E10 P0 P1 y = multiReduction (F := Ideal) .add [0] S512 (mulf (shapeCast S512x512 P0 shapeCasts_S1x512x512_S512x512) (mulf (shapeCast S512x512 P1 shapeCasts_S1x512x512_S512x512) (rstd (shapeCast S512x512 P1 shapeCasts_S1x512x512_S512x512)))) 0x00000000#32 reduces_S512x512_S512 (.inl rfl) rfl (Value.ix10_0 y) := rfl
theorem E11_eq (P0 : Vec Ideal S1x512x512 .f32) (P1 : Vec Ideal S1x512x512 .f32) (y : S1x1x512.Idx) :
    Value.E11 P0 P1 y = multiReduction (F := Ideal) .add [0] S512 (mulf (shapeCast S512x512 P0 shapeCasts_S1x512x512_S512x512) (mulf (shapeCast S512x512 P1 shapeCasts_S1x512x512_S512x512) (rstd (shapeCast S512x512 P1 shapeCasts_S1x512x512_S512x512)))) 0x00000000#32 reduces_S512x512_S512 (.inl rfl) rfl (Value.ix11_0 y) := rfl

end Cert.KernelIdeal.QkBlock

end

end
-- ==== Proof.QkArray.lean ====
/-
  The five arrays after the run: every block is the block's gradient, and the blocks tile the arrays.
-/
module

public import proofs.«01_k».proof.Proof.QkBlock
public import Idealize.ShloMosaic.Lib.Pipeline.ValueKit

set_option maxRecDepth 16384
set_option backward.isDefEq.respectTransparency false

@[expose] public section

noncomputable section

namespace Cert.KernelIdeal.QkArray

open Cert.KernelIdeal Cert.KernelIdeal.Gen Cert.Common Cert.KernelIdeal.QkBlock
open Idealize.ShloMosaic hiding ix0 ix1 ix2 ix3 ix4 ix5 ix6
open Idealize.ShloMosaic.ValueIdx Idealize.ShloMosaic.TcCoe
open Idealize.ShloMosaic.Pipeline (Dat)
open scoped BigOperators

variable (m : (ℓ : Loc nD τ sig) → Buf (Elt Ideal) ℓ)

theorem idx7 : ∀ t : Fin cfg0.N, win0_0.index t = ![t.val / 4, t.val % 4, 0] ∧ win0_1.index t = ![t.val / 4, t.val % 4, 1]
    ∧ win0_2.index t = ![t.val / 4, t.val % 4, 0] ∧ win0_3.index t = ![t.val / 4, t.val % 4 + 1, 0] ∧ win0_4.index t = ![t.val / 4, t.val % 4 + 1, 0]
    ∧ win0_5.index t = ![0, 0] ∧ win0_6.index t = ![0, 0] ∧ win0_7.index t = ![t.val / 4, t.val % 4, 0] ∧ win0_8.index t = ![t.val / 4, t.val % 4, 0]
    ∧ win0_9.index t = ![t.val / 4, t.val % 4, 0] ∧ win0_10.index t = ![t.val, 0, 0] ∧ win0_11.index t = ![t.val, 0, 0] :=
  (by decide +kernel : ∀ t : Fin grid0.N, _)

theorem ld0 (x : Vec Ideal S1x512x512 .f32) : View.ld x r0_0 = x :=
  View.ld_unit_zero (funext fun a => match a with | ⟨0, _⟩ => rfl | ⟨1, _⟩ => rfl | ⟨2, _⟩ => rfl) _ _
theorem ld1 (x : Vec Ideal S1x512 .f32) : View.ld x r0_1 = x :=
  View.ld_unit_zero (funext fun a => match a with | ⟨0, _⟩ => rfl | ⟨1, _⟩ => rfl) _ _

/-- A gain row repeated for the eight heads, read at a column. -/
theorem tile_apply (g : Vec Ideal S1x64 .f32) (k : Fin 512) (i : S1x512.Idx) (h1 : (i 1).val = k.val) :
    shapeCast S1x512 (broadcastInDim S1x1x8x64 ![0, 1, 2, 3] bcast_S1x1x1x64_S1x1x8x64_0_1_2_3 (shapeCast S1x1x1x64 g shapeCasts_S1x64_S1x1x1x64))
      shapeCasts_S1x1x8x64_S1x512 i = g (ix2 0 (cin k)) := by
  have hk := k.isLt
  rw [shapeCast_apply _ shapeCasts_S1x1x8x64_S1x512 i (ix4 0 0 ⟨k.val / 64, by omega⟩ (cin k))
    (by
      rw [Shape.rowMajor_val_four, Shape.rowMajor_val_two]
      have h0 : (i 0).val < 1 := (i 0).isLt
      show ((0 * 1 + 0) * 8 + k.val / 64) * 64 + k.val % 64 = (i 0).val * 512 + (i 1).val
      omega),
    broadcastInDim_apply _ _ _ _ (ix4 0 0 0 (cin k)) (fun a => match a with | ⟨0, _⟩ => rfl | ⟨1, _⟩ => rfl | ⟨2, _⟩ => rfl | ⟨3, _⟩ => rfl),
    shapeCast_apply _ shapeCasts_S1x64_S1x1x1x64 _ (ix2 0 (cin k))
    (by
      rw [Shape.rowMajor_val_four, Shape.rowMajor_val_two]
      show 0 * 64 + k.val % 64 = ((0 * 1 + 0) * 1 + 0) * 64 + k.val % 64
      omega)]

theorem V5 (c : Dev nD) (k : Fin 512) (i : S1x512.Idx) (h1 : (i 1).val = k.val) :
    (V m c (Pipeline.arrRef spec0 5) : Vec Ideal S1x512 .f32) i = (m ((c : Thread nD τ).loc main_arg1) : Vec Ideal S1x64 .f32) (ix2 0 (cin k)) := by
  entry_read
  exact tile_apply _ k i h1
theorem V6 (c : Dev nD) (k : Fin 512) (i : S1x512.Idx) (h1 : (i 1).val = k.val) :
    (V m c (Pipeline.arrRef spec0 6) : Vec Ideal S1x512 .f32) i = (m ((c : Thread nD τ).loc main_arg2) : Vec Ideal S1x64 .f32) (ix2 0 (cin k)) := by
  entry_read
  exact tile_apply _ k i h1

/-- A point's batch and stretch. -/
abbrev pb (t : Fin cfg0.N) : Fin 8 := ⟨t.val, t.isLt⟩

theorem col_lt {k : ℕ} (h : k < 512) : k < 3584 := by omega
theorem col_lt' {k : ℕ} (h : k < 512) : 512 + k < 3584 := by omega

abbrev A0 (c : Dev nD) : Vec Ideal S2x2048x3584 .f32 := m ((c : Thread nD τ).loc main_arg0)
abbrev A1 (c : Dev nD) : Vec Ideal S1x64 .f32 := m ((c : Thread nD τ).loc main_arg1)
abbrev A2 (c : Dev nD) : Vec Ideal S1x64 .f32 := m ((c : Thread nD τ).loc main_arg2)
abbrev A3 (c : Dev nD) : Vec Ideal S2x2048x512 .f32 := m ((c : Thread nD τ).loc main_arg3)
abbrev A4 (c : Dev nD) : Vec Ideal S2x2560x512 .f32 := m ((c : Thread nD τ).loc main_arg4)
abbrev A5 (c : Dev nD) : Vec Ideal S2x2560x512 .f32 := m ((c : Thread nD τ).loc main_arg5)

/-! ### The blocks read at an index -/

/-- A row behind the 512 rows put in front. -/
abbrev past (r : Fin 2048) : Fin 2560 := ⟨512 + r.val, by have := r.isLt; omega⟩

theorem blk0 (c : Dev nD) (t : Fin cfg0.N) (i : S512x512.Idx) :
    (shapeCast S512x512 (iblk m c 0 t) shapeCasts_S1x512x512_S512x512 : Vec Ideal S512x512 .f32) i
      = A0 m c (ix3 (hi8 (pb t)) (row (lo8 (pb t)) (i 0)) ⟨(i 1).val, col_lt (i 1).isLt⟩) := by
  rw [shapeCast_dropUnit_apply]
  blk_simp [iblk]
  rw [V_main_arg0]
  refine congrArg (A0 m c) (ext3 _ _ _ _ ?_ ?_ ?_) <;> blk_simp [idx7 t]
  · show t.val % 4 * 512 + (i 0).val = 512 * (t.val % 4) + (i 0).val; omega
  · show (i 1).val = (i 1).val; omega

theorem blk1 (c : Dev nD) (t : Fin cfg0.N) (i : S512x512.Idx) :
    (shapeCast S512x512 (iblk m c 1 t) shapeCasts_S1x512x512_S512x512 : Vec Ideal S512x512 .f32) i
      = A0 m c (ix3 (hi8 (pb t)) (row (lo8 (pb t)) (i 0)) ⟨512 + (i 1).val, col_lt' (i 1).isLt⟩) := by
  rw [shapeCast_dropUnit_apply]
  blk_simp [iblk]
  rw [V_main_arg0]
  refine congrArg (A0 m c) (ext3 _ _ _ _ ?_ ?_ ?_) <;> blk_simp [idx7 t]
  · show t.val % 4 * 512 + (i 0).val = 512 * (t.val % 4) + (i 0).val; omega
  · show 512 + (i 1).val = 512 + (i 1).val; omega

theorem blk2 (c : Dev nD) (t : Fin cfg0.N) (i : S512x512.Idx) :
    (shapeCast S512x512 (iblk m c 2 t) shapeCasts_S1x512x512_S512x512 : Vec Ideal S512x512 .f32) i
      = A3 m c (ix3 (hi8 (pb t)) (row (lo8 (pb t)) (i 0)) (i 1)) := by
  rw [shapeCast_dropUnit_apply]
  blk_simp [iblk]
  rw [V_main_arg3]
  refine congrArg (A3 m c) (ext3 _ _ _ _ ?_ ?_ ?_) <;> blk_simp [idx7 t]
  · show t.val % 4 * 512 + (i 0).val = 512 * (t.val % 4) + (i 0).val; omega
  · show (i 1).val = (i 1).val; omega

theorem blk3 (c : Dev nD) (t : Fin cfg0.N) (i : S512x512.Idx) :
    (shapeCast S512x512 (iblk m c 3 t) shapeCasts_S1x512x512_S512x512 : Vec Ideal S512x512 .f32) i
      = A4 m c (ix3 (hi8 (pb t)) (past (row (lo8 (pb t)) (i 0))) (i 1)) := by
  rw [shapeCast_dropUnit_apply]
  blk_simp [iblk]
  rw [V_main_arg4]
  refine congrArg (A4 m c) (ext3 _ _ _ _ ?_ ?_ ?_) <;> blk_simp [idx7 t]
  · show (t.val % 4 + 1) * 512 + (i 0).val = 512 + (512 * (t.val % 4) + (i 0).val); omega
  · show (i 1).val = (i 1).val; omega

theorem blk4 (c : Dev nD) (t : Fin cfg0.N) (y : S1x512x512.Idx) :
    (iblk m c 4 t : Vec Ideal S1x512x512 .f32) y = A5 m c (ix3 (hi8 (pb t)) (past (row (lo8 (pb t)) (y 1))) (y 2)) := by
  blk_simp [iblk]
  rw [V_main_arg5]
  refine congrArg (A5 m c) (ext3 _ _ _ _ ?_ ?_ ?_) <;> blk_simp [idx7 t]
  · show (t.val % 4 + 1) * 512 + (y 1).val = 512 + (512 * (t.val % 4) + (y 1).val); omega

theorem blk5 (c : Dev nD) (t : Fin cfg0.N) (i : S1x512.Idx) :
    (iblk m c 5 t : Vec Ideal S1x512 .f32) i = A1 m c (ix2 0 (cin (i 1))) := by
  blk_simp [iblk]
  exact V5 m c (i 1) _ (by blk_simp [idx7 t])
theorem blk6 (c : Dev nD) (t : Fin cfg0.N) (i : S1x512.Idx) :
    (iblk m c 6 t : Vec Ideal S1x512 .f32) i = A2 m c (ix2 0 (cin (i 1))) := by
  blk_simp [iblk]
  exact V6 m c (i 1) _ (by blk_simp [idx7 t])

theorem cin_hcol (c : Fin 512) (e : Fin 64) : cin (hcol c e) = e :=
  Fin.ext (by have := e.isLt; show (64 * (c.val / 64) + e.val) % 64 = e.val; omega)

/-! ### The arrays -/

/-- The reals of the arguments' elements. -/
abbrev xq (c : Dev nD) (b : Fin 2) (r : Fin 2048) (k : Fin 512) : ℝ := (A0 m c (ix3 b r ⟨k.val, col_lt k.isLt⟩)).toReal
abbrev xk (c : Dev nD) (b : Fin 2) (r : Fin 2048) (k : Fin 512) : ℝ := (A0 m c (ix3 b r ⟨512 + k.val, col_lt' k.isLt⟩)).toReal
abbrev yq (c : Dev nD) (b : Fin 2) (r : Fin 2048) (k : Fin 512) : ℝ := (A3 m c (ix3 b r k)).toReal
abbrev yk (c : Dev nD) (b : Fin 2) (r : Fin 2048) (k : Fin 512) : ℝ := (A4 m c (ix3 b (past r) k)).toReal
abbrev gq (c : Dev nD) (e : Fin 64) : ℝ := (A1 m c (ix2 0 e)).toReal
abbrev gk (c : Dev nD) (e : Fin 64) : ℝ := (A2 m c (ix2 0 e)).toReal

/-- Every element an array holds is a real. -/
def Real' {s : Shape} (v : Vec Ideal s .f32) : Prop := ∀ i, v i = (((v i).toReal : ℝ) : EReal)

variable (c : Dev nD)

/-- An index of an array of rows, by what its coordinates are. -/
theorem at3 {α : Type} (f : Fin 2 → Fin 2048 → Fin 512 → α) (i : S2x2048x512.Idx) (b : Fin 2) (r : Fin 2048) (k : Fin 512)
    (h0 : (i 0).val = b.val) (h1 : (i 1).val = r.val) (h2 : (i 2).val = k.val) : f (i 0) (i 1) (i 2) = f b r k := by
  rw [show i 0 = b from Fin.ext h0, show i 1 = r from Fin.ext h1, show i 2 = k from Fin.ext h2]

theorem final7 (f0 : Real' (A0 m c)) (f1 : Real' (A1 m c)) (f3 : Real' (A3 m c)) :
    (dats m 0 c).arrAt 7 cfg0.N = fun i => ((dxAt (xq m c) (yq m c) (gq m c) (i 0) (i 1) (i 2) : ℝ) : EReal) := by
  refine (dats m 0 c).arrAt_eq_of_covers 7 _ (by decide +kernel) fun t hf y => ?_
  blk_simp
  rw [after0_7]
  unfold_out out0_7
  rw [Value.canon7_eq, ld0, ld0, ld1, E7_eq]
  rw [bwd_apply _ _ _ (fun i => xq m c (hi8 (pb t)) (row (lo8 (pb t)) (i 0)) (i 1)) (fun i => yq m c (hi8 (pb t)) (row (lo8 (pb t)) (i 0)) (i 1))
    (fun i => gq m c (cin (i 1))) (fun i => by rw [blk0]; exact f0 _) (fun i => by rw [blk2]; exact f3 _) (fun i => by rw [blk5]; exact f1 _)]
  refine congrArg _ (Eq.trans ?_ (at3 _ _ (hi8 (pb t)) (row (lo8 (pb t)) (y 1)) (y 2) ?_ ?_ ?_).symm)
  · unfold dxAt
    congr 1
    funext e
    exact congrArg (gq m c) (cin_hcol _ _)
  all_goals blk_simp [idx7 t]
  show t.val % 4 * 512 + (y 1).val = 512 * (t.val % 4) + (y 1).val
  omega

theorem final8 (f0 : Real' (A0 m c)) (f2 : Real' (A2 m c)) (f4 : Real' (A4 m c)) :
    (dats m 0 c).arrAt 8 cfg0.N = fun i => ((dxAt (xk m c) (yk m c) (gk m c) (i 0) (i 1) (i 2) : ℝ) : EReal) := by
  refine (dats m 0 c).arrAt_eq_of_covers 8 _ (by decide +kernel) fun t hf y => ?_
  blk_simp
  rw [after0_8]
  unfold_out out0_8
  rw [Value.canon8_eq, ld0, ld0, ld1, E8_eq, show Value.ix8_0 y = ix2 (y 1) (y 2) from ValueIdx.eq_ix2 _]
  rw [bwd_apply _ _ _ (fun i => xk m c (hi8 (pb t)) (row (lo8 (pb t)) (i 0)) (i 1)) (fun i => yk m c (hi8 (pb t)) (row (lo8 (pb t)) (i 0)) (i 1))
    (fun i => gk m c (cin (i 1))) (fun i => by rw [blk1]; exact f0 _) (fun i => by rw [blk3]; exact f4 _) (fun i => by rw [blk6]; exact f2 _)]
  refine congrArg _ (Eq.trans ?_ (at3 _ _ (hi8 (pb t)) (row (lo8 (pb t)) (y 1)) (y 2) ?_ ?_ ?_).symm)
  · unfold dxAt
    congr 1
    funext e
    exact congrArg (gk m c) (cin_hcol _ _)
  all_goals blk_simp [idx7 t]
  show t.val % 4 * 512 + (y 1).val = 512 * (t.val % 4) + (y 1).val
  omega

theorem final10 (f0 : Real' (A0 m c)) (f3 : Real' (A3 m c)) :
    (dats m 0 c).arrAt 10 cfg0.N = fun i => ((dgAt (xq m c) (yq m c) (i 0) (i 2) : ℝ) : EReal) := by
  refine (dats m 0 c).arrAt_eq_of_covers 10 _ (by decide +kernel) fun t hf y => ?_
  blk_simp
  rw [after0_10]
  unfold_out out0_10
  rw [Value.canon10_eq, ld0, ld0, E10_eq, show Value.ix10_0 y = ix1 (y 2) from ValueIdx.eq_ix1 _]
  rw [gain_apply _ _ (fun i => xq m c (hi8 (pb t)) (row (lo8 (pb t)) (i 0)) (i 1)) (fun i => yq m c (hi8 (pb t)) (row (lo8 (pb t)) (i 0)) (i 1))
    (fun i => by rw [blk0]; exact f0 _) (fun i => by rw [blk2]; exact f3 _)]
  have e0 : (win0_10.blk t).view.emb y 0 = pb t := Fin.ext (by blk_simp [idx7 t])
  have e2 : (win0_10.blk t).view.emb y 2 = y 2 := Fin.ext (by blk_simp [idx7 t])
  rw [e0, e2]
  rfl

theorem final11 (f0 : Real' (A0 m c)) (f4 : Real' (A4 m c)) :
    (dats m 0 c).arrAt 11 cfg0.N = fun i => ((dgAt (xk m c) (yk m c) (i 0) (i 2) : ℝ) : EReal) := by
  refine (dats m 0 c).arrAt_eq_of_covers 11 _ (by decide +kernel) fun t hf y => ?_
  blk_simp
  rw [after0_11]
  unfold_out out0_11
  rw [Value.canon11_eq, ld0, ld0, E11_eq, show Value.ix11_0 y = ix1 (y 2) from ValueIdx.eq_ix1 _]
  rw [gain_apply _ _ (fun i => xk m c (hi8 (pb t)) (row (lo8 (pb t)) (i 0)) (i 1)) (fun i => yk m c (hi8 (pb t)) (row (lo8 (pb t)) (i 0)) (i 1))
    (fun i => by rw [blk1]; exact f0 _) (fun i => by rw [blk3]; exact f4 _)]
  have e0 : (win0_11.blk t).view.emb y 0 = pb t := Fin.ext (by blk_simp [idx7 t])
  have e2 : (win0_11.blk t).view.emb y 2 = y 2 := Fin.ext (by blk_simp [idx7 t])
  rw [e0, e2]
  rfl

theorem final9 : (dats m 0 c).arrAt 9 cfg0.N = fun i => A5 m c (ix3 (i 0) (past (i 1)) (i 2)) := by
  refine (dats m 0 c).arrAt_eq_of_covers 9 _ (by decide +kernel) fun t hf y => ?_
  blk_simp
  rw [after0_9]
  unfold_out out0_9
  rw [Value.canon9_eq, ld0]
  show (iblk m c 4 t : Vec Ideal S1x512x512 .f32) (Value.ix9_0 y) = _
  rw [blk4]
  refine congrArg (A5 m c) (ext3 _ _ _ _ ?_ ?_ ?_)
  · refine Eq.symm (show ((win0_9.blk t).view.emb y 0).val = t.val / 4 from ?_)
    blk_simp [idx7 t]
  · refine Eq.symm (show 512 + ((win0_9.blk t).view.emb y 1).val = 512 + (512 * (t.val % 4) + (y 1).val) from ?_)
    blk_simp [idx7 t]
    omega
  · refine Eq.symm (show ((win0_9.blk t).view.emb y 2).val = (y 2).val from ?_)
    blk_simp [idx7 t]

end Cert.KernelIdeal.QkArray

end

end
-- ==== Proof.QkRef.lean ====
/-
  The reference's five gradients element by element as real numbers: the query's by its operations, the key's by the same
  operations on other columns.
-/
module

public import proofs.«01_k».proof.Proof.Gen.ReferenceIdeal.Read
public import proofs.«01_k».proof.Proof.Common

set_option maxRecDepth 16384
set_option backward.isDefEq.respectTransparency false

@[expose] public section

noncomputable section

namespace Cert.ReferenceIdeal.QkRef

open Cert.ReferenceIdeal Cert.ReferenceIdeal.Read Cert.Common
open Idealize.ShloMosaic Idealize.ShloMosaic.ValueIdx
open scoped BigOperators

variable (x0 : Vec Ideal S2x2048x3584 .f32) (x1 : Vec Ideal S1x64 .f32) (x3 : Vec Ideal S2x2048x512 .f32)
variable (X D G : Fin 2 → Fin 4 → Fin 512 → Fin 8 → Fin 64 → ℝ)
variable (hX : ∀ b j s h d, val_main_v7 (F := Ideal) x0 (ix5 b j s h d) = ((X b j s h d : ℝ) : EReal))
variable (hD : ∀ b j s h d, val_main_v71 (F := Ideal) x3 (ix5 b j s h d) = ((D b j s h d : ℝ) : EReal))
variable (hG : ∀ b j s h d, val_main_v75 (F := Ideal) x1 (ix5 b j s h d) = ((G b j s h d : ℝ) : EReal))

include hX in
theorem v14_at (b : Fin 2) (j : Fin 4) (s : Fin 512) (h : Fin 8) :
    val_main_v14 (F := Ideal) x0 (ix5 b j s h 0) = (((∑ e, X b j s h e * X b j s h e) / 64 + eps : ℝ) : EReal) := by
  have h9 : val_main_v9 (F := Ideal) x0 (ix4 b j s h) = ((∑ e, X b j s h e * X b j s h e : ℝ) : EReal) := by
    rw [val_main_v9_apply]
    show Ideal.ofBits .f32 0x00000000#32 + _ = _
    rw [Ideal.ofBits_zero_f32, zero_add, coe_sum]
    refine Finset.sum_congr rfl fun k _ => ?_
    rw [show idx_main_v9 (ix4 b j s h) k = ix5 b j s h k from eq_ix5 _]
    show val_main_v7 (F := Ideal) x0 _ * val_main_v7 (F := Ideal) x0 _ = _
    rw [hX, EReal.coe_mul]
  rw [val_main_v14_apply, val_main_v12_apply, val_main_v10_apply, val_main_v11_apply, val_main_v13_apply,
    show idx_main_v10 (ix5 b j s h 0) = ix4 b j s h from eq_ix4 _, h9]
  show Ideal.div _ (Ideal.ofBits .f32 0x42800000#32) + Ideal.ofBits .f32 0x358637BD#32 = _
  rw [lit_64, lit_eps.1, div_real _ (by norm_num), EReal.coe_add]

theorem vpos (x : Fin 64 → ℝ) : 0 < (∑ d, x d * x d) / 64 + eps := by
  rw [← mul_one_div]; exact ms_pos x

theorem rs_eq (x : Fin 64 → ℝ) : (Real.sqrt ((∑ d, x d * x d) / 64 + eps))⁻¹ = rs x := by
  rw [← mul_one_div]; rfl

include hX in
theorem v15_at (b : Fin 2) (j : Fin 4) (s : Fin 512) (h : Fin 8) :
    val_main_v15 (F := Ideal) x0 (ix5 b j s h 0) = ((rs (X b j s h) : ℝ) : EReal) := by
  rw [val_main_v15_apply, v14_at x0 X hX]
  rw [Ideal.hostUnary_rsqrt_def, rsqrt_pos (vpos _), rs_eq]

include hX hD hG in
/-- The gradient by the query's rows. -/
theorem v90_at (b : Fin 2) (j : Fin 4) (s : Fin 512) (h : Fin 8) (d : Fin 64) :
    val_main_v90 (F := Ideal) x0 x1 x3 (ix5 b j s h d) = ((dx (X b j s h) (D b j s h) (G b j s h) d : ℝ) : EReal) := by
  have h15 := v15_at x0 X hX b j s h
  have h76 : ∀ d, val_main_v76 (F := Ideal) x1 x3 (ix5 b j s h d) = ((D b j s h d * G b j s h d : ℝ) : EReal) := fun d => by
    rw [val_main_v76_apply, hD, hG, EReal.coe_mul]; rfl
  have h78 : val_main_v78 (F := Ideal) x0 x1 x3 (ix4 b j s h) = ((∑ e, X b j s h e * (D b j s h e * G b j s h e) : ℝ) : EReal) := by
    rw [val_main_v78_apply]
    show Ideal.ofBits .f32 0x00000000#32 + _ = _
    rw [Ideal.ofBits_zero_f32, zero_add, coe_sum]
    refine Finset.sum_congr rfl fun k _ => ?_
    rw [show idx_main_v78 (ix4 b j s h) k = ix5 b j s h k from eq_ix5 _, val_main_v77_apply, hX, h76, EReal.coe_mul]
    rfl
  have h18 : val_main_v18 (F := Ideal) x0 (ix5 b j s h 0)
      = ((-(1 / 2) * (rs (X b j s h) / ((∑ e, X b j s h e * X b j s h e) / 64 + eps)) : ℝ) : EReal) := by
    rw [val_main_v18_apply, val_main_v16_apply, val_main_v17_apply, h15, v14_at x0 X hX]
    show Ideal.ofBits .f32 0xBF000000#32 * Ideal.div _ _ = _
    rw [lit_neg_half, div_real _ (vpos _).ne', EReal.coe_mul]
  have h85 : val_main_v85 (F := Ideal) x0 x1 x3 (ix4 b j s h)
      = (((∑ e, X b j s h e * (D b j s h e * G b j s h e)) * (-(1 / 2) * (rs (X b j s h) / ((∑ e, X b j s h e * X b j s h e) / 64 + eps))) / 64 : ℝ) : EReal) := by
    rw [val_main_v85_apply]
    show Ideal.ofBits .f32 0x00000000#32 + _ = _
    rw [Ideal.ofBits_zero_f32, zero_add, Fin.sum_univ_one, show idx_main_v85 (ix4 b j s h) 0 = ix5 b j s h 0 from eq_ix5 _,
      val_main_v84_apply, val_main_v82_apply, val_main_v83_apply, val_main_v79_apply, h18,
      show idx_main_v79 (ix5 b j s h 0) = ix4 b j s h from ext4 _ _ _ _ _ (by show ((((b.val * 4 + j.val) * 512 + s.val) * 8 + h.val) * 1 + 0) / 16384 = b.val; omega)
        (by show ((((b.val * 4 + j.val) * 512 + s.val) * 8 + h.val) * 1 + 0) / 4096 % 4 = j.val; omega)
        (by show ((((b.val * 4 + j.val) * 512 + s.val) * 8 + h.val) * 1 + 0) / 8 % 512 = s.val; omega)
        (by show ((((b.val * 4 + j.val) * 512 + s.val) * 8 + h.val) * 1 + 0) % 8 = h.val; omega), h78]
    show Ideal.div (_ * _) (Ideal.ofBits .f32 0x42800000#32) = _
    rw [lit_64, ← EReal.coe_mul, div_real _ (by norm_num)]
  have hW : val_main_v86 (F := Ideal) x0 x1 x3 (ix5 b j s h d) = val_main_v85 (F := Ideal) x0 x1 x3 (ix4 b j s h) := by
    rw [val_main_v86_apply, show idx_main_v86 (ix5 b j s h d) = ix4 b j s h from eq_ix4 _]
  rw [val_main_v90_apply, val_main_v88_apply, val_main_v89_apply, val_main_v87_apply, val_main_v81_apply, val_main_v80_apply, hW, h85, hX, h76,
    show idx_main_v80 (ix5 b j s h d) = ix5 b j s h 0 from eq_ix5 _, h15]
  show _ * _ + _ * _ + _ * _ = _
  rw [← dx_chain, ← EReal.coe_mul, ← EReal.coe_mul, ← EReal.coe_mul, ← EReal.coe_add, ← EReal.coe_add]

include hX hD in
/-- A stretch's term of the query gain's gradient. -/
theorem v73_at (b : Fin 2) (j : Fin 4) (h : Fin 8) (d : Fin 64) :
    val_main_v73 (F := Ideal) x0 x3 (ix4 b j h d) = ((∑ s : Fin 512, D b j s h d * (X b j s h d * rs (X b j s h)) : ℝ) : EReal) := by
  rw [val_main_v73_apply]
  show Ideal.ofBits .f32 0x00000000#32 + _ = _
  rw [Ideal.ofBits_zero_f32, zero_add, coe_sum]
  refine Finset.sum_congr rfl fun s _ => ?_
  rw [show idx_main_v73 (ix4 b j h d) s = ix5 b j s h d from eq_ix5 _, val_main_v72_apply, val_main_v20_apply, val_main_v19_apply, hX, hD,
    show idx_main_v19 (ix5 b j s h d) = ix5 b j s h 0 from eq_ix5 _, v15_at x0 X hX]
  show _ * _ * _ = _
  rw [← EReal.coe_mul, ← EReal.coe_mul, mul_comm]

/-! ## The arrays as the arguments' elements -/

/-- The column a head and its column stand for. -/
abbrev col (h : Fin 8) (d : Fin 64) : Fin 512 := ⟨64 * h.val + d.val, by have := h.isLt; have := d.isLt; omega⟩

theorem v71_eq (b : Fin 2) (j : Fin 4) (s : Fin 512) (h : Fin 8) (d : Fin 64) :
    val_main_v71 (F := Ideal) x3 (ix5 b j s h d) = x3 (ix3 b (row j s) (col h d)) := by
  rw [val_main_v71_apply]
  congr 1
  exact ext3 _ _ _ _ (by show ((((b.val * 4 + j.val) * 512 + s.val) * 8 + h.val) * 64 + d.val) / 1048576 = b.val; omega)
    (by show ((((b.val * 4 + j.val) * 512 + s.val) * 8 + h.val) * 64 + d.val) / 512 % 2048 = 512 * j.val + s.val; omega)
    (by show ((((b.val * 4 + j.val) * 512 + s.val) * 8 + h.val) * 64 + d.val) % 512 = 64 * h.val + d.val; omega)

theorem v7_eq (b : Fin 2) (j : Fin 4) (s : Fin 512) (h : Fin 8) (d : Fin 64) :
    val_main_v7 (F := Ideal) x0 (ix5 b j s h d) = val_main_v0 (F := Ideal) x0 (ix3 b (row j s) (col h d)) :=
  v71_eq (val_main_v0 (F := Ideal) x0) b j s h d

theorem v75_eq (b : Fin 2) (j : Fin 4) (s : Fin 512) (h : Fin 8) (d : Fin 64) :
    val_main_v75 (F := Ideal) x1 (ix5 b j s h d) = x1 (ix2 0 d) := by
  rw [val_main_v75_apply, val_main_v4_apply, val_main_v3_apply]
  congr 1
  exact ext2 _ _ _ (by show (0 : ℕ) = 0; rfl) (by show ((((0 * 1 + 0) * 1 + 0) * 1 + 0) * 64 + d.val) % 64 = d.val; omega)

/-- The reals of the query's columns, of the cotangents and of the gain. -/
abbrev rx (b : Fin 2) (r : Fin 2048) (c : Fin 512) : ℝ := (val_main_v0 (F := Ideal) x0 (ix3 b r c)).toReal
abbrev rd (b : Fin 2) (r : Fin 2048) (c : Fin 512) : ℝ := (x3 (ix3 b r c)).toReal
abbrev rg (e : Fin 64) : ℝ := (x1 (ix2 0 e)).toReal

variable (fx : ∀ i, val_main_v0 (F := Ideal) x0 i = (((val_main_v0 (F := Ideal) x0 i).toReal : ℝ) : EReal))
variable (fg : ∀ i, x1 i = (((x1 i).toReal : ℝ) : EReal)) (fd : ∀ i, x3 i = (((x3 i).toReal : ℝ) : EReal))

include fx fg fd in
theorem v91_at (b : Fin 2) (r : Fin 2048) (c : Fin 512) :
    val_main_v91 (F := Ideal) x0 x1 x3 (ix3 b r c) = ((dxAt (rx x0) (rd x3) (rg x1) b r c : ℝ) : EReal) := by
  have hj : r.val / 512 < 4 := by have := r.isLt; omega
  have hh : c.val / 64 < 8 := by have := c.isLt; omega
  have hr : row ⟨r.val / 512, hj⟩ ⟨r.val % 512, Nat.mod_lt _ (by decide)⟩ = r := Fin.ext (by show 512 * (r.val / 512) + r.val % 512 = r.val; omega)
  rw [val_main_v91_apply, show idx_main_v91 (ix3 b r c) = ix5 b ⟨r.val / 512, hj⟩ ⟨r.val % 512, Nat.mod_lt _ (by decide)⟩ ⟨c.val / 64, hh⟩ (cin c) from
    ext5 _ _ _ _ _ _ (by show ((b.val * 2048 + r.val) * 512 + c.val) / 1048576 = b.val; omega)
      (by show ((b.val * 2048 + r.val) * 512 + c.val) / 262144 % 4 = r.val / 512; omega)
      (by show ((b.val * 2048 + r.val) * 512 + c.val) / 512 % 512 = r.val % 512; omega)
      (by show ((b.val * 2048 + r.val) * 512 + c.val) / 64 % 8 = c.val / 64; omega)
      (by show ((b.val * 2048 + r.val) * 512 + c.val) % 64 = c.val % 64; omega),
    v90_at x0 x1 x3 (fun b j s h d => (val_main_v0 (F := Ideal) x0 (ix3 b (row j s) (col h d))).toReal) (fun b j s h d => (x3 (ix3 b (row j s) (col h d))).toReal)
      (fun _ _ _ _ d => (x1 (ix2 0 d)).toReal) (fun b j s h d => by rw [v7_eq, ← fx]) (fun b j s h d => by rw [v71_eq, ← fd]) (fun b j s h d => by rw [v75_eq, ← fg]),
    hr]
  rfl

include fx fd in
theorem v95_at (p : Fin 8) (c : Fin 512) :
    val_main_v95 (F := Ideal) x0 x3 (ix3 p 0 c) = ((dgAt (rx x0) (rd x3) p c : ℝ) : EReal) := by
  have hh : c.val / 64 < 8 := by have := c.isLt; omega
  have hc : col ⟨c.val / 64, hh⟩ (cin c) = c := Fin.ext (by show 64 * (c.val / 64) + c.val % 64 = c.val; omega)
  rw [val_main_v95_apply, val_main_v74_apply,
    show idx_main_v74 (idx_main_v95 (ix3 p 0 c)) = ix4 (hi8 p) (lo8 p) ⟨c.val / 64, hh⟩ (cin c) from
      ext4 _ _ _ _ _ (by show ((((((p.val * 1 + 0) * 512 + c.val) / 2048 * 4 + ((p.val * 1 + 0) * 512 + c.val) / 512 % 4) * 1 + 0) * 8 + ((p.val * 1 + 0) * 512 + c.val) / 64 % 8) * 64 + ((p.val * 1 + 0) * 512 + c.val) % 64) / 2048 = p.val / 4; omega)
        (by show ((((((p.val * 1 + 0) * 512 + c.val) / 2048 * 4 + ((p.val * 1 + 0) * 512 + c.val) / 512 % 4) * 1 + 0) * 8 + ((p.val * 1 + 0) * 512 + c.val) / 64 % 8) * 64 + ((p.val * 1 + 0) * 512 + c.val) % 64) / 512 % 4 = p.val % 4; omega)
        (by show ((((((p.val * 1 + 0) * 512 + c.val) / 2048 * 4 + ((p.val * 1 + 0) * 512 + c.val) / 512 % 4) * 1 + 0) * 8 + ((p.val * 1 + 0) * 512 + c.val) / 64 % 8) * 64 + ((p.val * 1 + 0) * 512 + c.val) % 64) / 64 % 8 = c.val / 64; omega)
        (by show ((((((p.val * 1 + 0) * 512 + c.val) / 2048 * 4 + ((p.val * 1 + 0) * 512 + c.val) / 512 % 4) * 1 + 0) * 8 + ((p.val * 1 + 0) * 512 + c.val) / 64 % 8) * 64 + ((p.val * 1 + 0) * 512 + c.val) % 64) % 64 = c.val % 64; omega),
    v73_at x0 x3 (fun b j s h d => (val_main_v0 (F := Ideal) x0 (ix3 b (row j s) (col h d))).toReal) (fun b j s h d => (x3 (ix3 b (row j s) (col h d))).toReal)
      (fun b j s h d => by rw [v7_eq, ← fx]) (fun b j s h d => by rw [v71_eq, ← fd]), hc]
  rfl

/-! ## The key: the same operations on the columns from 512 and the cotangent's rows from 512 -/

variable (x2 : Vec Ideal S1x64 .f32) (x4 : Vec Ideal S2x2560x512 .f32)

/-- The projection with the key's columns put where the query's are. -/
def moved (x0 : Vec Ideal S2x2048x3584 .f32) : Vec Ideal S2x2048x3584 .f32 :=
  fun i => x0 (ix3 (i 0) (i 1) ⟨(512 + (i 2).val) % 3584, Nat.mod_lt _ (by decide)⟩)

theorem moved_eq : val_main_v0 (F := Ideal) (moved x0) = val_main_v1 (F := Ideal) x0 := by
  funext i
  rw [val_main_v0_apply, val_main_v1_apply]
  refine congrArg x0 ?_
  have h2 : (i 2).val < 512 := (i 2).isLt
  exact (ext3 _ _ _ _ rfl rfl (by show 512 + (i 2).val = (512 + (i 2).val) % 3584; omega)).symm

theorem v70_eq : val_main_v70 (F := Ideal) x0 x2 x4 = val_main_v91 (F := Ideal) (moved x0) x2 (val_main_v49 (F := Ideal) x4) := by
  have h24 : val_main_v24 (F := Ideal) x0 = val_main_v7 (F := Ideal) (moved x0) := by
    unfold val_main_v24 val_main_v7; rw [moved_eq]
  have h55 : val_main_v55 (F := Ideal) x2 x4 = val_main_v76 (F := Ideal) x2 (val_main_v49 (F := Ideal) x4) := rfl
  have h32 : val_main_v32 (F := Ideal) x0 = val_main_v15 (F := Ideal) (moved x0) := by
    unfold val_main_v32 val_main_v31 val_main_v29 val_main_v27 val_main_v26 val_main_v25
    rw [h24]; rfl
  have h35 : val_main_v35 (F := Ideal) x0 = val_main_v18 (F := Ideal) (moved x0) := by
    unfold val_main_v35 val_main_v33 val_main_v31 val_main_v29 val_main_v27 val_main_v26 val_main_v25
    rw [h24, h32]; rfl
  have h65 : val_main_v65 (F := Ideal) x0 x2 x4 = val_main_v86 (F := Ideal) (moved x0) x2 (val_main_v49 (F := Ideal) x4) := by
    unfold val_main_v65 val_main_v64 val_main_v63 val_main_v61 val_main_v58 val_main_v57 val_main_v56
    rw [h24, h35, h55]; rfl
  unfold val_main_v70 val_main_v69 val_main_v68 val_main_v67 val_main_v66 val_main_v60 val_main_v59
  rw [h24, h32, h55, h65]; rfl

theorem v96_eq : val_main_v96 (F := Ideal) x0 x4 = val_main_v95 (F := Ideal) (moved x0) (val_main_v49 (F := Ideal) x4) := by
  have h24 : val_main_v24 (F := Ideal) x0 = val_main_v7 (F := Ideal) (moved x0) := by
    unfold val_main_v24 val_main_v7; rw [moved_eq]
  have h32 : val_main_v32 (F := Ideal) x0 = val_main_v15 (F := Ideal) (moved x0) := by
    unfold val_main_v32 val_main_v31 val_main_v29 val_main_v27 val_main_v26 val_main_v25
    rw [h24]; rfl
  unfold val_main_v96 val_main_v53 val_main_v52 val_main_v51 val_main_v37 val_main_v36
  rw [h24, h32]; rfl

end Cert.ReferenceIdeal.QkRef

end

end
-- ==== Proof.QkClaim.lean ====
/-
  The backward of the queries' and keys' preparation: both programs' arrays are the same arrays of reals.
-/
module

public import proofs.«01_k».proof.Defs
public import proofs.«01_k».proof.Proof.QkArray
public import proofs.«01_k».proof.Proof.QkRef
public import proofs.«01_k».proof.Proof.Gen.ReferenceIdeal.Run
public import proofs.«01_k».proof.Proof.Gen.KernelIdeal.Value
public import proofs.«01_k».proof.Proof.Gen.Pre_finite

set_option maxRecDepth 16384
set_option backward.isDefEq.respectTransparency false

@[expose] public section

noncomputable section

namespace Cert.QkClaim

open Cert.Common Cert.KernelIdeal.QkArray
open Cert.ReferenceIdeal Cert.ReferenceIdeal.Read Cert.ReferenceIdeal.QkRef
open Idealize.ShloMosaic hiding ix0 ix1 ix2 ix3 ix4 ix5 ix6 eq_ix3
open Idealize.ShloMosaic.ValueIdx Idealize.ShloMosaic.TcCoe

instance : Cert.KernelIdeal.Facts := Cert.KernelIdeal.Gen.facts
instance : Cert.ReferenceIdeal.Facts := Cert.ReferenceIdeal.Gen.facts
instance : Cert.Pre_finite.Facts := Cert.Pre_finite.Gen.facts

variable (m : (ℓ : Loc Cert.KernelIdeal.nD Cert.KernelIdeal.τ Cert.KernelIdeal.sig) → Buf (Elt Ideal) ℓ)
variable (c : Dev Cert.KernelIdeal.nD)

theorem pre (h : Cert.Pre_KernelIdeal_finite m) :
    Real' (A0 m c) ∧ Real' (A1 m c) ∧ Real' (A2 m c) ∧ Real' (A3 m c) ∧ Real' (A4 m c) := by
  obtain ⟨h0, h1, h2, h3, h4⟩ := h c
  exact ⟨real_of_bound _ _ (fun _ => rfl) h0, real_of_bound _ _ (fun _ => rfl) h1, real_of_bound _ _ (fun _ => rfl) h2, real_of_bound _ _ (fun _ => rfl) h3, real_of_bound _ _ (fun _ => rfl) h4⟩

theorem read0 (x0 : Vec Ideal S2x2048x3584 .f32) (b : Fin 2) (r : Fin 2048) (k : Fin 512) :
    val_main_v0 (F := Ideal) x0 (ix3 b r k) = x0 (ix3 b r ⟨k.val, col_lt k.isLt⟩) := by
  rw [val_main_v0_apply]
  exact congrArg x0 (eq_ix3 _)

theorem readMoved (x0 : Vec Ideal S2x2048x3584 .f32) (b : Fin 2) (r : Fin 2048) (k : Fin 512) :
    val_main_v0 (F := Ideal) (moved x0) (ix3 b r k) = x0 (ix3 b r ⟨512 + k.val, col_lt' k.isLt⟩) := by
  rw [read0]
  exact congrArg x0 (ext3 _ _ _ _ rfl rfl (Nat.mod_eq_of_lt (col_lt' k.isLt)))

theorem read49 (x4 : Vec Ideal S2x2560x512 .f32) (b : Fin 2) (r : Fin 2048) (k : Fin 512) :
    val_main_v49 (F := Ideal) x4 (ix3 b r k) = x4 (ix3 b (past r) k) := by
  rw [val_main_v49_apply]
  exact congrArg x4 (eq_ix3 _)

variable (f0 : Real' (A0 m c)) (f1 : Real' (A1 m c)) (f2 : Real' (A2 m c)) (f3 : Real' (A3 m c)) (f4 : Real' (A4 m c))

theorem all3 (v : Vec Ideal S2x2048x512 .f32) (h : ∀ a b k, v (ix3 a b k) = (((v (ix3 a b k)).toReal : ℝ) : EReal)) : Real' v :=
  fun i => by rw [eq_ix3 i]; exact h _ _ _

include f0 in
theorem real0 : Real' (val_main_v0 (F := Ideal) (A0 m c)) := all3 _ fun b r k => by rw [read0]; exact f0 _
include f0 in
theorem realMoved : Real' (val_main_v0 (F := Ideal) (moved (A0 m c))) := all3 _ fun b r k => by rw [readMoved]; exact f0 _
include f4 in
theorem real49 : Real' (val_main_v49 (F := Ideal) (A4 m c)) := all3 _ fun b r k => by rw [read49]; exact f4 _

theorem rx_eq : rx (A0 m c) = xq m c := by funext b r k; exact congrArg EReal.toReal (read0 _ b r k)
theorem rxm_eq : rx (moved (A0 m c)) = xk m c := by funext b r k; exact congrArg EReal.toReal (readMoved _ b r k)
theorem rd_eq : rd (val_main_v49 (F := Ideal) (A4 m c)) = yk m c := by funext b r k; exact congrArg EReal.toReal (read49 _ b r k)

include f0 f1 f3 in
theorem eq7 : (Cert.KernelIdeal.Gen.dats m 0 c).arrAt 7 Cert.KernelIdeal.cfg0.N = val_main_v92 (F := Ideal) (A0 m c) (A1 m c) (A3 m c) := by
  rw [final7 m c f0 f1 f3]
  funext i
  rw [val_main_v92_apply]
  show _ = val_main_v91 (F := Ideal) (A0 m c) (A1 m c) (A3 m c) i
  rw [eq_ix3 i, v91_at _ _ _ (real0 m c f0) f1 f3, rx_eq]
  rfl

include f0 f2 f4 in
theorem eq8 : (Cert.KernelIdeal.Gen.dats m 0 c).arrAt 8 Cert.KernelIdeal.cfg0.N = val_main_v93 (F := Ideal) (A0 m c) (A2 m c) (A4 m c) := by
  rw [final8 m c f0 f2 f4]
  funext i
  rw [val_main_v93_apply]
  show _ = val_main_v70 (F := Ideal) (A0 m c) (A2 m c) (A4 m c) i
  rw [v70_eq, eq_ix3 i, v91_at _ _ _ (realMoved m c f0) f2 (real49 m c f4), rxm_eq, rd_eq]
  rfl

theorem eq9 : (Cert.KernelIdeal.Gen.dats m 0 c).arrAt 9 Cert.KernelIdeal.cfg0.N = val_main_v94 (F := Ideal) (A5 m c) := by
  rw [final9 m c]
  funext i
  rw [val_main_v94_apply]
  show _ = val_main_v47 (F := Ideal) (A5 m c) i
  rw [val_main_v47_apply]
  exact congrArg (A5 m c) (eq_ix3 _).symm

theorem row1 (i : S8x1x512.Idx) : i = ix3 (i 0) 0 (i 2) :=
  ext3 _ _ _ _ rfl (by have h : (i 1).val < 1 := (i 1).isLt; show (i 1).val = 0; omega) rfl

include f0 f3 in
theorem eq10 : (Cert.KernelIdeal.Gen.dats m 0 c).arrAt 10 Cert.KernelIdeal.cfg0.N = val_main_v95 (F := Ideal) (A0 m c) (A3 m c) := by
  rw [final10 m c f0 f3]
  funext i
  rw [row1 i, v95_at _ _ (real0 m c f0) f3, rx_eq]
  rfl

include f0 f4 in
theorem eq11 : (Cert.KernelIdeal.Gen.dats m 0 c).arrAt 11 Cert.KernelIdeal.cfg0.N = val_main_v96 (F := Ideal) (A0 m c) (A4 m c) := by
  rw [final11 m c f0 f4]
  funext i
  rw [row1 i, v96_eq, v95_at _ _ (realMoved m c f0) (real49 m c f4), rxm_eq, rd_eq]
  rfl

/-- The reference runs and leaves its arguments; it has no counters. -/
theorem frame_reference : Cert.quiescent_ReferenceIdeal := fun m g _ =>
  (θ_run Cert.ReferenceIdeal.defs _ _).mono (fun r h => ⟨fun c => (h c).2.2.2.2.2, sem_eq_zero_of_no_sems (by decide) r.2⟩)
    (Cert.ReferenceIdeal.Value.run (F := Ideal) m g)

theorem algebraic : Cert.algebraic_KernelIdeal_ReferenceIdeal_pre_finite := by
  intro m g m' g' hp ha
  refine ⟨_, _, _, _, _, Cert.KernelIdeal.Value.run_blocks (F := Ideal) m g, ?_⟩
  refine (θ_run Cert.ReferenceIdeal.defs _ _).mono (fun r h c => ?_) (Cert.ReferenceIdeal.Value.run (F := Ideal) m' g')
  obtain ⟨f0, f1, f2, f3, f4⟩ := pre m c hp
  obtain ⟨a0, a1, a2, a3, a4, a5⟩ := ha c
  obtain ⟨h0, h1, h2, h3, h4, hrest⟩ := h c
  refine ⟨h0.trans ?_, h1.trans ?_, h2.trans ?_, h3.trans ?_, h4.trans ?_, hrest⟩
  · rw [val_main_v92_eq, a0, a1, a3]; exact (eq7 m c f0 f1 f3).symm
  · rw [val_main_v93_eq, a0, a2, a4]; exact (eq8 m c f0 f2 f4).symm
  · rw [val_main_v94_eq, a5]; exact (eq9 m c).symm
  · rw [val_main_v95_eq, a0, a3]; exact (eq10 m c f0 f3).symm
  · rw [val_main_v96_eq, a0, a4]; exact (eq11 m c f0 f4).symm

end Cert.QkClaim

end
-- ==== Proof.AttnSpec.lean ====
/-
  The gradient of the banded attention over the reals, for one head: the scores, the softmax over a band of 576 keys with the
  first 512 keys (the rows put in front) left out, and the sums that make the gradients.
-/
module

public import proofs.«01_k».proof.Proof.Common

set_option maxRecDepth 16384

@[expose] public section

noncomputable section

namespace Cert.Attn

open Cert.Common
open Idealize.ShloMosaic Idealize.ShloMosaic.ValueIdx
open scoped BigOperators

/-! ## Arrays read at natural numbers -/

/-- The real number at three coordinates, zero off the array. -/
def rd3 {n m p : ℕ} (A : (⟨3, ![n, m, p]⟩ : Shape).Idx → EReal) (a b c : ℕ) : ℝ :=
  if h : a < n ∧ b < m ∧ c < p then (A (ix3 ⟨a, h.1⟩ ⟨b, h.2.1⟩ ⟨c, h.2.2⟩)).toReal else 0
/-- An array of real numbers. -/
def Real' {s : Shape} (A : s.Idx → EReal) : Prop := ∀ i, A i = (((A i).toReal : ℝ) : EReal)

theorem rd3_coe {n m p : ℕ} (A : (⟨3, ![n, m, p]⟩ : Shape).Idx → EReal) (hA : Real' A) (a : Fin n) (b : Fin m) (c : Fin p) :
    A (ix3 a b c) = ((rd3 A a b c : ℝ) : EReal) := by
  unfold rd3
  rw [dif_pos ⟨a.isLt, b.isLt, c.isLt⟩]
  exact hA _

/-- The rows behind 512 rows of zeros. -/
def behind (X : ℕ → ℕ → ℕ → ℝ) (b s c : ℕ) : ℝ := if s < 512 then 0 else X b (s - 512) c

/-! ## Sums over windows -/

/-- The sum over a window of a function that vanishes off a smaller window is the sum over the smaller one. -/
theorem sum_window {M : Type} [AddCommMonoid M] (f : ℕ → M) (a n b m : ℕ) (hb : b ≤ a) (h : a + n ≤ b + m)
    (hf : ∀ s, b ≤ s → s < b + m → ¬ (a ≤ s ∧ s < a + n) → f s = 0) : ∑ w : Fin m, f (b + w) = ∑ j : Fin n, f (a + j) := by
  rw [Fin.sum_univ_eq_sum_range (fun w => f (b + w)) m, Fin.sum_univ_eq_sum_range (fun w => f (a + w)) n]
  have e : ∀ p q : ℕ, ∑ i ∈ Finset.range q, f (p + i) = ∑ i ∈ Finset.Ico p (p + q), f i := fun p q => by
    rw [Finset.sum_Ico_eq_sum_range, Nat.add_sub_cancel_left]
  rw [e, e]
  refine (Finset.sum_subset ?_ ?_).symm
  · intro s hs
    rw [Finset.mem_Ico] at hs ⊢
    omega
  · intro s hs hn
    rw [Finset.mem_Ico] at hs hn
    exact hf s hs.1 hs.2 hn

/-- A sum over `n * m` numbers, block by block. -/
theorem sum_blocks {M : Type} [AddCommMonoid M] (n m : ℕ) (f : ℕ → M) :
    ∑ t : Fin (n * m), f t = ∑ i : Fin n, ∑ r : Fin m, f (m * i + r) := by
  rw [← Equiv.sum_comp finProdFinEquiv, Fintype.sum_prod_type]
  refine Finset.sum_congr rfl fun i _ => Finset.sum_congr rfl fun r _ => ?_
  show f (r.val + m * i.val) = _
  rw [Nat.add_comm]

/-! ## The row of a softmax with some entries left out -/

/-- The maximum of a row with some entries `-∞` and one that is not is a real number. -/
theorem row_max {n : ℕ} (b : Fin n → Prop) [DecidablePred b] (x : Fin n → ℝ) (w0 : Fin n) (h0 : b w0) :
    ∃ m : ℝ, (Finset.univ : Finset (Fin n)).fold max (⊥ : EReal) (fun w => if b w then ((x w : ℝ) : EReal) else ⊥) = (m : EReal) := by
  have hs : (Finset.univ : Finset (Fin n)).fold max (⊥ : EReal) (fun w => if b w then ((x w : ℝ) : EReal) else ⊥)
      = Finset.univ.sup (fun w => if b w then ((x w : ℝ) : EReal) else ⊥) := rfl
  rw [hs]
  have hbot : Finset.univ.sup (fun w => if b w then ((x w : ℝ) : EReal) else ⊥) ≠ ⊥ := fun h => by
    have hle := Finset.le_sup (f := fun w => if b w then ((x w : ℝ) : EReal) else ⊥) (Finset.mem_univ w0)
    rw [h] at hle
    have : (if b w0 then ((x w0 : ℝ) : EReal) else ⊥) = ⊥ := le_bot_iff.mp hle
    rw [if_pos h0] at this
    exact EReal.coe_ne_bot _ this
  have htop : Finset.univ.sup (fun w => if b w then ((x w : ℝ) : EReal) else ⊥) ≠ ⊤ := by
    refine ne_of_lt ?_
    rw [Finset.sup_lt_iff bot_lt_top]
    intro w _
    by_cases hw : b w
    · rw [if_pos hw]; exact EReal.coe_lt_top _
    · rw [if_neg hw]; exact bot_lt_top
  exact ⟨_, (EReal.coe_toReal htop hbot).symm⟩

theorem exp_masked (p : Prop) [Decidable p] (x m : ℝ) :
    Ideal.exp ((if p then ((x : ℝ) : EReal) else ⊥) - (m : EReal)) = ((if p then Real.exp (x - m) else 0 : ℝ) : EReal) := by
  by_cases h : p
  · rw [if_pos h, if_pos h, ← EReal.coe_sub, Ideal.exp_coe]
  · rw [if_neg h, if_neg h, sub_eq_add_neg, EReal.bot_add, Ideal.exp_bot, EReal.coe_zero]

/-! ## The attention of one head -/

/-- The key `s` is one the query `t` sees: in its band, and not one of the rows put in front. -/
def inB (t s : ℕ) : Prop := 64 * (t / 64) ≤ s ∧ s < 64 * (t / 64) + 576 ∧ 512 ≤ s

instance (t s : ℕ) : Decidable (inB t s) := inferInstanceAs (Decidable (_ ∧ _ ∧ _))

section
variable (Q K V G B : ℕ → ℕ → ℕ → ℝ) (b h : ℕ)

/-- The score of the query `t` and the key `s`. -/
def sc (t s : ℕ) : ℝ := (∑ d : Fin 64, Q b t (64 * h + d) * K b s (64 * h + d)) * (1 / 8) + B h (t % 64) (s - 64 * (t / 64))
/-- Its exponential, zero where the key is not seen. -/
def ew (t s : ℕ) : ℝ := if inB t s then Real.exp (sc Q K B b h t s) else 0
/-- The sum of a row. -/
def zz (t : ℕ) : ℝ := ∑ j : Fin 576, ew Q K B b h t (64 * (t / 64) + j)
/-- The weight. -/
def pr (t s : ℕ) : ℝ := ew Q K B b h t s / zz Q K B b h t
/-- The cotangent of the weight. -/
def dp (t s : ℕ) : ℝ := ∑ d : Fin 64, G b t (64 * h + d) * V b s (64 * h + d)
/-- The row's sum of the weights times their cotangents. -/
def dl (t : ℕ) : ℝ := ∑ j : Fin 576, pr Q K B b h t (64 * (t / 64) + j) * dp V G b h t (64 * (t / 64) + j)
/-- The cotangent of the score. -/
def ds (t s : ℕ) : ℝ := pr Q K B b h t s * (dp V G b h t s - dl Q K V G B b h t)

theorem zz_pos (t : ℕ) : 0 < zz Q K B b h t := by
  refine Finset.sum_pos' (fun j _ => ?_) ⟨⟨512, by omega⟩, Finset.mem_univ _, ?_⟩
  · unfold ew
    split_ifs
    · exact (Real.exp_pos _).le
    · exact le_refl _
  · unfold ew
    rw [if_pos]
    · exact Real.exp_pos _
    · show 64 * (t / 64) ≤ 64 * (t / 64) + 512 ∧ 64 * (t / 64) + 512 < 64 * (t / 64) + 576 ∧ 512 ≤ 64 * (t / 64) + 512
      omega

theorem pr_off (t s : ℕ) (hs : ¬ inB t s) : pr Q K B b h t s = 0 := by
  unfold pr ew; rw [if_neg hs, zero_div]
theorem ds_off (t s : ℕ) (hs : ¬ inB t s) : ds Q K V G B b h t s = 0 := by
  unfold ds; rw [pr_off _ _ _ _ _ _ _ hs, zero_mul]

/-- A softmax taken with another number than the maximum subtracted is the same: the weights of one row, over any window `w` keys
    long from `a` that holds the band. -/
theorem pr_shift (t s a n : ℕ) (m : ℝ) (ha : a ≤ 64 * (t / 64)) (hn : 64 * (t / 64) + 576 ≤ a + n) :
    (if inB t s then Real.exp (sc Q K B b h t s - m) else 0)
      * (1 / ∑ j : Fin n, (if inB t (a + j) then Real.exp (sc Q K B b h t (a + j) - m) else 0)) = pr Q K B b h t s := by
  have e : ∀ s, (if inB t s then Real.exp (sc Q K B b h t s - m) else 0) = ew Q K B b h t s * Real.exp (-m) := fun s => by
    unfold ew
    split_ifs
    · rw [sub_eq_add_neg, Real.exp_add]
    · rw [zero_mul]
  simp only [e]
  rw [← Finset.sum_mul]
  rw [sum_window (ew Q K B b h t) (64 * (t / 64)) 576 a n ha hn fun s _ _ hs => by
    unfold ew; rw [if_neg]; exact fun hi => hs ⟨hi.1, hi.2.1⟩]
  show _ * (1 / (zz Q K B b h t * _)) = _ / zz Q K B b h t
  have hz := (zz_pos Q K B b h t).ne'
  have hm := (Real.exp_pos (-m)).ne'
  field_simp

theorem sum_shift_pos (t a n : ℕ) (m : ℝ) (ha : a ≤ 64 * (t / 64)) (hn : 64 * (t / 64) + 576 ≤ a + n) :
    0 < ∑ j : Fin n, (if inB t (a + j) then Real.exp (sc Q K B b h t (a + j) - m) else 0) := by
  refine Finset.sum_pos' (fun j _ => ?_) ⟨⟨64 * (t / 64) + 512 - a, by omega⟩, Finset.mem_univ _, ?_⟩
  · split_ifs
    · exact (Real.exp_pos _).le
    · exact le_refl _
  · rw [if_pos]
    · exact Real.exp_pos _
    · show 64 * (t / 64) ≤ a + (64 * (t / 64) + 512 - a) ∧ a + (64 * (t / 64) + 512 - a) < 64 * (t / 64) + 576 ∧ 512 ≤ a + (64 * (t / 64) + 512 - a)
      omega

/-- The row's sum over any window that holds the band. -/
theorem dl_window (t a n : ℕ) (ha : a ≤ 64 * (t / 64)) (hn : 64 * (t / 64) + 576 ≤ a + n) :
    ∑ j : Fin n, pr Q K B b h t (a + j) * dp V G b h t (a + j) = dl Q K V G B b h t :=
  sum_window (fun s => pr Q K B b h t s * dp V G b h t s) _ _ _ _ ha hn fun s _ _ hs => by
    show pr Q K B b h t s * _ = 0
    rw [pr_off _ _ _ _ _ _ _ fun hi => hs ⟨hi.1, hi.2.1⟩, zero_mul]

end

section
variable (Q K V G B : ℕ → ℕ → ℕ → ℝ) (b : ℕ)

/-- The gradient of the queries at row `t` and column `c`, a column of the head `c / 64`. -/
def dqA (t c : ℕ) : ℝ := ∑ j : Fin 576, ds Q K V G B b (c / 64) t (64 * (t / 64) + j) * (1 / 8) * K b (64 * (t / 64) + j) c
/-- The gradient of the keys. -/
def dkA (s c : ℕ) : ℝ := ∑ t : Fin 2048, ds Q K V G B b (c / 64) t s * (1 / 8) * Q b t c
/-- The gradient of the values. -/
def dvA (s c : ℕ) : ℝ := ∑ t : Fin 2048, pr Q K B b (c / 64) t s * G b t c
/-- The gradient of the bias over the chunks of even number, laid out over 640 columns. -/
def dbE (h a w : ℕ) : ℝ := ∑ b : Fin 2, ∑ n : Fin 16, ds Q K V G B b h (64 * (2 * n) + a) (64 * (2 * n) + w)
/-- The gradient of the bias over the chunks of odd number, one chunk to the right. -/
def dbO (h a w : ℕ) : ℝ := ∑ b : Fin 2, ∑ n : Fin 16, ds Q K V G B b h (64 * (2 * n + 1) + a) (64 * (2 * n) + w)
end

end Cert.Attn
-- ==== Proof.AttnBlock.lean ====
/-
  One block of the attention's gradients: 256 queries against the 768 keys of their window, for the two heads of a block of 128
  columns, read as the gradients of AttnSpec.lean.
-/
module

public import proofs.«01_k».proof.Proof.Gen.Kernel2Ideal.Value
public import proofs.«01_k».proof.Proof.AttnSpec
public import Idealize.ShloMosaic.Lib.MatmulPlain

set_option maxRecDepth 16384
set_option backward.isDefEq.respectTransparency false

@[expose] public section

noncomputable section

namespace Cert.Kernel2Ideal.AttnBlock

open Cert.Kernel2Ideal Cert.Kernel2Ideal.Gen Cert.Common Cert.Attn
open Idealize.ShloMosaic Idealize.ShloMosaic.ValueIdx
open scoped BigOperators

/-! ## Words -/

theorem word_seen : ∀ i : Fin 8, ∀ w : Fin 768, IntOp.cmpi .sge (IntOp.addi (BitVec.ofNat 32 w.val) (Scalar.muli (BitVec.ofNat 32 i.val) 256#32)) 512#32
    = if 512 ≤ 256 * i.val + w.val then 1#1 else 0#1 := by decide +kernel
theorem word_lane0 : ∀ l : Fin 128, IntOp.cmpi .slt (BitVec.ofNat 32 l.val) 64#32 = if l.val / 64 = 0 then 1#1 else 0#1 := by decide +kernel
theorem word_lane1 : ∀ l : Fin 128, IntOp.cmpi .sge (BitVec.ofNat 32 l.val) 64#32 = if l.val / 64 = 1 then 1#1 else 0#1 := by decide +kernel

theorem select_ite {α : Type} (p : Prop) [Decidable p] (a b : α) : Scalar.select (if p then 1#1 else 0#1) a b = if p then a else b := by
  by_cases h : p <;> simp [h, Scalar.select]

/-! ## The three products -/

theorem nt_apply (l : FVec Ideal S256x128 .bf16) (r : FVec Ideal S768x128 .bf16) (i : Fin 256) (j : Fin 768) :
    matmul dot_S256x128_S768x128_S256x768_1_1_0_0_n_n none l r (constant (F := Ideal) S256x768 .f32 0x00000000#32) (ix2 i j)
      = ∑ k : Fin 128, l (ix2 i k) * r (ix2 j k) := by
  show FloatOps.matmul (DotDims.transposedRhs 256 128 768) _ _ _ _ _ = _
  rw [Ideal.matmul_transposedRhs_apply]
  show Ideal.ofBits .f32 0x00000000#32 + _ = _
  rw [Ideal.ofBits_zero_f32, zero_add]

theorem nn_apply (l : FVec Ideal S256x768 .bf16) (r : FVec Ideal S768x128 .bf16) (i : Fin 256) (j : Fin 128) :
    matmul dot_S256x768_S768x128_S256x128_1_0_0_1_n_n none l r (constant (F := Ideal) S256x128 .f32 0x00000000#32) (ix2 i j)
      = ∑ k : Fin 768, l (ix2 i k) * r (ix2 k j) := by
  show FloatOps.matmul (DotDims.plain 256 768 128) _ _ _ _ _ = _
  rw [Ideal.matmul_plain_apply]
  show Ideal.ofBits .f32 0x00000000#32 + _ = _
  rw [Ideal.ofBits_zero_f32, zero_add]

theorem tn_apply (l : FVec Ideal S256x768 .bf16) (r : FVec Ideal S256x128 .bf16) (i : Fin 768) (j : Fin 128) :
    matmul dot_S256x768_S256x128_S768x128_0_0_1_1_n_n none l r (constant (F := Ideal) S768x128 .f32 0x00000000#32) (ix2 i j)
      = ∑ k : Fin 256, l (ix2 k i) * r (ix2 k j) := by
  show FloatOps.matmul _ _ _ _ _ _ = _
  rw [Ideal.matmul_apply]
  show Ideal.ofBits .f32 0x00000000#32 + _ = _
  rw [Ideal.ofBits_zero_f32, zero_add,
    ← Equiv.sum_comp (contrEquiv1 dot_S256x768_S256x128_S768x128_0_0_1_1_n_n 256 rfl rfl).symm]
  refine Finset.sum_congr rfl fun k _ => ?_
  have hk := contrEquiv1_symm_val dot_S256x768_S256x128_S768x128_0_0_1_1_n_n 256 rfl rfl k
  congr 2
  · funext a; apply Fin.ext
    match a with
    | ⟨0, _⟩ => exact hk
    | ⟨1, _⟩ => rfl
  · funext a; apply Fin.ext
    match a with
    | ⟨0, _⟩ => exact hk
    | ⟨1, _⟩ => rfl

/-! ## Rows -/

theorem lift_row (r : Fin 256) (k : Fin 768) : reduces_S256x768_S256.lift (ix1 r) k = ix2 r k := by
  funext a
  match a with
  | ⟨0, _⟩ => rfl
  | ⟨1, _⟩ => rfl

/-- A column of row values, spread over the row. -/
theorem spread_apply (x : FVec Ideal S256 .f32) (r : Fin 256) (w : Fin 768) :
    broadcastTo S256x768 (shapeCast S256x1 x shapeCasts_S256_S256x1) broadcasts_S256x1_S256x768 (ix2 r w) = x (ix1 r) := by
  rw [broadcastTo_apply _ _ (ix2 r w) (ix2 r (0 : Fin 1)) (fun a => match a with | ⟨0, _⟩ => rfl | ⟨1, _⟩ => rfl)]
  rw [shapeCast_apply _ _ (ix2 r (0 : Fin 1)) (ix1 r) (by
    rw [Shape.rowMajor_val_one, Shape.rowMajor_val_two]; show r.val = r.val * 1 + 0; omega)]

theorem sum_row (x : FVec Ideal S256x768 .f32) (r : Fin 256) :
    multiReduction (F := Ideal) .add [1] S256 x 0x00000000#32 reduces_S256x768_S256 (.inl rfl) rfl (ix1 r) = ∑ w : Fin 768, x (ix2 r w) := by
  rw [Ideal.multiReduction_add_single]
  exact Finset.sum_congr rfl fun w _ => congrArg x (lift_row r w)

theorem max_row (x : FVec Ideal S256x768 .f32) (r : Fin 256) :
    multiReduction (F := Ideal) .maximumf [1] S256 x 0xFF800000#32 reduces_S256x768_S256 (.inl rfl) rfl (ix1 r)
      = (Finset.univ : Finset (Fin 768)).fold max (⊥ : EReal) (fun w => x (ix2 r w)) := by
  rw [Ideal.multiReduction_maximumf_single]
  show Finset.fold max (Ideal.ofBits .f32 0xFF800000#32) _ _ = _
  rw [lit_ninf]
  exact Finset.fold_congr fun w _ => congrArg x (lift_row r w)

/-! ## A head of a block -/

section
variable (Q K V G B : ℕ → ℕ → ℕ → ℝ) (b p : ℕ) (i : Fin 8) (hh : ℕ)
variable (kw vw : FVec Ideal S768x128 .bf16) (qm dm : FVec Ideal S256x128 .bf16) (tb : Vec Ideal S1x256x768 .f32)
variable (hk : ∀ (w : Fin 768) (l : Fin 128), kw (ix2 w l) = ((K b (256 * i + w) (128 * p + l) : ℝ) : EReal))
variable (hv : ∀ (w : Fin 768) (l : Fin 128), vw (ix2 w l) = ((V b (256 * i + w) (128 * p + l) : ℝ) : EReal))
variable (hq : ∀ (r : Fin 256) (l : Fin 128), qm (ix2 r l) = ((if l.val / 64 = hh then Q b (256 * i + r) (128 * p + l) else 0 : ℝ) : EReal))
variable (hd : ∀ (r : Fin 256) (l : Fin 128), dm (ix2 r l) = ((if l.val / 64 = hh then G b (256 * i + r) (128 * p + l) else 0 : ℝ) : EReal))
variable (ht : ∀ (r : Fin 256) (w : Fin 768), tb (ix3 0 r w)
  = if 64 * (r.val / 64) ≤ w.val ∧ w.val < 64 * (r.val / 64) + 576 then ((B (2 * p + hh) (r.val % 64) (w.val - 64 * (r.val / 64)) : ℝ) : EReal) else ⊥)
variable (hhh : hh < 2)

include hhh in
/-- The sum over 128 columns with all but one head's set to zero. -/
theorem head_sum (X Y : ℕ → ℝ) : ∑ l : Fin 128, (if l.val / 64 = hh then X (128 * p + l) else 0) * Y (128 * p + l)
    = ∑ d : Fin 64, X (64 * (2 * p + hh) + d) * Y (64 * (2 * p + hh) + d) := by
  have h := sum_blocks 2 64 (fun l => (if l / 64 = hh then X (128 * p + l) else 0) * Y (128 * p + l))
  refine h.trans ?_
  rw [Finset.sum_eq_single (⟨hh, hhh⟩ : Fin 2)]
  · refine Finset.sum_congr rfl fun d _ => ?_
    have := d.isLt
    rw [if_pos (by show (64 * hh + d.val) / 64 = hh; omega)]
    have e : 128 * p + (64 * hh + d.val) = 64 * (2 * p + hh) + d.val := by omega
    show X (128 * p + (64 * hh + d.val)) * Y (128 * p + (64 * hh + d.val)) = _
    rw [e]
  · intro j _ hj
    refine Finset.sum_eq_zero fun d _ => ?_
    have := d.isLt
    rw [if_neg (by
      intro he
      apply hj
      apply Fin.ext
      show j.val = hh
      change (64 * j.val + d.val) / 64 = hh at he
      omega), zero_mul]
  · intro hn; exact absurd (Finset.mem_univ _) hn

include hk hq ht hhh in
/-- The scores with the bias, `-∞` off the band. -/
theorem scores_apply (r : Fin 256) (w : Fin 768) : k0_pay18 (F := Ideal) kw qm tb (ix2 r w)
    = if 64 * (r.val / 64) ≤ w.val ∧ w.val < 64 * (r.val / 64) + 576 then ((sc Q K B b (2 * p + hh) (256 * i + r) (256 * i + w) : ℝ) : EReal) else ⊥ := by
  show matmul dot_S256x128_S768x128_S256x768_1_1_0_0_n_n none qm kw (constant (F := Ideal) S256x768 .f32 0x00000000#32) (ix2 r w)
    * Ideal.ofBits .f32 0x3E000000#32 + shapeCast S256x768 tb shapeCasts_S1x256x768_S256x768 (ix2 r w) = _
  rw [nt_apply, shapeCast_dropUnit_apply, lit_8th]
  rw [show (∑ k : Fin 128, qm (ix2 r k) * kw (ix2 w k)) = ((∑ d : Fin 64, Q b (256 * i + r) (64 * (2 * p + hh) + d) * K b (256 * i + w) (64 * (2 * p + hh) + d) : ℝ) : EReal) by
    rw [← head_sum p hh hhh (fun c => Q b (256 * i + r) c) (fun c => K b (256 * i + w) c), coe_sum]
    refine Finset.sum_congr rfl fun l _ => ?_
    rw [hq, hk, ← EReal.coe_mul]]
  rw [← EReal.coe_mul]
  have e : (Fin.cons ⟨0, Nat.one_pos⟩ (ix2 r w) : S1x256x768.Idx) = ix3 0 r w := by
    funext a
    match a with
    | ⟨0, _⟩ => rfl
    | ⟨1, _⟩ => rfl
    | ⟨2, _⟩ => rfl
  erw [e]
  rw [ht]
  by_cases hb : 64 * (r.val / 64) ≤ w.val ∧ w.val < 64 * (r.val / 64) + 576
  · rw [if_pos hb, if_pos hb, ← EReal.coe_add]
    unfold sc
    have e1 : (256 * i.val + r.val) % 64 = r.val % 64 := by omega
    have e2 : 256 * i.val + w.val - 64 * ((256 * i.val + r.val) / 64) = w.val - 64 * (r.val / 64) := by omega
    rw [e1, e2]
  · rw [if_neg hb, if_neg hb, EReal.add_bot]

/-- The word the window starts at. -/
abbrev start (i : Fin 8) : BitVec 32 := Scalar.muli (BitVec.ofNat 32 i.val) 256#32

include hk hq ht hhh in
/-- The weights. -/
theorem probs_apply (r : Fin 256) (w : Fin 768) :
    k0_pay21 (F := Ideal) (k0_pay18 kw qm tb) (k0_pay19 (start i)) k0_pay20 (ix2 r w) = ((pr Q K B b (2 * p + hh) (256 * i + r) (256 * i + w) : ℝ) : EReal) := by
  have hr := r.isLt
  -- the masked row
  have hm : ∀ w : Fin 768, select (cmpi .sge (k0_pay19 (start i)) k0_pay20) (k0_pay18 (F := Ideal) kw qm tb)
      (broadcast S256x768 (Named.named κ "mask" (φ := .f32) 0xF149F2CA#32)) (ix2 r w)
      = if inB (256 * i + r) (256 * i + w) then ((sc Q K B b (2 * p + hh) (256 * i + r) (256 * i + w) : ℝ) : EReal) else ⊥ := fun w => by
    show Scalar.select (IntOp.cmpi .sge (IntOp.addi (iota .tc S256x768 32 [1] iota_S256x768_d1_w32 (ix2 r w)) (start i)) 512#32)
      (k0_pay18 (F := Ideal) kw qm tb (ix2 r w)) ⊥ = _
    rw [iota_single_apply]
    show Scalar.select (IntOp.cmpi .sge (IntOp.addi (BitVec.ofNat 32 w.val) _) 512#32) _ _ = _
    rw [word_seen, select_ite, scores_apply Q K B b p i hh kw qm tb hk hq ht hhh, ← ite_and]
    refine if_congr ?_ rfl rfl
    show _ ↔ 64 * ((256 * i.val + r.val) / 64) ≤ 256 * i.val + w.val ∧ 256 * i.val + w.val < 64 * ((256 * i.val + r.val) / 64) + 576 ∧ 512 ≤ 256 * i.val + w.val
    omega
  obtain ⟨M, hM⟩ := row_max (fun w : Fin 768 => inB (256 * i + r) (256 * i + w)) (fun w => sc Q K B b (2 * p + hh) (256 * i + r) (256 * i + w))
    ⟨64 * (r.val / 64) + 512, by omega⟩ (by
      show 64 * ((256 * i.val + r.val) / 64) ≤ 256 * i.val + (64 * (r.val / 64) + 512) ∧ 256 * i.val + (64 * (r.val / 64) + 512) < 64 * ((256 * i.val + r.val) / 64) + 576 ∧ 512 ≤ 256 * i.val + (64 * (r.val / 64) + 512)
      omega)
  -- its exponentials
  have hx : ∀ w : Fin 768, exp (subf (select (cmpi .sge (k0_pay19 (start i)) k0_pay20) (k0_pay18 (F := Ideal) kw qm tb)
      (broadcast S256x768 (Named.named κ "mask" (φ := .f32) 0xF149F2CA#32)))
      (broadcastTo S256x768 (shapeCast S256x1 (multiReduction .maximumf [1] S256 (select (cmpi .sge (k0_pay19 (start i)) k0_pay20) (k0_pay18 (F := Ideal) kw qm tb)
      (broadcast S256x768 (Named.named κ "mask" (φ := .f32) 0xF149F2CA#32))) 0xFF800000#32 reduces_S256x768_S256 (.inl rfl) rfl) shapeCasts_S256_S256x1) broadcasts_S256x1_S256x768)) (ix2 r w)
      = ((if inB (256 * i + r) (256 * i + w) then Real.exp (sc Q K B b (2 * p + hh) (256 * i + r) (256 * i + w) - M) else 0 : ℝ) : EReal) := fun w => by
    show Ideal.exp (_ - _) = _
    rw [hm, spread_apply, max_row]
    simp only [hm]
    rw [hM, exp_masked]
  unfold k0_pay21
  show _ * broadcastTo _ _ _ _ = _
  rw [broadcastTo_apply _ _ (ix2 r w) (ix2 r (0 : Fin 1)) (fun a => match a with | ⟨0, _⟩ => rfl | ⟨1, _⟩ => rfl)]
  show _ * Ideal.div (Ideal.ofBits .f32 0x3F800000#32) (shapeCast S256x1 _ shapeCasts_S256_S256x1 (ix2 r (0 : Fin 1))) = _
  rw [shapeCast_apply _ _ (ix2 r (0 : Fin 1)) (ix1 r) (by
    rw [Shape.rowMajor_val_one, Shape.rowMajor_val_two]; show r.val = r.val * 1 + 0; omega), sum_row]
  simp only [hx]
  rw [← coe_sum, lit_one, ← EReal.coe_one, div_real _ (sum_shift_pos Q K B b (2 * p + hh) (256 * i + r) (256 * i) 768 M (by omega) (by omega)).ne', ← EReal.coe_mul,
    pr_shift Q K B b (2 * p + hh) (256 * i + r) (256 * i + w) (256 * i) 768 M (by omega) (by omega)]

include hv hd hhh in
/-- The gradients of the scores, from the weights. -/
theorem dscores_apply (P : FVec Ideal S256x768 .f32)
    (hP : ∀ (r : Fin 256) (w : Fin 768), P (ix2 r w) = ((pr Q K B b (2 * p + hh) (256 * i + r) (256 * i + w) : ℝ) : EReal)) (r : Fin 256) (w : Fin 768) :
    k0_pay22 (F := Ideal) vw dm P (ix2 r w) = ((ds Q K V G B b (2 * p + hh) (256 * i + r) (256 * i + w) : ℝ) : EReal) := by
  have hr := r.isLt
  have hp : ∀ w : Fin 768, matmul dot_S256x128_S768x128_S256x768_1_1_0_0_n_n none dm vw (constant (F := Ideal) S256x768 .f32 0x00000000#32) (ix2 r w)
      = ((dp V G b (2 * p + hh) (256 * i + r) (256 * i + w) : ℝ) : EReal) := fun w => by
    rw [nt_apply]
    unfold dp
    rw [← head_sum p hh hhh (fun c => G b (256 * i + r) c) (fun c => V b (256 * i + w) c), coe_sum]
    refine Finset.sum_congr rfl fun l _ => ?_
    rw [hd, hv, ← EReal.coe_mul]
  unfold k0_pay22
  show P (ix2 r w) * (_ - _) = _
  rw [hp, spread_apply, sum_row, hP]
  rw [show (∑ w : Fin 768, mulf P (matmul dot_S256x128_S768x128_S256x768_1_1_0_0_n_n none dm vw (constant (F := Ideal) S256x768 .f32 0x00000000#32)) (ix2 r w))
      = ((dl Q K V G B b (2 * p + hh) (256 * i + r) : ℝ) : EReal) by
    rw [← dl_window Q K V G B b (2 * p + hh) (256 * i + r) (256 * i) 768 (by omega) (by omega), coe_sum]
    refine Finset.sum_congr rfl fun w _ => ?_
    rw [mulf_apply, hp, hP, ← EReal.coe_mul]]
  rw [← EReal.coe_sub, ← EReal.coe_mul]
  rfl

variable (P : FVec Ideal S256x768 .f32)
    (hP : ∀ (r : Fin 256) (w : Fin 768), P (ix2 r w) = ((pr Q K B b (2 * p + hh) (256 * i + r) (256 * i + w) : ℝ) : EReal))

include hv hd hhh hP in
theorem dscaled_apply (r : Fin 256) (w : Fin 768) :
    k0_pay24 (F := Ideal) vw dm P (ix2 r w) = ((ds Q K V G B b (2 * p + hh) (256 * i + r) (256 * i + w) * (1 / 8) : ℝ) : EReal) := by
  show k0_pay22 (F := Ideal) vw dm P (ix2 r w) * Ideal.ofBits .f32 0x3E000000#32 = _
  rw [dscores_apply Q K V G B b p i hh vw dm hv hd hhh P hP, lit_8th, ← EReal.coe_mul]

include hk hv hd hhh hP in
/-- The queries' gradient, on the head's own columns. -/
theorem dq_apply (r : Fin 256) (l : Fin 128) (hl : l.val / 64 = hh) :
    k0_pay26 (F := Ideal) kw vw dm P (ix2 r l) = ((dqA Q K V G B b (256 * i + r) (128 * p + l) : ℝ) : EReal) := by
  have hr := r.isLt
  have hl' := l.isLt
  unfold k0_pay26
  show matmul _ _ _ _ _ _ = _
  rw [nn_apply]
  have hc : (128 * p + l.val) / 64 = 2 * p + hh := by omega
  unfold dqA
  rw [hc, ← sum_window (fun s => ds Q K V G B b (2 * p + hh) (256 * i + r) s * (1 / 8) * K b s (128 * p + l)) (64 * ((256 * i + r) / 64)) 576 (256 * i) 768
    (by omega) (by omega) (fun s _ _ hs => by
      show ds Q K V G B b (2 * p + hh) (256 * i + r) s * _ * _ = 0
      rw [ds_off _ _ _ _ _ _ _ _ _ fun hi => hs ⟨hi.1, hi.2.1⟩, zero_mul, zero_mul]), coe_sum]
  refine Finset.sum_congr rfl fun w _ => ?_
  rw [dscaled_apply Q K V G B b p i hh vw dm hv hd hhh P hP, hk, ← EReal.coe_mul]

include hq hv hd hhh hP in
/-- The keys' gradient, zero off the head's own columns. -/
theorem dk_apply (w : Fin 768) (l : Fin 128) :
    k0_pay28 (F := Ideal) vw qm dm P (ix2 w l) = ((if l.val / 64 = hh then ∑ r : Fin 256, ds Q K V G B b (2 * p + hh) (256 * i + r) (256 * i + w) * (1 / 8) * Q b (256 * i + r) (128 * p + l) else 0 : ℝ) : EReal) := by
  unfold k0_pay28
  show matmul _ _ _ _ _ _ = _
  rw [tn_apply]
  have e : ∀ k : Fin 256, k0_pay24 (F := Ideal) vw dm P (ix2 k w) * qm (ix2 k l)
      = ((if l.val / 64 = hh then ds Q K V G B b (2 * p + hh) (256 * i + k) (256 * i + w) * (1 / 8) * Q b (256 * i + k) (128 * p + l) else 0 : ℝ) : EReal) := fun k => by
    rw [dscaled_apply Q K V G B b p i hh vw dm hv hd hhh P hP, hq, ← EReal.coe_mul, mul_ite, mul_zero]
  rw [Finset.sum_congr rfl fun k _ => e k, ← coe_sum]
  by_cases hl : l.val / 64 = hh
  · simp only [if_pos hl]
  · simp only [if_neg hl, Finset.sum_const_zero]

include hd hP in
/-- The values' gradient, zero off the head's own columns. -/
theorem dv_apply (w : Fin 768) (l : Fin 128) :
    k0_pay30 (F := Ideal) dm P (ix2 w l) = ((if l.val / 64 = hh then ∑ r : Fin 256, pr Q K B b (2 * p + hh) (256 * i + r) (256 * i + w) * G b (256 * i + r) (128 * p + l) else 0 : ℝ) : EReal) := by
  unfold k0_pay30
  show matmul _ _ _ _ _ _ = _
  rw [tn_apply]
  have e : ∀ k : Fin 256, truncf (F := Ideal) .bf16 P bitsLt_bf16_f32 (ix2 k w) * dm (ix2 k l)
      = ((if l.val / 64 = hh then pr Q K B b (2 * p + hh) (256 * i + k) (256 * i + w) * G b (256 * i + k) (128 * p + l) else 0 : ℝ) : EReal) := fun k => by
    show P (ix2 k w) * _ = _
    rw [hP, hd, ← EReal.coe_mul, mul_ite, mul_zero]
  rw [Finset.sum_congr rfl fun k _ => e k, ← coe_sum]
  by_cases hl : l.val / 64 = hh
  · simp only [if_pos hl]
  · simp only [if_neg hl, Finset.sum_const_zero]

end

/-! ## The first head's payloads are the second's -/

theorem pay17_eq (v1 : BitVec 32) (a : FVec Ideal S768x128 .bf16) (c : FVec Ideal S256x128 .bf16) (t : Vec Ideal S1x256x768 .f32) :
    k0_pay17 v1 a c t = k0_pay21 (k0_pay18 a c t) (k0_pay19 v1) k0_pay20 := rfl
theorem pay23_eq (v : FVec Ideal S768x128 .bf16) (d : FVec Ideal S256x128 .bf16) (s : FVec Ideal S256x768 .f32) (x y : IVec S256x768 32) :
    k0_pay23 v d s x y = k0_pay22 v d (k0_pay21 s x y) := rfl
theorem pay27_eq (k v : FVec Ideal S768x128 .bf16) (d : FVec Ideal S256x128 .bf16) (s : FVec Ideal S256x768 .f32) (x y : IVec S256x768 32) :
    k0_pay27 k v d s x y = k0_pay26 k v d (k0_pay21 s x y) := rfl
theorem pay29_eq (v : FVec Ideal S768x128 .bf16) (q d : FVec Ideal S256x128 .bf16) (s : FVec Ideal S256x768 .f32) (x y : IVec S256x768 32) :
    k0_pay29 v q d s x y = k0_pay28 v q d (k0_pay21 s x y) := rfl
theorem pay31_eq (d : FVec Ideal S256x128 .bf16) (s : FVec Ideal S256x768 .f32) (x y : IVec S256x768 32) :
    k0_pay31 d s x y = k0_pay30 d (k0_pay21 s x y) := rfl

end Cert.Kernel2Ideal.AttnBlock

end

end
-- ==== Proof.AttnArray.lean ====
/-
  The blocks of the attention's gradients as functions of the arguments: what each point of the grid reads.
-/
module

public import proofs.«01_k».proof.Proof.AttnBlock
public import Idealize.ShloMosaic.Lib.Pipeline.ValueKit
public import Idealize.ShloMosaic.Lib.KernelVsHost

set_option maxRecDepth 16384
set_option backward.isDefEq.respectTransparency false

@[expose] public section

noncomputable section

namespace Cert.Kernel2Ideal.AttnArray

open Cert.Kernel2Ideal Cert.Kernel2Ideal.Gen Cert.Common Cert.Attn Cert.Kernel2Ideal.AttnBlock
open Idealize.ShloMosaic hiding ix0 ix1 ix2 ix3 ix4 ix5 ix6
open Idealize.ShloMosaic.ValueIdx Idealize.ShloMosaic.TcCoe
open Idealize.ShloMosaic.Pipeline (Dat)
open scoped BigOperators

variable (m : (ℓ : Loc nD τ sig) → Buf (Elt Ideal) ℓ)

abbrev A0 (c : Dev nD) : Vec Ideal S2x2048x512 .f32 := m ((c : Thread nD τ).loc main_arg0)
abbrev A1 (c : Dev nD) : Vec Ideal S2x2048x512 .f32 := m ((c : Thread nD τ).loc main_arg1)
abbrev A2 (c : Dev nD) : Vec Ideal S2x2048x512 .f32 := m ((c : Thread nD τ).loc main_arg2)
abbrev A3 (c : Dev nD) : Vec Ideal S8x257 .f32 := m ((c : Thread nD τ).loc main_arg3)
abbrev A4 (c : Dev nD) : Vec Ideal S2x2048x1024 .f32 := m ((c : Thread nD τ).loc main_arg4)

/-! ## What the index maps and the window's offset are -/

theorem idx : ∀ t : Fin cfg0.N, win0_0.index t = ![t.val / 8 % 2, t.val % 8, t.val / 16] ∧ win0_1.index t = ![t.val / 8 % 2, 0, t.val / 16]
    ∧ win0_2.index t = ![t.val / 8 % 2, 0, t.val / 16] ∧ win0_3.index t = ![t.val / 16, 0, 0] ∧ win0_4.index t = ![t.val / 8 % 2, t.val % 8, t.val / 16]
    ∧ win0_5.index t = ![t.val / 8 % 2, t.val % 8, t.val / 16] ∧ win0_6.index t = ![t.val / 8 % 2, 0, t.val / 16] ∧ win0_7.index t = ![t.val / 8 % 2, 0, t.val / 16]
    ∧ win0_8.index t = ![t.val / 16, 0, 0] ∧ win0_9.index t = ![t.val / 16, 0, 0] :=
  (by decide +kernel : ∀ t : Fin grid0.N, _)

theorem off1 : ∀ t : Fin cfg0.N, k0_off1 (grid0.coords t) = ![0, 256 * (t.val % 8), 0] ∧ (grid0.coords t 2).val = t.val % 8 :=
  (by decide +kernel : ∀ t : Fin grid0.N, _)

theorem lt64 (t : Fin cfg0.N) : t.val < 64 := lt_of_lt_of_eq t.isLt (show cfg0.N = 64 from N_0)

/-- The number of a point's block of queries. -/
abbrev iq (t : Fin cfg0.N) : Fin 8 := ⟨t.val % 8, Nat.mod_lt _ (by decide)⟩

/-! ## The arrays the call is given -/

/-- The keys and values behind 512 rows of zeros. -/
theorem behind_apply (x : Vec Ideal S2x2048x512 .f32) (hx : Real' x) (b : Fin 2) (s : Fin 2560) (k : Fin 512) :
    concatenate S2x2560x512 1 [⟨S2x512x512, broadcastInDim S2x512x512 ![] bcast_S_S2x512x512 (constant (F := Ideal) S_ .bf16 0x0000#16)⟩,
      ⟨S2x2048x512, truncf (F := Ideal) .bf16 x bitsLt_bf16_f32⟩] concatenates_S2x512x512_S2x2048x512_S2x2560x512_d1 (ix3 b s k)
      = ((behind (rd3 x) b s k : ℝ) : EReal) := by
  have hs := s.isLt
  unfold behind
  by_cases h : s.val < 512
  · rw [concatenate_pair_apply_left (s₁ := S2x512x512) (s₂ := S2x2048x512) 1 _ _ _ (ix3 b s k) rfl (ix3 b (⟨s.val, h⟩ : Fin 512) k)
      (fun a => match a with | ⟨0, _⟩ => rfl | ⟨1, _⟩ => rfl | ⟨2, _⟩ => rfl), if_pos h]
    exact Ideal.ofBits_zero_bf16
  · rw [concatenate_pair_apply_right (s₁ := S2x512x512) (s₂ := S2x2048x512) 1 _ _ _ (ix3 b s k) rfl rfl (ix3 b (⟨s.val - 512, by omega⟩ : Fin 2048) k)
      (fun a ha => match a, ha with | ⟨0, _⟩, _ => rfl | ⟨1, _⟩, ha => absurd rfl ha | ⟨2, _⟩, _ => rfl) (by show s.val - 512 + 512 = s.val; omega), if_neg h]
    show x (ix3 b _ k) = _
    exact rd3_coe x hx b ⟨s.val - 512, by omega⟩ k

theorem V0 (c : Dev nD) (i : S2x2048x512.Idx) :
    (V m c (Pipeline.arrRef spec0 0) : Vec Ideal S2x2048x512 .bf16) i = A0 m c i := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  rfl
theorem V1 (c : Dev nD) : (V m c (Pipeline.arrRef spec0 1) : Vec Ideal S2x2560x512 .bf16)
    = concatenate S2x2560x512 1 [⟨S2x512x512, broadcastInDim S2x512x512 ![] bcast_S_S2x512x512 (constant (F := Ideal) S_ .bf16 0x0000#16)⟩,
      ⟨S2x2048x512, truncf (F := Ideal) .bf16 (A1 m c) bitsLt_bf16_f32⟩] concatenates_S2x512x512_S2x2048x512_S2x2560x512_d1 := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  rfl
theorem V2 (c : Dev nD) : (V m c (Pipeline.arrRef spec0 2) : Vec Ideal S2x2560x512 .bf16)
    = concatenate S2x2560x512 1 [⟨S2x512x512, broadcastInDim S2x512x512 ![] bcast_S_S2x512x512 (constant (F := Ideal) S_ .bf16 0x0000#16)⟩,
      ⟨S2x2048x512, truncf (F := Ideal) .bf16 (A2 m c) bitsLt_bf16_f32⟩] concatenates_S2x512x512_S2x2048x512_S2x2560x512_d1 := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  rfl

/-! ## The table of biases -/

/-- The column of the bias table that query `a` and key `s` of a chunk's window look at. -/
def column : IVec S64x576 32 :=
  addi (minsi (broadcastInDim S64x576 ![] bcast_S_S64x576 (constantI S_ 32 128#32))
    (maxsi (broadcastInDim S64x576 ![] bcast_S_S64x576 (constantI S_ 32 4294967168#32))
      (subi (broadcastInDim S64x576 ![0, 1] bcast_S64x1_S64x576_0_1
          (addi (broadcastInDim S64x1 ![0] bcast_S64_S64x1_0 (iotaInDim S64 32 0)) (broadcastInDim S64x1 ![] bcast_S_S64x1 (constantI S_ 32 512#32))))
        (broadcastInDim S64x576 ![0, 1] bcast_S1x576_S64x576_0_1 (broadcastInDim S1x576 ![1] bcast_S576_S1x576_1 (iotaInDim S576 32 0))))))
    (broadcastInDim S64x576 ![] bcast_S_S64x576 (constantI S_ 32 128#32))

/-- The biases of a chunk's window, one table a head. -/
def bias (x : Vec Ideal S8x257 .f32) : Vec Ideal S8x64x576 .f32 :=
  Host.gather gather_S8x257_S64x576x1_S8x64x576_0_1_n_n_1_2_81 x (broadcastInDim S64x576x1 ![0, 1] bcast_S64x576_S64x576x1_0_1
    (select (cmpi .slt column (broadcastInDim S64x576 ![] bcast_S_S64x576 (constantI S_ 32 0#32)))
      (addi column (broadcastInDim S64x576 ![] bcast_S_S64x576 (constantI S_ 32 257#32))) column))

theorem bias_real (x : Vec Ideal S8x257 .f32) (hx : Real' x) : Real' (bias x) := fun _ => hx _

/-- The table with a chunk's rows moved to its place in the block, minus infinity around it. -/
def table (y : Vec Ideal S8x64x576 .f32) : Vec Ideal S8x256x768 .f32 :=
  concatenate S8x256x768 1
    [⟨S8x64x768, pad S8x64x768 ![0, 0, 0] ![0, 0, 192] ![0, 0, 0] y (constant (F := Ideal) S_ .f32 0xFF800000#32) pads_S8x64x576_S8x64x768_000_000_01920 h_S_⟩,
     ⟨S8x64x768, pad S8x64x768 ![0, 0, 64] ![0, 0, 128] ![0, 0, 0] y (constant (F := Ideal) S_ .f32 0xFF800000#32) pads_S8x64x576_S8x64x768_000_000_641280 h_S_⟩,
     ⟨S8x64x768, pad S8x64x768 ![0, 0, 128] ![0, 0, 64] ![0, 0, 0] y (constant (F := Ideal) S_ .f32 0xFF800000#32) pads_S8x64x576_S8x64x768_000_000_128640 h_S_⟩,
     ⟨S8x64x768, pad S8x64x768 ![0, 0, 192] ![0, 0, 0] ![0, 0, 0] y (constant (F := Ideal) S_ .f32 0xFF800000#32) pads_S8x64x576_S8x64x768_000_000_19200 h_S_⟩]
    concatenates_S8x64x768_S8x64x768_S8x64x768_S8x64x768_S8x256x768_d1

/-- A row of the table, given the padding of its chunk. -/
theorem padded_apply (y : Vec Ideal S8x64x576 .f32) (hy : Real' y) (q o : ℕ) (h : S8x64x576.Pads ![0, 0, o] ![0, 0, q] ![0, 0, 0] S8x64x768)
    (g : Fin 8) (a : Fin 64) (w : Fin 768) :
    pad S8x64x768 ![0, 0, o] ![0, 0, q] ![0, 0, 0] y (constant (F := Ideal) S_ .f32 0xFF800000#32) h h_S_ (ix3 g a w)
      = if o ≤ w.val ∧ w.val < o + 576 then ((rd3 y g a (w.val - o) : ℝ) : EReal) else ⊥ := by
  by_cases hw : o ≤ w.val ∧ w.val < o + 576
  · rw [if_pos hw, pad_apply_of_inside _ _ _ _ _ _ _ _ (ix3 g a (⟨w.val - o, by omega⟩ : Fin 576))
      (fun b => match b with | ⟨0, _⟩ => by show g.val = 0 + g.val * 1; omega | ⟨1, _⟩ => by show a.val = 0 + a.val * 1; omega
                             | ⟨2, _⟩ => by show w.val = o + (w.val - o) * 1; omega)]
    exact rd3_coe y hy g a ⟨w.val - o, by omega⟩
  · rw [if_neg hw, pad_apply_of_not_inside _ _ _ _ _ _ _ _ ⟨2, by decide⟩
      (by show ¬ (o ≤ w.val ∧ (w.val - o) % 1 = 0 ∧ (w.val - o) / 1 < 576)
          rw [Nat.div_one]; omega)]
    exact lit_ninf

theorem table_apply (y : Vec Ideal S8x64x576 .f32) (hy : Real' y) (g : Fin 8) (r : Fin 256) (w : Fin 768) :
    table y (ix3 g r w) = if 64 * (r.val / 64) ≤ w.val ∧ w.val < 64 * (r.val / 64) + 576
      then ((rd3 y g (r.val % 64) (w.val - 64 * (r.val / 64)) : ℝ) : EReal) else ⊥ := by
  have hr := r.isLt
  have hm : r.val % 64 < 64 := Nat.mod_lt _ (by decide)
  have hq : r.val / 64 = 0 ∨ r.val / 64 = 1 ∨ r.val / 64 = 2 ∨ r.val / 64 = 3 := by omega
  have key : ∀ k q (hk : k < 4) (h : S8x64x576.Pads ![0, 0, 64 * k] ![0, 0, q] ![0, 0, 0] S8x64x768), r.val / 64 = k →
      table y (ix3 g r w) = pad S8x64x768 ![0, 0, 64 * k] ![0, 0, q] ![0, 0, 0] y (constant (F := Ideal) S_ .f32 0xFF800000#32) h h_S_
        (ix3 g (⟨r.val % 64, hm⟩ : Fin 64) w) →
      table y (ix3 g r w) = if 64 * (r.val / 64) ≤ w.val ∧ w.val < 64 * (r.val / 64) + 576
        then ((rd3 y g (r.val % 64) (w.val - 64 * (r.val / 64)) : ℝ) : EReal) else ⊥ := by
    intro k q _ h e ht
    rw [ht, e]
    exact padded_apply y hy q (64 * k) h g ⟨r.val % 64, hm⟩ w
  have piece := fun k (hk : k < 4) x (hx) pre hpre (ha : pre + r.val % 64 = r.val) =>
    concatenate_apply_piece 1
    [⟨S8x64x768, pad S8x64x768 ![0, 0, 0] ![0, 0, 192] ![0, 0, 0] y (constant (F := Ideal) S_ .f32 0xFF800000#32) pads_S8x64x576_S8x64x768_000_000_01920 h_S_⟩,
     ⟨S8x64x768, pad S8x64x768 ![0, 0, 64] ![0, 0, 128] ![0, 0, 0] y (constant (F := Ideal) S_ .f32 0xFF800000#32) pads_S8x64x576_S8x64x768_000_000_641280 h_S_⟩,
     ⟨S8x64x768, pad S8x64x768 ![0, 0, 128] ![0, 0, 64] ![0, 0, 0] y (constant (F := Ideal) S_ .f32 0xFF800000#32) pads_S8x64x576_S8x64x768_000_000_128640 h_S_⟩,
     ⟨S8x64x768, pad S8x64x768 ![0, 0, 192] ![0, 0, 0] ![0, 0, 0] y (constant (F := Ideal) S_ .f32 0xFF800000#32) pads_S8x64x576_S8x64x768_000_000_19200 h_S_⟩]
    concatenates_S8x64x768_S8x64x768_S8x64x768_S8x64x768_S8x256x768_d1 (ix3 g r w) k hk S8x64x768 x hx rfl pre hpre (ix3 g (⟨r.val % 64, hm⟩ : Fin 64) w)
    (fun a ha => match a, ha with | ⟨0, _⟩, _ => rfl | ⟨1, _⟩, ha => absurd rfl ha | ⟨2, _⟩, _ => rfl) ha
  rcases hq with e | e | e | e
  · exact key 0 192 (by decide) pads_S8x64x576_S8x64x768_000_000_01920 e (piece 0 (by decide) _ rfl 0 rfl (by omega))
  · exact key 1 128 (by decide) pads_S8x64x576_S8x64x768_000_000_641280 e (piece 1 (by decide) _ rfl 64 rfl (by omega))
  · exact key 2 64 (by decide) pads_S8x64x576_S8x64x768_000_000_128640 e (piece 2 (by decide) _ rfl 128 rfl (by omega))
  · exact key 3 0 (by decide) pads_S8x64x576_S8x64x768_000_000_19200 e (piece 3 (by decide) _ rfl 192 rfl (by omega))

/-- What the host lines before the first padding leave. -/
abbrev σ2 (c : Dev nD) : (b : DevRef τ sig) → (b.ty).Contents (Elt Ideal) :=
  StableHlo.after (hostOps0 ++ hostOps0_1 ++ hostOps0_2) (fun b => m (c, b))

theorem σ2_bias (c : Dev nD) : σ2 m c (Proc.tc.devRef main_v24) = bias (A3 m c) := by
  simp only [σ2, hostOps0, hostOps0_1, hostOps0_2, List.cons_append, List.nil_append]
  entry_read
  simp only [StableHlo.TRef.ofBuf_toBuf, StableHlo.TRef.ofBuf, StableHlo.TRef.toBuf, cast_cast, cast_eq, id]
  rfl
theorem σ2_ninf (c : Dev nD) : σ2 m c (Proc.tc.devRef main_cst_5) = constant (F := Ideal) S_ .f32 0xFF800000#32 := by
  simp only [σ2, hostOps0, hostOps0_1, hostOps0_2, List.cons_append, List.nil_append]
  entry_read
  rfl

theorem V3_split (c : Dev nD) : V m c (Pipeline.arrRef spec0 3)
    = StableHlo.after hostOps0_10 (StableHlo.after (hostOps0_3 ++ hostOps0_4 ++ hostOps0_5 ++ hostOps0_6 ++ hostOps0_7 ++ hostOps0_8 ++ hostOps0_9)
      (σ2 m c)) (Proc.tc.devRef (Pipeline.arrRef spec0 3)) := by
  rw [← StableHlo.after_append, ← StableHlo.after_append]
  simp only [V, List.flatten_cons, List.flatten_nil, List.append_nil, List.append_assoc]

theorem V3_last (σ : (b : DevRef τ sig) → (b.ty).Contents (Elt Ideal)) (y : Vec Ideal S8x64x576 .f32)
    (h1 : σ (Proc.tc.devRef main_v25) = pad S8x64x768 ![0, 0, 0] ![0, 0, 192] ![0, 0, 0] y (constant (F := Ideal) S_ .f32 0xFF800000#32) pads_S8x64x576_S8x64x768_000_000_01920 h_S_)
    (h2 : σ (Proc.tc.devRef main_v26) = pad S8x64x768 ![0, 0, 64] ![0, 0, 128] ![0, 0, 0] y (constant (F := Ideal) S_ .f32 0xFF800000#32) pads_S8x64x576_S8x64x768_000_000_641280 h_S_)
    (h3 : σ (Proc.tc.devRef main_v27) = pad S8x64x768 ![0, 0, 128] ![0, 0, 64] ![0, 0, 0] y (constant (F := Ideal) S_ .f32 0xFF800000#32) pads_S8x64x576_S8x64x768_000_000_128640 h_S_)
    (h4 : σ (Proc.tc.devRef main_v28) = pad S8x64x768 ![0, 0, 192] ![0, 0, 0] ![0, 0, 0] y (constant (F := Ideal) S_ .f32 0xFF800000#32) pads_S8x64x576_S8x64x768_000_000_19200 h_S_) :
    StableHlo.after hostOps0_10 σ (Proc.tc.devRef main_v29) = table y := by
  unfold table
  rw [← h1, ← h2, ← h3, ← h4]
  rfl

section
variable (σ : (b : DevRef τ sig) → (b.ty).Contents (Elt Ideal)) (y : Vec Ideal S8x64x576 .f32) (e : σ (Proc.tc.devRef main_v24) = y)
    (e' : σ (Proc.tc.devRef main_cst_5) = constant (F := Ideal) S_ .f32 0xFF800000#32)
include e e'
theorem V3_pad25 : StableHlo.after (hostOps0_3 ++ hostOps0_4 ++ hostOps0_5 ++ hostOps0_6 ++ hostOps0_7 ++ hostOps0_8 ++ hostOps0_9) σ (Proc.tc.devRef main_v25)
    = pad S8x64x768 ![0, 0, 0] ![0, 0, 192] ![0, 0, 0] y (constant (F := Ideal) S_ .f32 0xFF800000#32) pads_S8x64x576_S8x64x768_000_000_01920 h_S_ := by
  subst e
  rw [← e']
  simp only [hostOps0_3, hostOps0_4, hostOps0_5, hostOps0_6, hostOps0_7, hostOps0_8, hostOps0_9, List.cons_append, List.nil_append]
  entry_read
  simp only [StableHlo.TRef.ofBuf_toBuf, StableHlo.TRef.ofBuf, StableHlo.TRef.toBuf, cast_cast, cast_eq, id]
theorem V3_pad26 : StableHlo.after (hostOps0_3 ++ hostOps0_4 ++ hostOps0_5 ++ hostOps0_6 ++ hostOps0_7 ++ hostOps0_8 ++ hostOps0_9) σ (Proc.tc.devRef main_v26)
    = pad S8x64x768 ![0, 0, 64] ![0, 0, 128] ![0, 0, 0] y (constant (F := Ideal) S_ .f32 0xFF800000#32) pads_S8x64x576_S8x64x768_000_000_641280 h_S_ := by
  subst e
  simp only [hostOps0_3, hostOps0_4, hostOps0_5, hostOps0_6, hostOps0_7, hostOps0_8, hostOps0_9, List.cons_append, List.nil_append]
  entry_read
  simp only [StableHlo.TRef.ofBuf_toBuf, StableHlo.TRef.ofBuf, StableHlo.TRef.toBuf, cast_cast, cast_eq, id]
theorem V3_pad27 : StableHlo.after (hostOps0_3 ++ hostOps0_4 ++ hostOps0_5 ++ hostOps0_6 ++ hostOps0_7 ++ hostOps0_8 ++ hostOps0_9) σ (Proc.tc.devRef main_v27)
    = pad S8x64x768 ![0, 0, 128] ![0, 0, 64] ![0, 0, 0] y (constant (F := Ideal) S_ .f32 0xFF800000#32) pads_S8x64x576_S8x64x768_000_000_128640 h_S_ := by
  subst e
  simp only [hostOps0_3, hostOps0_4, hostOps0_5, hostOps0_6, hostOps0_7, hostOps0_8, hostOps0_9, List.cons_append, List.nil_append]
  entry_read
  simp only [StableHlo.TRef.ofBuf_toBuf, StableHlo.TRef.ofBuf, StableHlo.TRef.toBuf, cast_cast, cast_eq, id]
theorem V3_pad28 : StableHlo.after (hostOps0_3 ++ hostOps0_4 ++ hostOps0_5 ++ hostOps0_6 ++ hostOps0_7 ++ hostOps0_8 ++ hostOps0_9) σ (Proc.tc.devRef main_v28)
    = pad S8x64x768 ![0, 0, 192] ![0, 0, 0] ![0, 0, 0] y (constant (F := Ideal) S_ .f32 0xFF800000#32) pads_S8x64x576_S8x64x768_000_000_19200 h_S_ := by
  subst e
  simp only [hostOps0_3, hostOps0_4, hostOps0_5, hostOps0_6, hostOps0_7, hostOps0_8, hostOps0_9, List.cons_append, List.nil_append]
  entry_read
  simp only [StableHlo.TRef.ofBuf_toBuf, StableHlo.TRef.ofBuf, StableHlo.TRef.toBuf, cast_cast, cast_eq, id]
end

theorem V3 (c : Dev nD) : (V m c (Pipeline.arrRef spec0 3) : Vec Ideal S8x256x768 .f32) = table (bias (A3 m c)) :=
  (V3_split m c).trans (V3_last _ _ (V3_pad25 _ _ (σ2_bias m c) (σ2_ninf m c)) (V3_pad26 _ _ (σ2_bias m c) (σ2_ninf m c))
    (V3_pad27 _ _ (σ2_bias m c) (σ2_ninf m c)) (V3_pad28 _ _ (σ2_bias m c) (σ2_ninf m c)))

end Cert.Kernel2Ideal.AttnArray

end

end
-- ==== Proof.AttnPoint.lean ====
/-
  What each point of the attention's grid computes, as sums over the reals.
-/
module

public import proofs.«01_k».proof.Proof.AttnArray

set_option maxRecDepth 16384
set_option backward.isDefEq.respectTransparency false

@[expose] public section

noncomputable section

namespace Cert.Kernel2Ideal.AttnArray

open Cert.Kernel2Ideal Cert.Kernel2Ideal.Gen Cert.Common Cert.Attn Cert.Kernel2Ideal.AttnBlock
open Idealize.ShloMosaic hiding ix0 ix1 ix2 ix3 ix4 ix5 ix6
open Idealize.ShloMosaic.ValueIdx Idealize.ShloMosaic.TcCoe
open Idealize.ShloMosaic.Pipeline (Dat)
open scoped BigOperators

variable (m : (ℓ : Loc nD τ sig) → Buf (Elt Ideal) ℓ)

/-- Every argument is an array of reals. -/
structure Fine (c : Dev nD) : Prop where
  r0 : Real' (A0 m c)
  r1 : Real' (A1 m c)
  r2 : Real' (A2 m c)
  r3 : Real' (A3 m c)
  r4 : Real' (A4 m c)

variable (c : Dev nD)

abbrev fQ : ℕ → ℕ → ℕ → ℝ := rd3 (A0 m c)
abbrev fK : ℕ → ℕ → ℕ → ℝ := behind (rd3 (A1 m c))
abbrev fV : ℕ → ℕ → ℕ → ℝ := behind (rd3 (A2 m c))
abbrev fG : ℕ → ℕ → ℕ → ℝ := rd3 (A4 m c)
abbrev fB : ℕ → ℕ → ℕ → ℝ := rd3 (bias (A3 m c))

variable (t : Fin cfg0.N)

/-- The rows of the keys that a point looks at. -/
abbrev rw1 : Rect S1x2560x128 := Rect.unit (k0_off1 (grid0.coords t)) S1x768x128.size (k0_off1_inb (grid0.coords t))

abbrev kw : FVec Ideal S768x128 .bf16 := k0_pay7 (F := Ideal) (View.ld (iblk m c 1 t) (rw1 t))
abbrev vw : FVec Ideal S768x128 .bf16 := k0_pay8 (F := Ideal) (View.ld (iblk m c 2 t) (rw1 t))
abbrev q0 : FVec Ideal S256x128 .bf16 := k0_pay13 (F := Ideal) (iblk m c 0 t)
abbrev q1 : FVec Ideal S256x128 .bf16 := k0_pay14 (F := Ideal) (iblk m c 0 t)
abbrev d0 : FVec Ideal S256x128 .bf16 := k0_pay15 (F := Ideal) (k0_pay10 (iblk m c 4 t)) k0_pay11
abbrev d1 : FVec Ideal S256x128 .bf16 := k0_pay16 (F := Ideal) (k0_pay10 (iblk m c 4 t)) k0_pay12
abbrev t0 : Vec Ideal S1x256x768 .f32 := View.ld (Val := Elt Ideal) (iblk m c 3 t : Vec Ideal S2x256x768 .f32) (Rect.unit ![0, 0, 0] S1x256x768.size inb_S2x256x768_S1x256x768_0_0_0)
abbrev t1 : Vec Ideal S1x256x768 .f32 := View.ld (Val := Elt Ideal) (iblk m c 3 t : Vec Ideal S2x256x768 .f32) (Rect.unit ![1, 0, 0] S1x256x768.size inb_S2x256x768_S1x256x768_1_0_0)
abbrev st : BitVec 32 := Scalar.muli (BitVec.ofNat 32 (grid0.coords t 2).val) 256#32
abbrev P0 : FVec Ideal S256x768 .f32 := k0_pay17 (F := Ideal) (st t) (kw m c t) (q0 m c t) (t0 m c t)
abbrev s1 : FVec Ideal S256x768 .f32 := k0_pay18 (F := Ideal) (kw m c t) (q1 m c t) (t1 m c t)
abbrev D0 : FVec Ideal S256x768 .f32 := k0_pay22 (F := Ideal) (vw m c t) (d0 m c t) (P0 m c t)
abbrev D1 : FVec Ideal S256x768 .f32 := k0_pay23 (F := Ideal) (vw m c t) (d1 m c t) (s1 m c t) (k0_pay19 (st t)) k0_pay20

/-- The batch, the pair of heads and the block of queries of a point. -/
abbrev bt : ℕ := t.val / 8 % 2
abbrev hp : ℕ := t.val / 16

theorem st_eq : st t = start (iq t) := by
  show Scalar.muli (BitVec.ofNat 32 (grid0.coords t 2).val) 256#32 = _
  rw [(off1 t).2]

variable (hF : Fine m c)
include hF

theorem kw_apply (w : Fin 768) (l : Fin 128) : kw m c t (ix2 w l) = ((fK m c (bt t) (256 * iq t + w) (128 * hp t + l) : ℝ) : EReal) := by
  have ht := lt64 t
  have hw := w.isLt
  have hl := l.isLt
  unfold kw k0_pay7
  rw [shapeCast_dropUnit_apply]
  refine (View.ld_unit_apply_of _ _ _ _ _ (ix3 (0 : Fin 1) (⟨256 * (t.val % 8) + w.val, by omega⟩ : Fin 2560) l) (fun a => by
    refine Eq.trans ?_ (congrArg (· + _) (congrFun (off1 t).1 a).symm)
    match a with
    | ⟨0, _⟩ => rfl
    | ⟨1, _⟩ => rfl
    | ⟨2, _⟩ => show l.val = 0 + l.val; omega)).trans ?_
  blk_simp [iblk]
  rw [V1]
  have e := behind_apply (A1 m c) hF.r1 ⟨bt t, Nat.mod_lt _ (by decide)⟩ ⟨256 * (t.val % 8) + w.val, by omega⟩ ⟨128 * hp t + l.val, by show 128 * (t.val / 16) + l.val < 512; omega⟩
  refine Eq.trans (congrArg _ (ext3 _ _ _ _ ?_ ?_ ?_)) e <;> blk_simp [idx t]
  · show t.val / 16 * 128 + l.val = 128 * (t.val / 16) + l.val; omega

theorem vw_apply (w : Fin 768) (l : Fin 128) : vw m c t (ix2 w l) = ((fV m c (bt t) (256 * iq t + w) (128 * hp t + l) : ℝ) : EReal) := by
  have ht := lt64 t
  have hw := w.isLt
  have hl := l.isLt
  unfold vw k0_pay8
  rw [shapeCast_dropUnit_apply]
  refine (View.ld_unit_apply_of _ _ _ _ _ (ix3 (0 : Fin 1) (⟨256 * (t.val % 8) + w.val, by omega⟩ : Fin 2560) l) (fun a => by
    refine Eq.trans ?_ (congrArg (· + _) (congrFun (off1 t).1 a).symm)
    match a with
    | ⟨0, _⟩ => rfl
    | ⟨1, _⟩ => rfl
    | ⟨2, _⟩ => show l.val = 0 + l.val; omega)).trans ?_
  blk_simp [iblk]
  rw [V2]
  have e := behind_apply (A2 m c) hF.r2 ⟨bt t, Nat.mod_lt _ (by decide)⟩ ⟨256 * (t.val % 8) + w.val, by omega⟩ ⟨128 * hp t + l.val, by show 128 * (t.val / 16) + l.val < 512; omega⟩
  refine Eq.trans (congrArg _ (ext3 _ _ _ _ ?_ ?_ ?_)) e <;> blk_simp [idx t]
  · show t.val / 16 * 128 + l.val = 128 * (t.val / 16) + l.val; omega

omit hF in
theorem mask0_apply (r : Fin 256) (l : Fin 128) :
    broadcastTo S256x128 (shapeCast S1x128 k0_pay11 shapeCasts_S1x128_S1x128) broadcasts_S1x128_S256x128 (ix2 r l) = if l.val / 64 = 0 then 1#1 else 0#1 := by
  rw [broadcastTo_apply _ _ (ix2 r l) (ix2 (0 : Fin 1) l) (fun a => match a with | ⟨0, _⟩ => rfl | ⟨1, _⟩ => rfl)]
  rw [shapeCast_self]
  refine Eq.trans ?_ (word_lane0 l)
  unfold k0_pay11
  show IntOp.cmpi _ (iota .tc S1x128 32 [1] iota_S1x128_d1_w32 (ix2 (0 : Fin 1) l)) _ = _
  rw [iota_single_apply]
  rfl
omit hF in
theorem mask1_apply (r : Fin 256) (l : Fin 128) :
    broadcastTo S256x128 (shapeCast S1x128 k0_pay12 shapeCasts_S1x128_S1x128) broadcasts_S1x128_S256x128 (ix2 r l) = if l.val / 64 = 1 then 1#1 else 0#1 := by
  rw [broadcastTo_apply _ _ (ix2 r l) (ix2 (0 : Fin 1) l) (fun a => match a with | ⟨0, _⟩ => rfl | ⟨1, _⟩ => rfl)]
  rw [shapeCast_self]
  refine Eq.trans ?_ (word_lane1 l)
  unfold k0_pay12
  show IntOp.cmpi _ (iota .tc S1x128 32 [1] iota_S1x128_d1_w32 (ix2 (0 : Fin 1) l)) _ = _
  rw [iota_single_apply]
  rfl
theorem q_block (r : Fin 256) (l : Fin 128) : k0_pay9 (F := Ideal) (iblk m c 0 t) (ix2 r l)
    = ((rd3 (A0 m c) (bt t) (256 * iq t + r) (128 * hp t + l) : ℝ) : EReal) := by
  have ht := lt64 t
  have hr := r.isLt
  have hl := l.isLt
  have e := rd3_coe (A0 m c) hF.r0 ⟨bt t, Nat.mod_lt _ (by decide)⟩ ⟨256 * (t.val % 8) + r.val, by omega⟩ ⟨128 * hp t + l.val, by show 128 * (t.val / 16) + l.val < 512; omega⟩
  refine Eq.trans ?_ e
  show shapeCast S256x128 (iblk m c 0 t) shapeCasts_S1x256x128_S256x128 (ix2 r l) = _
  rw [shapeCast_dropUnit_apply]
  blk_simp [iblk]
  rw [V0]
  refine congrArg _ (ext3 _ _ _ _ ?_ ?_ ?_) <;> blk_simp [idx t]
  · show t.val % 8 * 256 + r.val = 256 * (t.val % 8) + r.val; omega
  · show t.val / 16 * 128 + l.val = 128 * (t.val / 16) + l.val; omega
theorem g_block (r : Fin 256) (l : Fin 128) : k0_pay10 (F := Ideal) (iblk m c 4 t) (ix2 r l)
    = ((rd3 (A4 m c) (bt t) (256 * iq t + r) (128 * hp t + l) : ℝ) : EReal) := by
  have ht := lt64 t
  have hr := r.isLt
  have hl := l.isLt
  have e := rd3_coe (A4 m c) hF.r4 ⟨bt t, Nat.mod_lt _ (by decide)⟩ ⟨256 * (t.val % 8) + r.val, by omega⟩ ⟨128 * hp t + l.val, by show 128 * (t.val / 16) + l.val < 1024; omega⟩
  refine Eq.trans ?_ e
  show shapeCast S256x128 (iblk m c 4 t) shapeCasts_S1x256x128_S256x128 (ix2 r l) = _
  rw [shapeCast_dropUnit_apply]
  blk_simp [iblk]
  rw [V_main_arg4]
  refine congrArg _ (ext3 _ _ _ _ ?_ ?_ ?_) <;> blk_simp [idx t]
  · show t.val % 8 * 256 + r.val = 256 * (t.val % 8) + r.val; omega
  · show t.val / 16 * 128 + l.val = 128 * (t.val / 16) + l.val; omega
theorem q0_apply (r : Fin 256) (l : Fin 128) : q0 m c t (ix2 r l)
    = ((if l.val / 64 = 0 then fQ m c (bt t) (256 * iq t + r) (128 * hp t + l) else 0 : ℝ) : EReal) := by
  unfold q0 k0_pay13
  show Scalar.select (broadcastTo S256x128 (shapeCast S1x128 k0_pay11 shapeCasts_S1x128_S1x128) broadcasts_S1x128_S256x128 (ix2 r l)) _ (Ideal.ofBits .bf16 0#16) = _
  rw [mask0_apply, select_ite, q_block m c t hF, Ideal.ofBits_zero_bf16]
  split <;> rfl
theorem d0_apply (r : Fin 256) (l : Fin 128) : d0 m c t (ix2 r l)
    = ((if l.val / 64 = 0 then fG m c (bt t) (256 * iq t + r) (128 * hp t + l) else 0 : ℝ) : EReal) := by
  unfold d0 k0_pay15
  show Scalar.select (broadcastTo S256x128 (shapeCast S1x128 k0_pay11 shapeCasts_S1x128_S1x128) broadcasts_S1x128_S256x128 (ix2 r l)) _ (Ideal.ofBits .bf16 0#16) = _
  rw [mask0_apply, select_ite, g_block m c t hF, Ideal.ofBits_zero_bf16]
  split <;> rfl
theorem q1_apply (r : Fin 256) (l : Fin 128) : q1 m c t (ix2 r l)
    = ((if l.val / 64 = 1 then fQ m c (bt t) (256 * iq t + r) (128 * hp t + l) else 0 : ℝ) : EReal) := by
  unfold q1 k0_pay14
  show Scalar.select (broadcastTo S256x128 (shapeCast S1x128 k0_pay12 shapeCasts_S1x128_S1x128) broadcasts_S1x128_S256x128 (ix2 r l)) _ (Ideal.ofBits .bf16 0#16) = _
  rw [mask1_apply, select_ite, q_block m c t hF, Ideal.ofBits_zero_bf16]
  split <;> rfl
theorem d1_apply (r : Fin 256) (l : Fin 128) : d1 m c t (ix2 r l)
    = ((if l.val / 64 = 1 then fG m c (bt t) (256 * iq t + r) (128 * hp t + l) else 0 : ℝ) : EReal) := by
  unfold d1 k0_pay16
  show Scalar.select (broadcastTo S256x128 (shapeCast S1x128 k0_pay12 shapeCasts_S1x128_S1x128) broadcasts_S1x128_S256x128 (ix2 r l)) _ (Ideal.ofBits .bf16 0#16) = _
  rw [mask1_apply, select_ite, g_block m c t hF, Ideal.ofBits_zero_bf16]
  split <;> rfl
theorem t0_apply (r : Fin 256) (w : Fin 768) : t0 m c t (ix3 0 r w) = if 64 * (r.val / 64) ≤ w.val ∧ w.val < 64 * (r.val / 64) + 576
      then ((fB m c (2 * hp t + 0) (r.val % 64) (w.val - 64 * (r.val / 64)) : ℝ) : EReal) else ⊥ := by
  have ht := lt64 t
  have hw := w.isLt
  refine (View.ld_unit_apply_of _ _ _ _ _ (ix3 (0 : Fin 2) r w) (fun a => by
    match a with
    | ⟨0, _⟩ => rfl
    | ⟨1, _⟩ => show r.val = 0 + r.val; omega
    | ⟨2, _⟩ => show w.val = 0 + w.val; omega)).trans ?_
  blk_simp [iblk]
  rw [V3]
  have e := table_apply (bias (A3 m c)) (bias_real _ hF.r3) ⟨2 * hp t + 0, by show 2 * (t.val / 16) + 0 < 8; omega⟩ r w
  refine Eq.trans (congrArg _ (ext3 _ _ _ _ ?_ ?_ ?_)) e <;> blk_simp [idx t]
  · show t.val / 16 * 2 + 0 = 2 * (t.val / 16); omega
theorem t1_apply (r : Fin 256) (w : Fin 768) : t1 m c t (ix3 0 r w) = if 64 * (r.val / 64) ≤ w.val ∧ w.val < 64 * (r.val / 64) + 576
      then ((fB m c (2 * hp t + 1) (r.val % 64) (w.val - 64 * (r.val / 64)) : ℝ) : EReal) else ⊥ := by
  have ht := lt64 t
  have hw := w.isLt
  refine (View.ld_unit_apply_of _ _ _ _ _ (ix3 (1 : Fin 2) r w) (fun a => by
    match a with
    | ⟨0, _⟩ => rfl
    | ⟨1, _⟩ => show r.val = 0 + r.val; omega
    | ⟨2, _⟩ => show w.val = 0 + w.val; omega)).trans ?_
  blk_simp [iblk]
  rw [V3]
  have e := table_apply (bias (A3 m c)) (bias_real _ hF.r3) ⟨2 * hp t + 1, by show 2 * (t.val / 16) + 1 < 8; omega⟩ r w
  refine Eq.trans (congrArg _ (ext3 _ _ _ _ ?_ ?_ ?_)) e <;> blk_simp [idx t]
  · show t.val / 16 * 2 + 1 = 2 * (t.val / 16) + 1; omega

/-! ## The weights and the scores' gradients at a point -/

theorem P0_apply (r : Fin 256) (w : Fin 768) :
    P0 m c t (ix2 r w) = ((pr (fQ m c) (fK m c) (fB m c) (bt t) (2 * hp t + 0) (256 * iq t + r) (256 * iq t + w) : ℝ) : EReal) := by
  show k0_pay17 (F := Ideal) (st t) (kw m c t) (q0 m c t) (t0 m c t) (ix2 r w) = _
  rw [pay17_eq, st_eq]
  exact probs_apply _ _ _ _ _ _ _ _ _ _ (kw_apply m c t hF) (q0_apply m c t hF) (t0_apply m c t hF) (by decide) r w
theorem P1_apply (r : Fin 256) (w : Fin 768) :
    k0_pay21 (F := Ideal) (s1 m c t) (k0_pay19 (st t)) k0_pay20 (ix2 r w)
      = ((pr (fQ m c) (fK m c) (fB m c) (bt t) (2 * hp t + 1) (256 * iq t + r) (256 * iq t + w) : ℝ) : EReal) := by
  rw [st_eq]
  exact probs_apply _ _ _ _ _ _ _ _ _ _ (kw_apply m c t hF) (q1_apply m c t hF) (t1_apply m c t hF) (by decide) r w
theorem D0_apply (r : Fin 256) (w : Fin 768) :
    D0 m c t (ix2 r w) = ((ds (fQ m c) (fK m c) (fV m c) (fG m c) (fB m c) (bt t) (2 * hp t + 0) (256 * iq t + r) (256 * iq t + w) : ℝ) : EReal) :=
  dscores_apply _ _ _ _ _ _ _ _ _ _ _ (vw_apply m c t hF) (d0_apply m c t hF) (by decide) _ (P0_apply m c t hF) r w
theorem D1_apply (r : Fin 256) (w : Fin 768) :
    D1 m c t (ix2 r w) = ((ds (fQ m c) (fK m c) (fV m c) (fG m c) (fB m c) (bt t) (2 * hp t + 1) (256 * iq t + r) (256 * iq t + w) : ℝ) : EReal) :=
  dscores_apply _ _ _ _ _ _ _ _ _ _ _ (vw_apply m c t hF) (d1_apply m c t hF) (by decide) _ (P1_apply m c t hF) r w

/-! ## The two halves put together -/

/-- What a block of queries adds to the keys' gradient. -/
def dkP (Q K V G : ℕ → ℕ → ℕ → ℝ) (B : ℕ → ℕ → ℕ → ℝ) (b i s k : ℕ) : ℝ :=
  ∑ r : Fin 256, ds Q K V G B b (k / 64) (256 * i + r) s * (1 / 8) * Q b (256 * i + r) k
/-- What a block of queries adds to the values' gradient. -/
def dvP (Q K G : ℕ → ℕ → ℕ → ℝ) (B : ℕ → ℕ → ℕ → ℝ) (b i s k : ℕ) : ℝ :=
  ∑ r : Fin 256, pr Q K B b (k / 64) (256 * i + r) s * G b (256 * i + r) k

omit hF m in
/-- Of two terms, one for each half of the columns, the one whose half it is. -/
theorem halves (l : Fin 128) (x : ℕ → ℝ) (p : ℕ) :
    (((if l.val / 64 = 0 then x (2 * p + 0) else 0 : ℝ) : EReal) + ((if l.val / 64 = 1 then x (2 * p + 1) else 0 : ℝ) : EReal)) = ((x ((128 * p + l.val) / 64) : ℝ) : EReal) := by
  have hl := l.isLt
  rcases (by omega : l.val / 64 = 0 ∨ l.val / 64 = 1) with h | h
  · rw [if_pos h, if_neg (by omega), ← EReal.coe_add, add_zero, show (128 * p + l.val) / 64 = 2 * p + 0 by omega]
  · rw [if_neg (by omega), if_pos h, ← EReal.coe_add, zero_add, show (128 * p + l.val) / 64 = 2 * p + 1 by omega]

theorem dk_point (w : Fin 768) (l : Fin 128) :
    (k0_pay28 (F := Ideal) (vw m c t) (q0 m c t) (d0 m c t) (P0 m c t) (ix2 w l)
      + k0_pay29 (F := Ideal) (vw m c t) (q1 m c t) (d1 m c t) (s1 m c t) (k0_pay19 (st t)) k0_pay20 (ix2 w l) : EReal)
      = ((dkP (fQ m c) (fK m c) (fV m c) (fG m c) (fB m c) (bt t) (iq t) (256 * iq t + w) (128 * hp t + l) : ℝ) : EReal) := by
  rw [pay29_eq, dk_apply _ _ _ _ _ _ _ _ _ _ _ _ (vw_apply m c t hF) (q0_apply m c t hF) (d0_apply m c t hF) (by decide) _ (P0_apply m c t hF),
    dk_apply _ _ _ _ _ _ _ _ _ _ _ _ (vw_apply m c t hF) (q1_apply m c t hF) (d1_apply m c t hF) (by decide) _ (P1_apply m c t hF)]
  exact halves l (fun h => ∑ r : Fin 256, ds (fQ m c) (fK m c) (fV m c) (fG m c) (fB m c) (bt t) h (256 * iq t + r) (256 * iq t + w) * (1 / 8) * fQ m c (bt t) (256 * iq t + r) (128 * hp t + l)) (hp t)
theorem dv_point (w : Fin 768) (l : Fin 128) :
    (k0_pay30 (F := Ideal) (d0 m c t) (P0 m c t) (ix2 w l)
      + k0_pay31 (F := Ideal) (d1 m c t) (s1 m c t) (k0_pay19 (st t)) k0_pay20 (ix2 w l) : EReal)
      = ((dvP (fQ m c) (fK m c) (fG m c) (fB m c) (bt t) (iq t) (256 * iq t + w) (128 * hp t + l) : ℝ) : EReal) := by
  rw [pay31_eq, dv_apply _ _ _ _ _ _ _ _ _ (d0_apply m c t hF) _ (P0_apply m c t hF),
    dv_apply _ _ _ _ _ _ _ _ _ (d1_apply m c t hF) _ (P1_apply m c t hF)]
  exact halves l (fun h => ∑ r : Fin 256, pr (fQ m c) (fK m c) (fB m c) (bt t) h (256 * iq t + r) (256 * iq t + w) * fG m c (bt t) (256 * iq t + r) (128 * hp t + l)) (hp t)

/-- The queries' gradient at a point. -/
theorem dq_point (r : Fin 256) (l : Fin 128) :
    k0_pay43 (F := Ideal) k0_pay11 (k0_pay26 (F := Ideal) (kw m c t) (vw m c t) (d0 m c t) (P0 m c t))
      (k0_pay27 (F := Ideal) (kw m c t) (vw m c t) (d1 m c t) (s1 m c t) (k0_pay19 (st t)) k0_pay20) (ix3 0 r l)
      = ((dqA (fQ m c) (fK m c) (fV m c) (fG m c) (fB m c) (bt t) (256 * iq t + r) (128 * hp t + l) : ℝ) : EReal) := by
  have hl := l.isLt
  unfold k0_pay43
  rw [shapeCast_addUnit_apply]
  rw [show (fun a : Fin 2 => (ix3 (0 : Fin 1) r l : S1x256x128.Idx) a.succ) = (ix2 r l : S256x128.Idx) from
    funext fun a => match a with | ⟨0, _⟩ => rfl | ⟨1, _⟩ => rfl]
  show Scalar.select (broadcastTo S256x128 (shapeCast S1x128 k0_pay11 shapeCasts_S1x128_S1x128) broadcasts_S1x128_S256x128 (ix2 r l)) _ _ = _
  rw [mask0_apply, select_ite]
  by_cases h : l.val / 64 = 0
  · rw [if_pos h]
    exact dq_apply _ _ _ _ _ _ _ _ _ _ _ _ (kw_apply m c t hF) (vw_apply m c t hF) (d0_apply m c t hF) (by decide) _ (P0_apply m c t hF) r l h
  · rw [if_neg h, pay27_eq]
    exact dq_apply _ _ _ _ _ _ _ _ _ _ _ _ (kw_apply m c t hF) (vw_apply m c t hF) (d1_apply m c t hF) (by decide) _ (P1_apply m c t hF) r l (by omega)

end Cert.Kernel2Ideal.AttnArray

end

end
-- ==== Proof.AttnAcc.lean ====
/-
  What the attention's gradients hold after each point of the grid: the sums over the points so far.
-/
module

public import proofs.«01_k».proof.Proof.AttnPoint
public import Idealize.ShloMosaic.Lib.VecWindow

set_option maxRecDepth 16384
set_option backward.isDefEq.respectTransparency false

@[expose] public section

noncomputable section

namespace Cert.Kernel2Ideal.AttnArray

open Cert.Kernel2Ideal Cert.Kernel2Ideal.Gen Cert.Common Cert.Attn Cert.Kernel2Ideal.AttnBlock
open Idealize.ShloMosaic hiding ix0 ix1 ix2 ix3 ix4 ix5 ix6
open Idealize.ShloMosaic.ValueIdx Idealize.ShloMosaic.TcCoe
open Idealize.ShloMosaic.Pipeline (Dat)
open scoped BigOperators

/-! ## Stores one over another -/

/-- The contents after a store to a rectangle of unit strides. -/
theorem canon_put {S : Shape} {e : EltTy} (off size : Fin S.rank → ℕ) (inb : ∀ a, off a + size a ≤ S.size a)
    (w : (Rect.unit off size inb).shape.Idx → Elt Ideal e) (L : List (View.Piece (Elt Ideal) S e)) (y : S.Idx) :
    View.canon (⟨Rect.unit off size inb, w⟩ :: L) y
      = if h : ∀ a, off a ≤ (y a).val ∧ (y a).val < off a + size a then w (Rect.unitLocal (s := S) (off := off) (size := size) y h) else View.canon L y := by
  by_cases h : ∀ a, off a ≤ (y a).val ∧ (y a).val < off a + size a
  · rw [dif_pos h]
    have e2 : (Rect.unit off size inb).emb (Rect.unitLocal (s := S) (off := off) (size := size) y h) = y := by
      funext a
      apply Fin.ext
      show off a + 1 * ((y a).val - off a) = (y a).val
      have := h a
      omega
    conv_lhs => rw [← e2]
    exact View.canon_cons_emb _ _ _ _
  · rw [dif_neg h]
    refine View.canon_cons_of_not_mem _ _ fun hy => h fun a => ?_
    obtain ⟨x, rfl⟩ := LoadRect.exists_idx_of_mem _ hy
    have e : ((Rect.unit off size inb).idx x a).val = off a + (x a).val := Rect.idx_unit_val off size inb x a
    have hx : (x a).val < size a := (x a).isLt
    show off a ≤ ((Rect.unit off size inb).idx x a).val ∧ ((Rect.unit off size inb).idx x a).val < off a + size a
    rw [e]
    exact ⟨Nat.le_add_right _ _, Nat.add_lt_add_left hx _⟩

section
variable (v : FVec Ideal S1x64x640 .f32) (L : List (View.Piece (Elt Ideal) S2x64x640 .f32)) (a : Fin 64) (w : Fin 640)

theorem hit0 : View.canon ((⟨Rect.unit (s := S2x64x640) ![0, 0, 0] ![1, 64, 640] inb_S2x64x640_S1x64x640_0_0_0, v⟩ : View.Piece (Elt Ideal) S2x64x640 .f32) :: L) (ix3 (0 : Fin 2) a w)
    = v (ix3 0 a w) := by
  rw [canon_put, dif_pos fun b => by
    match b with
    | ⟨0, _⟩ => exact ⟨Nat.le_refl 0, Nat.one_pos⟩
    | ⟨1, _⟩ => exact ⟨Nat.zero_le _, by show a.val < 0 + 64; omega⟩
    | ⟨2, _⟩ => exact ⟨Nat.zero_le _, by show w.val < 0 + 640; omega⟩]
  exact congrArg v (funext fun b => Fin.ext (match b with | ⟨0, _⟩ => rfl | ⟨1, _⟩ => rfl | ⟨2, _⟩ => rfl))
theorem hit1 : View.canon ((⟨Rect.unit (s := S2x64x640) ![1, 0, 0] ![1, 64, 640] inb_S2x64x640_S1x64x640_1_0_0, v⟩ : View.Piece (Elt Ideal) S2x64x640 .f32) :: L) (ix3 (1 : Fin 2) a w)
    = v (ix3 0 a w) := by
  rw [canon_put, dif_pos fun b => by
    match b with
    | ⟨0, _⟩ => exact ⟨Nat.le_refl 1, Nat.lt_succ_self 1⟩
    | ⟨1, _⟩ => exact ⟨Nat.zero_le _, by show a.val < 0 + 64; omega⟩
    | ⟨2, _⟩ => exact ⟨Nat.zero_le _, by show w.val < 0 + 640; omega⟩]
  exact congrArg v (funext fun b => Fin.ext (match b with | ⟨0, _⟩ => rfl | ⟨1, _⟩ => rfl | ⟨2, _⟩ => rfl))
theorem miss0 : View.canon ((⟨Rect.unit (s := S2x64x640) ![1, 0, 0] ![1, 64, 640] inb_S2x64x640_S1x64x640_1_0_0, v⟩ : View.Piece (Elt Ideal) S2x64x640 .f32) :: L) (ix3 (0 : Fin 2) a w)
    = View.canon L (ix3 (0 : Fin 2) a w) := by
  rw [canon_put, dif_neg fun h => absurd (h 0).1 (by show ¬ 1 ≤ 0; decide)]
theorem miss1 : View.canon ((⟨Rect.unit (s := S2x64x640) ![0, 0, 0] ![1, 64, 640] inb_S2x64x640_S1x64x640_0_0_0, v⟩ : View.Piece (Elt Ideal) S2x64x640 .f32) :: L) (ix3 (1 : Fin 2) a w)
    = View.canon L (ix3 (1 : Fin 2) a w) := by
  rw [canon_put, dif_neg fun h => absurd (h 0).2 (by show ¬ 1 < 0 + 1; decide)]
theorem whole2 (z : FVec Ideal S2x64x640 .f32) : View.canon ((⟨Rect.unit ![0, 0, 0] ![2, 64, 640] inb_S2x64x640_S2x64x640_0_0_0, z⟩ : View.Piece (Elt Ideal) S2x64x640 .f32) :: L) = z :=
  View.canon_cons_unit_lit' _ _ _ (fun a => by match a with | ⟨0, _⟩ => rfl | ⟨1, _⟩ => rfl | ⟨2, _⟩ => rfl)
theorem ld0 (X : FVec Ideal S2x64x640 .f32) : (View.ld (Val := Elt Ideal) (e' := .f32) X (Rect.unit (s := S2x64x640) ![0, 0, 0] ![1, 64, 640] inb_S2x64x640_S1x64x640_0_0_0) : Vec Ideal S1x64x640 .f32) (ix3 (0 : Fin 1) a w) = X (ix3 (0 : Fin 2) a w) :=
  View.ld_unit_apply_of _ _ _ _ _ _ fun b => by
    match b with
    | ⟨0, _⟩ => rfl
    | ⟨1, _⟩ => show a.val = 0 + a.val; omega
    | ⟨2, _⟩ => show w.val = 0 + w.val; omega
theorem ld1 (X : FVec Ideal S2x64x640 .f32) : (View.ld (Val := Elt Ideal) (e' := .f32) X (Rect.unit (s := S2x64x640) ![1, 0, 0] ![1, 64, 640] inb_S2x64x640_S1x64x640_1_0_0) : Vec Ideal S1x64x640 .f32) (ix3 (0 : Fin 1) a w) = X (ix3 (1 : Fin 2) a w) :=
  View.ld_unit_apply_of _ _ _ _ _ _ fun b => by
    match b with
    | ⟨0, _⟩ => rfl
    | ⟨1, _⟩ => show a.val = 0 + a.val; omega
    | ⟨2, _⟩ => show w.val = 0 + w.val; omega
variable {κ : Kind} {sp : Space} (V : View sig κ sp S2x64x640 .f32)
theorem back0 : (V.readCov L (Rect.unit (s := S2x64x640) ![0, 0, 0] ![1, 64, 640] inb_S2x64x640_S1x64x640_0_0_0).toLoadRect : Vec Ideal S1x64x640 .f32) (ix3 (0 : Fin 1) a w) = View.canon L (ix3 (0 : Fin 2) a w) := by
  rw [View.readCov_eq_canon']
  exact ld0 a w (View.canon L)
theorem back1 : (V.readCov L (Rect.unit (s := S2x64x640) ![1, 0, 0] ![1, 64, 640] inb_S2x64x640_S1x64x640_1_0_0).toLoadRect : Vec Ideal S1x64x640 .f32) (ix3 (0 : Fin 1) a w) = View.canon L (ix3 (1 : Fin 2) a w) := by
  rw [View.readCov_eq_canon']
  exact ld1 a w (View.canon L)
end

/-! ## A block of the scores' gradients added to what is there -/

theorem added (r0 c0 : ℕ) (D : FVec Ideal S256x768 .f32) (X : Vec Ideal S1x64x640 .f32) (hs : S256x768.Slices ![r0, c0] S64x640)
    (a : Fin 64) (w : Fin 640) (hr : r0 + a < 256) (hc : c0 + w < 768) :
    shapeCast S1x64x640 (addf (F := Ideal) (shapeCast S64x640 X shapeCasts_S1x64x640_S64x640) (extractStridedSlice S64x640 ![r0, c0] D hs)) shapeCasts_S64x640_S1x64x640 (ix3 0 a w)
      = (X (ix3 0 a w) + D (ix2 (⟨r0 + a, hr⟩ : Fin 256) (⟨c0 + w, hc⟩ : Fin 768)) : EReal) := by
  rw [shapeCast_addUnit_apply]
  rw [show (fun b : Fin 2 => (ix3 (0 : Fin 1) a w : S1x64x640.Idx) b.succ) = (ix2 a w : S64x640.Idx) from
    funext fun b => match b with | ⟨0, _⟩ => rfl | ⟨1, _⟩ => rfl]
  rw [addf_apply, shapeCast_dropUnit_apply, extractStridedSlice_apply _ _ _ (ix2 a w) (ix2 (⟨r0 + a, hr⟩ : Fin 256) (⟨c0 + w, hc⟩ : Fin 768))
    (fun b => match b with | ⟨0, _⟩ => rfl | ⟨1, _⟩ => rfl)]
  exact congrArg (X · + _) (funext fun b => Fin.ext (match b with | ⟨0, _⟩ => rfl | ⟨1, _⟩ => rfl | ⟨2, _⟩ => rfl))

section
variable (D : FVec Ideal S256x768 .f32) (X : Vec Ideal S1x64x640 .f32) (a : Fin 64) (w : Fin 640)

/-- The entry of a block's gradients that chunk `n` of the block puts at `(a, w)`, its window moved by `o`. -/
abbrev at' (r0 c0 : ℕ) (hr : r0 ≤ 192) (hc : c0 ≤ 128) : S256x768.Idx := ix2 (⟨r0 + a, by omega⟩ : Fin 256) (⟨c0 + w, by omega⟩ : Fin 768)

theorem pay33_apply (v : FVec Ideal S768x128 .bf16) (d : FVec Ideal S256x128 .bf16) (P : FVec Ideal S256x768 .f32) :
    k0_pay33 (F := Ideal) (k0_pay32 v d P) X (ix3 0 a w) = (X (ix3 0 a w) + k0_pay22 v d P (at' a w 0 0 (by decide) (by decide)) : EReal) :=
  added 0 0 _ X slices_S256x768_o0_0_S64x640 a w (by omega) (by omega)
theorem pay34_apply : k0_pay34 (F := Ideal) D X (ix3 0 a w) = (X (ix3 0 a w) + D (at' a w 64 0 (by decide) (by decide)) : EReal) :=
  added 64 0 D X slices_S256x768_o64_0_S64x640 a w (by omega) (by omega)
theorem pay35_apply : k0_pay35 (F := Ideal) D X (ix3 0 a w) = (X (ix3 0 a w) + D (at' a w 128 128 (by decide) (by decide)) : EReal) :=
  added 128 128 D X slices_S256x768_o128_128_S64x640 a w (by omega) (by omega)
theorem pay36_apply : k0_pay36 (F := Ideal) D X (ix3 0 a w) = (X (ix3 0 a w) + D (at' a w 192 128 (by decide) (by decide)) : EReal) :=
  added 192 128 D X slices_S256x768_o192_128_S64x640 a w (by omega) (by omega)
theorem pay39_apply : k0_pay39 (F := Ideal) (k0_pay37 D) (k0_pay38 X) (ix3 0 a w) = (X (ix3 0 a w) + D (at' a w 0 0 (by decide) (by decide)) : EReal) :=
  added 0 0 D X slices_S256x768_o0_0_S64x640 a w (by omega) (by omega)
theorem pay40_apply : k0_pay40 (F := Ideal) D X (ix3 0 a w) = (X (ix3 0 a w) + D (at' a w 64 0 (by decide) (by decide)) : EReal) :=
  added 64 0 D X slices_S256x768_o64_0_S64x640 a w (by omega) (by omega)
theorem pay41_apply : k0_pay41 (F := Ideal) D X (ix3 0 a w) = (X (ix3 0 a w) + D (at' a w 128 128 (by decide) (by decide)) : EReal) :=
  added 128 128 D X slices_S256x768_o128_128_S64x640 a w (by omega) (by omega)
theorem pay42_apply : k0_pay42 (F := Ideal) D X (ix3 0 a w) = (X (ix3 0 a w) + D (at' a w 192 128 (by decide) (by decide)) : EReal) :=
  added 192 128 D X slices_S256x768_o192_128_S64x640 a w (by omega) (by omega)
theorem pay5_apply (i : S2x64x640.Idx) : k0_pay5 (F := Ideal) i = (0 : EReal) := Ideal.ofBits_zero_f32
theorem pay6_apply (i : S2x64x640.Idx) : k0_pay6 (F := Ideal) i = (0 : EReal) := Ideal.ofBits_zero_f32
end

variable (m : (ℓ : Loc nD τ sig) → Buf (Elt Ideal) ℓ) (c : Dev nD) (t : Fin cfg0.N)

/-! ## The bias gradients after a point, from those before it -/

section
variable (a : Fin 64) (w : Fin 640)

theorem step8_0 : (outsAt0 m c t.val t.isLt).2.2.2.1 (ix3 (0 : Fin 2) a w)
    = ((if h : t.val % 16 = 0 then 0 else (outsAt0 m c (t.val - 1) (by omega)).2.2.2.1 (ix3 (0 : Fin 2) a w))
        + D0 m c t (at' a w 0 0 (by decide) (by decide)) + D0 m c t (at' a w 128 128 (by decide) (by decide)) : EReal) := by
  by_cases h1 : t.val % 16 = 0
  · rw [dif_pos h1, outsAt0_A m c t (by omega) h1]; frame_out; simp only [hit0, hit1, miss0, miss1, whole2, back0, back1, pay33_apply, pay34_apply, pay35_apply, pay36_apply, pay39_apply, pay40_apply, pay41_apply, pay42_apply, pay5_apply, pay6_apply]; rfl
  · rw [dif_neg h1]
    by_cases h0 : t.val % 8 = 0
    · rw [outsAt0_C m c t h0 h1]; frame_out; simp only [hit0, hit1, miss0, miss1, whole2, back0, back1, pay33_apply, pay34_apply, pay35_apply, pay36_apply, pay39_apply, pay40_apply, pay41_apply, pay42_apply, pay5_apply, pay6_apply]; exact congrArg (· + _ + _) (ld0 a w _)
    · rw [outsAt0_B m c t h0 h1]; frame_out; simp only [hit0, hit1, miss0, miss1, whole2, back0, back1, pay33_apply, pay34_apply, pay35_apply, pay36_apply, pay39_apply, pay40_apply, pay41_apply, pay42_apply, pay5_apply, pay6_apply]; exact congrArg (· + _ + _) (ld0 a w _)
theorem step8_1 : (outsAt0 m c t.val t.isLt).2.2.2.1 (ix3 (1 : Fin 2) a w)
    = ((if h : t.val % 16 = 0 then 0 else (outsAt0 m c (t.val - 1) (by omega)).2.2.2.1 (ix3 (1 : Fin 2) a w))
        + D1 m c t (at' a w 0 0 (by decide) (by decide)) + D1 m c t (at' a w 128 128 (by decide) (by decide)) : EReal) := by
  by_cases h1 : t.val % 16 = 0
  · rw [dif_pos h1, outsAt0_A m c t (by omega) h1]; frame_out; simp only [hit0, hit1, miss0, miss1, whole2, back0, back1, pay33_apply, pay34_apply, pay35_apply, pay36_apply, pay39_apply, pay40_apply, pay41_apply, pay42_apply, pay5_apply, pay6_apply]; rfl
  · rw [dif_neg h1]
    by_cases h0 : t.val % 8 = 0
    · rw [outsAt0_C m c t h0 h1]; frame_out; simp only [hit0, hit1, miss0, miss1, whole2, back0, back1, pay33_apply, pay34_apply, pay35_apply, pay36_apply, pay39_apply, pay40_apply, pay41_apply, pay42_apply, pay5_apply, pay6_apply]; exact congrArg (· + _ + _) (ld1 a w _)
    · rw [outsAt0_B m c t h0 h1]; frame_out; simp only [hit0, hit1, miss0, miss1, whole2, back0, back1, pay33_apply, pay34_apply, pay35_apply, pay36_apply, pay39_apply, pay40_apply, pay41_apply, pay42_apply, pay5_apply, pay6_apply]; exact congrArg (· + _ + _) (ld1 a w _)
theorem step9_0 : (outsAt0 m c t.val t.isLt).2.2.2.2 (ix3 (0 : Fin 2) a w)
    = ((if h : t.val % 16 = 0 then 0 else (outsAt0 m c (t.val - 1) (by omega)).2.2.2.2 (ix3 (0 : Fin 2) a w))
        + D0 m c t (at' a w 64 0 (by decide) (by decide)) + D0 m c t (at' a w 192 128 (by decide) (by decide)) : EReal) := by
  by_cases h1 : t.val % 16 = 0
  · rw [dif_pos h1, outsAt0_A m c t (by omega) h1]; frame_out; simp only [hit0, hit1, miss0, miss1, whole2, back0, back1, pay33_apply, pay34_apply, pay35_apply, pay36_apply, pay39_apply, pay40_apply, pay41_apply, pay42_apply, pay5_apply, pay6_apply]; rfl
  · rw [dif_neg h1]
    by_cases h0 : t.val % 8 = 0
    · rw [outsAt0_C m c t h0 h1]; frame_out; simp only [hit0, hit1, miss0, miss1, whole2, back0, back1, pay33_apply, pay34_apply, pay35_apply, pay36_apply, pay39_apply, pay40_apply, pay41_apply, pay42_apply, pay5_apply, pay6_apply]; exact congrArg (· + _ + _) (ld0 a w _)
    · rw [outsAt0_B m c t h0 h1]; frame_out; simp only [hit0, hit1, miss0, miss1, whole2, back0, back1, pay33_apply, pay34_apply, pay35_apply, pay36_apply, pay39_apply, pay40_apply, pay41_apply, pay42_apply, pay5_apply, pay6_apply]; exact congrArg (· + _ + _) (ld0 a w _)
theorem step9_1 : (outsAt0 m c t.val t.isLt).2.2.2.2 (ix3 (1 : Fin 2) a w)
    = ((if h : t.val % 16 = 0 then 0 else (outsAt0 m c (t.val - 1) (by omega)).2.2.2.2 (ix3 (1 : Fin 2) a w))
        + D1 m c t (at' a w 64 0 (by decide) (by decide)) + D1 m c t (at' a w 192 128 (by decide) (by decide)) : EReal) := by
  by_cases h1 : t.val % 16 = 0
  · rw [dif_pos h1, outsAt0_A m c t (by omega) h1]; frame_out; simp only [hit0, hit1, miss0, miss1, whole2, back0, back1, pay33_apply, pay34_apply, pay35_apply, pay36_apply, pay39_apply, pay40_apply, pay41_apply, pay42_apply, pay5_apply, pay6_apply]; rfl
  · rw [dif_neg h1]
    by_cases h0 : t.val % 8 = 0
    · rw [outsAt0_C m c t h0 h1]; frame_out; simp only [hit0, hit1, miss0, miss1, whole2, back0, back1, pay33_apply, pay34_apply, pay35_apply, pay36_apply, pay39_apply, pay40_apply, pay41_apply, pay42_apply, pay5_apply, pay6_apply]; exact congrArg (· + _ + _) (ld1 a w _)
    · rw [outsAt0_B m c t h0 h1]; frame_out; simp only [hit0, hit1, miss0, miss1, whole2, back0, back1, pay33_apply, pay34_apply, pay35_apply, pay36_apply, pay39_apply, pay40_apply, pay41_apply, pay42_apply, pay5_apply, pay6_apply]; exact congrArg (· + _ + _) (ld1 a w _)
end

/-! ## The keys' and values' gradients after a point -/

theorem pay1_apply (x y : FVec Ideal S768x128 .f32) (X : Vec Ideal S1x768x128 .f32) (w : Fin 768) (l : Fin 128) :
    k0_pay1 (F := Ideal) x y X (ix3 0 w l) = (X (ix3 0 w l) + (x (ix2 w l) + y (ix2 w l)) : EReal) := by
  unfold k0_pay1
  rw [shapeCast_addUnit_apply]
  rw [show (fun b : Fin 2 => (ix3 (0 : Fin 1) w l : S1x768x128.Idx) b.succ) = (ix2 w l : S768x128.Idx) from
    funext fun b => match b with | ⟨0, _⟩ => rfl | ⟨1, _⟩ => rfl]
  rw [addf_apply, shapeCast_dropUnit_apply, addf_apply]
  exact congrArg (X · + _) (funext fun b => Fin.ext (match b with | ⟨0, _⟩ => rfl | ⟨1, _⟩ => rfl | ⟨2, _⟩ => rfl))
theorem pay2_apply (x y : FVec Ideal S768x128 .f32) (X : Vec Ideal S1x768x128 .f32) (w : Fin 768) (l : Fin 128) :
    k0_pay2 (F := Ideal) x y X (ix3 0 w l) = (X (ix3 0 w l) + (x (ix2 w l) + y (ix2 w l)) : EReal) := pay1_apply x y X w l

/-- The contents of the keys' window after the point's store over `X`. -/
theorem over_apply (X : FVec Ideal S1x2560x128 .f32) (v : FVec Ideal S1x768x128 .f32) (u : Fin 768 → Fin 128 → EReal)
    (hv : ∀ (w : Fin 768) (l : Fin 128), v (ix3 0 w l) = (View.ld (Val := Elt Ideal) (e' := .f32) X (rw1 t) : Vec Ideal S1x768x128 .f32) (ix3 0 w l) + u w l)
    (s : Fin 2560) (l : Fin 128) :
    (VecWindow.put X (k0_off1 (grid0.coords t)) S1x768x128.size v : FVec Ideal S1x2560x128 .f32) (ix3 0 s l)
      = (X (ix3 0 s l) + if h : 256 * (iq t).val ≤ s.val ∧ s.val < 256 * (iq t).val + 768 then u ⟨s.val - 256 * (iq t).val, by omega⟩ l else 0 : EReal) := by
  by_cases h : 256 * (iq t).val ≤ s.val ∧ s.val < 256 * (iq t).val + 768
  · have hin : ∀ a, k0_off1 (grid0.coords t) a ≤ ((ix3 0 s l : S1x2560x128.Idx) a).val ∧ ((ix3 0 s l : S1x2560x128.Idx) a).val < k0_off1 (grid0.coords t) a + S1x768x128.size a := fun a => by
      rw [(off1 t).1]
      match a with
      | ⟨0, _⟩ => exact ⟨Nat.le_refl 0, Nat.one_pos⟩
      | ⟨1, _⟩ => exact h
      | ⟨2, _⟩ => exact ⟨Nat.zero_le _, by show l.val < 0 + 128; omega⟩
    have e1 : VecWindow.put X (k0_off1 (grid0.coords t)) S1x768x128.size v (ix3 0 s l) = v (Rect.unitLocal (s := S1x2560x128) (off := k0_off1 (grid0.coords t)) (size := S1x768x128.size) _ hin) := dif_pos hin
    have e2 : (Rect.unitLocal (s := S1x2560x128) (off := k0_off1 (grid0.coords t)) (size := S1x768x128.size) _ hin : S1x768x128.Idx)
        = ix3 0 (⟨s.val - 256 * (iq t).val, by omega⟩ : Fin 768) l := by
      funext a
      apply Fin.ext
      show ((ix3 0 s l : S1x2560x128.Idx) a).val - k0_off1 (grid0.coords t) a = _
      rw [(off1 t).1]
      match a with
      | ⟨0, _⟩ => rfl
      | ⟨1, _⟩ => rfl
      | ⟨2, _⟩ => rfl
    rw [e1, dif_pos h]
    refine (congrArg v e2).trans ((hv _ _).trans (congrArg (· + _) ?_))
    refine View.ld_unit_apply_of _ _ _ _ _ (ix3 0 s l) fun a => ?_
    refine Eq.trans ?_ (congrArg (· + _) (congrFun (off1 t).1 a).symm)
    match a with
    | ⟨0, _⟩ => rfl
    | ⟨1, _⟩ => show s.val = 256 * (iq t).val + (s.val - 256 * (iq t).val); omega
    | ⟨2, _⟩ => show l.val = 0 + l.val; omega
  · rw [dif_neg h, add_zero]
    exact dif_neg fun hin => h (by
      have := hin ⟨1, by decide⟩
      rw [(off1 t).1] at this
      exact this)

section
variable (Q K V G B : ℕ → ℕ → ℕ → ℝ) (b i s k : ℕ) (h : ¬ (256 * i ≤ s ∧ s < 256 * i + 768))
include h
theorem dkP_off : dkP Q K V G B b i s k = 0 :=
  Finset.sum_eq_zero fun r _ => by
    have hr := r.isLt
    rw [ds_off _ _ _ _ _ _ _ _ _ fun hi => h ⟨by have := hi.1; omega, by have := hi.2.1; omega⟩, zero_mul, zero_mul]
theorem dvP_off : dvP Q K G B b i s k = 0 :=
  Finset.sum_eq_zero fun r _ => by
    have hr := r.isLt
    rw [pr_off _ _ _ _ _ _ _ fun hi => h ⟨by have := hi.1; omega, by have := hi.2.1; omega⟩, zero_mul]
end

/-- The gradients of the keys and the values start at zero. -/
theorem whole3 (z : FVec Ideal S1x2560x128 .f32) : View.canon ((⟨Rect.unit ![0, 0, 0] ![1, 2560, 128] inb_S1x2560x128_S1x2560x128_0_0_0, z⟩ : View.Piece (Elt Ideal) S1x2560x128 .f32) :: []) = z :=
  View.canon_cons_unit_lit' _ _ _ (fun a => by match a with | ⟨0, _⟩ => rfl | ⟨1, _⟩ => rfl | ⟨2, _⟩ => rfl)

variable (hF : Fine m c)
include hF

theorem over_dk (X : FVec Ideal S1x2560x128 .f32) (s : Fin 2560) (l : Fin 128) :
    (VecWindow.put X (k0_off1 (grid0.coords t)) S1x768x128.size (k0_pay1 (F := Ideal) (k0_pay28 (F := Ideal) (vw m c t) (q0 m c t) (d0 m c t) (P0 m c t))
      (k0_pay29 (F := Ideal) (vw m c t) (q1 m c t) (d1 m c t) (s1 m c t) (k0_pay19 (st t)) k0_pay20) (View.ld (Val := Elt Ideal) (e' := .f32) X (rw1 t))) : FVec Ideal S1x2560x128 .f32) (ix3 0 s l)
      = (X (ix3 0 s l) + ((dkP (fQ m c) (fK m c) (fV m c) (fG m c) (fB m c) (bt t) (iq t) s (128 * hp t + l) : ℝ) : EReal) : EReal) := by
  rw [over_apply t X _ _ (fun w l => pay1_apply _ _ _ w l)]
  refine congrArg (_ + ·) ?_
  by_cases h : 256 * (iq t).val ≤ s.val ∧ s.val < 256 * (iq t).val + 768
  · rw [dif_pos h, dk_point m c t hF]
    show ((dkP _ _ _ _ _ _ _ (256 * (iq t).val + (s.val - 256 * (iq t).val)) _ : ℝ) : EReal) = _
    rw [Nat.add_sub_cancel' h.1]
  · rw [dif_neg h, dkP_off _ _ _ _ _ _ _ _ _ h, EReal.coe_zero]
theorem over_dv (X : FVec Ideal S1x2560x128 .f32) (s : Fin 2560) (l : Fin 128) :
    (VecWindow.put X (k0_off1 (grid0.coords t)) S1x768x128.size (k0_pay2 (F := Ideal) (k0_pay30 (F := Ideal) (d0 m c t) (P0 m c t))
      (k0_pay31 (F := Ideal) (d1 m c t) (s1 m c t) (k0_pay19 (st t)) k0_pay20) (View.ld (Val := Elt Ideal) (e' := .f32) X (rw1 t))) : FVec Ideal S1x2560x128 .f32) (ix3 0 s l)
      = (X (ix3 0 s l) + ((dvP (fQ m c) (fK m c) (fG m c) (fB m c) (bt t) (iq t) s (128 * hp t + l) : ℝ) : EReal) : EReal) := by
  rw [over_apply t X _ _ (fun w l => pay2_apply _ _ _ w l)]
  refine congrArg (_ + ·) ?_
  by_cases h : 256 * (iq t).val ≤ s.val ∧ s.val < 256 * (iq t).val + 768
  · rw [dif_pos h, dv_point m c t hF]
    show ((dvP _ _ _ _ _ _ (256 * (iq t).val + (s.val - 256 * (iq t).val)) _ : ℝ) : EReal) = _
    rw [Nat.add_sub_cancel' h.1]
  · rw [dif_neg h, dvP_off _ _ _ _ _ _ _ _ h, EReal.coe_zero]

theorem step6 (s : Fin 2560) (l : Fin 128) : (outsAt0 m c t.val t.isLt).2.1 (ix3 0 s l)
    = ((if h : t.val % 8 = 0 then 0 else (outsAt0 m c (t.val - 1) (by omega)).2.1 (ix3 0 s l))
        + ((dkP (fQ m c) (fK m c) (fV m c) (fG m c) (fB m c) (bt t) (iq t) s (128 * hp t + l) : ℝ) : EReal) : EReal) := by
  by_cases h0 : t.val % 8 = 0
  · rw [dif_pos h0]
    have e := over_dk m c t hF k0_pay3 s l
    rw [show k0_pay3 (F := Ideal) (ix3 0 s l) = (0 : EReal) from Ideal.ofBits_zero_f32] at e
    rw [← e]
    by_cases h1 : t.val % 16 = 0
    · rw [outsAt0_A m c t h0 h1]; frame_out
      exact (canon_put _ _ _ _ _ _).trans (by rw [whole3]; rfl)
    · rw [outsAt0_C m c t h0 h1]; frame_out
      exact (canon_put _ _ _ _ _ _).trans (by rw [whole3]; rfl)
  · rw [dif_neg h0, ← over_dk m c t hF, outsAt0_B m c t h0 (by omega)]; frame_out
    exact (congrFun (View.read_writes_cons_put _ _ _ _ _ rfl) _).trans (by rw [View.writes_nil, Memref.IsWhole.read_unread]; rfl)
theorem step7 (s : Fin 2560) (l : Fin 128) : (outsAt0 m c t.val t.isLt).2.2.1 (ix3 0 s l)
    = ((if h : t.val % 8 = 0 then 0 else (outsAt0 m c (t.val - 1) (by omega)).2.2.1 (ix3 0 s l))
        + ((dvP (fQ m c) (fK m c) (fG m c) (fB m c) (bt t) (iq t) s (128 * hp t + l) : ℝ) : EReal) : EReal) := by
  by_cases h0 : t.val % 8 = 0
  · rw [dif_pos h0]
    have e := over_dv m c t hF k0_pay4 s l
    rw [show k0_pay4 (F := Ideal) (ix3 0 s l) = (0 : EReal) from Ideal.ofBits_zero_f32] at e
    rw [← e]
    by_cases h1 : t.val % 16 = 0
    · rw [outsAt0_A m c t h0 h1]; frame_out
      exact (canon_put _ _ _ _ _ _).trans (by rw [whole3]; rfl)
    · rw [outsAt0_C m c t h0 h1]; frame_out
      exact (canon_put _ _ _ _ _ _).trans (by rw [whole3]; rfl)
  · rw [dif_neg h0, ← over_dv m c t hF, outsAt0_B m c t h0 (by omega)]; frame_out
    exact (congrFun (View.read_writes_cons_put _ _ _ _ _ rfl) _).trans (by rw [View.writes_nil, Memref.IsWhole.read_unread]; rfl)

/-! ## The sums so far -/

/-- What the gradient of the keys gathers over one sweep of the blocks of queries. -/
theorem acc6 (s : Fin 2560) (l : Fin 128) : ∀ n (hn : n < cfg0.N), (outsAt0 m c n hn).2.1 (ix3 0 s l)
    = ((∑ i ∈ Finset.range (n % 8 + 1), dkP (fQ m c) (fK m c) (fV m c) (fG m c) (fB m c) (n / 8 % 2) i s (128 * (n / 16) + l) : ℝ) : EReal) := by
  intro n
  induction n with
  | zero =>
    intro hn
    rw [step6 m c ⟨0, hn⟩ hF s l, dif_pos (show (⟨0, hn⟩ : Fin cfg0.N).val % 8 = 0 from rfl), zero_add]
    rw [show 0 % 8 + 1 = 1 from rfl, Finset.sum_range_one]
    rfl
  | succ n ih =>
    intro hn
    rw [step6 m c ⟨n + 1, hn⟩ hF s l]
    by_cases h : (n + 1) % 8 = 0
    · rw [dif_pos h, zero_add, h, Finset.sum_range_one]
      show ((dkP _ _ _ _ _ _ ((n + 1) % 8) _ _ : ℝ) : EReal) = _
      rw [h]
    · rw [dif_neg h]
      show ((outsAt0 m c n _).2.1 (ix3 0 s l) + _ : EReal) = _
      rw [ih, ← EReal.coe_add, Finset.sum_range_succ _ ((n + 1) % 8)]
      show ((_ + dkP _ _ _ _ _ ((n + 1) / 8 % 2) ((n + 1) % 8) _ (128 * ((n + 1) / 16) + l) : ℝ) : EReal) = _
      rw [show (n + 1) % 8 = n % 8 + 1 by omega, show (n + 1) / 8 % 2 = n / 8 % 2 by omega, show (n + 1) / 16 = n / 16 by omega]
theorem acc7 (s : Fin 2560) (l : Fin 128) : ∀ n (hn : n < cfg0.N), (outsAt0 m c n hn).2.2.1 (ix3 0 s l)
    = ((∑ i ∈ Finset.range (n % 8 + 1), dvP (fQ m c) (fK m c) (fG m c) (fB m c) (n / 8 % 2) i s (128 * (n / 16) + l) : ℝ) : EReal) := by
  intro n
  induction n with
  | zero =>
    intro hn
    rw [step7 m c ⟨0, hn⟩ hF s l, dif_pos (show (⟨0, hn⟩ : Fin cfg0.N).val % 8 = 0 from rfl), zero_add]
    rw [show 0 % 8 + 1 = 1 from rfl, Finset.sum_range_one]
    rfl
  | succ n ih =>
    intro hn
    rw [step7 m c ⟨n + 1, hn⟩ hF s l]
    by_cases h : (n + 1) % 8 = 0
    · rw [dif_pos h, zero_add, h, Finset.sum_range_one]
      show ((dvP _ _ _ _ _ ((n + 1) % 8) _ _ : ℝ) : EReal) = _
      rw [h]
    · rw [dif_neg h]
      show ((outsAt0 m c n _).2.2.1 (ix3 0 s l) + _ : EReal) = _
      rw [ih, ← EReal.coe_add, Finset.sum_range_succ _ ((n + 1) % 8)]
      show ((_ + dvP _ _ _ _ ((n + 1) / 8 % 2) ((n + 1) % 8) _ (128 * ((n + 1) / 16) + l) : ℝ) : EReal) = _
      rw [show (n + 1) % 8 = n % 8 + 1 by omega, show (n + 1) / 8 % 2 = n / 8 % 2 by omega, show (n + 1) / 16 = n / 16 by omega]

/-- What point `u` of a pair of heads' sixteen adds to a bias gradient, from the rows from `r0` on. -/
def dbP (Q K V G B : ℕ → ℕ → ℕ → ℝ) (r0 h u a w : ℕ) : ℝ :=
  ds Q K V G B (u / 8) h (256 * (u % 8) + (r0 + a)) (256 * (u % 8) + (0 + w)) + ds Q K V G B (u / 8) h (256 * (u % 8) + (r0 + 128 + a)) (256 * (u % 8) + (128 + w))

section
variable (r0 h0 a w : ℕ) (f : ∀ n, n < cfg0.N → EReal)
/-- A sum over the sixteen points of a pair of heads, built up point by point. -/
theorem acc16 (hf : ∀ n (hn : n < cfg0.N), f n hn = (if h : n % 16 = 0 then 0 else f (n - 1) (by omega))
      + ((ds (fQ m c) (fK m c) (fV m c) (fG m c) (fB m c) (n / 8 % 2) (2 * (n / 16) + h0) (256 * (n % 8) + (r0 + a)) (256 * (n % 8) + (0 + w)) : ℝ) : EReal)
      + ((ds (fQ m c) (fK m c) (fV m c) (fG m c) (fB m c) (n / 8 % 2) (2 * (n / 16) + h0) (256 * (n % 8) + (r0 + 128 + a)) (256 * (n % 8) + (128 + w)) : ℝ) : EReal)) :
    ∀ n (hn : n < cfg0.N), f n hn = ((∑ u ∈ Finset.range (n % 16 + 1), dbP (fQ m c) (fK m c) (fV m c) (fG m c) (fB m c) r0 (2 * (n / 16) + h0) u a w : ℝ) : EReal) := by
  have e : ∀ n, ds (fQ m c) (fK m c) (fV m c) (fG m c) (fB m c) (n / 8 % 2) (2 * (n / 16) + h0) (256 * (n % 8) + (r0 + a)) (256 * (n % 8) + (0 + w))
      + ds (fQ m c) (fK m c) (fV m c) (fG m c) (fB m c) (n / 8 % 2) (2 * (n / 16) + h0) (256 * (n % 8) + (r0 + 128 + a)) (256 * (n % 8) + (128 + w))
      = dbP (fQ m c) (fK m c) (fV m c) (fG m c) (fB m c) r0 (2 * (n / 16) + h0) (n % 16) a w := fun n => by
    unfold dbP
    rw [show n % 16 / 8 = n / 8 % 2 by omega, show n % 16 % 8 = n % 8 by omega]
  intro n
  induction n with
  | zero =>
    intro hn
    rw [hf, dif_pos rfl, zero_add, ← EReal.coe_add, e]
    simp
  | succ n ih =>
    intro hn
    rw [hf]
    by_cases h : (n + 1) % 16 = 0
    · rw [dif_pos h, zero_add, ← EReal.coe_add, e, h, Finset.sum_range_one]
    · rw [dif_neg h, add_assoc, ← EReal.coe_add, e]
      show (f n _ + _ : EReal) = _
      rw [ih, ← EReal.coe_add, Finset.sum_range_succ _ ((n + 1) % 16), show (n + 1) % 16 = n % 16 + 1 by omega, show (n + 1) / 16 = n / 16 by omega]
end

theorem acc8_0 (a : Fin 64) (w : Fin 640) : ∀ n (hn : n < cfg0.N), (outsAt0 m c n hn).2.2.2.1 (ix3 (0 : Fin 2) a w)
    = ((∑ u ∈ Finset.range (n % 16 + 1), dbP (fQ m c) (fK m c) (fV m c) (fG m c) (fB m c) 0 (2 * (n / 16) + 0) u a w : ℝ) : EReal) :=
  acc16 m c hF 0 0 a w _ fun n hn => by
    rw [step8_0 m c ⟨n, hn⟩ a w, D0_apply m c ⟨n, hn⟩ hF, D0_apply m c ⟨n, hn⟩ hF]
theorem acc8_1 (a : Fin 64) (w : Fin 640) : ∀ n (hn : n < cfg0.N), (outsAt0 m c n hn).2.2.2.1 (ix3 (1 : Fin 2) a w)
    = ((∑ u ∈ Finset.range (n % 16 + 1), dbP (fQ m c) (fK m c) (fV m c) (fG m c) (fB m c) 0 (2 * (n / 16) + 1) u a w : ℝ) : EReal) :=
  acc16 m c hF 0 1 a w _ fun n hn => by
    rw [step8_1 m c ⟨n, hn⟩ a w, D1_apply m c ⟨n, hn⟩ hF, D1_apply m c ⟨n, hn⟩ hF]
theorem acc9_0 (a : Fin 64) (w : Fin 640) : ∀ n (hn : n < cfg0.N), (outsAt0 m c n hn).2.2.2.2 (ix3 (0 : Fin 2) a w)
    = ((∑ u ∈ Finset.range (n % 16 + 1), dbP (fQ m c) (fK m c) (fV m c) (fG m c) (fB m c) 64 (2 * (n / 16) + 0) u a w : ℝ) : EReal) :=
  acc16 m c hF 64 0 a w _ fun n hn => by
    rw [step9_0 m c ⟨n, hn⟩ a w, D0_apply m c ⟨n, hn⟩ hF, D0_apply m c ⟨n, hn⟩ hF]
theorem acc9_1 (a : Fin 64) (w : Fin 640) : ∀ n (hn : n < cfg0.N), (outsAt0 m c n hn).2.2.2.2 (ix3 (1 : Fin 2) a w)
    = ((∑ u ∈ Finset.range (n % 16 + 1), dbP (fQ m c) (fK m c) (fV m c) (fG m c) (fB m c) 64 (2 * (n / 16) + 1) u a w : ℝ) : EReal) :=
  acc16 m c hF 64 1 a w _ fun n hn => by
    rw [step9_1 m c ⟨n, hn⟩ a w, D1_apply m c ⟨n, hn⟩ hF, D1_apply m c ⟨n, hn⟩ hF]

end Cert.Kernel2Ideal.AttnArray

end

end
-- ==== Proof.AttnFinal.lean ====
/-
  The gradients of the attention that the kernel leaves, as functions of its arguments.
-/
module

public import proofs.«01_k».proof.Proof.AttnAcc

set_option maxRecDepth 16384
set_option backward.isDefEq.respectTransparency false

@[expose] public section

noncomputable section

namespace Cert.Kernel2Ideal.AttnArray

open Cert.Kernel2Ideal Cert.Kernel2Ideal.Gen Cert.Common Cert.Attn Cert.Kernel2Ideal.AttnBlock
open Idealize.ShloMosaic hiding ix0 ix1 ix2 ix3 ix4 ix5 ix6
open Idealize.ShloMosaic.ValueIdx Idealize.ShloMosaic.TcCoe
open Idealize.ShloMosaic.Pipeline (Dat)
open scoped BigOperators

variable (m : (ℓ : Loc nD τ sig) → Buf (Elt Ideal) ℓ) (c : Dev nD) (hF : Fine m c)
include hF

theorem outs5 (t : Fin cfg0.N) (r : Fin 256) (l : Fin 128) : (outsAt0 m c t.val t.isLt).1 (ix3 0 r l)
    = ((dqA (fQ m c) (fK m c) (fV m c) (fG m c) (fB m c) (bt t) (256 * iq t + r) (128 * hp t + l) : ℝ) : EReal) := by
  rw [← dq_point m c t hF]
  by_cases h0 : t.val % 8 = 0
  · by_cases h1 : t.val % 16 = 0
    · rw [outsAt0_A m c t h0 h1]; frame_out; rfl
    · rw [outsAt0_C m c t h0 h1]; frame_out; rfl
  · rw [outsAt0_B m c t h0 (by omega)]; frame_out; rfl

omit hF in
theorem flushes : ∀ t : Fin cfg0.N, ((cfg0.win 6).flush t = true → t.val % 8 = 7) ∧ ((cfg0.win 7).flush t = true → t.val % 8 = 7)
    ∧ ((cfg0.win 8).flush t = true → t.val % 16 = 15) ∧ ((cfg0.win 9).flush t = true → t.val % 16 = 15) :=
  (by decide +kernel : ∀ t : Fin grid0.N, _)

theorem final5 : (dats m 0 c).arrAt 5 cfg0.N
    = fun i => ((dqA (fQ m c) (fK m c) (fV m c) (fG m c) (fB m c) (i 0).val (i 1).val (i 2).val : ℝ) : EReal) := by
  refine (dats m 0 c).arrAt_eq_of_covers 5 _ (by decide +kernel) fun t hf y => ?_
  blk_simp
  rw [after0_5, show win0_5.index t = _ from (idx t).2.2.2.2.2.1]
  obtain ⟨u, r, l, rfl⟩ : ∃ (u : Fin 1) (r : Fin 256) (l : Fin 128), y = ix3 u r l := ⟨_, _, _, ValueIdx.eq_ix3 y⟩
  obtain rfl := Fin.fin_one_eq_zero u
  refine (outs5 m c hF t r l).trans (congrArg _ ?_)
  show dqA _ _ _ _ _ (t.val / 8 % 2) (256 * (t.val % 8) + r) (128 * (t.val / 16) + l) = dqA _ _ _ _ _ (t.val / 8 % 2) (t.val % 8 * 256 + r) (t.val / 16 * 128 + l)
  rw [Nat.mul_comm 256, Nat.mul_comm 128]

omit hF in
/-- The keys' gradient, its queries taken block by block. -/
theorem dk_blocks (Q K V G B : ℕ → ℕ → ℕ → ℝ) (b s k : ℕ) : ∑ i ∈ Finset.range 8, dkP Q K V G B b i s k = dkA Q K V G B b s k := by
  rw [Finset.sum_range]
  exact (sum_blocks 8 256 fun t => ds Q K V G B b (k / 64) t s * (1 / 8) * Q b t k).symm
omit hF in
theorem dv_blocks (Q K V G B : ℕ → ℕ → ℕ → ℝ) (b s k : ℕ) : ∑ i ∈ Finset.range 8, dvP Q K G B b i s k = dvA Q K G B b s k := by
  rw [Finset.sum_range]
  exact (sum_blocks 8 256 fun t => pr Q K B b (k / 64) t s * G b t k).symm

theorem final6 : (dats m 0 c).arrAt 6 cfg0.N
    = fun i => ((dkA (fQ m c) (fK m c) (fV m c) (fG m c) (fB m c) (i 0).val (i 1).val (i 2).val : ℝ) : EReal) := by
  refine (dats m 0 c).arrAt_eq_of_covers 6 _ (by decide +kernel) fun t hf y => ?_
  blk_simp
  rw [after0_6, show win0_6.index t = _ from (idx t).2.2.2.2.2.2.1]
  obtain ⟨u, s, l, rfl⟩ : ∃ (u : Fin 1) (s : Fin 2560) (l : Fin 128), y = ix3 u s l := ⟨_, _, _, ValueIdx.eq_ix3 y⟩
  obtain rfl := Fin.fin_one_eq_zero u
  refine (acc6 m c hF s l t.val t.isLt).trans (congrArg _ ?_)
  rw [(flushes t).1 hf, dk_blocks]
  show dkA _ _ _ _ _ (t.val / 8 % 2) s (128 * (t.val / 16) + l) = dkA _ _ _ _ _ (t.val / 8 % 2) (0 * 2560 + s) (t.val / 16 * 128 + l)
  rw [Nat.mul_comm 128]
  simp

theorem final7 : (dats m 0 c).arrAt 7 cfg0.N
    = fun i => ((dvA (fQ m c) (fK m c) (fG m c) (fB m c) (i 0).val (i 1).val (i 2).val : ℝ) : EReal) := by
  refine (dats m 0 c).arrAt_eq_of_covers 7 _ (by decide +kernel) fun t hf y => ?_
  blk_simp
  rw [after0_7, show win0_7.index t = _ from (idx t).2.2.2.2.2.2.2.1]
  obtain ⟨u, s, l, rfl⟩ : ∃ (u : Fin 1) (s : Fin 2560) (l : Fin 128), y = ix3 u s l := ⟨_, _, _, ValueIdx.eq_ix3 y⟩
  obtain rfl := Fin.fin_one_eq_zero u
  refine (acc7 m c hF s l t.val t.isLt).trans (congrArg _ ?_)
  rw [(flushes t).2.1 hf, dv_blocks _ _ (fV m c)]
  show dvA _ _ _ _ (t.val / 8 % 2) s (128 * (t.val / 16) + l) = dvA _ _ _ _ (t.val / 8 % 2) (0 * 2560 + s) (t.val / 16 * 128 + l)
  rw [Nat.mul_comm 128]
  simp

omit hF in
/-- A bias gradient's two chunks of a point, over all points, are all its chunks. -/
theorem db_blocks (Q K V G B : ℕ → ℕ → ℕ → ℝ) (r0 h a w : ℕ) : ∑ u ∈ Finset.range 16, dbP Q K V G B r0 h u a w
    = ∑ b : Fin 2, ∑ n : Fin 16, ds Q K V G B b h (128 * n + (r0 + a)) (128 * n + w) := by
  rw [Finset.sum_range, sum_blocks 2 8 fun u => dbP Q K V G B r0 h u a w]
  refine Finset.sum_congr rfl fun b _ => ?_
  rw [sum_blocks 8 2 fun n => ds Q K V G B b h (128 * n + (r0 + a)) (128 * n + w)]
  refine Finset.sum_congr rfl fun i _ => ?_
  have hi := i.isLt
  rw [Fin.sum_univ_two]
  unfold dbP
  rw [show (8 * b.val + i.val) / 8 = b.val by omega, show (8 * b.val + i.val) % 8 = i.val by omega]
  rw [show 256 * i.val + (r0 + a) = 128 * (2 * i.val + (0 : Fin 2).val) + (r0 + a) from by show _ = 128 * (2 * i.val + 0) + _; omega,
    show 256 * i.val + (0 + w) = 128 * (2 * i.val + (0 : Fin 2).val) + w from by show _ = 128 * (2 * i.val + 0) + _; omega,
    show 256 * i.val + (r0 + 128 + a) = 128 * (2 * i.val + (1 : Fin 2).val) + (r0 + a) from by show _ = 128 * (2 * i.val + 1) + _; omega,
    show 256 * i.val + (128 + w) = 128 * (2 * i.val + (1 : Fin 2).val) + w from by show _ = 128 * (2 * i.val + 1) + _; omega]
omit hF in
theorem dbE_blocks (Q K V G B : ℕ → ℕ → ℕ → ℝ) (h a w : ℕ) : ∑ u ∈ Finset.range 16, dbP Q K V G B 0 h u a w = dbE Q K V G B h a w := by
  rw [db_blocks]
  refine Finset.sum_congr rfl fun b _ => Finset.sum_congr rfl fun n _ => ?_
  rw [show 128 * n.val + (0 + a) = 64 * (2 * n) + a by omega, show 128 * n.val + w = 64 * (2 * n) + w by omega]
omit hF in
theorem dbO_blocks (Q K V G B : ℕ → ℕ → ℕ → ℝ) (h a w : ℕ) : ∑ u ∈ Finset.range 16, dbP Q K V G B 64 h u a w = dbO Q K V G B h a w := by
  rw [db_blocks]
  refine Finset.sum_congr rfl fun b _ => Finset.sum_congr rfl fun n _ => ?_
  rw [show 128 * n.val + (64 + a) = 64 * (2 * n + 1) + a by omega, show 128 * n.val + w = 64 * (2 * n) + w by omega]

theorem final8 : (dats m 0 c).arrAt 8 cfg0.N
    = fun i => ((dbE (fQ m c) (fK m c) (fV m c) (fG m c) (fB m c) (i 0).val (i 1).val (i 2).val : ℝ) : EReal) := by
  refine (dats m 0 c).arrAt_eq_of_covers 8 _ (by decide +kernel) fun t hf y => ?_
  blk_simp
  rw [after0_8, show win0_8.index t = _ from (idx t).2.2.2.2.2.2.2.2.1]
  obtain ⟨u, a, w, rfl⟩ : ∃ (u : Fin 2) (a : Fin 64) (w : Fin 640), y = ix3 u a w := ⟨_, _, _, ValueIdx.eq_ix3 y⟩
  have hu : (outsAt0 m c t.val t.isLt).2.2.2.1 (ix3 u a w)
      = ((∑ v ∈ Finset.range (t.val % 16 + 1), dbP (fQ m c) (fK m c) (fV m c) (fG m c) (fB m c) 0 (2 * (t.val / 16) + u) v a w : ℝ) : EReal) :=
    match u with
    | ⟨0, _⟩ => acc8_0 m c hF a w t.val t.isLt
    | ⟨1, _⟩ => acc8_1 m c hF a w t.val t.isLt
  refine hu.trans (congrArg _ ?_)
  rw [(flushes t).2.2.1 hf, dbE_blocks]
  show dbE _ _ _ _ _ (2 * (t.val / 16) + u) a w = dbE _ _ _ _ _ (t.val / 16 * 2 + u) (0 * 64 + a) (0 * 640 + w)
  rw [Nat.mul_comm 2]
  simp

theorem final9 : (dats m 0 c).arrAt 9 cfg0.N
    = fun i => ((dbO (fQ m c) (fK m c) (fV m c) (fG m c) (fB m c) (i 0).val (i 1).val (i 2).val : ℝ) : EReal) := by
  refine (dats m 0 c).arrAt_eq_of_covers 9 _ (by decide +kernel) fun t hf y => ?_
  blk_simp
  rw [after0_9, show win0_9.index t = _ from (idx t).2.2.2.2.2.2.2.2.2]
  obtain ⟨u, a, w, rfl⟩ : ∃ (u : Fin 2) (a : Fin 64) (w : Fin 640), y = ix3 u a w := ⟨_, _, _, ValueIdx.eq_ix3 y⟩
  have hu : (outsAt0 m c t.val t.isLt).2.2.2.2 (ix3 u a w)
      = ((∑ v ∈ Finset.range (t.val % 16 + 1), dbP (fQ m c) (fK m c) (fV m c) (fG m c) (fB m c) 64 (2 * (t.val / 16) + u) v a w : ℝ) : EReal) :=
    match u with
    | ⟨0, _⟩ => acc9_0 m c hF a w t.val t.isLt
    | ⟨1, _⟩ => acc9_1 m c hF a w t.val t.isLt
  refine hu.trans (congrArg _ ?_)
  rw [(flushes t).2.2.2 hf, dbO_blocks]
  show dbO _ _ _ _ _ (2 * (t.val / 16) + u) a w = dbO _ _ _ _ _ (t.val / 16 * 2 + u) (0 * 64 + a) (0 * 640 + w)
  rw [Nat.mul_comm 2]
  simp

end Cert.Kernel2Ideal.AttnArray

end

end
-- ==== Proof.AttnRef.lean ====
/-
  The attention's reference element by element as real numbers: the arrays it works on, its weights, and the cotangents of its
  scores.
-/
module

public import proofs.«01_k».proof.Proof.Gen.Reference2Ideal.Read
public import proofs.«01_k».proof.Proof.AttnSpec
public import proofs.«01_k».proof.Proof.Common
public import Idealize.ShloMosaic.Lib.KernelVsHost

set_option maxRecDepth 16384
set_option backward.isDefEq.respectTransparency false

@[expose] public section

noncomputable section

namespace Cert.Reference2Ideal.AttnRef

open Cert.Reference2Ideal Cert.Reference2Ideal.Read Cert.Common Cert.Attn
open Idealize.ShloMosaic Idealize.ShloMosaic.ValueIdx
open scoped BigOperators

variable (x0 x1 x2 : Vec Ideal S2x2048x512 .f32) (x3 : Vec Ideal S8x257 .f32) (x4 : Vec Ideal S2x2048x1024 .f32)

/-- The row that a chunk's row stands for, and the column that a head's column stands for. -/
abbrev row (n : Fin 32) (q : Fin 64) : Fin 2048 := ⟨64 * n.val + q.val, by have := n.isLt; have := q.isLt; omega⟩
abbrev col (h : Fin 8) (d : Fin 64) : Fin 512 := ⟨64 * h.val + d.val, by have := h.isLt; have := d.isLt; omega⟩

/-! ## The arrays -/

section
variable (b : Fin 2) (n : Fin 32) (h : Fin 8) (q d : Fin 64) (j : Fin 576)

theorem v35_eq : val_main_v35 (F := Ideal) x0 (ix5 b n q h d) = x0 (ix3 b (row n q) (col h d)) := by
  rw [val_main_v35_apply, show idx_main_v35 (ix5 b n q h d) = ix4 b (row n q) h d from
    ext4 _ _ _ _ _ (by show ((((b.val * 32 + n.val) * 64 + q.val) * 8 + h.val) * 64 + d.val) / 1048576 = b.val; omega)
      (by show ((((b.val * 32 + n.val) * 64 + q.val) * 8 + h.val) * 64 + d.val) / 512 % 2048 = 64 * n.val + q.val; omega)
      (by show ((((b.val * 32 + n.val) * 64 + q.val) * 8 + h.val) * 64 + d.val) / 64 % 8 = h.val; omega)
      (by show ((((b.val * 32 + n.val) * 64 + q.val) * 8 + h.val) * 64 + d.val) % 64 = d.val; omega), val_main_v33_apply]
  exact congrArg x0 (ext3 _ _ _ _ (by show (((b.val * 2048 + (64 * n.val + q.val)) * 8 + h.val) * 64 + d.val) / 1048576 = b.val; omega)
    (by show (((b.val * 2048 + (64 * n.val + q.val)) * 8 + h.val) * 64 + d.val) / 512 % 2048 = 64 * n.val + q.val; omega)
    (by show (((b.val * 2048 + (64 * n.val + q.val)) * 8 + h.val) * 64 + d.val) % 512 = 64 * h.val + d.val; omega))

/-- The keys behind their rows of zeros. -/
theorem v2_at (f1 : Real' x1) (s : Fin 2560) : val_main_v2 (F := Ideal) x1 (ix4 b s h d) = ((behind (rd3 x1) b s (col h d) : ℝ) : EReal) := by
  have hs := s.isLt
  unfold behind val_main_v2
  by_cases h0 : s.val < 512
  · rw [if_pos h0, concatenate_pair_apply_left (s₁ := S2x512x8x64) (s₂ := S2x2048x8x64) 1 _ _ _ (ix4 b s h d) rfl (ix4 b (⟨s.val, h0⟩ : Fin 512) h d)
      (fun a => match a with | ⟨0, _⟩ => rfl | ⟨1, _⟩ => rfl | ⟨2, _⟩ => rfl | ⟨3, _⟩ => rfl)]
    rw [val_main_v0_apply]
    exact Ideal.ofBits_zero_f32
  · rw [if_neg h0, concatenate_pair_apply_right (s₁ := S2x512x8x64) (s₂ := S2x2048x8x64) 1 _ _ _ (ix4 b s h d) rfl rfl (ix4 b (⟨s.val - 512, by omega⟩ : Fin 2048) h d)
      (fun a ha => match a, ha with | ⟨0, _⟩, _ => rfl | ⟨1, _⟩, ha => absurd rfl ha | ⟨2, _⟩, _ => rfl | ⟨3, _⟩, _ => rfl)
      (by show s.val - 512 + 512 = s.val; omega), val_main_v1_apply]
    refine Eq.trans (congrArg x1 ?_) (rd3_coe x1 f1 b ⟨s.val - 512, by omega⟩ (col h d))
    exact ext3 _ _ _ _ (by show (((b.val * 2048 + (s.val - 512)) * 8 + h.val) * 64 + d.val) / 1048576 = b.val; omega)
      (by show (((b.val * 2048 + (s.val - 512)) * 8 + h.val) * 64 + d.val) / 512 % 2048 = s.val - 512; omega)
      (by show (((b.val * 2048 + (s.val - 512)) * 8 + h.val) * 64 + d.val) % 512 = 64 * h.val + d.val; omega)

theorem slices_band (k : Fin 9) : S2x40x64x8x64.Slices ![0, k.val, 0, 0, 0] S2x32x64x8x64 :=
  (by decide : ∀ k : Fin 9, S2x40x64x8x64.Slices ![0, k.val, 0, 0, 0] S2x32x64x8x64) k

/-- The keys of a chunk's queries. -/
theorem v46_at (f1 : Real' x1) : val_main_v46 (F := Ideal) x1 (ix5 b n j h d) = ((behind (rd3 x1) b (64 * n + j) (col h d) : ℝ) : EReal) := by
  have hj := j.isLt
  have hn := n.isLt
  have hk : j.val / 64 < 9 := by omega
  have hr : j.val % 64 < 64 := Nat.mod_lt _ (by decide)
  refine (concatenate_ofFn_apply (α := EReal) (t := S2x32x576x8x64) (s₁ := S2x32x64x8x64) 2
    (fun k : Fin 9 => extractStridedSlice S2x32x64x8x64 ![0, k.val, 0, 0, 0] (val_main_v36 (F := Ideal) x1) (slices_band k))
    Gen.concatenates_S2x32x64x8x64_S2x32x64x8x64_S2x32x64x8x64_S2x32x64x8x64_S2x32x64x8x64_S2x32x64x8x64_S2x32x64x8x64_S2x32x64x8x64_S2x32x64x8x64_S2x32x576x8x64_d2
    rfl 64 rfl (ix5 b n j h d) ⟨j.val / 64, hk⟩ rfl (ix5 b n ⟨j.val % 64, hr⟩ h d) rfl
    (fun a ha => match a, ha with | ⟨0, _⟩, _ => rfl | ⟨1, _⟩, _ => rfl | ⟨2, _⟩, ha => absurd rfl ha | ⟨3, _⟩, _ => rfl | ⟨4, _⟩, _ => rfl)).trans ?_
  rw [extractStridedSlice_apply _ _ _ _ (ix5 b (⟨j.val / 64 + n.val, by omega⟩ : Fin 40) ⟨j.val % 64, hr⟩ h d)
    (fun a => match a with | ⟨0, _⟩ => (Nat.zero_add _).symm | ⟨1, _⟩ => rfl | ⟨2, _⟩ => (Nat.zero_add _).symm | ⟨3, _⟩ => (Nat.zero_add _).symm | ⟨4, _⟩ => (Nat.zero_add _).symm)]
  rw [val_main_v36_apply, ← v2_at x1 b h d f1 ⟨64 * n.val + j.val, by omega⟩]
  refine congrArg _ (ext4 _ _ _ _ _ ?_ ?_ ?_ ?_)
  · show ((((b.val * 40 + (j.val / 64 + n.val)) * 64 + j.val % 64) * 8 + h.val) * 64 + d.val) / 1310720 = b.val; omega
  · show ((((b.val * 40 + (j.val / 64 + n.val)) * 64 + j.val % 64) * 8 + h.val) * 64 + d.val) / 512 % 2560 = 64 * n.val + j.val; omega
  · show ((((b.val * 40 + (j.val / 64 + n.val)) * 64 + j.val % 64) * 8 + h.val) * 64 + d.val) / 64 % 8 = h.val; omega
  · show ((((b.val * 40 + (j.val / 64 + n.val)) * 64 + j.val % 64) * 8 + h.val) * 64 + d.val) % 64 = d.val; omega

/-- The cotangent of the attention's output. -/
theorem v103_at (f4 : Real' x4) : val_main_v103 (F := Ideal) x4 (ix5 b n h d q) = ((rd3 x4 b (row n q) (col h d) : ℝ) : EReal) := by
  have hc : 64 * h.val + d.val < 1024 := by have := h.isLt; have := d.isLt; omega
  rw [val_main_v103_apply, show idx_main_v103 (ix5 b n h d q) = ix5 b n q h d from eq_ix5 _, val_main_v102_apply, val_main_v101_apply]
  refine Eq.trans (congrArg x4 ?_) (rd3_coe x4 f4 b (row n q) ⟨64 * h.val + d.val, hc⟩)
  exact ext3 _ _ _ _ (by show ((((b.val * 32 + n.val) * 64 + q.val) * 8 + h.val) * 64 + d.val) / 1048576 = b.val; omega)
    (by show ((((b.val * 32 + n.val) * 64 + q.val) * 8 + h.val) * 64 + d.val) / 512 % 2048 = 64 * n.val + q.val; omega)
    (by show ((((b.val * 32 + n.val) * 64 + q.val) * 8 + h.val) * 64 + d.val) % 512 = 64 * h.val + d.val; omega)

/-- The bias of a chunk. -/
theorem v53_at (f3 : Real' (val_main_v23 (F := Ideal) x3)) :
    val_main_v53 (F := Ideal) x3 (ix5 b n h q j) = ((rd3 (val_main_v23 (F := Ideal) x3) h q j : ℝ) : EReal) := by
  have hn := n.isLt
  rw [val_main_v53_apply, val_main_v52_apply, show idx_main_v52 (idx_main_v53 (ix5 b n h q j)) = ix4 n h q j from eq_ix4 _, val_main_v49_apply,
    show idx_main_v49 (ix4 n h q j) = ix5 (⟨n.val / 2, by omega⟩ : Fin 16) (⟨n.val % 2, by omega⟩ : Fin 2) h q j from
      ext5 _ _ _ _ _ _ (by show (((n.val * 8 + h.val) * 64 + q.val) * 576 + j.val) / 589824 = n.val / 2; omega)
        (by show (((n.val * 8 + h.val) * 64 + q.val) * 576 + j.val) / 294912 % 2 = n.val % 2; omega)
        (by show (((n.val * 8 + h.val) * 64 + q.val) * 576 + j.val) / 36864 % 8 = h.val; omega)
        (by show (((n.val * 8 + h.val) * 64 + q.val) * 576 + j.val) / 576 % 64 = q.val; omega)
        (by show (((n.val * 8 + h.val) * 64 + q.val) * 576 + j.val) % 576 = j.val; omega), val_main_v48_apply, val_main_v34_apply]
  exact (congrArg _ (eq_ix3 _)).trans (rd3_coe _ f3 h q j)

theorem word_pos : ∀ n : Fin 32, ∀ j : Fin 576, IntOp.cmpi .sge (IntOp.addi (IntOp.subi (IntOp.muli 64#32 (BitVec.ofNat 32 n.val)) 512#32) (BitVec.ofNat 32 j.val)) 0#32
    = if 512 ≤ 64 * n.val + j.val then 1#1 else 0#1 := by decide +kernel

theorem select_if {α : Type} (p : Prop) [Decidable p] (a b : α) : Scalar.select (if p then 1#1 else 0#1) a b = if p then a else b := by
  by_cases h : p <;> simp [h, Scalar.select]

/-- Which keys are seen. -/
theorem v58_1_at : val_main_v58_1 (F := Ideal) (ix5 b n h q j) = if inB (64 * n + q) (64 * n + j) then 1#1 else 0#1 := by
  have hj := j.isLt
  have hq := q.isLt
  rw [val_main_v58_1_apply, val_main_v57_apply, show idx_main_v57 (idx_main_v58_1 (ix5 b n h q j)) = ix2 n j from eq_ix2 _, val_main_v56_apply, val_main_v55_apply,
    val_main_v32_apply, val_main_v30_apply, val_main_v31_apply, val_main_v29_apply, val_main_v27_apply, val_main_v28_apply, val_main_v26_apply, val_main_v25_apply,
    val_main_v10_apply]
  refine (word_pos n j).trans (if_congr ?_ rfl rfl)
  show _ ↔ 64 * ((64 * n.val + q.val) / 64) ≤ 64 * n.val + j.val ∧ 64 * n.val + j.val < 64 * ((64 * n.val + q.val) / 64) + 576 ∧ 512 ≤ 64 * n.val + j.val
  omega
end

/-! ## The weights -/

section
variable (f0 : Real' x0) (f1 : Real' x1) (f2 : Real' x2) (f3 : Real' (val_main_v23 (F := Ideal) x3)) (f4 : Real' x4)
variable (b : Fin 2) (n : Fin 32) (h : Fin 8) (q d : Fin 64)

/-- The functions of the spec. -/
abbrev rQ : ℕ → ℕ → ℕ → ℝ := rd3 x0
abbrev rK : ℕ → ℕ → ℕ → ℝ := behind (rd3 x1)
abbrev rB : ℕ → ℕ → ℕ → ℝ := rd3 (val_main_v23 (F := Ideal) x3)
abbrev rG : ℕ → ℕ → ℕ → ℝ := rd3 x4

include f0 f1 f3 in
/-- The scores, those of the keys not seen at minus infinity. -/
theorem v58_at (j : Fin 576) : val_main_v58_0 (F := Ideal) x0 x1 x3 (ix5 b n h q j)
    = if inB (64 * n + q) (64 * n + j) then ((sc (rQ x0) (rK x1) (rB x3) b h (64 * n + q) (64 * n + j) : ℝ) : EReal) else ⊥ := by
  have hq := q.isLt
  rw [val_main_v58_0_apply, v58_1_at, select_if]
  have e : val_main_call1_v2 (F := Ideal) (ix5 b n h q j) = ⊥ := lit_ninf
  have e54 : val_main_v54 (F := Ideal) x0 x1 x3 (ix5 b n h q j) = ((sc (rQ x0) (rK x1) (rB x3) b h (64 * n + q) (64 * n + j) : ℝ) : EReal) := by
    rw [val_main_v54_apply, v53_at x3 b n h q j f3, val_main_v51_apply, val_main_v47_apply]
    have hs : ∑ k : Fin 64, val_main_v35 (F := Ideal) x0 (lidx_main_v47 (ix5 b n h q j) k) * val_main_v46 (F := Ideal) x1 (ridx_main_v47 (ix5 b n h q j) k)
        = ((∑ d : Fin 64, rQ x0 b (64 * n + q) (64 * h + d) * rK x1 b (64 * n + j) (64 * h + d) : ℝ) : EReal) := by
      rw [coe_sum]
      refine Finset.sum_congr rfl fun k _ => ?_
      rw [show lidx_main_v47 (ix5 b n h q j) k = ix5 b n q h k from eq_ix5 _, show ridx_main_v47 (ix5 b n h q j) k = ix5 b n j h k from eq_ix5 _,
        v35_eq, v46_at x1 b n h k j f1, EReal.coe_mul]
      exact congrArg (· * _) (rd3_coe x0 f0 b (row n q) (col h k))
    rw [hs]
    show _ * Ideal.ofBits .f32 0x3E000000#32 + _ = _
    unfold sc
    rw [lit_8th, show (64 * n.val + q.val) % 64 = q.val by omega, show 64 * n.val + j.val - 64 * ((64 * n.val + q.val) / 64) = j.val by omega, ← EReal.coe_mul, ← EReal.coe_add]
  rw [e, e54]

include f0 f1 f3 in
/-- A row's maximum is a real number. -/
theorem v59_at : ∃ M : ℝ, val_main_v59 (F := Ideal) x0 x1 x3 (ix4 b n h q) = (M : EReal) := by
  have hq := q.isLt
  obtain ⟨M, hM⟩ := row_max (fun w : Fin 576 => inB (64 * n + q) (64 * n + w)) (fun w => sc (rQ x0) (rK x1) (rB x3) b h (64 * n + q) (64 * n + w))
    ⟨512, by omega⟩ (by
      show 64 * ((64 * n.val + q.val) / 64) ≤ 64 * n.val + 512 ∧ 64 * n.val + 512 < 64 * ((64 * n.val + q.val) / 64) + 576 ∧ 512 ≤ 64 * n.val + 512
      omega)
  refine ⟨M, Eq.trans ?_ hM⟩
  show Host.reduce FloatOps.maximumf _ (constant (F := Ideal) S_ .f32 0xFF800000#32) _ _ _ = _
  rw [hostReduce_maximumf_eq_multiReduction _ 0xFF800000#32 _ _ (show S2x32x8x64x576.Reduces [4] S2x32x8x64 by decide) (.inl rfl) rfl, Ideal.multiReduction_maximumf_single]
  show Finset.fold max (Ideal.ofBits .f32 0xFF800000#32) _ _ = _
  rw [lit_ninf]
  refine Finset.fold_congr fun w _ => Eq.trans (congrArg (val_main_v58_0 (F := Ideal) x0 x1 x3) ?_) (v58_at x0 x1 x3 f0 f1 f3 b n h q w)
  exact funext fun a => Fin.ext (by match a with | ⟨0, _⟩ => rfl | ⟨1, _⟩ => rfl | ⟨2, _⟩ => rfl | ⟨3, _⟩ => rfl | ⟨4, _⟩ => rfl)

/-- A number to subtract from a row's scores. -/
def M : ℝ := (val_main_v59 (F := Ideal) x0 x1 x3 (ix4 b n h q)).toReal
/-- A row's exponentials and their sum. -/
def ex (j : ℕ) : ℝ := if inB (64 * n + q) (64 * n + j) then Real.exp (sc (rQ x0) (rK x1) (rB x3) b h (64 * n + q) (64 * n + j) - M x0 x1 x3 b n h q) else 0
def ez : ℝ := ∑ j : Fin 576, ex x0 x1 x3 b n h q j

theorem ez_pos : 0 < ez x0 x1 x3 b n h q := by
  have hq := q.isLt
  exact sum_shift_pos (rQ x0) (rK x1) (rB x3) b h (64 * n + q) (64 * n) 576 _ (by omega) (by omega)
theorem ex_div (j : Fin 576) : ex x0 x1 x3 b n h q j / ez x0 x1 x3 b n h q = pr (rQ x0) (rK x1) (rB x3) b h (64 * n + q) (64 * n + j) := by
  have hq := q.isLt
  rw [← mul_one_div]
  exact pr_shift (rQ x0) (rK x1) (rB x3) b h (64 * n + q) (64 * n + j) (64 * n) 576 _ (by omega) (by omega)

include f0 f1 f3 in
theorem v79_at (j : Fin 576) : val_main_v79 (F := Ideal) x0 x1 x3 (ix5 b n h q j) = ((ex x0 x1 x3 b n h q j : ℝ) : EReal) := by
  have hM : val_main_v59 (F := Ideal) x0 x1 x3 (ix4 b n h q) = ((M x0 x1 x3 b n h q : ℝ) : EReal) := by
    obtain ⟨m, hm⟩ := v59_at x0 x1 x3 f0 f1 f3 b n h q
    unfold M
    rw [hm, EReal.toReal_coe]
  rw [val_main_v79_apply, val_main_v78_apply, val_main_v77_apply, val_main_v76_apply, show idx_main_v76 (idx_main_v77 (ix5 b n h q j)) = ix4 b n h q from eq_ix4 _,
    val_main_v66_apply, hM, v58_at x0 x1 x3 f0 f1 f3]
  show Ideal.exp (_ - max (Ideal.ofBits .f32 0xFF800000#32) _) = _
  rw [lit_ninf, max_eq_right bot_le, exp_masked]
  rfl

include f0 f1 f3 in
theorem v80_at : val_main_v80 (F := Ideal) x0 x1 x3 (ix4 b n h q) = ((ez x0 x1 x3 b n h q : ℝ) : EReal) := by
  rw [val_main_v80_apply]
  show Ideal.ofBits .f32 0x00000000#32 + _ = _
  unfold ez
  rw [Ideal.ofBits_zero_f32, zero_add, coe_sum]
  refine Finset.sum_congr rfl fun k _ => ?_
  rw [show idx_main_v80 (ix4 b n h q) k = ix5 b n h q k from eq_ix5 _, v79_at x0 x1 x3 f0 f1 f3]

include f0 f1 f3 in
theorem v83_at (j : Fin 576) : val_main_v83 (F := Ideal) x0 x1 x3 (ix5 b n h q j)
    = ((pr (rQ x0) (rK x1) (rB x3) b h (64 * n + q) (64 * n + j) : ℝ) : EReal) := by
  rw [val_main_v83_apply, val_main_v82_apply, val_main_v81_apply, show idx_main_v81 (idx_main_v82 (ix5 b n h q j)) = ix4 b n h q from eq_ix4 _,
    v79_at x0 x1 x3 f0 f1 f3, v80_at x0 x1 x3 f0 f1 f3, ← ex_div]
  exact div_real _ (ez_pos x0 x1 x3 b n h q).ne'

include f2 f4 in
theorem v104_at (j : Fin 576) : val_main_v104 (F := Ideal) x2 x4 (ix5 b n h q j) = ((dp (rK x2) (rG x4) b h (64 * n + q) (64 * n + j) : ℝ) : EReal) := by
  rw [val_main_v104_apply]
  unfold dp
  rw [coe_sum]
  refine Finset.sum_congr rfl fun k _ => ?_
  rw [show lidx_main_v104 (ix5 b n h q j) k = ix5 b n h k q from eq_ix5 _, show ridx_main_v104 (ix5 b n h q j) k = ix5 b n j h k from eq_ix5 _,
    v103_at x4 b n h q k f4, show val_main_v97 (F := Ideal) x2 = val_main_v46 (F := Ideal) x2 from rfl, v46_at x2 b n h k j f2, EReal.coe_mul]

/-- The cotangent of a score, as the derivative of the quotient gives it. -/
theorem ds_quotient (V G : ℕ → ℕ → ℕ → ℝ) (j : Fin 576) :
    (dp V G b h (64 * n + q) (64 * n + j) / ez x0 x1 x3 b n h q
        + -(∑ i : Fin 576, dp V G b h (64 * n + q) (64 * n + i) * (1 / (ez x0 x1 x3 b n h q * ez x0 x1 x3 b n h q)) * ex x0 x1 x3 b n h q i)) * ex x0 x1 x3 b n h q j
      = ds (rQ x0) (rK x1) V G (rB x3) b h (64 * n + q) (64 * n + j) := by
  have hq := q.isLt
  have hz := (ez_pos x0 x1 x3 b n h q).ne'
  have e : ∑ i : Fin 576, dp V G b h (64 * n + q) (64 * n + i) * (1 / (ez x0 x1 x3 b n h q * ez x0 x1 x3 b n h q)) * ex x0 x1 x3 b n h q i
      = dl (rQ x0) (rK x1) V G (rB x3) b h (64 * n + q) / ez x0 x1 x3 b n h q := by
    rw [← dl_window (rQ x0) (rK x1) V G (rB x3) b h (64 * n + q) (64 * n) 576 (by omega) (by omega), Finset.sum_div]
    refine Finset.sum_congr rfl fun i _ => ?_
    rw [← ex_div]
    field_simp
  rw [e]
  unfold ds
  rw [← ex_div]
  field_simp
  ring

include f0 f1 f2 f3 f4 in
theorem v146_at (j : Fin 576) : val_main_v146 (F := Ideal) x0 x1 x2 x3 x4 (ix5 b n h q j)
    = ((ds (rQ x0) (rK x1) (rK x2) (rG x4) (rB x3) b h (64 * n + q) (64 * n + j) : ℝ) : EReal) := by
  have hz := (ez_pos x0 x1 x3 b n h q).ne'
  have h81 : val_main_v81 (F := Ideal) x0 x1 x3 (ix5 b n h q 0) = ((ez x0 x1 x3 b n h q : ℝ) : EReal) := by
    rw [val_main_v81_apply, show idx_main_v81 (ix5 b n h q 0) = ix4 b n h q from eq_ix4 _, v80_at x0 x1 x3 f0 f1 f3]
  have h86 : val_main_v86 (F := Ideal) x0 x1 x3 (ix5 b n h q 0) = ((1 / (ez x0 x1 x3 b n h q * ez x0 x1 x3 b n h q) : ℝ) : EReal) := by
    rw [val_main_v86_apply, val_main_v84_apply, h81]
    show Ideal.div (Ideal.ofBits .f32 0x3F800000#32) (_ * _) = _
    rw [lit_one, ← EReal.coe_mul, ← EReal.coe_one, div_real _ (mul_ne_zero hz hz)]
  have h136 : ∀ i : Fin 576, val_main_v136 (F := Ideal) x0 x1 x2 x3 x4 (ix5 b n h q i)
      = ((dp (rK x2) (rG x4) b h (64 * n + q) (64 * n + i) * (1 / (ez x0 x1 x3 b n h q * ez x0 x1 x3 b n h q)) * ex x0 x1 x3 b n h q i : ℝ) : EReal) := fun i => by
    rw [val_main_v136_apply, val_main_v135_apply, val_main_v134_apply, show idx_main_v134 (ix5 b n h q i) = ix5 b n h q 0 from eq_ix5 _, h86,
      v104_at x2 x4 f2 f4, v79_at x0 x1 x3 f0 f1 f3, EReal.coe_mul, EReal.coe_mul]
    rfl
  have h142 : val_main_v142 (F := Ideal) x0 x1 x2 x3 x4 (ix4 b n h q)
      = ((-(∑ i : Fin 576, dp (rK x2) (rG x4) b h (64 * n + q) (64 * n + i) * (1 / (ez x0 x1 x3 b n h q * ez x0 x1 x3 b n h q)) * ex x0 x1 x3 b n h q i) : ℝ) : EReal) := by
    rw [val_main_v142_apply]
    show Ideal.ofBits .f32 0x00000000#32 + _ = _
    rw [Ideal.ofBits_zero_f32, zero_add, Fin.sum_univ_one, show idx_main_v142 (ix4 b n h q) 0 = ix5 b n h q 0 from eq_ix5 _, val_main_v139_apply, val_main_v138_apply,
      show idx_main_v138 (ix5 b n h q 0) = ix4 b n h q from
        ext4 _ _ _ _ _ (by show ((((b.val * 32 + n.val) * 8 + h.val) * 64 + q.val) * 1 + 0) / 16384 = b.val; omega)
          (by show ((((b.val * 32 + n.val) * 8 + h.val) * 64 + q.val) * 1 + 0) / 512 % 32 = n.val; omega)
          (by show ((((b.val * 32 + n.val) * 8 + h.val) * 64 + q.val) * 1 + 0) / 64 % 8 = h.val; omega)
          (by show ((((b.val * 32 + n.val) * 8 + h.val) * 64 + q.val) * 1 + 0) % 64 = q.val; omega), val_main_v137_apply]
    show -(Ideal.ofBits .f32 0x00000000#32 + _) = _
    rw [Ideal.ofBits_zero_f32, zero_add, EReal.coe_neg, coe_sum]
    refine congrArg Neg.neg (Finset.sum_congr rfl fun k _ => ?_)
    rw [show idx_main_v137 (ix4 b n h q) k = ix5 b n h q k from eq_ix5 _, h136]
  have h145 : val_main_v145 (F := Ideal) x0 x1 x2 x3 x4 (ix5 b n h q j)
      = ((ds (rQ x0) (rK x1) (rK x2) (rG x4) (rB x3) b h (64 * n + q) (64 * n + j) : ℝ) : EReal) := by
    rw [val_main_v145_apply, val_main_v144_apply, val_main_v143_apply, val_main_v141_apply, val_main_v140_apply, show idx_main_v140 (ix5 b n h q j) = ix5 b n h q 0 from eq_ix5 _,
      show idx_main_v143 (ix5 b n h q j) = ix4 b n h q from eq_ix4 _, h142, h81, v104_at x2 x4 f2 f4, v79_at x0 x1 x3 f0 f1 f3]
    show (Ideal.div _ _ + _) * _ = _
    rw [div_real _ hz, ← EReal.coe_add, ← EReal.coe_mul, ds_quotient]
  rw [val_main_v146_apply, v58_1_at, select_if, h145]
  split_ifs with hi
  · rfl
  · rw [ds_off _ _ _ _ _ _ _ _ _ hi]
    exact Ideal.ofBits_zero_f32
end
end Cert.Reference2Ideal.AttnRef

end

end
-- ==== Proof.AttnGrads.lean ====
/-
  The five gradients of the attention's reference as real numbers.
-/
module

public import proofs.«01_k».proof.Proof.AttnRef

set_option maxRecDepth 16384
set_option backward.isDefEq.respectTransparency false

@[expose] public section

noncomputable section

namespace Cert.Reference2Ideal.AttnRef

open Cert.Reference2Ideal Cert.Reference2Ideal.Read Cert.Common Cert.Attn
open Idealize.ShloMosaic Idealize.ShloMosaic.ValueIdx
open scoped BigOperators

/-! ## The chunks' gradients put together -/

theorem slices_part (k : Fin 9) : S2x32x576x8x64.Slices ![0, 0, 64 * k.val, 0, 0] S2x32x64x8x64 :=
  (by decide : ∀ k : Fin 9, S2x32x576x8x64.Slices ![0, 0, 64 * k.val, 0, 0] S2x32x64x8x64) k
theorem pads_part (k : Fin 9) : S2x32x64x8x64.Pads (![0, k.val, 0, 0, 0] : Fin 5 → ℕ) ![0, 8 - k.val, 0, 0, 0] ![0, 0, 0, 0, 0] S2x40x64x8x64 :=
  (by decide : ∀ k : Fin 9, S2x32x64x8x64.Pads (![0, k.val, 0, 0, 0] : Fin 5 → ℕ) ![0, 8 - k.val, 0, 0, 0] ![0, 0, 0, 0, 0] S2x40x64x8x64) k

/-- What the chunk `k` before a chunk of keys' own adds to it. -/
def part (y : Vec Ideal S2x32x576x8x64 .f32) (k : Fin 9) : Vec Ideal S2x40x64x8x64 .f32 :=
  pad S2x40x64x8x64 ![0, k.val, 0, 0, 0] ![0, 8 - k.val, 0, 0, 0] ![0, 0, 0, 0, 0]
    (extractStridedSlice S2x32x64x8x64 ![0, 0, 64 * k.val, 0, 0] y (slices_part k)) (constant (F := Ideal) S_ .f32 0x00000000#32) (pads_part k) Gen.h_S_

section
variable (y : Vec Ideal S2x32x576x8x64 .f32) (g : ℕ → ℕ → ℝ) (b : Fin 2) (h : Fin 8) (d : Fin 64)
variable (hy : ∀ n j, y (ix5 b n j h d) = ((g n (64 * n + j) : ℝ) : EReal))

include hy in
theorem part_apply (k : Fin 9) (M : Fin 40) (r : Fin 64) : part y k (ix5 b M r h d)
    = ((if k.val ≤ M.val ∧ M.val < k.val + 32 then g (M.val - k.val) (64 * M.val + r) else 0 : ℝ) : EReal) := by
  have hk := k.isLt
  have hr := r.isLt
  unfold part
  by_cases hm : k.val ≤ M.val ∧ M.val < k.val + 32
  · rw [if_pos hm, pad_apply_of_inside _ _ _ _ _ _ _ _ (ix5 b (⟨M.val - k.val, by omega⟩ : Fin 32) r h d)
      (fun a => match a with | ⟨0, _⟩ => by show b.val = 0 + b.val * 1; omega | ⟨1, _⟩ => by show M.val = k.val + (M.val - k.val) * 1; omega
                             | ⟨2, _⟩ => by show r.val = 0 + r.val * 1; omega | ⟨3, _⟩ => by show h.val = 0 + h.val * 1; omega | ⟨4, _⟩ => by show d.val = 0 + d.val * 1; omega),
      extractStridedSlice_apply _ _ _ _ (ix5 b (⟨M.val - k.val, by omega⟩ : Fin 32) (⟨64 * k.val + r.val, by omega⟩ : Fin 576) h d)
      (fun a => match a with | ⟨0, _⟩ => (Nat.zero_add _).symm | ⟨1, _⟩ => (Nat.zero_add _).symm | ⟨2, _⟩ => rfl | ⟨3, _⟩ => (Nat.zero_add _).symm | ⟨4, _⟩ => (Nat.zero_add _).symm),
      hy]
    show ((g (M.val - k.val) (64 * (M.val - k.val) + (64 * k.val + r.val)) : ℝ) : EReal) = _
    rw [show 64 * (M.val - k.val) + (64 * k.val + r.val) = 64 * M.val + r.val by omega]
  · rw [if_neg hm, pad_apply_of_not_inside _ _ _ _ _ _ _ _ ⟨1, by decide⟩
      (by show ¬ (k.val ≤ M.val ∧ (M.val - k.val) % 1 = 0 ∧ (M.val - k.val) / 1 < 32); omega)]
    exact Ideal.ofBits_zero_f32

theorem nine (p : Fin 9 → ℝ) : p 8 + p 7 + p 6 + p 5 + p 4 + p 3 + p 2 + p 1 + p 0 = ∑ k, p k := by
  rw [Fin.sum_univ_castSucc, Fin.sum_univ_eight]
  show _ = p 0 + p 1 + p 2 + p 3 + p 4 + p 5 + p 6 + p 7 + p 8
  ring

/-- The nine chunks of queries that see a chunk of keys are all that matter to it. -/
theorem chunks (f : ℕ → ℝ) (M : ℕ) (hM : M < 40) (hf : ∀ n, n < 32 → ¬ (n ≤ M ∧ M ≤ n + 8) → f n = 0) :
    ∑ k : Fin 9, (if k.val ≤ M ∧ M < k.val + 32 then f (M - k.val) else 0) = ∑ n : Fin 32, f n := by
  have e1 : ∀ k : Fin 9, (if k.val ≤ M ∧ M < k.val + 32 then f (M - k.val) else 0) = ∑ n : Fin 32, if n.val + k.val = M then f n else 0 := fun k => by
    by_cases hk : k.val ≤ M ∧ M < k.val + 32
    · rw [if_pos hk, Finset.sum_eq_single (⟨M - k.val, by omega⟩ : Fin 32)]
      · rw [if_pos (by show M - k.val + k.val = M; omega)]
      · intro n _ hn
        rw [if_neg fun h => hn (Fin.ext (by show n.val = M - k.val; omega))]
      · intro h; exact absurd (Finset.mem_univ _) h
    · rw [if_neg hk]
      refine (Finset.sum_eq_zero fun n _ => if_neg fun h => hk ?_).symm
      have := n.isLt
      omega
  rw [Finset.sum_congr rfl fun k _ => e1 k, Finset.sum_comm]
  refine Finset.sum_congr rfl fun n _ => ?_
  by_cases hn : n.val ≤ M ∧ M ≤ n.val + 8
  · rw [Finset.sum_eq_single (⟨M - n.val, by omega⟩ : Fin 9)]
    · rw [if_pos (by show n.val + (M - n.val) = M; omega)]
    · intro k _ hk
      rw [if_neg fun h => hk (Fin.ext (by show k.val = M - n.val; omega))]
    · intro h; exact absurd (Finset.mem_univ _) h
  · rw [hf n n.isLt hn]
    simp

include hy in
theorem parts_apply (hg : ∀ n, n < 32 → ∀ s, ¬ (64 * n ≤ s ∧ s < 64 * n + 576) → g n s = 0) (M : Fin 40) (r : Fin 64) :
    (part y 8 (ix5 b M r h d) + part y 7 (ix5 b M r h d) + part y 6 (ix5 b M r h d) + part y 5 (ix5 b M r h d) + part y 4 (ix5 b M r h d)
      + part y 3 (ix5 b M r h d) + part y 2 (ix5 b M r h d) + part y 1 (ix5 b M r h d) + part y 0 (ix5 b M r h d) : EReal)
      = ((∑ n : Fin 32, g n (64 * M + r) : ℝ) : EReal) := by
  have hr := r.isLt
  simp only [part_apply y g b h d hy, ← EReal.coe_add]
  refine congrArg _ ((nine fun k => if k.val ≤ M.val ∧ M.val < k.val + 32 then g (M.val - k.val) (64 * M.val + r) else 0).trans ?_)
  exact chunks (fun n => g n (64 * M + r)) M M.isLt fun n hn hm => hg n hn _ (by omega)
end

/-! ## The gradients -/

section
variable (x0 x1 x2 : Vec Ideal S2x2048x512 .f32) (x3 : Vec Ideal S8x257 .f32) (x4 : Vec Ideal S2x2048x1024 .f32)
variable (f0 : Real' x0) (f1 : Real' x1) (f2 : Real' x2) (f3 : Real' (val_main_v23 (F := Ideal) x3)) (f4 : Real' x4)

/-- A column's head and its place in the head. -/
theorem cut (c : Fin 512) : ∃ (h : Fin 8) (d : Fin 64), c = col h d :=
  ⟨⟨c.val / 64, by have := c.isLt; omega⟩, ⟨c.val % 64, Nat.mod_lt _ (by decide)⟩, Fin.ext (by show c.val = 64 * (c.val / 64) + c.val % 64; omega)⟩
theorem col_div (h : Fin 8) (d : Fin 64) : (64 * h.val + d.val) / 64 = h.val := by have := d.isLt; omega

include f0 f1 f2 f3 f4 in
theorem v151_at (b : Fin 2) (n : Fin 32) (h : Fin 8) (q : Fin 64) (j : Fin 576) : val_main_v151 (F := Ideal) x0 x1 x2 x3 x4 (ix5 b n h q j)
    = ((ds (rQ x0) (rK x1) (rK x2) (rG x4) (rB x3) b h (64 * n + q) (64 * n + j) * (1 / 8) : ℝ) : EReal) := by
  rw [val_main_v151_apply, v146_at x0 x1 x2 x3 x4 f0 f1 f2 f3 f4]
  show _ * Ideal.ofBits .f32 0x3E000000#32 = _
  rw [lit_8th, EReal.coe_mul]

include f0 f1 f2 f3 f4 in
theorem dq_at (b : Fin 2) (t : Fin 2048) (c : Fin 512) : val_main_v193 (F := Ideal) x0 x1 x2 x3 x4 (ix3 b t c)
    = ((dqA (rQ x0) (rK x1) (rK x2) (rG x4) (rB x3) b t c : ℝ) : EReal) := by
  obtain ⟨h, d, rfl⟩ := cut c
  have ht := t.isLt
  obtain ⟨n, q, rfl⟩ : ∃ (n : Fin 32) (q : Fin 64), t = row n q :=
    ⟨⟨t.val / 64, by omega⟩, ⟨t.val % 64, Nat.mod_lt _ (by decide)⟩, Fin.ext (by show t.val = 64 * (t.val / 64) + t.val % 64; omega)⟩
  have hq := q.isLt
  rw [val_main_v193_apply, show idx_main_v193 (ix3 b (row n q) (col h d)) = ix4 b (row n q) h d from
    ext4 _ _ _ _ _ (by show ((b.val * 2048 + (64 * n.val + q.val)) * 512 + (64 * h.val + d.val)) / 1048576 = b.val; omega)
      (by show ((b.val * 2048 + (64 * n.val + q.val)) * 512 + (64 * h.val + d.val)) / 512 % 2048 = 64 * n.val + q.val; omega)
      (by show ((b.val * 2048 + (64 * n.val + q.val)) * 512 + (64 * h.val + d.val)) / 64 % 8 = h.val; omega)
      (by show ((b.val * 2048 + (64 * n.val + q.val)) * 512 + (64 * h.val + d.val)) % 64 = d.val; omega),
    val_main_v185_apply, show idx_main_v185 (ix4 b (row n q) h d) = ix5 b n q h d from
    ext5 _ _ _ _ _ _ (by show (((b.val * 2048 + (64 * n.val + q.val)) * 8 + h.val) * 64 + d.val) / 1048576 = b.val; omega)
      (by show (((b.val * 2048 + (64 * n.val + q.val)) * 8 + h.val) * 64 + d.val) / 32768 % 32 = n.val; omega)
      (by show (((b.val * 2048 + (64 * n.val + q.val)) * 8 + h.val) * 64 + d.val) / 512 % 64 = q.val; omega)
      (by show (((b.val * 2048 + (64 * n.val + q.val)) * 8 + h.val) * 64 + d.val) / 64 % 8 = h.val; omega)
      (by show (((b.val * 2048 + (64 * n.val + q.val)) * 8 + h.val) * 64 + d.val) % 64 = d.val; omega),
    val_main_v157_apply, show idx_main_v157 (ix5 b n q h d) = ix5 b n h q d from eq_ix5 _, val_main_v156_apply]
  unfold dqA
  rw [coe_sum, col_div]
  refine Finset.sum_congr rfl fun j _ => ?_
  rw [show lidx_main_v156 (ix5 b n h q d) j = ix5 b n h q j from eq_ix5 _, show ridx_main_v156 (ix5 b n h q d) j = ix5 b n j h d from eq_ix5 _,
    v151_at x0 x1 x2 x3 x4 f0 f1 f2 f3 f4, v46_at x1 b n h d j f1, EReal.coe_mul]
  show _ = ((ds _ _ _ _ _ b h (64 * n.val + q.val) (64 * ((64 * n.val + q.val) / 64) + j) * (1 / 8) : ℝ) : EReal) * ((rK x1 b (64 * ((64 * n.val + q.val) / 64) + j) (64 * h + d) : ℝ) : EReal)
  rw [show (64 * n.val + q.val) / 64 = n.val by omega, EReal.coe_mul]

/-- A row of keys is a row of its chunk. -/
theorem cut_row (s : Fin 2560) : ∃ (M : Fin 40) (r : Fin 64), s.val = 64 * M.val + r.val :=
  ⟨⟨s.val / 64, by have := s.isLt; omega⟩, ⟨s.val % 64, Nat.mod_lt _ (by decide)⟩, by show s.val = 64 * (s.val / 64) + s.val % 64; omega⟩

theorem idx_rows (b : Fin 2) (s : Fin 2560) (M : Fin 40) (r : Fin 64) (hs : s.val = 64 * M.val + r.val) (h : Fin 8) (d : Fin 64) :
    idx_main_v133 (idx_main_v195 (ix3 b s (col h d))) = ix5 b M r h d := by
  have e : idx_main_v195 (ix3 b s (col h d)) = ix4 b s h d :=
    ext4 _ _ _ _ _ (by show ((b.val * 2560 + s.val) * 512 + (64 * h.val + d.val)) / 1310720 = b.val; omega)
      (by show ((b.val * 2560 + s.val) * 512 + (64 * h.val + d.val)) / 512 % 2560 = s.val; omega)
      (by show ((b.val * 2560 + s.val) * 512 + (64 * h.val + d.val)) / 64 % 8 = h.val; omega)
      (by show ((b.val * 2560 + s.val) * 512 + (64 * h.val + d.val)) % 64 = d.val; omega)
  rw [e]
  exact ext5 _ _ _ _ _ _ (by show (((b.val * 2560 + s.val) * 8 + h.val) * 64 + d.val) / 1310720 = b.val; omega)
    (by show (((b.val * 2560 + s.val) * 8 + h.val) * 64 + d.val) / 32768 % 40 = M.val; omega)
    (by show (((b.val * 2560 + s.val) * 8 + h.val) * 64 + d.val) / 512 % 64 = r.val; omega)
    (by show (((b.val * 2560 + s.val) * 8 + h.val) * 64 + d.val) / 64 % 8 = h.val; omega)
    (by show (((b.val * 2560 + s.val) * 8 + h.val) * 64 + d.val) % 64 = d.val; omega)

/-- A chunk of queries adds nothing to the rows outside its band. -/
theorem off_band (Q K V G B : ℕ → ℕ → ℕ → ℝ) (b h n : ℕ) (q : Fin 64) (s : ℕ) (hs : ¬ (64 * n ≤ s ∧ s < 64 * n + 576)) :
    ds Q K V G B b h (64 * n + q) s = 0 ∧ pr Q K B b h (64 * n + q) s = 0 := by
  have hq := q.isLt
  have hi : ¬ inB (64 * n + q) s := fun hi => hs ⟨by have := hi.1; omega, by have := hi.2.1; omega⟩
  exact ⟨ds_off _ _ _ _ _ _ _ _ _ hi, pr_off _ _ _ _ _ _ _ hi⟩

include f0 f1 f2 f3 f4 in
theorem dk_at (b : Fin 2) (s : Fin 2560) (c : Fin 512) : val_main_v194 (F := Ideal) x0 x1 x2 x3 x4 (ix3 b s c)
    = ((dkA (rQ x0) (rK x1) (rK x2) (rG x4) (rB x3) b s c : ℝ) : EReal) := by
  obtain ⟨h, d, rfl⟩ := cut c
  obtain ⟨M, r, hs⟩ := cut_row s
  rw [val_main_v194_apply, val_main_v184_apply, show idx_main_v184 (idx_main_v194 (ix3 b s (col h d))) = ix5 b M r h d from idx_rows b s M r hs h d]
  refine (parts_apply (val_main_v155 (F := Ideal) x0 x1 x2 x3 x4) (fun n s => ∑ q : Fin 64, ds (rQ x0) (rK x1) (rK x2) (rG x4) (rB x3) b h (64 * n + q) s * (1 / 8) * rQ x0 b (64 * n + q) (64 * h + d))
    b h d (fun n j => ?_) (fun n _ s hn => ?_) M r).trans (congrArg _ ?_)
  · rw [val_main_v155_apply, show idx_main_v155 (ix5 b n j h d) = ix5 b n h j d from eq_ix5 _, val_main_v154_apply, coe_sum]
    refine Finset.sum_congr rfl fun q _ => ?_
    rw [show lidx_main_v154 (ix5 b n h j d) q = ix5 b n h q j from eq_ix5 _, show ridx_main_v154 (ix5 b n h j d) q = ix5 b n q h d from eq_ix5 _,
      v151_at x0 x1 x2 x3 x4 f0 f1 f2 f3 f4, v35_eq, EReal.coe_mul]
    exact congrArg (_ * ·) (rd3_coe x0 f0 b (row n q) (col h d))
  · exact Finset.sum_eq_zero fun q _ => by rw [(off_band _ _ _ _ _ _ _ _ _ _ hn).1, zero_mul, zero_mul]
  · unfold dkA
    rw [col_div, sum_blocks 32 64 fun t => ds (rQ x0) (rK x1) (rK x2) (rG x4) (rB x3) b h t s * (1 / 8) * rQ x0 b t (col h d), hs]

include f0 f1 f3 f4 in
theorem dv_at (b : Fin 2) (s : Fin 2560) (c : Fin 512) : val_main_v195 (F := Ideal) x0 x1 x3 x4 (ix3 b s c)
    = ((dvA (rQ x0) (rK x1) (rG x4) (rB x3) b s c : ℝ) : EReal) := by
  obtain ⟨h, d, rfl⟩ := cut c
  obtain ⟨M, r, hs⟩ := cut_row s
  rw [val_main_v195_apply, val_main_v133_apply, idx_rows b s M r hs h d]
  refine (parts_apply (val_main_v106 (F := Ideal) x0 x1 x3 x4) (fun n s => ∑ q : Fin 64, pr (rQ x0) (rK x1) (rB x3) b h (64 * n + q) s * rG x4 b (64 * n + q) (64 * h + d))
    b h d (fun n j => ?_) (fun n _ s hn => ?_) M r).trans (congrArg _ ?_)
  · rw [val_main_v106_apply, show idx_main_v106 (ix5 b n j h d) = ix5 b n h d j from eq_ix5 _, val_main_v105_apply, coe_sum]
    refine Finset.sum_congr rfl fun q _ => ?_
    rw [show lidx_main_v105 (ix5 b n h d j) q = ix5 b n h d q from eq_ix5 _, show ridx_main_v105 (ix5 b n h d j) q = ix5 b n h q j from eq_ix5 _,
      v83_at x0 x1 x3 f0 f1 f3, v103_at x4 b n h q d f4, mul_comm, EReal.coe_mul]
  · exact Finset.sum_eq_zero fun q _ => by rw [(off_band (rQ x0) (rK x1) (rK x1) (rG x4) (rB x3) b h n q s hn).2, zero_mul]
  · unfold dvA
    rw [col_div, sum_blocks 32 64 fun t => pr (rQ x0) (rK x1) (rB x3) b h t s * rG x4 b t (col h d), hs]

include f0 f1 f2 f3 f4 in
/-- The gradient of a copy of the bias. -/
theorem v153_at (p : Fin 2) (h : Fin 8) (a : Fin 64) (w : Fin 576) : val_main_v153 (F := Ideal) x0 x1 x2 x3 x4 (ix4 p h a w)
    = ((∑ n : Fin 16, ∑ b : Fin 2, ds (rQ x0) (rK x1) (rK x2) (rG x4) (rB x3) b h (64 * (2 * n + p) + a) (64 * (2 * n + p) + w) : ℝ) : EReal) := by
  rw [val_main_v153_apply]
  show Ideal.ofBits .f32 0x00000000#32 + _ = _
  rw [Ideal.ofBits_zero_f32, zero_add, coe_sum]
  refine Finset.sum_congr rfl fun n _ => ?_
  have hn : 2 * n.val + p.val < 32 := by have := n.isLt; have := p.isLt; omega
  rw [show idx_main_v153 (ix4 p h a w) n = ix5 n p h a w from eq_ix5 _, val_main_v152_apply,
    show idx_main_v152 (ix5 n p h a w) = ix4 (⟨2 * n.val + p.val, hn⟩ : Fin 32) h a w from
      ext4 _ _ _ _ _ (by show ((((n.val * 2 + p.val) * 8 + h.val) * 64 + a.val) * 576 + w.val) / 294912 = 2 * n.val + p.val; omega)
        (by show ((((n.val * 2 + p.val) * 8 + h.val) * 64 + a.val) * 576 + w.val) / 36864 % 8 = h.val; omega)
        (by show ((((n.val * 2 + p.val) * 8 + h.val) * 64 + a.val) * 576 + w.val) / 576 % 64 = a.val; omega)
        (by show ((((n.val * 2 + p.val) * 8 + h.val) * 64 + a.val) * 576 + w.val) % 576 = w.val; omega), val_main_v149_apply]
  show Ideal.ofBits .f32 0x00000000#32 + _ = _
  rw [Ideal.ofBits_zero_f32, zero_add, Fin.sum_univ_one, show idx_main_v149 (ix4 (⟨2 * n.val + p.val, hn⟩ : Fin 32) h a w) 0 = ix5 0 ⟨2 * n.val + p.val, hn⟩ h a w from eq_ix5 _,
    val_main_v148_apply, show idx_main_v148 (ix5 0 (⟨2 * n.val + p.val, hn⟩ : Fin 32) h a w) = ix4 (⟨2 * n.val + p.val, hn⟩ : Fin 32) h a w from
      ext4 _ _ _ _ _ (by show ((((0 * 32 + (2 * n.val + p.val)) * 8 + h.val) * 64 + a.val) * 576 + w.val) / 294912 = 2 * n.val + p.val; omega)
        (by show ((((0 * 32 + (2 * n.val + p.val)) * 8 + h.val) * 64 + a.val) * 576 + w.val) / 36864 % 8 = h.val; omega)
        (by show ((((0 * 32 + (2 * n.val + p.val)) * 8 + h.val) * 64 + a.val) * 576 + w.val) / 576 % 64 = a.val; omega)
        (by show ((((0 * 32 + (2 * n.val + p.val)) * 8 + h.val) * 64 + a.val) * 576 + w.val) % 576 = w.val; omega), val_main_v147_apply]
  show Ideal.ofBits .f32 0x00000000#32 + _ = _
  rw [Ideal.ofBits_zero_f32, zero_add, coe_sum]
  refine Finset.sum_congr rfl fun b _ => ?_
  rw [show idx_main_v147 (ix4 (⟨2 * n.val + p.val, hn⟩ : Fin 32) h a w) b = ix5 b ⟨2 * n.val + p.val, hn⟩ h a w from eq_ix5 _, v146_at x0 x1 x2 x3 x4 f0 f1 f2 f3 f4]

include f0 f1 f2 f3 f4 in
theorem dbe_at (h : Fin 8) (a : Fin 64) (w : Fin 640) : val_main_v189 (F := Ideal) x0 x1 x2 x3 x4 (ix3 h a w)
    = ((dbE (rQ x0) (rK x1) (rK x2) (rG x4) (rB x3) h a w : ℝ) : EReal) := by
  have hw := w.isLt
  have ha := a.isLt
  unfold val_main_v189 dbE
  by_cases h0 : w.val < 576
  · rw [concatenate_pair_apply_left (s₁ := S8x64x576) (s₂ := S8x64x64) 2 _ _ _ (ix3 h a w) rfl (ix3 h a (⟨w.val, h0⟩ : Fin 576))
      (fun a => match a with | ⟨0, _⟩ => rfl | ⟨1, _⟩ => rfl | ⟨2, _⟩ => rfl), val_main_v188_apply, val_main_v187_apply,
      show idx_main_v187 (idx_main_v188 (ix3 h a (⟨w.val, h0⟩ : Fin 576))) = ix4 0 h a ⟨w.val, h0⟩ from
        ext4 _ _ _ _ _ rfl (by show ((h.val * 64 + a.val) * 576 + w.val) / 36864 % 8 = h.val; omega)
          (by show ((h.val * 64 + a.val) * 576 + w.val) / 576 % 64 = a.val; omega) (by show ((h.val * 64 + a.val) * 576 + w.val) % 576 = w.val; omega),
      v153_at x0 x1 x2 x3 x4 f0 f1 f2 f3 f4, Finset.sum_comm]
    rfl
  · rw [concatenate_pair_apply_right (s₁ := S8x64x576) (s₂ := S8x64x64) 2 _ _ _ (ix3 h a w) rfl rfl (ix3 h a (⟨w.val - 576, by omega⟩ : Fin 64))
      (fun a ha => match a, ha with | ⟨0, _⟩, _ => rfl | ⟨1, _⟩, _ => rfl | ⟨2, _⟩, ha => absurd rfl ha) (by show w.val - 576 + 576 = w.val; omega), val_main_v186_apply]
    rw [Finset.sum_eq_zero fun b _ => Finset.sum_eq_zero fun n _ => (off_band _ _ _ _ _ _ _ _ a _ (by omega)).1]
    exact Ideal.ofBits_zero_f32

include f0 f1 f2 f3 f4 in
theorem dbo_at (h : Fin 8) (a : Fin 64) (w : Fin 640) : val_main_v192 (F := Ideal) x0 x1 x2 x3 x4 (ix3 h a w)
    = ((dbO (rQ x0) (rK x1) (rK x2) (rG x4) (rB x3) h a w : ℝ) : EReal) := by
  have hw := w.isLt
  have ha := a.isLt
  unfold val_main_v192 dbO
  by_cases h0 : w.val < 64
  · rw [concatenate_pair_apply_left (s₁ := S8x64x64) (s₂ := S8x64x576) 2 _ _ _ (ix3 h a w) rfl (ix3 h a (⟨w.val, h0⟩ : Fin 64))
      (fun a => match a with | ⟨0, _⟩ => rfl | ⟨1, _⟩ => rfl | ⟨2, _⟩ => rfl), val_main_v186_apply]
    rw [Finset.sum_eq_zero fun b _ => Finset.sum_eq_zero fun n _ => (off_band _ _ _ _ _ _ _ _ a _ (by omega)).1]
    exact Ideal.ofBits_zero_f32
  · rw [concatenate_pair_apply_right (s₁ := S8x64x64) (s₂ := S8x64x576) 2 _ _ _ (ix3 h a w) rfl rfl (ix3 h a (⟨w.val - 64, by omega⟩ : Fin 576))
      (fun a ha => match a, ha with | ⟨0, _⟩, _ => rfl | ⟨1, _⟩, _ => rfl | ⟨2, _⟩, ha => absurd rfl ha) (by show w.val - 64 + 64 = w.val; omega), val_main_v191_apply, val_main_v190_apply,
      show idx_main_v190 (idx_main_v191 (ix3 h a (⟨w.val - 64, by omega⟩ : Fin 576))) = ix4 1 h a ⟨w.val - 64, by omega⟩ from
        ext4 _ _ _ _ _ rfl (by show ((h.val * 64 + a.val) * 576 + (w.val - 64)) / 36864 % 8 = h.val; omega)
          (by show ((h.val * 64 + a.val) * 576 + (w.val - 64)) / 576 % 64 = a.val; omega) (by show ((h.val * 64 + a.val) * 576 + (w.val - 64)) % 576 = w.val - 64; omega),
      v153_at x0 x1 x2 x3 x4 f0 f1 f2 f3 f4, Finset.sum_comm]
    refine congrArg _ (Finset.sum_congr rfl fun b _ => Finset.sum_congr rfl fun n _ => ?_)
    show ds _ _ _ _ _ b h (64 * (2 * n.val + 1) + a.val) (64 * (2 * n.val + 1) + (w.val - 64)) = _
    rw [show 64 * (2 * n.val + 1) + (w.val - 64) = 64 * (2 * n.val) + w.val by omega]
end
end Cert.Reference2Ideal.AttnRef

end

end
-- ==== Proof.AttnClaim.lean ====
/-
  The backward of the attention: both programs' arrays are the same arrays of reals.
-/
module

public import proofs.«01_k».proof.Defs
public import proofs.«01_k».proof.Proof.AttnFinal
public import proofs.«01_k».proof.Proof.AttnGrads
public import proofs.«01_k».proof.Proof.Gen.Reference2Ideal.Run
public import proofs.«01_k».proof.Proof.Gen.Kernel2Ideal.Value
public import proofs.«01_k».proof.Proof.Gen.Pre_finite2

set_option maxRecDepth 16384
set_option backward.isDefEq.respectTransparency false

@[expose] public section

noncomputable section

namespace Cert.AttnClaim

open Cert.Common Cert.Attn Cert.Kernel2Ideal.AttnArray
open Cert.Reference2Ideal Cert.Reference2Ideal.Read Cert.Reference2Ideal.AttnRef
open Idealize.ShloMosaic hiding ix0 ix1 ix2 ix3 ix4 ix5 ix6 eq_ix3
open Idealize.ShloMosaic.ValueIdx Idealize.ShloMosaic.TcCoe

instance : Cert.Kernel2Ideal.Facts := Cert.Kernel2Ideal.Gen.facts
instance : Cert.Reference2Ideal.Facts := Cert.Reference2Ideal.Gen.facts
instance : Cert.Pre_finite2.Facts := Cert.Pre_finite2.Gen.facts

variable (m : (ℓ : Loc Cert.Kernel2Ideal.nD Cert.Kernel2Ideal.τ Cert.Kernel2Ideal.sig) → Buf (Elt Ideal) ℓ)
variable (c : Dev Cert.Kernel2Ideal.nD)

theorem pre (h : Cert.Pre_Kernel2Ideal_finite2 m) : Fine m c := by
  obtain ⟨h0, h1, h2, h3, h4⟩ := h c
  exact ⟨real_of_bound _ _ (fun _ => rfl) h0, real_of_bound _ _ (fun _ => rfl) h1, real_of_bound _ _ (fun _ => rfl) h2,
    real_of_bound _ _ (fun _ => rfl) h3, real_of_bound _ _ (fun _ => rfl) h4⟩

/-- The two programs look the biases up in the same way. -/
theorem bias_eq : val_main_v23 (F := Ideal) (A3 m c) = bias (A3 m c) := rfl

theorem bias_fine (f : Fine m c) : Real' (val_main_v23 (F := Ideal) (A3 m c)) := by rw [bias_eq]; exact bias_real _ f.r3

variable (f : Fine m c)

include f in
theorem eq5 : (Cert.Kernel2Ideal.Gen.dats m 0 c).arrAt 5 Cert.Kernel2Ideal.cfg0.N = val_main_v193 (F := Ideal) (A0 m c) (A1 m c) (A2 m c) (A3 m c) (A4 m c) := by
  rw [final5 m c f]
  funext i
  rw [eq_ix3 i, dq_at _ _ _ _ _ f.r0 f.r1 f.r2 (bias_fine m c f) f.r4]
  rfl

include f in
theorem eq6 : (Cert.Kernel2Ideal.Gen.dats m 0 c).arrAt 6 Cert.Kernel2Ideal.cfg0.N = val_main_v194 (F := Ideal) (A0 m c) (A1 m c) (A2 m c) (A3 m c) (A4 m c) := by
  rw [final6 m c f]
  funext i
  rw [eq_ix3 i, dk_at _ _ _ _ _ f.r0 f.r1 f.r2 (bias_fine m c f) f.r4]
  rfl

include f in
theorem eq7 : (Cert.Kernel2Ideal.Gen.dats m 0 c).arrAt 7 Cert.Kernel2Ideal.cfg0.N = val_main_v195 (F := Ideal) (A0 m c) (A1 m c) (A3 m c) (A4 m c) := by
  rw [final7 m c f]
  funext i
  rw [eq_ix3 i, dv_at _ _ _ _ f.r0 f.r1 (bias_fine m c f) f.r4]
  rfl

include f in
theorem eq8 : (Cert.Kernel2Ideal.Gen.dats m 0 c).arrAt 8 Cert.Kernel2Ideal.cfg0.N = val_main_v189 (F := Ideal) (A0 m c) (A1 m c) (A2 m c) (A3 m c) (A4 m c) := by
  rw [final8 m c f]
  funext i
  rw [eq_ix3 i, dbe_at _ _ _ _ _ f.r0 f.r1 f.r2 (bias_fine m c f) f.r4]
  rfl

include f in
theorem eq9 : (Cert.Kernel2Ideal.Gen.dats m 0 c).arrAt 9 Cert.Kernel2Ideal.cfg0.N = val_main_v192 (F := Ideal) (A0 m c) (A1 m c) (A2 m c) (A3 m c) (A4 m c) := by
  rw [final9 m c f]
  funext i
  rw [eq_ix3 i, dbo_at _ _ _ _ _ f.r0 f.r1 f.r2 (bias_fine m c f) f.r4]
  rfl

/-- The reference runs and leaves its arguments; it has no counters. -/
theorem frame_reference : Cert.quiescent_Reference2Ideal := fun m g _ =>
  (θ_run Cert.Reference2Ideal.defs _ _).mono (fun r h => ⟨fun c => (h c).2.2.2.2.2, sem_eq_zero_of_no_sems (by decide) r.2⟩)
    (Cert.Reference2Ideal.Value.run (F := Ideal) m g)

theorem algebraic : Cert.algebraic_Kernel2Ideal_Reference2Ideal_pre_finite2 := by
  intro m g m' g' hp ha
  refine ⟨_, _, _, _, _, Cert.Kernel2Ideal.Value.run_blocks (F := Ideal) m g, ?_⟩
  refine (θ_run Cert.Reference2Ideal.defs _ _).mono (fun r h c => ?_) (Cert.Reference2Ideal.Value.run (F := Ideal) m' g')
  have f := pre m c hp
  obtain ⟨a0, a1, a2, a3, a4⟩ := ha c
  obtain ⟨h0, h1, h2, h3, h4, hrest⟩ := h c
  have e0 : StableHlo.launchContents m' c (Proc.devRef .tc Cert.Reference2Ideal.main_arg0) = A0 m c := a0
  have e1 : StableHlo.launchContents m' c (Proc.devRef .tc Cert.Reference2Ideal.main_arg1) = A1 m c := a1
  have e2 : StableHlo.launchContents m' c (Proc.devRef .tc Cert.Reference2Ideal.main_arg2) = A2 m c := a2
  have e3 : StableHlo.launchContents m' c (Proc.devRef .tc Cert.Reference2Ideal.main_arg3) = A3 m c := a3
  have e4 : StableHlo.launchContents m' c (Proc.devRef .tc Cert.Reference2Ideal.main_arg4) = A4 m c := a4
  refine ⟨h0.trans ?_, h1.trans ?_, h2.trans ?_, h3.trans ?_, h4.trans ?_, hrest⟩
  · refine (val_main_v193_eq _).trans (Eq.trans ?_ (eq5 m c f).symm); rw [e0, e1, e2, e3, e4]
  · refine (val_main_v194_eq _).trans (Eq.trans ?_ (eq6 m c f).symm); rw [e0, e1, e2, e3, e4]
  · refine (val_main_v195_eq _).trans (Eq.trans ?_ (eq7 m c f).symm); rw [e0, e1, e3, e4]
  · refine (val_main_v189_eq _).trans (Eq.trans ?_ (eq8 m c f).symm); rw [e0, e1, e2, e3, e4]
  · refine (val_main_v192_eq _).trans (Eq.trans ?_ (eq9 m c f).symm); rw [e0, e1, e2, e3, e4]

end Cert.AttnClaim

end
-- ==== Proof.Rows.lean ====
/-
  Rows of 1024 reals: literals, rows of a stretch of 512, sums of products, what a copied scratch holds, and the gradient of a
  normalised row.
-/
module

public import proofs.«01_k».proof.Proof.Common
public import Idealize.ShloMosaic.Lib.Pipeline.ValueKit

set_option maxRecDepth 16384
set_option backward.isDefEq.respectTransparency false

@[expose] public section

noncomputable section

namespace Cert.Common

open Idealize.ShloMosaic hiding ix0 ix1 ix2 ix3 ix4 ix5 ix6
open Idealize.ShloMosaic.ValueIdx
open scoped BigOperators

theorem lit_half : Ideal.ofBits .f32 0x3F000000#32 = ((1 / 2 : ℝ) : EReal) := by
  simp [Ideal.ofBits, Ideal.ieee]; rw [← EReal.coe_mul]; norm_num
theorem lit_two : Ideal.ofBits .f32 0x40000000#32 = ((2 : ℝ) : EReal) := by
  simp [Ideal.ofBits, Ideal.ieee]; rw [← EReal.coe_mul]; norm_num
theorem lit_1024 : Ideal.ofBits .f32 0x44800000#32 = ((1024 : ℝ) : EReal) := by
  simp [Ideal.ofBits, Ideal.ieee]; rw [← EReal.coe_mul]; norm_num
theorem lit_1024th : Ideal.ofBits .f32 0x3A800000#32 = ((1 / 1024 : ℝ) : EReal) := by
  simp [Ideal.ofBits, Ideal.ieee]; rw [← EReal.coe_mul]; norm_num

/-- A row of a stretch of 512 of the 4096 rows. -/
abbrev row8 (p : Fin 8) (s : Fin 512) : Fin 4096 := ⟨512 * p.val + s.val, by have := p.isLt; have := s.isLt; omega⟩

/-- A row taken to its stretch and place. -/
theorem row8_eq (r : Fin 4096) (p : Fin 8) (s : Fin 512) (h : r.val = 512 * p.val + s.val) : r = row8 p s := Fin.ext h

/-- Every element an array holds is a real. -/
def Real2 {s : Shape} (v : s.Idx → EReal) : Prop := ∀ i, v i = (((v i).toReal : ℝ) : EReal)

/-- A sum of products of reals. -/
theorem dot_real {n : ℕ} (f g : Fin n → EReal) (F G : Fin n → ℝ) (hf : ∀ k, f k = (F k : EReal)) (hg : ∀ k, g k = (G k : EReal)) :
    ∑ k, f k * g k = ((∑ k, F k * G k : ℝ) : EReal) := by
  rw [coe_sum]
  exact Finset.sum_congr rfl fun k _ => by rw [hf, hg, EReal.coe_mul]

section Staged
open Idealize.SL.Sem

variable {Val : EltTy → Type} [∀ e, Nonempty (Val e)] {S : Shape} {e : EltTy}

/-- A copy of a whole array leaves the array. -/
theorem canon_whole (w : S.Idx → Val e) : View.canon [(⟨Rect.whole S, w⟩ : View.Piece Val S e)] = w :=
  View.canon_unit_zero rfl _ w

/-- A load of everything reads what the writes left. -/
theorem readCov_all {sig : RefSig} {κ : Kind} {sp : Space} (v : View sig κ sp S e) (L : List (View.Piece Val S e)) {off : Fin S.rank → Nat}
    (h : off = fun _ => 0) (inb : ∀ a, off a + S.size a ≤ S.size a) : v.readCov L (Rect.unit off S.size inb).toLoadRect = View.canon L := by
  rw [View.readCov_eq_canon']
  subst h
  exact funext fun j => congrArg (View.canon L) (show (Rect.whole S).emb j = j by rw [Rect.emb_whole_apply])

/-- A load of a part of a copied scratch reads that part of what was copied. -/
theorem readCov_copy {sig : RefSig} {κ : Kind} {sp : Space} (v : View sig κ sp S e) (w : S.Idx → Val e) (r : Rect S) :
    v.readCov [(⟨Rect.whole S, w⟩ : View.Piece Val S e)] r.toLoadRect = View.ld w r := by
  rw [View.readCov_eq_canon', canon_whole]

end Staged

/-! ## The sigmoid -/

/-- The sigmoid of a real, and its quotient form over the extended reals. -/
def sgm (a : ℝ) : ℝ := 1 / (1 + Real.exp (-a))

theorem sgm_quot (a : ℝ) : Ideal.div 1 (1 + Ideal.exp (-(a : EReal))) = ((sgm a : ℝ) : EReal) := by
  rw [← EReal.coe_neg, Ideal.exp_coe, ← EReal.coe_one, ← EReal.coe_add, div_real _ (by positivity)]
  rfl

/-- Where a row's residual output is off its target. -/
def off (X T : Fin 4096 → Fin 1024 → ℝ) (Z : Fin 4096 → Fin 2816 → ℝ) (W : Fin 2816 → Fin 1024 → ℝ) (r : Fin 4096) (c : Fin 1024) : ℝ :=
  X r c + 1 / 2 * (∑ k, Z r k * W k c) - T r c

/-! ## The normalisation of 1024 reals and its gradient -/

/-- The normaliser of 1024 reals, and the gradient at one of them. -/
def rsW (x : Fin 1024 → ℝ) : ℝ := (Real.sqrt ((∑ d, x d * x d) / 1024 + eps))⁻¹
def dxW (x dy g : Fin 1024 → ℝ) (d : Fin 1024) : ℝ :=
  rsW x * (dy d * g d - x d * rsW x * ((∑ e, dy e * g e * (x e * rsW x)) / 1024))

theorem msW_pos (x : Fin 1024 → ℝ) : 0 < (∑ d, x d * x d) / 1024 + eps :=
  add_pos_of_nonneg_of_pos (div_nonneg (Finset.sum_nonneg fun d _ => mul_self_nonneg _) (by norm_num)) lit_eps.2

/-- The same gradient as the chain rule writes it: through the scaled row and, twice, through the mean square. -/
theorem dxW_chain (x dy g : Fin 1024 → ℝ) (d : Fin 1024) :
    dy d * g d * rsW x + x d * ((∑ e, x e * (dy e * g e)) * (-(1 / 2) * (rsW x / ((∑ e, x e * x e) / 1024 + eps))) / 1024)
      + ((∑ e, x e * (dy e * g e)) * (-(1 / 2) * (rsW x / ((∑ e, x e * x e) / 1024 + eps))) / 1024) * x d = dxW x dy g d := by
  have hq : rsW x / ((∑ e, x e * x e) / 1024 + eps) = rsW x * rsW x * rsW x := by
    have h2 : rsW x * rsW x = ((∑ e, x e * x e) / 1024 + eps)⁻¹ := by
      unfold rsW
      rw [← mul_inv, Real.mul_self_sqrt (msW_pos x).le]
    rw [div_eq_mul_inv, ← h2]; ring
  have hs : (∑ e, dy e * g e * (x e * rsW x)) = (∑ e, x e * (dy e * g e)) * rsW x := by
    rw [Finset.sum_mul]; exact Finset.sum_congr rfl fun e _ => by ring
  rw [hq, dxW, hs]; ring

/-! ## The cotangent of two products of one left factor -/

/-- The cotangent a row's normalised frame gets from the two projections of it. -/
def ct2 {R : ℕ} (A B : Fin R → Fin 2816 → ℝ) (Wa Wb : Fin 1024 → Fin 2816 → ℝ) (r : Fin R) (c : Fin 1024) : ℝ :=
  (∑ q, A r q * Wa c q) + ∑ q, B r q * Wb c q

/-- A row divided by the root of its mean square, times a gain. -/
def nrm (x g : Fin 1024 → EReal) (j : Fin 1024) : EReal :=
  x j * Ideal.rsqrt (Ideal.div (∑ d, x d * x d) (Ideal.ofBits .f32 0x44800000#32) + Ideal.ofBits .f32 0x358637BD#32) * g j

end Cert.Common

end

end
-- ==== Proof.LossKernel.lean ====
/-
  The loss at the end of the block: what a point of the kernel computes, and the three arrays after the run.
-/
module

public import proofs.«01_k».proof.Proof.Rows
public import proofs.«01_k».proof.Proof.Gen.Kernel3Ideal.Value
public import Idealize.ShloMosaic.Lib.Pipeline.ValueKit

set_option maxRecDepth 16384
set_option backward.isDefEq.respectTransparency false

@[expose] public section

noncomputable section

namespace Cert.Kernel3Ideal.Loss

open Cert.Kernel3Ideal Cert.Kernel3Ideal.Gen Cert.Common
open Idealize.ShloMosaic hiding ix0 ix1 ix2 ix3 ix4 ix5 ix6
open Idealize.ShloMosaic.ValueIdx Idealize.ShloMosaic.TcCoe
open Idealize.ShloMosaic.Pipeline (Dat)
open scoped BigOperators

variable (m : (ℓ : Loc nD τ sig) → Buf (Elt Ideal) ℓ) (c : Dev nD)

abbrev A0 : Vec Ideal S4096x2816 .f32 := m ((c : Thread nD τ).loc main_arg0)
abbrev A1 : Vec Ideal S2816x1024 .f32 := m ((c : Thread nD τ).loc main_arg1)
abbrev A2 : Vec Ideal S4096x1024 .f32 := m ((c : Thread nD τ).loc main_arg2)
abbrev A3 : Vec Ideal S4096x1024 .f32 := m ((c : Thread nD τ).loc main_arg3)

theorem hz : (![0, 0] : Fin 2 → Nat) = fun _ => 0 := funext fun a => by fin_cases a <;> rfl
theorem hz3 : (![0, 0, 0] : Fin 3 → Nat) = fun _ => 0 := funext fun a => by fin_cases a <;> rfl

/-! ### What a point stores -/

section Cases
variable (i : grid0.Coords) (arg1 : Memref sig .tc .vmem S512x2816 .bf16) (harg1 : arg1.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S1x1x1024 .f32) (harg7 : arg7.IsWhole) (arg8 : Memref sig .tc .vmem S2816x1024 .bf16) (harg8 : arg8.IsWhole)
variable (x0 : Vec Ideal S512x2816 .bf16) (x1 x2 : Vec Ideal S512x1024 .f32) (xs0 : Vec Ideal S2816x1024 .bf16) (fh0 : HbBuf0 (F := Ideal) c hbM0_0)

theorem sA (hc0 : cond0_0 i) : sout0_A_0 c i arg1 harg1 arg3 harg3 arg4 harg4 arg5 harg5 arg6 harg6 arg7 harg7 arg8 harg8 hc0 x0 x1 x2 fh0 = fh0 := by
  unfold sout0_A_0
  rw [View.read_writes_junk_eq_canon]
  exact canon_whole _

theorem oA3 (hc0 : cond0_0 i) : out0_A_3 c i arg1 harg1 arg3 harg3 arg4 harg4 arg5 harg5 arg6 harg6 arg7 harg7 arg8 harg8 hc0 x0 x1 x2 fh0 = k0_pay2 x0 fh0 x1 x2 := by
  unfold out0_A_3
  rw [View.read_writes_junk_eq_canon]
  unfold kernelRun0_A
  dsimp only
  sl_unfold_words
  rw [View.canon_unit_zero hz]
  rw [readCov_all (S := S2816x1024) _ _ hz, canon_whole]
  simp only [View.readAt_eq_ld, harg1.read_unread, harg3.read_unread, harg4.read_unread, View.ld_unit_zero (S := S512x2816) hz, View.ld_unit_zero (S := S512x1024) hz]
  rfl

theorem oA4 (hc0 : cond0_0 i) : out0_A_4 c i arg1 harg1 arg3 harg3 arg4 harg4 arg5 harg5 arg6 harg6 arg7 harg7 arg8 harg8 hc0 x0 x1 x2 fh0 = k0_pay3 x0 fh0 x1 x2 := by
  unfold out0_A_4
  rw [View.read_writes_junk_eq_canon]
  unfold kernelRun0_A
  dsimp only
  sl_unfold_words
  rw [View.canon_unit_zero hz]
  rw [readCov_all (S := S2816x1024) _ _ hz, canon_whole]
  simp only [View.readAt_eq_ld, harg1.read_unread, harg3.read_unread, harg4.read_unread, View.ld_unit_zero (S := S512x2816) hz, View.ld_unit_zero (S := S512x1024) hz]
  rfl

theorem oA5 (hc0 : cond0_0 i) : out0_A_5 c i arg1 harg1 arg3 harg3 arg4 harg4 arg5 harg5 arg6 harg6 arg7 harg7 arg8 harg8 hc0 x0 x1 x2 fh0 = k0_pay4 x0 fh0 x1 x2 := by
  unfold out0_A_5
  rw [View.read_writes_junk_eq_canon]
  unfold kernelRun0_A
  dsimp only
  sl_unfold_words
  rw [View.canon_unit_zero hz3]
  rw [readCov_all (S := S2816x1024) _ _ hz, canon_whole]
  simp only [View.readAt_eq_ld, harg1.read_unread, harg3.read_unread, harg4.read_unread, View.ld_unit_zero (S := S512x2816) hz, View.ld_unit_zero (S := S512x1024) hz]
  rfl

theorem oB3 (hc0 : ¬cond0_0 i) : out0_B_3 c i arg1 harg1 arg3 harg3 arg4 harg4 arg5 harg5 arg6 harg6 arg7 harg7 arg8 harg8 hc0 x0 x1 x2 xs0 fh0 = k0_pay2 x0 xs0 x1 x2 := by
  unfold out0_B_3
  rw [View.read_writes_junk_eq_canon]
  unfold kernelRun0_B
  dsimp only
  sl_unfold_words
  rw [View.canon_unit_zero hz]
  simp only [View.readAt_eq_ld, harg1.read_unread, harg3.read_unread, harg4.read_unread, harg8.read_unread, View.ld_unit_zero (S := S512x2816) hz, View.ld_unit_zero (S := S512x1024) hz, View.ld_unit_zero (S := S2816x1024) hz]

theorem oB4 (hc0 : ¬cond0_0 i) : out0_B_4 c i arg1 harg1 arg3 harg3 arg4 harg4 arg5 harg5 arg6 harg6 arg7 harg7 arg8 harg8 hc0 x0 x1 x2 xs0 fh0 = k0_pay3 x0 xs0 x1 x2 := by
  unfold out0_B_4
  rw [View.read_writes_junk_eq_canon]
  unfold kernelRun0_B
  dsimp only
  sl_unfold_words
  rw [View.canon_unit_zero hz]
  simp only [View.readAt_eq_ld, harg1.read_unread, harg3.read_unread, harg4.read_unread, harg8.read_unread, View.ld_unit_zero (S := S512x2816) hz, View.ld_unit_zero (S := S512x1024) hz, View.ld_unit_zero (S := S2816x1024) hz]

theorem oB5 (hc0 : ¬cond0_0 i) : out0_B_5 c i arg1 harg1 arg3 harg3 arg4 harg4 arg5 harg5 arg6 harg6 arg7 harg7 arg8 harg8 hc0 x0 x1 x2 xs0 fh0 = k0_pay4 x0 xs0 x1 x2 := by
  unfold out0_B_5
  rw [View.read_writes_junk_eq_canon]
  unfold kernelRun0_B
  dsimp only
  sl_unfold_words
  rw [View.canon_unit_zero hz3]
  simp only [View.readAt_eq_ld, harg1.read_unread, harg3.read_unread, harg4.read_unread, harg8.read_unread, View.ld_unit_zero (S := S512x2816) hz, View.ld_unit_zero (S := S512x1024) hz, View.ld_unit_zero (S := S2816x1024) hz]

end Cases

/-! ### The staged weights, and what every point leaves -/

/-- The weights as the points read them. -/
abbrev Wt : Vec Ideal S2816x1024 .bf16 := V m c main_v3

theorem scr : ∀ (n : ℕ) (hn : n < cfg0.N), (outsAt0 m c n hn).2.2.2 = Wt m c
  | 0, hn => by
    rw [outsAt0_A m c ⟨0, hn⟩ (Nat.zero_mod _)]
    dsimp only
    rw [sA]
  | n + 1, hn => by
    have hN : cfg0.N = 8 := N_0
    rw [outsAt0_B m c ⟨n + 1, hn⟩ (by dsimp only; omega)]
    dsimp only
    unfold sout0_B_0
    exact scr n _

theorem pt (t : Fin cfg0.N) : (outsAt0 m c t.val t.isLt).1 = k0_pay2 (iblk m c 0 t) (Wt m c) (iblk m c 1 t) (iblk m c 2 t)
    ∧ (outsAt0 m c t.val t.isLt).2.1 = k0_pay3 (iblk m c 0 t) (Wt m c) (iblk m c 1 t) (iblk m c 2 t)
    ∧ (outsAt0 m c t.val t.isLt).2.2.1 = k0_pay4 (iblk m c 0 t) (Wt m c) (iblk m c 1 t) (iblk m c 2 t) := by
  by_cases h : t.val % 8 = 0
  · rw [outsAt0_A m c t h]
    dsimp only
    rw [oA3, oA4, oA5]
    exact ⟨rfl, rfl, rfl⟩
  · rw [outsAt0_B m c t h]
    dsimp only
    rw [oB3, oB4, oB5, scr]
    exact ⟨rfl, rfl, rfl⟩

/-! ### The blocks read at an index -/

theorem idxs : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0, 0] :=
  (by decide +kernel : ∀ t : Fin grid0.N, _)

/-- A point's stretch. -/
abbrev pb (t : Fin cfg0.N) : Fin 8 := ⟨t.val, t.isLt⟩

theorem V0 : (V m c (Pipeline.arrRef spec0 0) : Vec Ideal S4096x2816 .bf16) = A0 m c := by
  entry_read
  rfl
theorem Wt_eq : Wt m c = (A1 m c : S2816x1024.Idx → EReal) := by
  unfold Wt
  entry_read
  exact shapeCast_shapeCast _ _ _

theorem blk0 (t : Fin cfg0.N) (r : Fin 512) (k : Fin 2816) : (iblk m c 0 t : Vec Ideal S512x2816 .bf16) (ix2 r k) = A0 m c (ix2 (row8 (pb t) r) k) := by
  blk_simp [iblk]
  rw [V0]
  refine congrArg (A0 m c) (ext2 _ _ _ ?_ ?_) <;> blk_simp [idxs t]
  show t.val * 512 + r.val = 512 * t.val + r.val; omega
theorem blk1 (t : Fin cfg0.N) (r : Fin 512) (k : Fin 1024) : (iblk m c 1 t : Vec Ideal S512x1024 .f32) (ix2 r k) = A2 m c (ix2 (row8 (pb t) r) k) := by
  blk_simp [iblk]
  rw [V_main_arg2]
  refine congrArg (A2 m c) (ext2 _ _ _ ?_ ?_) <;> blk_simp [idxs t]
  show t.val * 512 + r.val = 512 * t.val + r.val; omega
theorem blk2 (t : Fin cfg0.N) (r : Fin 512) (k : Fin 1024) : (iblk m c 2 t : Vec Ideal S512x1024 .f32) (ix2 r k) = A3 m c (ix2 (row8 (pb t) r) k) := by
  blk_simp [iblk]
  rw [V_main_arg3]
  refine congrArg (A3 m c) (ext2 _ _ _ ?_ ?_) <;> blk_simp [idxs t]
  show t.val * 512 + r.val = 512 * t.val + r.val; omega

/-! ### The arrays -/

/-- The arguments hold reals. -/
structure Fine : Prop where
  r0 : Real2 (A0 m c)
  r1 : Real2 (A1 m c)
  r2 : Real2 (A2 m c)
  r3 : Real2 (A3 m c)

/-- Where the output is off, of the arguments. -/
abbrev err (r : Fin 4096) (k : Fin 1024) : ℝ :=
  off (fun r k => (A2 m c (ix2 r k)).toReal) (fun r k => (A3 m c (ix2 r k)).toReal) (fun r k => (A0 m c (ix2 r k)).toReal)
    (fun r k => (A1 m c (ix2 r k)).toReal) r k

variable (f : Fine m c)

theorem pay1_gen (x0 : Vec Ideal S512x2816 .bf16) (w : Vec Ideal S2816x1024 .bf16) (x1 x2 : Vec Ideal S512x1024 .f32) (Z : Fin 512 → Fin 2816 → ℝ)
    (W : Fin 2816 → Fin 1024 → ℝ) (X T : Fin 512 → Fin 1024 → ℝ) (h0 : ∀ r k, x0 (ix2 r k) = (Z r k : EReal)) (hw : ∀ r k, w (ix2 r k) = (W r k : EReal))
    (h1 : ∀ r k, x1 (ix2 r k) = (X r k : EReal)) (h2 : ∀ r k, x2 (ix2 r k) = (T r k : EReal)) (r : Fin 512) (k : Fin 1024) :
    k0_pay1 x0 w x1 x2 (ix2 r k) = ((X r k + 1 / 2 * (∑ q, Z r q * W q k) - T r k : ℝ) : EReal) := by
  have hm : matmul (φ₁ := .bf16) (φ₂ := .bf16) dot_S512x2816_S2816x1024_S512x1024_1_0_0_1_n_n none (shapeCast S512x2816 x0 shapeCasts_S512x2816_S512x2816) w
      (constant (F := Ideal) S512x1024 .f32 0x00000000#32) (ix2 r k) = ((∑ q, Z r q * W q k : ℝ) : EReal) := by
    show FloatOps.matmul (DotDims.plain 512 2816 1024) _ _ _ _ _ = _
    rw [Ideal.matmul_plain_apply, dot_real _ _ _ _ (fun q => by rw [shapeCast_self]; exact h0 r q) (fun q => hw q k)]
    show Ideal.ofBits .f32 0x00000000#32 + _ = _
    rw [Ideal.ofBits_zero_f32, zero_add]
  show x1 (ix2 r k) + Ideal.ofBits .f32 0x3F000000#32 * matmul (φ₁ := .bf16) (φ₂ := .bf16) dot_S512x2816_S2816x1024_S512x1024_1_0_0_1_n_n none
    (shapeCast S512x2816 x0 shapeCasts_S512x2816_S512x2816) w (constant (F := Ideal) S512x1024 .f32 0x00000000#32) (ix2 r k) - x2 (ix2 r k) = _
  rw [hm, lit_half, h1, h2, ← EReal.coe_mul, ← EReal.coe_add, ← EReal.coe_sub]

include f in
theorem pay1_at (t : Fin cfg0.N) (r : Fin 512) (k : Fin 1024) :
    k0_pay1 (iblk m c 0 t) (Wt m c) (iblk m c 1 t) (iblk m c 2 t) (ix2 r k) = ((err m c (row8 (pb t) r) k : ℝ) : EReal) :=
  pay1_gen _ _ _ _ (fun r k => (A0 m c (ix2 (row8 (pb t) r) k)).toReal) (fun r k => (A1 m c (ix2 r k)).toReal)
    (fun r k => (A2 m c (ix2 (row8 (pb t) r) k)).toReal) (fun r k => (A3 m c (ix2 (row8 (pb t) r) k)).toReal)
    (fun r k => by rw [blk0]; exact f.r0 _) (fun r k => by rw [Wt_eq]; exact f.r1 _) (fun r k => by rw [blk1]; exact f.r2 _)
    (fun r k => by rw [blk2]; exact f.r3 _) r k

/-- Where a block's index lies in the array. -/
theorem emb3 (t : Fin cfg0.N) (r : Fin 512) (k : Fin 1024) : (win0_3.blk t).view.emb (ix2 r k) = ix2 (row8 (pb t) r) k :=
  ext2 _ _ _ (by blk_simp [idxs t]; show t.val * 512 + r.val = 512 * t.val + r.val; omega) (by blk_simp [idxs t])
theorem emb4 (t : Fin cfg0.N) (r : Fin 512) (k : Fin 1024) : (win0_4.blk t).view.emb (ix2 r k) = ix2 (row8 (pb t) r) k :=
  ext2 _ _ _ (by blk_simp [idxs t]; show t.val * 512 + r.val = 512 * t.val + r.val; omega) (by blk_simp [idxs t])
theorem emb5 (t : Fin cfg0.N) (k : Fin 1024) : (win0_5.blk t).view.emb (ix3 0 0 k) = ix3 (pb t) 0 k :=
  ext3 _ _ _ _ (by blk_simp [idxs t]) (by blk_simp [idxs t]; rfl) (by blk_simp [idxs t])

include f in
theorem final3 : (dats m 0 c).arrAt 3 cfg0.N = fun i => ((err m c (i 0) (i 1) * (1 / 1024) : ℝ) : EReal) := by
  refine (dats m 0 c).arrAt_eq_of_covers 3 _ (by decide +kernel) fun t hf y => ?_
  blk_simp
  rw [after0_3, (pt m c t).1]
  obtain ⟨r, k, rfl⟩ : ∃ (r : Fin 512) (k : Fin 1024), y = ix2 r k := ⟨y 0, y 1, ValueIdx.eq_ix2 y⟩
  rw [emb3]
  show k0_pay1 _ _ _ _ (ix2 r k) * Ideal.ofBits .f32 0x3A800000#32 = _
  rw [pay1_at m c f, lit_1024th, ← EReal.coe_mul]
  rfl

include f in
theorem final4 : (dats m 0 c).arrAt 4 cfg0.N = fun i => ((1 / 2 * (err m c (i 0) (i 1) * (1 / 1024)) : ℝ) : EReal) := by
  refine (dats m 0 c).arrAt_eq_of_covers 4 _ (by decide +kernel) fun t hf y => ?_
  blk_simp
  rw [after0_4, (pt m c t).2.1]
  obtain ⟨r, k, rfl⟩ : ∃ (r : Fin 512) (k : Fin 1024), y = ix2 r k := ⟨y 0, y 1, ValueIdx.eq_ix2 y⟩
  rw [emb4]
  show Ideal.ofBits .f32 0x3F000000#32 * (k0_pay1 _ _ _ _ (ix2 r k) * Ideal.ofBits .f32 0x3A800000#32) = _
  rw [pay1_at m c f, lit_1024th, lit_half, ← EReal.coe_mul, ← EReal.coe_mul]
  rfl

include f in
theorem pay4_at (t : Fin cfg0.N) (k : Fin 1024) : k0_pay4 (iblk m c 0 t) (Wt m c) (iblk m c 1 t) (iblk m c 2 t) (ix3 0 0 k)
    = ((∑ s : Fin 512, err m c (row8 (pb t) s) k * err m c (row8 (pb t) s) k : ℝ) : EReal) := by
  unfold k0_pay4
  rw [shapeCast_apply _ shapeCasts_S1x1024_S1x1x1024 _ (ix2 0 k) (by
      rw [Shape.rowMajor_val_two, Shape.rowMajor_val_three]; rfl),
    shapeCast_apply _ shapeCasts_S1024_S1x1024 _ (ix1 k) (by
      rw [Shape.rowMajor_val_one, Shape.rowMajor_val_two]; show k.val = 0 * 1024 + k.val; omega),
    Ideal.multiReduction_add_single, coe_sum]
  have key (s : Fin 512) : k0_pay1 (iblk m c 0 t) (Wt m c) (iblk m c 1 t) (iblk m c 2 t) (reduces_S512x1024_S1024.lift (ix1 k) s)
      * k0_pay1 (iblk m c 0 t) (Wt m c) (iblk m c 1 t) (iblk m c 2 t) (reduces_S512x1024_S1024.lift (ix1 k) s)
      = ((err m c (row8 (pb t) s) k * err m c (row8 (pb t) s) k : ℝ) : EReal) := by
    have e : reduces_S512x1024_S1024.lift (ix1 k) s = ix2 s k := by
      funext a
      match a with
      | ⟨0, _⟩ => rfl
      | ⟨1, _⟩ => rfl
    rw [e, pay1_at m c f, ← EReal.coe_mul]
  exact Finset.sum_congr rfl fun s _ => key s

include f in
theorem final5 : (dats m 0 c).arrAt 5 cfg0.N
    = fun i => ((∑ s : Fin 512, err m c (row8 (i 0) s) (i 2) * err m c (row8 (i 0) s) (i 2) : ℝ) : EReal) := by
  refine (dats m 0 c).arrAt_eq_of_covers 5 _ (by decide +kernel) fun t hf y => ?_
  blk_simp
  rw [after0_5, (pt m c t).2.2]
  obtain ⟨k, rfl⟩ : ∃ (k : Fin 1024), y = ix3 0 0 k := ⟨y 2, ext3 _ _ _ _ (Nat.lt_one_iff.mp (y 0).isLt) (Nat.lt_one_iff.mp (y 1).isLt) rfl⟩
  rw [emb5]
  exact pay4_at m c f t k

end Cert.Kernel3Ideal.Loss

end

end
-- ==== Proof.LossClaim.lean ====
/-
  The loss at the end of the block: the plain program's arrays, and that both programs' arrays are the same arrays of reals.
-/
module

public import proofs.«01_k».proof.Defs
public import proofs.«01_k».proof.Proof.LossKernel
public import proofs.«01_k».proof.Proof.Gen.Reference3Ideal.Run
public import proofs.«01_k».proof.Proof.Gen.Reference3Ideal.Read
public import proofs.«01_k».proof.Proof.Gen.Pre_finite3

set_option maxRecDepth 16384
set_option backward.isDefEq.respectTransparency false

@[expose] public section

noncomputable section

namespace Cert.LossClaim

open Cert.Common Cert.Kernel3Ideal.Loss
open Cert.Reference3Ideal Cert.Reference3Ideal.Read
open Idealize.ShloMosaic hiding ix0 ix1 ix2 ix3 ix4 ix5 ix6
open Idealize.ShloMosaic.ValueIdx Idealize.ShloMosaic.TcCoe
open scoped BigOperators

instance : Cert.Kernel3Ideal.Facts := Cert.Kernel3Ideal.Gen.facts
instance : Cert.Reference3Ideal.Facts := Cert.Reference3Ideal.Gen.facts
instance : Cert.Pre_finite3.Facts := Cert.Pre_finite3.Gen.facts

section Values
variable (x0 : (⟨S4096x2816, .f32⟩ : BufTy).Contents (Elt Ideal)) (x1 : (⟨S2816x1024, .f32⟩ : BufTy).Contents (Elt Ideal))
  (x2 x3 : (⟨S4096x1024, .f32⟩ : BufTy).Contents (Elt Ideal))
variable (h0 : Real2 (s := S4096x2816) x0) (h1 : Real2 (s := S2816x1024) x1) (h2 : Real2 (s := S4096x1024) x2) (h3 : Real2 (s := S4096x1024) x3)

abbrev errR (r : Fin 4096) (k : Fin 1024) : ℝ :=
  off (fun r k => (x2 (ix2 r k)).toReal) (fun r k => (x3 (ix2 r k)).toReal) (fun r k => (x0 (ix2 r k)).toReal) (fun r k => (x1 (ix2 r k)).toReal) r k

include h0 h1 h2 h3 in
theorem v4_at (r : Fin 4096) (k : Fin 1024) : val_main_v4 (F := Ideal) x0 x1 x2 x3 (ix2 r k) = ((errR x0 x1 x2 x3 r k : ℝ) : EReal) := by
  rw [val_main_v4_apply, val_main_v3_apply, val_main_v2_apply, val_main_v1_apply, val_main_cst_apply, val_main_v0_apply,
    dot_real _ _ (fun q => (x0 (ix2 r q)).toReal) (fun q => (x1 (ix2 q k)).toReal)
      (fun q => by rw [show lidx_main_v0 (ix2 r k) q = ix2 r q from ValueIdx.eq_ix2 _]; exact h0 _)
      (fun q => by rw [show ridx_main_v0 (ix2 r k) q = ix2 q k from ValueIdx.eq_ix2 _]; exact h1 _), h2, h3]
  show _ + Ideal.ofBits .f32 0x3F000000#32 * _ - _ = _
  rw [lit_half, ← EReal.coe_mul, ← EReal.coe_add, ← EReal.coe_sub]
  rfl

include h0 h1 h2 h3 in
theorem v18_at (r : Fin 4096) (k : Fin 1024) : val_main_v18 (F := Ideal) x0 x1 x2 x3 (ix2 r k) = ((errR x0 x1 x2 x3 r k * (1 / 1024) : ℝ) : EReal) := by
  rw [val_main_v18_apply, val_main_v17_apply, val_main_v16_apply, val_main_v14_apply, val_main_v13_apply, val_main_cst_5_apply, val_main_cst_6_apply,
    val_main_v15_apply, val_main_cst_7_apply, val_main_v7_apply, val_main_v6_apply, val_main_cst_0_apply, v4_at x0 x1 x2 x3 h0 h1 h2 h3]
  show Ideal.div (Ideal.ofBits .f32 0x3F000000#32 * Ideal.ofBits .f32 0x3F800000#32) (Ideal.ofBits .f32 0x44800000#32)
    * (Ideal.ofBits .f32 0x40000000#32 * _) = _
  rw [lit_half, lit_one, mul_one, lit_1024, lit_two, div_real _ (by norm_num), ← EReal.coe_mul, ← EReal.coe_mul]
  congr 1
  ring

include h0 h1 h2 h3 in
theorem v26_at (r : Fin 4096) (k : Fin 1024) :
    val_main_v26 (F := Ideal) x0 x1 x2 x3 (ix2 r k) = ((1 / 2 * (errR x0 x1 x2 x3 r k * (1 / 1024)) : ℝ) : EReal) := by
  rw [val_main_v26_apply]
  show val_main_v25 (F := Ideal) x0 x1 x2 x3 (ix2 r k) = _
  rw [val_main_v25_apply, val_main_v24_apply, val_main_cst_9_apply, v18_at x0 x1 x2 x3 h0 h1 h2 h3]
  show Ideal.ofBits .f32 0x3F000000#32 * _ = _
  rw [lit_half, ← EReal.coe_mul]

include h0 h1 h2 h3 in
theorem v23_at (p : Fin 8) (k : Fin 1024) :
    val_main_v23 (F := Ideal) x0 x1 x2 x3 (ix3 p 0 k) = ((∑ s : Fin 512, errR x0 x1 x2 x3 (row8 p s) k * errR x0 x1 x2 x3 (row8 p s) k : ℝ) : EReal) := by
  rw [val_main_v23_apply, val_main_v22_apply]
  show Ideal.ofBits .f32 0x00000000#32 + _ = _
  rw [Ideal.ofBits_zero_f32, zero_add, coe_sum]
  refine Finset.sum_congr rfl fun s _ => ?_
  have hk := k.isLt
  have hs := s.isLt
  have hp := p.isLt
  rw [val_main_v21_apply, val_main_v20_apply, val_main_v19_apply]
  show val_main_v4 (F := Ideal) x0 x1 x2 x3 _ * val_main_v4 (F := Ideal) x0 x1 x2 x3 _ = _
  rw [show idx_main_v21 (idx_main_v22 (idx_main_v23 (ix3 p 0 k)) s) = ix2 (row8 p s) k from ext2 _ _ _
      (by show ((p.val * 512 + s.val) * 1024 + k.val) / 1024 = 512 * p.val + s.val; omega)
      (by show ((p.val * 512 + s.val) * 1024 + k.val) % 1024 = k.val; omega),
    v4_at x0 x1 x2 x3 h0 h1 h2 h3, ← EReal.coe_mul]

end Values

variable (m : (ℓ : Loc Cert.Kernel3Ideal.nD Cert.Kernel3Ideal.τ Cert.Kernel3Ideal.sig) → Buf (Elt Ideal) ℓ)
variable (c : Dev Cert.Kernel3Ideal.nD)

theorem pre (h : Cert.Pre_Kernel3Ideal_finite3 m) : Fine m c := by
  obtain ⟨h0, h1, h2, h3⟩ := h c
  exact ⟨real_of_bound _ _ (fun _ => rfl) h0, real_of_bound _ _ (fun _ => rfl) h1, real_of_bound _ _ (fun _ => rfl) h2,
    real_of_bound _ _ (fun _ => rfl) h3⟩

variable (f : Fine m c)

include f in
theorem eq3 : (Cert.Kernel3Ideal.Gen.dats m 0 c).arrAt 3 Cert.Kernel3Ideal.cfg0.N = val_main_v18 (F := Ideal) (A0 m c) (A1 m c) (A2 m c) (A3 m c) := by
  rw [final3 m c f]
  funext i
  rw [ValueIdx.eq_ix2 i, v18_at _ _ _ _ f.r0 f.r1 f.r2 f.r3]
  rfl

include f in
theorem eq4 : (Cert.Kernel3Ideal.Gen.dats m 0 c).arrAt 4 Cert.Kernel3Ideal.cfg0.N = val_main_v26 (F := Ideal) (A0 m c) (A1 m c) (A2 m c) (A3 m c) := by
  rw [final4 m c f]
  funext i
  rw [ValueIdx.eq_ix2 i, v26_at _ _ _ _ f.r0 f.r1 f.r2 f.r3]
  rfl

include f in
theorem eq5 : (Cert.Kernel3Ideal.Gen.dats m 0 c).arrAt 5 Cert.Kernel3Ideal.cfg0.N = val_main_v23 (F := Ideal) (A0 m c) (A1 m c) (A2 m c) (A3 m c) := by
  rw [final5 m c f]
  funext i
  obtain ⟨p, k, rfl⟩ : ∃ (p : Fin 8) (k : Fin 1024), i = ix3 p 0 k := ⟨i 0, i 2, ext3 _ _ _ _ rfl (Nat.lt_one_iff.mp (i 1).isLt) rfl⟩
  rw [v23_at _ _ _ _ f.r0 f.r1 f.r2 f.r3]
  rfl

/-- The reference runs and leaves its arguments; it has no counters. -/
theorem frame_reference : Cert.quiescent_Reference3Ideal := fun m g _ =>
  (θ_run Cert.Reference3Ideal.defs _ _).mono (fun r h => ⟨fun c => (h c).2.2.2, sem_eq_zero_of_no_sems (by decide) r.2⟩)
    (Cert.Reference3Ideal.Value.run (F := Ideal) m g)

theorem algebraic : Cert.algebraic_Kernel3Ideal_Reference3Ideal_pre_finite3 := by
  intro m g m' g' hp ha
  refine ⟨_, _, _, Cert.Kernel3Ideal.Value.run_blocks (F := Ideal) m g, ?_⟩
  refine (θ_run Cert.Reference3Ideal.defs _ _).mono (fun r h c => ?_) (Cert.Reference3Ideal.Value.run (F := Ideal) m' g')
  have f := pre m c hp
  obtain ⟨a0, a1, a2, a3⟩ := ha c
  obtain ⟨h0, h1, h2, hrest⟩ := h c
  refine ⟨h0.trans ((val_main_v18_eq _ _ _ _).trans ?_), h1.trans ((val_main_v26_eq _ _ _ _).trans ?_), h2.trans ((val_main_v23_eq _ _ _ _).trans ?_), hrest⟩
  · rw [a0, a1, a2, a3]; exact (eq3 m c f).symm
  · rw [a0, a1, a2, a3]; exact (eq4 m c f).symm
  · rw [a0, a1, a2, a3]; exact (eq5 m c f).symm

end Cert.LossClaim

end
-- ==== Proof.FfiKernel.lean ====
/-
  The gradient through the two input projections of the feed-forward layer: what a point of the kernel computes, and the three
  arrays after the run.
-/
module

public import proofs.«01_k».proof.Proof.Rows
public import proofs.«01_k».proof.Proof.Gen.Kernel4Ideal.Value
public import Idealize.ShloMosaic.Lib.ValueLayout

set_option maxRecDepth 16384
set_option backward.isDefEq.respectTransparency false

@[expose] public section

noncomputable section

namespace Cert.Kernel4Ideal.Ffi

open Cert.Kernel4Ideal Cert.Kernel4Ideal.Gen Cert.Common
open Idealize.ShloMosaic hiding ix0 ix1 ix2 ix3 ix4 ix5 ix6
open Idealize.ShloMosaic.ValueIdx Idealize.ShloMosaic.TcCoe
open Idealize.ShloMosaic.Pipeline (Dat)
open scoped BigOperators

/-! ### The payloads on reals -/

section Block
variable (x0 x1 : Vec Ideal S512x2816 .bf16) (w0 w1 : Vec Ideal S2816x1024 .bf16) (x2 x4 : Vec Ideal S512x1024 .f32) (x3 : Vec Ideal S1x1024 .f32)
variable (A B : Fin 512 → Fin 2816 → ℝ) (Wa Wb : Fin 1024 → Fin 2816 → ℝ) (X : Fin 512 → Fin 1024 → ℝ) (G : Fin 1024 → ℝ)
variable (h0 : ∀ r q, x0 (ix2 r q) = (A r q : EReal)) (h1 : ∀ r q, x1 (ix2 r q) = (B r q : EReal))
variable (hw0 : ∀ q k, w0 (ix2 q k) = (Wa k q : EReal)) (hw1 : ∀ q k, w1 (ix2 q k) = (Wb k q : EReal))
variable (h2 : ∀ r k, x2 (ix2 r k) = (X r k : EReal)) (h3 : ∀ k, x3 (ix2 0 k) = (G k : EReal))

theorem mm_gen (x : Vec Ideal S512x2816 .bf16) (w : Vec Ideal S2816x1024 .bf16) (A : Fin 512 → Fin 2816 → ℝ) (W : Fin 1024 → Fin 2816 → ℝ)
    (h : ∀ r q, x (ix2 r q) = (A r q : EReal)) (hw : ∀ q k, w (ix2 q k) = (W k q : EReal)) (r : Fin 512) (k : Fin 1024) :
    matmul (φ₁ := .bf16) (φ₂ := .bf16) dot_S512x2816_S2816x1024_S512x1024_1_0_0_1_n_n none (shapeCast S512x2816 x shapeCasts_S512x2816_S512x2816) w
      (constant (F := Ideal) S512x1024 .f32 0x00000000#32) (ix2 r k) = ((∑ q, A r q * W k q : ℝ) : EReal) := by
  show FloatOps.matmul (DotDims.plain 512 2816 1024) _ _ _ _ _ = _
  rw [Ideal.matmul_plain_apply, dot_real _ _ _ _ (fun q => by rw [shapeCast_self]; exact h r q) (fun q => hw q k)]
  show Ideal.ofBits .f32 0x00000000#32 + _ = _
  rw [Ideal.ofBits_zero_f32, zero_add]

include h0 h1 hw0 hw1 in
theorem pay4_gen (r : Fin 512) (k : Fin 1024) : k0_pay4 x0 w0 x1 w1 (ix2 r k) = ((ct2 A B Wa Wb r k : ℝ) : EReal) := by
  unfold k0_pay4
  rw [addf_apply, mm_gen x0 w0 A Wa h0 hw0, mm_gen x1 w1 B Wb h1 hw1]
  exact (EReal.coe_add _ _).symm

/-- A row's sum. -/
theorem rowsum (v : FVec Ideal S512x1024 .f32) (V : Fin 512 → Fin 1024 → ℝ) (h : ∀ r k, v (ix2 r k) = (V r k : EReal)) (r : Fin 512) :
    shapeCast S512x1 (multiReduction (F := Ideal) .add [1] S512 v 0x00000000#32 reduces_S512x1024_S512 (.inl rfl) rfl) shapeCasts_S512_S512x1 (ix2 r 0)
      = ((∑ k, V r k : ℝ) : EReal) := by
  rw [shapeCast_apply _ shapeCasts_S512_S512x1 _ (ix1 r) (by
      rw [Shape.rowMajor_val_one, Shape.rowMajor_val_two]; show r.val = r.val * 1 + 0; omega),
    Ideal.multiReduction_add_single, coe_sum]
  have key (k : Fin 1024) : v (reduces_S512x1024_S512.lift (ix1 r) k) = (V r k : EReal) := by
    have e : reduces_S512x1024_S512.lift (ix1 r) k = ix2 r k := by
      funext a
      match a with
      | ⟨0, _⟩ => rfl
      | ⟨1, _⟩ => rfl
    rw [e, h]
  exact Finset.sum_congr rfl fun k _ => key k

theorem bcol (v : FVec Ideal S512x1 .f32) (r : Fin 512) (k : Fin 1024) : broadcastTo S512x1024 v broadcasts_S512x1_S512x1024 (ix2 r k) = v (ix2 r 0) :=
  broadcastTo_apply v broadcasts_S512x1_S512x1024 (ix2 r k) (ix2 r 0) (fun a => match a with | ⟨0, _⟩ => rfl | ⟨1, _⟩ => rfl)
theorem brow (v : FVec Ideal S1x1024 .f32) (r : Fin 512) (k : Fin 1024) : broadcastTo S512x1024 v broadcasts_S1x1024_S512x1024 (ix2 r k) = v (ix2 0 k) :=
  broadcastTo_apply v broadcasts_S1x1024_S512x1024 (ix2 r k) (ix2 0 k) (fun a => match a with | ⟨0, _⟩ => rfl | ⟨1, _⟩ => rfl)

include h2 in
theorem pay5_gen (r : Fin 512) : k0_pay5 x2 (ix2 r 0) = ((rsW (X r) : ℝ) : EReal) := by
  have hs := rowsum (mulf x2 x2) (fun r k => X r k * X r k) (fun r k => by rw [mulf_apply, h2]; exact (EReal.coe_mul _ _).symm) r
  show Ideal.rsqrt (Ideal.div (shapeCast S512x1 (multiReduction (F := Ideal) .add [1] S512 (mulf x2 x2) 0x00000000#32 reduces_S512x1024_S512 (.inl rfl) rfl)
    shapeCasts_S512_S512x1 (ix2 r 0)) (Ideal.ofBits .f32 0x44800000#32) + Ideal.ofBits .f32 0x358637BD#32) = _
  rw [hs, lit_1024, div_real _ (by norm_num), lit_eps.1, ← EReal.coe_add, rsqrt_pos (msW_pos (X r))]
  rfl

include h2 in
theorem pay6_gen (r : Fin 512) (k : Fin 1024) : k0_pay6 x2 (ix2 r k) = ((X r k * rsW (X r) : ℝ) : EReal) := by
  unfold k0_pay6
  rw [mulf_apply, bcol, pay5_gen x2 X h2, h2]
  exact (EReal.coe_mul _ _).symm

include h0 h1 hw0 hw1 h2 h3 in
theorem pay7_gen (r : Fin 512) (k : Fin 1024) : k0_pay7 x0 w0 x1 w1 x2 x3 (ix2 r k)
    = ((ct2 A B Wa Wb r k * G k - X r k * rsW (X r) * ((∑ e, ct2 A B Wa Wb r e * G e * (X r e * rsW (X r))) / 1024) : ℝ) : EReal) := by
  have h26 (r : Fin 512) (k : Fin 1024) : mulf (k0_pay4 x0 w0 x1 w1) (broadcastTo S512x1024 x3 broadcasts_S1x1024_S512x1024) (ix2 r k)
      = ((ct2 A B Wa Wb r k * G k : ℝ) : EReal) := by
    rw [mulf_apply, brow, h3, pay4_gen x0 x1 w0 w1 A B Wa Wb h0 h1 hw0 hw1]
    exact (EReal.coe_mul _ _).symm
  have hs := rowsum (mulf (mulf (k0_pay4 x0 w0 x1 w1) (broadcastTo S512x1024 x3 broadcasts_S1x1024_S512x1024)) (k0_pay6 x2))
    (fun r e => ct2 A B Wa Wb r e * G e * (X r e * rsW (X r))) (fun r k => by rw [mulf_apply, h26, pay6_gen x2 X h2]; exact (EReal.coe_mul _ _).symm) r
  unfold k0_pay7
  rw [subf_apply, h26, mulf_apply, bcol, pay6_gen x2 X h2, divf_apply, hs]
  show _ - _ * Ideal.div _ (Ideal.ofBits .f32 0x44800000#32) = _
  rw [lit_1024, div_real _ (by norm_num), ← EReal.coe_mul, ← EReal.coe_sub]

include h0 h1 hw0 hw1 h2 h3 in
theorem pay1_gen (r : Fin 512) (k : Fin 1024) : k0_pay1 x4 (k0_pay5 x2) (k0_pay7 x0 w0 x1 w1 x2 x3) (ix2 r k)
    = x4 (ix2 r k) + ((dxW (X r) (ct2 A B Wa Wb r) G k : ℝ) : EReal) := by
  unfold k0_pay1
  rw [addf_apply, mulf_apply, bcol, pay5_gen x2 X h2, pay7_gen x0 x1 w0 w1 x2 x3 A B Wa Wb X G h0 h1 hw0 hw1 h2 h3]
  exact congrArg (x4 (ix2 r k) + ·) (EReal.coe_mul _ _).symm

include h0 h1 hw0 hw1 h2 h3 in
theorem pay2_gen (r : Fin 512) (k : Fin 1024) : k0_pay2 x4 (k0_pay5 x2) (k0_pay7 x0 w0 x1 w1 x2 x3) (ix2 r k)
    = x4 (ix2 r k) + ((dxW (X r) (ct2 A B Wa Wb r) G k : ℝ) : EReal) := by
  show k0_pay1 x4 (k0_pay5 x2) (k0_pay7 x0 w0 x1 w1 x2 x3) (ix2 r k) * Ideal.ofBits .f32 0x3F800000#32 = _
  rw [lit_one, mul_one, pay1_gen x0 x1 w0 w1 x2 x4 x3 A B Wa Wb X G h0 h1 hw0 hw1 h2 h3]

include h0 h1 hw0 hw1 h2 in
theorem pay3_gen (k : Fin 1024) : k0_pay3 (k0_pay4 x0 w0 x1 w1) (k0_pay6 x2) (ix3 0 0 k)
    = ((∑ s : Fin 512, ct2 A B Wa Wb s k * (X s k * rsW (X s)) : ℝ) : EReal) := by
  unfold k0_pay3
  rw [shapeCast_apply _ shapeCasts_S1x1024_S1x1x1024 _ (ix2 0 k) (by
      rw [Shape.rowMajor_val_two, Shape.rowMajor_val_three]; rfl),
    shapeCast_apply _ shapeCasts_S1024_S1x1024 _ (ix1 k) (by
      rw [Shape.rowMajor_val_one, Shape.rowMajor_val_two]; show k.val = 0 * 1024 + k.val; omega),
    Ideal.multiReduction_add_single, coe_sum]
  have key (s : Fin 512) : mulf (k0_pay4 x0 w0 x1 w1) (k0_pay6 x2) (reduces_S512x1024_S1024.lift (ix1 k) s)
      = ((ct2 A B Wa Wb s k * (X s k * rsW (X s)) : ℝ) : EReal) := by
    have e : reduces_S512x1024_S1024.lift (ix1 k) s = ix2 s k := by
      funext a
      match a with
      | ⟨0, _⟩ => rfl
      | ⟨1, _⟩ => rfl
    rw [e, mulf_apply, pay4_gen x0 x1 w0 w1 A B Wa Wb h0 h1 hw0 hw1, pay6_gen x2 X h2]
    exact (EReal.coe_mul _ _).symm
  exact Finset.sum_congr rfl fun s _ => key s

end Block

variable (m : (ℓ : Loc nD τ sig) → Buf (Elt Ideal) ℓ) (c : Dev nD)

abbrev A0 : Vec Ideal S4096x2816 .f32 := m ((c : Thread nD τ).loc main_arg0)
abbrev A1 : Vec Ideal S4096x2816 .f32 := m ((c : Thread nD τ).loc main_arg1)
abbrev A2 : Vec Ideal S1024x2816 .f32 := m ((c : Thread nD τ).loc main_arg2)
abbrev A3 : Vec Ideal S1024x2816 .f32 := m ((c : Thread nD τ).loc main_arg3)
abbrev A4 : Vec Ideal S4096x1024 .f32 := m ((c : Thread nD τ).loc main_arg4)
abbrev A5 : Vec Ideal S1x1024 .f32 := m ((c : Thread nD τ).loc main_arg5)
abbrev A6 : Vec Ideal S4096x1024 .f32 := m ((c : Thread nD τ).loc main_arg6)

theorem hz : (![0, 0] : Fin 2 → Nat) = fun _ => 0 := funext fun a => by fin_cases a <;> rfl
theorem hz3 : (![0, 0, 0] : Fin 3 → Nat) = fun _ => 0 := funext fun a => by fin_cases a <;> rfl

/-! ### What a point stores -/

section Cases
variable (i : grid0.Coords) (arg1 : Memref sig .tc .vmem S512x2816 .bf16) (harg1 : arg1.IsWhole) (arg2 : Memref sig .tc .vmem S512x2816 .bf16) (harg2 : arg2.IsWhole) (arg5 : Memref sig .tc .vmem S512x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S1x1x1024 .f32) (harg10 : arg10.IsWhole) (arg11 : Memref sig .tc .vmem S2816x1024 .bf16) (harg11 : arg11.IsWhole) (arg12 : Memref sig .tc .vmem S2816x1024 .bf16) (harg12 : arg12.IsWhole)
variable (x0 x1 : Vec Ideal S512x2816 .bf16) (x2 : Vec Ideal S512x1024 .f32) (x3 : Vec Ideal S1x1024 .f32) (x4 : Vec Ideal S512x1024 .f32)
variable (xs0 xs1 : Vec Ideal S2816x1024 .bf16) (fh0 : HbBuf0 (F := Ideal) c hbM0_0) (fh1 : HbBuf0 (F := Ideal) c hbM0_1)

theorem s0A (hc0 : cond0_0 i) : sout0_A_0 c i arg1 harg1 arg2 harg2 arg5 harg5 arg6 harg6 arg7 harg7 arg8 harg8 arg9 harg9 arg10 harg10 arg11 harg11 arg12 harg12 hc0 x0 x1 x2 x3 x4 fh0 fh1 = fh0 := by
  unfold sout0_A_0
  rw [View.read_writes_junk_eq_canon]
  exact canon_whole _

theorem s1A (hc0 : cond0_0 i) : sout0_A_1 c i arg1 harg1 arg2 harg2 arg5 harg5 arg6 harg6 arg7 harg7 arg8 harg8 arg9 harg9 arg10 harg10 arg11 harg11 arg12 harg12 hc0 x0 x1 x2 x3 x4 fh0 fh1 = fh1 := by
  unfold sout0_A_1
  rw [View.read_writes_junk_eq_canon]
  exact canon_whole _

theorem oA5 (hc0 : cond0_0 i) : out0_A_5 c i arg1 harg1 arg2 harg2 arg5 harg5 arg6 harg6 arg7 harg7 arg8 harg8 arg9 harg9 arg10 harg10 arg11 harg11 arg12 harg12 hc0 x0 x1 x2 x3 x4 fh0 fh1
    = k0_pay1 x4 (k0_pay5 x2) (k0_pay7 x0 fh0 x1 fh1 x2 x3) := by
  unfold out0_A_5
  rw [View.read_writes_junk_eq_canon]
  unfold kernelRun0_A
  dsimp only
  sl_unfold_words
  rw [View.canon_unit_zero hz]
  simp only [readCov_all (S := S2816x1024) _ _ hz, canon_whole]
  simp only [View.readAt_eq_ld, harg1.read_unread, harg2.read_unread, harg5.read_unread, harg6.read_unread, harg7.read_unread, View.ld_unit_zero (S := S512x2816) hz, View.ld_unit_zero (S := S512x1024) hz, View.ld_unit_zero (S := S1x1024) hz]
  rfl

theorem oB5 (hc0 : ¬cond0_0 i) : out0_B_5 c i arg1 harg1 arg2 harg2 arg5 harg5 arg6 harg6 arg7 harg7 arg8 harg8 arg9 harg9 arg10 harg10 arg11 harg11 arg12 harg12 hc0 x0 x1 x2 x3 x4 xs0 xs1 fh0 fh1
    = k0_pay1 x4 (k0_pay5 x2) (k0_pay7 x0 xs0 x1 xs1 x2 x3) := by
  unfold out0_B_5
  rw [View.read_writes_junk_eq_canon]
  unfold kernelRun0_B
  dsimp only
  sl_unfold_words
  rw [View.canon_unit_zero hz]
  simp only [View.readAt_eq_ld, harg1.read_unread, harg2.read_unread, harg5.read_unread, harg6.read_unread, harg7.read_unread, harg11.read_unread, harg12.read_unread, View.ld_unit_zero (S := S512x2816) hz, View.ld_unit_zero (S := S512x1024) hz, View.ld_unit_zero (S := S1x1024) hz, View.ld_unit_zero (S := S2816x1024) hz]

theorem oA6 (hc0 : cond0_0 i) : out0_A_6 c i arg1 harg1 arg2 harg2 arg5 harg5 arg6 harg6 arg7 harg7 arg8 harg8 arg9 harg9 arg10 harg10 arg11 harg11 arg12 harg12 hc0 x0 x1 x2 x3 x4 fh0 fh1
    = k0_pay2 x4 (k0_pay5 x2) (k0_pay7 x0 fh0 x1 fh1 x2 x3) := by
  unfold out0_A_6
  rw [View.read_writes_junk_eq_canon]
  unfold kernelRun0_A
  dsimp only
  sl_unfold_words
  rw [View.canon_unit_zero hz]
  simp only [readCov_all (S := S2816x1024) _ _ hz, canon_whole]
  simp only [View.readAt_eq_ld, harg1.read_unread, harg2.read_unread, harg5.read_unread, harg6.read_unread, harg7.read_unread, View.ld_unit_zero (S := S512x2816) hz, View.ld_unit_zero (S := S512x1024) hz, View.ld_unit_zero (S := S1x1024) hz]
  rfl

theorem oB6 (hc0 : ¬cond0_0 i) : out0_B_6 c i arg1 harg1 arg2 harg2 arg5 harg5 arg6 harg6 arg7 harg7 arg8 harg8 arg9 harg9 arg10 harg10 arg11 harg11 arg12 harg12 hc0 x0 x1 x2 x3 x4 xs0 xs1 fh0 fh1
    = k0_pay2 x4 (k0_pay5 x2) (k0_pay7 x0 xs0 x1 xs1 x2 x3) := by
  unfold out0_B_6
  rw [View.read_writes_junk_eq_canon]
  unfold kernelRun0_B
  dsimp only
  sl_unfold_words
  rw [View.canon_unit_zero hz]
  simp only [View.readAt_eq_ld, harg1.read_unread, harg2.read_unread, harg5.read_unread, harg6.read_unread, harg7.read_unread, harg11.read_unread, harg12.read_unread, View.ld_unit_zero (S := S512x2816) hz, View.ld_unit_zero (S := S512x1024) hz, View.ld_unit_zero (S := S1x1024) hz, View.ld_unit_zero (S := S2816x1024) hz]

theorem oA7 (hc0 : cond0_0 i) : out0_A_7 c i arg1 harg1 arg2 harg2 arg5 harg5 arg6 harg6 arg7 harg7 arg8 harg8 arg9 harg9 arg10 harg10 arg11 harg11 arg12 harg12 hc0 x0 x1 x2 x3 x4 fh0 fh1
    = k0_pay3 (k0_pay4 x0 fh0 x1 fh1) (k0_pay6 x2) := by
  unfold out0_A_7
  rw [View.read_writes_junk_eq_canon]
  unfold kernelRun0_A
  dsimp only
  sl_unfold_words
  rw [View.canon_unit_zero hz3]
  simp only [readCov_all (S := S2816x1024) _ _ hz, canon_whole]
  simp only [View.readAt_eq_ld, harg1.read_unread, harg2.read_unread, harg5.read_unread, harg6.read_unread, harg7.read_unread, View.ld_unit_zero (S := S512x2816) hz, View.ld_unit_zero (S := S512x1024) hz, View.ld_unit_zero (S := S1x1024) hz]
  rfl

theorem oB7 (hc0 : ¬cond0_0 i) : out0_B_7 c i arg1 harg1 arg2 harg2 arg5 harg5 arg6 harg6 arg7 harg7 arg8 harg8 arg9 harg9 arg10 harg10 arg11 harg11 arg12 harg12 hc0 x0 x1 x2 x3 x4 xs0 xs1 fh0 fh1
    = k0_pay3 (k0_pay4 x0 xs0 x1 xs1) (k0_pay6 x2) := by
  unfold out0_B_7
  rw [View.read_writes_junk_eq_canon]
  unfold kernelRun0_B
  dsimp only
  sl_unfold_words
  rw [View.canon_unit_zero hz3]
  simp only [View.readAt_eq_ld, harg1.read_unread, harg2.read_unread, harg5.read_unread, harg6.read_unread, harg7.read_unread, harg11.read_unread, harg12.read_unread, View.ld_unit_zero (S := S512x2816) hz, View.ld_unit_zero (S := S512x1024) hz, View.ld_unit_zero (S := S1x1024) hz, View.ld_unit_zero (S := S2816x1024) hz]

end Cases

/-! ### The staged weights, and what every point leaves -/

/-- The two weights as the points read them. -/
abbrev Wt : Vec Ideal S2816x1024 .bf16 := V m c main_v8
abbrev Wu : Vec Ideal S2816x1024 .bf16 := V m c main_v9

theorem scr : ∀ (n : ℕ) (hn : n < cfg0.N), (outsAt0 m c n hn).2.2.2.1 = Wt m c ∧ (outsAt0 m c n hn).2.2.2.2 = Wu m c
  | 0, hn => by
    rw [outsAt0_A m c ⟨0, hn⟩ (Nat.zero_mod _)]
    dsimp only
    rw [s0A, s1A]
    exact ⟨rfl, rfl⟩
  | n + 1, hn => by
    have hN : cfg0.N = 8 := N_0
    rw [outsAt0_B m c ⟨n + 1, hn⟩ (by dsimp only; omega)]
    dsimp only
    unfold sout0_B_0 sout0_B_1
    exact scr n _

theorem pt (t : Fin cfg0.N) :
    (outsAt0 m c t.val t.isLt).1 = k0_pay1 (iblk m c 4 t) (k0_pay5 (iblk m c 2 t)) (k0_pay7 (iblk m c 0 t) (Wt m c) (iblk m c 1 t) (Wu m c) (iblk m c 2 t) (iblk m c 3 t))
    ∧ (outsAt0 m c t.val t.isLt).2.1 = k0_pay2 (iblk m c 4 t) (k0_pay5 (iblk m c 2 t)) (k0_pay7 (iblk m c 0 t) (Wt m c) (iblk m c 1 t) (Wu m c) (iblk m c 2 t) (iblk m c 3 t))
    ∧ (outsAt0 m c t.val t.isLt).2.2.1 = k0_pay3 (k0_pay4 (iblk m c 0 t) (Wt m c) (iblk m c 1 t) (Wu m c)) (k0_pay6 (iblk m c 2 t)) := by
  by_cases h : t.val % 8 = 0
  · rw [outsAt0_A m c t h]
    dsimp only
    rw [oA5, oA6, oA7]
    exact ⟨rfl, rfl, rfl⟩
  · rw [outsAt0_B m c t h]
    dsimp only
    rw [oB5, oB6, oB7, (scr m c _ _).1, (scr m c _ _).2]
    exact ⟨rfl, rfl, rfl⟩

/-! ### The blocks read at an index -/

theorem idxs : ∀ t : Fin cfg0.N, win0_0.index t = ![t.val, 0] ∧ win0_1.index t = ![t.val, 0] ∧ win0_2.index t = ![t.val, 0]
    ∧ win0_3.index t = ![0, 0] ∧ win0_4.index t = ![t.val, 0]
    ∧ win0_5.index t = ![t.val, 0] ∧ win0_6.index t = ![t.val, 0] ∧ win0_7.index t = ![t.val, 0, 0] :=
  (by decide +kernel : ∀ t : Fin grid0.N, _)

/-- A point's stretch. -/
abbrev pb (t : Fin cfg0.N) : Fin 8 := ⟨t.val, t.isLt⟩

theorem V0 : (V m c (Pipeline.arrRef spec0 0) : Vec Ideal S4096x2816 .bf16) = A0 m c := by
  entry_read
  rfl
theorem V1 : (V m c (Pipeline.arrRef spec0 1) : Vec Ideal S4096x2816 .bf16) = A1 m c := by
  entry_read
  rfl
theorem Wt_eq (q : Fin 2816) (k : Fin 1024) : Wt m c (ix2 q k) = A2 m c (ix2 k q) := by
  unfold Wt
  entry_read
  rw [shapeCast_shapeCast]
  exact transpose_ix2_apply _ _ q k
theorem Wu_eq (q : Fin 2816) (k : Fin 1024) : Wu m c (ix2 q k) = A3 m c (ix2 k q) := by
  unfold Wu
  entry_read
  rw [shapeCast_shapeCast]
  exact transpose_ix2_apply _ _ q k

theorem blk0 (t : Fin cfg0.N) (r : Fin 512) (k : Fin 2816) : (iblk m c 0 t : Vec Ideal S512x2816 .bf16) (ix2 r k) = A0 m c (ix2 (row8 (pb t) r) k) := by
  blk_simp [iblk]
  rw [V0]
  refine congrArg (A0 m c) (ext2 _ _ _ ?_ ?_) <;> blk_simp [idxs t]
  show t.val * 512 + r.val = 512 * t.val + r.val; omega
theorem blk1 (t : Fin cfg0.N) (r : Fin 512) (k : Fin 2816) : (iblk m c 1 t : Vec Ideal S512x2816 .bf16) (ix2 r k) = A1 m c (ix2 (row8 (pb t) r) k) := by
  blk_simp [iblk]
  rw [V1]
  refine congrArg (A1 m c) (ext2 _ _ _ ?_ ?_) <;> blk_simp [idxs t]
  show t.val * 512 + r.val = 512 * t.val + r.val; omega
theorem blk2 (t : Fin cfg0.N) (r : Fin 512) (k : Fin 1024) : (iblk m c 2 t : Vec Ideal S512x1024 .f32) (ix2 r k) = A4 m c (ix2 (row8 (pb t) r) k) := by
  blk_simp [iblk]
  rw [V_main_arg4]
  refine congrArg (A4 m c) (ext2 _ _ _ ?_ ?_) <;> blk_simp [idxs t]
  show t.val * 512 + r.val = 512 * t.val + r.val; omega
theorem blk4 (t : Fin cfg0.N) (r : Fin 512) (k : Fin 1024) : (iblk m c 4 t : Vec Ideal S512x1024 .f32) (ix2 r k) = A6 m c (ix2 (row8 (pb t) r) k) := by
  blk_simp [iblk]
  rw [V_main_arg6]
  refine congrArg (A6 m c) (ext2 _ _ _ ?_ ?_) <;> blk_simp [idxs t]
  show t.val * 512 + r.val = 512 * t.val + r.val; omega
theorem blk3 (t : Fin cfg0.N) (k : Fin 1024) : (iblk m c 3 t : Vec Ideal S1x1024 .f32) (ix2 0 k) = A5 m c (ix2 0 k) := by
  blk_simp [iblk]
  rw [V_main_arg5]
  refine congrArg (A5 m c) (ext2 _ _ _ ?_ ?_) <;> blk_simp [idxs t]
  rfl

/-! ### The arrays -/

/-- The arguments hold reals, but for the gradient that is only added. -/
structure Fine : Prop where
  r0 : Real2 (A0 m c)
  r1 : Real2 (A1 m c)
  r2 : Real2 (A2 m c)
  r3 : Real2 (A3 m c)
  r4 : Real2 (A4 m c)
  r5 : Real2 (A5 m c)

/-- The cotangent of a row's normalised frame, of the arguments; the frame itself; the gain. -/
abbrev cta (r : Fin 4096) (k : Fin 1024) : ℝ :=
  ct2 (fun r q => (A0 m c (ix2 r q)).toReal) (fun r q => (A1 m c (ix2 r q)).toReal) (fun k q => (A2 m c (ix2 k q)).toReal)
    (fun k q => (A3 m c (ix2 k q)).toReal) r k
abbrev frm (r : Fin 4096) (k : Fin 1024) : ℝ := (A4 m c (ix2 r k)).toReal
abbrev gain (k : Fin 1024) : ℝ := (A5 m c (ix2 0 k)).toReal

variable (f : Fine m c)

theorem emb5 (t : Fin cfg0.N) (r : Fin 512) (k : Fin 1024) : (win0_5.blk t).view.emb (ix2 r k) = ix2 (row8 (pb t) r) k :=
  ext2 _ _ _ (by blk_simp [idxs t]; show t.val * 512 + r.val = 512 * t.val + r.val; omega) (by blk_simp [idxs t])

include f in
theorem final5 : (dats m 0 c).arrAt 5 cfg0.N
    = fun i => A6 m c (ix2 (i 0) (i 1)) + ((dxW (frm m c (i 0)) (cta m c (i 0)) (gain m c) (i 1) : ℝ) : EReal) := by
  refine (dats m 0 c).arrAt_eq_of_covers 5 _ (by decide +kernel) fun t hf y => ?_
  blk_simp
  rw [after0_5, (pt m c t).1]
  obtain ⟨r, k, rfl⟩ : ∃ (r : Fin 512) (k : Fin 1024), y = ix2 r k := ⟨y 0, y 1, ValueIdx.eq_ix2 y⟩
  rw [emb5]
  refine (pay1_gen (iblk m c 0 t) (iblk m c 1 t) (Wt m c) (Wu m c) (iblk m c 2 t) (iblk m c 4 t) (iblk m c 3 t)
    (fun r q => (A0 m c (ix2 (row8 (pb t) r) q)).toReal) (fun r q => (A1 m c (ix2 (row8 (pb t) r) q)).toReal) (fun k q => (A2 m c (ix2 k q)).toReal) (fun k q => (A3 m c (ix2 k q)).toReal) (fun r k => frm m c (row8 (pb t) r) k) (gain m c)
    (fun r q => by rw [blk0]; exact f.r0 _) (fun r q => by rw [blk1]; exact f.r1 _) (fun q k => by rw [Wt_eq]; exact f.r2 _) (fun q k => by rw [Wu_eq]; exact f.r3 _) (fun r k => by rw [blk2]; exact f.r4 _)
    (fun k => by rw [blk3]; exact f.r5 _) r k).trans ?_
  rw [blk4]
  rfl

theorem emb6 (t : Fin cfg0.N) (r : Fin 512) (k : Fin 1024) : (win0_6.blk t).view.emb (ix2 r k) = ix2 (row8 (pb t) r) k :=
  ext2 _ _ _ (by blk_simp [idxs t]; show t.val * 512 + r.val = 512 * t.val + r.val; omega) (by blk_simp [idxs t])

include f in
theorem final6 : (dats m 0 c).arrAt 6 cfg0.N
    = fun i => A6 m c (ix2 (i 0) (i 1)) + ((dxW (frm m c (i 0)) (cta m c (i 0)) (gain m c) (i 1) : ℝ) : EReal) := by
  refine (dats m 0 c).arrAt_eq_of_covers 6 _ (by decide +kernel) fun t hf y => ?_
  blk_simp
  rw [after0_6, (pt m c t).2.1]
  obtain ⟨r, k, rfl⟩ : ∃ (r : Fin 512) (k : Fin 1024), y = ix2 r k := ⟨y 0, y 1, ValueIdx.eq_ix2 y⟩
  rw [emb6]
  refine (pay2_gen (iblk m c 0 t) (iblk m c 1 t) (Wt m c) (Wu m c) (iblk m c 2 t) (iblk m c 4 t) (iblk m c 3 t)
    (fun r q => (A0 m c (ix2 (row8 (pb t) r) q)).toReal) (fun r q => (A1 m c (ix2 (row8 (pb t) r) q)).toReal) (fun k q => (A2 m c (ix2 k q)).toReal) (fun k q => (A3 m c (ix2 k q)).toReal) (fun r k => frm m c (row8 (pb t) r) k) (gain m c)
    (fun r q => by rw [blk0]; exact f.r0 _) (fun r q => by rw [blk1]; exact f.r1 _) (fun q k => by rw [Wt_eq]; exact f.r2 _) (fun q k => by rw [Wu_eq]; exact f.r3 _) (fun r k => by rw [blk2]; exact f.r4 _)
    (fun k => by rw [blk3]; exact f.r5 _) r k).trans ?_
  rw [blk4]
  rfl

theorem emb7 (t : Fin cfg0.N) (k : Fin 1024) : (win0_7.blk t).view.emb (ix3 0 0 k) = ix3 (pb t) 0 k :=
  ext3 _ _ _ _ (by blk_simp [idxs t]) (by blk_simp [idxs t]; rfl) (by blk_simp [idxs t])

include f in
theorem final7 : (dats m 0 c).arrAt 7 cfg0.N
    = fun i => ((∑ s : Fin 512, cta m c (row8 (i 0) s) (i 2) * (frm m c (row8 (i 0) s) (i 2) * rsW (frm m c (row8 (i 0) s))) : ℝ) : EReal) := by
  refine (dats m 0 c).arrAt_eq_of_covers 7 _ (by decide +kernel) fun t hf y => ?_
  blk_simp
  rw [after0_7, (pt m c t).2.2]
  obtain ⟨k, rfl⟩ : ∃ (k : Fin 1024), y = ix3 0 0 k := ⟨y 2, ext3 _ _ _ _ (Nat.lt_one_iff.mp (y 0).isLt) (Nat.lt_one_iff.mp (y 1).isLt) rfl⟩
  rw [emb7]
  exact pay3_gen (iblk m c 0 t) (iblk m c 1 t) (Wt m c) (Wu m c) (iblk m c 2 t)
    (fun r q => (A0 m c (ix2 (row8 (pb t) r) q)).toReal) (fun r q => (A1 m c (ix2 (row8 (pb t) r) q)).toReal) (fun k q => (A2 m c (ix2 k q)).toReal) (fun k q => (A3 m c (ix2 k q)).toReal) (fun r k => frm m c (row8 (pb t) r) k)
    (fun r q => by rw [blk0]; exact f.r0 _) (fun r q => by rw [blk1]; exact f.r1 _) (fun q k => by rw [Wt_eq]; exact f.r2 _) (fun q k => by rw [Wu_eq]; exact f.r3 _) (fun r k => by rw [blk2]; exact f.r4 _) k

end Cert.Kernel4Ideal.Ffi

end

end
-- ==== Proof.FfiClaim.lean ====
/-
  The gradient through the two input projections of the feed-forward layer: the plain program's arrays, and that both programs'
  arrays are the same arrays.
-/
module

public import proofs.«01_k».proof.Defs
public import proofs.«01_k».proof.Proof.FfiKernel
public import proofs.«01_k».proof.Proof.Gen.Reference4Ideal.Run
public import proofs.«01_k».proof.Proof.Gen.Reference4Ideal.Read
public import proofs.«01_k».proof.Proof.Gen.Pre_finite4

set_option maxRecDepth 16384
set_option backward.isDefEq.respectTransparency false

@[expose] public section

noncomputable section

namespace Cert.FfiClaim

open Cert.Common Cert.Kernel4Ideal.Ffi
open Cert.Reference4Ideal Cert.Reference4Ideal.Read
open Idealize.ShloMosaic hiding ix0 ix1 ix2 ix3 ix4 ix5 ix6
open Idealize.ShloMosaic.ValueIdx Idealize.ShloMosaic.TcCoe
open scoped BigOperators

instance : Cert.Kernel4Ideal.Facts := Cert.Kernel4Ideal.Gen.facts
instance : Cert.Reference4Ideal.Facts := Cert.Reference4Ideal.Gen.facts
instance : Cert.Pre_finite4.Facts := Cert.Pre_finite4.Gen.facts

section Values
variable (x0 x1 : (⟨S4096x2816, .f32⟩ : BufTy).Contents (Elt Ideal)) (x2 x3 : (⟨S1024x2816, .f32⟩ : BufTy).Contents (Elt Ideal))
  (x4 : (⟨S4096x1024, .f32⟩ : BufTy).Contents (Elt Ideal)) (x5 : (⟨S1x1024, .f32⟩ : BufTy).Contents (Elt Ideal))
  (x6 : (⟨S4096x1024, .f32⟩ : BufTy).Contents (Elt Ideal))
variable (h0 : Real2 (s := S4096x2816) x0) (h1 : Real2 (s := S4096x2816) x1) (h2 : Real2 (s := S1024x2816) x2) (h3 : Real2 (s := S1024x2816) x3)
  (h4 : Real2 (s := S4096x1024) x4) (h5 : Real2 (s := S1x1024) x5)

/-- The frames, the gain and the cotangent, of the arguments. -/
abbrev X (r : Fin 4096) (k : Fin 1024) : ℝ := (x4 (ix2 r k)).toReal
abbrev G (k : Fin 1024) : ℝ := (x5 (ix2 0 k)).toReal
abbrev C (r : Fin 4096) (k : Fin 1024) : ℝ :=
  ct2 (fun r q => (x0 (ix2 r q)).toReal) (fun r q => (x1 (ix2 r q)).toReal) (fun k q => (x2 (ix2 k q)).toReal) (fun k q => (x3 (ix2 k q)).toReal) r k

include h4 in
theorem v7_at (r : Fin 4096) : val_main_v7 (F := Ideal) x4 (ix2 r 0) = (((∑ e, X x4 r e * X x4 r e) / 1024 + eps : ℝ) : EReal) := by
  have hs : val_main_v2 (F := Ideal) x4 (ix1 r) = ((∑ e, X x4 r e * X x4 r e : ℝ) : EReal) := by
    rw [val_main_v2_apply]
    show Ideal.ofBits .f32 0x00000000#32 + _ = _
    rw [Ideal.ofBits_zero_f32, zero_add, coe_sum]
    refine Finset.sum_congr rfl fun k _ => ?_
    rw [show idx_main_v2 (ix1 r) k = ix2 r k from ValueIdx.eq_ix2 _]
    show x4 _ * x4 _ = _
    rw [h4, ← EReal.coe_mul]
  rw [val_main_v7_apply, val_main_v5_apply, val_main_v3_apply, val_main_v4_apply, val_main_v6_apply,
    show idx_main_v3 (ix2 r 0) = ix1 r from ValueIdx.eq_ix1 _, hs]
  show Ideal.div _ (Ideal.ofBits .f32 0x44800000#32) + Ideal.ofBits .f32 0x358637BD#32 = _
  rw [lit_1024, lit_eps.1, div_real _ (by norm_num), EReal.coe_add]

include h4 in
theorem v8_at (r : Fin 4096) : val_main_v8 (F := Ideal) x4 (ix2 r 0) = ((rsW (X x4 r) : ℝ) : EReal) := by
  rw [val_main_v8_apply, v7_at x4 h4]
  rw [Ideal.hostUnary_rsqrt_def, rsqrt_pos (msW_pos _)]
  rfl

include h0 h1 h2 h3 in
theorem v22_at (r : Fin 4096) (k : Fin 1024) : val_main_v22 (F := Ideal) x0 x1 x2 x3 (ix2 r k) = ((C x0 x1 x2 x3 r k : ℝ) : EReal) := by
  rw [val_main_v22_apply, val_main_v20_apply, val_main_v21_apply,
    dot_real _ _ (fun q => (x1 (ix2 r q)).toReal) (fun q => (x3 (ix2 k q)).toReal)
      (fun q => by rw [show lidx_main_v20 (ix2 r k) q = ix2 r q from ValueIdx.eq_ix2 _]; exact h1 _)
      (fun q => by rw [show ridx_main_v20 (ix2 r k) q = ix2 k q from ValueIdx.eq_ix2 _]; exact h3 _),
    dot_real _ _ (fun q => (x0 (ix2 r q)).toReal) (fun q => (x2 (ix2 k q)).toReal)
      (fun q => by rw [show lidx_main_v21 (ix2 r k) q = ix2 r q from ValueIdx.eq_ix2 _]; exact h0 _)
      (fun q => by rw [show ridx_main_v21 (ix2 r k) q = ix2 k q from ValueIdx.eq_ix2 _]; exact h2 _)]
  exact (EReal.coe_add _ _).symm.trans (congrArg _ (add_comm _ _))

include h0 h1 h2 h3 in
/-- The cotangent of a stretch's normalised frames. -/
theorem v23_at (p : Fin 8) (s : Fin 512) (k : Fin 1024) :
    val_main_v23 (F := Ideal) x0 x1 x2 x3 (ix3 p s k) = ((C x0 x1 x2 x3 (row8 p s) k : ℝ) : EReal) := by
  have hk := k.isLt
  have hs := s.isLt
  have hp := p.isLt
  rw [val_main_v23_apply, show idx_main_v23 (ix3 p s k) = ix2 (row8 p s) k from ext2 _ _ _
      (by show ((p.val * 512 + s.val) * 1024 + k.val) / 1024 = 512 * p.val + s.val; omega)
      (by show ((p.val * 512 + s.val) * 1024 + k.val) % 1024 = k.val; omega), v22_at x0 x1 x2 x3 h0 h1 h2 h3]

include h0 h1 h2 h3 h5 in
theorem v29_at (r : Fin 4096) (k : Fin 1024) :
    val_main_v29 (F := Ideal) x0 x1 x2 x3 x5 (ix2 r k) = ((C x0 x1 x2 x3 r k * G x5 k : ℝ) : EReal) := by
  have hk := k.isLt
  have hr := r.isLt
  have h8 : r.val / 512 < 8 := by omega
  have hrow : row8 ⟨r.val / 512, h8⟩ ⟨r.val % 512, Nat.mod_lt _ (by decide)⟩ = r := Fin.ext (by show 512 * (r.val / 512) + r.val % 512 = r.val; omega)
  rw [val_main_v29_apply, show idx_main_v29 (ix2 r k) = ix3 ⟨r.val / 512, h8⟩ ⟨r.val % 512, Nat.mod_lt _ (by decide)⟩ k from ext3 _ _ _ _
      (by show (r.val * 1024 + k.val) / 524288 = r.val / 512; omega)
      (by show (r.val * 1024 + k.val) / 1024 % 512 = r.val % 512; omega)
      (by show (r.val * 1024 + k.val) % 1024 = k.val; omega),
    val_main_v28_apply, v23_at x0 x1 x2 x3 h0 h1 h2 h3, hrow, val_main_v27_apply, val_main_v0_apply,
    show idx_main_v0 (idx_main_v27 (ix3 ⟨r.val / 512, h8⟩ ⟨r.val % 512, Nat.mod_lt _ (by decide)⟩ k)) = ix2 0 k from ValueIdx.eq_ix2 _, h5]
  exact (EReal.coe_mul _ _).symm

include h0 h1 h2 h3 h4 h5 in
theorem v43_at (r : Fin 4096) (k : Fin 1024) :
    val_main_v43 (F := Ideal) x0 x1 x2 x3 x4 x5 (ix2 r k) = ((dxW (X x4 r) (C x0 x1 x2 x3 r) (G x5) k : ℝ) : EReal) := by
  have h8 := v8_at x4 h4 r
  have h31 : val_main_v31 (F := Ideal) x0 x1 x2 x3 x4 x5 (ix1 r) = ((∑ e, X x4 r e * (C x0 x1 x2 x3 r e * G x5 e) : ℝ) : EReal) := by
    rw [val_main_v31_apply]
    show Ideal.ofBits .f32 0x00000000#32 + _ = _
    rw [Ideal.ofBits_zero_f32, zero_add, coe_sum]
    refine Finset.sum_congr rfl fun e _ => ?_
    rw [show idx_main_v31 (ix1 r) e = ix2 r e from ValueIdx.eq_ix2 _, val_main_v30_apply, v29_at x0 x1 x2 x3 x5 h0 h1 h2 h3 h5, h4]
    exact (EReal.coe_mul _ _).symm
  have h11 : val_main_v11 (F := Ideal) x4 (ix2 r 0)
      = ((-(1 / 2) * (rsW (X x4 r) / ((∑ e, X x4 r e * X x4 r e) / 1024 + eps)) : ℝ) : EReal) := by
    rw [val_main_v11_apply, val_main_v9_apply, val_main_v10_apply, h8, v7_at x4 h4]
    show Ideal.ofBits .f32 0xBF000000#32 * Ideal.div _ _ = _
    rw [lit_neg_half, div_real _ (msW_pos _).ne', EReal.coe_mul]
  have h38 : val_main_v38 (F := Ideal) x0 x1 x2 x3 x4 x5 (ix1 r)
      = (((∑ e, X x4 r e * (C x0 x1 x2 x3 r e * G x5 e)) * (-(1 / 2) * (rsW (X x4 r) / ((∑ e, X x4 r e * X x4 r e) / 1024 + eps))) / 1024 : ℝ) : EReal) := by
    rw [val_main_v38_apply]
    show Ideal.ofBits .f32 0x00000000#32 + _ = _
    rw [Ideal.ofBits_zero_f32, zero_add, Fin.sum_univ_one, show idx_main_v38 (ix1 r) 0 = ix2 r 0 from ValueIdx.eq_ix2 _,
      val_main_v37_apply, val_main_v35_apply, val_main_v36_apply, val_main_v32_apply, h11,
      show idx_main_v32 (ix2 r 0) = ix1 r from ext1 _ _ (by show r.val * 1 + 0 = r.val; omega), h31]
    show Ideal.div (_ * _) (Ideal.ofBits .f32 0x44800000#32) = _
    rw [lit_1024, ← EReal.coe_mul, div_real _ (by norm_num)]
  have hW : val_main_v39 (F := Ideal) x0 x1 x2 x3 x4 x5 (ix2 r k) = val_main_v38 (F := Ideal) x0 x1 x2 x3 x4 x5 (ix1 r) := by
    rw [val_main_v39_apply, show idx_main_v39 (ix2 r k) = ix1 r from ValueIdx.eq_ix1 _]
  rw [val_main_v43_apply, val_main_v41_apply, val_main_v42_apply, val_main_v40_apply, val_main_v34_apply, val_main_v33_apply, hW, h38,
    v29_at x0 x1 x2 x3 x5 h0 h1 h2 h3 h5, h4, show idx_main_v33 (ix2 r k) = ix2 r 0 from ValueIdx.eq_ix2 _, h8]
  show _ * _ + _ * _ + _ * _ = _
  rw [← dxW_chain, ← EReal.coe_mul, ← EReal.coe_mul, ← EReal.coe_mul, ← EReal.coe_add, ← EReal.coe_add]

include h0 h1 h2 h3 h4 h5 in
theorem v44_at (r : Fin 4096) (k : Fin 1024) : val_main_v44 (F := Ideal) x0 x1 x2 x3 x4 x5 x6 (ix2 r k)
    = x6 (ix2 r k) + ((dxW (X x4 r) (C x0 x1 x2 x3 r) (G x5) k : ℝ) : EReal) := by
  rw [val_main_v44_apply, v43_at x0 x1 x2 x3 x4 x5 h0 h1 h2 h3 h4 h5]
  rfl

include h0 h1 h2 h3 h4 in
theorem v26_at (p : Fin 8) (k : Fin 1024) : val_main_v26 (F := Ideal) x0 x1 x2 x3 x4 (ix3 p 0 k)
    = ((∑ s : Fin 512, C x0 x1 x2 x3 (row8 p s) k * (X x4 (row8 p s) k * rsW (X x4 (row8 p s))) : ℝ) : EReal) := by
  have hk := k.isLt
  have hp := p.isLt
  rw [val_main_v26_apply, show idx_main_v26 (ix3 p 0 k) = ix2 p k from ext2 _ _ _
      (by show ((p.val * 1 + 0) * 1024 + k.val) / 1024 = p.val; omega)
      (by show ((p.val * 1 + 0) * 1024 + k.val) % 1024 = k.val; omega), val_main_v25_apply]
  show Ideal.ofBits .f32 0x00000000#32 + _ = _
  rw [Ideal.ofBits_zero_f32, zero_add, coe_sum]
  refine Finset.sum_congr rfl fun s _ => ?_
  have hs := s.isLt
  rw [show idx_main_v25 (ix2 p k) s = ix3 p s k from ValueIdx.eq_ix3 _, val_main_v24_apply, v23_at x0 x1 x2 x3 h0 h1 h2 h3, val_main_v14_apply,
    show idx_main_v14 (ix3 p s k) = ix2 (row8 p s) k from ext2 _ _ _
      (by show ((p.val * 512 + s.val) * 1024 + k.val) / 1024 = 512 * p.val + s.val; omega)
      (by show ((p.val * 512 + s.val) * 1024 + k.val) % 1024 = k.val; omega),
    val_main_v13_apply, val_main_v12_apply, show idx_main_v12 (ix2 (row8 p s) k) = ix2 (row8 p s) 0 from ValueIdx.eq_ix2 _, v8_at x4 h4, h4]
  show _ * _ * _ = _
  rw [← EReal.coe_mul, ← EReal.coe_mul, mul_comm]

end Values

variable (m : (ℓ : Loc Cert.Kernel4Ideal.nD Cert.Kernel4Ideal.τ Cert.Kernel4Ideal.sig) → Buf (Elt Ideal) ℓ)
variable (c : Dev Cert.Kernel4Ideal.nD)

theorem pre (h : Cert.Pre_Kernel4Ideal_finite4 m) : Fine m c := by
  obtain ⟨h0, h1, h2, h3, h4, h5⟩ := h c
  exact ⟨real_of_bound _ _ (fun _ => rfl) h0, real_of_bound _ _ (fun _ => rfl) h1, real_of_bound _ _ (fun _ => rfl) h2,
    real_of_bound _ _ (fun _ => rfl) h3, real_of_bound _ _ (fun _ => rfl) h4, real_of_bound _ _ (fun _ => rfl) h5⟩

variable (f : Fine m c)

include f in
theorem eq5 : (Cert.Kernel4Ideal.Gen.dats m 0 c).arrAt 5 Cert.Kernel4Ideal.cfg0.N
    = val_main_v44 (F := Ideal) (A0 m c) (A1 m c) (A2 m c) (A3 m c) (A4 m c) (A5 m c) (A6 m c) := by
  rw [final5 m c f]
  funext i
  rw [ValueIdx.eq_ix2 i, v44_at _ _ _ _ _ _ _ f.r0 f.r1 f.r2 f.r3 f.r4 f.r5]
  rfl

include f in
theorem eq6 : (Cert.Kernel4Ideal.Gen.dats m 0 c).arrAt 6 Cert.Kernel4Ideal.cfg0.N
    = val_main_v45 (F := Ideal) (A0 m c) (A1 m c) (A2 m c) (A3 m c) (A4 m c) (A5 m c) (A6 m c) := by
  rw [final6 m c f]
  funext i
  rw [ValueIdx.eq_ix2 i, val_main_v45_apply]
  exact (v44_at _ _ _ _ _ _ _ f.r0 f.r1 f.r2 f.r3 f.r4 f.r5 _ _).symm

include f in
theorem eq7 : (Cert.Kernel4Ideal.Gen.dats m 0 c).arrAt 7 Cert.Kernel4Ideal.cfg0.N
    = val_main_v26 (F := Ideal) (A0 m c) (A1 m c) (A2 m c) (A3 m c) (A4 m c) := by
  rw [final7 m c f]
  funext i
  obtain ⟨p, k, rfl⟩ : ∃ (p : Fin 8) (k : Fin 1024), i = ix3 p 0 k := ⟨i 0, i 2, ext3 _ _ _ _ rfl (Nat.lt_one_iff.mp (i 1).isLt) rfl⟩
  rw [v26_at _ _ _ _ _ f.r0 f.r1 f.r2 f.r3 f.r4]
  rfl

/-- The reference runs and leaves its arguments; it has no counters. -/
theorem frame_reference : Cert.quiescent_Reference4Ideal := fun m g _ =>
  (θ_run Cert.Reference4Ideal.defs _ _).mono (fun r h => ⟨fun c => (h c).2.2.2, sem_eq_zero_of_no_sems (by decide) r.2⟩)
    (Cert.Reference4Ideal.Value.run (F := Ideal) m g)

theorem algebraic : Cert.algebraic_Kernel4Ideal_Reference4Ideal_pre_finite4 := by
  intro m g m' g' hp ha
  refine ⟨_, _, _, Cert.Kernel4Ideal.Value.run_blocks (F := Ideal) m g, ?_⟩
  refine (θ_run Cert.Reference4Ideal.defs _ _).mono (fun r h c => ?_) (Cert.Reference4Ideal.Value.run (F := Ideal) m' g')
  have f := pre m c hp
  obtain ⟨a0, a1, a2, a3, a4, a5, a6⟩ := ha c
  obtain ⟨h0, h1, h2, hrest⟩ := h c
  refine ⟨h0.trans ((val_main_v44_eq m' c).trans ?_), h1.trans ((val_main_v45_eq m' c).trans ?_), h2.trans ((val_main_v26_eq _ _ _ _ _).trans ?_), hrest⟩
  · rw [a0, a1, a2, a3, a4, a5, a6]; exact (eq5 m c f).symm
  · rw [a0, a1, a2, a3, a4, a5, a6]; exact (eq6 m c f).symm
  · rw [a0, a1, a2, a3, a4]; exact (eq7 m c f).symm

end Cert.FfiClaim

end
-- ==== Proof.ActKernel.lean ====
/-
  The gradient through the gate of the feed-forward layer: what a point of the kernel computes, and the two arrays after the run.
-/
module

public import proofs.«01_k».proof.Proof.Rows
public import proofs.«01_k».proof.Proof.Gen.Kernel5Ideal.Value
public import proofs.«01_k».proof.Proof.Gen.Reference5Ideal.Read

set_option maxRecDepth 16384
set_option backward.isDefEq.respectTransparency false

@[expose] public section

noncomputable section

namespace Cert.Kernel5Ideal.Act

open Cert.Kernel5Ideal Cert.Kernel5Ideal.Gen Cert.Common
open Idealize.ShloMosaic hiding ix0 ix1 ix2 ix3 ix4 ix5 ix6
open Idealize.ShloMosaic.ValueIdx Idealize.ShloMosaic.TcCoe
open Idealize.ShloMosaic.Pipeline (Dat)
open scoped BigOperators

/-! ### What a point stores, column block by column block -/

/-- The block a point leaves: the cotangent's product with the weights, times a factor. -/
def gOut (x : Vec Ideal S512x1024 .bf16) (w : Vec Ideal S2816x1024 .bf16) (v : Vec Ideal S512x2816 .bf16) (r : Fin 512) (k : Fin 2816) : EReal :=
  (∑ q : Fin 1024, x (ix2 r q) * w (ix2 k q)) * v (ix2 r k)

section Tiles
variable (x : Vec Ideal S512x1024 .bf16) (w : Vec Ideal S2816x1024 .bf16) (v : Vec Ideal S512x2816 .bf16)

theorem tile768 (o : ℕ) (inw : ∀ a, (![o, 0] : Fin 2 → ℕ) a + S768x1024.size a ≤ S2816x1024.size a) (inv : ∀ a, (![0, o] : Fin 2 → ℕ) a + S512x768.size a ≤ S512x2816.size a)
    (r : Fin 512) (j : Fin 768) {r' : Fin 512} (hr : r'.val = r.val) (k : Fin 2816) (hk : k.val = o + j.val) :
    matmul (φ₁ := .bf16) (φ₂ := .bf16) dot_S512x1024_S768x1024_S512x768_1_1_0_0_n_n none (shapeCast S512x1024 x shapeCasts_S512x1024_S512x1024)
        (View.ld (Val := Elt Ideal) (e' := .bf16) w (Rect.unit (s := S2816x1024) ![o, 0] S768x1024.size inw)) (constant (F := Ideal) S512x768 .f32 0x00000000#32) (ix2 r j)
      * (shapeCast S512x768 (View.ld (Val := Elt Ideal) (e' := .bf16) v (Rect.unit (s := S512x2816) ![0, o] S512x768.size inv)) shapeCasts_S512x768_S512x768 (ix2 r j) : EReal) = gOut x w v r' k := by
  obtain rfl : r' = r := Fin.ext hr
  rw [shapeCast_self]
  have hm : matmul (φ₁ := .bf16) (φ₂ := .bf16) dot_S512x1024_S768x1024_S512x768_1_1_0_0_n_n none x
        (View.ld (Val := Elt Ideal) (e' := .bf16) w (Rect.unit (s := S2816x1024) ![o, 0] S768x1024.size inw)) (constant (F := Ideal) S512x768 .f32 0x00000000#32) (ix2 r' j)
      = ∑ q : Fin 1024, x (ix2 r' q) * w (ix2 k q) := by
    show FloatOps.matmul (DotDims.transposedRhs 512 1024 768) _ _ _ _ _ = _
    rw [Ideal.matmul_transposedRhs_apply]
    show Ideal.ofBits .f32 0x00000000#32 + _ = _
    rw [Ideal.ofBits_zero_f32, zero_add]
    refine Finset.sum_congr rfl fun q _ => congrArg (x (ix2 r' q) * ·) ?_
    exact View.ld_unit_apply_of w _ _ inw (ix2 j q) (ix2 k q) (fun a => match a with | ⟨0, _⟩ => hk | ⟨1, _⟩ => (Nat.zero_add _).symm)
  have hv := (congrFun (shapeCast_self (α := Elt Ideal .bf16) (View.ld (Val := Elt Ideal) (e' := .bf16) v (Rect.unit (s := S512x2816) ![0, o] S512x768.size inv)) shapeCasts_S512x768_S512x768) (ix2 r' j)).trans (View.ld_unit_apply_of v _ _ inv (ix2 r' j) (ix2 r' k) (fun a => match a with | ⟨0, _⟩ => (Nat.zero_add _).symm | ⟨1, _⟩ => hk))
  exact congrArg₂ (fun a b : EReal => a * b) hm hv

theorem tile512 (o : ℕ) (inw : ∀ a, (![o, 0] : Fin 2 → ℕ) a + S512x1024.size a ≤ S2816x1024.size a) (inv : ∀ a, (![0, o] : Fin 2 → ℕ) a + S512x512.size a ≤ S512x2816.size a)
    (r : Fin 512) (j : Fin 512) {r' : Fin 512} (hr : r'.val = r.val) (k : Fin 2816) (hk : k.val = o + j.val) :
    matmul (φ₁ := .bf16) (φ₂ := .bf16) dot_S512x1024_S512x1024_S512x512_1_1_0_0_n_n none (shapeCast S512x1024 x shapeCasts_S512x1024_S512x1024)
        (View.ld (Val := Elt Ideal) (e' := .bf16) w (Rect.unit (s := S2816x1024) ![o, 0] S512x1024.size inw)) (constant (F := Ideal) S512x512 .f32 0x00000000#32) (ix2 r j)
      * (shapeCast S512x512 (View.ld (Val := Elt Ideal) (e' := .bf16) v (Rect.unit (s := S512x2816) ![0, o] S512x512.size inv)) shapeCasts_S512x512_S512x512 (ix2 r j) : EReal) = gOut x w v r' k := by
  obtain rfl : r' = r := Fin.ext hr
  rw [shapeCast_self]
  have hm : matmul (φ₁ := .bf16) (φ₂ := .bf16) dot_S512x1024_S512x1024_S512x512_1_1_0_0_n_n none x
        (View.ld (Val := Elt Ideal) (e' := .bf16) w (Rect.unit (s := S2816x1024) ![o, 0] S512x1024.size inw)) (constant (F := Ideal) S512x512 .f32 0x00000000#32) (ix2 r' j)
      = ∑ q : Fin 1024, x (ix2 r' q) * w (ix2 k q) := by
    show FloatOps.matmul (DotDims.transposedRhs 512 1024 512) _ _ _ _ _ = _
    rw [Ideal.matmul_transposedRhs_apply]
    show Ideal.ofBits .f32 0x00000000#32 + _ = _
    rw [Ideal.ofBits_zero_f32, zero_add]
    refine Finset.sum_congr rfl fun q _ => congrArg (x (ix2 r' q) * ·) ?_
    exact View.ld_unit_apply_of w _ _ inw (ix2 j q) (ix2 k q) (fun a => match a with | ⟨0, _⟩ => hk | ⟨1, _⟩ => (Nat.zero_add _).symm)
  have hv := (congrFun (shapeCast_self (α := Elt Ideal .bf16) (View.ld (Val := Elt Ideal) (e' := .bf16) v (Rect.unit (s := S512x2816) ![0, o] S512x512.size inv)) shapeCasts_S512x512_S512x512) (ix2 r' j)).trans (View.ld_unit_apply_of v _ _ inv (ix2 r' j) (ix2 r' k) (fun a => match a with | ⟨0, _⟩ => (Nat.zero_add _).symm | ⟨1, _⟩ => hk))
  exact congrArg₂ (fun a b : EReal => a * b) hm hv

end Tiles

variable (m : (ℓ : Loc nD τ sig) → Buf (Elt Ideal) ℓ) (c : Dev nD)

abbrev A0 : Vec Ideal S4096x1024 .f32 := m ((c : Thread nD τ).loc main_arg0)
abbrev A1 : Vec Ideal S1024x2816 .f32 := m ((c : Thread nD τ).loc main_arg1)
abbrev A2 : Vec Ideal S1024x2816 .f32 := m ((c : Thread nD τ).loc main_arg2)
abbrev A3 : Vec Ideal S2816x1024 .f32 := m ((c : Thread nD τ).loc main_arg3)
abbrev A4 : Vec Ideal S4096x1024 .f32 := m ((c : Thread nD τ).loc main_arg4)

theorem hz : (![0, 0] : Fin 2 → Nat) = fun _ => 0 := funext fun a => by fin_cases a <;> rfl

section Cases
variable (i : grid0.Coords) (arg1 : Memref sig .tc .vmem S512x1024 .bf16) (harg1 : arg1.IsWhole) (arg3 : Memref sig .tc .vmem S512x2816 .bf16) (harg3 : arg3.IsWhole) (arg4 : Memref sig .tc .vmem S512x2816 .bf16) (harg4 : arg4.IsWhole) (arg5 : Memref sig .tc .vmem S512x2816 .bf16) (harg5 : arg5.IsWhole) (arg6 : Memref sig .tc .vmem S512x2816 .bf16) (harg6 : arg6.IsWhole) (arg7 : Memref sig .tc .vmem S2816x1024 .bf16) (harg7 : arg7.IsWhole)
variable (x0 : Vec Ideal S512x1024 .bf16) (x1 x2 : Vec Ideal S512x2816 .bf16) (xs0 : Vec Ideal S2816x1024 .bf16) (fh0 : HbBuf0 (F := Ideal) c hbM0_0)

theorem sA (hc0 : cond0_0 i) : sout0_A_0 c i arg1 harg1 arg3 harg3 arg4 harg4 arg5 harg5 arg6 harg6 arg7 harg7 hc0 x0 x1 x2 fh0 = fh0 := by
  unfold sout0_A_0
  rw [View.read_writes_junk_eq_canon]
  exact canon_whole _

theorem oA3 (hc0 : cond0_0 i) (y : S512x2816.Idx) : out0_A_3 c i arg1 harg1 arg3 harg3 arg4 harg4 arg5 harg5 arg6 harg6 arg7 harg7 hc0 x0 x1 x2 fh0 y
    = gOut x0 fh0 x2 (y 0) (y 1) := by
  have hcov := cover0_A_3 c i arg1 harg1 arg3 harg3 arg4 harg4 arg5 harg5 arg6 harg6 arg7 harg7 hc0 x0 x1 x2 fh0
  unfold out0_A_3
  rw [View.read_writes_junk_eq_canon]
  unfold kernelRun0_A at hcov ⊢
  dsimp only at hcov ⊢
  canon_tiles x h using hcov y
  all_goals (sl_unfold_words; simp only [View.readAt_eq_ld, readCov_copy, harg1.read_unread, harg3.read_unread, harg4.read_unread, View.ld_unit_zero (S := S512x1024) hz]; rw [ValueIdx.eq_ix2 x])
  · exact tile512 x0 fh0 x2 2304 _ _ (x 0) (x 1) h0 (y 1) h1
  · exact tile768 x0 fh0 x2 1536 _ _ (x 0) (x 1) h0 (y 1) h1
  · exact tile768 x0 fh0 x2 768 _ _ (x 0) (x 1) h0 (y 1) h1
  · exact tile768 x0 fh0 x2 0 _ _ (x 0) (x 1) h0 (y 1) (h1.trans (Nat.zero_add _).symm)

theorem oB3 (hc0 : ¬cond0_0 i) (y : S512x2816.Idx) : out0_B_3 c i arg1 harg1 arg3 harg3 arg4 harg4 arg5 harg5 arg6 harg6 arg7 harg7 hc0 x0 x1 x2 xs0 fh0 y
    = gOut x0 xs0 x2 (y 0) (y 1) := by
  have hcov := cover0_B_3 c i arg1 harg1 arg3 harg3 arg4 harg4 arg5 harg5 arg6 harg6 arg7 harg7 hc0 x0 x1 x2 xs0 fh0
  unfold out0_B_3
  rw [View.read_writes_junk_eq_canon]
  unfold kernelRun0_B at hcov ⊢
  dsimp only at hcov ⊢
  canon_tiles x h using hcov y
  all_goals (sl_unfold_words; simp only [View.readAt_eq_ld, harg7.read_unread, harg1.read_unread, harg3.read_unread, harg4.read_unread, View.ld_unit_zero (S := S512x1024) hz]; rw [ValueIdx.eq_ix2 x])
  · exact tile512 x0 xs0 x2 2304 _ _ (x 0) (x 1) h0 (y 1) h1
  · exact tile768 x0 xs0 x2 1536 _ _ (x 0) (x 1) h0 (y 1) h1
  · exact tile768 x0 xs0 x2 768 _ _ (x 0) (x 1) h0 (y 1) h1
  · exact tile768 x0 xs0 x2 0 _ _ (x 0) (x 1) h0 (y 1) (h1.trans (Nat.zero_add _).symm)

theorem oA4 (hc0 : cond0_0 i) (y : S512x2816.Idx) : out0_A_4 c i arg1 harg1 arg3 harg3 arg4 harg4 arg5 harg5 arg6 harg6 arg7 harg7 hc0 x0 x1 x2 fh0 y
    = gOut x0 fh0 x1 (y 0) (y 1) := by
  have hcov := cover0_A_4 c i arg1 harg1 arg3 harg3 arg4 harg4 arg5 harg5 arg6 harg6 arg7 harg7 hc0 x0 x1 x2 fh0
  unfold out0_A_4
  rw [View.read_writes_junk_eq_canon]
  unfold kernelRun0_A at hcov ⊢
  dsimp only at hcov ⊢
  canon_tiles x h using hcov y
  all_goals (sl_unfold_words; simp only [View.readAt_eq_ld, readCov_copy, harg1.read_unread, harg3.read_unread, harg4.read_unread, View.ld_unit_zero (S := S512x1024) hz]; rw [ValueIdx.eq_ix2 x])
  · exact tile512 x0 fh0 x1 2304 _ _ (x 0) (x 1) h0 (y 1) h1
  · exact tile768 x0 fh0 x1 1536 _ _ (x 0) (x 1) h0 (y 1) h1
  · exact tile768 x0 fh0 x1 768 _ _ (x 0) (x 1) h0 (y 1) h1
  · exact tile768 x0 fh0 x1 0 _ _ (x 0) (x 1) h0 (y 1) (h1.trans (Nat.zero_add _).symm)

theorem oB4 (hc0 : ¬cond0_0 i) (y : S512x2816.Idx) : out0_B_4 c i arg1 harg1 arg3 harg3 arg4 harg4 arg5 harg5 arg6 harg6 arg7 harg7 hc0 x0 x1 x2 xs0 fh0 y
    = gOut x0 xs0 x1 (y 0) (y 1) := by
  have hcov := cover0_B_4 c i arg1 harg1 arg3 harg3 arg4 harg4 arg5 harg5 arg6 harg6 arg7 harg7 hc0 x0 x1 x2 xs0 fh0
  unfold out0_B_4
  rw [View.read_writes_junk_eq_canon]
  unfold kernelRun0_B at hcov ⊢
  dsimp only at hcov ⊢
  canon_tiles x h using hcov y
  all_goals (sl_unfold_words; simp only [View.readAt_eq_ld, harg7.read_unread, harg1.read_unread, harg3.read_unread, harg4.read_unread, View.ld_unit_zero (S := S512x1024) hz]; rw [ValueIdx.eq_ix2 x])
  · exact tile512 x0 xs0 x1 2304 _ _ (x 0) (x 1) h0 (y 1) h1
  · exact tile768 x0 xs0 x1 1536 _ _ (x 0) (x 1) h0 (y 1) h1
  · exact tile768 x0 xs0 x1 768 _ _ (x 0) (x 1) h0 (y 1) h1
  · exact tile768 x0 xs0 x1 0 _ _ (x 0) (x 1) h0 (y 1) (h1.trans (Nat.zero_add _).symm)

end Cases

/-! ### What every point leaves -/

/-- The weights as the points read them. -/
abbrev Wd : Vec Ideal S2816x1024 .bf16 := V m c main_v19

theorem scr : ∀ (n : ℕ) (hn : n < cfg0.N), (outsAt0 m c n hn).2.2 = Wd m c
  | 0, hn => by
    rw [outsAt0_A m c ⟨0, hn⟩ (Nat.zero_mod _)]
    dsimp only
    rw [sA]
  | n + 1, hn => by
    have hN : cfg0.N = 8 := N_0
    rw [outsAt0_B m c ⟨n + 1, hn⟩ (by dsimp only; omega)]
    dsimp only
    unfold sout0_B_0
    exact scr n _

theorem pt (t : Fin cfg0.N) :
    (∀ y : S512x2816.Idx, (outsAt0 m c t.val t.isLt).1 y = gOut (iblk m c 0 t) (Wd m c) (iblk m c 2 t) (y 0) (y 1))
    ∧ ∀ y : S512x2816.Idx, (outsAt0 m c t.val t.isLt).2.1 y = gOut (iblk m c 0 t) (Wd m c) (iblk m c 1 t) (y 0) (y 1) := by
  by_cases h : t.val % 8 = 0
  · rw [outsAt0_A m c t h]
    dsimp only
    exact ⟨fun y => by rw [oA3], fun y => by rw [oA4]⟩
  · rw [outsAt0_B m c t h]
    dsimp only
    rw [scr m c _ _]
    exact ⟨fun y => by rw [oB3], fun y => by rw [oB4]⟩

/-! ### The blocks read at an index -/

theorem idxs : ∀ t : Fin cfg0.N, win0_0.index t = ![t.val, 0] ∧ win0_1.index t = ![t.val, 0] ∧ win0_2.index t = ![t.val, 0]
    ∧ win0_3.index t = ![t.val, 0] ∧ win0_4.index t = ![t.val, 0] :=
  (by decide +kernel : ∀ t : Fin grid0.N, _)

/-- A point's stretch. -/
abbrev pb (t : Fin cfg0.N) : Fin 8 := ⟨t.val, t.isLt⟩

/-- The two products the forward's gate takes, as the plain program writes them. -/
abbrev ga : Vec Ideal S4096x2816 .f32 := Cert.Reference5Ideal.Read.val_main_v0 (F := Ideal) (A0 m c) (A1 m c)
abbrev gb : Vec Ideal S4096x2816 .f32 := Cert.Reference5Ideal.Read.val_main_v1 (F := Ideal) (A0 m c) (A2 m c)

/-- The sigmoid's quotient. -/
abbrev quo (a : EReal) : EReal := Ideal.div (Ideal.ofBits .f32 0x3F800000#32) (Ideal.ofBits .f32 0x3F800000#32 + Ideal.exp (-a))

theorem quo_coe (a : ℝ) : quo (a : EReal) = ((sgm a : ℝ) : EReal) := by
  unfold quo
  rw [lit_one, sgm_quot]

theorem V0 (i : S4096x1024.Idx) : (V m c (Pipeline.arrRef spec0 0) : Vec Ideal S4096x1024 .bf16) i = Ideal.ofBits .f32 0x3F000000#32 * A4 m c i := by
  entry_read
  rfl
theorem V1 (i : S4096x2816.Idx) : (V m c (Pipeline.arrRef spec0 1) : Vec Ideal S4096x2816 .bf16) i = ga m c i * quo (ga m c i) := by
  entry_read
  rfl
theorem V2 (i : S4096x2816.Idx) : (V m c (Pipeline.arrRef spec0 2) : Vec Ideal S4096x2816 .bf16) i
    = gb m c i * (quo (ga m c i) * (Ideal.ofBits .f32 0x3F800000#32 + ga m c i * (Ideal.ofBits .f32 0x3F800000#32 - quo (ga m c i)))) := by
  entry_read
  rfl
theorem Wd_eq : Wd m c = A3 m c := by
  unfold Wd
  entry_read
  rfl

theorem blk0 (t : Fin cfg0.N) (r : Fin 512) (k : Fin 1024) : (iblk m c 0 t : Vec Ideal S512x1024 .bf16) (ix2 r k)
    = (V m c (Pipeline.arrRef spec0 0) : Vec Ideal S4096x1024 .bf16) (ix2 (row8 (pb t) r) k) := by
  blk_simp [iblk]
  refine congrArg (V m c (Pipeline.arrRef spec0 0) : Vec Ideal S4096x1024 .bf16) (ext2 _ _ _ ?_ ?_) <;> blk_simp [idxs t]
  show t.val * 512 + r.val = 512 * t.val + r.val; omega
theorem blk1 (t : Fin cfg0.N) (r : Fin 512) (k : Fin 2816) : (iblk m c 1 t : Vec Ideal S512x2816 .bf16) (ix2 r k)
    = (V m c (Pipeline.arrRef spec0 1) : Vec Ideal S4096x2816 .bf16) (ix2 (row8 (pb t) r) k) := by
  blk_simp [iblk]
  refine congrArg (V m c (Pipeline.arrRef spec0 1) : Vec Ideal S4096x2816 .bf16) (ext2 _ _ _ ?_ ?_) <;> blk_simp [idxs t]
  show t.val * 512 + r.val = 512 * t.val + r.val; omega
theorem blk2 (t : Fin cfg0.N) (r : Fin 512) (k : Fin 2816) : (iblk m c 2 t : Vec Ideal S512x2816 .bf16) (ix2 r k)
    = (V m c (Pipeline.arrRef spec0 2) : Vec Ideal S4096x2816 .bf16) (ix2 (row8 (pb t) r) k) := by
  blk_simp [iblk]
  refine congrArg (V m c (Pipeline.arrRef spec0 2) : Vec Ideal S4096x2816 .bf16) (ext2 _ _ _ ?_ ?_) <;> blk_simp [idxs t]
  show t.val * 512 + r.val = 512 * t.val + r.val; omega

/-! ### The arrays -/

/-- The array with a factor, of the arrays the windows read. -/
def gArr (v : Vec Ideal S4096x2816 .bf16) (i : S4096x2816.Idx) : EReal :=
  (∑ q : Fin 1024, (Ideal.ofBits .f32 0x3F000000#32 * A4 m c (ix2 (i 0) q)) * A3 m c (ix2 (i 1) q)) * v i

theorem gOut_arr (t : Fin cfg0.N) (r : Fin 512) (k : Fin 2816) (v : Vec Ideal S4096x2816 .bf16) (b : Vec Ideal S512x2816 .bf16)
    (hb : b (ix2 r k) = v (ix2 (row8 (pb t) r) k)) : gOut (iblk m c 0 t) (Wd m c) b r k = gArr m c v (ix2 (row8 (pb t) r) k) := by
  unfold gOut gArr
  rw [hb, Wd_eq]
  refine congrArg (· * v _) (Finset.sum_congr rfl fun q _ => ?_)
  rw [blk0, V0]

theorem emb3 (t : Fin cfg0.N) (r : Fin 512) (k : Fin 2816) : (win0_3.blk t).view.emb (ix2 r k) = ix2 (row8 (pb t) r) k :=
  ext2 _ _ _ (by blk_simp [idxs t]; show t.val * 512 + r.val = 512 * t.val + r.val; omega) (by blk_simp [idxs t])

theorem final3 : (dats m 0 c).arrAt 3 cfg0.N = gArr m c (V m c (Pipeline.arrRef spec0 2)) := by
  refine (dats m 0 c).arrAt_eq_of_covers 3 _ (by decide +kernel) fun t hf y => ?_
  blk_simp
  rw [after0_3]
  obtain ⟨r, k, rfl⟩ : ∃ (r : Fin 512) (k : Fin 2816), y = ix2 r k := ⟨y 0, y 1, ValueIdx.eq_ix2 y⟩
  rw [emb3]
  exact ((pt m c t).1 (ix2 r k)).trans (gOut_arr m c t r k _ _ (blk2 m c t r k))

theorem emb4 (t : Fin cfg0.N) (r : Fin 512) (k : Fin 2816) : (win0_4.blk t).view.emb (ix2 r k) = ix2 (row8 (pb t) r) k :=
  ext2 _ _ _ (by blk_simp [idxs t]; show t.val * 512 + r.val = 512 * t.val + r.val; omega) (by blk_simp [idxs t])

theorem final4 : (dats m 0 c).arrAt 4 cfg0.N = gArr m c (V m c (Pipeline.arrRef spec0 1)) := by
  refine (dats m 0 c).arrAt_eq_of_covers 4 _ (by decide +kernel) fun t hf y => ?_
  blk_simp
  rw [after0_4]
  obtain ⟨r, k, rfl⟩ : ∃ (r : Fin 512) (k : Fin 2816), y = ix2 r k := ⟨y 0, y 1, ValueIdx.eq_ix2 y⟩
  rw [emb4]
  exact ((pt m c t).2 (ix2 r k)).trans (gOut_arr m c t r k _ _ (blk1 m c t r k))

end Cert.Kernel5Ideal.Act

end

end
-- ==== Proof.ActClaim.lean ====
/-
  The gradient through the gate of the feed-forward layer: the plain program's two arrays, and that both programs' arrays are the
  same arrays.
-/
module

public import proofs.«01_k».proof.Defs
public import proofs.«01_k».proof.Proof.ActKernel
public import proofs.«01_k».proof.Proof.Gen.Reference5Ideal.Run
public import proofs.«01_k».proof.Proof.Gen.Reference5Ideal.Read
public import proofs.«01_k».proof.Proof.Gen.Pre_finite5

set_option maxRecDepth 16384
set_option backward.isDefEq.respectTransparency false

@[expose] public section

noncomputable section

namespace Cert.ActClaim

open Cert.Common Cert.Kernel5Ideal.Act
open Cert.Reference5Ideal Cert.Reference5Ideal.Read
open Idealize.ShloMosaic hiding ix0 ix1 ix2 ix3 ix4 ix5 ix6
open Idealize.ShloMosaic.ValueIdx Idealize.ShloMosaic.TcCoe
open scoped BigOperators

instance : Cert.Kernel5Ideal.Facts := Cert.Kernel5Ideal.Gen.facts
instance : Cert.Reference5Ideal.Facts := Cert.Reference5Ideal.Gen.facts
instance : Cert.Pre_finite5.Facts := Cert.Pre_finite5.Gen.facts

section Values
variable (x0 : (⟨S4096x1024, .f32⟩ : BufTy).Contents (Elt Ideal)) (x1 x2 : (⟨S1024x2816, .f32⟩ : BufTy).Contents (Elt Ideal))
  (x3 : (⟨S2816x1024, .f32⟩ : BufTy).Contents (Elt Ideal)) (x4 : (⟨S4096x1024, .f32⟩ : BufTy).Contents (Elt Ideal))
variable (h0 : Real2 (s := S4096x1024) x0) (h1 : Real2 (s := S1024x2816) x1) (h2 : Real2 (s := S1024x2816) x2) (h3 : Real2 (s := S2816x1024) x3)
  (h4 : Real2 (s := S4096x1024) x4)

/-- The gate's two products and the cotangent of their gated product, as reals of the arguments. -/
abbrev Ga (r : Fin 4096) (k : Fin 2816) : ℝ := ∑ q : Fin 1024, (x0 (ix2 r q)).toReal * (x1 (ix2 q k)).toReal
abbrev Gc (r : Fin 4096) (k : Fin 2816) : ℝ := ∑ q : Fin 1024, (1 / 2 * (x4 (ix2 r q)).toReal) * (x3 (ix2 k q)).toReal

include h0 h1 in
theorem v0_at (r : Fin 4096) (k : Fin 2816) : val_main_v0 (F := Ideal) x0 x1 (ix2 r k) = ((Ga x0 x1 r k : ℝ) : EReal) := by
  rw [val_main_v0_apply]
  exact dot_real _ _ (fun q => (x0 (ix2 r q)).toReal) (fun q => (x1 (ix2 q k)).toReal)
      (fun q => by rw [show lidx_main_v0 (ix2 r k) q = ix2 r q from ValueIdx.eq_ix2 _]; exact h0 _)
      (fun q => by rw [show ridx_main_v0 (ix2 r k) q = ix2 q k from ValueIdx.eq_ix2 _]; exact h1 _)

include h0 h2 in
theorem v1_at (r : Fin 4096) (k : Fin 2816) : val_main_v1 (F := Ideal) x0 x2 (ix2 r k) = ((Ga x0 x2 r k : ℝ) : EReal) := by
  rw [val_main_v1_apply]
  exact dot_real _ _ (fun q => (x0 (ix2 r q)).toReal) (fun q => (x2 (ix2 q k)).toReal)
      (fun q => by rw [show lidx_main_v1 (ix2 r k) q = ix2 r q from ValueIdx.eq_ix2 _]; exact h0 _)
      (fun q => by rw [show ridx_main_v1 (ix2 r k) q = ix2 q k from ValueIdx.eq_ix2 _]; exact h2 _)

include h3 h4 in
theorem half_dot (r : Fin 4096) (k : Fin 2816) :
    ∑ q : Fin 1024, (Ideal.ofBits .f32 0x3F000000#32 * (x4 (ix2 r q) : EReal)) * (x3 (ix2 k q) : EReal) = ((Gc x3 x4 r k : ℝ) : EReal) :=
  dot_real _ _ (fun q => 1 / 2 * (x4 (ix2 r q)).toReal) (fun q => (x3 (ix2 k q)).toReal)
    (fun q => by rw [lit_half, h4, ← EReal.coe_mul]; rfl) (fun q => h3 _)

include h3 h4 in
theorem v9_at (r : Fin 4096) (k : Fin 2816) : val_main_v9 (F := Ideal) x3 x4 (ix2 r k) = ((Gc x3 x4 r k : ℝ) : EReal) := by
  rw [val_main_v9_apply, ← half_dot x3 x4 h3 h4]
  refine Finset.sum_congr rfl fun q _ => ?_
  rw [show lidx_main_v9 (ix2 r k) q = ix2 r q from ValueIdx.eq_ix2 _, show ridx_main_v9 (ix2 r k) q = ix2 k q from ValueIdx.eq_ix2 _,
    val_main_v8_apply, val_main_v7_apply]
  first | rfl | exact congrArg (· * _) (mul_comm _ _)

include h0 h1 in
theorem sg_at (r : Fin 4096) (k : Fin 2816) : val_main_v2_2 (F := Ideal) x0 x1 (ix2 r k) = ((sgm (Ga x0 x1 r k) : ℝ) : EReal) := by
  rw [val_main_v2_2_apply, val_main_call0_v3_apply, val_main_call0_v1_apply, val_main_call0_v0_apply, v0_at x0 x1 h0 h1,
    val_main_call0_v4_apply, val_main_call0_v2_apply]
  rw [val_main_call0_cst_0_apply, val_main_call0_cst_apply, Ideal.hostUnary_exp_def]
  exact quo_coe _

include h0 h1 h3 h4 in
theorem v14_at (r : Fin 4096) (k : Fin 2816) : val_main_v14 (F := Ideal) x0 x1 x3 x4 (ix2 r k)
    = ((Gc x3 x4 r k * (Ga x0 x1 r k * sgm (Ga x0 x1 r k)) : ℝ) : EReal) := by
  rw [val_main_v14_apply, val_main_v10_apply, v9_at x3 x4 h3 h4, val_main_v2_0_apply, v0_at x0 x1 h0 h1, sg_at x0 x1 h0 h1]
  show ((_ : ℝ) : EReal) * ((_ : ℝ) : EReal) * ((_ : ℝ) : EReal) = _
  rw [← EReal.coe_mul, ← EReal.coe_mul, mul_comm]

include h0 h1 h2 h3 h4 in
theorem v13_at (r : Fin 4096) (k : Fin 2816) : val_main_v13 (F := Ideal) x0 x1 x2 x3 x4 (ix2 r k)
    = ((Gc x3 x4 r k * (Ga x0 x2 r k * (sgm (Ga x0 x1 r k) * (1 + Ga x0 x1 r k * (1 - sgm (Ga x0 x1 r k))))) : ℝ) : EReal) := by
  rw [val_main_v13_apply, val_main_v12_apply, val_main_call1_v2_apply, val_main_call1_v1_apply, val_main_call1_v0_apply,
    val_main_v11_apply, v9_at x3 x4 h3 h4, v1_at x0 x2 h0 h2, val_main_v2_1_apply, val_main_call0_v7_apply, val_main_call0_v6_apply,
    v0_at x0 x1 h0 h1, sg_at x0 x1 h0 h1]
  rw [val_main_call0_cst_1_apply]
  show ((_ : ℝ) : EReal) * ((_ : ℝ) : EReal) * ((_ : ℝ) : EReal)
    + (((_ : ℝ) : EReal) * (((_ : ℝ) : EReal) * ((_ : ℝ) : EReal))) * (((_ : ℝ) : EReal) * (Ideal.ofBits .f32 0x3F800000#32 - ((_ : ℝ) : EReal))) = _
  rw [lit_one, ← EReal.coe_one, ← EReal.coe_sub, ← EReal.coe_mul, ← EReal.coe_mul, ← EReal.coe_mul, ← EReal.coe_mul, ← EReal.coe_mul, ← EReal.coe_add]
  congr 1
  ring

end Values

variable (m : (ℓ : Loc Cert.Kernel5Ideal.nD Cert.Kernel5Ideal.τ Cert.Kernel5Ideal.sig) → Buf (Elt Ideal) ℓ)
variable (c : Dev Cert.Kernel5Ideal.nD)

/-- The arguments hold reals. -/
structure Fine : Prop where
  r0 : Real2 (A0 m c)
  r1 : Real2 (A1 m c)
  r2 : Real2 (A2 m c)
  r3 : Real2 (A3 m c)
  r4 : Real2 (A4 m c)

theorem pre (h : Cert.Pre_Kernel5Ideal_finite5 m) : Fine m c := by
  obtain ⟨h0, h1, h2, h3, h4⟩ := h c
  exact ⟨real_of_bound _ _ (fun _ => rfl) h0, real_of_bound _ _ (fun _ => rfl) h1, real_of_bound _ _ (fun _ => rfl) h2,
    real_of_bound _ _ (fun _ => rfl) h3, real_of_bound _ _ (fun _ => rfl) h4⟩

variable (f : Fine m c)

include f in
theorem eq4 : (Cert.Kernel5Ideal.Gen.dats m 0 c).arrAt 4 Cert.Kernel5Ideal.cfg0.N
    = val_main_v14 (F := Ideal) (A0 m c) (A1 m c) (A3 m c) (A4 m c) := by
  rw [final4 m c]
  funext i
  obtain ⟨r, k, rfl⟩ : ∃ (r : Fin 4096) (k : Fin 2816), i = ix2 r k := ⟨i 0, i 1, ValueIdx.eq_ix2 i⟩
  rw [v14_at _ _ _ _ f.r0 f.r1 f.r3 f.r4]
  refine (congrArg₂ (fun a b : EReal => a * b) (half_dot _ _ f.r3 f.r4 r k) (V1 m c (ix2 r k))).trans ?_
  rw [show ga m c (ix2 r k) = _ from v0_at _ _ f.r0 f.r1 _ _, quo_coe, ← EReal.coe_mul, ← EReal.coe_mul]

include f in
theorem eq3 : (Cert.Kernel5Ideal.Gen.dats m 0 c).arrAt 3 Cert.Kernel5Ideal.cfg0.N
    = val_main_v13 (F := Ideal) (A0 m c) (A1 m c) (A2 m c) (A3 m c) (A4 m c) := by
  rw [final3 m c]
  funext i
  obtain ⟨r, k, rfl⟩ : ∃ (r : Fin 4096) (k : Fin 2816), i = ix2 r k := ⟨i 0, i 1, ValueIdx.eq_ix2 i⟩
  rw [v13_at _ _ _ _ _ f.r0 f.r1 f.r2 f.r3 f.r4]
  refine (congrArg₂ (fun a b : EReal => a * b) (half_dot _ _ f.r3 f.r4 r k) (V2 m c (ix2 r k))).trans ?_
  rw [show ga m c (ix2 r k) = _ from v0_at _ _ f.r0 f.r1 _ _, show gb m c (ix2 r k) = _ from v1_at _ _ f.r0 f.r2 _ _, quo_coe, lit_one,
    ← EReal.coe_one, ← EReal.coe_sub, ← EReal.coe_mul, ← EReal.coe_add, ← EReal.coe_mul, ← EReal.coe_mul, ← EReal.coe_mul]

/-- The reference runs and leaves its arguments; it has no counters. -/
theorem frame_reference : Cert.quiescent_Reference5Ideal := fun m g _ =>
  (θ_run Cert.Reference5Ideal.defs _ _).mono (fun r h => ⟨fun c => (h c).2.2, sem_eq_zero_of_no_sems (by decide) r.2⟩)
    (Cert.Reference5Ideal.Value.run (F := Ideal) m g)

theorem algebraic : Cert.algebraic_Kernel5Ideal_Reference5Ideal_pre_finite5 := by
  intro m g m' g' hp ha
  refine ⟨_, _, Cert.Kernel5Ideal.Value.run_blocks (F := Ideal) m g, ?_⟩
  refine (θ_run Cert.Reference5Ideal.defs _ _).mono (fun r h c => ?_) (Cert.Reference5Ideal.Value.run (F := Ideal) m' g')
  have f := pre m c hp
  obtain ⟨a0, a1, a2, a3, a4⟩ := ha c
  obtain ⟨h0, h1, hrest⟩ := h c
  refine ⟨h0.trans ((val_main_v13_eq _ _ _ _ _).trans ?_), h1.trans ((val_main_v14_eq _ _ _ _).trans ?_), hrest⟩
  · rw [a0, a1, a2, a3, a4]; exact (eq3 m c f).symm
  · rw [a0, a1, a3, a4]; exact (eq4 m c f).symm

end Cert.ActClaim

end
-- ==== Proof.AttnFwdArray.lean ====
/-
  The attention's output: what each point of the grid reads, as functions of the arguments. The arrays the call is given are those
  that the gradient's call is given.
-/
module

public import proofs.«01_k».proof.Proof.AttnArray
public import proofs.«01_k».proof.Proof.Gen.Kernel6Ideal.Frame
public import Idealize.ShloMosaic.Lib.Pipeline.ValueKit

set_option maxRecDepth 16384
set_option backward.isDefEq.respectTransparency false

@[expose] public section

noncomputable section

namespace Cert.Kernel6Ideal.AttnFwd

open Cert.Kernel6Ideal Cert.Kernel6Ideal.Gen Cert.Common Cert.Attn
open Cert.Kernel2Ideal.AttnArray (bias bias_real table table_apply behind_apply)
open Idealize.ShloMosaic hiding ix0 ix1 ix2 ix3 ix4 ix5 ix6
open Idealize.ShloMosaic.ValueIdx Idealize.ShloMosaic.TcCoe
open Idealize.ShloMosaic.Pipeline (Dat)
open scoped BigOperators

variable (m : (ℓ : Loc nD τ sig) → Buf (Elt Ideal) ℓ)

abbrev A0 (c : Dev nD) : Vec Ideal S2x2048x512 .f32 := m ((c : Thread nD τ).loc main_arg0)
abbrev A1 (c : Dev nD) : Vec Ideal S2x2048x512 .f32 := m ((c : Thread nD τ).loc main_arg1)
abbrev A2 (c : Dev nD) : Vec Ideal S2x2048x512 .f32 := m ((c : Thread nD τ).loc main_arg2)
abbrev A3 (c : Dev nD) : Vec Ideal S8x257 .f32 := m ((c : Thread nD τ).loc main_arg3)

theorem idx : ∀ t : Fin cfg0.N, win0_0.index t = ![t.val / 2 % 2, t.val % 2, t.val / 4] ∧ win0_1.index t = ![t.val / 2 % 2, 0, t.val / 4]
    ∧ win0_2.index t = ![t.val / 2 % 2, 0, t.val / 4] ∧ win0_3.index t = ![t.val / 4, 0, 0] ∧ win0_4.index t = ![t.val / 2 % 2, t.val % 2, t.val / 4] :=
  (by decide +kernel : ∀ t : Fin grid0.N, _)

theorem coord2 : ∀ t : Fin cfg0.N, (grid0.coords t 2).val = t.val % 2 :=
  (by decide +kernel : ∀ t : Fin grid0.N, _)

theorem lt16 (t : Fin cfg0.N) : t.val < 16 := lt_of_lt_of_eq t.isLt (show cfg0.N = 16 from N_0)

/-- The keys and values as the call is given them, behind 512 rows of zeros. -/
def behindArr (x : Vec Ideal S2x2048x512 .f32) : Vec Ideal S2x2560x512 .bf16 :=
  concatenate S2x2560x512 1 [⟨S2x512x512, broadcastInDim S2x512x512 ![] bcast_S_S2x512x512 (constant (F := Ideal) S_ .bf16 0x0000#16)⟩,
    ⟨S2x2048x512, truncf (F := Ideal) .bf16 x bitsLt_bf16_f32⟩] concatenates_S2x512x512_S2x2048x512_S2x2560x512_d1

theorem behindArr_apply (x : Vec Ideal S2x2048x512 .f32) (hx : Real' x) (b : Fin 2) (s : Fin 2560) (k : Fin 512) :
    behindArr x (ix3 b s k) = ((behind (rd3 x) b s k : ℝ) : EReal) := behind_apply x hx b s k

theorem V0 (c : Dev nD) (i : S2x2048x512.Idx) :
    (V m c (Pipeline.arrRef spec0 0) : Vec Ideal S2x2048x512 .bf16) i = A0 m c i := by
  simp only [V, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  entry_read
  rfl
theorem V12 (c : Dev nD) : (V m c (Pipeline.arrRef spec0 1) : Vec Ideal S2x2560x512 .bf16) = behindArr (A1 m c)
    ∧ (V m c (Pipeline.arrRef spec0 2) : Vec Ideal S2x2560x512 .bf16) = behindArr (A2 m c) := by
  constructor
  all_goals
    simp only [V, hostOps0, hostOps0_1, hostOps0_2, hostOps0_3, hostOps0_4, hostOps0_5, hostOps0_6, hostOps0_7, hostOps0_8, hostOps0_9, hostOps0_10,
      List.flatten_cons, List.flatten_nil, List.append_nil, List.cons_append, List.nil_append]
    entry_read
    rfl

/-- What the host lines before the first padding leave. -/
abbrev σ2 (c : Dev nD) : (b : DevRef τ sig) → (b.ty).Contents (Elt Ideal) :=
  StableHlo.after (hostOps0 ++ hostOps0_1 ++ hostOps0_2) (fun b => m (c, b))

theorem σ2_bias (c : Dev nD) : σ2 m c (Proc.tc.devRef main_v24) = bias (A3 m c) := by
  simp only [σ2, hostOps0, hostOps0_1, hostOps0_2, List.cons_append, List.nil_append]
  entry_read
  simp only [StableHlo.TRef.ofBuf_toBuf, StableHlo.TRef.ofBuf, StableHlo.TRef.toBuf, cast_cast, cast_eq, id]
  rfl
theorem σ2_ninf (c : Dev nD) : σ2 m c (Proc.tc.devRef main_cst_5) = constant (F := Ideal) S_ .f32 0xFF800000#32 := by
  simp only [σ2, hostOps0, hostOps0_1, hostOps0_2, List.cons_append, List.nil_append]
  entry_read
  rfl

/-- The lines from there to the one that puts the four tables together. -/
abbrev mid : List (HloOp τ sig (Elt Ideal)) := hostOps0_3 ++ hostOps0_4 ++ hostOps0_5 ++ hostOps0_6 ++ hostOps0_7 ++ hostOps0_8 ++ hostOps0_9

/-- The table of a chunk's biases between `o` and `q` columns of minus infinity. -/
abbrev padded (o q : ℕ) (h : S8x64x576.Pads (![0, 0, o] : Fin 3 → ℕ) ![0, 0, q] ![0, 0, 0] S8x64x768) (y : Vec Ideal S8x64x576 .f32)
    (z : Vec Ideal S_ .f32) : Vec Ideal S8x64x768 .f32 := pad S8x64x768 ![0, 0, o] ![0, 0, q] ![0, 0, 0] y z h h_S_

theorem mid_pads (σ : (b : DevRef τ sig) → (b.ty).Contents (Elt Ideal)) :
    StableHlo.after mid σ (Proc.tc.devRef main_v25) = padded 0 192 (by decide) (σ (Proc.tc.devRef main_v24)) (σ (Proc.tc.devRef main_cst_5))
    ∧ StableHlo.after mid σ (Proc.tc.devRef main_v26) = padded 64 128 (by decide) (σ (Proc.tc.devRef main_v24)) (constant (F := Ideal) S_ .f32 0xFF800000#32)
    ∧ StableHlo.after mid σ (Proc.tc.devRef main_v27) = padded 128 64 (by decide) (σ (Proc.tc.devRef main_v24)) (constant (F := Ideal) S_ .f32 0xFF800000#32)
    ∧ StableHlo.after mid σ (Proc.tc.devRef main_v28) = padded 192 0 (by decide) (σ (Proc.tc.devRef main_v24)) (constant (F := Ideal) S_ .f32 0xFF800000#32) := by
  refine ⟨?_, ?_, ?_, ?_⟩
  all_goals
    simp only [mid, hostOps0_3, hostOps0_4, hostOps0_5, hostOps0_6, hostOps0_7, hostOps0_8, hostOps0_9, List.cons_append, List.nil_append]
    entry_read
    simp only [StableHlo.TRef.ofBuf_toBuf, StableHlo.TRef.ofBuf, StableHlo.TRef.toBuf, cast_cast, cast_eq, id]

theorem last_table (σ : (b : DevRef τ sig) → (b.ty).Contents (Elt Ideal)) (y : Vec Ideal S8x64x576 .f32) (z : Vec Ideal S_ .f32)
    (hz : z = constant (F := Ideal) S_ .f32 0xFF800000#32)
    (h1 : σ (Proc.tc.devRef main_v25) = padded 0 192 (by decide) y z)
    (h2 : σ (Proc.tc.devRef main_v26) = padded 64 128 (by decide) y (constant (F := Ideal) S_ .f32 0xFF800000#32))
    (h3 : σ (Proc.tc.devRef main_v27) = padded 128 64 (by decide) y (constant (F := Ideal) S_ .f32 0xFF800000#32))
    (h4 : σ (Proc.tc.devRef main_v28) = padded 192 0 (by decide) y (constant (F := Ideal) S_ .f32 0xFF800000#32)) :
    StableHlo.after hostOps0_10 σ (Proc.tc.devRef main_v29) = table y := by
  subst hz
  unfold table
  unfold padded at h1 h2 h3 h4
  rw [← h1, ← h2, ← h3, ← h4]
  rfl

theorem V3 (c : Dev nD) : (V m c (Pipeline.arrRef spec0 3) : Vec Ideal S8x256x768 .f32) = table (bias (A3 m c)) := by
  have e : V m c (Pipeline.arrRef spec0 3) = StableHlo.after hostOps0_10 (StableHlo.after mid (σ2 m c)) (Proc.tc.devRef (Pipeline.arrRef spec0 3)) := by
    rw [← StableHlo.after_append, ← StableHlo.after_append]
    simp only [V, List.flatten_cons, List.flatten_nil, List.append_nil, List.append_assoc]
  obtain ⟨h1, h2, h3, h4⟩ := mid_pads (σ2 m c)
  rw [σ2_bias] at h1 h2 h3 h4
  rw [e]
  exact last_table _ _ _ (σ2_ninf m c) h1 h2 h3 h4

end Cert.Kernel6Ideal.AttnFwd

end

end
-- ==== Proof.AttnFwdSpec.lean ====
/-
  The attention's output as a function on the reals: each query's weighted sum of the values of its window.
-/
module

public import proofs.«01_k».proof.Proof.AttnSpec

set_option maxRecDepth 16384
set_option backward.isDefEq.respectTransparency false

@[expose] public section

noncomputable section

namespace Cert.Attn

open scoped BigOperators

variable (Q K V B : ℕ → ℕ → ℕ → ℝ) (b : ℕ)

/-- The output at row `t` and column `c`. -/
def oA (t c : ℕ) : ℝ := ∑ j : Fin 576, pr Q K B b (c / 64) t (64 * (t / 64) + j) * V b (64 * (t / 64) + j) c

/-- The same sum over any run of keys that holds the window: the keys outside it weigh nothing. -/
theorem oA_window (t c a n : ℕ) (ha : a ≤ 64 * (t / 64)) (hn : 64 * (t / 64) + 576 ≤ a + n) :
    ∑ j : Fin n, pr Q K B b (c / 64) t (a + j) * V b (a + j) c = oA Q K V B b t c := by
  unfold oA
  refine sum_window (fun s => pr Q K B b (c / 64) t s * V b s c) (64 * (t / 64)) 576 a n ha hn fun s _ _ hs => ?_
  show pr Q K B b (c / 64) t s * _ = 0
  rw [pr_off _ _ _ _ _ t s fun hi => hs ⟨hi.1, hi.2.1⟩, zero_mul]

end Cert.Attn

end

end
-- ==== Proof.AttnFwdPoint.lean ====
/-
  The attention's output: what each point of the grid computes, and the array that is left.
-/
module

public import proofs.«01_k».proof.Proof.AttnFwdArray
public import proofs.«01_k».proof.Proof.AttnPoint
public import proofs.«01_k».proof.Proof.AttnFwdSpec
public import proofs.«01_k».proof.Proof.Rows

set_option maxRecDepth 16384
set_option backward.isDefEq.respectTransparency false

@[expose] public section

noncomputable section

namespace Cert.Kernel6Ideal.AttnFwd

open Cert.Kernel6Ideal Cert.Kernel6Ideal.Gen Cert.Common Cert.Attn
open Cert.Kernel2Ideal.AttnArray (bias bias_real table table_apply mask0_apply mask1_apply)
open Cert.Kernel2Ideal.AttnBlock (start probs_apply nn_apply select_ite)
open Idealize.ShloMosaic hiding ix0 ix1 ix2 ix3 ix4 ix5 ix6
open Idealize.ShloMosaic.ValueIdx Idealize.ShloMosaic.TcCoe
open Idealize.ShloMosaic.Pipeline (Dat)
open scoped BigOperators

/-! ## One block of 256 queries -/

section block
variable (word : BitVec 32) (kw vw : Vec Ideal S1x768x128 .bf16) (qb : Vec Ideal S1x256x128 .bf16) (t0 t1 : Vec Ideal S1x256x768 .f32)

/-- The weights of the two heads of a block. -/
abbrev w0 : FVec Ideal S256x768 .bf16 := k0_pay21 (F := Ideal) k0_pay2 word (k0_pay4 kw) (k0_pay12 qb) (Scalar.ofBits .bf16 0x0000#16) t0
abbrev w1 : FVec Ideal S256x768 .bf16 := k0_pay20 (F := Ideal) k0_pay3 word (k0_pay4 kw) (k0_pay12 qb) t1
/-- The block's output. -/
def blockOut : FVec Ideal S1x256x128 .bf16 := k0_pay34 (F := Ideal) k0_pay2 (k0_pay8 vw) (w0 word kw qb t0) (w1 word kw qb t1)

/-- The two masks, and the blocks without their axis of length one, as the points write them. -/
abbrev mk0 : IVec S1x128 1 := cmpi .slt (iota .tc S1x128 32 [1] iota_S1x128_d1_w32) (broadcast S1x128 64#32)
abbrev mk1 : IVec S1x128 1 := cmpi .sge (iota .tc S1x128 32 [1] iota_S1x128_d1_w32) (broadcast S1x128 64#32)
abbrev sk (x : Vec Ideal S1x768x128 .bf16) : FVec Ideal S768x128 .bf16 := shapeCast S768x128 x shapeCasts_S1x768x128_S768x128
abbrev sq (x : Vec Ideal S1x256x128 .bf16) : FVec Ideal S256x128 .bf16 := shapeCast S256x128 x shapeCasts_S1x256x128_S256x128

/-- Each of the four blocks is computed in the same way. -/
theorem block0 : k0_pay33 (F := Ideal) mk0 (sk vw) (k0_pay19
      (addf (mulf (matmul dot_S256x128_S768x128_S256x768_1_1_0_0_n_n none
          (select (broadcastTo S256x128 (shapeCast S1x128 mk0 shapeCasts_S1x128_S1x128) broadcasts_S1x128_S256x128) (sq qb)
            (broadcast S256x128 (FloatOps.ofBits .bf16 0x0000#16))) (sk kw) (constant (F := Ideal) S256x768 .f32 0x00000000#32))
        (broadcast S256x768 (FloatOps.ofBits .f32 0x3E000000#32))) (shapeCast S256x768 t0 shapeCasts_S1x256x768_S256x768))
      (addi (iota .tc S256x768 32 [1] iota_S256x768_d1_w32) (broadcast S256x768 word)) (broadcast S256x768 512#32))
    (k0_pay20 mk1 word (sk kw) (sq qb) t1) (constant (F := Ideal) S256x128 .f32 0x00000000#32) = blockOut word kw vw qb t0 t1 := rfl
theorem block1 : k0_pay34 (F := Ideal) mk0 (sk vw) (k0_pay21 mk0 word (sk kw) (sq qb) (Scalar.ofBits .bf16 0x0000#16) t0)
    (k0_pay25 (k0_pay22 mk1 (sk kw) (sq qb) t1) (k0_pay23 word) k0_pay24) = blockOut word kw vw qb t0 t1 := rfl
theorem block2 : k0_pay35 (F := Ideal) mk0 (sk vw) (k0_pay26 mk0 word (sk kw) (sq qb) t0)
    (k0_pay27 mk1 word (sk kw) (sq qb) (Scalar.ofBits .bf16 0x0000#16) t1) = blockOut word kw vw qb t0 t1 := rfl
theorem block3 : k0_pay1 (F := Ideal) (k0_pay36 mk0 (sk vw) (k0_pay31 (k0_pay28 mk0 (sk kw) (sq qb) t0) (k0_pay29 word) k0_pay30)
    (k0_pay32 mk1 word (sk kw) (sq qb) t1)) = blockOut word kw vw qb t0 t1 := rfl

/-- A block's queries with one head's columns kept. -/
def kept (mask : IVec S1x128 1) : FVec Ideal S256x128 .bf16 :=
  select (broadcastTo S256x128 (shapeCast S1x128 mask shapeCasts_S1x128_S1x128) broadcasts_S1x128_S256x128) (k0_pay12 (F := Ideal) qb)
    (broadcast S256x128 (Scalar.ofBits (F := Ideal) .bf16 0x0000#16))

theorem w0_eq : w0 word kw qb t0 = Cert.Kernel2Ideal.Gen.k0_pay21 (F := Ideal) (Cert.Kernel2Ideal.Gen.k0_pay18 (k0_pay4 kw) (kept qb k0_pay2) t0)
    (Cert.Kernel2Ideal.Gen.k0_pay19 word) Cert.Kernel2Ideal.Gen.k0_pay20 := rfl
theorem w1_eq : w1 word kw qb t1 = Cert.Kernel2Ideal.Gen.k0_pay21 (F := Ideal) (Cert.Kernel2Ideal.Gen.k0_pay18 (k0_pay4 kw) (kept qb k0_pay3) t1)
    (Cert.Kernel2Ideal.Gen.k0_pay19 word) Cert.Kernel2Ideal.Gen.k0_pay20 := rfl

variable (Q K V B : ℕ → ℕ → ℕ → ℝ) (b p : ℕ) (i : Fin 8)
variable (hk : ∀ (w : Fin 768) (l : Fin 128), kw (ix3 0 w l) = ((K b (256 * i + w) (128 * p + l) : ℝ) : EReal))
variable (hv : ∀ (w : Fin 768) (l : Fin 128), vw (ix3 0 w l) = ((V b (256 * i + w) (128 * p + l) : ℝ) : EReal))
variable (hq : ∀ (r : Fin 256) (l : Fin 128), qb (ix3 0 r l) = ((Q b (256 * i + r) (128 * p + l) : ℝ) : EReal))
variable (h0 : ∀ (r : Fin 256) (w : Fin 768), t0 (ix3 0 r w)
  = if 64 * (r.val / 64) ≤ w.val ∧ w.val < 64 * (r.val / 64) + 576 then ((B (2 * p + 0) (r.val % 64) (w.val - 64 * (r.val / 64)) : ℝ) : EReal) else ⊥)
variable (h1 : ∀ (r : Fin 256) (w : Fin 768), t1 (ix3 0 r w)
  = if 64 * (r.val / 64) ≤ w.val ∧ w.val < 64 * (r.val / 64) + 576 then ((B (2 * p + 1) (r.val % 64) (w.val - 64 * (r.val / 64)) : ℝ) : EReal) else ⊥)

include hk in
theorem k_apply (w : Fin 768) (l : Fin 128) : k0_pay4 (F := Ideal) kw (ix2 w l) = ((K b (256 * i + w) (128 * p + l) : ℝ) : EReal) := by
  unfold k0_pay4
  rw [shapeCast_dropUnit_apply]
  exact (congrArg kw (ValueIdx.eq_ix3 _)).trans (hk w l)
include hv in
theorem v_apply (w : Fin 768) (l : Fin 128) : k0_pay8 (F := Ideal) vw (ix2 w l) = ((V b (256 * i + w) (128 * p + l) : ℝ) : EReal) := by
  unfold k0_pay8
  rw [shapeCast_dropUnit_apply]
  exact (congrArg vw (ValueIdx.eq_ix3 _)).trans (hv w l)
include hq in
theorem q_apply (r : Fin 256) (l : Fin 128) : k0_pay12 (F := Ideal) qb (ix2 r l) = ((Q b (256 * i + r) (128 * p + l) : ℝ) : EReal) := by
  unfold k0_pay12
  rw [shapeCast_dropUnit_apply]
  exact (congrArg qb (ValueIdx.eq_ix3 _)).trans (hq r l)
include hq in
theorem kept0 (r : Fin 256) (l : Fin 128) : kept qb k0_pay2 (ix2 r l) = ((if l.val / 64 = 0 then Q b (256 * i + r) (128 * p + l) else 0 : ℝ) : EReal) := by
  have e : broadcastTo S256x128 (shapeCast S1x128 k0_pay2 shapeCasts_S1x128_S1x128) broadcasts_S1x128_S256x128 (ix2 r l) = if l.val / 64 = 0 then 1#1 else 0#1 := mask0_apply r l
  show Scalar.select (broadcastTo S256x128 (shapeCast S1x128 k0_pay2 shapeCasts_S1x128_S1x128) broadcasts_S1x128_S256x128 (ix2 r l)) _ (Ideal.ofBits .bf16 0#16) = _
  rw [e, select_ite, q_apply qb Q b p i hq, Ideal.ofBits_zero_bf16]
  split <;> rfl
include hq in
theorem kept1 (r : Fin 256) (l : Fin 128) : kept qb k0_pay3 (ix2 r l) = ((if l.val / 64 = 1 then Q b (256 * i + r) (128 * p + l) else 0 : ℝ) : EReal) := by
  have e : broadcastTo S256x128 (shapeCast S1x128 k0_pay3 shapeCasts_S1x128_S1x128) broadcasts_S1x128_S256x128 (ix2 r l) = if l.val / 64 = 1 then 1#1 else 0#1 := mask1_apply r l
  show Scalar.select (broadcastTo S256x128 (shapeCast S1x128 k0_pay3 shapeCasts_S1x128_S1x128) broadcasts_S1x128_S256x128 (ix2 r l)) _ (Ideal.ofBits .bf16 0#16) = _
  rw [e, select_ite, q_apply qb Q b p i hq, Ideal.ofBits_zero_bf16]
  split <;> rfl

include hv in
/-- A head's weighted sum of values, on the head's own columns. -/
theorem o_apply (hh : ℕ) (hhh : hh < 2) (P : FVec Ideal S256x768 .bf16)
    (hP : ∀ (r : Fin 256) (w : Fin 768), P (ix2 r w) = ((pr Q K B b (2 * p + hh) (256 * i + r) (256 * i + w) : ℝ) : EReal))
    (r : Fin 256) (l : Fin 128) (hl : l.val / 64 = hh) :
    matmul dot_S256x768_S768x128_S256x128_1_0_0_1_n_n none P (k0_pay8 (F := Ideal) vw) (constant (F := Ideal) S256x128 .f32 0x00000000#32) (ix2 r l)
      = ((oA Q K V B b (256 * i + r) (128 * p + l) : ℝ) : EReal) := by
  have hr := r.isLt
  have hl' := l.isLt
  refine (nn_apply P (k0_pay8 (F := Ideal) vw) r l).trans ?_
  rw [← oA_window Q K V B b (256 * i + r) (128 * p + l) (256 * i) 768 (by omega) (by omega), show (128 * p + l.val) / 64 = 2 * p + hh by omega, coe_sum]
  exact Finset.sum_congr rfl fun w _ => by rw [hP, v_apply vw V b p i hv, EReal.coe_mul]

include hk hv hq h0 h1 in
theorem blockOut_apply (r : Fin 256) (l : Fin 128) : blockOut (start i) kw vw qb t0 t1 (ix3 0 r l)
    = ((oA Q K V B b (256 * i + r) (128 * p + l) : ℝ) : EReal) := by
  have hl := l.isLt
  unfold blockOut k0_pay34
  rw [shapeCast_addUnit_apply]
  rw [show (fun a : Fin 2 => (ix3 (0 : Fin 1) r l : S1x256x128.Idx) a.succ) = (ix2 r l : S256x128.Idx) from
    funext fun a => match a with | ⟨0, _⟩ => rfl | ⟨1, _⟩ => rfl]
  have e : broadcastTo S256x128 (shapeCast S1x128 k0_pay2 shapeCasts_S1x128_S1x128) broadcasts_S1x128_S256x128 (ix2 r l) = if l.val / 64 = 0 then 1#1 else 0#1 := mask0_apply r l
  show Scalar.select (broadcastTo S256x128 (shapeCast S1x128 k0_pay2 shapeCasts_S1x128_S1x128) broadcasts_S1x128_S256x128 (ix2 r l)) _ _ = _
  rw [e, select_ite]
  by_cases h : l.val / 64 = 0
  · rw [if_pos h]
    refine o_apply vw Q K V B b p i hv 0 (by decide) _ (fun r w => ?_) r l h
    rw [w0_eq]
    exact probs_apply _ _ _ _ _ _ _ _ _ _ (k_apply kw K b p i hk) (kept0 qb Q b p i hq) h0 (by decide) r w
  · rw [if_neg h]
    refine o_apply vw Q K V B b p i hv 1 (by decide) _ (fun r w => ?_) r l (by omega)
    rw [w1_eq]
    exact probs_apply _ _ _ _ _ _ _ _ _ _ (k_apply kw K b p i hk) (kept1 qb Q b p i hq) h1 (by decide) r w
end block

/-! ## A point's four blocks -/

section point
variable (c : Dev nD) (i : grid0.Coords)
variable (arg3 : Memref sig .tc .vmem S1x1024x128 .bf16) (harg3 : arg3.IsWhole) (arg4 : Memref sig .tc .vmem S1x2560x128 .bf16) (harg4 : arg4.IsWhole)
variable (arg5 : Memref sig .tc .vmem S1x2560x128 .bf16) (harg5 : arg5.IsWhole) (arg6 : Memref sig .tc .vmem S2x256x768 .f32) (harg6 : arg6.IsWhole)
variable (arg7 : Memref sig .tc .vmem S1x1024x128 .bf16) (harg7 : arg7.IsWhole)
variable (x0 : Vec Ideal S1x1024x128 .bf16) (x1 x2 : Vec Ideal S1x2560x128 .bf16) (x3 : Vec Ideal S2x256x768 .f32)
variable (Q K V B : ℕ → ℕ → ℕ → ℝ) (b p : ℕ)

theorem word_block : ∀ (s : Fin 2) (j : Fin 4), Scalar.muli (Scalar.addi (Scalar.muli (BitVec.ofNat 32 s.val) 4#32) (BitVec.ofNat 32 j.val)) 256#32
    = start ⟨4 * s.val + j.val, by omega⟩ := by decide +kernel
theorem off_block : ∀ (s : Fin 2) (j : Fin 4), (Scalar.muli (Scalar.addi (Scalar.muli (BitVec.ofNat 32 s.val) 4#32) (BitVec.ofNat 32 j.val)) 256#32).toNat
    = 256 * (4 * s.val + j.val) := by decide +kernel

variable (hx0 : ∀ (r : Fin 1024) (l : Fin 128), x0 (ix3 0 r l) = ((Q b (1024 * (i 2).val + r) (128 * p + l) : ℝ) : EReal))
variable (hx1 : ∀ (w : Fin 2560) (l : Fin 128), x1 (ix3 0 w l) = ((K b w (128 * p + l) : ℝ) : EReal))
variable (hx2 : ∀ (w : Fin 2560) (l : Fin 128), x2 (ix3 0 w l) = ((V b w (128 * p + l) : ℝ) : EReal))
variable (hx3 : ∀ (e : Fin 2) (r : Fin 256) (w : Fin 768), x3 (ix3 e r w)
  = if 64 * (r.val / 64) ≤ w.val ∧ w.val < 64 * (r.val / 64) + 576 then ((B (2 * p + e) (r.val % 64) (w.val - 64 * (r.val / 64)) : ℝ) : EReal) else ⊥)

theorem lt2 : (i 2).val < 2 := (i 2).isLt

theorem win_apply (x : Vec Ideal S1x2560x128 .bf16) (j : Fin 4) (off : Fin 3 → ℕ) (hoff : off = ![0, 256 * (4 * (i 2).val + j.val), 0]) (inb)
    (w : Fin 768) (l : Fin 128) :
    View.ld (Val := Elt Ideal) (e' := .bf16) x (Rect.unit (s := S1x2560x128) off S1x768x128.size inb) (ix3 0 w l)
      = x (ix3 0 (⟨256 * (4 * (i 2).val + j.val) + w.val, by have := lt2 i; omega⟩ : Fin 2560) l) := by
  subst hoff
  refine View.ld_unit_apply_of _ _ _ _ _ _ (fun a => ?_)
  match a with
  | ⟨0, _⟩ => rfl
  | ⟨1, _⟩ => rfl
  | ⟨2, _⟩ => show l.val = 0 + l.val; omega

include hx0 hx1 hx2 hx3 in
theorem tile (j : Fin 4) (o : ℕ) (ho : o = 256 * j.val) (word : BitVec 32)
    (hword : word = Scalar.muli (Scalar.addi (Scalar.muli (BitVec.ofNat 32 (i 2).val) 4#32) (BitVec.ofNat 32 j.val)) 256#32)
    (off : Fin 3 → ℕ) (hoff : off = ![0, word.toNat, 0]) (inb1 inb2 inb)
    (x : S1x256x128.Idx) (y : S1x1024x128.Idx) (h1 : (y 1).val = o + (x 1).val) (h2 : (y 2).val = (x 2).val) :
    blockOut word (View.ld (Val := Elt Ideal) (e' := .bf16) x1 (Rect.unit (s := S1x2560x128) off S1x768x128.size inb1))
      (View.ld (Val := Elt Ideal) (e' := .bf16) x2 (Rect.unit (s := S1x2560x128) off S1x768x128.size inb2))
      (View.ld (Val := Elt Ideal) (e' := .bf16) x0 (Rect.unit (s := S1x1024x128) ![0, o, 0] S1x256x128.size inb))
      (View.ld (Val := Elt Ideal) (e' := .f32) x3 (Rect.unit (s := S2x256x768) ![0, 0, 0] S1x256x768.size inb_S2x256x768_S1x256x768_0_0_0))
      (View.ld (Val := Elt Ideal) (e' := .f32) x3 (Rect.unit (s := S2x256x768) ![1, 0, 0] S1x256x768.size inb_S2x256x768_S1x256x768_1_0_0)) x
      = ((oA Q K V B b (1024 * (i 2).val + (y 1).val) (128 * p + (y 2).val) : ℝ) : EReal) := by
  subst hword
  rw [off_block (i 2) j] at hoff
  subst ho
  have hs := lt2 i
  obtain ⟨u, r, l, rfl⟩ : ∃ (u : Fin 1) (r : Fin 256) (l : Fin 128), x = ix3 u r l := ⟨_, _, _, ValueIdx.eq_ix3 x⟩
  obtain rfl := Fin.fin_one_eq_zero u
  have hh1 : (y 1).val = 256 * j.val + r.val := h1
  have hh2 : (y 2).val = l.val := h2
  rw [hh1, hh2, word_block (i 2) j]
  refine (blockOut_apply _ _ _ _ _ Q K V B b p ⟨4 * (i 2).val + j.val, by omega⟩ (fun w l => ?_) (fun w l => ?_) (fun r l => ?_) (fun r w => ?_) (fun r w => ?_) r l).trans (congrArg _ ?_)
  · rw [win_apply i x1 j off hoff, hx1]
  · rw [win_apply i x2 j off hoff, hx2]
  · refine (View.ld_unit_apply_of x0 _ _ inb _ (ix3 (0 : Fin 1) (⟨256 * j.val + r.val, by omega⟩ : Fin 1024) l) (fun a => by
      match a with
      | ⟨0, _⟩ => rfl
      | ⟨1, _⟩ => rfl
      | ⟨2, _⟩ => show l.val = 0 + l.val; omega)).trans ?_
    rw [hx0]
    show ((Q b (1024 * (i 2).val + (256 * j.val + r.val)) _ : ℝ) : EReal) = ((Q b (256 * (4 * (i 2).val + j.val) + r.val) _ : ℝ) : EReal)
    rw [show 1024 * (i 2).val + (256 * j.val + r.val) = 256 * (4 * (i 2).val + j.val) + r.val by omega]
  · exact (View.ld_unit_apply_of x3 _ _ _ _ (ix3 (0 : Fin 2) r w) (fun a => by
      match a with
      | ⟨0, _⟩ => rfl
      | ⟨1, _⟩ => show r.val = 0 + r.val; omega
      | ⟨2, _⟩ => show w.val = 0 + w.val; omega)).trans (hx3 0 r w)
  · exact (View.ld_unit_apply_of x3 _ _ _ _ (ix3 (1 : Fin 2) r w) (fun a => by
      match a with
      | ⟨0, _⟩ => rfl
      | ⟨1, _⟩ => show r.val = 0 + r.val; omega
      | ⟨2, _⟩ => show w.val = 0 + w.val; omega)).trans (hx3 1 r w)
  · show oA Q K V B b (256 * (4 * (i 2).val + j.val) + r.val) _ = oA Q K V B b (1024 * (i 2).val + (256 * j.val + r.val)) _
    rw [show 1024 * (i 2).val + (256 * j.val + r.val) = 256 * (4 * (i 2).val + j.val) + r.val by omega]

include hx0 hx1 hx2 hx3 in
theorem out4 (y : S1x1024x128.Idx) : out0_A_4 c i arg3 harg3 arg4 harg4 arg5 harg5 arg6 harg6 arg7 harg7 x0 x1 x2 x3 y
    = ((oA Q K V B b (1024 * (i 2).val + (y 1).val) (128 * p + (y 2).val) : ℝ) : EReal) := by
  have hcov := cover0_A_4 c i arg3 harg3 arg4 harg4 arg5 harg5 arg6 harg6 arg7 harg7 x0 x1 x2 x3
  unfold out0_A_4
  rw [View.read_writes_junk_eq_canon]
  unfold kernelRun0_A at hcov ⊢
  dsimp only at hcov ⊢
  canon_tiles x h using hcov y
  all_goals (sl_unfold_words; simp only [View.readAt_eq_ld, harg3.read_unread, harg4.read_unread, harg5.read_unread, harg6.read_unread])
  · rw [block3]
    exact tile i x0 x1 x2 x3 Q K V B b p hx0 hx1 hx2 hx3 3 768 rfl _ rfl _ rfl _ _ _ x y h1 h2
  · rw [block2]
    exact tile i x0 x1 x2 x3 Q K V B b p hx0 hx1 hx2 hx3 2 512 rfl _ rfl _ rfl _ _ _ x y h1 h2
  · rw [block1]
    exact tile i x0 x1 x2 x3 Q K V B b p hx0 hx1 hx2 hx3 1 256 rfl _ rfl _ rfl _ _ _ x y h1 h2
  · rw [block0]
    exact tile i x0 x1 x2 x3 Q K V B b p hx0 hx1 hx2 hx3 0 0 rfl _ rfl _ rfl _ _ _ x y (h1.trans (Nat.zero_add _).symm) h2
end point

/-! ## The array -/

variable (m : (ℓ : Loc nD τ sig) → Buf (Elt Ideal) ℓ)

/-- Every argument is an array of reals. -/
structure Fine (c : Dev nD) : Prop where
  r0 : Real' (A0 m c)
  r1 : Real' (A1 m c)
  r2 : Real' (A2 m c)
  r3 : Real' (A3 m c)

variable (c : Dev nD) (t : Fin cfg0.N) (hF : Fine m c)

/-- The batch and the pair of heads of a point. -/
abbrev bt : ℕ := t.val / 2 % 2
abbrev hp : ℕ := t.val / 4

include hF
theorem b0 (r : Fin 1024) (l : Fin 128) : (iblk m c 0 t : Vec Ideal S1x1024x128 .bf16) (ix3 0 r l)
    = ((rd3 (A0 m c) (bt t) (1024 * (grid0.coords t 2).val + r) (128 * hp t + l) : ℝ) : EReal) := by
  have ht := lt16 t
  have e := rd3_coe (A0 m c) hF.r0 ⟨bt t, Nat.mod_lt _ (by decide)⟩ ⟨1024 * (t.val % 2) + r.val, by omega⟩ ⟨128 * hp t + l.val, by show 128 * (t.val / 4) + l.val < 512; omega⟩
  rw [coord2]
  refine Eq.trans ?_ e
  blk_simp [iblk]
  rw [V0]
  refine congrArg _ (ext3 _ _ _ _ ?_ ?_ ?_) <;> blk_simp [idx t]
  · show t.val % 2 * 1024 + r.val = 1024 * (t.val % 2) + r.val; omega
  · show t.val / 4 * 128 + l.val = 128 * (t.val / 4) + l.val; omega
theorem b1 (w : Fin 2560) (l : Fin 128) : (iblk m c 1 t : Vec Ideal S1x2560x128 .bf16) (ix3 0 w l)
    = ((behind (rd3 (A1 m c)) (bt t) w (128 * hp t + l) : ℝ) : EReal) := by
  have ht := lt16 t
  have e := behindArr_apply (A1 m c) hF.r1 ⟨bt t, Nat.mod_lt _ (by decide)⟩ w ⟨128 * hp t + l.val, by show 128 * (t.val / 4) + l.val < 512; omega⟩
  refine Eq.trans ?_ e
  blk_simp [iblk]
  rw [(V12 m c).1]
  refine congrArg _ (ext3 _ _ _ _ ?_ ?_ ?_) <;> blk_simp [idx t]
  · show t.val / 4 * 128 + l.val = 128 * (t.val / 4) + l.val; omega
theorem b2 (w : Fin 2560) (l : Fin 128) : (iblk m c 2 t : Vec Ideal S1x2560x128 .bf16) (ix3 0 w l)
    = ((behind (rd3 (A2 m c)) (bt t) w (128 * hp t + l) : ℝ) : EReal) := by
  have ht := lt16 t
  have e := behindArr_apply (A2 m c) hF.r2 ⟨bt t, Nat.mod_lt _ (by decide)⟩ w ⟨128 * hp t + l.val, by show 128 * (t.val / 4) + l.val < 512; omega⟩
  refine Eq.trans ?_ e
  blk_simp [iblk]
  rw [(V12 m c).2]
  refine congrArg _ (ext3 _ _ _ _ ?_ ?_ ?_) <;> blk_simp [idx t]
  · show t.val / 4 * 128 + l.val = 128 * (t.val / 4) + l.val; omega
theorem b3 (u : Fin 2) (r : Fin 256) (w : Fin 768) : (iblk m c 3 t : Vec Ideal S2x256x768 .f32) (ix3 u r w)
    = if 64 * (r.val / 64) ≤ w.val ∧ w.val < 64 * (r.val / 64) + 576
      then ((rd3 (bias (A3 m c)) (2 * hp t + u) (r.val % 64) (w.val - 64 * (r.val / 64)) : ℝ) : EReal) else ⊥ := by
  have ht := lt16 t
  have e := table_apply (bias (A3 m c)) (bias_real _ hF.r3) ⟨2 * hp t + u.val, by show 2 * (t.val / 4) + u.val < 8; omega⟩ r w
  refine Eq.trans ?_ e
  blk_simp [iblk]
  rw [V3]
  refine congrArg _ (ext3 _ _ _ _ ?_ ?_ ?_) <;> blk_simp [idx t]
  · show t.val / 4 * 2 + u.val = 2 * (t.val / 4) + u.val; omega

theorem outs (y : S1x1024x128.Idx) : (outsAt0 m c t : Vec Ideal S1x1024x128 .bf16) y
    = ((oA (rd3 (A0 m c)) (behind (rd3 (A1 m c))) (behind (rd3 (A2 m c))) (rd3 (bias (A3 m c))) (bt t) (1024 * (grid0.coords t 2).val + (y 1).val)
        (128 * hp t + (y 2).val) : ℝ) : EReal) :=
  out4 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) (iblk m c 3 t)
    _ _ _ _ _ _ (b0 m c t hF) (b1 m c t hF) (b2 m c t hF) (b3 m c t hF) y

theorem final4 : (dats m 0 c).arrAt 4 cfg0.N
    = fun i => ((oA (rd3 (A0 m c)) (behind (rd3 (A1 m c))) (behind (rd3 (A2 m c))) (rd3 (bias (A3 m c))) (i 0).val (i 1).val (i 2).val : ℝ) : EReal) := by
  refine (dats m 0 c).arrAt_eq_of_covers 4 _ (by decide +kernel) fun t hf y => ?_
  blk_simp
  rw [after0_4, show win0_4.index t = _ from (idx t).2.2.2.2]
  obtain ⟨u, r, l, rfl⟩ : ∃ (u : Fin 1) (r : Fin 1024) (l : Fin 128), y = ix3 u r l := ⟨_, _, _, ValueIdx.eq_ix3 y⟩
  obtain rfl := Fin.fin_one_eq_zero u
  rw [outs m c t hF, coord2]
  refine congrArg _ ?_
  show oA _ _ _ _ (t.val / 2 % 2) (1024 * (t.val % 2) + r) (128 * (t.val / 4) + l) = oA _ _ _ _ (t.val / 2 % 2) (t.val % 2 * 1024 + r) (t.val / 4 * 128 + l)
  rw [Nat.mul_comm 1024, Nat.mul_comm 128]

end Cert.Kernel6Ideal.AttnFwd

end

end
-- ==== Proof.AttnFwdRef.lean ====
/-
  The reference of the attention's output element by element as real numbers. Its scores are those of the gradient's reference, put
  together in another order.
-/
module

public import proofs.«01_k».proof.Proof.Gen.Reference6Ideal.Read
public import proofs.«01_k».proof.Proof.AttnRef
public import proofs.«01_k».proof.Proof.AttnFwdSpec

set_option maxRecDepth 16384
set_option backward.isDefEq.respectTransparency false

@[expose] public section

noncomputable section

namespace Cert.Reference6Ideal.AttnFwdRef

open Cert.Reference6Ideal Cert.Reference6Ideal.Read Cert.Common Cert.Attn
open Cert.Reference2Ideal.AttnRef (row col rQ rK rB word_pos select_if)
open Idealize.ShloMosaic Idealize.ShloMosaic.ValueIdx
open scoped BigOperators

variable (x0 x1 x2 : Vec Ideal S2x2048x512 .f32) (x3 : Vec Ideal S8x257 .f32)
variable (b : Fin 2) (n : Fin 32) (h : Fin 8) (q d : Fin 64) (j : Fin 576)

/-- The queries, cut into chunks and heads. -/
theorem v33_at : val_main_v33 (F := Ideal) x0 (ix5 b n q h d) = x0 (ix3 b (row n q) (col h d)) := by
  rw [val_main_v33_apply]
  exact congrArg x0 (ext3 _ _ _ _ (by show ((((b.val * 32 + n.val) * 64 + q.val) * 8 + h.val) * 64 + d.val) / 1048576 = b.val; omega)
    (by show ((((b.val * 32 + n.val) * 64 + q.val) * 8 + h.val) * 64 + d.val) / 512 % 2048 = 64 * n.val + q.val; omega)
    (by show ((((b.val * 32 + n.val) * 64 + q.val) * 8 + h.val) * 64 + d.val) % 512 = 64 * h.val + d.val; omega))

/-- The keys and values of a chunk are gathered as the gradient's reference gathers its keys. -/
theorem v44_eq (x : Vec Ideal S2x2048x512 .f32) : val_main_v44 (F := Ideal) x = Cert.Reference2Ideal.Read.val_main_v46 (F := Ideal) x := rfl
theorem v76_eq (x : Vec Ideal S2x2048x512 .f32) : val_main_v76 (F := Ideal) x = Cert.Reference2Ideal.Read.val_main_v46 (F := Ideal) x := rfl
theorem v23_eq (x : Vec Ideal S8x257 .f32) : val_main_v23 (F := Ideal) x = Cert.Reference2Ideal.Read.val_main_v23 (F := Ideal) x := rfl
theorem seen_eq : val_main_call1_v1 (F := Ideal) = Cert.Reference2Ideal.Read.val_main_v58_1 (F := Ideal) := rfl

section
variable (f0 : Real' x0) (f1 : Real' x1) (f2 : Real' x2) (f3 : Real' (Cert.Reference2Ideal.Read.val_main_v23 (F := Ideal) x3))

include f0 f1 f3 in
/-- The scores, those of the keys not seen at minus infinity. -/
theorem v54_at : val_main_v54 (F := Ideal) x0 x1 x3 (ix5 b n h q j)
    = if inB (64 * n + q) (64 * n + j) then ((sc (rQ x0) (rK x1) (rB x3) b h (64 * n + q) (64 * n + j) : ℝ) : EReal) else ⊥ := by
  have hq := q.isLt
  rw [val_main_v54_apply, seen_eq, Cert.Reference2Ideal.AttnRef.v58_1_at, select_if]
  have e : val_main_call1_v2 (F := Ideal) (ix5 b n h q j) = ⊥ := lit_ninf
  have e50 : val_main_v50 (F := Ideal) x0 x1 x3 (ix5 b n h q j) = ((sc (rQ x0) (rK x1) (rB x3) b h (64 * n + q) (64 * n + j) : ℝ) : EReal) := by
    have e49 : val_main_v49 (F := Ideal) x3 (ix5 b n h q j) = ((rd3 (Cert.Reference2Ideal.Read.val_main_v23 (F := Ideal) x3) h q j : ℝ) : EReal) := by
      rw [val_main_v49_apply, val_main_v48_apply, v23_eq]
      exact (congrArg _ (eq_ix3 _)).trans (rd3_coe _ f3 h q j)
    rw [val_main_v50_apply, e49, val_main_v47_apply, val_main_v45_apply]
    have hs : ∑ k : Fin 64, val_main_v33 (F := Ideal) x0 (lidx_main_v45 (ix5 b n h q j) k) * val_main_v44 (F := Ideal) x1 (ridx_main_v45 (ix5 b n h q j) k)
        = ((∑ d : Fin 64, rQ x0 b (64 * n + q) (64 * h + d) * rK x1 b (64 * n + j) (64 * h + d) : ℝ) : EReal) := by
      rw [coe_sum]
      refine Finset.sum_congr rfl fun k _ => ?_
      rw [show lidx_main_v45 (ix5 b n h q j) k = ix5 b n q h k from eq_ix5 _, show ridx_main_v45 (ix5 b n h q j) k = ix5 b n j h k from eq_ix5 _,
        v33_at, v44_eq, Cert.Reference2Ideal.AttnRef.v46_at x1 b n h k j f1, EReal.coe_mul]
      exact congrArg (· * _) (rd3_coe x0 f0 b (row n q) (col h k))
    rw [hs]
    show _ * Ideal.ofBits .f32 0x3E000000#32 + _ = _
    unfold sc
    rw [lit_8th, show (64 * n.val + q.val) % 64 = q.val by omega, show 64 * n.val + j.val - 64 * ((64 * n.val + q.val) / 64) = j.val by omega, ← EReal.coe_mul, ← EReal.coe_add]
  rw [e, e50]

include f0 f1 f3 in
/-- The scores of the two references are the same array, and so is all that their weights are made of. -/
theorem v54_eq : val_main_v54 (F := Ideal) x0 x1 x3 = Cert.Reference2Ideal.Read.val_main_v58_0 (F := Ideal) x0 x1 x3 := by
  funext i
  rw [eq_ix5 i, v54_at x0 x1 x3 _ _ _ _ _ f0 f1 f3]
  exact (Cert.Reference2Ideal.AttnRef.v58_at x0 x1 x3 f0 f1 f3 _ _ _ _ _).symm

include f0 f1 f3 in
/-- The weights. -/
theorem v65_at : val_main_v65 (F := Ideal) x0 x1 x3 (ix5 b n h q j)
    = ((pr (rQ x0) (rK x1) (rB x3) b h (64 * n + q) (64 * n + j) : ℝ) : EReal) := by
  have h55 : val_main_v55 (F := Ideal) x0 x1 x3 = Cert.Reference2Ideal.Read.val_main_v59 (F := Ideal) x0 x1 x3 := by
    unfold val_main_v55 Cert.Reference2Ideal.Read.val_main_v59
    rw [v54_eq x0 x1 x3 f0 f1 f3]
    rfl
  have h61 : ∀ i, val_main_v61 (F := Ideal) x0 x1 x3 i = Cert.Reference2Ideal.Read.val_main_v79 (F := Ideal) x0 x1 x3 i := fun i => by
    rw [val_main_v61_apply, val_main_v60_apply, val_main_v59_apply, val_main_v58_apply, val_main_v57_apply, h55, v54_eq x0 x1 x3 f0 f1 f3,
      Cert.Reference2Ideal.Read.val_main_v79_apply, Cert.Reference2Ideal.Read.val_main_v78_apply, Cert.Reference2Ideal.Read.val_main_v77_apply,
      Cert.Reference2Ideal.Read.val_main_v76_apply, Cert.Reference2Ideal.Read.val_main_v66_apply]
    rfl
  have h62 : ∀ i, val_main_v62 (F := Ideal) x0 x1 x3 i = Cert.Reference2Ideal.Read.val_main_v80 (F := Ideal) x0 x1 x3 i := fun i => by
    rw [val_main_v62_apply, Cert.Reference2Ideal.Read.val_main_v80_apply]
    exact congrArg _ (Finset.sum_congr rfl fun k _ => h61 _)
  rw [← Cert.Reference2Ideal.AttnRef.v83_at x0 x1 x3 f0 f1 f3 b n h q j, val_main_v65_apply, val_main_v64_apply, val_main_v63_apply, h61, h62,
    Cert.Reference2Ideal.Read.val_main_v83_apply, Cert.Reference2Ideal.Read.val_main_v82_apply, Cert.Reference2Ideal.Read.val_main_v81_apply]
  rfl

include f0 f1 f2 f3 in
/-- The output. -/
theorem v80_at (t : Fin 2048) (k : Fin 512) : val_main_v80 (F := Ideal) x0 x1 x2 x3 (ix3 b t k)
    = ((oA (rQ x0) (rK x1) (rK x2) (rB x3) b t k : ℝ) : EReal) := by
  have ht := t.isLt
  have hk := k.isLt
  have e : idx_main_v79 (ix3 b t k) = ix5 b (⟨t.val / 64, by omega⟩ : Fin 32) (⟨t.val % 64, by omega⟩ : Fin 64) (⟨k.val / 64, by omega⟩ : Fin 8) (⟨k.val % 64, by omega⟩ : Fin 64) :=
    ext5 _ _ _ _ _ _ (by show ((b.val * 2048 + t.val) * 512 + k.val) / 1048576 = b.val; omega)
      (by show ((b.val * 2048 + t.val) * 512 + k.val) / 32768 % 32 = t.val / 64; omega)
      (by show ((b.val * 2048 + t.val) * 512 + k.val) / 512 % 64 = t.val % 64; omega)
      (by show ((b.val * 2048 + t.val) * 512 + k.val) / 64 % 8 = k.val / 64; omega)
      (by show ((b.val * 2048 + t.val) * 512 + k.val) % 64 = k.val % 64; omega)
  rw [val_main_v80_apply]
  show val_main_v79 (F := Ideal) x0 x1 x2 x3 (ix3 b t k) = _
  rw [val_main_v79_apply, e, val_main_v78_apply]
  rw [show ∀ (n : Fin 32) (q : Fin 64) (h : Fin 8) (d : Fin 64), idx_main_v78 (ix5 b n q h d) = ix5 b n h d q from fun n q h d => eq_ix5 _, val_main_v77_apply]
  unfold oA
  rw [coe_sum]
  refine Finset.sum_congr rfl fun w _ => ?_
  rw [show ∀ (n : Fin 32) (q : Fin 64) (h : Fin 8) (d : Fin 64), lidx_main_v77 (ix5 b n h d q) w = ix5 b n w h d from fun n q h d => eq_ix5 _,
    show ∀ (n : Fin 32) (q : Fin 64) (h : Fin 8) (d : Fin 64), ridx_main_v77 (ix5 b n h d q) w = ix5 b n h q w from fun n q h d => eq_ix5 _,
    v65_at x0 x1 x3 _ _ _ _ _ f0 f1 f3, v76_eq, Cert.Reference2Ideal.AttnRef.v46_at x2 _ _ _ _ _ f2, mul_comm, ← EReal.coe_mul]
  show ((pr _ _ _ b (k.val / 64) (64 * (t.val / 64) + t.val % 64) (64 * (t.val / 64) + w) * rK x2 b (64 * (t.val / 64) + w) (64 * (k.val / 64) + k.val % 64) : ℝ) : EReal) = _
  rw [Nat.div_add_mod, Nat.div_add_mod]
end

end Cert.Reference6Ideal.AttnFwdRef

end

end
-- ==== Proof.AttnFwdClaim.lean ====
/-
  The attention's output: both programs' arrays are the same array of reals.
-/
module

public import proofs.«01_k».proof.Defs
public import proofs.«01_k».proof.Proof.AttnFwdPoint
public import proofs.«01_k».proof.Proof.AttnFwdRef
public import proofs.«01_k».proof.Proof.Gen.Reference6Ideal.Run
public import proofs.«01_k».proof.Proof.Gen.Kernel6Ideal.Value
public import proofs.«01_k».proof.Proof.Gen.Pre_finite6

set_option maxRecDepth 16384
set_option backward.isDefEq.respectTransparency false

@[expose] public section

noncomputable section

namespace Cert.AttnFwdClaim

open Cert.Common Cert.Attn Cert.Kernel6Ideal.AttnFwd
open Cert.Kernel2Ideal.AttnArray (bias bias_real)
open Cert.Reference6Ideal Cert.Reference6Ideal.Read Cert.Reference6Ideal.AttnFwdRef
open Idealize.ShloMosaic hiding ix0 ix1 ix2 ix3 ix4 ix5 ix6 eq_ix3
open Idealize.ShloMosaic.ValueIdx Idealize.ShloMosaic.TcCoe

instance : Cert.Kernel6Ideal.Facts := Cert.Kernel6Ideal.Gen.facts
instance : Cert.Reference6Ideal.Facts := Cert.Reference6Ideal.Gen.facts
instance : Cert.Pre_finite6.Facts := Cert.Pre_finite6.Gen.facts

variable (m : (ℓ : Loc Cert.Kernel6Ideal.nD Cert.Kernel6Ideal.τ Cert.Kernel6Ideal.sig) → Buf (Elt Ideal) ℓ)
variable (c : Dev Cert.Kernel6Ideal.nD)

theorem pre (h : Cert.Pre_Kernel6Ideal_finite6 m) : Fine m c := by
  obtain ⟨h0, h1, h2, h3⟩ := h c
  exact ⟨real_of_bound _ _ (fun _ => rfl) h0, real_of_bound _ _ (fun _ => rfl) h1, real_of_bound _ _ (fun _ => rfl) h2,
    real_of_bound _ _ (fun _ => rfl) h3⟩

/-- The two programs look the biases up in the same way. -/
theorem bias_eq : Cert.Reference2Ideal.Read.val_main_v23 (F := Ideal) (A3 m c) = bias (A3 m c) := rfl

variable (f : Fine m c)

include f in
theorem bias_fine : Real' (Cert.Reference2Ideal.Read.val_main_v23 (F := Ideal) (A3 m c)) := by rw [bias_eq]; exact bias_real _ f.r3

include f in
theorem eq4 : (Cert.Kernel6Ideal.Gen.dats m 0 c).arrAt 4 Cert.Kernel6Ideal.cfg0.N = val_main_v80 (F := Ideal) (A0 m c) (A1 m c) (A2 m c) (A3 m c) := by
  rw [final4 m c f]
  funext i
  rw [eq_ix3 i, v80_at _ _ _ _ _ f.r0 f.r1 f.r2 (bias_fine m c f)]
  rfl

/-- The reference runs and leaves its arguments; it has no counters. -/
theorem frame_reference : Cert.quiescent_Reference6Ideal := fun m g _ =>
  (θ_run Cert.Reference6Ideal.defs _ _).mono (fun r h => ⟨fun c => (h c).2, sem_eq_zero_of_no_sems (by decide) r.2⟩)
    (Cert.Reference6Ideal.Value.run (F := Ideal) m g)

theorem algebraic : Cert.algebraic_Kernel6Ideal_Reference6Ideal_pre_finite6 := by
  intro m g m' g' hp ha
  refine ⟨_, Cert.Kernel6Ideal.Value.run_blocks (F := Ideal) m g, ?_⟩
  refine (θ_run Cert.Reference6Ideal.defs _ _).mono (fun r h c => ?_) (Cert.Reference6Ideal.Value.run (F := Ideal) m' g')
  have f := pre m c hp
  obtain ⟨a0, a1, a2, a3⟩ := ha c
  obtain ⟨h0, hrest⟩ := h c
  have e0 : StableHlo.launchContents m' c (Proc.devRef .tc Cert.Reference6Ideal.main_arg0) = A0 m c := a0
  have e1 : StableHlo.launchContents m' c (Proc.devRef .tc Cert.Reference6Ideal.main_arg1) = A1 m c := a1
  have e2 : StableHlo.launchContents m' c (Proc.devRef .tc Cert.Reference6Ideal.main_arg2) = A2 m c := a2
  have e3 : StableHlo.launchContents m' c (Proc.devRef .tc Cert.Reference6Ideal.main_arg3) = A3 m c := a3
  refine ⟨h0.trans ?_, hrest⟩
  refine (val_main_v80_eq _ _).trans (Eq.trans ?_ (eq4 m c f).symm)
  rw [a0, a1, a2, a3]

end Cert.AttnFwdClaim

end

end
-- ==== Proof.NormClaim.lean ====
/-
  The norm of the first block, forward: a point normalises 512 rows, and the array is the reference's.
-/
module

public import proofs.«01_k».proof.Defs
public import proofs.«01_k».proof.Proof.Rows
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.ValueKit
public import Idealize.ShloMosaic.Lib.Pointwise

set_option maxRecDepth 16384
set_option backward.isDefEq.respectTransparency false

@[expose] public section

noncomputable section

namespace Cert.NormClaim

open Cert.Kernel7Ideal Cert.Kernel7Ideal.Gen Cert.Common Cert.Reference7Ideal.Read
open Idealize.ShloMosaic Idealize.ShloMosaic.TcCoe Idealize.SL.Sem
open scoped BigOperators

instance : Cert.Kernel7Ideal.Facts := Cert.Kernel7Ideal.Gen.facts
instance : Cert.Reference7Ideal.Facts := Cert.Reference7Ideal.Gen.facts

theorem pay_at (x : Vec Ideal S512x1024 .f32) (g : Vec Ideal S1x1024 .f32) (r : Fin 512) (j : Fin 1024) :
    k0_pay1 x g (ix2 r j) = nrm (fun d => x (ix2 r d)) (fun d => g (ix2 (0 : Fin 1) d)) j := by
  unfold k0_pay1
  pointwise
  rfl

theorem ref_at (x : Vec Ideal S4096x1024 .f32) (g : Vec Ideal S1x1024 .f32) (r : Fin 4096) (j : Fin 1024) :
    val_main_v12 (F := Ideal) x g (ix2 r j) = nrm (fun d => x (ix2 r d)) (fun d => g (ix2 (0 : Fin 1) d)) j := by
  unfold val_main_v12 val_main_v11 val_main_v10 val_main_v9 val_main_v8 val_main_v7 val_main_v6 val_main_v5 val_main_v4 val_main_v3 val_main_v2 val_main_v1
    val_main_v0 val_main_cst val_main_cst_0 val_main_cst_1
  pointwise
  rfl

variable (m : (ℓ : Loc nD τ sig) → Buf (Elt Ideal) ℓ) (c : Dev nD)

abbrev A0 : Vec Ideal S4096x1024 .f32 := m ((c : Thread nD τ).loc main_arg0)
abbrev A1 : Vec Ideal S1x1024 .f32 := m ((c : Thread nD τ).loc main_arg1)

theorem idxs : ∀ t : Fin cfg0.N, win0_0.index t = ![t.val, 0] ∧ win0_1.index t = ![0, 0] ∧ win0_2.index t = ![t.val, 0] :=
  (by decide +kernel : ∀ t : Fin grid0.N, _)

/-- A point's stretch. -/
abbrev pb (t : Fin cfg0.N) : Fin 8 := ⟨t.val, t.isLt⟩

theorem blk0 (t : Fin cfg0.N) (r : Fin 512) (k : Fin 1024) : (iblk m c 0 t : Vec Ideal S512x1024 .f32) (ix2 r k) = A0 m c (ix2 (row8 (pb t) r) k) := by
  blk_simp [iblk]
  rw [V_main_arg0]
  refine congrArg (A0 m c) (ext2 _ _ _ ?_ ?_) <;> blk_simp [idxs t]
  show t.val * 512 + r.val = 512 * t.val + r.val; omega
theorem blk1 (t : Fin cfg0.N) (k : Fin 1024) : (iblk m c 1 t : Vec Ideal S1x1024 .f32) (ix2 (0 : Fin 1) k) = A1 m c (ix2 (0 : Fin 1) k) := by
  blk_simp [iblk]
  rw [V_main_arg1]
  refine congrArg (A1 m c) (ext2 _ _ _ ?_ ?_) <;> blk_simp [idxs t]

theorem emb2 (t : Fin cfg0.N) (r : Fin 512) (k : Fin 1024) : (win0_2.blk t).view.emb (ix2 r k) = ix2 (row8 (pb t) r) k :=
  ext2 _ _ _ (by blk_simp [idxs t]; show t.val * 512 + r.val = 512 * t.val + r.val; omega) (by blk_simp [idxs t])

theorem hz : (![0, 0] : Fin 2 → Nat) = fun _ => 0 := funext fun a => by fin_cases a <;> rfl

theorem eq2 : (dats m 0 c).arrAt 2 cfg0.N = val_main_v12 (F := Ideal) (A0 m c) (A1 m c) := by
  refine (dats m 0 c).arrAt_eq_of_covers 2 _ (by decide +kernel) fun t hf y => ?_
  blk_simp
  rw [after0_2]
  obtain ⟨r, k, rfl⟩ : ∃ (r : Fin 512) (k : Fin 1024), y = ix2 r k := ⟨y 0, y 1, ValueIdx.eq_ix2 y⟩
  rw [emb2]
  unfold out0_2
  rw [View.canon_unit_zero hz, View.ld_unit_zero (S := S512x1024) hz, View.ld_unit_zero (S := S1x1024) hz, pay_at]
  refine Eq.trans ?_ (ref_at _ _ _ _).symm
  congr 1 <;> funext d
  · exact blk0 m c t r d
  · exact blk1 m c t d

/-- The reference runs and leaves its arguments; it has no counters. -/
theorem frame_reference : Cert.quiescent_Reference7Ideal := fun m g _ =>
  (θ_run Cert.Reference7Ideal.defs _ _).mono (fun r h => ⟨fun c => (h c).2, sem_eq_zero_of_no_sems (by decide) r.2⟩)
    (Cert.Reference7Ideal.Value.run (F := Ideal) m g)

theorem algebraic : Cert.algebraic_Kernel7Ideal_Reference7Ideal := by
  intro m g m' g' hp ha
  refine ⟨_, Cert.Kernel7Ideal.Value.run_blocks (F := Ideal) m g, ?_⟩
  refine (θ_run Cert.Reference7Ideal.defs _ _).mono (fun r h c => ?_) (Cert.Reference7Ideal.Value.run (F := Ideal) m' g')
  obtain ⟨a0, a1⟩ := ha c
  obtain ⟨h0, hrest⟩ := h c
  refine ⟨h0.trans ((val_main_v12_eq _ _).trans ?_), hrest⟩
  rw [a0, a1]
  exact (eq2 m c).symm

end Cert.NormClaim

end
-- ==== Proof.DownClaim.lean ====
/-
  The last product of the first feed-forward block and the norm after it: every point adds half the product to 512 rows and
  normalises them.
-/
module

public import proofs.«01_k».proof.Defs
public import proofs.«01_k».proof.Proof.Rows
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit
public import Idealize.ShloMosaic.Lib.Pointwise

set_option maxRecDepth 16384
set_option backward.isDefEq.respectTransparency false

@[expose] public section

noncomputable section

namespace Cert.DownClaim

open Cert.Kernel8Ideal Cert.Kernel8Ideal.Gen Cert.Common Cert.Reference8Ideal.Read
open Idealize.ShloMosaic Idealize.ShloMosaic.TcCoe Idealize.SL.Sem
open scoped BigOperators

instance : Cert.Kernel8Ideal.Facts := Cert.Kernel8Ideal.Gen.facts
instance : Cert.Reference8Ideal.Facts := Cert.Reference8Ideal.Gen.facts

/-! ## One row of the output -/

/-- An input plus half a product's entry. -/
def half (x : EReal) (z w : Fin 2816 → EReal) : EReal := x + Ideal.ofBits .f32 0x3F000000#32 * ∑ q, z q * w q

theorem pay1_at (z : Vec Ideal S512x2816 .bf16) (w : Vec Ideal S2816x1024 .bf16) (x : Vec Ideal S512x1024 .f32) (r : Fin 512) (j : Fin 1024) :
    k0_pay1 z w x (ix2 r j) = half (x (ix2 r j)) (fun q => z (ix2 r q)) (fun q => w (ix2 q j)) := by
  unfold k0_pay1
  pointwise
  rfl

theorem pay2_at (z : Vec Ideal S512x2816 .bf16) (w : Vec Ideal S2816x1024 .bf16) (x : Vec Ideal S512x1024 .f32) (g : Vec Ideal S1x1024 .f32) (r : Fin 512) (j : Fin 1024) :
    k0_pay2 z w x g (ix2 r j) = nrm (fun d => k0_pay1 z w x (ix2 r d)) (fun d => g (ix2 (0 : Fin 1) d)) j := by
  unfold k0_pay2
  pointwise
  rfl

section reference
variable (z : Vec Ideal S4096x2816 .f32) (w : Vec Ideal S2816x1024 .f32) (x : Vec Ideal S4096x1024 .f32) (g : Vec Ideal S1x1024 .f32) (r : Fin 4096) (j : Fin 1024)

theorem v3_at : val_main_v3 (F := Ideal) z w x (ix2 r j) = half (x (ix2 r j)) (fun q => z (ix2 r q)) (fun q => w (ix2 q j)) := by
  unfold val_main_v3 val_main_v2 val_main_v1 val_main_v0 val_main_cst
  pointwise
  rfl

theorem v16_at : val_main_v16 (F := Ideal) z w x g (ix2 r j) = nrm (fun d => val_main_v3 (F := Ideal) z w x (ix2 r d)) (fun d => g (ix2 (0 : Fin 1) d)) j := by
  unfold val_main_v16 val_main_v15 val_main_v14 val_main_v13 val_main_v12 val_main_v11 val_main_v10 val_main_v9 val_main_v8 val_main_v7 val_main_v6 val_main_v5
    val_main_v4 val_main_cst_0 val_main_cst_1 val_main_cst_2
  pointwise
  rfl
end reference

/-! ## What a point stores -/

variable (m : (ℓ : Loc nD τ sig) → Buf (Elt Ideal) ℓ) (c : Dev nD)

theorem hz : (![0, 0] : Fin 2 → Nat) = fun _ => 0 := funext fun a => by fin_cases a <;> rfl

section Cases
variable (i : grid0.Coords) (arg1 : Memref sig .tc .vmem S512x2816 .bf16) (harg1 : arg1.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .bf16) (harg6 : arg6.IsWhole) (arg7 : Memref sig .tc .vmem S2816x1024 .bf16) (harg7 : arg7.IsWhole)
variable (x0 : Vec Ideal S512x2816 .bf16) (x1 : Vec Ideal S512x1024 .f32) (x2 : Vec Ideal S1x1024 .f32) (xs0 : Vec Ideal S2816x1024 .bf16) (fh0 : HbBuf0 (F := Ideal) c hbM0_0)

theorem caseA (hc0 : cond0_0 i) : sout0_A_0 c i arg1 harg1 arg3 harg3 arg4 harg4 arg5 harg5 arg6 harg6 arg7 harg7 hc0 x0 x1 x2 fh0 = fh0
    ∧ out0_A_3 c i arg1 harg1 arg3 harg3 arg4 harg4 arg5 harg5 arg6 harg6 arg7 harg7 hc0 x0 x1 x2 fh0 = k0_pay1 x0 fh0 x1
    ∧ out0_A_4 c i arg1 harg1 arg3 harg3 arg4 harg4 arg5 harg5 arg6 harg6 arg7 harg7 hc0 x0 x1 x2 fh0 = k0_pay2 x0 fh0 x1 x2 := by
  unfold sout0_A_0 out0_A_3 out0_A_4
  simp only [View.read_writes_junk_eq_canon]
  refine ⟨canon_whole _, ?_, ?_⟩ <;>
  · unfold kernelRun0_A
    dsimp only
    sl_unfold_words
    rw [View.canon_unit_zero hz, readCov_all (S := S2816x1024) _ _ hz, canon_whole]
    simp only [View.readAt_eq_ld, harg1.read_unread, harg3.read_unread, harg4.read_unread, View.ld_unit_zero (S := S512x2816) hz, View.ld_unit_zero (S := S512x1024) hz, View.ld_unit_zero (S := S1x1024) hz]
    rfl

theorem caseB (hc0 : ¬cond0_0 i) : out0_B_3 c i arg1 harg1 arg3 harg3 arg4 harg4 arg5 harg5 arg6 harg6 arg7 harg7 hc0 x0 x1 x2 xs0 fh0 = k0_pay1 x0 xs0 x1
    ∧ out0_B_4 c i arg1 harg1 arg3 harg3 arg4 harg4 arg5 harg5 arg6 harg6 arg7 harg7 hc0 x0 x1 x2 xs0 fh0 = k0_pay2 x0 xs0 x1 x2 := by
  unfold out0_B_3 out0_B_4
  simp only [View.read_writes_junk_eq_canon]
  constructor <;>
  · unfold kernelRun0_B
    dsimp only
    sl_unfold_words
    rw [View.canon_unit_zero hz]
    simp only [View.readAt_eq_ld, harg1.read_unread, harg3.read_unread, harg4.read_unread, harg7.read_unread, View.ld_unit_zero (S := S512x2816) hz, View.ld_unit_zero (S := S512x1024) hz, View.ld_unit_zero (S := S2816x1024) hz, View.ld_unit_zero (S := S1x1024) hz]

end Cases

/-- The weights as the points read them. -/
abbrev Wt : Vec Ideal S2816x1024 .bf16 := V m c main_v3

theorem scr : ∀ (n : ℕ) (hn : n < cfg0.N), (outsAt0 m c n hn).2.2 = Wt m c
  | 0, hn => by
    rw [outsAt0_A m c ⟨0, hn⟩ (Nat.zero_mod _)]
    dsimp only
    rw [(caseA ..).1]
  | n + 1, hn => by
    have hN : cfg0.N = 8 := N_0
    rw [outsAt0_B m c ⟨n + 1, hn⟩ (by dsimp only; omega)]
    dsimp only
    unfold sout0_B_0
    exact scr n _

theorem pt (t : Fin cfg0.N) : (outsAt0 m c t.val t.isLt).1 = k0_pay1 (iblk m c 0 t) (Wt m c) (iblk m c 1 t)
    ∧ (outsAt0 m c t.val t.isLt).2.1 = k0_pay2 (iblk m c 0 t) (Wt m c) (iblk m c 1 t) (iblk m c 2 t) := by
  by_cases h : t.val % 8 = 0
  · rw [outsAt0_A m c t h]
    dsimp only
    rw [(caseA ..).2.1, (caseA ..).2.2]
    exact ⟨rfl, rfl⟩
  · rw [outsAt0_B m c t h]
    dsimp only
    rw [(caseB ..).1, (caseB ..).2, scr]
    exact ⟨rfl, rfl⟩

/-! ## The blocks, and the arrays -/

abbrev A0 : Vec Ideal S4096x2816 .f32 := m ((c : Thread nD τ).loc main_arg0)
abbrev A1 : Vec Ideal S2816x1024 .f32 := m ((c : Thread nD τ).loc main_arg1)
abbrev A2 : Vec Ideal S4096x1024 .f32 := m ((c : Thread nD τ).loc main_arg2)
abbrev A3 : Vec Ideal S1x1024 .f32 := m ((c : Thread nD τ).loc main_arg3)

theorem idxs : ∀ t : Fin cfg0.N, win0_0.index t = ![t.val, 0] ∧ win0_1.index t = ![t.val, 0] ∧ win0_2.index t = ![0, 0]
    ∧ win0_3.index t = ![t.val, 0] ∧ win0_4.index t = ![t.val, 0] :=
  (by decide +kernel : ∀ t : Fin grid0.N, _)

/-- A point's stretch. -/
abbrev pb (t : Fin cfg0.N) : Fin 8 := ⟨t.val, t.isLt⟩

theorem V0 : (V m c (Pipeline.arrRef spec0 0) : Vec Ideal S4096x2816 .bf16) = A0 m c := by
  entry_read
  rfl
theorem Wt_eq : Wt m c = (A1 m c : S2816x1024.Idx → EReal) := by
  unfold Wt
  entry_read
  exact shapeCast_shapeCast _ _ _

theorem blk0 (t : Fin cfg0.N) (r : Fin 512) (k : Fin 2816) : (iblk m c 0 t : Vec Ideal S512x2816 .bf16) (ix2 r k) = A0 m c (ix2 (row8 (pb t) r) k) := by
  blk_simp [iblk]
  rw [V0]
  refine congrArg (A0 m c) (ext2 _ _ _ ?_ ?_) <;> blk_simp [idxs t]
  show t.val * 512 + r.val = 512 * t.val + r.val; omega
theorem blk1 (t : Fin cfg0.N) (r : Fin 512) (k : Fin 1024) : (iblk m c 1 t : Vec Ideal S512x1024 .f32) (ix2 r k) = A2 m c (ix2 (row8 (pb t) r) k) := by
  blk_simp [iblk]
  rw [V_main_arg2]
  refine congrArg (A2 m c) (ext2 _ _ _ ?_ ?_) <;> blk_simp [idxs t]
  show t.val * 512 + r.val = 512 * t.val + r.val; omega
theorem blk2 (t : Fin cfg0.N) (k : Fin 1024) : (iblk m c 2 t : Vec Ideal S1x1024 .f32) (ix2 (0 : Fin 1) k) = A3 m c (ix2 (0 : Fin 1) k) := by
  blk_simp [iblk]
  rw [V_main_arg3]
  refine congrArg (A3 m c) (ext2 _ _ _ ?_ ?_) <;> blk_simp [idxs t]

theorem emb3 (t : Fin cfg0.N) (r : Fin 512) (k : Fin 1024) : (win0_3.blk t).view.emb (ix2 r k) = ix2 (row8 (pb t) r) k :=
  ext2 _ _ _ (by blk_simp [idxs t]; show t.val * 512 + r.val = 512 * t.val + r.val; omega) (by blk_simp [idxs t])
theorem emb4 (t : Fin cfg0.N) (r : Fin 512) (k : Fin 1024) : (win0_4.blk t).view.emb (ix2 r k) = ix2 (row8 (pb t) r) k :=
  ext2 _ _ _ (by blk_simp [idxs t]; show t.val * 512 + r.val = 512 * t.val + r.val; omega) (by blk_simp [idxs t])

theorem sum_at (t : Fin cfg0.N) (r : Fin 512) (k : Fin 1024) :
    k0_pay1 (iblk m c 0 t) (Wt m c) (iblk m c 1 t) (ix2 r k) = val_main_v3 (F := Ideal) (A0 m c) (A1 m c) (A2 m c) (ix2 (row8 (pb t) r) k) := by
  rw [pay1_at, v3_at, blk1, Wt_eq]
  exact congrArg (fun z => half _ z _) (funext fun q => blk0 m c t r q)

theorem eq3 : (dats m 0 c).arrAt 3 cfg0.N = val_main_v3 (F := Ideal) (A0 m c) (A1 m c) (A2 m c) := by
  refine (dats m 0 c).arrAt_eq_of_covers 3 _ (by decide +kernel) fun t hf y => ?_
  blk_simp
  rw [after0_3, (pt m c t).1]
  obtain ⟨r, k, rfl⟩ : ∃ (r : Fin 512) (k : Fin 1024), y = ix2 r k := ⟨y 0, y 1, ValueIdx.eq_ix2 y⟩
  rw [emb3]
  exact sum_at m c t r k

theorem eq4 : (dats m 0 c).arrAt 4 cfg0.N = val_main_v16 (F := Ideal) (A0 m c) (A1 m c) (A2 m c) (A3 m c) := by
  refine (dats m 0 c).arrAt_eq_of_covers 4 _ (by decide +kernel) fun t hf y => ?_
  blk_simp
  rw [after0_4, (pt m c t).2]
  obtain ⟨r, k, rfl⟩ : ∃ (r : Fin 512) (k : Fin 1024), y = ix2 r k := ⟨y 0, y 1, ValueIdx.eq_ix2 y⟩
  rw [emb4, pay2_at, v16_at]
  congr 1 <;> funext d
  · exact sum_at m c t r d
  · exact blk2 m c t d

/-- The reference runs and leaves its arguments; it has no counters. -/
theorem frame_reference : Cert.quiescent_Reference8Ideal := fun m g _ =>
  (θ_run Cert.Reference8Ideal.defs _ _).mono (fun r h => ⟨fun c => (h c).2.2, sem_eq_zero_of_no_sems (by decide) r.2⟩)
    (Cert.Reference8Ideal.Value.run (F := Ideal) m g)

theorem algebraic : Cert.algebraic_Kernel8Ideal_Reference8Ideal := by
  intro m g m' g' hp ha
  refine ⟨_, _, Cert.Kernel8Ideal.Value.run_blocks (F := Ideal) m g, ?_⟩
  refine (θ_run Cert.Reference8Ideal.defs _ _).mono (fun r h c => ?_) (Cert.Reference8Ideal.Value.run (F := Ideal) m' g')
  obtain ⟨a0, a1, a2, a3⟩ := ha c
  obtain ⟨h0, h1, hrest⟩ := h c
  refine ⟨h0.trans ((val_main_v3_eq _ _ _).trans ?_), h1.trans ((val_main_v16_eq _ _ _ _).trans ?_), hrest⟩
  · rw [a0, a1, a2]; exact (eq3 m c).symm
  · rw [a0, a1, a2, a3]; exact (eq4 m c).symm

end Cert.DownClaim

end
-- ==== Proof.UpClaim.lean ====
/-
  The two input projections of the feed-forward layer and its gate: the gate, what its gradient takes, and the gated product,
  each taken column stretch by column stretch from weights copied in once.
-/
module

public import proofs.«01_k».proof.Defs
public import proofs.«01_k».proof.Proof.ActClaim
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Pre_finite9
public import Idealize.ShloMosaic.Lib.ValueLayout

set_option maxRecDepth 16384
set_option backward.isDefEq.respectTransparency false

@[expose] public section

noncomputable section

namespace Cert.UpClaim

open Cert.Kernel9Ideal Cert.Kernel9Ideal.Gen Cert.Common Cert.Reference9Ideal.Read
open Cert.Kernel5Ideal.Act (quo quo_coe)
open Cert.ActClaim (Ga)
open Idealize.ShloMosaic hiding ix0 ix1 ix2 ix3 ix4 ix5 ix6
open Idealize.ShloMosaic.ValueIdx Idealize.ShloMosaic.TcCoe
open scoped BigOperators

instance : Cert.Kernel9Ideal.Facts := Cert.Kernel9Ideal.Gen.facts
instance : Cert.Reference9Ideal.Facts := Cert.Reference9Ideal.Gen.facts
instance : Cert.Pre_finite9.Facts := Cert.Pre_finite9.Gen.facts

/-! ## One element of each output -/

/-- The sigmoid's quotient as the kernel writes it. -/
abbrev sg (a : EReal) : EReal := Ideal.div (Ideal.ofBits .f32 0x3F800000#32) (Ideal.ofBits .f32 0x3F800000#32 + Ideal.exp (Ideal.ofBits .f32 0x00000000#32 - a))
/-- The gate, what its gradient takes, and the gated product, of the two products. -/
abbrev gate1 (a _b : EReal) : EReal := a * sg a
abbrev gate2 (a b : EReal) : EReal := b * (sg a * (Ideal.ofBits .f32 0x3F800000#32 + a * (Ideal.ofBits .f32 0x3F800000#32 - sg a)))
abbrev gate3 (a b : EReal) : EReal := a * sg a * b

theorem sg_coe (a : ℝ) : sg (a : EReal) = ((sgm a : ℝ) : EReal) := by
  unfold sg
  rw [Ideal.ofBits_zero_f32, zero_sub]
  exact quo_coe a

/-- A product's entry, the weights read along their rows. -/
def dt (x : Vec Ideal S512x1024 .bf16) (w : Vec Ideal S2816x1024 .bf16) (r : Fin 512) (k : Fin 2816) : EReal := ∑ q : Fin 1024, x (ix2 r q) * w (ix2 k q)

section Tiles
variable (x : Vec Ideal S512x1024 .bf16) (w : Vec Ideal S2816x1024 .bf16)

theorem tile768 (o : ℕ) (inw : ∀ a, (![o, 0] : Fin 2 → ℕ) a + S768x1024.size a ≤ S2816x1024.size a)
    (r : Fin 512) (j : Fin 768) {r' : Fin 512} (hr : r'.val = r.val) (k : Fin 2816) (hk : k.val = o + j.val) :
    matmul (φ₁ := .bf16) (φ₂ := .bf16) dot_S512x1024_S768x1024_S512x768_1_1_0_0_n_n none (shapeCast S512x1024 x shapeCasts_S512x1024_S512x1024)
        (View.ld (Val := Elt Ideal) (e' := .bf16) w (Rect.unit (s := S2816x1024) ![o, 0] S768x1024.size inw)) (constant (F := Ideal) S512x768 .f32 0x00000000#32) (ix2 r j)
      = dt x w r' k := by
  obtain rfl : r' = r := Fin.ext hr
  rw [shapeCast_self]
  show FloatOps.matmul (DotDims.transposedRhs 512 1024 768) _ _ _ _ _ = _
  rw [Ideal.matmul_transposedRhs_apply]
  show Ideal.ofBits .f32 0x00000000#32 + _ = _
  rw [Ideal.ofBits_zero_f32, zero_add]
  refine Finset.sum_congr rfl fun q _ => congrArg (x (ix2 r' q) * ·) ?_
  exact View.ld_unit_apply_of w _ _ inw (ix2 j q) (ix2 k q) (fun a => match a with | ⟨0, _⟩ => hk | ⟨1, _⟩ => (Nat.zero_add _).symm)

theorem tile512 (o : ℕ) (inw : ∀ a, (![o, 0] : Fin 2 → ℕ) a + S512x1024.size a ≤ S2816x1024.size a)
    (r : Fin 512) (j : Fin 512) {r' : Fin 512} (hr : r'.val = r.val) (k : Fin 2816) (hk : k.val = o + j.val) :
    matmul (φ₁ := .bf16) (φ₂ := .bf16) dot_S512x1024_S512x1024_S512x512_1_1_0_0_n_n none (shapeCast S512x1024 x shapeCasts_S512x1024_S512x1024)
        (View.ld (Val := Elt Ideal) (e' := .bf16) w (Rect.unit (s := S2816x1024) ![o, 0] S512x1024.size inw)) (constant (F := Ideal) S512x512 .f32 0x00000000#32) (ix2 r j)
      = dt x w r' k := by
  obtain rfl : r' = r := Fin.ext hr
  rw [shapeCast_self]
  show FloatOps.matmul (DotDims.transposedRhs 512 1024 512) _ _ _ _ _ = _
  rw [Ideal.matmul_transposedRhs_apply]
  show Ideal.ofBits .f32 0x00000000#32 + _ = _
  rw [Ideal.ofBits_zero_f32, zero_add]
  refine Finset.sum_congr rfl fun q _ => congrArg (x (ix2 r' q) * ·) ?_
  exact View.ld_unit_apply_of w _ _ inw (ix2 j q) (ix2 k q) (fun a => match a with | ⟨0, _⟩ => hk | ⟨1, _⟩ => (Nat.zero_add _).symm)

end Tiles

variable (m : (ℓ : Loc nD τ sig) → Buf (Elt Ideal) ℓ) (c : Dev nD)

abbrev A0 : Vec Ideal S4096x1024 .f32 := m ((c : Thread nD τ).loc main_arg0)
abbrev A1 : Vec Ideal S1024x2816 .f32 := m ((c : Thread nD τ).loc main_arg1)
abbrev A2 : Vec Ideal S1024x2816 .f32 := m ((c : Thread nD τ).loc main_arg2)

theorem hz : (![0, 0] : Fin 2 → Nat) = fun _ => 0 := funext fun a => by fin_cases a <;> rfl

section Cases
variable (i : grid0.Coords) (arg1 : Memref sig .tc .vmem S512x1024 .bf16) (harg1 : arg1.IsWhole) (arg4 : Memref sig .tc .vmem S512x2816 .bf16) (harg4 : arg4.IsWhole) (arg5 : Memref sig .tc .vmem S512x2816 .bf16) (harg5 : arg5.IsWhole) (arg6 : Memref sig .tc .vmem S512x2816 .bf16) (harg6 : arg6.IsWhole) (arg7 : Memref sig .tc .vmem S2816x1024 .bf16) (harg7 : arg7.IsWhole) (arg8 : Memref sig .tc .vmem S2816x1024 .bf16) (harg8 : arg8.IsWhole)
variable (x0 : Vec Ideal S512x1024 .bf16) (xs0 xs1 : Vec Ideal S2816x1024 .bf16) (fh0 : HbBuf0 (F := Ideal) c hbM0_0) (fh1 : HbBuf0 (F := Ideal) c hbM0_1)

theorem keepA (hc0 : cond0_0 i) : sout0_A_0 c i arg1 harg1 arg4 harg4 arg5 harg5 arg6 harg6 arg7 harg7 arg8 harg8 hc0 x0 fh0 fh1 = fh0
    ∧ sout0_A_1 c i arg1 harg1 arg4 harg4 arg5 harg5 arg6 harg6 arg7 harg7 arg8 harg8 hc0 x0 fh0 fh1 = fh1 := by
  unfold sout0_A_0 sout0_A_1
  simp only [View.read_writes_junk_eq_canon]
  exact ⟨canon_whole _, canon_whole _⟩

theorem caseA (hc0 : cond0_0 i) :
    (∀ y, out0_A_1 c i arg1 harg1 arg4 harg4 arg5 harg5 arg6 harg6 arg7 harg7 arg8 harg8 hc0 x0 fh0 fh1 y = gate1 (dt x0 fh0 (y 0) (y 1)) (dt x0 fh1 (y 0) (y 1))) ∧
    (∀ y, out0_A_2 c i arg1 harg1 arg4 harg4 arg5 harg5 arg6 harg6 arg7 harg7 arg8 harg8 hc0 x0 fh0 fh1 y = gate2 (dt x0 fh0 (y 0) (y 1)) (dt x0 fh1 (y 0) (y 1))) ∧
    (∀ y, out0_A_3 c i arg1 harg1 arg4 harg4 arg5 harg5 arg6 harg6 arg7 harg7 arg8 harg8 hc0 x0 fh0 fh1 y = gate3 (dt x0 fh0 (y 0) (y 1)) (dt x0 fh1 (y 0) (y 1))) := by
  have hcov1 := cover0_A_1 c i arg1 harg1 arg4 harg4 arg5 harg5 arg6 harg6 arg7 harg7 arg8 harg8 hc0 x0 fh0 fh1
  have hcov2 := cover0_A_2 c i arg1 harg1 arg4 harg4 arg5 harg5 arg6 harg6 arg7 harg7 arg8 harg8 hc0 x0 fh0 fh1
  have hcov3 := cover0_A_3 c i arg1 harg1 arg4 harg4 arg5 harg5 arg6 harg6 arg7 harg7 arg8 harg8 hc0 x0 fh0 fh1
  unfold out0_A_1 out0_A_2 out0_A_3
  simp only [View.read_writes_junk_eq_canon]
  unfold kernelRun0_A at hcov1 hcov2 hcov3 ⊢
  dsimp only at hcov1 hcov2 hcov3 ⊢
  refine ⟨fun y => ?_, fun y => ?_, fun y => ?_⟩
  · canon_tiles x h using hcov1 y
    all_goals (sl_unfold_words; simp only [View.readAt_eq_ld, readCov_copy, harg1.read_unread, View.ld_unit_zero (S := S512x1024) hz]; rw [ValueIdx.eq_ix2 x])
    · exact congrArg (gate1 · (dt x0 fh1 (y 0) (y 1))) (tile512 x0 fh0 2304 _ (x 0) (x 1) h0 (y 1) h1)
    · exact congrArg (gate1 · (dt x0 fh1 (y 0) (y 1))) (tile768 x0 fh0 1536 _ (x 0) (x 1) h0 (y 1) h1)
    · exact congrArg (gate1 · (dt x0 fh1 (y 0) (y 1))) (tile768 x0 fh0 768 _ (x 0) (x 1) h0 (y 1) h1)
    · exact congrArg (gate1 · (dt x0 fh1 (y 0) (y 1))) (tile768 x0 fh0 0 _ (x 0) (x 1) h0 (y 1) (h1.trans (Nat.zero_add _).symm))
  · canon_tiles x h using hcov2 y
    all_goals (sl_unfold_words; simp only [View.readAt_eq_ld, readCov_copy, harg1.read_unread, View.ld_unit_zero (S := S512x1024) hz]; rw [ValueIdx.eq_ix2 x])
    · exact congrArg₂ gate2 (tile512 x0 fh0 2304 _ (x 0) (x 1) h0 (y 1) h1) (tile512 x0 fh1 2304 _ (x 0) (x 1) h0 (y 1) h1)
    · exact congrArg₂ gate2 (tile768 x0 fh0 1536 _ (x 0) (x 1) h0 (y 1) h1) (tile768 x0 fh1 1536 _ (x 0) (x 1) h0 (y 1) h1)
    · exact congrArg₂ gate2 (tile768 x0 fh0 768 _ (x 0) (x 1) h0 (y 1) h1) (tile768 x0 fh1 768 _ (x 0) (x 1) h0 (y 1) h1)
    · exact congrArg₂ gate2 (tile768 x0 fh0 0 _ (x 0) (x 1) h0 (y 1) (h1.trans (Nat.zero_add _).symm)) (tile768 x0 fh1 0 _ (x 0) (x 1) h0 (y 1) (h1.trans (Nat.zero_add _).symm))
  · canon_tiles x h using hcov3 y
    all_goals (sl_unfold_words; simp only [View.readAt_eq_ld, readCov_copy, harg1.read_unread, View.ld_unit_zero (S := S512x1024) hz]; rw [ValueIdx.eq_ix2 x])
    · exact congrArg₂ gate3 (tile512 x0 fh0 2304 _ (x 0) (x 1) h0 (y 1) h1) (tile512 x0 fh1 2304 _ (x 0) (x 1) h0 (y 1) h1)
    · exact congrArg₂ gate3 (tile768 x0 fh0 1536 _ (x 0) (x 1) h0 (y 1) h1) (tile768 x0 fh1 1536 _ (x 0) (x 1) h0 (y 1) h1)
    · exact congrArg₂ gate3 (tile768 x0 fh0 768 _ (x 0) (x 1) h0 (y 1) h1) (tile768 x0 fh1 768 _ (x 0) (x 1) h0 (y 1) h1)
    · exact congrArg₂ gate3 (tile768 x0 fh0 0 _ (x 0) (x 1) h0 (y 1) (h1.trans (Nat.zero_add _).symm)) (tile768 x0 fh1 0 _ (x 0) (x 1) h0 (y 1) (h1.trans (Nat.zero_add _).symm))

theorem caseB (hc0 : ¬cond0_0 i) :
    (∀ y, out0_B_1 c i arg1 harg1 arg4 harg4 arg5 harg5 arg6 harg6 arg7 harg7 arg8 harg8 hc0 x0 xs0 xs1 fh0 fh1 y = gate1 (dt x0 xs0 (y 0) (y 1)) (dt x0 xs1 (y 0) (y 1))) ∧
    (∀ y, out0_B_2 c i arg1 harg1 arg4 harg4 arg5 harg5 arg6 harg6 arg7 harg7 arg8 harg8 hc0 x0 xs0 xs1 fh0 fh1 y = gate2 (dt x0 xs0 (y 0) (y 1)) (dt x0 xs1 (y 0) (y 1))) ∧
    (∀ y, out0_B_3 c i arg1 harg1 arg4 harg4 arg5 harg5 arg6 harg6 arg7 harg7 arg8 harg8 hc0 x0 xs0 xs1 fh0 fh1 y = gate3 (dt x0 xs0 (y 0) (y 1)) (dt x0 xs1 (y 0) (y 1))) := by
  have hcov1 := cover0_B_1 c i arg1 harg1 arg4 harg4 arg5 harg5 arg6 harg6 arg7 harg7 arg8 harg8 hc0 x0 xs0 xs1 fh0 fh1
  have hcov2 := cover0_B_2 c i arg1 harg1 arg4 harg4 arg5 harg5 arg6 harg6 arg7 harg7 arg8 harg8 hc0 x0 xs0 xs1 fh0 fh1
  have hcov3 := cover0_B_3 c i arg1 harg1 arg4 harg4 arg5 harg5 arg6 harg6 arg7 harg7 arg8 harg8 hc0 x0 xs0 xs1 fh0 fh1
  unfold out0_B_1 out0_B_2 out0_B_3
  simp only [View.read_writes_junk_eq_canon]
  unfold kernelRun0_B at hcov1 hcov2 hcov3 ⊢
  dsimp only at hcov1 hcov2 hcov3 ⊢
  refine ⟨fun y => ?_, fun y => ?_, fun y => ?_⟩
  · canon_tiles x h using hcov1 y
    all_goals (sl_unfold_words; simp only [View.readAt_eq_ld, harg7.read_unread, harg8.read_unread, harg1.read_unread, View.ld_unit_zero (S := S512x1024) hz]; rw [ValueIdx.eq_ix2 x])
    · exact congrArg (gate1 · (dt x0 xs1 (y 0) (y 1))) (tile512 x0 xs0 2304 _ (x 0) (x 1) h0 (y 1) h1)
    · exact congrArg (gate1 · (dt x0 xs1 (y 0) (y 1))) (tile768 x0 xs0 1536 _ (x 0) (x 1) h0 (y 1) h1)
    · exact congrArg (gate1 · (dt x0 xs1 (y 0) (y 1))) (tile768 x0 xs0 768 _ (x 0) (x 1) h0 (y 1) h1)
    · exact congrArg (gate1 · (dt x0 xs1 (y 0) (y 1))) (tile768 x0 xs0 0 _ (x 0) (x 1) h0 (y 1) (h1.trans (Nat.zero_add _).symm))
  · canon_tiles x h using hcov2 y
    all_goals (sl_unfold_words; simp only [View.readAt_eq_ld, harg7.read_unread, harg8.read_unread, harg1.read_unread, View.ld_unit_zero (S := S512x1024) hz]; rw [ValueIdx.eq_ix2 x])
    · exact congrArg₂ gate2 (tile512 x0 xs0 2304 _ (x 0) (x 1) h0 (y 1) h1) (tile512 x0 xs1 2304 _ (x 0) (x 1) h0 (y 1) h1)
    · exact congrArg₂ gate2 (tile768 x0 xs0 1536 _ (x 0) (x 1) h0 (y 1) h1) (tile768 x0 xs1 1536 _ (x 0) (x 1) h0 (y 1) h1)
    · exact congrArg₂ gate2 (tile768 x0 xs0 768 _ (x 0) (x 1) h0 (y 1) h1) (tile768 x0 xs1 768 _ (x 0) (x 1) h0 (y 1) h1)
    · exact congrArg₂ gate2 (tile768 x0 xs0 0 _ (x 0) (x 1) h0 (y 1) (h1.trans (Nat.zero_add _).symm)) (tile768 x0 xs1 0 _ (x 0) (x 1) h0 (y 1) (h1.trans (Nat.zero_add _).symm))
  · canon_tiles x h using hcov3 y
    all_goals (sl_unfold_words; simp only [View.readAt_eq_ld, harg7.read_unread, harg8.read_unread, harg1.read_unread, View.ld_unit_zero (S := S512x1024) hz]; rw [ValueIdx.eq_ix2 x])
    · exact congrArg₂ gate3 (tile512 x0 xs0 2304 _ (x 0) (x 1) h0 (y 1) h1) (tile512 x0 xs1 2304 _ (x 0) (x 1) h0 (y 1) h1)
    · exact congrArg₂ gate3 (tile768 x0 xs0 1536 _ (x 0) (x 1) h0 (y 1) h1) (tile768 x0 xs1 1536 _ (x 0) (x 1) h0 (y 1) h1)
    · exact congrArg₂ gate3 (tile768 x0 xs0 768 _ (x 0) (x 1) h0 (y 1) h1) (tile768 x0 xs1 768 _ (x 0) (x 1) h0 (y 1) h1)
    · exact congrArg₂ gate3 (tile768 x0 xs0 0 _ (x 0) (x 1) h0 (y 1) (h1.trans (Nat.zero_add _).symm)) (tile768 x0 xs1 0 _ (x 0) (x 1) h0 (y 1) (h1.trans (Nat.zero_add _).symm))

end Cases

/-- The two weights as the points read them. -/
abbrev Wt : Vec Ideal S2816x1024 .bf16 := V m c main_v7
abbrev Wu : Vec Ideal S2816x1024 .bf16 := V m c main_v8

theorem scr : ∀ (n : ℕ) (hn : n < cfg0.N), (outsAt0 m c n hn).2.2.2.1 = Wt m c ∧ (outsAt0 m c n hn).2.2.2.2 = Wu m c
  | 0, hn => by
    rw [outsAt0_A m c ⟨0, hn⟩ (Nat.zero_mod _)]
    dsimp only
    rw [(keepA ..).1, (keepA ..).2]
    exact ⟨rfl, rfl⟩
  | n + 1, hn => by
    have hN : cfg0.N = 8 := N_0
    rw [outsAt0_B m c ⟨n + 1, hn⟩ (by dsimp only; omega)]
    dsimp only
    unfold sout0_B_0 sout0_B_1
    exact scr n _

theorem pt (t : Fin cfg0.N) (y : S512x2816.Idx) :
    (outsAt0 m c t.val t.isLt).1 y = gate1 (dt (iblk m c 0 t) (Wt m c) (y 0) (y 1)) (dt (iblk m c 0 t) (Wu m c) (y 0) (y 1))
    ∧ (outsAt0 m c t.val t.isLt).2.1 y = gate2 (dt (iblk m c 0 t) (Wt m c) (y 0) (y 1)) (dt (iblk m c 0 t) (Wu m c) (y 0) (y 1))
    ∧ (outsAt0 m c t.val t.isLt).2.2.1 y = gate3 (dt (iblk m c 0 t) (Wt m c) (y 0) (y 1)) (dt (iblk m c 0 t) (Wu m c) (y 0) (y 1)) := by
  by_cases h : t.val % 8 = 0
  · rw [outsAt0_A m c t h]
    dsimp only
    rw [(caseA ..).1, (caseA ..).2.1, (caseA ..).2.2]
    exact ⟨rfl, rfl, rfl⟩
  · rw [outsAt0_B m c t h]
    dsimp only
    rw [(caseB ..).1, (caseB ..).2.1, (caseB ..).2.2, (scr m c _ _).1, (scr m c _ _).2]
    exact ⟨rfl, rfl, rfl⟩

/-! ## The blocks read at an index -/

theorem idxs : ∀ t : Fin cfg0.N, win0_0.index t = ![t.val, 0] ∧ win0_1.index t = ![t.val, 0] ∧ win0_2.index t = ![t.val, 0] ∧ win0_3.index t = ![t.val, 0] :=
  (by decide +kernel : ∀ t : Fin grid0.N, _)

/-- A point's stretch. -/
abbrev pb (t : Fin cfg0.N) : Fin 8 := ⟨t.val, t.isLt⟩

theorem V0 : (V m c (Pipeline.arrRef spec0 0) : Vec Ideal S4096x1024 .bf16) = A0 m c := by
  entry_read
  rfl
theorem Wt_eq (q : Fin 2816) (k : Fin 1024) : Wt m c (ix2 q k) = A1 m c (ix2 k q) := by
  unfold Wt
  entry_read
  rw [shapeCast_shapeCast]
  exact transpose_ix2_apply _ _ q k
theorem Wu_eq (q : Fin 2816) (k : Fin 1024) : Wu m c (ix2 q k) = A2 m c (ix2 k q) := by
  unfold Wu
  entry_read
  rw [shapeCast_shapeCast]
  exact transpose_ix2_apply _ _ q k

theorem blk0 (t : Fin cfg0.N) (r : Fin 512) (k : Fin 1024) : (iblk m c 0 t : Vec Ideal S512x1024 .bf16) (ix2 r k) = A0 m c (ix2 (row8 (pb t) r) k) := by
  blk_simp [iblk]
  rw [V0]
  refine congrArg (A0 m c) (ext2 _ _ _ ?_ ?_) <;> blk_simp [idxs t]
  show t.val * 512 + r.val = 512 * t.val + r.val; omega

theorem emb1 (t : Fin cfg0.N) (r : Fin 512) (k : Fin 2816) : (win0_1.blk t).view.emb (ix2 r k) = ix2 (row8 (pb t) r) k :=
  ext2 _ _ _ (by blk_simp [idxs t]; show t.val * 512 + r.val = 512 * t.val + r.val; omega) (by blk_simp [idxs t])
theorem emb2 (t : Fin cfg0.N) (r : Fin 512) (k : Fin 2816) : (win0_2.blk t).view.emb (ix2 r k) = ix2 (row8 (pb t) r) k :=
  ext2 _ _ _ (by blk_simp [idxs t]; show t.val * 512 + r.val = 512 * t.val + r.val; omega) (by blk_simp [idxs t])
theorem emb3 (t : Fin cfg0.N) (r : Fin 512) (k : Fin 2816) : (win0_3.blk t).view.emb (ix2 r k) = ix2 (row8 (pb t) r) k :=
  ext2 _ _ _ (by blk_simp [idxs t]; show t.val * 512 + r.val = 512 * t.val + r.val; omega) (by blk_simp [idxs t])

/-! ## The plain program -/

section Values
variable (x0 : (⟨S4096x1024, .f32⟩ : BufTy).Contents (Elt Ideal)) (x1 x2 : (⟨S1024x2816, .f32⟩ : BufTy).Contents (Elt Ideal))
variable (h0 : Real2 (s := S4096x1024) x0) (h1 : Real2 (s := S1024x2816) x1) (h2 : Real2 (s := S1024x2816) x2) (r : Fin 4096) (k : Fin 2816)

theorem a_at : Real2 (s := S4096x1024) x0 → Real2 (s := S1024x2816) x1 → val_main_v0 (F := Ideal) x0 x1 (ix2 r k) = ((Ga x0 x1 r k : ℝ) : EReal) := fun h0 h1 =>
  Cert.ActClaim.v0_at x0 x1 h0 h1 r k
theorem b_at : Real2 (s := S4096x1024) x0 → Real2 (s := S1024x2816) x2 → val_main_v1 (F := Ideal) x0 x2 (ix2 r k) = ((Ga x0 x2 r k : ℝ) : EReal) := fun h0 h2 =>
  Cert.ActClaim.v1_at x0 x2 h0 h2 r k
theorem s_at : Real2 (s := S4096x1024) x0 → Real2 (s := S1024x2816) x1 → val_main_v2_2 (F := Ideal) x0 x1 (ix2 r k) = ((sgm (Ga x0 x1 r k) : ℝ) : EReal) := fun h0 h1 =>
  Cert.ActClaim.sg_at x0 x1 h0 h1 r k

include h0 h1 in
theorem v3_at : val_main_v3 (F := Ideal) x0 x1 (ix2 r k) = gate1 (Ga x0 x1 r k : ℝ) (Ga x0 x2 r k : ℝ) := by
  rw [val_main_v3_apply, val_main_v2_0_apply, a_at x0 x1 r k h0 h1, s_at x0 x1 r k h0 h1]
  show _ = _ * sg _
  rw [sg_coe]
  rfl

include h0 h1 h2 in
theorem v5_at : val_main_v5 (F := Ideal) x0 x1 x2 (ix2 r k) = gate2 (Ga x0 x1 r k : ℝ) (Ga x0 x2 r k : ℝ) := by
  rw [val_main_v5_apply, val_main_v4_apply, val_main_call1_v2_apply, val_main_call1_v1_apply, val_main_call1_v0_apply, val_main_v2_1_apply,
    val_main_call0_v7_apply, val_main_call0_v6_apply, a_at x0 x1 r k h0 h1, b_at x0 x2 r k h0 h2, s_at x0 x1 r k h0 h1, val_main_call0_cst_1_apply]
  show ((_ : ℝ) : EReal) * ((_ : ℝ) : EReal) + (((_ : ℝ) : EReal) * ((_ : ℝ) : EReal)) * (((_ : ℝ) : EReal) * (Ideal.ofBits .f32 0x3F800000#32 - ((_ : ℝ) : EReal)))
    = ((_ : ℝ) : EReal) * (sg _ * (Ideal.ofBits .f32 0x3F800000#32 + ((_ : ℝ) : EReal) * (Ideal.ofBits .f32 0x3F800000#32 - sg _)))
  rw [sg_coe, lit_one, ← EReal.coe_one, ← EReal.coe_sub]
  simp only [← EReal.coe_mul, ← EReal.coe_add]
  congr 1
  ring

include h0 h1 h2 in
theorem v7_at : val_main_v7 (F := Ideal) x0 x1 x2 (ix2 r k) = gate3 (Ga x0 x1 r k : ℝ) (Ga x0 x2 r k : ℝ) := by
  rw [val_main_v7_apply, val_main_v6_apply, val_main_v2_0_apply, a_at x0 x1 r k h0 h1, b_at x0 x2 r k h0 h2, s_at x0 x1 r k h0 h1]
  show _ = _ * sg _ * _
  rw [sg_coe]
  rfl

end Values

/-! ## The arrays -/

/-- The arguments hold reals. -/
structure Fine : Prop where
  r0 : Real2 (A0 m c)
  r1 : Real2 (A1 m c)
  r2 : Real2 (A2 m c)

theorem pre (h : Cert.Pre_Kernel9Ideal_finite9 m) : Fine m c := by
  obtain ⟨h0, h1, h2⟩ := h c
  exact ⟨real_of_bound _ _ (fun _ => rfl) h0, real_of_bound _ _ (fun _ => rfl) h1, real_of_bound _ _ (fun _ => rfl) h2⟩

variable (f : Fine m c)

include f in
theorem dts (t : Fin cfg0.N) (r : Fin 512) (k : Fin 2816) : dt (iblk m c 0 t) (Wt m c) r k = ((Ga (A0 m c) (A1 m c) (row8 (pb t) r) k : ℝ) : EReal)
    ∧ dt (iblk m c 0 t) (Wu m c) r k = ((Ga (A0 m c) (A2 m c) (row8 (pb t) r) k : ℝ) : EReal) :=
  ⟨dot_real _ _ _ _ (fun q => by rw [blk0]; exact f.r0 _) (fun q => by rw [Wt_eq]; exact f.r1 _),
    dot_real _ _ _ _ (fun q => by rw [blk0]; exact f.r0 _) (fun q => by rw [Wu_eq]; exact f.r2 _)⟩

include f in
theorem eq1 : (dats m 0 c).arrAt 1 cfg0.N = val_main_v3 (F := Ideal) (A0 m c) (A1 m c) := by
  refine (dats m 0 c).arrAt_eq_of_covers 1 _ (by decide +kernel) fun t hf y => ?_
  blk_simp
  rw [after0_1]
  obtain ⟨r, k, rfl⟩ : ∃ (r : Fin 512) (k : Fin 2816), y = ix2 r k := ⟨y 0, y 1, ValueIdx.eq_ix2 y⟩
  rw [emb1, v3_at _ _ (A2 m c) f.r0 f.r1]
  exact (pt m c t (ix2 r k)).1.trans (congrArg₂ gate1 (dts m c f t r k).1 (dts m c f t r k).2)

include f in
theorem eq2 : (dats m 0 c).arrAt 2 cfg0.N = val_main_v5 (F := Ideal) (A0 m c) (A1 m c) (A2 m c) := by
  refine (dats m 0 c).arrAt_eq_of_covers 2 _ (by decide +kernel) fun t hf y => ?_
  blk_simp
  rw [after0_2]
  obtain ⟨r, k, rfl⟩ : ∃ (r : Fin 512) (k : Fin 2816), y = ix2 r k := ⟨y 0, y 1, ValueIdx.eq_ix2 y⟩
  rw [emb2, v5_at _ _ _ f.r0 f.r1 f.r2]
  exact (pt m c t (ix2 r k)).2.1.trans (congrArg₂ gate2 (dts m c f t r k).1 (dts m c f t r k).2)

include f in
theorem eq3 : (dats m 0 c).arrAt 3 cfg0.N = val_main_v7 (F := Ideal) (A0 m c) (A1 m c) (A2 m c) := by
  refine (dats m 0 c).arrAt_eq_of_covers 3 _ (by decide +kernel) fun t hf y => ?_
  blk_simp
  rw [after0_3]
  obtain ⟨r, k, rfl⟩ : ∃ (r : Fin 512) (k : Fin 2816), y = ix2 r k := ⟨y 0, y 1, ValueIdx.eq_ix2 y⟩
  rw [emb3, v7_at _ _ _ f.r0 f.r1 f.r2]
  exact (pt m c t (ix2 r k)).2.2.trans (congrArg₂ gate3 (dts m c f t r k).1 (dts m c f t r k).2)

/-- The reference runs and leaves its arguments; it has no counters. -/
theorem frame_reference : Cert.quiescent_Reference9Ideal := fun m g _ =>
  (θ_run Cert.Reference9Ideal.defs _ _).mono (fun r h => ⟨fun c => (h c).2.2.2, sem_eq_zero_of_no_sems (by decide) r.2⟩)
    (Cert.Reference9Ideal.Value.run (F := Ideal) m g)

theorem algebraic : Cert.algebraic_Kernel9Ideal_Reference9Ideal_pre_finite9 := by
  intro m g m' g' hp ha
  refine ⟨_, _, _, Cert.Kernel9Ideal.Value.run_blocks (F := Ideal) m g, ?_⟩
  refine (θ_run Cert.Reference9Ideal.defs _ _).mono (fun r h c => ?_) (Cert.Reference9Ideal.Value.run (F := Ideal) m' g')
  have f := pre m c hp
  obtain ⟨a0, a1, a2⟩ := ha c
  obtain ⟨h0, h1, h2, hrest⟩ := h c
  refine ⟨h0.trans ((val_main_v3_eq _ _).trans ?_), h1.trans ((val_main_v5_eq _ _ _).trans ?_), h2.trans ((val_main_v7_eq _ _ _).trans ?_), hrest⟩
  · rw [a0, a1]; exact (eq1 m c f).symm
  · rw [a0, a1, a2]; exact (eq2 m c f).symm
  · rw [a0, a1, a2]; exact (eq3 m c f).symm

end Cert.UpClaim

end
-- ==== Proof.FirstClaim.lean ====
/-
  The gradient through the two input projections of the first feed-forward layer, which keeps no rounded copy of the frames'
  gradient. A point's arithmetic and the plain program are those of the second layer, so their values are taken from there.
-/
module

public import proofs.«01_k».proof.Defs
public import proofs.«01_k».proof.Proof.FfiClaim
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Pre_finite10

set_option maxRecDepth 16384
set_option backward.isDefEq.respectTransparency false

@[expose] public section

noncomputable section

namespace Cert.FirstClaim

open Cert.Kernel10Ideal Cert.Kernel10Ideal.Gen Cert.Common Cert.Reference10Ideal.Read
open Idealize.ShloMosaic hiding ix0 ix1 ix2 ix3 ix4 ix5 ix6
open Idealize.ShloMosaic.ValueIdx Idealize.ShloMosaic.TcCoe
open scoped BigOperators

instance : Cert.Kernel10Ideal.Facts := Cert.Kernel10Ideal.Gen.facts
instance : Cert.Reference10Ideal.Facts := Cert.Reference10Ideal.Gen.facts
instance : Cert.Pre_finite10.Facts := Cert.Pre_finite10.Gen.facts

variable (m : (ℓ : Loc nD τ sig) → Buf (Elt Ideal) ℓ) (c : Dev nD)

abbrev A0 : Vec Ideal S4096x2816 .f32 := m ((c : Thread nD τ).loc main_arg0)
abbrev A1 : Vec Ideal S4096x2816 .f32 := m ((c : Thread nD τ).loc main_arg1)
abbrev A2 : Vec Ideal S1024x2816 .f32 := m ((c : Thread nD τ).loc main_arg2)
abbrev A3 : Vec Ideal S1024x2816 .f32 := m ((c : Thread nD τ).loc main_arg3)
abbrev A4 : Vec Ideal S4096x1024 .f32 := m ((c : Thread nD τ).loc main_arg4)
abbrev A5 : Vec Ideal S1x1024 .f32 := m ((c : Thread nD τ).loc main_arg5)
abbrev A6 : Vec Ideal S4096x1024 .f32 := m ((c : Thread nD τ).loc main_arg6)

theorem hz : (![0, 0] : Fin 2 → Nat) = fun _ => 0 := funext fun a => by fin_cases a <;> rfl
theorem hz3 : (![0, 0, 0] : Fin 3 → Nat) = fun _ => 0 := funext fun a => by fin_cases a <;> rfl

/-! ## What a point stores -/

section Cases
variable (i : grid0.Coords) (arg1 : Memref sig .tc .vmem S512x2816 .bf16) (harg1 : arg1.IsWhole) (arg2 : Memref sig .tc .vmem S512x2816 .bf16) (harg2 : arg2.IsWhole) (arg5 : Memref sig .tc .vmem S512x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S1x1x1024 .f32) (harg9 : arg9.IsWhole) (arg10 : Memref sig .tc .vmem S2816x1024 .bf16) (harg10 : arg10.IsWhole) (arg11 : Memref sig .tc .vmem S2816x1024 .bf16) (harg11 : arg11.IsWhole)
variable (x0 x1 : Vec Ideal S512x2816 .bf16) (x2 : Vec Ideal S512x1024 .f32) (x3 : Vec Ideal S1x1024 .f32) (x4 : Vec Ideal S512x1024 .f32)
variable (xs0 xs1 : Vec Ideal S2816x1024 .bf16) (fh0 : HbBuf0 (F := Ideal) c hbM0_0) (fh1 : HbBuf0 (F := Ideal) c hbM0_1)

theorem keepA (hc0 : cond0_0 i) : sout0_A_0 c i arg1 harg1 arg2 harg2 arg5 harg5 arg6 harg6 arg7 harg7 arg8 harg8 arg9 harg9 arg10 harg10 arg11 harg11 hc0 x0 x1 x2 x3 x4 fh0 fh1 = fh0
    ∧ sout0_A_1 c i arg1 harg1 arg2 harg2 arg5 harg5 arg6 harg6 arg7 harg7 arg8 harg8 arg9 harg9 arg10 harg10 arg11 harg11 hc0 x0 x1 x2 x3 x4 fh0 fh1 = fh1 := by
  unfold sout0_A_0 sout0_A_1
  simp only [View.read_writes_junk_eq_canon]
  exact ⟨canon_whole _, canon_whole _⟩

theorem caseA (hc0 : cond0_0 i) : out0_A_5 c i arg1 harg1 arg2 harg2 arg5 harg5 arg6 harg6 arg7 harg7 arg8 harg8 arg9 harg9 arg10 harg10 arg11 harg11 hc0 x0 x1 x2 x3 x4 fh0 fh1 = k0_pay1 x4 (k0_pay4 x2) (k0_pay6 x0 fh0 x1 fh1 x2 x3)
    ∧ out0_A_6 c i arg1 harg1 arg2 harg2 arg5 harg5 arg6 harg6 arg7 harg7 arg8 harg8 arg9 harg9 arg10 harg10 arg11 harg11 hc0 x0 x1 x2 x3 x4 fh0 fh1 = k0_pay2 (k0_pay3 x0 fh0 x1 fh1) (k0_pay5 x2) := by
  unfold out0_A_5 out0_A_6
  simp only [View.read_writes_junk_eq_canon]
  constructor <;>
  · unfold kernelRun0_A
    dsimp only
    sl_unfold_words
    first | rw [View.canon_unit_zero hz] | rw [View.canon_unit_zero hz3]
    simp only [readCov_all (S := S2816x1024) _ _ hz, canon_whole]
    simp only [View.readAt_eq_ld, harg1.read_unread, harg2.read_unread, harg5.read_unread, harg6.read_unread, harg7.read_unread, View.ld_unit_zero (S := S512x2816) hz, View.ld_unit_zero (S := S512x1024) hz, View.ld_unit_zero (S := S1x1024) hz]
    rfl

theorem caseB (hc0 : ¬cond0_0 i) : out0_B_5 c i arg1 harg1 arg2 harg2 arg5 harg5 arg6 harg6 arg7 harg7 arg8 harg8 arg9 harg9 arg10 harg10 arg11 harg11 hc0 x0 x1 x2 x3 x4 xs0 xs1 fh0 fh1 = k0_pay1 x4 (k0_pay4 x2) (k0_pay6 x0 xs0 x1 xs1 x2 x3)
    ∧ out0_B_6 c i arg1 harg1 arg2 harg2 arg5 harg5 arg6 harg6 arg7 harg7 arg8 harg8 arg9 harg9 arg10 harg10 arg11 harg11 hc0 x0 x1 x2 x3 x4 xs0 xs1 fh0 fh1 = k0_pay2 (k0_pay3 x0 xs0 x1 xs1) (k0_pay5 x2) := by
  unfold out0_B_5 out0_B_6
  simp only [View.read_writes_junk_eq_canon]
  constructor <;>
  · unfold kernelRun0_B
    dsimp only
    sl_unfold_words
    first | rw [View.canon_unit_zero hz] | rw [View.canon_unit_zero hz3]
    simp only [View.readAt_eq_ld, harg1.read_unread, harg2.read_unread, harg5.read_unread, harg6.read_unread, harg7.read_unread, harg10.read_unread, harg11.read_unread, View.ld_unit_zero (S := S512x2816) hz, View.ld_unit_zero (S := S512x1024) hz, View.ld_unit_zero (S := S1x1024) hz, View.ld_unit_zero (S := S2816x1024) hz]

end Cases

/-- The two weights as the points read them. -/
abbrev Wt : Vec Ideal S2816x1024 .bf16 := V m c main_v8
abbrev Wu : Vec Ideal S2816x1024 .bf16 := V m c main_v9

theorem scr : ∀ (n : ℕ) (hn : n < cfg0.N), (outsAt0 m c n hn).2.2.1 = Wt m c ∧ (outsAt0 m c n hn).2.2.2 = Wu m c
  | 0, hn => by
    rw [outsAt0_A m c ⟨0, hn⟩ (Nat.zero_mod _)]
    dsimp only
    rw [(keepA ..).1, (keepA ..).2]
    exact ⟨rfl, rfl⟩
  | n + 1, hn => by
    have hN : cfg0.N = 8 := N_0
    rw [outsAt0_B m c ⟨n + 1, hn⟩ (by dsimp only; omega)]
    dsimp only
    unfold sout0_B_0 sout0_B_1
    exact scr n _

theorem pt (t : Fin cfg0.N) :
    (outsAt0 m c t.val t.isLt).1 = k0_pay1 (iblk m c 4 t) (k0_pay4 (iblk m c 2 t)) (k0_pay6 (iblk m c 0 t) (Wt m c) (iblk m c 1 t) (Wu m c) (iblk m c 2 t) (iblk m c 3 t))
    ∧ (outsAt0 m c t.val t.isLt).2.1 = k0_pay2 (k0_pay3 (iblk m c 0 t) (Wt m c) (iblk m c 1 t) (Wu m c)) (k0_pay5 (iblk m c 2 t)) := by
  by_cases h : t.val % 8 = 0
  · rw [outsAt0_A m c t h]
    dsimp only
    rw [(caseA ..).1, (caseA ..).2]
    exact ⟨rfl, rfl⟩
  · rw [outsAt0_B m c t h]
    dsimp only
    rw [(caseB ..).1, (caseB ..).2, (scr m c _ _).1, (scr m c _ _).2]
    exact ⟨rfl, rfl⟩

/-! ## The blocks read at an index -/

theorem idxs : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ win0_6.index t = ![t.val, 0, 0] :=
  (by decide +kernel : ∀ t : Fin grid0.N, _)

/-- A point's stretch. -/
abbrev pb (t : Fin cfg0.N) : Fin 8 := ⟨t.val, t.isLt⟩

theorem V0 : (V m c (Pipeline.arrRef spec0 0) : Vec Ideal S4096x2816 .bf16) = A0 m c := by
  entry_read
  rfl
theorem V1 : (V m c (Pipeline.arrRef spec0 1) : Vec Ideal S4096x2816 .bf16) = A1 m c := by
  entry_read
  rfl
theorem Wt_eq (q : Fin 2816) (k : Fin 1024) : Wt m c (ix2 q k) = A2 m c (ix2 k q) := by
  unfold Wt
  entry_read
  rw [shapeCast_shapeCast]
  exact transpose_ix2_apply _ _ q k
theorem Wu_eq (q : Fin 2816) (k : Fin 1024) : Wu m c (ix2 q k) = A3 m c (ix2 k q) := by
  unfold Wu
  entry_read
  rw [shapeCast_shapeCast]
  exact transpose_ix2_apply _ _ q k

theorem blk0 (t : Fin cfg0.N) (r : Fin 512) (k : Fin 2816) : (iblk m c 0 t : Vec Ideal S512x2816 .bf16) (ix2 r k) = A0 m c (ix2 (row8 (pb t) r) k) := by
  blk_simp [iblk]
  rw [V0]
  refine congrArg (A0 m c) (ext2 _ _ _ ?_ ?_) <;> blk_simp [idxs t]
  show t.val * 512 + r.val = 512 * t.val + r.val; omega
theorem blk1 (t : Fin cfg0.N) (r : Fin 512) (k : Fin 2816) : (iblk m c 1 t : Vec Ideal S512x2816 .bf16) (ix2 r k) = A1 m c (ix2 (row8 (pb t) r) k) := by
  blk_simp [iblk]
  rw [V1]
  refine congrArg (A1 m c) (ext2 _ _ _ ?_ ?_) <;> blk_simp [idxs t]
  show t.val * 512 + r.val = 512 * t.val + r.val; omega
theorem blk2 (t : Fin cfg0.N) (r : Fin 512) (k : Fin 1024) : (iblk m c 2 t : Vec Ideal S512x1024 .f32) (ix2 r k) = A4 m c (ix2 (row8 (pb t) r) k) := by
  blk_simp [iblk]
  rw [V_main_arg4]
  refine congrArg (A4 m c) (ext2 _ _ _ ?_ ?_) <;> blk_simp [idxs t]
  show t.val * 512 + r.val = 512 * t.val + r.val; omega
theorem blk4 (t : Fin cfg0.N) (r : Fin 512) (k : Fin 1024) : (iblk m c 4 t : Vec Ideal S512x1024 .f32) (ix2 r k) = A6 m c (ix2 (row8 (pb t) r) k) := by
  blk_simp [iblk]
  rw [V_main_arg6]
  refine congrArg (A6 m c) (ext2 _ _ _ ?_ ?_) <;> blk_simp [idxs t]
  show t.val * 512 + r.val = 512 * t.val + r.val; omega
theorem blk3 (t : Fin cfg0.N) (k : Fin 1024) : (iblk m c 3 t : Vec Ideal S1x1024 .f32) (ix2 0 k) = A5 m c (ix2 0 k) := by
  blk_simp [iblk]
  rw [V_main_arg5]
  refine congrArg (A5 m c) (ext2 _ _ _ ?_ ?_) <;> blk_simp [idxs t]
  rfl

theorem emb5 (t : Fin cfg0.N) (r : Fin 512) (k : Fin 1024) : (win0_5.blk t).view.emb (ix2 r k) = ix2 (row8 (pb t) r) k :=
  ext2 _ _ _ (by blk_simp [idxs t]; show t.val * 512 + r.val = 512 * t.val + r.val; omega) (by blk_simp [idxs t])
theorem emb6 (t : Fin cfg0.N) (k : Fin 1024) : (win0_6.blk t).view.emb (ix3 0 0 k) = ix3 (pb t) 0 k :=
  ext3 _ _ _ _ (by blk_simp [idxs t]) (by blk_simp [idxs t]; rfl) (by blk_simp [idxs t])

/-! ## The arrays -/

/-- The arguments hold reals, but for the gradient that is only added. -/
structure Fine : Prop where
  r0 : Real2 (A0 m c)
  r1 : Real2 (A1 m c)
  r2 : Real2 (A2 m c)
  r3 : Real2 (A3 m c)
  r4 : Real2 (A4 m c)
  r5 : Real2 (A5 m c)

theorem pre (h : Cert.Pre_Kernel10Ideal_finite10 m) : Fine m c := by
  obtain ⟨h0, h1, h2, h3, h4, h5⟩ := h c
  exact ⟨real_of_bound _ _ (fun _ => rfl) h0, real_of_bound _ _ (fun _ => rfl) h1, real_of_bound _ _ (fun _ => rfl) h2,
    real_of_bound _ _ (fun _ => rfl) h3, real_of_bound _ _ (fun _ => rfl) h4, real_of_bound _ _ (fun _ => rfl) h5⟩

variable (f : Fine m c)

include f in
theorem eq5 : (dats m 0 c).arrAt 5 cfg0.N
    = val_main_v44 (F := Ideal) (A0 m c) (A1 m c) (A2 m c) (A3 m c) (A4 m c) (A5 m c) (A6 m c) := by
  refine (dats m 0 c).arrAt_eq_of_covers 5 _ (by decide +kernel) fun t hf y => ?_
  blk_simp
  rw [after0_5, (pt m c t).1]
  obtain ⟨r, k, rfl⟩ : ∃ (r : Fin 512) (k : Fin 1024), y = ix2 r k := ⟨y 0, y 1, ValueIdx.eq_ix2 y⟩
  rw [emb5]
  refine (Cert.Kernel4Ideal.Ffi.pay1_gen (iblk m c 0 t) (iblk m c 1 t) (Wt m c) (Wu m c) (iblk m c 2 t) (iblk m c 4 t) (iblk m c 3 t)
    (fun r q => (A0 m c (ix2 (row8 (pb t) r) q)).toReal) (fun r q => (A1 m c (ix2 (row8 (pb t) r) q)).toReal) (fun k q => (A2 m c (ix2 k q)).toReal) (fun k q => (A3 m c (ix2 k q)).toReal) (fun r k => (A4 m c (ix2 (row8 (pb t) r) k)).toReal) (fun k => (A5 m c (ix2 0 k)).toReal)
    (fun r q => by rw [blk0]; exact f.r0 _) (fun r q => by rw [blk1]; exact f.r1 _) (fun q k => by rw [Wt_eq]; exact f.r2 _) (fun q k => by rw [Wu_eq]; exact f.r3 _) (fun r k => by rw [blk2]; exact f.r4 _)
    (fun k => by rw [blk3]; exact f.r5 _) r k).trans ?_
  rw [blk4]
  exact (Cert.FfiClaim.v44_at (A0 m c) (A1 m c) (A2 m c) (A3 m c) (A4 m c) (A5 m c) (A6 m c) f.r0 f.r1 f.r2 f.r3 f.r4 f.r5 (row8 (pb t) r) k).symm

include f in
theorem eq6 : (dats m 0 c).arrAt 6 cfg0.N
    = val_main_v26 (F := Ideal) (A0 m c) (A1 m c) (A2 m c) (A3 m c) (A4 m c) := by
  refine (dats m 0 c).arrAt_eq_of_covers 6 _ (by decide +kernel) fun t hf y => ?_
  blk_simp
  rw [after0_6, (pt m c t).2]
  obtain ⟨k, rfl⟩ : ∃ (k : Fin 1024), y = ix3 0 0 k := ⟨y 2, ext3 _ _ _ _ (Nat.lt_one_iff.mp (y 0).isLt) (Nat.lt_one_iff.mp (y 1).isLt) rfl⟩
  rw [emb6]
  refine (Cert.Kernel4Ideal.Ffi.pay3_gen (iblk m c 0 t) (iblk m c 1 t) (Wt m c) (Wu m c) (iblk m c 2 t)
    (fun r q => (A0 m c (ix2 (row8 (pb t) r) q)).toReal) (fun r q => (A1 m c (ix2 (row8 (pb t) r) q)).toReal) (fun k q => (A2 m c (ix2 k q)).toReal) (fun k q => (A3 m c (ix2 k q)).toReal) (fun r k => (A4 m c (ix2 (row8 (pb t) r) k)).toReal)
    (fun r q => by rw [blk0]; exact f.r0 _) (fun r q => by rw [blk1]; exact f.r1 _) (fun q k => by rw [Wt_eq]; exact f.r2 _) (fun q k => by rw [Wu_eq]; exact f.r3 _) (fun r k => by rw [blk2]; exact f.r4 _) k).trans ?_
  exact (Cert.FfiClaim.v26_at (A0 m c) (A1 m c) (A2 m c) (A3 m c) (A4 m c) f.r0 f.r1 f.r2 f.r3 f.r4 (pb t) k).symm

/-- The reference runs and leaves its arguments; it has no counters. -/
theorem frame_reference : Cert.quiescent_Reference10Ideal := fun m g _ =>
  (θ_run Cert.Reference10Ideal.defs _ _).mono (fun r h => ⟨fun c => (h c).2.2, sem_eq_zero_of_no_sems (by decide) r.2⟩)
    (Cert.Reference10Ideal.Value.run (F := Ideal) m g)

theorem algebraic : Cert.algebraic_Kernel10Ideal_Reference10Ideal_pre_finite10 := by
  intro m g m' g' hp ha
  refine ⟨_, _, Cert.Kernel10Ideal.Value.run_blocks (F := Ideal) m g, ?_⟩
  refine (θ_run Cert.Reference10Ideal.defs _ _).mono (fun r h c => ?_) (Cert.Reference10Ideal.Value.run (F := Ideal) m' g')
  have f := pre m c hp
  obtain ⟨a0, a1, a2, a3, a4, a5, a6⟩ := ha c
  obtain ⟨h0, h1, hrest⟩ := h c
  refine ⟨h0.trans ((val_main_v44_eq m' c).trans ?_), h1.trans ((val_main_v26_eq _ _ _ _ _).trans ?_), hrest⟩
  · rw [a0, a1, a2, a3, a4, a5, a6]; exact (eq5 m c f).symm
  · rw [a0, a1, a2, a3, a4]; exact (eq6 m c f).symm

end Cert.FirstClaim

end
-- ==== Proof.QkForward.lean ====
/-
  The queries and keys prepared: the rows of each head over the root of their mean square, times the gain, and the keys and
  values behind 512 rows of noughts. The sum over a head is the one of the gradient's block, proved there.
-/
module

public import proofs.«01_k».proof.Defs
public import proofs.«01_k».proof.Proof.QkArray
public import proofs.«01_k».proof.Proof.QkRef
public import proofs.«01_k».proof.Proof.Rows
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Pre_finite11

set_option maxRecDepth 16384
set_option backward.isDefEq.respectTransparency false

@[expose] public section

noncomputable section

namespace Cert.QkForward

open Cert.Kernel11Ideal Cert.Kernel11Ideal.Gen Cert.Common Cert.Reference11Ideal.Read
open Cert.KernelIdeal.QkBlock (rstd rstd_apply)
open Cert.KernelIdeal.QkArray (past)
open Cert.ReferenceIdeal.QkRef (moved col vpos rs_eq)
open Idealize.ShloMosaic hiding ix0 ix1 ix2 ix3 ix4 ix5 ix6
open Idealize.ShloMosaic.ValueIdx Idealize.ShloMosaic.TcCoe
open scoped BigOperators

instance : Cert.Kernel11Ideal.Facts := Cert.Kernel11Ideal.Gen.facts
instance : Cert.Reference11Ideal.Facts := Cert.Reference11Ideal.Gen.facts
instance : Cert.Pre_finite11.Facts := Cert.Pre_finite11.Gen.facts

/-- A row's element normalised over its head. -/
abbrev nh (x : Fin 512 → ℝ) (k : Fin 512) : ℝ := x k * rs fun e => x (hcol k e)

/-! ## The plain program -/

section Ref
variable (x0 : Vec Ideal S2x2048x3584 .f32) (x1 x2 : Vec Ideal S1x64 .f32)

/-- The reals of the query's columns. -/
abbrev rq (b : Fin 2) (r : Fin 2048) (k : Fin 512) : ℝ := (val_main_v0 (F := Ideal) x0 (ix3 b r k)).toReal

theorem v4_at (b : Fin 2) (r : Fin 2048) (h : Fin 8) (d : Fin 64) : val_main_v4 (F := Ideal) x0 (ix4 b r h d) = val_main_v0 (F := Ideal) x0 (ix3 b r (col h d)) := by
  rw [val_main_v4_apply]
  congr 1
  exact ext3 _ _ _ _ (by show (((b.val * 2048 + r.val) * 8 + h.val) * 64 + d.val) / 1048576 = b.val; omega)
    (by show (((b.val * 2048 + r.val) * 8 + h.val) * 64 + d.val) / 512 % 2048 = r.val; omega)
    (by show (((b.val * 2048 + r.val) * 8 + h.val) * 64 + d.val) % 512 = 64 * h.val + d.val; omega)

variable (fx : ∀ b r k, val_main_v0 (F := Ideal) x0 (ix3 b r k) = ((rq x0 b r k : ℝ) : EReal))

include fx in
theorem v12_at (b : Fin 2) (r : Fin 2048) (h : Fin 8) : val_main_v12 (F := Ideal) x0 (ix4 b r h 0) = ((rs (fun e => rq x0 b r (col h e)) : ℝ) : EReal) := by
  have h6 : val_main_v6 (F := Ideal) x0 (ix3 b r h) = ((∑ e, rq x0 b r (col h e) * rq x0 b r (col h e) : ℝ) : EReal) := by
    rw [val_main_v6_apply]
    show Ideal.ofBits .f32 0x00000000#32 + _ = _
    rw [Ideal.ofBits_zero_f32, zero_add, coe_sum]
    refine Finset.sum_congr rfl fun k _ => ?_
    rw [show idx_main_v6 (ix3 b r h) k = ix4 b r h k from ValueIdx.eq_ix4 _]
    show val_main_v4 (F := Ideal) x0 _ * val_main_v4 (F := Ideal) x0 _ = _
    rw [v4_at, fx, EReal.coe_mul]
  have h11 : val_main_v11 (F := Ideal) x0 (ix4 b r h 0) = (((∑ e, rq x0 b r (col h e) * rq x0 b r (col h e)) / 64 + eps : ℝ) : EReal) := by
    rw [val_main_v11_apply, val_main_v9_apply, val_main_v7_apply, val_main_v8_apply, val_main_v10_apply,
      show idx_main_v7 (ix4 b r h 0) = ix3 b r h from ValueIdx.eq_ix3 _, h6]
    show Ideal.div _ (Ideal.ofBits .f32 0x42800000#32) + Ideal.ofBits .f32 0x358637BD#32 = _
    rw [lit_64, lit_eps.1, div_real _ (by norm_num), EReal.coe_add]
  rw [val_main_v12_apply, h11, Ideal.hostUnary_rsqrt_def, rsqrt_pos (vpos _), rs_eq]

include fx in
theorem v18_at (b : Fin 2) (r : Fin 2048) (k : Fin 512) :
    val_main_v18 (F := Ideal) x0 x1 (ix3 b r k) = ((nh (rq x0 b r) k : ℝ) : EReal) * x1 (ix2 0 (cin k)) := by
  have hk := k.isLt
  have hh : k.val / 64 < 8 := by omega
  have hc : col ⟨k.val / 64, hh⟩ (cin k) = k := Fin.ext (by show 64 * (k.val / 64) + k.val % 64 = k.val; omega)
  have e13 : idx_main_v13 (ix4 b r (⟨k.val / 64, hh⟩ : Fin 8) (cin k)) = ix4 b r (⟨k.val / 64, hh⟩ : Fin 8) (0 : Fin 1) := ValueIdx.eq_ix4 _
  have e15 : idx_main_v15 (idx_main_v16 (ix4 b r (⟨k.val / 64, hh⟩ : Fin 8) (cin k))) = ix2 (0 : Fin 1) (cin k) :=
    ext2 _ _ _ rfl (by show (((0 * 1 + 0) * 1 + 0) * 64 + k.val % 64) % 64 = k.val % 64; omega)
  rw [val_main_v18_apply, show idx_main_v18 (ix3 b r k) = ix4 b r ⟨k.val / 64, hh⟩ (cin k) from
    ext4 _ _ _ _ _ (by show ((b.val * 2048 + r.val) * 512 + k.val) / 1048576 = b.val; omega)
      (by show ((b.val * 2048 + r.val) * 512 + k.val) / 512 % 2048 = r.val; omega)
      (by show ((b.val * 2048 + r.val) * 512 + k.val) / 64 % 8 = k.val / 64; omega)
      (by show ((b.val * 2048 + r.val) * 512 + k.val) % 64 = k.val % 64; omega),
    val_main_v17_apply, val_main_v14_apply, val_main_v13_apply, val_main_v16_apply, val_main_v15_apply, v4_at, hc, fx,
    e13, v12_at x0 fx, e15]
  show _ * _ * _ = _
  rw [← EReal.coe_mul]

theorem moved_eq : val_main_v0 (F := Ideal) (moved x0) = val_main_v1 (F := Ideal) x0 := Cert.ReferenceIdeal.QkRef.moved_eq x0

/-- The keys' normalisation is the queries' on the key's columns. -/
theorem v34_eq : val_main_v34 (F := Ideal) x0 x2 = val_main_v18 (F := Ideal) (moved x0) x2 := by
  have h20 : val_main_v20 (F := Ideal) x0 = val_main_v4 (F := Ideal) (moved x0) := by
    unfold val_main_v20 val_main_v4; rw [moved_eq]
  have h28 : val_main_v28 (F := Ideal) x0 = val_main_v12 (F := Ideal) (moved x0) := by
    unfold val_main_v28 val_main_v27 val_main_v25 val_main_v23 val_main_v22 val_main_v21
    rw [h20]; rfl
  unfold val_main_v34 val_main_v33 val_main_v30 val_main_v29
  rw [h20, h28]; rfl

/-- An array behind 512 rows of noughts, read among the noughts and behind them. -/
theorem front (y : Vec Ideal S2x2048x512 .f32) (b : Fin 2) (s : Fin 512) (k : Fin 512) (r : Fin 2560) (hr : r.val = s.val) :
    (concatenate S2x2560x512 1 [⟨Cert.Reference11Ideal.S2x512x512, (val_main_v3 (F := Ideal))⟩, ⟨S2x2048x512, y⟩] Cert.Reference11Ideal.Gen.concatenates_S2x512x512_S2x2048x512_S2x2560x512_d1 : Vec Ideal S2x2560x512 .f32) (ix3 b r k) = 0 := by
  rw [concatenate_pair_apply_left 1 (val_main_v3 (F := Ideal)) y _ (ix3 b r k) rfl (ix3 b s k) (fun a => match a with | ⟨0, _⟩ => rfl | ⟨1, _⟩ => hr.symm | ⟨2, _⟩ => rfl),
    val_main_v3_apply]
  exact Ideal.ofBits_zero_f32
theorem back (y : Vec Ideal S2x2048x512 .f32) (b : Fin 2) (s : Fin 2048) (k : Fin 512) :
    (concatenate S2x2560x512 1 [⟨Cert.Reference11Ideal.S2x512x512, (val_main_v3 (F := Ideal))⟩, ⟨S2x2048x512, y⟩] Cert.Reference11Ideal.Gen.concatenates_S2x512x512_S2x2048x512_S2x2560x512_d1 : Vec Ideal S2x2560x512 .f32) (ix3 b (past s) k) = y (ix3 b s k) :=
  concatenate_pair_apply_right 1 (val_main_v3 (F := Ideal)) y _ (ix3 b (past s) k) rfl rfl (ix3 b s k)
    (fun a ha => match a with | ⟨0, _⟩ => rfl | ⟨1, _⟩ => absurd rfl ha | ⟨2, _⟩ => rfl) (by show s.val + 512 = 512 + s.val; omega)

end Ref

/-! ## A point's arithmetic -/

theorem hz : (![0, 0] : Fin 2 → Nat) = fun _ => 0 := funext fun a => by fin_cases a <;> rfl
theorem hz3 : (![0, 0, 0] : Fin 3 → Nat) = fun _ => 0 := funext fun a => by fin_cases a <;> rfl

/-- A block's rows without the unit axis. -/
abbrev flat (P : Vec Ideal S1x512x512 .f32) : FVec Ideal S512x512 .f32 := shapeCast S512x512 P Cert.KernelIdeal.Gen.shapeCasts_S1x512x512_S512x512

theorem pay6_eq (P : Vec Ideal S1x512x512 .f32) (g : Vec Ideal S1x512 .f32) : k0_pay6 (F := Ideal) k0_pay1 P g
    = shapeCast S1x512x512 (truncf .bf16 (mulf (mulf (flat P) (rstd (flat P))) (broadcastTo S512x512 g Cert.KernelIdeal.Gen.broadcasts_S1x512_S512x512)) Cert.Kernel11Ideal.Gen.bitsLt_bf16_f32) Cert.Kernel11Ideal.Gen.shapeCasts_S512x512_S1x512x512 := rfl
theorem pay4_eq (P : Vec Ideal S1x512x512 .f32) (g : Vec Ideal S1x512 .f32) : k0_pay4 (F := Ideal) (k0_pay7 P) g (k0_pay8 k0_pay1 P) = k0_pay6 (F := Ideal) k0_pay1 P g := rfl

theorem pay6_at (P : Vec Ideal S1x512x512 .f32) (g : Vec Ideal S1x512 .f32) (X : Fin 512 → Fin 512 → ℝ) (hX : ∀ r k, P (ix3 0 r k) = ((X r k : ℝ) : EReal)) (r k : Fin 512) :
    k0_pay6 (F := Ideal) k0_pay1 P g (ix3 0 r k) = ((nh (X r) k : ℝ) : EReal) * g (ix2 0 k) := by
  have hx : ∀ i, flat P i = ((X (i 0) (i 1) : ℝ) : EReal) := fun i => by
    obtain ⟨r, k, rfl⟩ : ∃ r k : Fin 512, i = ix2 r k := ⟨i 0, i 1, ValueIdx.eq_ix2 i⟩
    exact (Cert.KernelIdeal.QkBlock.cast_at P r k).symm.trans (hX r k)
  rw [pay6_eq, shapeCast_apply _ _ (ix3 0 r k) (ix2 r k) (by
    rw [Shape.rowMajor_val_two, Shape.rowMajor_val_three]; show r.val * 512 + k.val = (0 * 512 + r.val) * 512 + k.val; omega)]
  show flat P (ix2 r k) * rstd (flat P) (ix2 r k) * broadcastTo S512x512 g Cert.KernelIdeal.Gen.broadcasts_S1x512_S512x512 (ix2 r k) = _
  rw [← Cert.KernelIdeal.QkBlock.spread_at g r k, rstd_apply (flat P) (fun i => X (i 0) (i 1)) hx, hx, ← EReal.coe_mul]

theorem pay5_at (P : Vec Ideal S1x512x512 .f32) (r k : Fin 512) : k0_pay5 (F := Ideal) P (ix3 0 r k) = P (ix3 0 r k) := by
  rw [Cert.KernelIdeal.QkBlock.cast_at P r k]
  unfold k0_pay5
  exact shapeCast_addUnit_apply _ _ _ _

theorem zero_at (y : S1x512x512.Idx) : k0_pay2 (F := Ideal) y = 0 ∧ k0_pay3 (F := Ideal) y = 0 := ⟨Ideal.ofBits_zero_bf16, Ideal.ofBits_zero_bf16⟩

variable (m : (ℓ : Loc nD τ sig) → Buf (Elt Ideal) ℓ) (c : Dev nD)

abbrev A0 : Vec Ideal S2x2048x3584 .f32 := m ((c : Thread nD τ).loc main_arg0)
abbrev A1 : Vec Ideal S1x64 .f32 := m ((c : Thread nD τ).loc main_arg1)
abbrev A2 : Vec Ideal S1x64 .f32 := m ((c : Thread nD τ).loc main_arg2)

section Cases
variable (i : grid0.Coords) (arg2 : Memref sig .tc .vmem S1x512x512 .f32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1x512x512 .bf16) (harg7 : arg7.IsWhole) (arg8 : Memref sig .tc .vmem S1x512x512 .bf16) (harg8 : arg8.IsWhole) (arg9 : Memref sig .tc .vmem S1x512x512 .bf16) (harg9 : arg9.IsWhole)
variable (x0 x1 x2 : Vec Ideal S1x512x512 .f32) (x3 x4 : Vec Ideal S1x512 .f32)

theorem caseA (hc0 : cond0_0 i) (hc1 : ¬cond0_1 i) : out0_A_6 c i arg2 harg2 arg3 harg3 arg4 harg4 arg5 harg5 arg6 harg6 arg7 harg7 arg8 harg8 arg9 harg9 hc0 hc1 x0 x1 x2 x3 x4 = k0_pay2 (F := Ideal)
    ∧ out0_A_7 c i arg2 harg2 arg3 harg3 arg4 harg4 arg5 harg5 arg6 harg6 arg7 harg7 arg8 harg8 arg9 harg9 hc0 hc1 x0 x1 x2 x3 x4 = k0_pay3 (F := Ideal) := by
  unfold out0_A_6 out0_A_7
  simp only [View.read_writes_junk_eq_canon]
  refine ⟨?_, ?_⟩ <;>
  · unfold kernelRun0_A
    dsimp only
    sl_unfold_words
    rw [View.canon_unit_zero hz3]

theorem caseB (hc0 : ¬cond0_0 i) (hc1 : cond0_1 i) : out0_B_5 c i arg2 harg2 arg3 harg3 arg4 harg4 arg5 harg5 arg6 harg6 arg7 harg7 arg8 harg8 arg9 harg9 hc0 hc1 x0 x1 x2 x3 x4 = k0_pay6 k0_pay1 x0 x3
    ∧ out0_B_6 c i arg2 harg2 arg3 harg3 arg4 harg4 arg5 harg5 arg6 harg6 arg7 harg7 arg8 harg8 arg9 harg9 hc0 hc1 x0 x1 x2 x3 x4 = k0_pay4 (k0_pay7 x1) x4 (k0_pay8 k0_pay1 x1)
    ∧ out0_B_7 c i arg2 harg2 arg3 harg3 arg4 harg4 arg5 harg5 arg6 harg6 arg7 harg7 arg8 harg8 arg9 harg9 hc0 hc1 x0 x1 x2 x3 x4 = k0_pay5 x2 := by
  unfold out0_B_5 out0_B_6 out0_B_7
  simp only [View.read_writes_junk_eq_canon]
  refine ⟨?_, ?_, ?_⟩ <;>
  · unfold kernelRun0_B
    dsimp only
    sl_unfold_words
    rw [View.canon_unit_zero hz3]
    simp only [View.readAt_eq_ld, harg2.read_unread, harg3.read_unread, harg4.read_unread, harg5.read_unread, harg6.read_unread, View.ld_unit_zero (S := S1x512x512) hz3, View.ld_unit_zero (S := S1x512) hz]

end Cases

theorem ptA (t : Fin cfg0.N) (h : t.val % 5 = 0) : (outsAt0 m c t.val t.isLt).2.1 = k0_pay2 (F := Ideal) ∧ (outsAt0 m c t.val t.isLt).2.2 = k0_pay3 (F := Ideal) := by
  rw [outsAt0_A m c t h (by omega)]
  dsimp only
  rw [(caseA ..).1, (caseA ..).2]
  exact ⟨rfl, rfl⟩

theorem ptB (t : Fin cfg0.N) (h : 1 ≤ t.val % 5) : (outsAt0 m c t.val t.isLt).1 = k0_pay6 k0_pay1 (iblk m c 0 t) (iblk m c 3 t)
    ∧ (outsAt0 m c t.val t.isLt).2.1 = k0_pay6 k0_pay1 (iblk m c 1 t) (iblk m c 4 t)
    ∧ (outsAt0 m c t.val t.isLt).2.2 = k0_pay5 (iblk m c 2 t) := by
  rw [outsAt0_B m c t (by omega) h]
  dsimp only
  rw [(caseB ..).1, (caseB ..).2.1, (caseB ..).2.2, pay4_eq]
  exact ⟨rfl, rfl, rfl⟩

/-! ## The blocks read at an index -/

theorem idxs : ∀ t : Fin cfg0.N, win0_0.index t = ![t.val / 5, t.val % 5 - 1, 0] ∧ win0_1.index t = ![t.val / 5, t.val % 5 - 1, 1]
    ∧ win0_2.index t = ![t.val / 5, t.val % 5 - 1, 2] ∧ win0_3.index t = ![0, 0] ∧ win0_4.index t = ![0, 0]
    ∧ win0_5.index t = ![t.val / 5, t.val % 5 - 1, 0] ∧ win0_6.index t = ![t.val / 5, t.val % 5, 0] ∧ win0_7.index t = ![t.val / 5, t.val % 5, 0] :=
  (by decide +kernel : ∀ t : Fin grid0.N, _)

/-- A point's batch, and its stretch of the rows. -/
abbrev bt (t : Fin cfg0.N) : Fin 2 := ⟨t.val / 5, by have h : t.val < 10 := t.isLt; omega⟩
abbrev jt (t : Fin cfg0.N) : Fin 4 := ⟨t.val % 5 - 1, by omega⟩

theorem blk0 (t : Fin cfg0.N) (r k : Fin 512) :
    (iblk m c 0 t : Vec Ideal S1x512x512 .f32) (ix3 0 r k) = A0 m c (ix3 (bt t) (row (jt t) r) ⟨0 + k.val, by have := k.isLt; omega⟩) := by
  blk_simp [iblk]
  rw [V_main_arg0]
  refine congrArg (A0 m c) (ext3 _ _ _ _ ?_ ?_ ?_) <;> blk_simp [idxs t]
  · show (t.val % 5 - 1) * 512 + r.val = 512 * (t.val % 5 - 1) + r.val; omega
theorem blk1 (t : Fin cfg0.N) (r k : Fin 512) :
    (iblk m c 1 t : Vec Ideal S1x512x512 .f32) (ix3 0 r k) = A0 m c (ix3 (bt t) (row (jt t) r) ⟨512 + k.val, by have := k.isLt; omega⟩) := by
  blk_simp [iblk]
  rw [V_main_arg0]
  refine congrArg (A0 m c) (ext3 _ _ _ _ ?_ ?_ ?_) <;> blk_simp [idxs t]
  · show (t.val % 5 - 1) * 512 + r.val = 512 * (t.val % 5 - 1) + r.val; omega
theorem blk2 (t : Fin cfg0.N) (r k : Fin 512) :
    (iblk m c 2 t : Vec Ideal S1x512x512 .f32) (ix3 0 r k) = A0 m c (ix3 (bt t) (row (jt t) r) ⟨1024 + k.val, by have := k.isLt; omega⟩) := by
  blk_simp [iblk]
  rw [V_main_arg0]
  refine congrArg (A0 m c) (ext3 _ _ _ _ ?_ ?_ ?_) <;> blk_simp [idxs t]
  · show (t.val % 5 - 1) * 512 + r.val = 512 * (t.val % 5 - 1) + r.val; omega
theorem V3 (k : Fin 512) (i : S1x512.Idx) (h1 : (i 1).val = k.val) :
    (V m c (Pipeline.arrRef spec0 3) : Vec Ideal S1x512 .f32) i = A1 m c (ix2 0 (cin k)) := by
  entry_read
  exact Cert.KernelIdeal.QkArray.tile_apply _ k i h1
theorem blk3 (t : Fin cfg0.N) (k : Fin 512) : (iblk m c 3 t : Vec Ideal S1x512 .f32) (ix2 0 k) = A1 m c (ix2 0 (cin k)) := by
  blk_simp [iblk]
  exact V3 m c k _ (by blk_simp [idxs t])
theorem V4 (k : Fin 512) (i : S1x512.Idx) (h1 : (i 1).val = k.val) :
    (V m c (Pipeline.arrRef spec0 4) : Vec Ideal S1x512 .f32) i = A2 m c (ix2 0 (cin k)) := by
  entry_read
  exact Cert.KernelIdeal.QkArray.tile_apply _ k i h1
theorem blk4 (t : Fin cfg0.N) (k : Fin 512) : (iblk m c 4 t : Vec Ideal S1x512 .f32) (ix2 0 k) = A2 m c (ix2 0 (cin k)) := by
  blk_simp [iblk]
  exact V4 m c k _ (by blk_simp [idxs t])

theorem emb5 (t : Fin cfg0.N) (r k : Fin 512) : (win0_5.blk t).view.emb (ix3 0 r k) = ix3 (bt t) (row (jt t) r) k :=
  ext3 _ _ _ _ (by blk_simp [idxs t])
    (by blk_simp [idxs t]; show (t.val % 5 - 1) * 512 + r.val = 512 * (t.val % 5 - 1) + r.val; omega) (by blk_simp [idxs t])

/-- The row behind the noughts, or among them. -/
abbrev rt (t : Fin cfg0.N) (r : Fin 512) : Fin 2560 := ⟨512 * (t.val % 5) + r.val, by have := r.isLt; omega⟩

theorem emb6 (t : Fin cfg0.N) (r k : Fin 512) : (win0_6.blk t).view.emb (ix3 0 r k) = ix3 (bt t) (rt t r) k :=
  ext3 _ _ _ _ (by blk_simp [idxs t])
    (by blk_simp [idxs t]; show t.val % 5 * 512 + r.val = 512 * (t.val % 5) + r.val; omega) (by blk_simp [idxs t])
theorem emb7 (t : Fin cfg0.N) (r k : Fin 512) : (win0_7.blk t).view.emb (ix3 0 r k) = ix3 (bt t) (rt t r) k :=
  ext3 _ _ _ _ (by blk_simp [idxs t])
    (by blk_simp [idxs t]; show t.val % 5 * 512 + r.val = 512 * (t.val % 5) + r.val; omega) (by blk_simp [idxs t])
theorem rt_past (t : Fin cfg0.N) (r : Fin 512) (h : 1 ≤ t.val % 5) : rt t r = past (row (jt t) r) :=
  Fin.ext (by show 512 * (t.val % 5) + r.val = 512 + (512 * (t.val % 5 - 1) + r.val); omega)

theorem unit (y : S1x512x512.Idx) : ∃ r k : Fin 512, y = ix3 0 r k := ⟨y 1, y 2, ext3 _ _ _ _ (Nat.lt_one_iff.mp (y 0).isLt) rfl rfl⟩

/-! ## The arrays -/

theorem pre (h : Cert.Pre_Kernel11Ideal_finite11 m) : ∀ i, A0 m c i = (((A0 m c i).toReal : ℝ) : EReal) :=
  real_of_bound _ _ (fun _ => rfl) (h c)

theorem read0 (x : Vec Ideal S2x2048x3584 .f32) (b : Fin 2) (r : Fin 2048) (k : Fin 512) :
    val_main_v0 (F := Ideal) x (ix3 b r k) = x (ix3 b r ⟨0 + k.val, by have := k.isLt; omega⟩) := by
  rw [val_main_v0_apply]
  exact congrArg x (ext3 _ _ _ _ rfl rfl (by show k.val = 0 + k.val; omega))
theorem readMoved (x : Vec Ideal S2x2048x3584 .f32) (b : Fin 2) (r : Fin 2048) (k : Fin 512) :
    val_main_v0 (F := Ideal) (moved x) (ix3 b r k) = x (ix3 b r ⟨512 + k.val, by have := k.isLt; omega⟩) := by
  rw [moved_eq, val_main_v1_apply]
  exact congrArg x (ext3 _ _ _ _ rfl rfl rfl)

variable (f : ∀ i, A0 m c i = (((A0 m c i).toReal : ℝ) : EReal))

include f in
theorem eq5 : (dats m 0 c).arrAt 5 cfg0.N = val_main_v19 (F := Ideal) (A0 m c) (A1 m c) := by
  refine (dats m 0 c).arrAt_eq_of_covers 5 _ (by decide +kernel) fun t hf y => ?_
  have h : 1 ≤ t.val % 5 := (by decide +kernel : ∀ t : Fin cfg0.N, (cfg0.win 5).flush t = true → 1 ≤ t.val % 5) t hf
  blk_simp
  rw [after0_5, (ptB m c t h).1]
  obtain ⟨r, k, rfl⟩ := unit y
  rw [emb5, val_main_v19_apply]
  refine (pay6_at (iblk m c 0 t) (iblk m c 3 t) (fun r k => rq (A0 m c) (bt t) (row (jt t) r) k) (fun r k => ?_) r k).trans ?_
  · unfold rq
    rw [blk0, read0, ← f]
  · rw [blk3]
    exact (v18_at (A0 m c) (A1 m c) (fun b r k => by unfold rq; rw [read0]; exact f _) (bt t) (row (jt t) r) k).symm

include f in
theorem eq6 : (dats m 0 c).arrAt 6 cfg0.N = val_main_v36 (F := Ideal) (A0 m c) (A2 m c) := by
  refine (dats m 0 c).arrAt_eq_of_covers 6 _ (by decide +kernel) fun t hf y => ?_
  blk_simp
  obtain ⟨r, k, rfl⟩ := unit y
  rw [after0_6, emb6, val_main_v36_apply]
  unfold val_main_v35
  by_cases h : t.val % 5 = 0
  · rw [(ptA m c t h).1]
    refine (zero_at _).1.trans (front _ (bt t) r k (rt t r) (by show 512 * (t.val % 5) + r.val = r.val; omega)).symm
  · have h : 1 ≤ t.val % 5 := by omega
    rw [(ptB m c t h).2.1, rt_past t r h]
    refine (pay6_at (iblk m c 1 t) (iblk m c 4 t) (fun r k => rq (moved (A0 m c)) (bt t) (row (jt t) r) k) (fun r k => ?_) r k).trans ?_
    · unfold rq
      rw [blk1, readMoved, ← f]
    · rw [blk4]
      refine (Eq.trans (back _ (bt t) (row (jt t) r) k) ?_).symm
      rw [v34_eq]
      exact v18_at (moved (A0 m c)) (A2 m c) (fun b r k => by unfold rq; rw [readMoved]; exact f _) (bt t) (row (jt t) r) k

theorem eq7 : (dats m 0 c).arrAt 7 cfg0.N = val_main_v38 (F := Ideal) (A0 m c) := by
  refine (dats m 0 c).arrAt_eq_of_covers 7 _ (by decide +kernel) fun t hf y => ?_
  blk_simp
  obtain ⟨r, k, rfl⟩ := unit y
  rw [after0_7, emb7, val_main_v38_apply]
  unfold val_main_v37
  by_cases h : t.val % 5 = 0
  · rw [(ptA m c t h).2]
    refine (zero_at _).2.trans (front _ (bt t) r k (rt t r) (by show 512 * (t.val % 5) + r.val = r.val; omega)).symm
  · have h : 1 ≤ t.val % 5 := by omega
    rw [(ptB m c t h).2.2, rt_past t r h]
    refine (pay5_at _ r k).trans ?_
    rw [blk2]
    refine (Eq.trans (back _ (bt t) (row (jt t) r) k) ?_).symm
    rw [val_main_v2_apply]
    exact congrArg (A0 m c) (ext3 _ _ _ _ rfl rfl rfl)

/-- The reference runs and leaves its arguments; it has no counters. -/
theorem frame_reference : Cert.quiescent_Reference11Ideal := fun m g _ =>
  (θ_run Cert.Reference11Ideal.defs _ _).mono (fun r h => ⟨fun c => (h c).2.2.2, sem_eq_zero_of_no_sems (by decide) r.2⟩)
    (Cert.Reference11Ideal.Value.run (F := Ideal) m g)

theorem algebraic : Cert.algebraic_Kernel11Ideal_Reference11Ideal_pre_finite11 := by
  intro m g m' g' hp ha
  refine ⟨_, _, _, Cert.Kernel11Ideal.Value.run_blocks (F := Ideal) m g, ?_⟩
  refine (θ_run Cert.Reference11Ideal.defs _ _).mono (fun r h c => ?_) (Cert.Reference11Ideal.Value.run (F := Ideal) m' g')
  have f := pre m c hp
  obtain ⟨a0, a1, a2⟩ := ha c
  obtain ⟨h0, h1, h2, hrest⟩ := h c
  refine ⟨h0.trans ((val_main_v19_eq _ _).trans ?_), h1.trans ((val_main_v36_eq _ _).trans ?_), h2.trans ((val_main_v38_eq _).trans ?_), hrest⟩
  · rw [a0, a1]; exact (eq5 m c f).symm
  · rw [a0, a2]; exact (eq6 m c f).symm
  · rw [a0]; exact (eq7 m c).symm

end Cert.QkForward

end

end
-- ==== Proof.OutClaim.lean ====
/-
  The output projection with its residual and the norm after it: every point adds a product to 512 rows and normalises
  them.
-/
module

public import proofs.«01_k».proof.Defs
public import proofs.«01_k».proof.Proof.Rows
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.ValueKit
public import Idealize.ShloMosaic.Lib.Pointwise
public import Idealize.ShloMosaic.Lib.ValueLayout

set_option maxRecDepth 16384
set_option backward.isDefEq.respectTransparency false

@[expose] public section

noncomputable section

namespace Cert.OutClaim

open Cert.Kernel12Ideal Cert.Kernel12Ideal.Gen Cert.Common Cert.Reference12Ideal.Read
open Idealize.ShloMosaic Idealize.ShloMosaic.TcCoe Idealize.SL.Sem
open scoped BigOperators

instance : Cert.Kernel12Ideal.Facts := Cert.Kernel12Ideal.Gen.facts
instance : Cert.Reference12Ideal.Facts := Cert.Reference12Ideal.Gen.facts

/-- An input plus a product's entry. -/
def plus (x : EReal) (a w : Fin 1024 → EReal) : EReal := x + ∑ q, a q * w q

theorem pay2_at (a : Vec Ideal S512x1024 .bf16) (w : Vec Ideal S1024x1024 .bf16) (x : Vec Ideal S512x1024 .f32) (r : Fin 512) (j : Fin 1024) :
    k0_pay2 a w x (ix2 r j) = plus (x (ix2 r j)) (fun q => a (ix2 r q)) (fun q => w (ix2 q j)) := by
  unfold k0_pay2 k0_pay1
  pointwise
  rfl

theorem pay3_at (a : Vec Ideal S512x1024 .bf16) (w : Vec Ideal S1024x1024 .bf16) (x : Vec Ideal S512x1024 .f32) (g : Vec Ideal S1x1024 .f32) (r : Fin 512) (j : Fin 1024) :
    k0_pay3 a w x g (ix2 r j) = nrm (fun d => k0_pay2 a w x (ix2 r d)) (fun d => g (ix2 (0 : Fin 1) d)) j := by
  unfold k0_pay3 k0_pay2
  pointwise
  rfl

section reference
variable (a : Vec Ideal S4096x1024 .f32) (w : Vec Ideal S1024x1024 .f32) (x : Vec Ideal S4096x1024 .f32) (g : Vec Ideal S1x1024 .f32) (r : Fin 4096) (j : Fin 1024)

theorem v1_at : val_main_v1 (F := Ideal) a w x (ix2 r j) = plus (x (ix2 r j)) (fun q => a (ix2 r q)) (fun q => w (ix2 q j)) := by
  unfold val_main_v1 val_main_v0
  pointwise
  rfl

theorem v14_at : val_main_v14 (F := Ideal) a w x g (ix2 r j) = nrm (fun d => val_main_v1 (F := Ideal) a w x (ix2 r d)) (fun d => g (ix2 (0 : Fin 1) d)) j := by
  unfold val_main_v14 val_main_v13 val_main_v12 val_main_v11 val_main_v10 val_main_v9 val_main_v8 val_main_v7 val_main_v6 val_main_v5 val_main_v4 val_main_v3
    val_main_v2 val_main_cst val_main_cst_0 val_main_cst_1
  pointwise
  rfl
end reference

variable (m : (ℓ : Loc nD τ sig) → Buf (Elt Ideal) ℓ) (c : Dev nD)

abbrev A0 : Vec Ideal S4096x1024 .f32 := m ((c : Thread nD τ).loc main_arg0)
abbrev A1 : Vec Ideal S1024x1024 .f32 := m ((c : Thread nD τ).loc main_arg1)
abbrev A2 : Vec Ideal S4096x1024 .f32 := m ((c : Thread nD τ).loc main_arg2)
abbrev A3 : Vec Ideal S1x1024 .f32 := m ((c : Thread nD τ).loc main_arg3)

theorem idxs : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] :=
  (by decide +kernel : ∀ t : Fin grid0.N, _)

/-- A point's stretch. -/
abbrev pb (t : Fin cfg0.N) : Fin 8 := ⟨t.val, t.isLt⟩

theorem V0 : (V m c (Pipeline.arrRef spec0 0) : Vec Ideal S4096x1024 .bf16) = A0 m c := by
  entry_read
  rfl
theorem V1 : (V m c (Pipeline.arrRef spec0 1) : Vec Ideal S1024x1024 .bf16) = A1 m c := by
  entry_read
  rfl

theorem blk0 (t : Fin cfg0.N) (r : Fin 512) (k : Fin 1024) : (iblk m c 0 t : Vec Ideal S512x1024 .bf16) (ix2 r k) = A0 m c (ix2 (row8 (pb t) r) k) := by
  blk_simp [iblk]
  rw [V0]
  refine congrArg (A0 m c) (ext2 _ _ _ ?_ ?_) <;> blk_simp [idxs t]
  show t.val * 512 + r.val = 512 * t.val + r.val; omega
theorem blk1 (t : Fin cfg0.N) (q : Fin 1024) (k : Fin 1024) : (iblk m c 1 t : Vec Ideal S1024x1024 .bf16) (ix2 q k) = A1 m c (ix2 q k) := by
  blk_simp [iblk]
  rw [V1]
  refine congrArg (A1 m c) (ext2 _ _ _ ?_ ?_) <;> blk_simp [idxs t]
theorem blk2 (t : Fin cfg0.N) (r : Fin 512) (k : Fin 1024) : (iblk m c 2 t : Vec Ideal S512x1024 .f32) (ix2 r k) = A2 m c (ix2 (row8 (pb t) r) k) := by
  blk_simp [iblk]
  rw [V_main_arg2]
  refine congrArg (A2 m c) (ext2 _ _ _ ?_ ?_) <;> blk_simp [idxs t]
  show t.val * 512 + r.val = 512 * t.val + r.val; omega
theorem blk3 (t : Fin cfg0.N) (k : Fin 1024) : (iblk m c 3 t : Vec Ideal S1x1024 .f32) (ix2 (0 : Fin 1) k) = A3 m c (ix2 (0 : Fin 1) k) := by
  blk_simp [iblk]
  rw [V_main_arg3]
  refine congrArg (A3 m c) (ext2 _ _ _ ?_ ?_) <;> blk_simp [idxs t]

theorem emb4 (t : Fin cfg0.N) (r : Fin 512) (k : Fin 1024) : (win0_4.blk t).view.emb (ix2 r k) = ix2 (row8 (pb t) r) k :=
  ext2 _ _ _ (by blk_simp [idxs t]; show t.val * 512 + r.val = 512 * t.val + r.val; omega) (by blk_simp [idxs t])
theorem emb5 (t : Fin cfg0.N) (r : Fin 512) (k : Fin 1024) : (win0_5.blk t).view.emb (ix2 r k) = ix2 (row8 (pb t) r) k :=
  ext2 _ _ _ (by blk_simp [idxs t]; show t.val * 512 + r.val = 512 * t.val + r.val; omega) (by blk_simp [idxs t])

theorem hz : (![0, 0] : Fin 2 → Nat) = fun _ => 0 := funext fun a => by fin_cases a <;> rfl

theorem sum_at (t : Fin cfg0.N) (r : Fin 512) (k : Fin 1024) :
    k0_pay2 (iblk m c 0 t) (iblk m c 1 t) (iblk m c 2 t) (ix2 r k) = val_main_v1 (F := Ideal) (A0 m c) (A1 m c) (A2 m c) (ix2 (row8 (pb t) r) k) := by
  rw [pay2_at, v1_at, blk2]
  exact congrArg₂ (plus _) (funext fun q => blk0 m c t r q) (funext fun q => blk1 m c t q k)

theorem eq4 : (dats m 0 c).arrAt 4 cfg0.N = val_main_v1 (F := Ideal) (A0 m c) (A1 m c) (A2 m c) := by
  refine (dats m 0 c).arrAt_eq_of_covers 4 _ (by decide +kernel) fun t hf y => ?_
  blk_simp
  rw [after0_4]
  obtain ⟨r, k, rfl⟩ : ∃ (r : Fin 512) (k : Fin 1024), y = ix2 r k := ⟨y 0, y 1, ValueIdx.eq_ix2 y⟩
  rw [emb4]
  unfold out0_4
  rw [View.canon_unit_zero hz, View.ld_unit_zero (S := S512x1024) hz, View.ld_unit_zero (S := S1024x1024) hz, View.ld_unit_zero (S := S512x1024) hz]
  exact sum_at m c t r k

theorem eq5 : (dats m 0 c).arrAt 5 cfg0.N = val_main_v14 (F := Ideal) (A0 m c) (A1 m c) (A2 m c) (A3 m c) := by
  refine (dats m 0 c).arrAt_eq_of_covers 5 _ (by decide +kernel) fun t hf y => ?_
  blk_simp
  rw [after0_5]
  obtain ⟨r, k, rfl⟩ : ∃ (r : Fin 512) (k : Fin 1024), y = ix2 r k := ⟨y 0, y 1, ValueIdx.eq_ix2 y⟩
  rw [emb5]
  unfold out0_5
  rw [View.canon_unit_zero hz, View.ld_unit_zero (S := S512x1024) hz, View.ld_unit_zero (S := S1024x1024) hz, View.ld_unit_zero (S := S512x1024) hz,
    View.ld_unit_zero (S := S1x1024) hz, pay3_at, v14_at]
  congr 1 <;> funext d
  · exact sum_at m c t r d
  · exact blk3 m c t d

/-- The reference runs and leaves its arguments; it has no counters. -/
theorem frame_reference : Cert.quiescent_Reference12Ideal := fun m g _ =>
  (θ_run Cert.Reference12Ideal.defs _ _).mono (fun r h => ⟨fun c => (h c).2.2, sem_eq_zero_of_no_sems (by decide) r.2⟩)
    (Cert.Reference12Ideal.Value.run (F := Ideal) m g)

theorem algebraic : Cert.algebraic_Kernel12Ideal_Reference12Ideal := by
  intro m g m' g' hp ha
  refine ⟨_, _, Cert.Kernel12Ideal.Value.run_blocks (F := Ideal) m g, ?_⟩
  refine (θ_run Cert.Reference12Ideal.defs _ _).mono (fun r h c => ?_) (Cert.Reference12Ideal.Value.run (F := Ideal) m' g')
  obtain ⟨a0, a1, a2, a3⟩ := ha c
  obtain ⟨h0, h1, hrest⟩ := h c
  refine ⟨h0.trans ((val_main_v1_eq _ _ _).trans ?_), h1.trans ((val_main_v14_eq _ _ _ _).trans ?_), hrest⟩
  · rw [a0, a1, a2]; exact (eq4 m c).symm
  · rw [a0, a1, a2, a3]; exact (eq5 m c).symm

end Cert.OutClaim

end
-- ==== Proof.ColsClaim.lean ====
/-
  The gradient of a feed-forward block's weights: for each half of the rows two points add up the products of half the frames.
-/
module

public import proofs.«01_k».proof.Defs
public import proofs.«01_k».proof.Proof.Rows
public import proofs.«01_k».proof.Proof.Gen.Kernel13Ideal.Value
public import proofs.«01_k».proof.Proof.Gen.Reference13Ideal.Run
public import proofs.«01_k».proof.Proof.Gen.Reference13Ideal.Read
public import Idealize.ShloMosaic.Lib.Pipeline.ValueKit
public import Idealize.ShloMosaic.Lib.Pointwise
public import Idealize.ShloMosaic.Lib.ValueLayout

set_option maxRecDepth 16384
set_option backward.isDefEq.respectTransparency false

@[expose] public section

noncomputable section

namespace Cert.ColsClaim

open Cert.Kernel13Ideal Cert.Kernel13Ideal.Gen Cert.Common Cert.Reference13Ideal.Read
open Idealize.ShloMosaic Idealize.ShloMosaic.TcCoe Idealize.SL.Sem
open scoped BigOperators

instance : Cert.Kernel13Ideal.Facts := Cert.Kernel13Ideal.Gen.facts
instance : Cert.Reference13Ideal.Facts := Cert.Reference13Ideal.Gen.facts

/-- A product's entry. -/
def dot {n : Nat} (a b : Fin n → EReal) : EReal := ∑ q, a q * b q

/-- A row within its half, and a frame within its half. -/
abbrev row2 (p : Fin 2) (i : Fin 1408) : Fin 2816 := ⟨p.val * 1408 + i.val, by omega⟩
abbrev frame2 (p : Fin 2) (q : Fin 2048) : Fin 4096 := ⟨p.val * 2048 + q.val, by omega⟩

theorem dot_halves (a b : Fin 4096 → EReal) :
    dot (fun q => a (frame2 0 q)) (fun q => b (frame2 0 q)) + dot (fun q => a (frame2 1 q)) (fun q => b (frame2 1 q)) = dot a b := by
  unfold dot
  rw [show (∑ q : Fin 4096, a q * b q) = _ from Fin.sum_univ_add (a := 2048) (b := 2048) fun q => a q * b q]
  rfl

theorem pay1_at (a : Vec Ideal S2048x1408 .bf16) (b : Vec Ideal S2048x1024 .bf16) (i : Fin 1408) (j : Fin 1024) :
    k0_pay1 a b (ix2 i j) = dot (fun q : Fin 2048 => a (ix2 q i)) (fun q => b (ix2 q j)) := by
  unfold k0_pay1
  pointwise
  rfl

theorem pay2_at (a : Vec Ideal S2048x1408 .bf16) (b : Vec Ideal S2048x1024 .bf16) (s : Vec Ideal S1408x1024 .f32) (i : Fin 1408) (j : Fin 1024) :
    k0_pay2 a b s (ix2 i j) = s (ix2 i j) + dot (fun q : Fin 2048 => a (ix2 q i)) (fun q => b (ix2 q j)) := by
  unfold k0_pay2
  pointwise
  rfl

theorem ref_at (a : Vec Ideal S4096x2816 .f32) (b : Vec Ideal S4096x1024 .f32) (i : Fin 2816) (j : Fin 1024) :
    val_main_v2 (F := Ideal) a b (ix2 i j) = dot (fun q : Fin 4096 => a (ix2 q i)) (fun q => b (ix2 q j)) := by
  unfold val_main_v2 val_main_v1 val_main_v0
  pointwise
  rfl

variable (m : (ℓ : Loc nD τ sig) → Buf (Elt Ideal) ℓ) (c : Dev nD)

abbrev A0 : Vec Ideal S4096x2816 .f32 := m ((c : Thread nD τ).loc main_arg0)
abbrev A1 : Vec Ideal S4096x1024 .f32 := m ((c : Thread nD τ).loc main_arg1)

theorem V0 : (V m c (Pipeline.arrRef spec0 0) : Vec Ideal S4096x2816 .bf16) = A0 m c := by
  entry_read
  rfl
theorem V1 : (V m c (Pipeline.arrRef spec0 1) : Vec Ideal S4096x1024 .bf16) = A1 m c := by
  entry_read
  rfl

theorem hz : (![0, 0] : Fin 2 → Nat) = fun _ => 0 := funext fun a => by fin_cases a <;> rfl

theorem idxs : ∀ t : Fin cfg0.N, win0_0.index t = ![t.val % 2, t.val / 2] ∧ win0_1.index t = ![t.val % 2, 0] ∧ win0_2.index t = ![t.val / 2, 0] :=
  (by decide +kernel : ∀ t : Fin grid0.N, _)

/-- A point's half of the rows, and its half of the frames. -/
abbrev pj (t : Fin cfg0.N) : Fin 2 := ⟨t.val / 2, by have := lt_of_lt_of_eq t.isLt N_0; omega⟩
abbrev pk (t : Fin cfg0.N) : Fin 2 := ⟨t.val % 2, Nat.mod_lt _ (by decide)⟩

theorem blk0 (t : Fin cfg0.N) (q : Fin 2048) (i : Fin 1408) : (iblk m c 0 t : Vec Ideal S2048x1408 .bf16) (ix2 q i) = A0 m c (ix2 (frame2 (pk t) q) (row2 (pj t) i)) := by
  blk_simp [iblk]
  rw [V0]
  refine congrArg (A0 m c) (ext2 _ _ _ ?_ ?_) <;> blk_simp [idxs t]
theorem blk1 (t : Fin cfg0.N) (q : Fin 2048) (k : Fin 1024) : (iblk m c 1 t : Vec Ideal S2048x1024 .bf16) (ix2 q k) = A1 m c (ix2 (frame2 (pk t) q) k) := by
  blk_simp [iblk]
  rw [V1]
  refine congrArg (A1 m c) (ext2 _ _ _ ?_ ?_) <;> blk_simp [idxs t]
theorem emb2 (t : Fin cfg0.N) (r : Fin 1408) (k : Fin 1024) : (win0_2.blk t).view.emb (ix2 r k) = ix2 (row2 (pj t) r) k :=
  ext2 _ _ _ (by blk_simp [idxs t]) (by blk_simp [idxs t])

/-! ## What a point stores -/

section Cases
variable (i : grid0.Coords) (arg3 : Memref sig .tc .vmem S2048x1408 .bf16) (harg3 : arg3.IsWhole) (arg4 : Memref sig .tc .vmem S2048x1024 .bf16) (harg4 : arg4.IsWhole) (arg5 : Memref sig .tc .vmem S1408x1024 .bf16) (harg5 : arg5.IsWhole) (arg6 : Memref sig .tc .vmem S1408x1024 .f32) (harg6 : arg6.IsWhole)
variable (x0 : Vec Ideal S2048x1408 .bf16) (x1 : Vec Ideal S2048x1024 .bf16) (xs0 : Vec Ideal S1408x1024 .f32)

theorem caseA (hc0 : cond0_0 i) (hc1 : ¬cond0_1 i) : sout0_A_0 c i arg3 harg3 arg4 harg4 arg5 harg5 arg6 harg6 hc0 hc1 x0 x1 = k0_pay1 x0 x1 := by
  unfold sout0_A_0
  simp only [View.read_writes_junk_eq_canon]
  unfold kernelRun0_A
  dsimp only
  sl_unfold_words
  rw [View.canon_unit_zero hz]
  simp only [View.readAt_eq_ld, harg3.read_unread, harg4.read_unread, View.ld_unit_zero (S := S2048x1408) hz, View.ld_unit_zero (S := S2048x1024) hz]

theorem caseB (hc0 : ¬cond0_0 i) (hc1 : cond0_1 i) : out0_B_2 c i arg3 harg3 arg4 harg4 arg5 harg5 arg6 harg6 hc0 hc1 x0 x1 xs0 = k0_pay2 x0 x1 xs0 := by
  unfold out0_B_2
  simp only [View.read_writes_junk_eq_canon]
  unfold kernelRun0_B
  dsimp only
  sl_unfold_words
  rw [View.canon_unit_zero hz]
  simp only [View.readAt_eq_ld, harg3.read_unread, harg4.read_unread, harg6.read_unread, View.ld_unit_zero (S := S2048x1408) hz, View.ld_unit_zero (S := S2048x1024) hz, View.ld_unit_zero (S := S1408x1024) hz]
end Cases

/-- The point before, which computes the first half's products. -/
abbrev before (t : Fin cfg0.N) : Fin cfg0.N := ⟨t.val - 1, Nat.lt_of_le_of_lt (Nat.sub_le _ _) t.isLt⟩

theorem pt (t : Fin cfg0.N) (h : t.val % 2 = 1) : (outsAt0 m c t.val t.isLt).1
    = k0_pay2 (iblk m c 0 t) (iblk m c 1 t) (k0_pay1 (iblk m c 0 (before t)) (iblk m c 1 (before t))) := by
  have hb : (before t).val % 2 = 0 := by show (t.val - 1) % 2 = 0; omega
  rw [outsAt0_B m c t (by omega) h]
  dsimp only
  rw [caseB]
  refine congrArg (k0_pay2 _ _) ?_
  have := outsAt0_A m c (before t) hb (by omega)
  refine (congrArg Prod.snd this).trans ?_
  dsimp only
  exact caseA ..

theorem eq2 : (dats m 0 c).arrAt 2 cfg0.N = val_main_v2 (F := Ideal) (A0 m c) (A1 m c) := by
  refine (dats m 0 c).arrAt_eq_of_covers 2 _ (by decide +kernel) fun t hf y => ?_
  have h : t.val % 2 = 1 := (by decide +kernel : ∀ t : Fin grid0.N, win0_2.flush t = true → t.val % 2 = 1) t hf
  blk_simp
  rw [after0_2, pt m c t h]
  obtain ⟨r, k, rfl⟩ : ∃ (r : Fin 1408) (k : Fin 1024), y = ix2 r k := ⟨y 0, y 1, ValueIdx.eq_ix2 y⟩
  have e0 : pk (before t) = 0 := Fin.ext (by show (t.val - 1) % 2 = 0; omega)
  have e1 : pk t = 1 := Fin.ext h
  have ej : pj (before t) = pj t := Fin.ext (by show (t.val - 1) / 2 = t.val / 2; omega)
  rw [emb2, pay2_at, pay1_at, ref_at, ← dot_halves]
  refine congrArg₂ (· + ·) (congrArg₂ dot (funext fun q => ?_) (funext fun q => ?_)) (congrArg₂ dot (funext fun q => ?_) (funext fun q => ?_))
  · rw [blk0, e0, ej]
  · rw [blk1, e0]
  · rw [blk0, e1]
  · rw [blk1, e1]

/-- The reference runs and leaves its arguments; it has no counters. -/
theorem frame_reference : Cert.quiescent_Reference13Ideal := fun m g _ =>
  (θ_run Cert.Reference13Ideal.defs _ _).mono (fun r h => ⟨fun c => (h c).2, sem_eq_zero_of_no_sems (by decide) r.2⟩)
    (Cert.Reference13Ideal.Value.run (F := Ideal) m g)

theorem algebraic : Cert.algebraic_Kernel13Ideal_Reference13Ideal := by
  intro m g m' g' hp ha
  refine ⟨_, Cert.Kernel13Ideal.Value.run_blocks (F := Ideal) m g, ?_⟩
  refine (θ_run Cert.Reference13Ideal.defs _ _).mono (fun r h c => ?_) (Cert.Reference13Ideal.Value.run (F := Ideal) m' g')
  obtain ⟨a0, a1⟩ := ha c
  obtain ⟨h0, hrest⟩ := h c
  refine ⟨h0.trans ((val_main_v2_eq _ _).trans ?_), hrest⟩
  rw [a0, a1]
  exact (eq2 m c).symm

end Cert.ColsClaim

end
-- ==== Proof.WInClaim.lean ====
/-
  The gradient of the input projection's weights: every point computes one chip's share of the columns, over all 4096
  frames.
-/
module

public import proofs.«01_k».proof.Defs
public import proofs.«01_k».proof.Proof.Rows
public import proofs.«01_k».proof.Proof.Gen.Kernel14Ideal.Value
public import proofs.«01_k».proof.Proof.Gen.Reference14Ideal.Run
public import proofs.«01_k».proof.Proof.Gen.Reference14Ideal.Read
public import Idealize.ShloMosaic.Lib.Pipeline.ValueKit
public import Idealize.ShloMosaic.Lib.Pointwise
public import Idealize.ShloMosaic.Lib.ValueLayout

set_option maxRecDepth 16384
set_option backward.isDefEq.respectTransparency false

@[expose] public section

noncomputable section

namespace Cert.WInClaim

open Cert.Kernel14Ideal Cert.Kernel14Ideal.Gen Cert.Common Cert.Reference14Ideal.Read
open Idealize.ShloMosaic Idealize.ShloMosaic.TcCoe Idealize.SL.Sem
open scoped BigOperators

instance : Cert.Kernel14Ideal.Facts := Cert.Kernel14Ideal.Gen.facts
instance : Cert.Reference14Ideal.Facts := Cert.Reference14Ideal.Gen.facts

/-- A product's entry. -/
def dot {n : Nat} (a b : Fin n → EReal) : EReal := ∑ q, a q * b q

/-- A column within a chip's share. -/
abbrev col (p : Fin 4) (j : Fin 896) : Fin 3584 := ⟨p.val * 896 + j.val, by omega⟩

theorem pay_at (a : Vec Ideal S4096x1024 .bf16) (b : Vec Ideal S4096x896 .bf16) (i : Fin 1024) (j : Fin 896) :
    k0_pay1 a b (ix3 (0 : Fin 1) i j) = dot (fun q : Fin 4096 => a (ix2 q i)) (fun q => b (ix2 q j)) := by
  unfold k0_pay1
  pointwise
  rfl

theorem ref_at (a : Vec Ideal S4096x1024 .f32) (b : Vec Ideal S4096x3584 .f32) (p : Fin 4) (i : Fin 1024) (j : Fin 896) :
    val_main_v4 (F := Ideal) a b (ix3 p i j) = dot (fun q : Fin 4096 => a (ix2 q i)) (fun q => b (ix2 q (col p j))) := by
  unfold val_main_v4 val_main_v3 val_main_v2 val_main_v1 val_main_v0
  pointwise
  rfl

variable (m : (ℓ : Loc nD τ sig) → Buf (Elt Ideal) ℓ) (c : Dev nD)

abbrev A0 : Vec Ideal S4096x1024 .f32 := m ((c : Thread nD τ).loc main_arg0)
abbrev A1 : Vec Ideal S4096x3584 .f32 := m ((c : Thread nD τ).loc main_arg1)

theorem V0 : (V m c (Pipeline.arrRef spec0 0) : Vec Ideal S4096x1024 .bf16) = A0 m c := by
  entry_read
  rfl
theorem V1 : (V m c (Pipeline.arrRef spec0 1) : Vec Ideal S4096x3584 .bf16) = A1 m c := by
  entry_read
  rfl

theorem hz : (![0, 0] : Fin 2 → Nat) = fun _ => 0 := funext fun a => by fin_cases a <;> rfl

theorem hz3 : (![0, 0, 0] : Fin 3 → Nat) = fun _ => 0 := funext fun a => by fin_cases a <;> rfl

theorem idxs : ∀ t : Fin cfg0.N, win0_0.index t = ![0, 0] ∧ win0_1.index t = ![0, t.val] ∧ win0_2.index t = ![t.val, 0, 0] :=
  (by decide +kernel : ∀ t : Fin grid0.N, _)

/-- A point's chip. -/
abbrev pb (t : Fin cfg0.N) : Fin 4 := ⟨t.val, t.isLt⟩

theorem blk0 (t : Fin cfg0.N) (r : Fin 4096) (k : Fin 1024) : (iblk m c 0 t : Vec Ideal S4096x1024 .bf16) (ix2 r k) = A0 m c (ix2 r k) := by
  blk_simp [iblk]
  rw [V0]
  refine congrArg (A0 m c) (ext2 _ _ _ ?_ ?_) <;> blk_simp [idxs t]
theorem blk1 (t : Fin cfg0.N) (r : Fin 4096) (k : Fin 896) : (iblk m c 1 t : Vec Ideal S4096x896 .bf16) (ix2 r k) = A1 m c (ix2 r (col (pb t) k)) := by
  blk_simp [iblk]
  rw [V1]
  refine congrArg (A1 m c) (ext2 _ _ _ ?_ ?_) <;> blk_simp [idxs t]
theorem emb2 (t : Fin cfg0.N) (r : Fin 1024) (k : Fin 896) : (win0_2.blk t).view.emb (ix3 (0 : Fin 1) r k) = ix3 (pb t) r k :=
  ext3 _ _ _ _ (by blk_simp [idxs t]; rfl) (by blk_simp [idxs t]) (by blk_simp [idxs t])

theorem eq2 : (dats m 0 c).arrAt 2 cfg0.N = val_main_v4 (F := Ideal) (A0 m c) (A1 m c) := by
  refine (dats m 0 c).arrAt_eq_of_covers 2 _ (by decide +kernel) fun t hf y => ?_
  blk_simp
  rw [after0_2]
  obtain ⟨z, r, k, rfl⟩ : ∃ (z : Fin 1) (r : Fin 1024) (k : Fin 896), y = ix3 z r k := ⟨y 0, y 1, y 2, ValueIdx.eq_ix3 y⟩
  obtain rfl : z = 0 := Subsingleton.elim _ _
  rw [emb2]
  unfold out0_2
  rw [View.canon_unit_zero hz3, View.ld_unit_zero (S := S4096x1024) hz, View.ld_unit_zero (S := S4096x896) hz, pay_at, ref_at]
  exact congrArg₂ dot (funext fun q => blk0 m c t q r) (funext fun q => blk1 m c t q k)

/-- The reference runs and leaves its arguments; it has no counters. -/
theorem frame_reference : Cert.quiescent_Reference14Ideal := fun m g _ =>
  (θ_run Cert.Reference14Ideal.defs _ _).mono (fun r h => ⟨fun c => (h c).2, sem_eq_zero_of_no_sems (by decide) r.2⟩)
    (Cert.Reference14Ideal.Value.run (F := Ideal) m g)

theorem algebraic : Cert.algebraic_Kernel14Ideal_Reference14Ideal := by
  intro m g m' g' hp ha
  refine ⟨_, Cert.Kernel14Ideal.Value.run_blocks (F := Ideal) m g, ?_⟩
  refine (θ_run Cert.Reference14Ideal.defs _ _).mono (fun r h c => ?_) (Cert.Reference14Ideal.Value.run (F := Ideal) m' g')
  obtain ⟨a0, a1⟩ := ha c
  obtain ⟨h0, hrest⟩ := h c
  refine ⟨h0.trans ((val_main_v4_eq _ _).trans ?_), hrest⟩
  rw [a0, a1]
  exact (eq2 m c).symm

end Cert.WInClaim

end
-- ==== Proof.WOutClaim.lean ====
/-
  The gradient of the output projection's weights: one product over all 4096 frames.
-/
module

public import proofs.«01_k».proof.Defs
public import proofs.«01_k».proof.Proof.Rows
public import proofs.«01_k».proof.Proof.Gen.Kernel15Ideal.Value
public import proofs.«01_k».proof.Proof.Gen.Reference15Ideal.Run
public import proofs.«01_k».proof.Proof.Gen.Reference15Ideal.Read
public import Idealize.ShloMosaic.Lib.Pipeline.ValueKit
public import Idealize.ShloMosaic.Lib.Pointwise
public import Idealize.ShloMosaic.Lib.ValueLayout

set_option maxRecDepth 16384
set_option backward.isDefEq.respectTransparency false

@[expose] public section

noncomputable section

namespace Cert.WOutClaim

open Cert.Kernel15Ideal Cert.Kernel15Ideal.Gen Cert.Common Cert.Reference15Ideal.Read
open Idealize.ShloMosaic Idealize.ShloMosaic.TcCoe Idealize.SL.Sem
open scoped BigOperators

instance : Cert.Kernel15Ideal.Facts := Cert.Kernel15Ideal.Gen.facts
instance : Cert.Reference15Ideal.Facts := Cert.Reference15Ideal.Gen.facts

/-- A product's entry. -/
def dot {n : Nat} (a b : Fin n → EReal) : EReal := ∑ q, a q * b q

theorem pay_at (a b : Vec Ideal S4096x1024 .bf16) (i j : Fin 1024) : k0_pay1 a b (ix2 i j) = dot (fun q : Fin 4096 => a (ix2 q i)) (fun q => b (ix2 q j)) := by
  unfold k0_pay1
  pointwise
  rfl

theorem ref_at (a b : Vec Ideal S4096x1024 .f32) (i j : Fin 1024) : val_main_v2 (F := Ideal) a b (ix2 i j) = dot (fun q : Fin 4096 => a (ix2 q i)) (fun q => b (ix2 q j)) := by
  unfold val_main_v2 val_main_v1 val_main_v0
  pointwise
  rfl

variable (m : (ℓ : Loc nD τ sig) → Buf (Elt Ideal) ℓ) (c : Dev nD)

abbrev A0 : Vec Ideal S4096x1024 .f32 := m ((c : Thread nD τ).loc main_arg0)
abbrev A1 : Vec Ideal S4096x1024 .f32 := m ((c : Thread nD τ).loc main_arg1)

theorem V0 : (V m c (Pipeline.arrRef spec0 0) : Vec Ideal S4096x1024 .bf16) = A0 m c := by
  entry_read
  rfl
theorem V1 : (V m c (Pipeline.arrRef spec0 1) : Vec Ideal S4096x1024 .bf16) = A1 m c := by
  entry_read
  rfl

theorem hz : (![0, 0] : Fin 2 → Nat) = fun _ => 0 := funext fun a => by fin_cases a <;> rfl

theorem idxs : ∀ t : Fin cfg0.N, win0_0.index t = ![0, 0] ∧ win0_1.index t = ![0, 0] ∧ win0_2.index t = ![0, 0] :=
  (by decide +kernel : ∀ t : Fin grid0.N, _)

theorem blk0 (t : Fin cfg0.N) (r : Fin 4096) (k : Fin 1024) : (iblk m c 0 t : Vec Ideal S4096x1024 .bf16) (ix2 r k) = A0 m c (ix2 r k) := by
  blk_simp [iblk]
  rw [V0]
  refine congrArg (A0 m c) (ext2 _ _ _ ?_ ?_) <;> blk_simp [idxs t]
theorem blk1 (t : Fin cfg0.N) (r : Fin 4096) (k : Fin 1024) : (iblk m c 1 t : Vec Ideal S4096x1024 .bf16) (ix2 r k) = A1 m c (ix2 r k) := by
  blk_simp [iblk]
  rw [V1]
  refine congrArg (A1 m c) (ext2 _ _ _ ?_ ?_) <;> blk_simp [idxs t]
theorem emb2 (t : Fin cfg0.N) (r k : Fin 1024) : (win0_2.blk t).view.emb (ix2 r k) = ix2 r k :=
  ext2 _ _ _ (by blk_simp [idxs t]) (by blk_simp [idxs t])

theorem eq2 : (dats m 0 c).arrAt 2 cfg0.N = val_main_v2 (F := Ideal) (A0 m c) (A1 m c) := by
  refine (dats m 0 c).arrAt_eq_of_covers 2 _ (by decide +kernel) fun t hf y => ?_
  blk_simp
  rw [after0_2]
  obtain ⟨r, k, rfl⟩ : ∃ (r k : Fin 1024), y = ix2 r k := ⟨y 0, y 1, ValueIdx.eq_ix2 y⟩
  rw [emb2]
  unfold out0_2
  rw [View.canon_unit_zero hz, View.ld_unit_zero (S := S4096x1024) hz, View.ld_unit_zero (S := S4096x1024) hz, pay_at, ref_at]
  exact congrArg₂ dot (funext fun q => blk0 m c t q r) (funext fun q => blk1 m c t q k)

/-- The reference runs and leaves its arguments; it has no counters. -/
theorem frame_reference : Cert.quiescent_Reference15Ideal := fun m g _ =>
  (θ_run Cert.Reference15Ideal.defs _ _).mono (fun r h => ⟨fun c => (h c).2, sem_eq_zero_of_no_sems (by decide) r.2⟩)
    (Cert.Reference15Ideal.Value.run (F := Ideal) m g)

theorem algebraic : Cert.algebraic_Kernel15Ideal_Reference15Ideal := by
  intro m g m' g' hp ha
  refine ⟨_, Cert.Kernel15Ideal.Value.run_blocks (F := Ideal) m g, ?_⟩
  refine (θ_run Cert.Reference15Ideal.defs _ _).mono (fun r h c => ?_) (Cert.Reference15Ideal.Value.run (F := Ideal) m' g')
  obtain ⟨a0, a1⟩ := ha c
  obtain ⟨h0, hrest⟩ := h c
  refine ⟨h0.trans ((val_main_v2_eq _ _).trans ?_), hrest⟩
  rw [a0, a1]
  exact (eq2 m c).symm

end Cert.WOutClaim

end
-- ==== Proof.OutBackClaim.lean ====
/-
  The gradient that passes back through the output projection: every point multiplies 512 rows by the transposed
  weights.
-/
module

public import proofs.«01_k».proof.Defs
public import proofs.«01_k».proof.Proof.Rows
public import proofs.«01_k».proof.Proof.Gen.Kernel16Ideal.Value
public import proofs.«01_k».proof.Proof.Gen.Reference16Ideal.Run
public import proofs.«01_k».proof.Proof.Gen.Reference16Ideal.Read
public import Idealize.ShloMosaic.Lib.Pipeline.ValueKit
public import Idealize.ShloMosaic.Lib.Pointwise
public import Idealize.ShloMosaic.Lib.ValueLayout

set_option maxRecDepth 16384
set_option backward.isDefEq.respectTransparency false

@[expose] public section

noncomputable section

namespace Cert.OutBackClaim

open Cert.Kernel16Ideal Cert.Kernel16Ideal.Gen Cert.Common Cert.Reference16Ideal.Read
open Idealize.ShloMosaic Idealize.ShloMosaic.TcCoe Idealize.SL.Sem
open scoped BigOperators

instance : Cert.Kernel16Ideal.Facts := Cert.Kernel16Ideal.Gen.facts
instance : Cert.Reference16Ideal.Facts := Cert.Reference16Ideal.Gen.facts

/-- A product's entry. -/
def dot {n : Nat} (a b : Fin n → EReal) : EReal := ∑ q, a q * b q

theorem pay_at (a : Vec Ideal S512x1024 .bf16) (w : Vec Ideal S1024x1024 .bf16) (r : Fin 512) (j : Fin 1024) :
    k0_pay1 a w (ix2 r j) = dot (fun q : Fin 1024 => a (ix2 r q)) (fun q => w (ix2 j q)) := by
  unfold k0_pay1
  pointwise
  rfl

theorem ref_at (a : Vec Ideal S4096x1024 .f32) (w : Vec Ideal S1024x1024 .f32) (r : Fin 4096) (j : Fin 1024) :
    val_main_v1 (F := Ideal) a w (ix2 r j) = dot (fun q : Fin 1024 => a (ix2 r q)) (fun q => w (ix2 j q)) := by
  unfold val_main_v1 val_main_v0
  pointwise
  rfl

variable (m : (ℓ : Loc nD τ sig) → Buf (Elt Ideal) ℓ) (c : Dev nD)

abbrev A0 : Vec Ideal S4096x1024 .f32 := m ((c : Thread nD τ).loc main_arg0)
abbrev A1 : Vec Ideal S1024x1024 .f32 := m ((c : Thread nD τ).loc main_arg1)

theorem V0 : (V m c (Pipeline.arrRef spec0 0) : Vec Ideal S4096x1024 .bf16) = A0 m c := by
  entry_read
  rfl
theorem V1 : (V m c (Pipeline.arrRef spec0 1) : Vec Ideal S1024x1024 .bf16) = A1 m c := by
  entry_read
  rfl

theorem hz : (![0, 0] : Fin 2 → Nat) = fun _ => 0 := funext fun a => by fin_cases a <;> rfl

theorem idxs : ∀ t : Fin cfg0.N, win0_0.index t = ![t.val, 0] ∧ win0_1.index t = ![0, 0] ∧ win0_2.index t = ![t.val, 0] :=
  (by decide +kernel : ∀ t : Fin grid0.N, _)

/-- A point's stretch. -/
abbrev pb (t : Fin cfg0.N) : Fin 8 := ⟨t.val, t.isLt⟩

theorem blk0 (t : Fin cfg0.N) (r : Fin 512) (k : Fin 1024) : (iblk m c 0 t : Vec Ideal S512x1024 .bf16) (ix2 r k) = A0 m c (ix2 (row8 (pb t) r) k) := by
  blk_simp [iblk]
  rw [V0]
  refine congrArg (A0 m c) (ext2 _ _ _ ?_ ?_) <;> blk_simp [idxs t]
  show t.val * 512 + r.val = 512 * t.val + r.val; omega
theorem blk1 (t : Fin cfg0.N) (r k : Fin 1024) : (iblk m c 1 t : Vec Ideal S1024x1024 .bf16) (ix2 r k) = A1 m c (ix2 r k) := by
  blk_simp [iblk]
  rw [V1]
  refine congrArg (A1 m c) (ext2 _ _ _ ?_ ?_) <;> blk_simp [idxs t]
theorem emb2 (t : Fin cfg0.N) (r : Fin 512) (k : Fin 1024) : (win0_2.blk t).view.emb (ix2 r k) = ix2 (row8 (pb t) r) k :=
  ext2 _ _ _ (by blk_simp [idxs t]; show t.val * 512 + r.val = 512 * t.val + r.val; omega) (by blk_simp [idxs t])

theorem eq2 : (dats m 0 c).arrAt 2 cfg0.N = val_main_v1 (F := Ideal) (A0 m c) (A1 m c) := by
  refine (dats m 0 c).arrAt_eq_of_covers 2 _ (by decide +kernel) fun t hf y => ?_
  blk_simp
  rw [after0_2]
  obtain ⟨r, k, rfl⟩ : ∃ (r : Fin 512) (k : Fin 1024), y = ix2 r k := ⟨y 0, y 1, ValueIdx.eq_ix2 y⟩
  rw [emb2]
  unfold out0_2
  rw [View.canon_unit_zero hz, View.ld_unit_zero (S := S512x1024) hz, View.ld_unit_zero (S := S1024x1024) hz, pay_at, ref_at]
  exact congrArg₂ dot (funext fun q => blk0 m c t r q) (funext fun q => blk1 m c t k q)

/-- The reference runs and leaves its arguments; it has no counters. -/
theorem frame_reference : Cert.quiescent_Reference16Ideal := fun m g _ =>
  (θ_run Cert.Reference16Ideal.defs _ _).mono (fun r h => ⟨fun c => (h c).2, sem_eq_zero_of_no_sems (by decide) r.2⟩)
    (Cert.Reference16Ideal.Value.run (F := Ideal) m g)

theorem algebraic : Cert.algebraic_Kernel16Ideal_Reference16Ideal := by
  intro m g m' g' hp ha
  refine ⟨_, Cert.Kernel16Ideal.Value.run_blocks (F := Ideal) m g, ?_⟩
  refine (θ_run Cert.Reference16Ideal.defs _ _).mono (fun r h c => ?_) (Cert.Reference16Ideal.Value.run (F := Ideal) m' g')
  obtain ⟨a0, a1⟩ := ha c
  obtain ⟨h0, hrest⟩ := h c
  refine ⟨h0.trans ((val_main_v1_eq _ _).trans ?_), hrest⟩
  rw [a0, a1]
  exact (eq2 m c).symm

end Cert.OutBackClaim

end
-- ==== Proof.SmallAdamClaim.lean ====
/-
  The optimiser's step for the small parameters: the eight parts summed, the two moments and the update.
-/
module

public import proofs.«01_k».proof.Defs
public import proofs.«01_k».proof.Proof.Rows
public import proofs.«01_k».proof.Proof.Gen.Kernel17Ideal.Value
public import proofs.«01_k».proof.Proof.Gen.Reference17Ideal.Run
public import proofs.«01_k».proof.Proof.Gen.Reference17Ideal.Read
public import Idealize.ShloMosaic.Lib.Pipeline.ValueKit
public import Idealize.ShloMosaic.Lib.Pointwise
public import Idealize.ShloMosaic.Lib.ValueLayout

set_option maxRecDepth 16384
set_option backward.isDefEq.respectTransparency false

@[expose] public section

noncomputable section

namespace Cert.SmallAdamClaim

open Cert.Kernel17Ideal Cert.Kernel17Ideal.Gen Cert.Common Cert.Reference17Ideal.Read
open Idealize.ShloMosaic Idealize.ShloMosaic.TcCoe Idealize.SL.Sem
open scoped BigOperators

/-- The eight parts added one after another are their sum. -/
theorem sum_eq (x0 x2 x3 : Vec Ideal S8x1024 .f32) (x1 : Vec Ideal S8x8x1024 .f32) : k0_pay6 x0 x1 x2 x3 = val_main_v0 (F := Ideal) x1 := by
  funext y
  obtain ⟨r, k, rfl⟩ : ∃ (r : Fin 8) (k : Fin 1024), y = ix2 r k := ⟨y 0, y 1, ValueIdx.eq_ix2 y⟩
  have hr : val_main_v0 (F := Ideal) x1 (ix2 r k) = ∑ p : Fin 8, x1 (ix3 p r k) := by
    unfold val_main_v0 val_main_cst
    pointwise
  rw [hr, Fin.sum_univ_eight]
  unfold k0_pay6 k0_pay4
  pointwise

section
variable (x0 x2 x3 : Vec Ideal S8x1024 .f32) (x1 : Vec Ideal S8x8x1024 .f32)

theorem first_eq : Cert.Kernel17Ideal.Value.G6 x0 x1 x2 x3 = val_main_v5 (F := Ideal) x1 x2 := by
  unfold Cert.Kernel17Ideal.Value.G6 k0_pay1 k0_pay7 k0_pay5
  rw [sum_eq, View.ld_unit_zero (S := S8x1024) Cert.Kernel17Ideal.Value.hz0]
  rfl

theorem second_eq : Cert.Kernel17Ideal.Value.G7 x0 x1 x2 x3 = val_main_v11 (F := Ideal) x1 x3 := by
  unfold Cert.Kernel17Ideal.Value.G7 k0_pay2
  rw [sum_eq]
  rfl

theorem update_eq : Cert.Kernel17Ideal.Value.G5 x0 x1 x2 x3 = val_main_v24 (F := Ideal) x0 x1 x2 x3 := by
  have h1 := first_eq x0 x2 x3 x1
  have h2 := second_eq x0 x2 x3 x1
  unfold Cert.Kernel17Ideal.Value.G6 at h1
  unfold Cert.Kernel17Ideal.Value.G7 at h2
  unfold Cert.Kernel17Ideal.Value.G5 k0_pay3
  rw [h1, h2]
  rfl
end

/-- The reference runs and leaves its arguments; it has no counters. -/
theorem frame_reference : Cert.quiescent_Reference17Ideal := fun m g _ =>
  (θ_run Cert.Reference17Ideal.defs _ _).mono (fun r h => ⟨fun c => (h c).2.2.2.2, sem_eq_zero_of_no_sems (by decide) r.2⟩)
    (Cert.Reference17Ideal.Value.run (F := Ideal) m g)

theorem algebraic : Cert.algebraic_Kernel17Ideal_Reference17Ideal := by
  intro m g m' g' hp ha
  refine ⟨_, _, _, _, Cert.Kernel17Ideal.Value.run (F := Ideal) m g, ?_⟩
  refine (θ_run Cert.Reference17Ideal.defs _ _).mono (fun r h c => ?_) (Cert.Reference17Ideal.Value.run (F := Ideal) m' g')
  obtain ⟨a0, a1, a2, a3⟩ := ha c
  obtain ⟨h0, h1, h2, h3, hrest⟩ := h c
  refine ⟨h0.trans ((val_main_v0_eq _).trans ?_), h1.trans ((val_main_v24_eq _ _ _ _).trans ?_), h2.trans ((val_main_v5_eq _ _).trans ?_), h3.trans ((val_main_v11_eq _ _).trans ?_), hrest⟩
  · rw [a1]; exact (sum_eq _ _ _ _).symm
  · rw [a0, a1, a2, a3]; exact (update_eq _ _ _ _).symm
  · rw [a1, a2]; exact (first_eq _ _ _ _).symm
  · rw [a1, a3]; exact (second_eq _ _ _ _).symm

end Cert.SmallAdamClaim

end
-- ==== Proof.AdamClaim.lean ====
/-
  The optimiser's step for the weights that project the frames in: the half of the gradient each core holds put in place,
  the two moments and the update.
-/
module

public import proofs.«01_k».proof.Defs
public import proofs.«01_k».proof.Proof.Rows
public import proofs.«01_k».proof.Proof.Gen.Kernel18Ideal.Frame
public import proofs.«01_k».proof.Proof.Gen.Reference18Ideal.Run
public import proofs.«01_k».proof.Proof.Gen.Reference18Ideal.Read
public import Idealize.ShloMosaic.Lib.Pipeline.ValueKit
public import Idealize.ShloMosaic.Lib.Pointwise
public import Idealize.ShloMosaic.Lib.ValueLayout

set_option maxRecDepth 16384
set_option backward.isDefEq.respectTransparency false

@[expose] public section

noncomputable section

namespace Cert.AdamClaim

open Cert.Kernel18Ideal Cert.Kernel18Ideal.Gen Cert.Common Cert.Reference18Ideal.Read
open Idealize.ShloMosaic Idealize.ShloMosaic.TcCoe Idealize.SL.Sem
open scoped BigOperators

instance : Cert.Kernel18Ideal.Facts := Cert.Kernel18Ideal.Gen.facts
instance : Cert.Reference18Ideal.Facts := Cert.Reference18Ideal.Gen.facts

/-! ## One entry's step -/

abbrev lit (b : BitVec 32) : EReal := FloatOps.ofBits (F := Ideal) .f32 b

/-- The gradient's entry in the half numbered `h`: the core's own part where the core has that number, else the other's. -/
def grad (h : BitVec 32) (core : BitVec 32) (mine theirs : EReal) : EReal := if core = h then mine else theirs

/-- The first moment, the second, and the update. -/
def first (g p : EReal) : EReal := lit 0x3F666666#32 * p + lit 0x3DCCCCCD#32 * g
def second (g q : EReal) : EReal := lit 0x3F7FBE77#32 * q + lit 0x3A83126F#32 * (g * g)
def update (w a b : EReal) : EReal :=
  lit 0xBA83126F#32 * (Ideal.div (Ideal.div a (lit 0x3F26BD02#32)) (Ideal.sqrt (Ideal.div b (lit 0x3C231ACC#32)) + lit 0x322BCC77#32) + lit 0x3C23D70A#32 * w)

/-! ## What the kernel stores -/

section Pays
variable (i : grid0.Coords) (w0 : BitVec 32) (x1 x2 : Vec Ideal S512x896 .f32) (x0 x3 x4 : Vec Ideal S1x512x896 .f32) (r : Fin 512) (k : Fin 896)

theorem pay5_at : k0_pay5 (F := Ideal) i w0 x1 x2 (ix2 r k) = grad (BitVec.ofNat 32 (i 0).val) w0 (x1 (ix2 r k)) (x2 (ix2 r k)) := by
  unfold k0_pay5 grad
  by_cases h : w0 = BitVec.ofNat 32 (i 0).val
  · simp [Scalar.select, Scalar.cmpi, IntOp.cmpi, h]
  · simp [Scalar.select, Scalar.cmpi, IntOp.cmpi, beq_false_of_ne (Ne.symm h)]
    intro e
    exact absurd e h

theorem pay1_at : k0_pay1 (F := Ideal) x1 (ix3 0 r k) = x1 (ix2 r k) := by
  unfold k0_pay1
  pointwise
theorem pay2_at : k0_pay2 (F := Ideal) x1 (ix3 0 r k) = x1 (ix2 r k) := pay1_at x1 r k
theorem pay3_at : k0_pay3 (F := Ideal) x1 (ix3 0 r k) = x1 (ix2 r k) := pay1_at x1 r k
theorem pay4_at : k0_pay4 (F := Ideal) x1 (ix3 0 r k) = x1 (ix2 r k) := pay1_at x1 r k

theorem pay6_at : k0_pay6 (F := Ideal) i w0 x1 x2 x3 (ix2 r k) = first (k0_pay5 (F := Ideal) i w0 x1 x2 (ix2 r k)) (x3 (ix3 0 r k)) := by
  unfold k0_pay6
  generalize k0_pay5 (F := Ideal) i w0 x1 x2 = g
  pointwise
  rfl
theorem pay7_at : k0_pay7 (F := Ideal) i w0 x1 x2 x4 (ix2 r k) = second (k0_pay5 (F := Ideal) i w0 x1 x2 (ix2 r k)) (x4 (ix3 0 r k)) := by
  unfold k0_pay7
  generalize k0_pay5 (F := Ideal) i w0 x1 x2 = g
  pointwise
  rfl
theorem pay8_at : k0_pay8 (F := Ideal) i w0 x1 x2 x0 x3 x4 (ix2 r k)
    = update (x0 (ix3 0 r k)) (k0_pay6 (F := Ideal) i w0 x1 x2 x3 (ix2 r k)) (k0_pay7 (F := Ideal) i w0 x1 x2 x4 (ix2 r k)) := by
  unfold k0_pay8
  generalize k0_pay6 (F := Ideal) i w0 x1 x2 x3 = a
  generalize k0_pay7 (F := Ideal) i w0 x1 x2 x4 = b
  pointwise
  rfl
end Pays

/-! ## The reference -/

/-- A row of the half `h`. -/
abbrev row2 (h : Fin 2) (r : Fin 512) : Fin 1024 := ⟨h.val * 512 + r.val, by omega⟩

section Refs
variable (x0 x3 x4 : Vec Ideal S1x1024x896 .f32) (x1 x2 : Vec Ideal S512x896 .f32) (x5 : Vec Ideal S1 .i32) (h : Fin 2) (r : Fin 512) (R : Fin 1024) (k : Fin 896)

theorem half0 : val_main_v2 (F := Ideal) x1 x2 x5 (ix2 r k) = grad 0#32 (x5 (ix1 0)) (x1 (ix2 r k)) (x2 (ix2 r k)) := by
  unfold val_main_v2 val_main_v1 val_main_v0 val_main_c grad
  by_cases e : x5 (ix1 0) = 0#32
  · pointwise
    simp [Scalar.select, Scalar.cmpi, IntOp.cmpi, e]
  · pointwise
    simp [Scalar.select, Scalar.cmpi, IntOp.cmpi, e, beq_false_of_ne e]
theorem half1 : val_main_v5 (F := Ideal) x1 x2 x5 (ix2 r k) = grad 1#32 (x5 (ix1 0)) (x1 (ix2 r k)) (x2 (ix2 r k)) := by
  unfold val_main_v5 val_main_v4 val_main_v3 val_main_c_0 grad
  by_cases e : x5 (ix1 0) = 1#32
  · pointwise
    simp [Scalar.select, Scalar.cmpi, IntOp.cmpi, e]
  · pointwise
    simp [Scalar.select, Scalar.cmpi, IntOp.cmpi, e, beq_false_of_ne e]

theorem g_at : val_main_v7 (F := Ideal) x1 x2 x5 (ix3 0 (row2 h r) k) = grad (BitVec.ofNat 32 h.val) (x5 (ix1 0)) (x1 (ix2 r k)) (x2 (ix2 r k)) := by
  rw [val_main_v7_apply, show idx_main_v7 (ix3 0 (row2 h r) k) = ix2 (row2 h r) k from ext2 _ _ _ rfl rfl]
  unfold val_main_v6
  fin_cases h
  · rw [← half0]
    generalize val_main_v2 (F := Ideal) x1 x2 x5 = a
    generalize val_main_v5 (F := Ideal) x1 x2 x5 = b
    pointwise
  · rw [← half1]
    generalize val_main_v2 (F := Ideal) x1 x2 x5 = a
    generalize val_main_v5 (F := Ideal) x1 x2 x5 = b
    pointwise

theorem first_at : val_main_v12 (F := Ideal) x1 x2 x3 x5 (ix3 0 R k) = first (val_main_v7 (F := Ideal) x1 x2 x5 (ix3 0 R k)) (x3 (ix3 0 R k)) := by
  unfold val_main_v12 val_main_v11
  generalize val_main_v7 (F := Ideal) x1 x2 x5 = g
  rfl
theorem second_at : val_main_v18 (F := Ideal) x1 x2 x4 x5 (ix3 0 R k) = second (val_main_v7 (F := Ideal) x1 x2 x5 (ix3 0 R k)) (x4 (ix3 0 R k)) := by
  unfold val_main_v18 val_main_v17 val_main_v15
  generalize val_main_v7 (F := Ideal) x1 x2 x5 = g
  rfl
theorem update_at : val_main_v31 (F := Ideal) x0 x1 x2 x3 x4 x5 (ix3 0 R k)
    = update (x0 (ix3 0 R k)) (val_main_v12 (F := Ideal) x1 x2 x3 x5 (ix3 0 R k)) (val_main_v18 (F := Ideal) x1 x2 x4 x5 (ix3 0 R k)) := by
  unfold val_main_v31 val_main_v29 val_main_v26 val_main_v25 val_main_v23 val_main_v22 val_main_v20
  generalize val_main_v12 (F := Ideal) x1 x2 x3 x5 = a
  generalize val_main_v18 (F := Ideal) x1 x2 x4 x5 = b
  rfl
end Refs

/-! ## The blocks -/

variable (m : (ℓ : Loc nD τ sig) → Buf (Elt Ideal) ℓ) (c : Dev nD)

abbrev A0 : Vec Ideal S1x1024x896 .f32 := m ((c : Thread nD τ).loc main_arg0)
abbrev A1 : Vec Ideal S512x896 .f32 := m ((c : Thread nD τ).loc main_arg1)
abbrev A2 : Vec Ideal S512x896 .f32 := m ((c : Thread nD τ).loc main_arg2)
abbrev A3 : Vec Ideal S1x1024x896 .f32 := m ((c : Thread nD τ).loc main_arg3)
abbrev A4 : Vec Ideal S1x1024x896 .f32 := m ((c : Thread nD τ).loc main_arg4)
abbrev A5 : Vec Ideal S1 .i32 := m ((c : Thread nD τ).loc main_arg5)

/-- No block's place is read from the core's number. -/
abbrev ok : Ok m := trivial

theorem tr : ∀ t : Fin grid0.N, cc0_transform_0 (grid0.coords t) = ![0, t.val, 0] ∧ cc0_transform_1 (grid0.coords t) = ![0, 0]
    ∧ (grid0.coords t 0).val = t.val := by decide +kernel

theorem idxs (t : Fin (cfgM m (ok m)).N) : ((cfgM m (ok m)).win 0).index t = ![0, t.val, 0] ∧ ((cfgM m (ok m)).win 1).index t = ![0, 0]
    ∧ ((cfgM m (ok m)).win 2).index t = ![0, 0] ∧ ((cfgM m (ok m)).win 3).index t = ![0, t.val, 0] ∧ ((cfgM m (ok m)).win 4).index t = ![0, t.val, 0]
    ∧ ((cfgM m (ok m)).win 5).index t = ![0, t.val, 0] ∧ ((cfgM m (ok m)).win 6).index t = ![0, t.val, 0]
    ∧ ((cfgM m (ok m)).win 7).index t = ![0, t.val, 0] ∧ ((cfgM m (ok m)).win 8).index t = ![0, t.val, 0] :=
  ⟨(tr t).1, (tr t).2.1, (tr t).2.1, (tr t).1, (tr t).1, (tr t).1, (tr t).1, (tr t).1, (tr t).1⟩

/-- A point's half. -/
abbrev ph (t : Fin (cfgM m (ok m)).N) : Fin 2 := ⟨t.val, lt_of_lt_of_eq t.isLt N_0⟩

section Blocks
variable (t : Fin (cfgM m (ok m)).N) (r : Fin 512) (k : Fin 896)

theorem blk0 : (iblk m (ok m) c 0 t : Vec Ideal S1x512x896 .f32) (ix3 0 r k) = A0 m c (ix3 0 (row2 (ph m t) r) k) := by
  blk_simp [iblk]
  refine congrArg (A0 m c) (ext3 _ _ _ _ ?_ ?_ ?_) <;> blk_simp [idxs m t]
theorem blk1 : (iblk m (ok m) c 1 t : Vec Ideal S512x896 .f32) (ix2 r k) = A1 m c (ix2 r k) := by
  blk_simp [iblk]
  refine congrArg (A1 m c) (ext2 _ _ _ ?_ ?_) <;> blk_simp [idxs m t]
theorem blk2 : (iblk m (ok m) c 2 t : Vec Ideal S512x896 .f32) (ix2 r k) = A2 m c (ix2 r k) := by
  blk_simp [iblk]
  refine congrArg (A2 m c) (ext2 _ _ _ ?_ ?_) <;> blk_simp [idxs m t]
theorem blk3 : (iblk m (ok m) c 3 t : Vec Ideal S1x512x896 .f32) (ix3 0 r k) = A3 m c (ix3 0 (row2 (ph m t) r) k) := by
  blk_simp [iblk]
  refine congrArg (A3 m c) (ext3 _ _ _ _ ?_ ?_ ?_) <;> blk_simp [idxs m t]
theorem blk4 : (iblk m (ok m) c 4 t : Vec Ideal S1x512x896 .f32) (ix3 0 r k) = A4 m c (ix3 0 (row2 (ph m t) r) k) := by
  blk_simp [iblk]
  refine congrArg (A4 m c) (ext3 _ _ _ _ ?_ ?_ ?_) <;> blk_simp [idxs m t]
theorem emb5 : (((cfgM m (ok m)).win 5).blk t).view.emb (ix3 0 r k) = ix3 0 (row2 (ph m t) r) k :=
  ext3 _ _ _ _ (by blk_simp [idxs m t]) (by blk_simp [idxs m t]) (by blk_simp [idxs m t])
theorem emb6 : (((cfgM m (ok m)).win 6).blk t).view.emb (ix3 0 r k) = ix3 0 (row2 (ph m t) r) k :=
  ext3 _ _ _ _ (by blk_simp [idxs m t]) (by blk_simp [idxs m t]) (by blk_simp [idxs m t])
theorem emb7 : (((cfgM m (ok m)).win 7).blk t).view.emb (ix3 0 r k) = ix3 0 (row2 (ph m t) r) k :=
  ext3 _ _ _ _ (by blk_simp [idxs m t]) (by blk_simp [idxs m t]) (by blk_simp [idxs m t])
theorem emb8 : (((cfgM m (ok m)).win 8).blk t).view.emb (ix3 0 r k) = ix3 0 (row2 (ph m t) r) k :=
  ext3 _ _ _ _ (by blk_simp [idxs m t]) (by blk_simp [idxs m t]) (by blk_simp [idxs m t])
end Blocks

theorem hz : (![0, 0] : Fin 2 → Nat) = fun _ => 0 := funext fun a => by fin_cases a <;> rfl
theorem hz3 : (![0, 0, 0] : Fin 3 → Nat) = fun _ => 0 := funext fun a => by fin_cases a <;> rfl

section Point
variable (i : grid0.Coords) (arg3 : Memref sig .tc .vmem S1x512x896 .f32) (harg3 : arg3.IsWhole) (arg4 : Memref sig .tc .vmem S512x896 .f32) (harg4 : arg4.IsWhole) (arg5 : Memref sig .tc .vmem S512x896 .f32) (harg5 : arg5.IsWhole) (arg6 : Memref sig .tc .vmem S1x512x896 .f32) (harg6 : arg6.IsWhole) (arg7 : Memref sig .tc .vmem S1x512x896 .f32) (harg7 : arg7.IsWhole) (arg8 : Memref sig .tc .vmem S1x512x896 .f32) (harg8 : arg8.IsWhole) (arg9 : Memref sig .tc .vmem S1x512x896 .f32) (harg9 : arg9.IsWhole) (arg10 : Memref sig .tc .vmem S1x512x896 .f32) (harg10 : arg10.IsWhole) (arg11 : Memref sig .tc .vmem S1x512x896 .f32) (harg11 : arg11.IsWhole)
variable (x0 x3 x4 : Vec Ideal S1x512x896 .f32) (x1 x2 : Vec Ideal S512x896 .f32) (x5 : Vec Ideal S1 .i32)

/-- A one-word buffer has one entry. -/
theorem only (x : Vec Ideal S1 .i32) (y : S1.Idx) : x y = x (ix1 0) :=
  congrArg x (ext1 _ _ (by have : (y 0).val < 1 := (y 0).isLt; show (y 0).val = 0; omega))

theorem st5 : out0_A_5 c i arg3 harg3 arg4 harg4 arg5 harg5 arg6 harg6 arg7 harg7 arg8 harg8 arg9 harg9 arg10 harg10 arg11 harg11 x0 x1 x2 x3 x4 x5
    = k0_pay1 (k0_pay5 (F := Ideal) i (x5 (ix1 0)) x1 x2) := by
  unfold out0_A_5
  simp only [View.read_writes_junk_eq_canon]
  unfold kernelRun0_A
  dsimp only
  sl_unfold_words
  rw [View.canon_unit_zero hz3]
  simp only [View.readAt_eq_ld, harg4.read_unread, harg5.read_unread, View.ld_unit_zero (S := S512x896) hz]
  exact congrArg (fun w => k0_pay1 (k0_pay5 (F := Ideal) i w x1 x2)) (only x5 _)
theorem st6 : out0_A_6 c i arg3 harg3 arg4 harg4 arg5 harg5 arg6 harg6 arg7 harg7 arg8 harg8 arg9 harg9 arg10 harg10 arg11 harg11 x0 x1 x2 x3 x4 x5
    = k0_pay2 (k0_pay8 (F := Ideal) i (x5 (ix1 0)) x1 x2 x0 x3 x4) := by
  unfold out0_A_6
  simp only [View.read_writes_junk_eq_canon]
  unfold kernelRun0_A
  dsimp only
  sl_unfold_words
  rw [View.canon_unit_zero hz3]
  simp only [View.readAt_eq_ld, harg3.read_unread, harg4.read_unread, harg5.read_unread, harg6.read_unread, harg7.read_unread, View.ld_unit_zero (S := S512x896) hz, View.ld_unit_zero (S := S1x512x896) hz3]
  exact congrArg (fun w => k0_pay2 (k0_pay8 (F := Ideal) i w x1 x2 x0 x3 x4)) (only x5 _)
theorem st7 : out0_A_7 c i arg3 harg3 arg4 harg4 arg5 harg5 arg6 harg6 arg7 harg7 arg8 harg8 arg9 harg9 arg10 harg10 arg11 harg11 x0 x1 x2 x3 x4 x5
    = k0_pay3 (k0_pay6 (F := Ideal) i (x5 (ix1 0)) x1 x2 x3) := by
  unfold out0_A_7
  simp only [View.read_writes_junk_eq_canon]
  unfold kernelRun0_A
  dsimp only
  sl_unfold_words
  rw [View.canon_unit_zero hz3]
  simp only [View.readAt_eq_ld, harg4.read_unread, harg5.read_unread, harg6.read_unread, View.ld_unit_zero (S := S512x896) hz, View.ld_unit_zero (S := S1x512x896) hz3]
  exact congrArg (fun w => k0_pay3 (k0_pay6 (F := Ideal) i w x1 x2 x3)) (only x5 _)
theorem st8 : out0_A_8 c i arg3 harg3 arg4 harg4 arg5 harg5 arg6 harg6 arg7 harg7 arg8 harg8 arg9 harg9 arg10 harg10 arg11 harg11 x0 x1 x2 x3 x4 x5
    = k0_pay4 (k0_pay7 (F := Ideal) i (x5 (ix1 0)) x1 x2 x4) := by
  unfold out0_A_8
  simp only [View.read_writes_junk_eq_canon]
  unfold kernelRun0_A
  dsimp only
  sl_unfold_words
  rw [View.canon_unit_zero hz3]
  simp only [View.readAt_eq_ld, harg4.read_unread, harg5.read_unread, harg7.read_unread, View.ld_unit_zero (S := S512x896) hz, View.ld_unit_zero (S := S1x512x896) hz3]
  exact congrArg (fun w => k0_pay4 (k0_pay7 (F := Ideal) i w x1 x2 x4)) (only x5 _)
end Point

/-! ## The four results -/

/-- The covers are the same for every launch memory. -/
theorem cov5 : ((cfgM m (ok m)).win 5).Covers := of_decide_eq_true (by sl_kernel_rfl)

theorem word (t : Fin (cfgM m (ok m)).N) : BitVec.ofNat 32 (grid0.coords t 0).val = BitVec.ofNat 32 (ph m t).val := by rw [(tr t).2.2]

theorem core_eq : (tbl m 0 : Vec Ideal S1 .i32) (ix1 0) = A5 m c (ix1 0) := by
  obtain rfl : c = 0 := Subsingleton.elim _ _
  rfl

theorem grad_pt (t : Fin (cfgM m (ok m)).N) (r : Fin 512) (k : Fin 896) :
    k0_pay5 (F := Ideal) (grid0.coords t) ((tbl m 0 : Vec Ideal S1 .i32) (ix1 0)) (iblk m (ok m) c 1 t) (iblk m (ok m) c 2 t) (ix2 r k)
      = val_main_v7 (F := Ideal) (A1 m c) (A2 m c) (A5 m c) (ix3 0 (row2 (ph m t) r) k) := by
  rw [pay5_at, g_at, word, core_eq m c, blk1, blk2]

theorem first_pt (t : Fin (cfgM m (ok m)).N) (r : Fin 512) (k : Fin 896) :
    k0_pay6 (F := Ideal) (grid0.coords t) ((tbl m 0 : Vec Ideal S1 .i32) (ix1 0)) (iblk m (ok m) c 1 t) (iblk m (ok m) c 2 t) (iblk m (ok m) c 3 t) (ix2 r k)
      = val_main_v12 (F := Ideal) (A1 m c) (A2 m c) (A3 m c) (A5 m c) (ix3 0 (row2 (ph m t) r) k) := by
  rw [pay6_at, first_at, grad_pt, blk3]

theorem second_pt (t : Fin (cfgM m (ok m)).N) (r : Fin 512) (k : Fin 896) :
    k0_pay7 (F := Ideal) (grid0.coords t) ((tbl m 0 : Vec Ideal S1 .i32) (ix1 0)) (iblk m (ok m) c 1 t) (iblk m (ok m) c 2 t) (iblk m (ok m) c 4 t) (ix2 r k)
      = val_main_v18 (F := Ideal) (A1 m c) (A2 m c) (A4 m c) (A5 m c) (ix3 0 (row2 (ph m t) r) k) := by
  rw [pay7_at, second_at, grad_pt, blk4]

theorem split (y : S1x512x896.Idx) : ∃ (r : Fin 512) (k : Fin 896), y = ix3 0 r k :=
  ⟨y 1, y 2, ext3 _ _ _ _ (by have : (y 0).val < 1 := (y 0).isLt; show (y 0).val = 0; omega) rfl rfl⟩

theorem eq5 : (dats m (ok m) 0 c).arrAt 5 (cfgM m (ok m)).N = val_main_v7 (F := Ideal) (A1 m c) (A2 m c) (A5 m c) := by
  refine (dats m (ok m) 0 c).arrAt_eq_of_covers 5 _ (cov5 m) fun t hf y => ?_
  blk_simp
  rw [after0_5]
  obtain ⟨r, k, rfl⟩ := split y
  unfold outsAt0
  dsimp only
  rw [st5, emb5, pay1_at, grad_pt]
theorem eq6 : (dats m (ok m) 0 c).arrAt 6 (cfgM m (ok m)).N = val_main_v31 (F := Ideal) (A0 m c) (A1 m c) (A2 m c) (A3 m c) (A4 m c) (A5 m c) := by
  refine (dats m (ok m) 0 c).arrAt_eq_of_covers 6 _ (cov5 m) fun t hf y => ?_
  blk_simp
  rw [after0_6]
  obtain ⟨r, k, rfl⟩ := split y
  unfold outsAt0
  dsimp only
  rw [st6, emb6, pay2_at, pay8_at, first_pt, second_pt, update_at, blk0]
theorem eq7 : (dats m (ok m) 0 c).arrAt 7 (cfgM m (ok m)).N = val_main_v12 (F := Ideal) (A1 m c) (A2 m c) (A3 m c) (A5 m c) := by
  refine (dats m (ok m) 0 c).arrAt_eq_of_covers 7 _ (cov5 m) fun t hf y => ?_
  blk_simp
  rw [after0_7]
  obtain ⟨r, k, rfl⟩ := split y
  unfold outsAt0
  dsimp only
  rw [st7, emb7, pay3_at, first_pt]
theorem eq8 : (dats m (ok m) 0 c).arrAt 8 (cfgM m (ok m)).N = val_main_v18 (F := Ideal) (A1 m c) (A2 m c) (A4 m c) (A5 m c) := by
  refine (dats m (ok m) 0 c).arrAt_eq_of_covers 8 _ (cov5 m) fun t hf y => ?_
  blk_simp
  rw [after0_8]
  obtain ⟨r, k, rfl⟩ := split y
  unfold outsAt0
  dsimp only
  rw [st8, emb8, pay4_at, second_pt]

/-- The reference runs and leaves its arguments; it has no counters. -/
theorem frame_reference : Cert.quiescent_Reference18Ideal := fun m g _ =>
  (θ_run Cert.Reference18Ideal.defs _ _).mono (fun r h => ⟨fun c => (h c).2.2.2.2, sem_eq_zero_of_no_sems (by decide) r.2⟩)
    (Cert.Reference18Ideal.Value.run (F := Ideal) m g)

theorem algebraic : Cert.algebraic_Kernel18Ideal_Reference18Ideal := by
  intro m g m' g' hp ha
  refine ⟨fun c => val_main_v7 (F := Ideal) (A1 m c) (A2 m c) (A5 m c),
    fun c => val_main_v31 (F := Ideal) (A0 m c) (A1 m c) (A2 m c) (A3 m c) (A4 m c) (A5 m c),
    fun c => val_main_v12 (F := Ideal) (A1 m c) (A2 m c) (A3 m c) (A5 m c),
    fun c => val_main_v18 (F := Ideal) (A1 m c) (A2 m c) (A4 m c) (A5 m c), ?_, ?_⟩
  · refine (θ_run defs _ _).mono (fun r h c => ?_) (run_main (F := Ideal) m g (ok m))
    refine ⟨((h c).1 5).trans (eq5 m c), ((h c).1 6).trans (eq6 m c), ((h c).1 7).trans (eq7 m c), ((h c).1 8).trans (eq8 m c), ?_⟩
    refine ⟨?_, ?_, ?_, ?_, ?_, ((h c).2 main_arg5 (by decide : main_arg5 ∈ Pipeline.restRefs sig spec0)).trans (V_main_arg5 m c)⟩
    · exact ((h c).1 0).trans (((dats m (ok m) 0 c).arrAt_in 0 rfl _).trans ((A_eq m (ok m) c 0).trans (V_main_arg0 m c)))
    · exact ((h c).1 1).trans (((dats m (ok m) 0 c).arrAt_in 1 rfl _).trans ((A_eq m (ok m) c 1).trans (V_main_arg1 m c)))
    · exact ((h c).1 2).trans (((dats m (ok m) 0 c).arrAt_in 2 rfl _).trans ((A_eq m (ok m) c 2).trans (V_main_arg2 m c)))
    · exact ((h c).1 3).trans (((dats m (ok m) 0 c).arrAt_in 3 rfl _).trans ((A_eq m (ok m) c 3).trans (V_main_arg3 m c)))
    · exact ((h c).1 4).trans (((dats m (ok m) 0 c).arrAt_in 4 rfl _).trans ((A_eq m (ok m) c 4).trans (V_main_arg4 m c)))
  · refine (θ_run Cert.Reference18Ideal.defs _ _).mono (fun r h c => ?_) (Cert.Reference18Ideal.Value.run (F := Ideal) m' g')
    obtain ⟨a0, a1, a2, a3, a4, a5⟩ := ha c
    obtain ⟨h0, h1, h2, h3, hrest⟩ := h c
    refine ⟨h0.trans ((val_main_v7_eq _ _ _).trans ?_), h1.trans ((val_main_v31_eq _ _ _ _ _ _).trans ?_), h2.trans ((val_main_v12_eq _ _ _ _).trans ?_), h3.trans ((val_main_v18_eq _ _ _ _).trans ?_), hrest⟩
    · rw [a1, a2, a5]
    · rw [a0, a1, a2, a3, a4, a5]
    · rw [a1, a2, a3, a5]
    · rw [a1, a2, a4, a5]

end Cert.AdamClaim

end
-- ==== Proof.TableClaim.lean ====
/-
  The bias of each pair of positions: the column of the bias's table at their distance, picked by a product with a one-hot matrix.
-/
module

public import proofs.«01_k».proof.Defs
public import proofs.«01_k».proof.Proof.Rows
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Pre_finite19
public import Idealize.ShloMosaic.Lib.Pipeline.ValueKit
public import Idealize.ShloMosaic.Lib.Pointwise
public import Idealize.ShloMosaic.Lib.ValueLayout

set_option maxRecDepth 16384
set_option backward.isDefEq.respectTransparency false

@[expose] public section

noncomputable section

namespace Cert.TableClaim

open Cert.Kernel19Ideal Cert.Kernel19Ideal.Gen Cert.Common Cert.Reference19Ideal.Read
open Idealize.ShloMosaic Idealize.ShloMosaic.TcCoe Idealize.SL.Sem
open scoped BigOperators

instance : Cert.Kernel19Ideal.Facts := Cert.Kernel19Ideal.Gen.facts
instance : Cert.Reference19Ideal.Facts := Cert.Reference19Ideal.Gen.facts
instance : Cert.Pre_finite19.Facts := Cert.Pre_finite19.Gen.facts

/-! ## The column of a pair of positions -/

/-- The column's number, as the words compute it, and as a number. -/
def word (k : Fin 64) (s : Fin 576) : BitVec 32 :=
  IntOp.addi (IntOp.minsi 128#32 (IntOp.maxsi 4294967168#32 (IntOp.subi (IntOp.addi (BitVec.ofNat 32 k.val) 512#32) (BitVec.ofNat 32 s.val)))) 128#32

abbrev col (k : Fin 64) (s : Fin 576) : Fin 257 := ⟨min (k.val + 640 - s.val) 256, by omega⟩

/-- The word depends on the difference of the two positions only. -/
theorem word_sub (d : Fin 640) : IntOp.addi (IntOp.minsi 128#32 (IntOp.maxsi 4294967168#32 (BitVec.ofNat 32 (d.val + 1) - 64#32))) 128#32
    = BitVec.ofNat 32 (min (d.val + 65) 256) := by
  revert d
  decide +kernel

theorem word_eq (k : Fin 64) (s : Fin 576) : word k s = BitVec.ofNat 32 (col k s).val := by
  have h := word_sub ⟨k.val + 575 - s.val, by omega⟩
  unfold word
  have e : IntOp.subi (IntOp.addi (BitVec.ofNat 32 k.val) 512#32) (BitVec.ofNat 32 s.val) = BitVec.ofNat 32 (k.val + 575 - s.val + 1) - 64#32 := by
    unfold IntOp.subi IntOp.addi
    apply BitVec.eq_of_toNat_eq
    simp only [BitVec.toNat_sub, BitVec.toNat_add, BitVec.toNat_ofNat]
    omega
  rw [e, h]
  congr 1
  show min (k.val + 575 - s.val + 65) 256 = min (k.val + 640 - s.val) 256
  omega

/-- The sum over a row that keeps the entry whose number is the word. -/
def pick (a : Fin 384 → EReal) (w : BitVec 32) : EReal := ∑ q : Fin 384, Scalar.select (IntOp.cmpi .eq w (BitVec.ofNat 32 q.val)) (a q) 0

theorem pick_eq (a : Fin 384 → EReal) (p : Fin 384) : pick a (BitVec.ofNat 32 p.val) = a p := by
  unfold pick
  rw [Finset.sum_eq_single p]
  · simp [Scalar.select, IntOp.cmpi]
  · intro q _ h
    have : ¬ BitVec.ofNat 32 p.val = BitVec.ofNat 32 q.val := fun x => h (Fin.ext (by
      have := congrArg BitVec.toNat x
      simp only [BitVec.toNat_ofNat] at this
      omega))
    simp [Scalar.select, IntOp.cmpi, beq_false_of_ne this]
  · intro h; exact absurd (Finset.mem_univ p) h

/-! ## What a trip stores -/

section Trip
variable (v2 : Vec Ideal S8x384 .f32) (k : Fin k0_t1_loop.trips) (r : Fin 8) (s : Fin 576)

/-- A trip's number is a position. -/
abbrev pos (k : Fin k0_t1_loop.trips) : Fin 64 := ⟨k.val, Nat.lt_of_lt_of_le k.isLt k0_t1_abs.2.1⟩

theorem iv_eq : Scf.iv 0#32 1#32 k = BitVec.ofNat 32 k.val := by
  simp [Scf.iv]

theorem pay_at : k0_pay1 v2 k (ix3 0 r s)
    = (pick (fun q => v2 (ix2 r q)) (word (pos k) s) + pick (fun q => v2 (ix2 r q) - v2 (ix2 r q)) (word (pos k) s))
      + pick (fun q => v2 (ix2 r q) - v2 (ix2 r q) - (v2 (ix2 r q) - v2 (ix2 r q))) (word (pos k) s) := by
  unfold k0_pay1
  rw [iv_eq]
  pointwise
  rfl

theorem sub_real (x : EReal) (h : x = ((x.toReal : ℝ) : EReal)) : x - x = 0 := by
  rw [h, ← EReal.coe_sub, sub_self, EReal.coe_zero]

theorem pay_eq (h : Real2 v2) : k0_pay1 v2 k (ix3 0 r s) = v2 (ix2 r ⟨(col (pos k) s).val, by omega⟩) := by
  rw [pay_at, word_eq]
  have e := fun a => pick_eq a ⟨(col (pos k) s).val, by omega⟩
  rw [e, e, e]
  dsimp only
  rw [sub_real _ (h _)]
  simp
end Trip

/-- The table by row, column and position. -/
def G (v2 : Vec Ideal S8x384 .f32) : Vec Ideal S64x8x576 .f32 :=
  fun y => v2 (ix2 (n0 := 8) (n1 := 384) (y 1) ⟨min ((y 0).val + 640 - (y 2).val) 256, by omega⟩)

section Pieces
variable (c : Dev nD) (arg0 : Memref sig .tc .vmem S8x384 .f32) (harg0 : arg0.IsWhole) (arg1 : Memref sig .tc .vmem S64x8x576 .f32) (harg1 : arg1.IsWhole) (v2 : Vec Ideal S8x384 .f32)

/-- Each piece a loop leaves is a trip's. -/
theorem pieces (𝒱 : Variants) (bd : Option 𝒱.V) (n : ℕ) (hn : n ≤ k0_t1_loop.trips) :
    ∀ p ∈ pb_k0_t1 (F := Ideal) 𝒱 c bd arg0 harg0 arg1 harg1 v2 n,
      ∃ k : Fin k0_t1_loop.trips, p = ⟨Rect.unit (s := S64x8x576) (k0_off1 k) S1x8x576.size (Facts₀.k0_off1_inb k), k0_pay1 v2 k⟩ := by
  induction n with
  | zero => intro p hp; exact absurd hp (by unfold pb_k0_t1; simp)
  | succ n ih =>
    intro p hp
    rw [pb_k0_t1_succ 𝒱 c bd arg0 harg0 arg1 harg1 v2 ⟨n, hn⟩] at hp
    rcases List.mem_append.1 hp with h | h
    · refine ⟨⟨n, hn⟩, ?_⟩
      unfold tripL_k0_t1 trip_k0_t1 at h
      simpa using h
    · exact ih (Nat.le_of_succ_le hn) p h

theorem off : ∀ k : Fin k0_t1_loop.trips, k0_off1 k = ![k.val, 0, 0] := by decide +kernel

theorem piece_eq (h : Real2 v2) (k : Fin k0_t1_loop.trips) (x : S1x8x576.Idx) :
    k0_pay1 v2 k x = G v2 ((Rect.unit (s := S64x8x576) (k0_off1 k) S1x8x576.size (Facts₀.k0_off1_inb k)).emb x) := by
  obtain ⟨r, s, rfl⟩ : ∃ (r : Fin 8) (s : Fin 576), x = ix3 0 r s :=
    ⟨x 1, x 2, ext3 _ _ _ _ (by have : (x 0).val < 1 := (x 0).isLt; show (x 0).val = 0; omega) rfl rfl⟩
  rw [pay_eq v2 k r s h]
  unfold G
  refine congrArg v2 (ext2 _ _ _ ?_ ?_)
  · show r.val = k0_off1 k 1 + 1 * r.val
    rw [off]; simp
  · show min (k.val + 640 - s.val) 256 = min (k0_off1 k 0 + 1 * 0 + 640 - (k0_off1 k 2 + 1 * s.val)) 256
    rw [off]; simp

theorem hz : (![0, 0] : Fin 2 → Nat) = fun _ => 0 := funext fun a => by fin_cases a <;> rfl

theorem out_eq (h : Real2 v2) : out0_A_1 c arg0 harg0 arg1 harg1 v2 = G v2 := by
  unfold out0_A_1
  simp only [View.read_writes_junk_eq_canon]
  funext y
  refine View.canon_apply_of_pieces (G v2) _ (fun p hp x => ?_) y (cover0_A_1 c arg0 harg0 arg1 harg1 v2 y)
  unfold kernelRun0_A at hp
  dsimp only at hp
  sl_unfold_words
  simp only [View.readAt_eq_ld, harg0.read_unread, View.ld_unit_zero (S := S8x384) hz] at hp
  obtain ⟨k, rfl⟩ := pieces c arg0 harg0 arg1 harg1 v2 _ _ _ (le_refl k0_t1_loop.trips) p hp
  exact piece_eq v2 h k x
end Pieces

/-! ## The reference -/

section Refs
variable (x : Vec Ideal S8x257 .f32)

theorem gather_at (idx : IVec Cert.Reference19Ideal.S64x576x1 32) (r : Fin 8) (k : Fin 64) (s : Fin 576) :
    Host.gather Cert.Reference19Ideal.gather_S8x257_S64x576x1_S8x64x576_0_1_n_n_1_2_81 x idx (ix3 r k s)
      = x (ix2 r ⟨min (idx (ix3 k s 0)).toInt.toNat 256, by omega⟩) := by
  unfold Host.gather
  refine congrArg x (ext2 _ _ _ ?_ ?_)
  · show GatherDims.start _ _ _ 0 + GatherDims.batchCoord _ _ 0 + GatherDims.offCoord _ _ 0 = r.val
    rw [GatherDims.batchCoord_eq_zero _ _ _ (by decide)]
    unfold GatherDims.start GatherDims.offCoord
    rw [dif_neg (by decide), dif_pos (by decide)]
    show 0 + 0 + r.val = r.val
    omega
  · show GatherDims.start _ _ _ 1 + GatherDims.batchCoord _ _ 1 + GatherDims.offCoord _ _ 1 = _
    rw [GatherDims.batchCoord_eq_zero _ _ _ (by decide), GatherDims.offCoord_eq_zero _ _ _ (by decide)]
    unfold GatherDims.start
    rw [dif_pos (by decide)]
    refine congrArg (fun z : Cert.Reference19Ideal.S64x576x1.Idx => min (idx z).toInt.toNat 256 + 0 + 0) (ext3 _ _ _ _ ?_ ?_ ?_) <;> rfl

theorem idx_at (k : Fin 64) (s : Fin 576) : val_main_v17 (F := Ideal) (ix3 k s 0) = BitVec.ofNat 32 (col k s).val := by
  have e : val_main_v11 (F := Ideal) (ix2 k s) = word k s := by
    unfold val_main_v11 val_main_v10 val_main_v9 val_main_call0_v4 val_main_call0_v3 val_main_call0_v2 val_main_call0_v1 val_main_call0_v0 val_main_v8 val_main_v7 val_main_v6 val_main_v5 val_main_v4 val_main_v3 val_main_v2 val_main_v1 val_main_v0 val_main_c val_main_c_0 val_main_c_1 val_main_c_2
    pointwise
    rfl
  rw [val_main_v17_apply, show idx_main_v17 (ix3 k s 0) = ix2 k s from ext2 _ _ _ rfl rfl, val_main_v16_apply, val_main_v13_apply, e, word_eq]
  have z : IntOp.cmpi .slt (BitVec.ofNat 32 (col k s).val) (val_main_v12 (F := Ideal) (ix2 k s)) = 0#1 :=
    (by decide +kernel : ∀ p : Fin 257, IntOp.cmpi .slt (BitVec.ofNat 32 p.val) 0#32 = 0#1) (col k s)
  rw [z]
  simp [Scalar.select]

theorem clamp : ∀ p : Fin 257, min (BitVec.ofNat 32 p.val).toInt.toNat 256 = p.val := by decide +kernel

theorem ref_at (k : Fin 64) (r : Fin 8) (s : Fin 576) : val_main_v19 (F := Ideal) x (ix3 k r s) = x (ix2 r (col k s)) := by
  rw [val_main_v19_apply, show idx_main_v19 (ix3 k r s) = ix3 r k s from ext3 _ _ _ _ rfl rfl rfl]
  unfold val_main_v18
  refine (gather_at x _ r k s).trans (congrArg (fun q : Fin 257 => x (ix2 r q)) (Fin.ext ?_))
  show min (val_main_v17 (F := Ideal) (ix3 k s 0)).toInt.toNat 256 = (col k s).val
  have e := clamp (col k s)
  rw [← idx_at k s] at e
  exact e
end Refs

/-! ## The run -/

variable (m : (ℓ : Loc nD τ sig) → Buf (Elt Ideal) ℓ) (c : Dev nD)

abbrev A0 : Vec Ideal S8x257 .f32 := m ((c : Thread nD τ).loc main_arg0)

/-- The table padded to whole words. -/
def padded (x : Vec Ideal S8x257 .f32) : Vec Ideal S8x384 .f32 :=
  pad S8x384 ![0, 0] ![0, 127] ![0, 0] x (sitofp (F := Ideal) .f32 (constantI S_ 32 0#32) : FVec Ideal S_ .f32) Facts₀.pads_S8x257_S8x384_000_01270 Facts₀.h_S_

theorem V0 : (V m c (Pipeline.arrRef spec0 0) : Vec Ideal S8x384 .f32) = padded (A0 m c) := by
  entry_read
  rfl

theorem padded_at (x : Vec Ideal S8x257 .f32) (r : Fin 8) (q : Fin 384) (h : q.val < 257) : padded x (ix2 r q) = x (ix2 r ⟨q.val, h⟩) := by
  unfold padded
  pointwise
  exact dif_pos h
theorem padded_out (x : Vec Ideal S8x257 .f32) (r : Fin 8) (q : Fin 384) (h : ¬ q.val < 257) : padded x (ix2 r q) = 0 := by
  unfold padded
  pointwise
  rw [dif_neg h]
  show (((0#32 : BitVec 32).toInt : ℝ) : EReal) = 0
  simp

theorem padded_real (x : Vec Ideal S8x257 .f32) (hx : Real2 x) : Real2 (padded x) := by
  intro i
  obtain ⟨r, q, rfl⟩ : ∃ (r : Fin 8) (q : Fin 384), i = ix2 r q := ⟨i 0, i 1, ValueIdx.eq_ix2 i⟩
  by_cases h : q.val < 257
  · rw [padded_at x r q h]; exact hx _
  · rw [padded_out x r q h]; simp

theorem idxs : ∀ t : Fin cfg0.N, win0_0.index t = ![0, 0] ∧ win0_1.index t = ![0, 0, 0] :=
  (by decide +kernel : ∀ t : Fin grid0.N, _)

theorem blk0 (t : Fin cfg0.N) : (iblk m c 0 t : Vec Ideal S8x384 .f32) = padded (A0 m c) := by
  rw [← V0]
  funext y
  blk_simp [iblk]
  refine congrArg (V m c (Pipeline.arrRef spec0 0) : Vec Ideal S8x384 .f32) (?_ : _ = y)
  refine (ext2 _ (y 0) (y 1) ?_ ?_).trans (ValueIdx.eq_ix2 y).symm <;> blk_simp [idxs t]
theorem emb1 (t : Fin cfg0.N) (k : Fin 64) (r : Fin 8) (s : Fin 576) : (win0_1.blk t).view.emb (ix3 k r s) = ix3 k r s :=
  ext3 _ _ _ _ (by blk_simp [idxs t]) (by blk_simp [idxs t]) (by blk_simp [idxs t])

theorem eq1 (h : Real2 (A0 m c)) : (dats m 0 c).arrAt 1 cfg0.N = val_main_v19 (F := Ideal) (A0 m c) := by
  refine (dats m 0 c).arrAt_eq_of_covers 1 _ (by decide +kernel) fun t hf y => ?_
  blk_simp
  rw [after0_1]
  unfold outsAt0
  obtain ⟨k, r, s, rfl⟩ : ∃ (k : Fin 64) (r : Fin 8) (s : Fin 576), y = ix3 k r s := ⟨y 0, y 1, y 2, ext3 _ _ _ _ rfl rfl rfl⟩
  rw [emb1, blk0, out_eq c _ _ _ _ _ (padded_real _ h), ref_at]
  exact padded_at _ r ⟨(col k s).val, by omega⟩ (col k s).isLt

theorem pre (h : Cert.Pre_Kernel19Ideal_finite19 m) : Real2 (A0 m c) := real_of_bound _ _ (fun _ => rfl) (h c)

/-- The reference runs and leaves its arguments; it has no counters. -/
theorem frame_reference : Cert.quiescent_Reference19Ideal := fun m g _ =>
  (θ_run Cert.Reference19Ideal.defs _ _).mono (fun r h => ⟨fun c => (h c).2, sem_eq_zero_of_no_sems (by decide) r.2⟩)
    (Cert.Reference19Ideal.Value.run (F := Ideal) m g)

theorem algebraic : Cert.algebraic_Kernel19Ideal_Reference19Ideal_pre_finite19 := by
  intro m g m' g' hp ha
  refine ⟨_, Cert.Kernel19Ideal.Value.run_blocks (F := Ideal) m g, ?_⟩
  refine (θ_run Cert.Reference19Ideal.defs _ _).mono (fun r h c => ?_) (Cert.Reference19Ideal.Value.run (F := Ideal) m' g')
  obtain ⟨h0, hrest⟩ := h c
  refine ⟨h0.trans ((val_main_v19_eq _).trans ?_), hrest⟩
  rw [ha c]
  exact (eq1 m c (pre m c hp)).symm

end Cert.TableClaim

end
-- ==== Proof.PairSumClaim.lean ====
/-
  The sum of the two cores' halves of a gradient: the half of its own rows a core keeps, read at the core's number, and
  the other core's part of the same rows.
-/
module

public import proofs.«01_k».proof.Defs
public import proofs.«01_k».proof.Proof.Rows
public import proofs.«01_k».proof.Proof.Gen.Kernel20.Frame
public import proofs.«01_k».proof.Proof.Gen.Kernel20Ideal.Frame
public import proofs.«01_k».proof.Proof.Gen.Reference20Ideal.Run
public import proofs.«01_k».proof.Proof.Gen.Reference20Ideal.Read
public import proofs.«01_k».proof.Proof.Gen.Pre_in_range20
public import Idealize.ShloMosaic.Lib.Pipeline.ValueKit
public import Idealize.ShloMosaic.Lib.Pointwise
public import Idealize.ShloMosaic.Lib.ValueLayout

set_option maxRecDepth 16384
set_option backward.isDefEq.respectTransparency false

@[expose] public section

noncomputable section

namespace Cert.PairSumClaim

open Cert.Common
open Idealize.ShloMosaic Idealize.ShloMosaic.TcCoe Idealize.SL.Sem
open scoped BigOperators

instance : Cert.Kernel20.Facts := Cert.Kernel20.Gen.facts
instance : Cert.Kernel20Ideal.Facts := Cert.Kernel20Ideal.Gen.facts
instance : Cert.Reference20Ideal.Facts := Cert.Reference20Ideal.Gen.facts
instance : Cert.Pre_in_range20.Facts := Cert.Pre_in_range20.Gen.facts

/-! ## The core's number -/

/-- A word not negative and less than `n` is the word of a number less than `n`. -/
theorem word_of_range (n : ℕ) (top : BitVec 32) (ht : top.toInt = n) (w : BitVec 32) (h : IntOp.andi (IntOp.cmpi .sge w 0#32) (IntOp.cmpi .slt w top) = 1#1) :
    ∃ k : Fin n, w = BitVec.ofNat 32 k.val := by
  have both (a b : BitVec 1) : IntOp.andi a b = 1#1 → a = 1#1 ∧ b = 1#1 := by revert a b; decide
  have one (p : Bool) : BitVec.ofBool p = 1#1 → p = true := by cases p <;> decide
  obtain ⟨h0, h1⟩ := both _ _ h
  have e0 := one _ h0
  have e1 := one _ h1
  simp only [BitVec.sle, BitVec.slt, decide_eq_true_eq] at e0 e1
  rw [show (0#32 : BitVec 32).toInt = 0 from rfl] at e0
  rw [ht] at e1
  refine ⟨⟨w.toNat, ?_⟩, by simp⟩
  have c := BitVec.toInt_eq_toNat_cond w
  have := w.isLt
  split at c <;> omega

/-- A one-word buffer has one entry. -/
theorem only (x : (⟨1, ![1]⟩ : Shape).Idx → BitVec 32) (y : (⟨1, ![1]⟩ : Shape).Idx) : x y = x (ix1 0) :=
  congrArg x (ext1 _ _ (by have : (y 0).val < 1 := (y 0).isLt; show (y 0).val = 0; omega))

theorem core_word {F : FTy → Type} [FloatOps F] (x0 : FVec F Cert.Pre_in_range20.S4x1024x896 .bf16) (x1 : FVec F Cert.Pre_in_range20.S4x512x896 .bf16) (x2 : IVec Cert.Pre_in_range20.S1 32)
    (h : Cert.Pre_in_range20.fn x0 x1 x2 = fun _ => 1#1) : ∃ k : Fin 2, ∀ y, x2 y = BitVec.ofNat 32 k.val := by
  obtain ⟨k, hk⟩ := word_of_range 2 2#32 rfl (x2 (ix1 0)) (congrFun h (ix1 0))
  exact ⟨k, fun y => (only x2 y).trans hk⟩

/-! ## The blocks it names are in the array -/

theorem place_bits {F : FTy → Type} [FloatOps F] (pf : Cert.Kernel20.pre0.Contents (Elt F)) (k : Fin 2) (h : ∀ y : (⟨1, ![1]⟩ : Shape).Idx, (pf 0 : (⟨1, ![1]⟩ : Shape).Idx → BitVec 32) y = BitVec.ofNat 32 k.val)
    (i : Cert.Kernel20.grid0.Coords) : Cert.Kernel20.cc0_transform_0 Cert.Kernel20.Facts₀.inb_S1_S1_0 Cert.Kernel20.Facts₀.numel1_S1 pf i = ![(i 0).val, k.val, 0] := by
  have e : pf.at 0 (Rect.unit (s := Cert.Kernel20.S1) ![0] Cert.Kernel20.S1.size Cert.Kernel20.Facts₀.inb_S1_S1_0) Cert.Kernel20.Facts₀.numel1_S1 = BitVec.ofNat 32 k.val := h _
  unfold Cert.Kernel20.cc0_transform_0
  dsimp only
  rw [e]
  clear e h
  revert k i
  decide +kernel
theorem place {F : FTy → Type} [FloatOps F] (pf : Cert.Kernel20Ideal.pre0.Contents (Elt F)) (k : Fin 2) (h : ∀ y : (⟨1, ![1]⟩ : Shape).Idx, (pf 0 : (⟨1, ![1]⟩ : Shape).Idx → BitVec 32) y = BitVec.ofNat 32 k.val)
    (i : Cert.Kernel20Ideal.grid0.Coords) : Cert.Kernel20Ideal.cc0_transform_0 Cert.Kernel20Ideal.Facts₀.inb_S1_S1_0 Cert.Kernel20Ideal.Facts₀.numel1_S1 pf i = ![(i 0).val, k.val, 0] := by
  have e : pf.at 0 (Rect.unit (s := Cert.Kernel20Ideal.S1) ![0] Cert.Kernel20Ideal.S1.size Cert.Kernel20Ideal.Facts₀.inb_S1_S1_0) Cert.Kernel20Ideal.Facts₀.numel1_S1 = BitVec.ofNat 32 k.val := h _
  unfold Cert.Kernel20Ideal.cc0_transform_0
  dsimp only
  rw [e]
  clear e h
  revert k i
  decide +kernel

theorem inside : ∀ (k : Fin 2) (i : Cert.Kernel20Ideal.grid0.Coords) (a : Fin 3),
    ((![(i 0).val, k.val, 0] : Fin 3 → ℕ) a + 1) * (![1, 512, 896] : Fin 3 → ℕ) a ≤ (![4, 1024, 896] : Fin 3 → ℕ) a := by decide +kernel

theorem ok_bits (m : (ℓ : Loc Cert.Kernel20.nD Cert.Kernel20.τ Cert.Kernel20.sig) → Buf (Elt Bits) ℓ) (h : Cert.Pre_Kernel20 m) : Cert.Kernel20.Gen.Ok m := by
  obtain ⟨k, hk⟩ := core_word _ _ _ (h 0)
  intro i
  refine ⟨fun a => ?_, .inr (Affine.block_words_dvd (of_decide_eq_true rfl) (by decide))⟩
  rw [place_bits _ k hk i]
  exact inside k i a
theorem ok (m : (ℓ : Loc Cert.Kernel20Ideal.nD Cert.Kernel20Ideal.τ Cert.Kernel20Ideal.sig) → Buf (Elt Ideal) ℓ) (h : Cert.Pre_Kernel20Ideal m) : Cert.Kernel20Ideal.Gen.Ok m := by
  obtain ⟨k, hk⟩ := core_word _ _ _ (h 0)
  intro i
  refine ⟨fun a => ?_, .inr (Affine.block_words_dvd (of_decide_eq_true rfl) (by decide))⟩
  rw [place _ k hk i]
  exact inside k i a

theorem frame_bits : Cert.quiescent_Kernel20 := fun m g h => Cert.Kernel20.Gen.frame m g (ok_bits m h)
theorem frame_ideal : Cert.quiescent_Kernel20Ideal := fun m g h => Cert.Kernel20Ideal.Gen.frame m g (ok m h)

open Cert.Kernel20Ideal Cert.Kernel20Ideal.Gen Cert.Reference20Ideal.Read

/-! ## The sum at an entry -/

theorem pay_at (x0 x1 : Vec Ideal S1x512x896 .bf16) (r : Fin 512) (q : Fin 896) : k0_pay1 (F := Ideal) x0 x1 (ix3 0 r q) = x0 (ix3 0 r q) + x1 (ix3 0 r q) := by
  unfold k0_pay1
  pointwise

/-- A row of the half `h`. -/
abbrev row2 (h : Fin 2) (r : Fin 512) : Fin 1024 := ⟨h.val * 512 + r.val, by omega⟩

theorem ref_at (x0 : Vec Ideal S4x1024x896 .bf16) (x1 : Vec Ideal S4x512x896 .bf16) (x2 : Vec Ideal S1 .i32) (k : Fin 2) (h : ∀ y, x2 y = BitVec.ofNat 32 k.val) (n : Fin 4) (r : Fin 512) (q : Fin 896) :
    val_main_v8 (F := Ideal) x0 x1 x2 (ix3 n r q) = x0 (ix3 n (row2 k r) q) + x1 (ix3 n r q) := by
  obtain rfl : x2 = fun _ => BitVec.ofNat 32 k.val := funext h
  unfold val_main_v8 val_main_v7 val_main_v6 val_main_v5 val_main_v4 val_main_v3 val_main_v2 val_main_v1 val_main_v0 val_main_c
  fin_cases k
  · pointwise
    exact congrArg (fun j => x0 j + x1 (ix3 n r q)) (ext3 _ _ _ _ rfl (by show r.val = 0 * 512 + r.val; omega) rfl)
  · pointwise
    show x0 _ + x1 _ = _
    exact congrArg (fun j => x0 j + x1 (ix3 n r q)) (ext3 _ _ _ _ rfl (by show 512 + r.val = 1 * 512 + r.val; omega) rfl)

/-! ## The blocks -/

section Blocks
variable (m : (ℓ : Loc nD τ sig) → Buf (Elt Ideal) ℓ) (c : Dev nD) (hO : Ok m)

abbrev A0 : Vec Ideal S4x1024x896 .bf16 := m ((c : Thread nD τ).loc main_arg0)
abbrev A1 : Vec Ideal S4x512x896 .bf16 := m ((c : Thread nD τ).loc main_arg1)
abbrev A2 : Vec Ideal S1 .i32 := m ((c : Thread nD τ).loc main_arg2)

theorem tr : ∀ t : Fin grid0.N, cc0_transform_1 (grid0.coords t) = ![t.val, 0, 0] ∧ cc0_transform_2 (grid0.coords t) = ![t.val, 0, 0]
    ∧ (grid0.coords t 0).val = t.val := by decide +kernel

/-- A point's plane. -/
abbrev pn (t : Fin (cfgM m hO).N) : Fin 4 := ⟨t.val, lt_of_lt_of_eq t.isLt N_0⟩

variable (k : Fin 2) (hk : ∀ y, A2 m 0 y = BitVec.ofNat 32 k.val)

include hk in
theorem idx0 (t : Fin (cfgM m hO).N) : ((cfgM m hO).win 0).index t = ![t.val, k.val, 0] := by
  refine (place (tbl m) k hk (grid0.coords t)).trans ?_
  rw [(tr t).2.2]
theorem idxs (t : Fin (cfgM m hO).N) : ((cfgM m hO).win 1).index t = ![t.val, 0, 0] ∧ ((cfgM m hO).win 2).index t = ![t.val, 0, 0] := ⟨(tr t).1, (tr t).2.1⟩

variable (t : Fin (cfgM m hO).N) (r : Fin 512) (q : Fin 896)

include hk in
theorem blk0 : (iblk m hO c 0 t : Vec Ideal S1x512x896 .bf16) (ix3 0 r q) = A0 m c (ix3 (pn m hO t) (row2 k r) q) := by
  blk_simp [iblk]
  refine congrArg (A0 m c) (ext3 _ _ _ _ ?_ ?_ ?_) <;> blk_simp [idx0 m hO k hk t]
  rfl
theorem blk1 : (iblk m hO c 1 t : Vec Ideal S1x512x896 .bf16) (ix3 0 r q) = A1 m c (ix3 (pn m hO t) r q) := by
  blk_simp [iblk]
  refine congrArg (A1 m c) (ext3 _ _ _ _ ?_ ?_ ?_) <;> blk_simp [idxs m hO t]
  rfl
theorem emb2 : (((cfgM m hO).win 2).blk t).view.emb (ix3 0 r q) = ix3 (pn m hO t) r q :=
  ext3 _ _ _ _ (by blk_simp [idxs m hO t]; rfl) (by blk_simp [idxs m hO t]) (by blk_simp [idxs m hO t])

theorem cov2 : ((cfgM m hO).win 2).Covers := of_decide_eq_true (by sl_kernel_rfl)

theorem hz3 : (![0, 0, 0] : Fin 3 → Nat) = fun _ => 0 := funext fun a => by fin_cases a <;> rfl

section Point
variable (i : grid0.Coords) (arg3 : Memref sig .tc .vmem S1x512x896 .bf16) (harg3 : arg3.IsWhole) (arg4 : Memref sig .tc .vmem S1x512x896 .bf16) (harg4 : arg4.IsWhole) (arg5 : Memref sig .tc .vmem S1x512x896 .bf16) (harg5 : arg5.IsWhole)
variable (x0 x1 : Vec Ideal S1x512x896 .bf16) (x2 : Vec Ideal S1 .i32)
theorem st2 : out0_A_2 c i arg3 harg3 arg4 harg4 arg5 harg5 x0 x1 x2 = k0_pay1 (F := Ideal) x0 x1 := by
  unfold out0_A_2
  simp only [View.read_writes_junk_eq_canon]
  unfold kernelRun0_A
  dsimp only
  sl_unfold_words
  rw [View.canon_unit_zero hz3]
  simp only [View.readAt_eq_ld, harg3.read_unread, harg4.read_unread, View.ld_unit_zero (S := S1x512x896) hz3]
end Point

theorem split (y : S1x512x896.Idx) : ∃ (r : Fin 512) (q : Fin 896), y = ix3 0 r q :=
  ⟨y 1, y 2, ext3 _ _ _ _ (by have : (y 0).val < 1 := (y 0).isLt; show (y 0).val = 0; omega) rfl rfl⟩

include hk in
theorem eq2 : (dats m hO 0 c).arrAt 2 (cfgM m hO).N = val_main_v8 (F := Ideal) (A0 m c) (A1 m c) (A2 m c) := by
  obtain rfl : c = 0 := Subsingleton.elim _ _
  refine (dats m hO 0 0).arrAt_eq_of_covers 2 _ (cov2 m hO) fun t hf y => ?_
  blk_simp
  rw [after0_2]
  obtain ⟨r, q, rfl⟩ := split y
  unfold outsAt0
  dsimp only
  rw [st2, emb2, pay_at, ref_at _ _ _ k hk, blk0 m 0 hO k hk, blk1]
end Blocks

/-- The reference runs and leaves its arguments; it has no counters. -/
theorem frame_reference : Cert.quiescent_Reference20Ideal := fun m g _ =>
  (θ_run Cert.Reference20Ideal.defs _ _).mono (fun r h => ⟨fun c => (h c).2, sem_eq_zero_of_no_sems (by decide) r.2⟩)
    (Cert.Reference20Ideal.Value.run (F := Ideal) m g)

theorem algebraic : Cert.algebraic_Kernel20Ideal_Reference20Ideal := by
  intro m g m' g' hp ha
  have hO := ok m hp
  obtain ⟨k, hk⟩ := core_word _ _ _ (hp 0)
  refine ⟨fun c => val_main_v8 (F := Ideal) (A0 m c) (A1 m c) (A2 m c), ?_, ?_⟩
  · refine (θ_run defs _ _).mono (fun r h c => ?_) (run_main (F := Ideal) m g hO)
    refine ⟨((h c).1 2).trans (eq2 m c hO k hk), ?_, ?_, ((h c).2 main_arg2 (by decide : main_arg2 ∈ Pipeline.restRefs sig spec0)).trans (V_main_arg2 m c)⟩
    · exact ((h c).1 0).trans (((dats m hO 0 c).arrAt_in 0 rfl _).trans ((A_eq m hO c 0).trans (V_main_arg0 m c)))
    · exact ((h c).1 1).trans (((dats m hO 0 c).arrAt_in 1 rfl _).trans ((A_eq m hO c 1).trans (V_main_arg1 m c)))
  · refine (θ_run Cert.Reference20Ideal.defs _ _).mono (fun r h c => ?_) (Cert.Reference20Ideal.Value.run (F := Ideal) m' g')
    obtain ⟨a0, a1, a2⟩ := ha c
    obtain ⟨h0, hrest⟩ := h c
    refine ⟨h0.trans ((val_main_v8_eq _ _ _).trans ?_), hrest⟩
    rw [a0, a1, a2]

end Cert.PairSumClaim

end
-- ==== Proof.ChipSumClaim.lean ====
/-
  The sum of the four chips' parts of a gradient: the chip's own part, read at its number among the four it holds, and
  the three parts the other chips sent, taken in the order of the chips.
-/
module

public import proofs.«01_k».proof.Defs
public import proofs.«01_k».proof.Proof.Rows
public import proofs.«01_k».proof.Proof.PairSumClaim
public import proofs.«01_k».proof.Proof.Gen.Kernel21.Frame
public import proofs.«01_k».proof.Proof.Gen.Kernel21Ideal.Frame
public import proofs.«01_k».proof.Proof.Gen.Reference21Ideal.Run
public import proofs.«01_k».proof.Proof.Gen.Reference21Ideal.Read
public import proofs.«01_k».proof.Proof.Gen.Pre_in_range21
public import Idealize.ShloMosaic.Lib.Pipeline.ValueKit
public import Idealize.ShloMosaic.Lib.Pointwise
public import Idealize.ShloMosaic.Lib.ValueLayout

set_option maxRecDepth 16384
set_option backward.isDefEq.respectTransparency false

@[expose] public section

noncomputable section

namespace Cert.ChipSumClaim

open Cert.Common
open Idealize.ShloMosaic Idealize.ShloMosaic.TcCoe Idealize.SL.Sem
open scoped BigOperators

instance : Cert.Kernel21.Facts := Cert.Kernel21.Gen.facts
instance : Cert.Kernel21Ideal.Facts := Cert.Kernel21Ideal.Gen.facts
instance : Cert.Reference21Ideal.Facts := Cert.Reference21Ideal.Gen.facts
instance : Cert.Pre_in_range21.Facts := Cert.Pre_in_range21.Gen.facts

/-! ## The chip's number -/

theorem chip_word {F : FTy → Type} [FloatOps F] (x0 : FVec F Cert.Pre_in_range21.S4x512x896 .bf16) (x1 : FVec F Cert.Pre_in_range21.S3x512x896 .bf16) (x2 : IVec Cert.Pre_in_range21.S1 32)
    (h : Cert.Pre_in_range21.fn x0 x1 x2 = fun _ => 1#1) : ∃ k : Fin 4, ∀ y, x2 y = BitVec.ofNat 32 k.val := by
  obtain ⟨k, hk⟩ := PairSumClaim.word_of_range 4 4#32 rfl (x2 (ix1 0)) (congrFun h (ix1 0))
  exact ⟨k, fun y => (PairSumClaim.only x2 y).trans hk⟩

/-! ## The blocks it names are in the array -/

theorem place_bits {F : FTy → Type} [FloatOps F] (pf : Cert.Kernel21.pre0.Contents (Elt F)) (k : Fin 4) (h : ∀ y : (⟨1, ![1]⟩ : Shape).Idx, (pf 0 : (⟨1, ![1]⟩ : Shape).Idx → BitVec 32) y = BitVec.ofNat 32 k.val)
    (i : Cert.Kernel21.grid0.Coords) : Cert.Kernel21.cc0_transform_0 Cert.Kernel21.Facts₀.inb_S1_S1_0 Cert.Kernel21.Facts₀.numel1_S1 pf i = ![k.val, (i 0).val, 0] := by
  have e : pf.at 0 (Rect.unit (s := Cert.Kernel21.S1) ![0] Cert.Kernel21.S1.size Cert.Kernel21.Facts₀.inb_S1_S1_0) Cert.Kernel21.Facts₀.numel1_S1 = BitVec.ofNat 32 k.val := h _
  unfold Cert.Kernel21.cc0_transform_0
  dsimp only
  rw [e]
  clear e h
  revert k i
  decide +kernel
theorem place {F : FTy → Type} [FloatOps F] (pf : Cert.Kernel21Ideal.pre0.Contents (Elt F)) (k : Fin 4) (h : ∀ y : (⟨1, ![1]⟩ : Shape).Idx, (pf 0 : (⟨1, ![1]⟩ : Shape).Idx → BitVec 32) y = BitVec.ofNat 32 k.val)
    (i : Cert.Kernel21Ideal.grid0.Coords) : Cert.Kernel21Ideal.cc0_transform_0 Cert.Kernel21Ideal.Facts₀.inb_S1_S1_0 Cert.Kernel21Ideal.Facts₀.numel1_S1 pf i = ![k.val, (i 0).val, 0] := by
  have e : pf.at 0 (Rect.unit (s := Cert.Kernel21Ideal.S1) ![0] Cert.Kernel21Ideal.S1.size Cert.Kernel21Ideal.Facts₀.inb_S1_S1_0) Cert.Kernel21Ideal.Facts₀.numel1_S1 = BitVec.ofNat 32 k.val := h _
  unfold Cert.Kernel21Ideal.cc0_transform_0
  dsimp only
  rw [e]
  clear e h
  revert k i
  decide +kernel

theorem inside : ∀ (k : Fin 4) (i : Cert.Kernel21Ideal.grid0.Coords) (a : Fin 3),
    ((![k.val, (i 0).val, 0] : Fin 3 → ℕ) a + 1) * (![1, 512, 896] : Fin 3 → ℕ) a ≤ (![4, 512, 896] : Fin 3 → ℕ) a := by decide +kernel

theorem ok_bits (m : (ℓ : Loc Cert.Kernel21.nD Cert.Kernel21.τ Cert.Kernel21.sig) → Buf (Elt Bits) ℓ) (h : Cert.Pre_Kernel21 m) : Cert.Kernel21.Gen.Ok m := by
  obtain ⟨k, hk⟩ := chip_word _ _ _ (h 0)
  intro i
  refine ⟨fun a => ?_, .inr (Affine.block_words_dvd (of_decide_eq_true rfl) (by decide))⟩
  rw [place_bits _ k hk i]
  exact inside k i a
theorem ok (m : (ℓ : Loc Cert.Kernel21Ideal.nD Cert.Kernel21Ideal.τ Cert.Kernel21Ideal.sig) → Buf (Elt Ideal) ℓ) (h : Cert.Pre_Kernel21Ideal m) : Cert.Kernel21Ideal.Gen.Ok m := by
  obtain ⟨k, hk⟩ := chip_word _ _ _ (h 0)
  intro i
  refine ⟨fun a => ?_, .inr (Affine.block_words_dvd (of_decide_eq_true rfl) (by decide))⟩
  rw [place _ k hk i]
  exact inside k i a

theorem frame_bits : Cert.quiescent_Kernel21 := fun m g h => Cert.Kernel21.Gen.frame m g (ok_bits m h)
theorem frame_ideal : Cert.quiescent_Kernel21Ideal := fun m g h => Cert.Kernel21Ideal.Gen.frame m g (ok m h)

open Cert.Kernel21Ideal Cert.Kernel21Ideal.Gen Cert.Reference21Ideal.Read

/-! ## The sum at an entry -/

/-- What the kernel stores, of the chip's word, its own part and the three others'. -/
def full (w : BitVec 32) (a b0 b1 b2 : Vec Ideal S1x512x896 .bf16) : Vec Ideal S512x896 .f32 :=
  k0_pay1 (F := Ideal) w (k0_pay2 a) (k0_pay3 b0) (k0_pay4 b1) (k0_pay5 b2) (k0_pay6 w a b0 b1 b2) (Scalar.cmpi .eq (Scalar.xori w 2#32) 0#32) (k0_pay7 w b0 b1 b2)

section Entry
variable (a b0 b1 b2 : Vec Ideal S1x512x896 .bf16) (r : Fin 512) (q : Fin 896)

theorem pay2_at : k0_pay2 (F := Ideal) a (ix2 r q) = a (ix3 0 r q) := by
  unfold k0_pay2
  pointwise
theorem pay3_at : k0_pay3 (F := Ideal) a (ix2 r q) = a (ix3 0 r q) := pay2_at a r q
theorem pay4_at : k0_pay4 (F := Ideal) a (ix2 r q) = a (ix3 0 r q) := pay2_at a r q
theorem pay5_at : k0_pay5 (F := Ideal) a (ix2 r q) = a (ix3 0 r q) := pay2_at a r q

/-- The order the parts are added in is the chip's; the sum does not depend on it. -/
theorem full_at (k : Fin 4) : full (BitVec.ofNat 32 k.val) a b0 b1 b2 (ix2 r q) = a (ix3 0 r q) + (b0 (ix3 0 r q) + b1 (ix3 0 r q) + b2 (ix3 0 r q)) := by
  rw [← pay2_at a r q, ← pay3_at b0 r q, ← pay4_at b1 r q, ← pay5_at b2 r q]
  unfold full k0_pay1 k0_pay6 k0_pay7
  generalize k0_pay2 (F := Ideal) a = x
  generalize k0_pay3 (F := Ideal) b0 = y0
  generalize k0_pay4 (F := Ideal) b1 = y1
  generalize k0_pay5 (F := Ideal) b2 = y2
  dsimp only
  rw [shapeCast_self]
  fin_cases k
  · show ((x (ix2 r q) + y1 (ix2 r q)) + y0 (ix2 r q)) + y2 (ix2 r q) = _
    ac_rfl
  · show ((y1 (ix2 r q) + x (ix2 r q)) + y2 (ix2 r q)) + y0 (ix2 r q) = _
    ac_rfl
  · show ((y0 (ix2 r q) + y2 (ix2 r q)) + x (ix2 r q)) + y1 (ix2 r q) = _
    ac_rfl
  · show ((y2 (ix2 r q) + y0 (ix2 r q)) + y1 (ix2 r q)) + x (ix2 r q) = _
    ac_rfl
end Entry

theorem own_at (x0 : Vec Ideal S4x512x896 .bf16) (x2 : Vec Ideal S1 .i32) (k : Fin 4) (h : ∀ y, x2 y = BitVec.ofNat 32 k.val) (r : Fin 512) (q : Fin 896) :
    val_main_v17 (F := Ideal) x0 x2 (ix2 r q) = x0 (ix3 k r q) := by
  obtain rfl : x2 = fun _ => BitVec.ofNat 32 k.val := funext h
  unfold val_main_v17 val_main_v16 val_main_v15 val_main_v14 val_main_v13 val_main_v12 val_main_v11 val_main_v10 val_main_v9 val_main_v8 val_main_v7 val_main_v6 val_main_v5 val_main_v4
    val_main_v3 val_main_v2 val_main_v1 val_main_v0 val_main_c val_main_c_0 val_main_c_1
  fin_cases k
  · pointwise
  · pointwise
    rfl
  · pointwise
    rfl
  · pointwise
    rfl

theorem ref_at (x0 : Vec Ideal S4x512x896 .bf16) (x1 : Vec Ideal S3x512x896 .bf16) (x2 : Vec Ideal S1 .i32) (k : Fin 4) (h : ∀ y, x2 y = BitVec.ofNat 32 k.val) (r : Fin 512) (q : Fin 896) :
    val_main_v20 (F := Ideal) x0 x1 x2 (ix2 r q) = x0 (ix3 k r q) + (x1 (ix3 0 r q) + x1 (ix3 1 r q) + x1 (ix3 2 r q)) := by
  have z : (val_main_cst (F := Ideal)) (Shape.Idx.first Cert.Reference21Ideal.Facts₀.h_S_) = 0 := Ideal.ofBits_zero .f32
  rw [val_main_v20_apply, own_at x0 x2 k h, val_main_v19_apply, z, zero_add, Fin.sum_univ_three]
  have e (j : Fin 3) : val_main_v18 (F := Ideal) x1 (idx_main_v19 (ix2 r q) j) = x1 (ix3 j r q) := congrArg x1 (ext3 _ _ _ _ rfl rfl rfl)
  rw [e, e, e]
  rfl

/-! ## The blocks -/

/-- One of the three parts. -/
abbrev part (x : Vec Ideal S3x512x896 .bf16) (j : Fin 3) : Vec Ideal S1x512x896 .bf16 := fun y => x (ix3 j (y 1) (y 2))

section Blocks
variable (m : (ℓ : Loc nD τ sig) → Buf (Elt Ideal) ℓ) (c : Dev nD) (hO : Ok m)

abbrev A0 : Vec Ideal S4x512x896 .bf16 := m ((c : Thread nD τ).loc main_arg0)
abbrev A1 : Vec Ideal S3x512x896 .bf16 := m ((c : Thread nD τ).loc main_arg1)
abbrev A2 : Vec Ideal S1 .i32 := m ((c : Thread nD τ).loc main_arg2)

theorem tr : ∀ t : Fin grid0.N, cc0_transform_1 (grid0.coords t) = ![0, 0, 0] ∧ cc0_transform_2 (grid0.coords t) = ![0, 0]
    ∧ (grid0.coords t 0).val = 0 := by decide +kernel

variable (k : Fin 4) (hk : ∀ y, A2 m 0 y = BitVec.ofNat 32 k.val)

include hk in
theorem idx0 (t : Fin (cfgM m hO).N) : ((cfgM m hO).win 0).index t = ![k.val, 0, 0] := by
  refine (place (tbl m) k hk (grid0.coords t)).trans ?_
  rw [(tr t).2.2]
theorem idxs (t : Fin (cfgM m hO).N) : ((cfgM m hO).win 1).index t = ![0, 0, 0] ∧ ((cfgM m hO).win 2).index t = ![0, 0] := ⟨(tr t).1, (tr t).2.1⟩

variable (t : Fin (cfgM m hO).N) (r : Fin 512) (q : Fin 896)

include hk in
theorem blk0 : (iblk m hO c 0 t : Vec Ideal S1x512x896 .bf16) (ix3 0 r q) = A0 m c (ix3 k r q) := by
  blk_simp [iblk]
  refine congrArg (A0 m c) (ext3 _ _ _ _ ?_ ?_ ?_) <;> blk_simp [idx0 m hO k hk t]
  rfl
theorem blk1 (j : Fin 3) : (iblk m hO c 1 t : Vec Ideal S3x512x896 .bf16) (ix3 j r q) = A1 m c (ix3 j r q) := by
  blk_simp [iblk]
  refine congrArg (A1 m c) (ext3 _ _ _ _ ?_ ?_ ?_) <;> blk_simp [idxs m hO t]
theorem emb2 : (((cfgM m hO).win 2).blk t).view.emb (ix2 r q) = ix2 r q :=
  ext2 _ _ _ (by blk_simp [idxs m hO t]) (by blk_simp [idxs m hO t])

theorem cov2 : ((cfgM m hO).win 2).Covers := of_decide_eq_true (by sl_kernel_rfl)

theorem hz : (![0, 0] : Fin 2 → Nat) = fun _ => 0 := funext fun a => by fin_cases a <;> rfl
theorem hz3 : (![0, 0, 0] : Fin 3 → Nat) = fun _ => 0 := funext fun a => by fin_cases a <;> rfl

/-- Reading a plane of the three parts. -/
theorem plane (x : Vec Ideal S3x512x896 .bf16) (o : ℕ) (j : Fin 3) (hj : j.val = o) (inb) :
    View.ld (Val := Elt Ideal) (e' := .bf16) x (Rect.unit (s := S3x512x896) ![o, 0, 0] S1x512x896.size inb) = part x j := by
  funext y
  refine View.ld_unit_apply_of x _ _ inb y (ix3 j (y 1) (y 2)) fun a => ?_
  have : (y 0).val < 1 := (y 0).isLt
  match a with
  | ⟨0, _⟩ => show j.val = o + (y 0).val; omega
  | ⟨1, _⟩ => exact (Nat.zero_add _).symm
  | ⟨2, _⟩ => exact (Nat.zero_add _).symm

theorem split (y : S512x896.Idx) : ∃ (r : Fin 512) (q : Fin 896), y = ix2 r q := ⟨y 0, y 1, ext2 _ _ _ rfl rfl⟩

section Point
variable (i : grid0.Coords) (arg2 : Memref sig .tc .vmem S1x512x896 .bf16) (harg2 : arg2.IsWhole) (arg3 : Memref sig .tc .vmem S3x512x896 .bf16) (harg3 : arg3.IsWhole) (arg4 : Memref sig .tc .vmem S512x896 .f32) (harg4 : arg4.IsWhole)
variable (x0 : Vec Ideal S1x512x896 .bf16) (x1 : Vec Ideal S3x512x896 .bf16) (x2 : Vec Ideal S1 .i32)
theorem st2 : out0_A_2 c i arg2 harg2 arg3 harg3 arg4 harg4 x0 x1 x2 = full (x2 (ix1 0)) x0 (part x1 0) (part x1 1) (part x1 2) := by
  unfold out0_A_2
  simp only [View.read_writes_junk_eq_canon]
  unfold kernelRun0_A
  dsimp only
  sl_unfold_words
  rw [View.canon_unit_zero hz]
  simp only [View.readAt_eq_ld, harg2.read_unread, harg3.read_unread, View.ld_unit_zero (S := S1x512x896) hz3]
  rw [plane x1 0 0 rfl, plane x1 1 1 rfl, plane x1 2 2 rfl]
  exact congrArg (fun w => full w x0 (part x1 0) (part x1 1) (part x1 2)) (PairSumClaim.only x2 _)
end Point

include hk in
theorem eq2 : (dats m hO 0 c).arrAt 2 (cfgM m hO).N = val_main_v20 (F := Ideal) (A0 m c) (A1 m c) (A2 m c) := by
  obtain rfl : c = 0 := Subsingleton.elim _ _
  refine (dats m hO 0 0).arrAt_eq_of_covers 2 _ (cov2 m hO) fun t hf y => ?_
  blk_simp
  rw [after0_2]
  obtain ⟨r, q, rfl⟩ := split y
  unfold outsAt0
  dsimp only
  have e : (tbl m 0 : Vec Ideal S1 .i32) (ix1 0) = BitVec.ofNat 32 k.val := hk _
  rw [st2, emb2, e, full_at, ref_at _ _ _ k hk, blk0 m 0 hO k hk]
  exact congrArg (A0 m 0 (ix3 k r q) + ·) (congrArg₂ (· + ·) (congrArg₂ (· + ·) (blk1 m 0 hO t r q 0) (blk1 m 0 hO t r q 1)) (blk1 m 0 hO t r q 2))
end Blocks

/-- The reference runs and leaves its arguments; it has no counters. -/
theorem frame_reference : Cert.quiescent_Reference21Ideal := fun m g _ =>
  (θ_run Cert.Reference21Ideal.defs _ _).mono (fun r h => ⟨fun c => (h c).2, sem_eq_zero_of_no_sems (by decide) r.2⟩)
    (Cert.Reference21Ideal.Value.run (F := Ideal) m g)

theorem algebraic : Cert.algebraic_Kernel21Ideal_Reference21Ideal := by
  intro m g m' g' hp ha
  have hO := ok m hp
  obtain ⟨k, hk⟩ := chip_word _ _ _ (hp 0)
  refine ⟨fun c => val_main_v20 (F := Ideal) (A0 m c) (A1 m c) (A2 m c), ?_, ?_⟩
  · refine (θ_run defs _ _).mono (fun r h c => ?_) (run_main (F := Ideal) m g hO)
    refine ⟨((h c).1 2).trans (eq2 m c hO k hk), ?_, ?_, ((h c).2 main_arg2 (by decide : main_arg2 ∈ Pipeline.restRefs sig spec0)).trans (V_main_arg2 m c)⟩
    · exact ((h c).1 0).trans (((dats m hO 0 c).arrAt_in 0 rfl _).trans ((A_eq m hO c 0).trans (V_main_arg0 m c)))
    · exact ((h c).1 1).trans (((dats m hO 0 c).arrAt_in 1 rfl _).trans ((A_eq m hO c 1).trans (V_main_arg1 m c)))
  · refine (θ_run Cert.Reference21Ideal.defs _ _).mono (fun r h c => ?_) (Cert.Reference21Ideal.Value.run (F := Ideal) m' g')
    obtain ⟨a0, a1, a2⟩ := ha c
    obtain ⟨h0, hrest⟩ := h c
    refine ⟨h0.trans ((val_main_v20_eq _ _ _).trans ?_), hrest⟩
    rw [a0, a1, a2]

end Cert.ChipSumClaim

end
-- ==== Proof.lean ====
module

public import proofs.«01_k».proof.Defs
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Kernel2
public import proofs.«01_k».proof.Proof.Gen.Kernel2Ideal
public import proofs.«01_k».proof.Proof.Gen.Kernel2.Frame
public import proofs.«01_k».proof.Proof.Gen.Kernel2Ideal.Frame
public import proofs.«01_k».proof.Proof.Gen.Reference2Ideal
public import proofs.«01_k».proof.Proof.Gen.Pre_finite2
public import proofs.«01_k».proof.Proof.QkClaim
public import proofs.«01_k».proof.Proof.AttnClaim
public import proofs.«01_k».proof.Proof.LossClaim
public import proofs.«01_k».proof.Proof.FfiClaim
public import proofs.«01_k».proof.Proof.ActClaim
public import proofs.«01_k».proof.Proof.AttnFwdClaim
public import proofs.«01_k».proof.Proof.NormClaim
public import proofs.«01_k».proof.Proof.DownClaim
public import proofs.«01_k».proof.Proof.UpClaim
public import proofs.«01_k».proof.Proof.FirstClaim
public import proofs.«01_k».proof.Proof.QkForward
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite3
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_finite4
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_finite5
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_finite6
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Pre_finite9
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Pre_finite10
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Pre_finite11
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.OutClaim
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.ColsClaim
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.WInClaim
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.WOutClaim
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.OutBackClaim
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.SmallAdamClaim
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Reference18Ideal
public import proofs.«01_k».proof.Proof.Gen.Reference18Ideal.Run
public import proofs.«01_k».proof.Proof.Gen.Reference18Ideal.Read
public import proofs.«01_k».proof.Proof.AdamClaim
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Pre_finite19
public import proofs.«01_k».proof.Proof.TableClaim
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Reference20Ideal
public import proofs.«01_k».proof.Proof.Gen.Reference20Ideal.Run
public import proofs.«01_k».proof.Proof.Gen.Reference20Ideal.Read
public import proofs.«01_k».proof.Proof.Gen.Pre_in_range20
public import proofs.«01_k».proof.Proof.PairSumClaim
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Reference21Ideal
public import proofs.«01_k».proof.Proof.Gen.Reference21Ideal.Run
public import proofs.«01_k».proof.Proof.Gen.Reference21Ideal.Read
public import proofs.«01_k».proof.Proof.Gen.Pre_in_range21
public import proofs.«01_k».proof.Proof.ChipSumClaim
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts,
    Cert.Pre_finite.Gen.facts, Cert.Pre_finite2.Gen.facts, Cert.Pre_finite3.Gen.facts, Cert.Pre_finite4.Gen.facts, Cert.Pre_finite5.Gen.facts, Cert.Pre_finite6.Gen.facts, Cert.Pre_finite9.Gen.facts, Cert.Pre_finite10.Gen.facts, Cert.Pre_finite11.Gen.facts, Cert.Pre_finite19.Gen.facts, Cert.Pre_in_range20.Gen.facts, Cert.Pre_in_range21.Gen.facts,
    fun m g _ => Cert.Kernel.Gen.frame m g, fun m g _ => Cert.KernelIdeal.Gen.frame m g, fun m g _ => Cert.KernelIdeal.Gen.frame m g,
    Cert.QkClaim.frame_reference, fun m g _ => Cert.QkClaim.frame_reference m g trivial,
    fun m g _ => Cert.Kernel2.Gen.frame m g, fun m g _ => Cert.Kernel2Ideal.Gen.frame m g, fun m g _ => Cert.Kernel2Ideal.Gen.frame m g,
    Cert.AttnClaim.frame_reference, fun m g _ => Cert.AttnClaim.frame_reference m g trivial,
    fun m g _ => Cert.Kernel3.Gen.frame m g, fun m g _ => Cert.Kernel3Ideal.Gen.frame m g, fun m g _ => Cert.Kernel3Ideal.Gen.frame m g,
    Cert.LossClaim.frame_reference, fun m g _ => Cert.LossClaim.frame_reference m g trivial,
    fun m g _ => Cert.Kernel4.Gen.frame m g, fun m g _ => Cert.Kernel4Ideal.Gen.frame m g, fun m g _ => Cert.Kernel4Ideal.Gen.frame m g,
    Cert.FfiClaim.frame_reference, fun m g _ => Cert.FfiClaim.frame_reference m g trivial,
    fun m g _ => Cert.Kernel5.Gen.frame m g, fun m g _ => Cert.Kernel5Ideal.Gen.frame m g, fun m g _ => Cert.Kernel5Ideal.Gen.frame m g,
    Cert.ActClaim.frame_reference, fun m g _ => Cert.ActClaim.frame_reference m g trivial,
    fun m g _ => Cert.Kernel6.Gen.frame m g, fun m g _ => Cert.Kernel6Ideal.Gen.frame m g, fun m g _ => Cert.Kernel6Ideal.Gen.frame m g,
    Cert.AttnFwdClaim.frame_reference, fun m g _ => Cert.AttnFwdClaim.frame_reference m g trivial,
    fun m g _ => Cert.Kernel7.Gen.frame m g, fun m g _ => Cert.Kernel7Ideal.Gen.frame m g,
    Cert.NormClaim.frame_reference,
    fun m g _ => Cert.Kernel8.Gen.frame m g, fun m g _ => Cert.Kernel8Ideal.Gen.frame m g,
    Cert.DownClaim.frame_reference,
    fun m g _ => Cert.Kernel9.Gen.frame m g, fun m g _ => Cert.Kernel9Ideal.Gen.frame m g, fun m g _ => Cert.Kernel9Ideal.Gen.frame m g,
    Cert.UpClaim.frame_reference, fun m g _ => Cert.UpClaim.frame_reference m g trivial,
    fun m g _ => Cert.Kernel10.Gen.frame m g, fun m g _ => Cert.Kernel10Ideal.Gen.frame m g, fun m g _ => Cert.Kernel10Ideal.Gen.frame m g,
    Cert.FirstClaim.frame_reference, fun m g _ => Cert.FirstClaim.frame_reference m g trivial,
    fun m g _ => Cert.Kernel11.Gen.frame m g, fun m g _ => Cert.Kernel11Ideal.Gen.frame m g, fun m g _ => Cert.Kernel11Ideal.Gen.frame m g,
    Cert.QkForward.frame_reference, fun m g _ => Cert.QkForward.frame_reference m g trivial,
    fun m g _ => Cert.Kernel12.Gen.frame m g, fun m g _ => Cert.Kernel12Ideal.Gen.frame m g,
    Cert.OutClaim.frame_reference,
    fun m g _ => Cert.Kernel13.Gen.frame m g, fun m g _ => Cert.Kernel13Ideal.Gen.frame m g,
    Cert.ColsClaim.frame_reference,
    fun m g _ => Cert.Kernel14.Gen.frame m g, fun m g _ => Cert.Kernel14Ideal.Gen.frame m g,
    Cert.WInClaim.frame_reference,
    fun m g _ => Cert.Kernel15.Gen.frame m g, fun m g _ => Cert.Kernel15Ideal.Gen.frame m g,
    Cert.WOutClaim.frame_reference,
    fun m g _ => Cert.Kernel16.Gen.frame m g, fun m g _ => Cert.Kernel16Ideal.Gen.frame m g,
    Cert.OutBackClaim.frame_reference,
    fun m g _ => Cert.Kernel17.Gen.frame m g, fun m g _ => Cert.Kernel17Ideal.Gen.frame m g,
    Cert.SmallAdamClaim.frame_reference,
    fun m g _ => Cert.Kernel18.Gen.frame m g trivial, fun m g _ => Cert.Kernel18Ideal.Gen.frame m g trivial,
    Cert.AdamClaim.frame_reference,
    fun m g _ => Cert.Kernel19.Gen.frame m g, fun m g _ => Cert.Kernel19Ideal.Gen.frame m g, fun m g _ => Cert.Kernel19Ideal.Gen.frame m g,
    Cert.TableClaim.frame_reference, fun m g _ => Cert.TableClaim.frame_reference m g trivial,
    Cert.PairSumClaim.frame_bits, Cert.PairSumClaim.frame_ideal,
    Cert.PairSumClaim.frame_reference, fun m g _ => Cert.PairSumClaim.frame_reference m g trivial,
    Cert.ChipSumClaim.frame_bits, Cert.ChipSumClaim.frame_ideal,
    Cert.ChipSumClaim.frame_reference, fun m g _ => Cert.ChipSumClaim.frame_reference m g trivial,
    trivial, Cert.QkClaim.algebraic,
    IdealRules.named_const.statement Cert.Kernel2Ideal.κ "mask" .f32 0xF149F2CA#32 ⊥ rfl, Cert.AttnClaim.algebraic,
    trivial, Cert.LossClaim.algebraic,
    trivial, Cert.FfiClaim.algebraic,
    trivial, Cert.ActClaim.algebraic,
    IdealRules.named_const.statement Cert.Kernel6Ideal.κ "mask" .f32 0xF149F2CA#32 ⊥ rfl, Cert.AttnFwdClaim.algebraic,
    trivial, Cert.NormClaim.algebraic,
    trivial, Cert.DownClaim.algebraic,
    trivial, Cert.UpClaim.algebraic,
    trivial, Cert.FirstClaim.algebraic,
    trivial, Cert.QkForward.algebraic,
    trivial, Cert.OutClaim.algebraic,
    trivial, Cert.ColsClaim.algebraic,
    trivial, Cert.WInClaim.algebraic,
    trivial, Cert.WOutClaim.algebraic,
    trivial, Cert.OutBackClaim.algebraic,
    trivial, Cert.SmallAdamClaim.algebraic,
    trivial, Cert.AdamClaim.algebraic,
    trivial, Cert.TableClaim.algebraic,
    trivial, Cert.PairSumClaim.algebraic,
    trivial, Cert.ChipSumClaim.algebraic⟩

end Cert.Proof

end
